-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDwLo (m : (ℓ : Loc Cert.KernelDwLo.nD Cert.KernelDwLo.τ Cert.KernelDwLo.sig) → Buf (Elt Bits) ℓ) : Prop :=
  True

def Pre_KernelDwLoIdeal (m : (ℓ : Loc Cert.KernelDwLoIdeal.nD Cert.KernelDwLoIdeal.τ Cert.KernelDwLoIdeal.sig) → Buf (Elt Ideal) ℓ) : Prop :=
  True

def Pre_ReferenceDwLoIdeal (m : (ℓ : Loc Cert.ReferenceDwLoIdeal.nD Cert.ReferenceDwLoIdeal.τ Cert.ReferenceDwLoIdeal.sig) → Buf (Elt Ideal) ℓ) : Prop :=
  True

def Pre_KernelDwHi (m : (ℓ : Loc Cert.KernelDwHi.nD Cert.KernelDwHi.τ Cert.KernelDwHi.sig) → Buf (Elt Bits) ℓ) : Prop :=
  True

def Pre_KernelDwHiIdeal (m : (ℓ : Loc Cert.KernelDwHiIdeal.nD Cert.KernelDwHiIdeal.τ Cert.KernelDwHiIdeal.sig) → Buf (Elt Ideal) ℓ) : Prop :=
  True

def Pre_ReferenceDwHiIdeal (m : (ℓ : Loc Cert.ReferenceDwHiIdeal.nD Cert.ReferenceDwHiIdeal.τ Cert.ReferenceDwHiIdeal.sig) → Buf (Elt Ideal) ℓ) : Prop :=
  True

def Pre_KernelDhRest (m : (ℓ : Loc Cert.KernelDhRest.nD Cert.KernelDhRest.τ Cert.KernelDhRest.sig) → Buf (Elt Bits) ℓ) : Prop :=
  True

def Pre_KernelDhRestIdeal (m : (ℓ : Loc Cert.KernelDhRestIdeal.nD Cert.KernelDhRestIdeal.τ Cert.KernelDhRestIdeal.sig) → Buf (Elt Ideal) ℓ) : Prop :=
  True

def Pre_ReferenceDhRestIdeal (m : (ℓ : Loc Cert.ReferenceDhRestIdeal.nD Cert.ReferenceDhRestIdeal.τ Cert.ReferenceDhRestIdeal.sig) → Buf (Elt Ideal) ℓ) : Prop :=
  True

def Pre_KernelDhHead (m : (ℓ : Loc Cert.KernelDhHead.nD Cert.KernelDhHead.τ Cert.KernelDhHead.sig) → Buf (Elt Bits) ℓ) : Prop :=
  True

def Pre_KernelDhHeadIdeal (m : (ℓ : Loc Cert.KernelDhHeadIdeal.nD Cert.KernelDhHeadIdeal.τ Cert.KernelDhHeadIdeal.sig) → Buf (Elt Ideal) ℓ) : Prop :=
  True

def Pre_ReferenceDhHeadIdeal (m : (ℓ : Loc Cert.ReferenceDhHeadIdeal.nD Cert.ReferenceDhHeadIdeal.τ Cert.ReferenceDhHeadIdeal.sig) → Buf (Elt Ideal) ℓ) : Prop :=
  True

def Pre_KernelDwOut (m : (ℓ : Loc Cert.KernelDwOut.nD Cert.KernelDwOut.τ Cert.KernelDwOut.sig) → Buf (Elt Bits) ℓ) : Prop :=
  True

def Pre_KernelDwOutIdeal (m : (ℓ : Loc Cert.KernelDwOutIdeal.nD Cert.KernelDwOutIdeal.τ Cert.KernelDwOutIdeal.sig) → Buf (Elt Ideal) ℓ) : Prop :=
  True

def Pre_ReferenceDwOutIdeal (m : (ℓ : Loc Cert.ReferenceDwOutIdeal.nD Cert.ReferenceDwOutIdeal.τ Cert.ReferenceDwOutIdeal.sig) → Buf (Elt Ideal) ℓ) : Prop :=
  True

def Pre_KernelDwOutAttn (m : (ℓ : Loc Cert.KernelDwOutAttn.nD Cert.KernelDwOutAttn.τ Cert.KernelDwOutAttn.sig) → Buf (Elt Bits) ℓ) : Prop :=
  True

def Pre_KernelDwOutAttnIdeal (m : (ℓ : Loc Cert.KernelDwOutAttnIdeal.nD Cert.KernelDwOutAttnIdeal.τ Cert.KernelDwOutAttnIdeal.sig) → Buf (Elt Ideal) ℓ) : Prop :=
  True

def Pre_ReferenceDwOutAttnIdeal (m : (ℓ : Loc Cert.ReferenceDwOutAttnIdeal.nD Cert.ReferenceDwOutAttnIdeal.τ Cert.ReferenceDwOutAttnIdeal.sig) → Buf (Elt Ideal) ℓ) : Prop :=
  True

def Pre_KernelDwOutPool (m : (ℓ : Loc Cert.KernelDwOutPool.nD Cert.KernelDwOutPool.τ Cert.KernelDwOutPool.sig) → Buf (Elt Bits) ℓ) : Prop :=
  True

def Pre_KernelDwOutPoolIdeal (m : (ℓ : Loc Cert.KernelDwOutPoolIdeal.nD Cert.KernelDwOutPoolIdeal.τ Cert.KernelDwOutPoolIdeal.sig) → Buf (Elt Ideal) ℓ) : Prop :=
  True

def Pre_ReferenceDwOutPoolIdeal (m : (ℓ : Loc Cert.ReferenceDwOutPoolIdeal.nD Cert.ReferenceDwOutPoolIdeal.τ Cert.ReferenceDwOutPoolIdeal.sig) → Buf (Elt Ideal) ℓ) : Prop :=
  True

def Pre_KernelProj0 (m : (ℓ : Loc Cert.KernelProj0.nD Cert.KernelProj0.τ Cert.KernelProj0.sig) → Buf (Elt Bits) ℓ) : Prop :=
  True

def Pre_KernelProj0Ideal (m : (ℓ : Loc Cert.KernelProj0Ideal.nD Cert.KernelProj0Ideal.τ Cert.KernelProj0Ideal.sig) → Buf (Elt Ideal) ℓ) : Prop :=
  True

def Pre_ReferenceProj0Ideal (m : (ℓ : Loc Cert.ReferenceProj0Ideal.nD Cert.ReferenceProj0Ideal.τ Cert.ReferenceProj0Ideal.sig) → Buf (Elt Ideal) ℓ) : Prop :=
  True

def Pre_KernelProj1 (m : (ℓ : Loc Cert.KernelProj1.nD Cert.KernelProj1.τ Cert.KernelProj1.sig) → Buf (Elt Bits) ℓ) : Prop :=
  True

def Pre_KernelProj1Ideal (m : (ℓ : Loc Cert.KernelProj1Ideal.nD Cert.KernelProj1Ideal.τ Cert.KernelProj1Ideal.sig) → Buf (Elt Ideal) ℓ) : Prop :=
  True

def Pre_ReferenceProj1Ideal (m : (ℓ : Loc Cert.ReferenceProj1Ideal.nD Cert.ReferenceProj1Ideal.τ Cert.ReferenceProj1Ideal.sig) → Buf (Elt Ideal) ℓ) : Prop :=
  True

def Pre_KernelProj2 (m : (ℓ : Loc Cert.KernelProj2.nD Cert.KernelProj2.τ Cert.KernelProj2.sig) → Buf (Elt Bits) ℓ) : Prop :=
  True

def Pre_KernelProj2Ideal (m : (ℓ : Loc Cert.KernelProj2Ideal.nD Cert.KernelProj2Ideal.τ Cert.KernelProj2Ideal.sig) → Buf (Elt Ideal) ℓ) : Prop :=
  True

def Pre_ReferenceProj2Ideal (m : (ℓ : Loc Cert.ReferenceProj2Ideal.nD Cert.ReferenceProj2Ideal.τ Cert.ReferenceProj2Ideal.sig) → Buf (Elt Ideal) ℓ) : Prop :=
  True

def Pre_KernelProj3 (m : (ℓ : Loc Cert.KernelProj3.nD Cert.KernelProj3.τ Cert.KernelProj3.sig) → Buf (Elt Bits) ℓ) : Prop :=
  True

def Pre_KernelProj3Ideal (m : (ℓ : Loc Cert.KernelProj3Ideal.nD Cert.KernelProj3Ideal.τ Cert.KernelProj3Ideal.sig) → Buf (Elt Ideal) ℓ) : Prop :=
  True

def Pre_ReferenceProj3Ideal (m : (ℓ : Loc Cert.ReferenceProj3Ideal.nD Cert.ReferenceProj3Ideal.τ Cert.ReferenceProj3Ideal.sig) → Buf (Elt Ideal) ℓ) : Prop :=
  True

def Pre_KernelProj4 (m : (ℓ : Loc Cert.KernelProj4.nD Cert.KernelProj4.τ Cert.KernelProj4.sig) → Buf (Elt Bits) ℓ) : Prop :=
  True

def Pre_KernelProj4Ideal (m : (ℓ : Loc Cert.KernelProj4Ideal.nD Cert.KernelProj4Ideal.τ Cert.KernelProj4Ideal.sig) → Buf (Elt Ideal) ℓ) : Prop :=
  True

def Pre_ReferenceProj4Ideal (m : (ℓ : Loc Cert.ReferenceProj4Ideal.nD Cert.ReferenceProj4Ideal.τ Cert.ReferenceProj4Ideal.sig) → Buf (Elt Ideal) ℓ) : Prop :=
  True

def Pre_KernelOutProj (m : (ℓ : Loc Cert.KernelOutProj.nD Cert.KernelOutProj.τ Cert.KernelOutProj.sig) → Buf (Elt Bits) ℓ) : Prop :=
  True

def Pre_KernelOutProjIdeal (m : (ℓ : Loc Cert.KernelOutProjIdeal.nD Cert.KernelOutProjIdeal.τ Cert.KernelOutProjIdeal.sig) → Buf (Elt Ideal) ℓ) : Prop :=
  True

def Pre_ReferenceOutProjIdeal (m : (ℓ : Loc Cert.ReferenceOutProjIdeal.nD Cert.ReferenceOutProjIdeal.τ Cert.ReferenceOutProjIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelAttnGate (m : (ℓ : Loc Cert.KernelAttnGate.nD Cert.KernelAttnGate.τ Cert.KernelAttnGate.sig) → Buf (Elt Bits) ℓ) : Prop :=
  True

def Pre_KernelAttnGateIdeal (m : (ℓ : Loc Cert.KernelAttnGateIdeal.nD Cert.KernelAttnGateIdeal.τ Cert.KernelAttnGateIdeal.sig) → Buf (Elt Ideal) ℓ) : Prop :=
  True

def Pre_KernelAttnGateIdeal_finite_attn_gate [hPre_finite_attn_gate : Cert.Pre_finite_attn_gate.Facts] (m : (ℓ : Loc Cert.KernelAttnGateIdeal.nD Cert.KernelAttnGateIdeal.τ Cert.KernelAttnGateIdeal.sig) → Buf (Elt Ideal) ℓ) : Prop :=
  ∀ c : Dev Cert.KernelAttnGateIdeal.nD,
    (Cert.Pre_finite_attn_gate.fn (F := Ideal) (m ((c.tc : Thread Cert.KernelAttnGateIdeal.nD Cert.KernelAttnGateIdeal.τ).loc Cert.KernelAttnGateIdeal.main_arg0)) (m ((c.tc : Thread Cert.KernelAttnGateIdeal.nD Cert.KernelAttnGateIdeal.τ).loc Cert.KernelAttnGateIdeal.main_arg1)) (m ((c.tc : Thread Cert.KernelAttnGateIdeal.nD Cert.KernelAttnGateIdeal.τ).loc Cert.KernelAttnGateIdeal.main_arg2)) (m ((c.tc : Thread Cert.KernelAttnGateIdeal.nD Cert.KernelAttnGateIdeal.τ).loc Cert.KernelAttnGateIdeal.main_arg3)) (m ((c.tc : Thread Cert.KernelAttnGateIdeal.nD Cert.KernelAttnGateIdeal.τ).loc Cert.KernelAttnGateIdeal.main_arg4))) = (fun _ => 1#1)

def Pre_ReferenceAttnGateIdeal (m : (ℓ : Loc Cert.ReferenceAttnGateIdeal.nD Cert.ReferenceAttnGateIdeal.τ Cert.ReferenceAttnGateIdeal.sig) → Buf (Elt Ideal) ℓ) : Prop :=
  True

def Pre_ReferenceAttnGateIdeal_finite_attn_gate [hPre_finite_attn_gate : Cert.Pre_finite_attn_gate.Facts] (m : (ℓ : Loc Cert.ReferenceAttnGateIdeal.nD Cert.ReferenceAttnGateIdeal.τ Cert.ReferenceAttnGateIdeal.sig) → Buf (Elt Ideal) ℓ) : Prop :=
  ∀ c : Dev Cert.ReferenceAttnGateIdeal.nD,
    (Cert.Pre_finite_attn_gate.fn (F := Ideal) (m ((c.tc : Thread Cert.ReferenceAttnGateIdeal.nD Cert.ReferenceAttnGateIdeal.τ).loc Cert.ReferenceAttnGateIdeal.main_arg0)) (m ((c.tc : Thread Cert.ReferenceAttnGateIdeal.nD Cert.ReferenceAttnGateIdeal.τ).loc Cert.ReferenceAttnGateIdeal.main_arg1)) (m ((c.tc : Thread Cert.ReferenceAttnGateIdeal.nD Cert.ReferenceAttnGateIdeal.τ).loc Cert.ReferenceAttnGateIdeal.main_arg2)) (m ((c.tc : Thread Cert.ReferenceAttnGateIdeal.nD Cert.ReferenceAttnGateIdeal.τ).loc Cert.ReferenceAttnGateIdeal.main_arg3)) (m ((c.tc : Thread Cert.ReferenceAttnGateIdeal.nD Cert.ReferenceAttnGateIdeal.τ).loc Cert.ReferenceAttnGateIdeal.main_arg4))) = (fun _ => 1#1)

def Pre_KernelPoolGate (m : (ℓ : Loc Cert.KernelPoolGate.nD Cert.KernelPoolGate.τ Cert.KernelPoolGate.sig) → Buf (Elt Bits) ℓ) : Prop :=
  True

def Pre_KernelPoolGateIdeal (m : (ℓ : Loc Cert.KernelPoolGateIdeal.nD Cert.KernelPoolGateIdeal.τ Cert.KernelPoolGateIdeal.sig) → Buf (Elt Ideal) ℓ) : Prop :=
  True

def Pre_KernelPoolGateIdeal_finite_pool_gate [hPre_finite_pool_gate : Cert.Pre_finite_pool_gate.Facts] (m : (ℓ : Loc Cert.KernelPoolGateIdeal.nD Cert.KernelPoolGateIdeal.τ Cert.KernelPoolGateIdeal.sig) → Buf (Elt Ideal) ℓ) : Prop :=
  ∀ c : Dev Cert.KernelPoolGateIdeal.nD,
    (Cert.Pre_finite_pool_gate.fn (F := Ideal) (m ((c.tc : Thread Cert.KernelPoolGateIdeal.nD Cert.KernelPoolGateIdeal.τ).loc Cert.KernelPoolGateIdeal.main_arg0)) (m ((c.tc : Thread Cert.KernelPoolGateIdeal.nD Cert.KernelPoolGateIdeal.τ).loc Cert.KernelPoolGateIdeal.main_arg1)) (m ((c.tc : Thread Cert.KernelPoolGateIdeal.nD Cert.KernelPoolGateIdeal.τ).loc Cert.KernelPoolGateIdeal.main_arg2)) (m ((c.tc : Thread Cert.KernelPoolGateIdeal.nD Cert.KernelPoolGateIdeal.τ).loc Cert.KernelPoolGateIdeal.main_arg3)) (m ((c.tc : Thread Cert.KernelPoolGateIdeal.nD Cert.KernelPoolGateIdeal.τ).loc Cert.KernelPoolGateIdeal.main_arg4)) (m ((c.tc : Thread Cert.KernelPoolGateIdeal.nD Cert.KernelPoolGateIdeal.τ).loc Cert.KernelPoolGateIdeal.main_arg5))) = (fun _ => 1#1)

def Pre_ReferencePoolGateIdeal (m : (ℓ : Loc Cert.ReferencePoolGateIdeal.nD Cert.ReferencePoolGateIdeal.τ Cert.ReferencePoolGateIdeal.sig) → Buf (Elt Ideal) ℓ) : Prop :=
  True

def Pre_ReferencePoolGateIdeal_finite_pool_gate [hPre_finite_pool_gate : Cert.Pre_finite_pool_gate.Facts] (m : (ℓ : Loc Cert.ReferencePoolGateIdeal.nD Cert.ReferencePoolGateIdeal.τ Cert.ReferencePoolGateIdeal.sig) → Buf (Elt Ideal) ℓ) : Prop :=
  ∀ c : Dev Cert.ReferencePoolGateIdeal.nD,
    (Cert.Pre_finite_pool_gate.fn (F := Ideal) (m ((c.tc : Thread Cert.ReferencePoolGateIdeal.nD Cert.ReferencePoolGateIdeal.τ).loc Cert.ReferencePoolGateIdeal.main_arg0)) (m ((c.tc : Thread Cert.ReferencePoolGateIdeal.nD Cert.ReferencePoolGateIdeal.τ).loc Cert.ReferencePoolGateIdeal.main_arg1)) (m ((c.tc : Thread Cert.ReferencePoolGateIdeal.nD Cert.ReferencePoolGateIdeal.τ).loc Cert.ReferencePoolGateIdeal.main_arg2)) (m ((c.tc : Thread Cert.ReferencePoolGateIdeal.nD Cert.ReferencePoolGateIdeal.τ).loc Cert.ReferencePoolGateIdeal.main_arg3)) (m ((c.tc : Thread Cert.ReferencePoolGateIdeal.nD Cert.ReferencePoolGateIdeal.τ).loc Cert.ReferencePoolGateIdeal.main_arg4)) (m ((c.tc : Thread Cert.ReferencePoolGateIdeal.nD Cert.ReferencePoolGateIdeal.τ).loc Cert.ReferencePoolGateIdeal.main_arg5))) = (fun _ => 1#1)

def Pre_KernelRmsFwd (m : (ℓ : Loc Cert.KernelRmsFwd.nD Cert.KernelRmsFwd.τ Cert.KernelRmsFwd.sig) → Buf (Elt Bits) ℓ) : Prop :=
  True

def Pre_KernelRmsFwdIdeal (m : (ℓ : Loc Cert.KernelRmsFwdIdeal.nD Cert.KernelRmsFwdIdeal.τ Cert.KernelRmsFwdIdeal.sig) → Buf (Elt Ideal) ℓ) : Prop :=
  True

def Pre_ReferenceRmsFwdIdeal (m : (ℓ : Loc Cert.ReferenceRmsFwdIdeal.nD Cert.ReferenceRmsFwdIdeal.τ Cert.ReferenceRmsFwdIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamOutAttn (m : (ℓ : Loc Cert.KernelAdamOutAttn.nD Cert.KernelAdamOutAttn.τ Cert.KernelAdamOutAttn.sig) → Buf (Elt Bits) ℓ) : Prop :=
  True

def Pre_KernelAdamOutAttnIdeal (m : (ℓ : Loc Cert.KernelAdamOutAttnIdeal.nD Cert.KernelAdamOutAttnIdeal.τ Cert.KernelAdamOutAttnIdeal.sig) → Buf (Elt Ideal) ℓ) : Prop :=
  True

def Pre_ReferenceAdamOutAttnIdeal (m : (ℓ : Loc Cert.ReferenceAdamOutAttnIdeal.nD Cert.ReferenceAdamOutAttnIdeal.τ Cert.ReferenceAdamOutAttnIdeal.sig) → Buf (Elt Ideal) ℓ) : Prop :=
  True

def Pre_KernelAdamOutPool (m : (ℓ : Loc Cert.KernelAdamOutPool.nD Cert.KernelAdamOutPool.τ Cert.KernelAdamOutPool.sig) → Buf (Elt Bits) ℓ) : Prop :=
  True

def Pre_KernelAdamOutPoolIdeal (m : (ℓ : Loc Cert.KernelAdamOutPoolIdeal.nD Cert.KernelAdamOutPoolIdeal.τ Cert.KernelAdamOutPoolIdeal.sig) → Buf (Elt Ideal) ℓ) : Prop :=
  True

def Pre_ReferenceAdamOutPoolIdeal (m : (ℓ : Loc Cert.ReferenceAdamOutPoolIdeal.nD Cert.ReferenceAdamOutPoolIdeal.τ Cert.ReferenceAdamOutPoolIdeal.sig) → Buf (Elt Ideal) ℓ) : Prop :=
  True

def Pre_KernelAdamPoolW (m : (ℓ : Loc Cert.KernelAdamPoolW.nD Cert.KernelAdamPoolW.τ Cert.KernelAdamPoolW.sig) → Buf (Elt Bits) ℓ) : Prop :=
  True

def Pre_KernelAdamPoolWIdeal (m : (ℓ : Loc Cert.KernelAdamPoolWIdeal.nD Cert.KernelAdamPoolWIdeal.τ Cert.KernelAdamPoolWIdeal.sig) → Buf (Elt Ideal) ℓ) : Prop :=
  True

def Pre_ReferenceAdamPoolWIdeal (m : (ℓ : Loc Cert.ReferenceAdamPoolWIdeal.nD Cert.ReferenceAdamPoolWIdeal.τ Cert.ReferenceAdamPoolWIdeal.sig) → Buf (Elt Ideal) ℓ) : Prop :=
  True

def Pre_KernelAdamGateBias (m : (ℓ : Loc Cert.KernelAdamGateBias.nD Cert.KernelAdamGateBias.τ Cert.KernelAdamGateBias.sig) → Buf (Elt Bits) ℓ) : Prop :=
  True

def Pre_KernelAdamGateBiasIdeal (m : (ℓ : Loc Cert.KernelAdamGateBiasIdeal.nD Cert.KernelAdamGateBiasIdeal.τ Cert.KernelAdamGateBiasIdeal.sig) → Buf (Elt Ideal) ℓ) : Prop :=
  True

def Pre_ReferenceAdamGateBiasIdeal (m : (ℓ : Loc Cert.ReferenceAdamGateBiasIdeal.nD Cert.ReferenceAdamGateBiasIdeal.τ Cert.ReferenceAdamGateBiasIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelBiasRows (m : (ℓ : Loc Cert.KernelBiasRows.nD Cert.KernelBiasRows.τ Cert.KernelBiasRows.sig) → Buf (Elt Bits) ℓ) : Prop :=
  True

def Pre_KernelBiasRowsIdeal (m : (ℓ : Loc Cert.KernelBiasRowsIdeal.nD Cert.KernelBiasRowsIdeal.τ Cert.KernelBiasRowsIdeal.sig) → Buf (Elt Ideal) ℓ) : Prop :=
  True

def Pre_ReferenceBiasRowsIdeal (m : (ℓ : Loc Cert.ReferenceBiasRowsIdeal.nD Cert.ReferenceBiasRowsIdeal.τ Cert.ReferenceBiasRowsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDwLo [hKernelDwLo : Cert.KernelDwLo.Facts] : Prop :=
  ∀ (m : (ℓ : Loc Cert.KernelDwLo.nD Cert.KernelDwLo.τ Cert.KernelDwLo.sig) → Buf (Elt Bits) ℓ) (g : Dev Cert.KernelDwLo.nD → PrngReg), Pre_KernelDwLo m →
    θ_run (Cert.KernelDwLo.defs (F := Bits)) (onTc (τ := Cert.KernelDwLo.τ) (Cert.KernelDwLo.main (F := Bits))) ⟨m, fun _ => 0, g⟩ (fun r => (∀ c : Dev Cert.KernelDwLo.nD,
      r.2.mem ((c.tc : Thread Cert.KernelDwLo.nD Cert.KernelDwLo.τ).loc Cert.KernelDwLo.main_arg0) = m ((c.tc : Thread Cert.KernelDwLo.nD Cert.KernelDwLo.τ).loc Cert.KernelDwLo.main_arg0)
      ∧ r.2.mem ((c.tc : Thread Cert.KernelDwLo.nD Cert.KernelDwLo.τ).loc Cert.KernelDwLo.main_arg1) = m ((c.tc : Thread Cert.KernelDwLo.nD Cert.KernelDwLo.τ).loc Cert.KernelDwLo.main_arg1))
      ∧ r.2.sem = fun _ => 0)

def quiescent_KernelDwLoIdeal [hKernelDwLoIdeal : Cert.KernelDwLoIdeal.Facts] : Prop :=
  ∀ (m : (ℓ : Loc Cert.KernelDwLoIdeal.nD Cert.KernelDwLoIdeal.τ Cert.KernelDwLoIdeal.sig) → Buf (Elt Ideal) ℓ) (g : Dev Cert.KernelDwLoIdeal.nD → PrngReg), Pre_KernelDwLoIdeal m →
    θ_run (Cert.KernelDwLoIdeal.defs (F := Ideal)) (onTc (τ := Cert.KernelDwLoIdeal.τ) (Cert.KernelDwLoIdeal.main (F := Ideal))) ⟨m, fun _ => 0, g⟩ (fun r => (∀ c : Dev Cert.KernelDwLoIdeal.nD,
      r.2.mem ((c.tc : Thread Cert.KernelDwLoIdeal.nD Cert.KernelDwLoIdeal.τ).loc Cert.KernelDwLoIdeal.main_arg0) = m ((c.tc : Thread Cert.KernelDwLoIdeal.nD Cert.KernelDwLoIdeal.τ).loc Cert.KernelDwLoIdeal.main_arg0)
      ∧ r.2.mem ((c.tc : Thread Cert.KernelDwLoIdeal.nD Cert.KernelDwLoIdeal.τ).loc Cert.KernelDwLoIdeal.main_arg1) = m ((c.tc : Thread Cert.KernelDwLoIdeal.nD Cert.KernelDwLoIdeal.τ).loc Cert.KernelDwLoIdeal.main_arg1))
      ∧ r.2.sem = fun _ => 0)

def quiescent_ReferenceDwLoIdeal [hReferenceDwLoIdeal : Cert.ReferenceDwLoIdeal.Facts] : Prop :=
  ∀ (m : (ℓ : Loc Cert.ReferenceDwLoIdeal.nD Cert.ReferenceDwLoIdeal.τ Cert.ReferenceDwLoIdeal.sig) → Buf (Elt Ideal) ℓ) (g : Dev Cert.ReferenceDwLoIdeal.nD → PrngReg), Pre_ReferenceDwLoIdeal m →
    θ_run (Cert.ReferenceDwLoIdeal.defs (F := Ideal)) (onTc (τ := Cert.ReferenceDwLoIdeal.τ) (Cert.ReferenceDwLoIdeal.main (F := Ideal))) ⟨m, fun _ => 0, g⟩ (fun r => (∀ c : Dev Cert.ReferenceDwLoIdeal.nD,
      r.2.mem ((c.tc : Thread Cert.ReferenceDwLoIdeal.nD Cert.ReferenceDwLoIdeal.τ).loc Cert.ReferenceDwLoIdeal.main_arg0) = m ((c.tc : Thread Cert.ReferenceDwLoIdeal.nD Cert.ReferenceDwLoIdeal.τ).loc Cert.ReferenceDwLoIdeal.main_arg0)
      ∧ r.2.mem ((c.tc : Thread Cert.ReferenceDwLoIdeal.nD Cert.ReferenceDwLoIdeal.τ).loc Cert.ReferenceDwLoIdeal.main_arg1) = m ((c.tc : Thread Cert.ReferenceDwLoIdeal.nD Cert.ReferenceDwLoIdeal.τ).loc Cert.ReferenceDwLoIdeal.main_arg1))
      ∧ r.2.sem = fun _ => 0)

def quiescent_KernelDwHi [hKernelDwHi : Cert.KernelDwHi.Facts] : Prop :=
  ∀ (m : (ℓ : Loc Cert.KernelDwHi.nD Cert.KernelDwHi.τ Cert.KernelDwHi.sig) → Buf (Elt Bits) ℓ) (g : Dev Cert.KernelDwHi.nD → PrngReg), Pre_KernelDwHi m →
    θ_run (Cert.KernelDwHi.defs (F := Bits)) (onTc (τ := Cert.KernelDwHi.τ) (Cert.KernelDwHi.main (F := Bits))) ⟨m, fun _ => 0, g⟩ (fun r => (∀ c : Dev Cert.KernelDwHi.nD,
      r.2.mem ((c.tc : Thread Cert.KernelDwHi.nD Cert.KernelDwHi.τ).loc Cert.KernelDwHi.main_arg0) = m ((c.tc : Thread Cert.KernelDwHi.nD Cert.KernelDwHi.τ).loc Cert.KernelDwHi.main_arg0)
      ∧ r.2.mem ((c.tc : Thread Cert.KernelDwHi.nD Cert.KernelDwHi.τ).loc Cert.KernelDwHi.main_arg1) = m ((c.tc : Thread Cert.KernelDwHi.nD Cert.KernelDwHi.τ).loc Cert.KernelDwHi.main_arg1))
      ∧ r.2.sem = fun _ => 0)

def quiescent_KernelDwHiIdeal [hKernelDwHiIdeal : Cert.KernelDwHiIdeal.Facts] : Prop :=
  ∀ (m : (ℓ : Loc Cert.KernelDwHiIdeal.nD Cert.KernelDwHiIdeal.τ Cert.KernelDwHiIdeal.sig) → Buf (Elt Ideal) ℓ) (g : Dev Cert.KernelDwHiIdeal.nD → PrngReg), Pre_KernelDwHiIdeal m →
    θ_run (Cert.KernelDwHiIdeal.defs (F := Ideal)) (onTc (τ := Cert.KernelDwHiIdeal.τ) (Cert.KernelDwHiIdeal.main (F := Ideal))) ⟨m, fun _ => 0, g⟩ (fun r => (∀ c : Dev Cert.KernelDwHiIdeal.nD,
      r.2.mem ((c.tc : Thread Cert.KernelDwHiIdeal.nD Cert.KernelDwHiIdeal.τ).loc Cert.KernelDwHiIdeal.main_arg0) = m ((c.tc : Thread Cert.KernelDwHiIdeal.nD Cert.KernelDwHiIdeal.τ).loc Cert.KernelDwHiIdeal.main_arg0)
      ∧ r.2.mem ((c.tc : Thread Cert.KernelDwHiIdeal.nD Cert.KernelDwHiIdeal.τ).loc Cert.KernelDwHiIdeal.main_arg1) = m ((c.tc : Thread Cert.KernelDwHiIdeal.nD Cert.KernelDwHiIdeal.τ).loc Cert.KernelDwHiIdeal.main_arg1))
      ∧ r.2.sem = fun _ => 0)

def quiescent_ReferenceDwHiIdeal [hReferenceDwHiIdeal : Cert.ReferenceDwHiIdeal.Facts] : Prop :=
  ∀ (m : (ℓ : Loc Cert.ReferenceDwHiIdeal.nD Cert.ReferenceDwHiIdeal.τ Cert.ReferenceDwHiIdeal.sig) → Buf (Elt Ideal) ℓ) (g : Dev Cert.ReferenceDwHiIdeal.nD → PrngReg), Pre_ReferenceDwHiIdeal m →
    θ_run (Cert.ReferenceDwHiIdeal.defs (F := Ideal)) (onTc (τ := Cert.ReferenceDwHiIdeal.τ) (Cert.ReferenceDwHiIdeal.main (F := Ideal))) ⟨m, fun _ => 0, g⟩ (fun r => (∀ c : Dev Cert.ReferenceDwHiIdeal.nD,
      r.2.mem ((c.tc : Thread Cert.ReferenceDwHiIdeal.nD Cert.ReferenceDwHiIdeal.τ).loc Cert.ReferenceDwHiIdeal.main_arg0) = m ((c.tc : Thread Cert.ReferenceDwHiIdeal.nD Cert.ReferenceDwHiIdeal.τ).loc Cert.ReferenceDwHiIdeal.main_arg0)
      ∧ r.2.mem ((c.tc : Thread Cert.ReferenceDwHiIdeal.nD Cert.ReferenceDwHiIdeal.τ).loc Cert.ReferenceDwHiIdeal.main_arg1) = m ((c.tc : Thread Cert.ReferenceDwHiIdeal.nD Cert.ReferenceDwHiIdeal.τ).loc Cert.ReferenceDwHiIdeal.main_arg1))
      ∧ r.2.sem = fun _ => 0)

def quiescent_KernelDhRest [hKernelDhRest : Cert.KernelDhRest.Facts] : Prop :=
  ∀ (m : (ℓ : Loc Cert.KernelDhRest.nD Cert.KernelDhRest.τ Cert.KernelDhRest.sig) → Buf (Elt Bits) ℓ) (g : Dev Cert.KernelDhRest.nD → PrngReg), Pre_KernelDhRest m →
    θ_run (Cert.KernelDhRest.defs (F := Bits)) (onTc (τ := Cert.KernelDhRest.τ) (Cert.KernelDhRest.main (F := Bits))) ⟨m, fun _ => 0, g⟩ (fun r => (∀ c : Dev Cert.KernelDhRest.nD,
      r.2.mem ((c.tc : Thread Cert.KernelDhRest.nD Cert.KernelDhRest.τ).loc Cert.KernelDhRest.main_arg0) = m ((c.tc : Thread Cert.KernelDhRest.nD Cert.KernelDhRest.τ).loc Cert.KernelDhRest.main_arg0)
      ∧ r.2.mem ((c.tc : Thread Cert.KernelDhRest.nD Cert.KernelDhRest.τ).loc Cert.KernelDhRest.main_arg1) = m ((c.tc : Thread Cert.KernelDhRest.nD Cert.KernelDhRest.τ).loc Cert.KernelDhRest.main_arg1)
      ∧ r.2.mem ((c.tc : Thread Cert.KernelDhRest.nD Cert.KernelDhRest.τ).loc Cert.KernelDhRest.main_arg2) = m ((c.tc : Thread Cert.KernelDhRest.nD Cert.KernelDhRest.τ).loc Cert.KernelDhRest.main_arg2)
      ∧ r.2.mem ((c.tc : Thread Cert.KernelDhRest.nD Cert.KernelDhRest.τ).loc Cert.KernelDhRest.main_arg3) = m ((c.tc : Thread Cert.KernelDhRest.nD Cert.KernelDhRest.τ).loc Cert.KernelDhRest.main_arg3)
      ∧ r.2.mem ((c.tc : Thread Cert.KernelDhRest.nD Cert.KernelDhRest.τ).loc Cert.KernelDhRest.main_arg4) = m ((c.tc : Thread Cert.KernelDhRest.nD Cert.KernelDhRest.τ).loc Cert.KernelDhRest.main_arg4)
      ∧ r.2.mem ((c.tc : Thread Cert.KernelDhRest.nD Cert.KernelDhRest.τ).loc Cert.KernelDhRest.main_arg5) = m ((c.tc : Thread Cert.KernelDhRest.nD Cert.KernelDhRest.τ).loc Cert.KernelDhRest.main_arg5)
      ∧ r.2.mem ((c.tc : Thread Cert.KernelDhRest.nD Cert.KernelDhRest.τ).loc Cert.KernelDhRest.main_arg6) = m ((c.tc : Thread Cert.KernelDhRest.nD Cert.KernelDhRest.τ).loc Cert.KernelDhRest.main_arg6))
      ∧ r.2.sem = fun _ => 0)

def quiescent_KernelDhRestIdeal [hKernelDhRestIdeal : Cert.KernelDhRestIdeal.Facts] : Prop :=
  ∀ (m : (ℓ : Loc Cert.KernelDhRestIdeal.nD Cert.KernelDhRestIdeal.τ Cert.KernelDhRestIdeal.sig) → Buf (Elt Ideal) ℓ) (g : Dev Cert.KernelDhRestIdeal.nD → PrngReg), Pre_KernelDhRestIdeal m →
    θ_run (Cert.KernelDhRestIdeal.defs (F := Ideal)) (onTc (τ := Cert.KernelDhRestIdeal.τ) (Cert.KernelDhRestIdeal.main (F := Ideal))) ⟨m, fun _ => 0, g⟩ (fun r => (∀ c : Dev Cert.KernelDhRestIdeal.nD,
      r.2.mem ((c.tc : Thread Cert.KernelDhRestIdeal.nD Cert.KernelDhRestIdeal.τ).loc Cert.KernelDhRestIdeal.main_arg0) = m ((c.tc : Thread Cert.KernelDhRestIdeal.nD Cert.KernelDhRestIdeal.τ).loc Cert.KernelDhRestIdeal.main_arg0)
      ∧ r.2.mem ((c.tc : Thread Cert.KernelDhRestIdeal.nD Cert.KernelDhRestIdeal.τ).loc Cert.KernelDhRestIdeal.main_arg1) = m ((c.tc : Thread Cert.KernelDhRestIdeal.nD Cert.KernelDhRestIdeal.τ).loc Cert.KernelDhRestIdeal.main_arg1)
      ∧ r.2.mem ((c.tc : Thread Cert.KernelDhRestIdeal.nD Cert.KernelDhRestIdeal.τ).loc Cert.KernelDhRestIdeal.main_arg2) = m ((c.tc : Thread Cert.KernelDhRestIdeal.nD Cert.KernelDhRestIdeal.τ).loc Cert.KernelDhRestIdeal.main_arg2)
      ∧ r.2.mem ((c.tc : Thread Cert.KernelDhRestIdeal.nD Cert.KernelDhRestIdeal.τ).loc Cert.KernelDhRestIdeal.main_arg3) = m ((c.tc : Thread Cert.KernelDhRestIdeal.nD Cert.KernelDhRestIdeal.τ).loc Cert.KernelDhRestIdeal.main_arg3)
      ∧ r.2.mem ((c.tc : Thread Cert.KernelDhRestIdeal.nD Cert.KernelDhRestIdeal.τ).loc Cert.KernelDhRestIdeal.main_arg4) = m ((c.tc : Thread Cert.KernelDhRestIdeal.nD Cert.KernelDhRestIdeal.τ).loc Cert.KernelDhRestIdeal.main_arg4)
      ∧ r.2.mem ((c.tc : Thread Cert.KernelDhRestIdeal.nD Cert.KernelDhRestIdeal.τ).loc Cert.KernelDhRestIdeal.main_arg5) = m ((c.tc : Thread Cert.KernelDhRestIdeal.nD Cert.KernelDhRestIdeal.τ).loc Cert.KernelDhRestIdeal.main_arg5)
      ∧ r.2.mem ((c.tc : Thread Cert.KernelDhRestIdeal.nD Cert.KernelDhRestIdeal.τ).loc Cert.KernelDhRestIdeal.main_arg6) = m ((c.tc : Thread Cert.KernelDhRestIdeal.nD Cert.KernelDhRestIdeal.τ).loc Cert.KernelDhRestIdeal.main_arg6))
      ∧ r.2.sem = fun _ => 0)

def quiescent_ReferenceDhRestIdeal [hReferenceDhRestIdeal : Cert.ReferenceDhRestIdeal.Facts] : Prop :=
  ∀ (m : (ℓ : Loc Cert.ReferenceDhRestIdeal.nD Cert.ReferenceDhRestIdeal.τ Cert.ReferenceDhRestIdeal.sig) → Buf (Elt Ideal) ℓ) (g : Dev Cert.ReferenceDhRestIdeal.nD → PrngReg), Pre_ReferenceDhRestIdeal m →
    θ_run (Cert.ReferenceDhRestIdeal.defs (F := Ideal)) (onTc (τ := Cert.ReferenceDhRestIdeal.τ) (Cert.ReferenceDhRestIdeal.main (F := Ideal))) ⟨m, fun _ => 0, g⟩ (fun r => (∀ c : Dev Cert.ReferenceDhRestIdeal.nD,
      r.2.mem ((c.tc : Thread Cert.ReferenceDhRestIdeal.nD Cert.ReferenceDhRestIdeal.τ).loc Cert.ReferenceDhRestIdeal.main_arg0) = m ((c.tc : Thread Cert.ReferenceDhRestIdeal.nD Cert.ReferenceDhRestIdeal.τ).loc Cert.ReferenceDhRestIdeal.main_arg0)
      ∧ r.2.mem ((c.tc : Thread Cert.ReferenceDhRestIdeal.nD Cert.ReferenceDhRestIdeal.τ).loc Cert.ReferenceDhRestIdeal.main_arg1) = m ((c.tc : Thread Cert.ReferenceDhRestIdeal.nD Cert.ReferenceDhRestIdeal.τ).loc Cert.ReferenceDhRestIdeal.main_arg1)
      ∧ r.2.mem ((c.tc : Thread Cert.ReferenceDhRestIdeal.nD Cert.ReferenceDhRestIdeal.τ).loc Cert.ReferenceDhRestIdeal.main_arg2) = m ((c.tc : Thread Cert.ReferenceDhRestIdeal.nD Cert.ReferenceDhRestIdeal.τ).loc Cert.ReferenceDhRestIdeal.main_arg2)
      ∧ r.2.mem ((c.tc : Thread Cert.ReferenceDhRestIdeal.nD Cert.ReferenceDhRestIdeal.τ).loc Cert.ReferenceDhRestIdeal.main_arg3) = m ((c.tc : Thread Cert.ReferenceDhRestIdeal.nD Cert.ReferenceDhRestIdeal.τ).loc Cert.ReferenceDhRestIdeal.main_arg3)
      ∧ r.2.mem ((c.tc : Thread Cert.ReferenceDhRestIdeal.nD Cert.ReferenceDhRestIdeal.τ).loc Cert.ReferenceDhRestIdeal.main_arg4) = m ((c.tc : Thread Cert.ReferenceDhRestIdeal.nD Cert.ReferenceDhRestIdeal.τ).loc Cert.ReferenceDhRestIdeal.main_arg4)
      ∧ r.2.mem ((c.tc : Thread Cert.ReferenceDhRestIdeal.nD Cert.ReferenceDhRestIdeal.τ).loc Cert.ReferenceDhRestIdeal.main_arg5) = m ((c.tc : Thread Cert.ReferenceDhRestIdeal.nD Cert.ReferenceDhRestIdeal.τ).loc Cert.ReferenceDhRestIdeal.main_arg5)
      ∧ r.2.mem ((c.tc : Thread Cert.ReferenceDhRestIdeal.nD Cert.ReferenceDhRestIdeal.τ).loc Cert.ReferenceDhRestIdeal.main_arg6) = m ((c.tc : Thread Cert.ReferenceDhRestIdeal.nD Cert.ReferenceDhRestIdeal.τ).loc Cert.ReferenceDhRestIdeal.main_arg6))
      ∧ r.2.sem = fun _ => 0)

def quiescent_KernelDhHead [hKernelDhHead : Cert.KernelDhHead.Facts] : Prop :=
  ∀ (m : (ℓ : Loc Cert.KernelDhHead.nD Cert.KernelDhHead.τ Cert.KernelDhHead.sig) → Buf (Elt Bits) ℓ) (g : Dev Cert.KernelDhHead.nD → PrngReg), Pre_KernelDhHead m →
    θ_run (Cert.KernelDhHead.defs (F := Bits)) (onTc (τ := Cert.KernelDhHead.τ) (Cert.KernelDhHead.main (F := Bits))) ⟨m, fun _ => 0, g⟩ (fun r => (∀ c : Dev Cert.KernelDhHead.nD,
      r.2.mem ((c.tc : Thread Cert.KernelDhHead.nD Cert.KernelDhHead.τ).loc Cert.KernelDhHead.main_arg0) = m ((c.tc : Thread Cert.KernelDhHead.nD Cert.KernelDhHead.τ).loc Cert.KernelDhHead.main_arg0)
      ∧ r.2.mem ((c.tc : Thread Cert.KernelDhHead.nD Cert.KernelDhHead.τ).loc Cert.KernelDhHead.main_arg1) = m ((c.tc : Thread Cert.KernelDhHead.nD Cert.KernelDhHead.τ).loc Cert.KernelDhHead.main_arg1)
      ∧ r.2.mem ((c.tc : Thread Cert.KernelDhHead.nD Cert.KernelDhHead.τ).loc Cert.KernelDhHead.main_arg2) = m ((c.tc : Thread Cert.KernelDhHead.nD Cert.KernelDhHead.τ).loc Cert.KernelDhHead.main_arg2)
      ∧ r.2.mem ((c.tc : Thread Cert.KernelDhHead.nD Cert.KernelDhHead.τ).loc Cert.KernelDhHead.main_arg3) = m ((c.tc : Thread Cert.KernelDhHead.nD Cert.KernelDhHead.τ).loc Cert.KernelDhHead.main_arg3)
      ∧ r.2.mem ((c.tc : Thread Cert.KernelDhHead.nD Cert.KernelDhHead.τ).loc Cert.KernelDhHead.main_arg4) = m ((c.tc : Thread Cert.KernelDhHead.nD Cert.KernelDhHead.τ).loc Cert.KernelDhHead.main_arg4)
      ∧ r.2.mem ((c.tc : Thread Cert.KernelDhHead.nD Cert.KernelDhHead.τ).loc Cert.KernelDhHead.main_arg5) = m ((c.tc : Thread Cert.KernelDhHead.nD Cert.KernelDhHead.τ).loc Cert.KernelDhHead.main_arg5))
      ∧ r.2.sem = fun _ => 0)

def quiescent_KernelDhHeadIdeal [hKernelDhHeadIdeal : Cert.KernelDhHeadIdeal.Facts] : Prop :=
  ∀ (m : (ℓ : Loc Cert.KernelDhHeadIdeal.nD Cert.KernelDhHeadIdeal.τ Cert.KernelDhHeadIdeal.sig) → Buf (Elt Ideal) ℓ) (g : Dev Cert.KernelDhHeadIdeal.nD → PrngReg), Pre_KernelDhHeadIdeal m →
    θ_run (Cert.KernelDhHeadIdeal.defs (F := Ideal)) (onTc (τ := Cert.KernelDhHeadIdeal.τ) (Cert.KernelDhHeadIdeal.main (F := Ideal))) ⟨m, fun _ => 0, g⟩ (fun r => (∀ c : Dev Cert.KernelDhHeadIdeal.nD,
      r.2.mem ((c.tc : Thread Cert.KernelDhHeadIdeal.nD Cert.KernelDhHeadIdeal.τ).loc Cert.KernelDhHeadIdeal.main_arg0) = m ((c.tc : Thread Cert.KernelDhHeadIdeal.nD Cert.KernelDhHeadIdeal.τ).loc Cert.KernelDhHeadIdeal.main_arg0)
      ∧ r.2.mem ((c.tc : Thread Cert.KernelDhHeadIdeal.nD Cert.KernelDhHeadIdeal.τ).loc Cert.KernelDhHeadIdeal.main_arg1) = m ((c.tc : Thread Cert.KernelDhHeadIdeal.nD Cert.KernelDhHeadIdeal.τ).loc Cert.KernelDhHeadIdeal.main_arg1)
      ∧ r.2.mem ((c.tc : Thread Cert.KernelDhHeadIdeal.nD Cert.KernelDhHeadIdeal.τ).loc Cert.KernelDhHeadIdeal.main_arg2) = m ((c.tc : Thread Cert.KernelDhHeadIdeal.nD Cert.KernelDhHeadIdeal.τ).loc Cert.KernelDhHeadIdeal.main_arg2)
      ∧ r.2.mem ((c.tc : Thread Cert.KernelDhHeadIdeal.nD Cert.KernelDhHeadIdeal.τ).loc Cert.KernelDhHeadIdeal.main_arg3) = m ((c.tc : Thread Cert.KernelDhHeadIdeal.nD Cert.KernelDhHeadIdeal.τ).loc Cert.KernelDhHeadIdeal.main_arg3)
      ∧ r.2.mem ((c.tc : Thread Cert.KernelDhHeadIdeal.nD Cert.KernelDhHeadIdeal.τ).loc Cert.KernelDhHeadIdeal.main_arg4) = m ((c.tc : Thread Cert.KernelDhHeadIdeal.nD Cert.KernelDhHeadIdeal.τ).loc Cert.KernelDhHeadIdeal.main_arg4)
      ∧ r.2.mem ((c.tc : Thread Cert.KernelDhHeadIdeal.nD Cert.KernelDhHeadIdeal.τ).loc Cert.KernelDhHeadIdeal.main_arg5) = m ((c.tc : Thread Cert.KernelDhHeadIdeal.nD Cert.KernelDhHeadIdeal.τ).loc Cert.KernelDhHeadIdeal.main_arg5))
      ∧ r.2.sem = fun _ => 0)

def quiescent_ReferenceDhHeadIdeal [hReferenceDhHeadIdeal : Cert.ReferenceDhHeadIdeal.Facts] : Prop :=
  ∀ (m : (ℓ : Loc Cert.ReferenceDhHeadIdeal.nD Cert.ReferenceDhHeadIdeal.τ Cert.ReferenceDhHeadIdeal.sig) → Buf (Elt Ideal) ℓ) (g : Dev Cert.ReferenceDhHeadIdeal.nD → PrngReg), Pre_ReferenceDhHeadIdeal m →
    θ_run (Cert.ReferenceDhHeadIdeal.defs (F := Ideal)) (onTc (τ := Cert.ReferenceDhHeadIdeal.τ) (Cert.ReferenceDhHeadIdeal.main (F := Ideal))) ⟨m, fun _ => 0, g⟩ (fun r => (∀ c : Dev Cert.ReferenceDhHeadIdeal.nD,
      r.2.mem ((c.tc : Thread Cert.ReferenceDhHeadIdeal.nD Cert.ReferenceDhHeadIdeal.τ).loc Cert.ReferenceDhHeadIdeal.main_arg0) = m ((c.tc : Thread Cert.ReferenceDhHeadIdeal.nD Cert.ReferenceDhHeadIdeal.τ).loc Cert.ReferenceDhHeadIdeal.main_arg0)
      ∧ r.2.mem ((c.tc : Thread Cert.ReferenceDhHeadIdeal.nD Cert.ReferenceDhHeadIdeal.τ).loc Cert.ReferenceDhHeadIdeal.main_arg1) = m ((c.tc : Thread Cert.ReferenceDhHeadIdeal.nD Cert.ReferenceDhHeadIdeal.τ).loc Cert.ReferenceDhHeadIdeal.main_arg1)
      ∧ r.2.mem ((c.tc : Thread Cert.ReferenceDhHeadIdeal.nD Cert.ReferenceDhHeadIdeal.τ).loc Cert.ReferenceDhHeadIdeal.main_arg2) = m ((c.tc : Thread Cert.ReferenceDhHeadIdeal.nD Cert.ReferenceDhHeadIdeal.τ).loc Cert.ReferenceDhHeadIdeal.main_arg2)
      ∧ r.2.mem ((c.tc : Thread Cert.ReferenceDhHeadIdeal.nD Cert.ReferenceDhHeadIdeal.τ).loc Cert.ReferenceDhHeadIdeal.main_arg3) = m ((c.tc : Thread Cert.ReferenceDhHeadIdeal.nD Cert.ReferenceDhHeadIdeal.τ).loc Cert.ReferenceDhHeadIdeal.main_arg3)
      ∧ r.2.mem ((c.tc : Thread Cert.ReferenceDhHeadIdeal.nD Cert.ReferenceDhHeadIdeal.τ).loc Cert.ReferenceDhHeadIdeal.main_arg4) = m ((c.tc : Thread Cert.ReferenceDhHeadIdeal.nD Cert.ReferenceDhHeadIdeal.τ).loc Cert.ReferenceDhHeadIdeal.main_arg4)
      ∧ r.2.mem ((c.tc : Thread Cert.ReferenceDhHeadIdeal.nD Cert.ReferenceDhHeadIdeal.τ).loc Cert.ReferenceDhHeadIdeal.main_arg5) = m ((c.tc : Thread Cert.ReferenceDhHeadIdeal.nD Cert.ReferenceDhHeadIdeal.τ).loc Cert.ReferenceDhHeadIdeal.main_arg5))
      ∧ r.2.sem = fun _ => 0)

def quiescent_KernelDwOut [hKernelDwOut : Cert.KernelDwOut.Facts] : Prop :=
  ∀ (m : (ℓ : Loc Cert.KernelDwOut.nD Cert.KernelDwOut.τ Cert.KernelDwOut.sig) → Buf (Elt Bits) ℓ) (g : Dev Cert.KernelDwOut.nD → PrngReg), Pre_KernelDwOut m →
    θ_run (Cert.KernelDwOut.defs (F := Bits)) (onTc (τ := Cert.KernelDwOut.τ) (Cert.KernelDwOut.main (F := Bits))) ⟨m, fun _ => 0, g⟩ (fun r => (∀ c : Dev Cert.KernelDwOut.nD,
      r.2.mem ((c.tc : Thread Cert.KernelDwOut.nD Cert.KernelDwOut.τ).loc Cert.KernelDwOut.main_arg0) = m ((c.tc : Thread Cert.KernelDwOut.nD Cert.KernelDwOut.τ).loc Cert.KernelDwOut.main_arg0)
      ∧ r.2.mem ((c.tc : Thread Cert.KernelDwOut.nD Cert.KernelDwOut.τ).loc Cert.KernelDwOut.main_arg1) = m ((c.tc : Thread Cert.KernelDwOut.nD Cert.KernelDwOut.τ).loc Cert.KernelDwOut.main_arg1)
      ∧ r.2.mem ((c.tc : Thread Cert.KernelDwOut.nD Cert.KernelDwOut.τ).loc Cert.KernelDwOut.main_arg2) = m ((c.tc : Thread Cert.KernelDwOut.nD Cert.KernelDwOut.τ).loc Cert.KernelDwOut.main_arg2))
      ∧ r.2.sem = fun _ => 0)

def quiescent_KernelDwOutIdeal [hKernelDwOutIdeal : Cert.KernelDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg), Pre_KernelDwOutIdeal m →
    θ_run (Cert.KernelDwOutIdeal.defs (F := Ideal)) (onTc (τ := Cert.KernelDwOutIdeal.τ) (Cert.KernelDwOutIdeal.main (F := Ideal))) ⟨m, fun _ => 0, g⟩ (fun r => (∀ c : Dev Cert.KernelDwOutIdeal.nD,
      r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
      ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1)
      ∧ r.2.mem ((c.tc : Thread Cert.KernelDwOutIdeal.nD Cert.KernelDwOutIdeal.τ).loc Cert.KernelDwOutIdeal.main_arg2) = m ((c.tc : Thread Cert.KernelDwOutIdeal.nD Cert.KernelDwOutIdeal.τ).loc Cert.KernelDwOutIdeal.main_arg2))
      ∧ r.2.sem = fun _ => 0)

def quiescent_ReferenceDwOutIdeal [hReferenceDwOutIdeal : Cert.ReferenceDwOutIdeal.Facts] : Prop :=
  ∀ (m : (ℓ : Loc Cert.ReferenceDwOutIdeal.nD Cert.ReferenceDwOutIdeal.τ Cert.ReferenceDwOutIdeal.sig) → Buf (Elt Ideal) ℓ) (g : Dev Cert.ReferenceDwOutIdeal.nD → PrngReg), Pre_ReferenceDwOutIdeal m →
    θ_run (Cert.ReferenceDwOutIdeal.defs (F := Ideal)) (onTc (τ := Cert.ReferenceDwOutIdeal.τ) (Cert.ReferenceDwOutIdeal.main (F := Ideal))) ⟨m, fun _ => 0, g⟩ (fun r => (∀ c : Dev Cert.ReferenceDwOutIdeal.nD,
      r.2.mem ((c.tc : Thread Cert.ReferenceDwOutIdeal.nD Cert.ReferenceDwOutIdeal.τ).loc Cert.ReferenceDwOutIdeal.main_arg0) = m ((c.tc : Thread Cert.ReferenceDwOutIdeal.nD Cert.ReferenceDwOutIdeal.τ).loc Cert.ReferenceDwOutIdeal.main_arg0)
      ∧ r.2.mem ((c.tc : Thread Cert.ReferenceDwOutIdeal.nD Cert.ReferenceDwOutIdeal.τ).loc Cert.ReferenceDwOutIdeal.main_arg1) = m ((c.tc : Thread Cert.ReferenceDwOutIdeal.nD Cert.ReferenceDwOutIdeal.τ).loc Cert.ReferenceDwOutIdeal.main_arg1)
      ∧ r.2.mem ((c.tc : Thread Cert.ReferenceDwOutIdeal.nD Cert.ReferenceDwOutIdeal.τ).loc Cert.ReferenceDwOutIdeal.main_arg2) = m ((c.tc : Thread Cert.ReferenceDwOutIdeal.nD Cert.ReferenceDwOutIdeal.τ).loc Cert.ReferenceDwOutIdeal.main_arg2))
      ∧ r.2.sem = fun _ => 0)

def quiescent_KernelDwOutAttn [hKernelDwOutAttn : Cert.KernelDwOutAttn.Facts] : Prop :=
  ∀ (m : (ℓ : Loc Cert.KernelDwOutAttn.nD Cert.KernelDwOutAttn.τ Cert.KernelDwOutAttn.sig) → Buf (Elt Bits) ℓ) (g : Dev Cert.KernelDwOutAttn.nD → PrngReg), Pre_KernelDwOutAttn m →
    θ_run (Cert.KernelDwOutAttn.defs (F := Bits)) (onTc (τ := Cert.KernelDwOutAttn.τ) (Cert.KernelDwOutAttn.main (F := Bits))) ⟨m, fun _ => 0, g⟩ (fun r => (∀ c : Dev Cert.KernelDwOutAttn.nD,
      r.2.mem ((c.tc : Thread Cert.KernelDwOutAttn.nD Cert.KernelDwOutAttn.τ).loc Cert.KernelDwOutAttn.main_arg0) = m ((c.tc : Thread Cert.KernelDwOutAttn.nD Cert.KernelDwOutAttn.τ).loc Cert.KernelDwOutAttn.main_arg0)
      ∧ r.2.mem ((c.tc : Thread Cert.KernelDwOutAttn.nD Cert.KernelDwOutAttn.τ).loc Cert.KernelDwOutAttn.main_arg1) = m ((c.tc : Thread Cert.KernelDwOutAttn.nD Cert.KernelDwOutAttn.τ).loc Cert.KernelDwOutAttn.main_arg1)
      ∧ r.2.mem ((c.tc : Thread Cert.KernelDwOutAttn.nD Cert.KernelDwOutAttn.τ).loc Cert.KernelDwOutAttn.main_arg2) = m ((c.tc : Thread Cert.KernelDwOutAttn.nD Cert.KernelDwOutAttn.τ).loc Cert.KernelDwOutAttn.main_arg2))
      ∧ r.2.sem = fun _ => 0)

def quiescent_KernelDwOutAttnIdeal [hKernelDwOutAttnIdeal : Cert.KernelDwOutAttnIdeal.Facts] : Prop :=
  ∀ (m : (ℓ : Loc Cert.KernelDwOutAttnIdeal.nD Cert.KernelDwOutAttnIdeal.τ Cert.KernelDwOutAttnIdeal.sig) → Buf (Elt Ideal) ℓ) (g : Dev Cert.KernelDwOutAttnIdeal.nD → PrngReg), Pre_KernelDwOutAttnIdeal m →
    θ_run (Cert.KernelDwOutAttnIdeal.defs (F := Ideal)) (onTc (τ := Cert.KernelDwOutAttnIdeal.τ) (Cert.KernelDwOutAttnIdeal.main (F := Ideal))) ⟨m, fun _ => 0, g⟩ (fun r => (∀ c : Dev Cert.KernelDwOutAttnIdeal.nD,
      r.2.mem ((c.tc : Thread Cert.KernelDwOutAttnIdeal.nD Cert.KernelDwOutAttnIdeal.τ).loc Cert.KernelDwOutAttnIdeal.main_arg0) = m ((c.tc : Thread Cert.KernelDwOutAttnIdeal.nD Cert.KernelDwOutAttnIdeal.τ).loc Cert.KernelDwOutAttnIdeal.main_arg0)
      ∧ r.2.mem ((c.tc : Thread Cert.KernelDwOutAttnIdeal.nD Cert.KernelDwOutAttnIdeal.τ).loc Cert.KernelDwOutAttnIdeal.main_arg1) = m ((c.tc : Thread Cert.KernelDwOutAttnIdeal.nD Cert.KernelDwOutAttnIdeal.τ).loc Cert.KernelDwOutAttnIdeal.main_arg1)
      ∧ r.2.mem ((c.tc : Thread Cert.KernelDwOutAttnIdeal.nD Cert.KernelDwOutAttnIdeal.τ).loc Cert.KernelDwOutAttnIdeal.main_arg2) = m ((c.tc : Thread Cert.KernelDwOutAttnIdeal.nD Cert.KernelDwOutAttnIdeal.τ).loc Cert.KernelDwOutAttnIdeal.main_arg2))
      ∧ r.2.sem = fun _ => 0)

def quiescent_ReferenceDwOutAttnIdeal [hReferenceDwOutAttnIdeal : Cert.ReferenceDwOutAttnIdeal.Facts] : Prop :=
  ∀ (m : (ℓ : Loc Cert.ReferenceDwOutAttnIdeal.nD Cert.ReferenceDwOutAttnIdeal.τ Cert.ReferenceDwOutAttnIdeal.sig) → Buf (Elt Ideal) ℓ) (g : Dev Cert.ReferenceDwOutAttnIdeal.nD → PrngReg), Pre_ReferenceDwOutAttnIdeal m →
    θ_run (Cert.ReferenceDwOutAttnIdeal.defs (F := Ideal)) (onTc (τ := Cert.ReferenceDwOutAttnIdeal.τ) (Cert.ReferenceDwOutAttnIdeal.main (F := Ideal))) ⟨m, fun _ => 0, g⟩ (fun r => (∀ c : Dev Cert.ReferenceDwOutAttnIdeal.nD,
      r.2.mem ((c.tc : Thread Cert.ReferenceDwOutAttnIdeal.nD Cert.ReferenceDwOutAttnIdeal.τ).loc Cert.ReferenceDwOutAttnIdeal.main_arg0) = m ((c.tc : Thread Cert.ReferenceDwOutAttnIdeal.nD Cert.ReferenceDwOutAttnIdeal.τ).loc Cert.ReferenceDwOutAttnIdeal.main_arg0)
      ∧ r.2.mem ((c.tc : Thread Cert.ReferenceDwOutAttnIdeal.nD Cert.ReferenceDwOutAttnIdeal.τ).loc Cert.ReferenceDwOutAttnIdeal.main_arg1) = m ((c.tc : Thread Cert.ReferenceDwOutAttnIdeal.nD Cert.ReferenceDwOutAttnIdeal.τ).loc Cert.ReferenceDwOutAttnIdeal.main_arg1)
      ∧ r.2.mem ((c.tc : Thread Cert.ReferenceDwOutAttnIdeal.nD Cert.ReferenceDwOutAttnIdeal.τ).loc Cert.ReferenceDwOutAttnIdeal.main_arg2) = m ((c.tc : Thread Cert.ReferenceDwOutAttnIdeal.nD Cert.ReferenceDwOutAttnIdeal.τ).loc Cert.ReferenceDwOutAttnIdeal.main_arg2))
      ∧ r.2.sem = fun _ => 0)

def quiescent_KernelDwOutPool [hKernelDwOutPool : Cert.KernelDwOutPool.Facts] : Prop :=
  ∀ (m : (ℓ : Loc Cert.KernelDwOutPool.nD Cert.KernelDwOutPool.τ Cert.KernelDwOutPool.sig) → Buf (Elt Bits) ℓ) (g : Dev Cert.KernelDwOutPool.nD → PrngReg), Pre_KernelDwOutPool m →
    θ_run (Cert.KernelDwOutPool.defs (F := Bits)) (onTc (τ := Cert.KernelDwOutPool.τ) (Cert.KernelDwOutPool.main (F := Bits))) ⟨m, fun _ => 0, g⟩ (fun r => (∀ c : Dev Cert.KernelDwOutPool.nD,
      r.2.mem ((c.tc : Thread Cert.KernelDwOutPool.nD Cert.KernelDwOutPool.τ).loc Cert.KernelDwOutPool.main_arg0) = m ((c.tc : Thread Cert.KernelDwOutPool.nD Cert.KernelDwOutPool.τ).loc Cert.KernelDwOutPool.main_arg0)
      ∧ r.2.mem ((c.tc : Thread Cert.KernelDwOutPool.nD Cert.KernelDwOutPool.τ).loc Cert.KernelDwOutPool.main_arg1) = m ((c.tc : Thread Cert.KernelDwOutPool.nD Cert.KernelDwOutPool.τ).loc Cert.KernelDwOutPool.main_arg1)
      ∧ r.2.mem ((c.tc : Thread Cert.KernelDwOutPool.nD Cert.KernelDwOutPool.τ).loc Cert.KernelDwOutPool.main_arg2) = m ((c.tc : Thread Cert.KernelDwOutPool.nD Cert.KernelDwOutPool.τ).loc Cert.KernelDwOutPool.main_arg2))
      ∧ r.2.sem = fun _ => 0)

def quiescent_KernelDwOutPoolIdeal [hKernelDwOutPoolIdeal : Cert.KernelDwOutPoolIdeal.Facts] : Prop :=
  ∀ (m : (ℓ : Loc Cert.KernelDwOutPoolIdeal.nD Cert.KernelDwOutPoolIdeal.τ Cert.KernelDwOutPoolIdeal.sig) → Buf (Elt Ideal) ℓ) (g : Dev Cert.KernelDwOutPoolIdeal.nD → PrngReg), Pre_KernelDwOutPoolIdeal m →
    θ_run (Cert.KernelDwOutPoolIdeal.defs (F := Ideal)) (onTc (τ := Cert.KernelDwOutPoolIdeal.τ) (Cert.KernelDwOutPoolIdeal.main (F := Ideal))) ⟨m, fun _ => 0, g⟩ (fun r => (∀ c : Dev Cert.KernelDwOutPoolIdeal.nD,
      r.2.mem ((c.tc : Thread Cert.KernelDwOutPoolIdeal.nD Cert.KernelDwOutPoolIdeal.τ).loc Cert.KernelDwOutPoolIdeal.main_arg0) = m ((c.tc : Thread Cert.KernelDwOutPoolIdeal.nD Cert.KernelDwOutPoolIdeal.τ).loc Cert.KernelDwOutPoolIdeal.main_arg0)
      ∧ r.2.mem ((c.tc : Thread Cert.KernelDwOutPoolIdeal.nD Cert.KernelDwOutPoolIdeal.τ).loc Cert.KernelDwOutPoolIdeal.main_arg1) = m ((c.tc : Thread Cert.KernelDwOutPoolIdeal.nD Cert.KernelDwOutPoolIdeal.τ).loc Cert.KernelDwOutPoolIdeal.main_arg1)
      ∧ r.2.mem ((c.tc : Thread Cert.KernelDwOutPoolIdeal.nD Cert.KernelDwOutPoolIdeal.τ).loc Cert.KernelDwOutPoolIdeal.main_arg2) = m ((c.tc : Thread Cert.KernelDwOutPoolIdeal.nD Cert.KernelDwOutPoolIdeal.τ).loc Cert.KernelDwOutPoolIdeal.main_arg2))
      ∧ r.2.sem = fun _ => 0)

def quiescent_ReferenceDwOutPoolIdeal [hReferenceDwOutPoolIdeal : Cert.ReferenceDwOutPoolIdeal.Facts] : Prop :=
  ∀ (m : (ℓ : Loc Cert.ReferenceDwOutPoolIdeal.nD Cert.ReferenceDwOutPoolIdeal.τ Cert.ReferenceDwOutPoolIdeal.sig) → Buf (Elt Ideal) ℓ) (g : Dev Cert.ReferenceDwOutPoolIdeal.nD → PrngReg), Pre_ReferenceDwOutPoolIdeal m →
    θ_run (Cert.ReferenceDwOutPoolIdeal.defs (F := Ideal)) (onTc (τ := Cert.ReferenceDwOutPoolIdeal.τ) (Cert.ReferenceDwOutPoolIdeal.main (F := Ideal))) ⟨m, fun _ => 0, g⟩ (fun r => (∀ c : Dev Cert.ReferenceDwOutPoolIdeal.nD,
      r.2.mem ((c.tc : Thread Cert.ReferenceDwOutPoolIdeal.nD Cert.ReferenceDwOutPoolIdeal.τ).loc Cert.ReferenceDwOutPoolIdeal.main_arg0) = m ((c.tc : Thread Cert.ReferenceDwOutPoolIdeal.nD Cert.ReferenceDwOutPoolIdeal.τ).loc Cert.ReferenceDwOutPoolIdeal.main_arg0)
      ∧ r.2.mem ((c.tc : Thread Cert.ReferenceDwOutPoolIdeal.nD Cert.ReferenceDwOutPoolIdeal.τ).loc Cert.ReferenceDwOutPoolIdeal.main_arg1) = m ((c.tc : Thread Cert.ReferenceDwOutPoolIdeal.nD Cert.ReferenceDwOutPoolIdeal.τ).loc Cert.ReferenceDwOutPoolIdeal.main_arg1)
      ∧ r.2.mem ((c.tc : Thread Cert.ReferenceDwOutPoolIdeal.nD Cert.ReferenceDwOutPoolIdeal.τ).loc Cert.ReferenceDwOutPoolIdeal.main_arg2) = m ((c.tc : Thread Cert.ReferenceDwOutPoolIdeal.nD Cert.ReferenceDwOutPoolIdeal.τ).loc Cert.ReferenceDwOutPoolIdeal.main_arg2))
      ∧ r.2.sem = fun _ => 0)

def quiescent_KernelProj0 [hKernelProj0 : Cert.KernelProj0.Facts] : Prop :=
  ∀ (m : (ℓ : Loc Cert.KernelProj0.nD Cert.KernelProj0.τ Cert.KernelProj0.sig) → Buf (Elt Bits) ℓ) (g : Dev Cert.KernelProj0.nD → PrngReg), Pre_KernelProj0 m →
    θ_run (Cert.KernelProj0.defs (F := Bits)) (onTc (τ := Cert.KernelProj0.τ) (Cert.KernelProj0.main (F := Bits))) ⟨m, fun _ => 0, g⟩ (fun r => (∀ c : Dev Cert.KernelProj0.nD,
      r.2.mem ((c.tc : Thread Cert.KernelProj0.nD Cert.KernelProj0.τ).loc Cert.KernelProj0.main_arg0) = m ((c.tc : Thread Cert.KernelProj0.nD Cert.KernelProj0.τ).loc Cert.KernelProj0.main_arg0)
      ∧ r.2.mem ((c.tc : Thread Cert.KernelProj0.nD Cert.KernelProj0.τ).loc Cert.KernelProj0.main_arg1) = m ((c.tc : Thread Cert.KernelProj0.nD Cert.KernelProj0.τ).loc Cert.KernelProj0.main_arg1))
      ∧ r.2.sem = fun _ => 0)

def quiescent_KernelProj0Ideal [hKernelProj0Ideal : Cert.KernelProj0Ideal.Facts] : Prop :=
  ∀ (m : (ℓ : Loc Cert.KernelProj0Ideal.nD Cert.KernelProj0Ideal.τ Cert.KernelProj0Ideal.sig) → Buf (Elt Ideal) ℓ) (g : Dev Cert.KernelProj0Ideal.nD → PrngReg), Pre_KernelProj0Ideal m →
    θ_run (Cert.KernelProj0Ideal.defs (F := Ideal)) (onTc (τ := Cert.KernelProj0Ideal.τ) (Cert.KernelProj0Ideal.main (F := Ideal))) ⟨m, fun _ => 0, g⟩ (fun r => (∀ c : Dev Cert.KernelProj0Ideal.nD,
      r.2.mem ((c.tc : Thread Cert.KernelProj0Ideal.nD Cert.KernelProj0Ideal.τ).loc Cert.KernelProj0Ideal.main_arg0) = m ((c.tc : Thread Cert.KernelProj0Ideal.nD Cert.KernelProj0Ideal.τ).loc Cert.KernelProj0Ideal.main_arg0)
      ∧ r.2.mem ((c.tc : Thread Cert.KernelProj0Ideal.nD Cert.KernelProj0Ideal.τ).loc Cert.KernelProj0Ideal.main_arg1) = m ((c.tc : Thread Cert.KernelProj0Ideal.nD Cert.KernelProj0Ideal.τ).loc Cert.KernelProj0Ideal.main_arg1))
      ∧ r.2.sem = fun _ => 0)

def quiescent_ReferenceProj0Ideal [hReferenceProj0Ideal : Cert.ReferenceProj0Ideal.Facts] : Prop :=
  ∀ (m : (ℓ : Loc Cert.ReferenceProj0Ideal.nD Cert.ReferenceProj0Ideal.τ Cert.ReferenceProj0Ideal.sig) → Buf (Elt Ideal) ℓ) (g : Dev Cert.ReferenceProj0Ideal.nD → PrngReg), Pre_ReferenceProj0Ideal m →
    θ_run (Cert.ReferenceProj0Ideal.defs (F := Ideal)) (onTc (τ := Cert.ReferenceProj0Ideal.τ) (Cert.ReferenceProj0Ideal.main (F := Ideal))) ⟨m, fun _ => 0, g⟩ (fun r => (∀ c : Dev Cert.ReferenceProj0Ideal.nD,
      r.2.mem ((c.tc : Thread Cert.ReferenceProj0Ideal.nD Cert.ReferenceProj0Ideal.τ).loc Cert.ReferenceProj0Ideal.main_arg0) = m ((c.tc : Thread Cert.ReferenceProj0Ideal.nD Cert.ReferenceProj0Ideal.τ).loc Cert.ReferenceProj0Ideal.main_arg0)
      ∧ r.2.mem ((c.tc : Thread Cert.ReferenceProj0Ideal.nD Cert.ReferenceProj0Ideal.τ).loc Cert.ReferenceProj0Ideal.main_arg1) = m ((c.tc : Thread Cert.ReferenceProj0Ideal.nD Cert.ReferenceProj0Ideal.τ).loc Cert.ReferenceProj0Ideal.main_arg1))
      ∧ r.2.sem = fun _ => 0)

def quiescent_KernelProj1 [hKernelProj1 : Cert.KernelProj1.Facts] : Prop :=
  ∀ (m : (ℓ : Loc Cert.KernelProj1.nD Cert.KernelProj1.τ Cert.KernelProj1.sig) → Buf (Elt Bits) ℓ) (g : Dev Cert.KernelProj1.nD → PrngReg), Pre_KernelProj1 m →
    θ_run (Cert.KernelProj1.defs (F := Bits)) (onTc (τ := Cert.KernelProj1.τ) (Cert.KernelProj1.main (F := Bits))) ⟨m, fun _ => 0, g⟩ (fun r => (∀ c : Dev Cert.KernelProj1.nD,
      r.2.mem ((c.tc : Thread Cert.KernelProj1.nD Cert.KernelProj1.τ).loc Cert.KernelProj1.main_arg0) = m ((c.tc : Thread Cert.KernelProj1.nD Cert.KernelProj1.τ).loc Cert.KernelProj1.main_arg0)
      ∧ r.2.mem ((c.tc : Thread Cert.KernelProj1.nD Cert.KernelProj1.τ).loc Cert.KernelProj1.main_arg1) = m ((c.tc : Thread Cert.KernelProj1.nD Cert.KernelProj1.τ).loc Cert.KernelProj1.main_arg1)
      ∧ r.2.mem ((c.tc : Thread Cert.KernelProj1.nD Cert.KernelProj1.τ).loc Cert.KernelProj1.main_arg2) = m ((c.tc : Thread Cert.KernelProj1.nD Cert.KernelProj1.τ).loc Cert.KernelProj1.main_arg2))
      ∧ r.2.sem = fun _ => 0)

def quiescent_KernelProj1Ideal [hKernelProj1Ideal : Cert.KernelProj1Ideal.Facts] : Prop :=
  ∀ (m : (ℓ : Loc Cert.KernelProj1Ideal.nD Cert.KernelProj1Ideal.τ Cert.KernelProj1Ideal.sig) → Buf (Elt Ideal) ℓ) (g : Dev Cert.KernelProj1Ideal.nD → PrngReg), Pre_KernelProj1Ideal m →
    θ_run (Cert.KernelProj1Ideal.defs (F := Ideal)) (onTc (τ := Cert.KernelProj1Ideal.τ) (Cert.KernelProj1Ideal.main (F := Ideal))) ⟨m, fun _ => 0, g⟩ (fun r => (∀ c : Dev Cert.KernelProj1Ideal.nD,
      r.2.mem ((c.tc : Thread Cert.KernelProj1Ideal.nD Cert.KernelProj1Ideal.τ).loc Cert.KernelProj1Ideal.main_arg0) = m ((c.tc : Thread Cert.KernelProj1Ideal.nD Cert.KernelProj1Ideal.τ).loc Cert.KernelProj1Ideal.main_arg0)
      ∧ r.2.mem ((c.tc : Thread Cert.KernelProj1Ideal.nD Cert.KernelProj1Ideal.τ).loc Cert.KernelProj1Ideal.main_arg1) = m ((c.tc : Thread Cert.KernelProj1Ideal.nD Cert.KernelProj1Ideal.τ).loc Cert.KernelProj1Ideal.main_arg1)
      ∧ r.2.mem ((c.tc : Thread Cert.KernelProj1Ideal.nD Cert.KernelProj1Ideal.τ).loc Cert.KernelProj1Ideal.main_arg2) = m ((c.tc : Thread Cert.KernelProj1Ideal.nD Cert.KernelProj1Ideal.τ).loc Cert.KernelProj1Ideal.main_arg2))
      ∧ r.2.sem = fun _ => 0)

def quiescent_ReferenceProj1Ideal [hReferenceProj1Ideal : Cert.ReferenceProj1Ideal.Facts] : Prop :=
  ∀ (m : (ℓ : Loc Cert.ReferenceProj1Ideal.nD Cert.ReferenceProj1Ideal.τ Cert.ReferenceProj1Ideal.sig) → Buf (Elt Ideal) ℓ) (g : Dev Cert.ReferenceProj1Ideal.nD → PrngReg), Pre_ReferenceProj1Ideal m →
    θ_run (Cert.ReferenceProj1Ideal.defs (F := Ideal)) (onTc (τ := Cert.ReferenceProj1Ideal.τ) (Cert.ReferenceProj1Ideal.main (F := Ideal))) ⟨m, fun _ => 0, g⟩ (fun r => (∀ c : Dev Cert.ReferenceProj1Ideal.nD,
      r.2.mem ((c.tc : Thread Cert.ReferenceProj1Ideal.nD Cert.ReferenceProj1Ideal.τ).loc Cert.ReferenceProj1Ideal.main_arg0) = m ((c.tc : Thread Cert.ReferenceProj1Ideal.nD Cert.ReferenceProj1Ideal.τ).loc Cert.ReferenceProj1Ideal.main_arg0)
      ∧ r.2.mem ((c.tc : Thread Cert.ReferenceProj1Ideal.nD Cert.ReferenceProj1Ideal.τ).loc Cert.ReferenceProj1Ideal.main_arg1) = m ((c.tc : Thread Cert.ReferenceProj1Ideal.nD Cert.ReferenceProj1Ideal.τ).loc Cert.ReferenceProj1Ideal.main_arg1)
      ∧ r.2.mem ((c.tc : Thread Cert.ReferenceProj1Ideal.nD Cert.ReferenceProj1Ideal.τ).loc Cert.ReferenceProj1Ideal.main_arg2) = m ((c.tc : Thread Cert.ReferenceProj1Ideal.nD Cert.ReferenceProj1Ideal.τ).loc Cert.ReferenceProj1Ideal.main_arg2))
      ∧ r.2.sem = fun _ => 0)

def quiescent_KernelProj2 [hKernelProj2 : Cert.KernelProj2.Facts] : Prop :=
  ∀ (m : (ℓ : Loc Cert.KernelProj2.nD Cert.KernelProj2.τ Cert.KernelProj2.sig) → Buf (Elt Bits) ℓ) (g : Dev Cert.KernelProj2.nD → PrngReg), Pre_KernelProj2 m →
    θ_run (Cert.KernelProj2.defs (F := Bits)) (onTc (τ := Cert.KernelProj2.τ) (Cert.KernelProj2.main (F := Bits))) ⟨m, fun _ => 0, g⟩ (fun r => (∀ c : Dev Cert.KernelProj2.nD,
      r.2.mem ((c.tc : Thread Cert.KernelProj2.nD Cert.KernelProj2.τ).loc Cert.KernelProj2.main_arg0) = m ((c.tc : Thread Cert.KernelProj2.nD Cert.KernelProj2.τ).loc Cert.KernelProj2.main_arg0)
      ∧ r.2.mem ((c.tc : Thread Cert.KernelProj2.nD Cert.KernelProj2.τ).loc Cert.KernelProj2.main_arg1) = m ((c.tc : Thread Cert.KernelProj2.nD Cert.KernelProj2.τ).loc Cert.KernelProj2.main_arg1)
      ∧ r.2.mem ((c.tc : Thread Cert.KernelProj2.nD Cert.KernelProj2.τ).loc Cert.KernelProj2.main_arg2) = m ((c.tc : Thread Cert.KernelProj2.nD Cert.KernelProj2.τ).loc Cert.KernelProj2.main_arg2))
      ∧ r.2.sem = fun _ => 0)

def quiescent_KernelProj2Ideal [hKernelProj2Ideal : Cert.KernelProj2Ideal.Facts] : Prop :=
  ∀ (m : (ℓ : Loc Cert.KernelProj2Ideal.nD Cert.KernelProj2Ideal.τ Cert.KernelProj2Ideal.sig) → Buf (Elt Ideal) ℓ) (g : Dev Cert.KernelProj2Ideal.nD → PrngReg), Pre_KernelProj2Ideal m →
    θ_run (Cert.KernelProj2Ideal.defs (F := Ideal)) (onTc (τ := Cert.KernelProj2Ideal.τ) (Cert.KernelProj2Ideal.main (F := Ideal))) ⟨m, fun _ => 0, g⟩ (fun r => (∀ c : Dev Cert.KernelProj2Ideal.nD,
      r.2.mem ((c.tc : Thread Cert.KernelProj2Ideal.nD Cert.KernelProj2Ideal.τ).loc Cert.KernelProj2Ideal.main_arg0) = m ((c.tc : Thread Cert.KernelProj2Ideal.nD Cert.KernelProj2Ideal.τ).loc Cert.KernelProj2Ideal.main_arg0)
      ∧ r.2.mem ((c.tc : Thread Cert.KernelProj2Ideal.nD Cert.KernelProj2Ideal.τ).loc Cert.KernelProj2Ideal.main_arg1) = m ((c.tc : Thread Cert.KernelProj2Ideal.nD Cert.KernelProj2Ideal.τ).loc Cert.KernelProj2Ideal.main_arg1)
      ∧ r.2.mem ((c.tc : Thread Cert.KernelProj2Ideal.nD Cert.KernelProj2Ideal.τ).loc Cert.KernelProj2Ideal.main_arg2) = m ((c.tc : Thread Cert.KernelProj2Ideal.nD Cert.KernelProj2Ideal.τ).loc Cert.KernelProj2Ideal.main_arg2))
      ∧ r.2.sem = fun _ => 0)

def quiescent_ReferenceProj2Ideal [hReferenceProj2Ideal : Cert.ReferenceProj2Ideal.Facts] : Prop :=
  ∀ (m : (ℓ : Loc Cert.ReferenceProj2Ideal.nD Cert.ReferenceProj2Ideal.τ Cert.ReferenceProj2Ideal.sig) → Buf (Elt Ideal) ℓ) (g : Dev Cert.ReferenceProj2Ideal.nD → PrngReg), Pre_ReferenceProj2Ideal m →
    θ_run (Cert.ReferenceProj2Ideal.defs (F := Ideal)) (onTc (τ := Cert.ReferenceProj2Ideal.τ) (Cert.ReferenceProj2Ideal.main (F := Ideal))) ⟨m, fun _ => 0, g⟩ (fun r => (∀ c : Dev Cert.ReferenceProj2Ideal.nD,
      r.2.mem ((c.tc : Thread Cert.ReferenceProj2Ideal.nD Cert.ReferenceProj2Ideal.τ).loc Cert.ReferenceProj2Ideal.main_arg0) = m ((c.tc : Thread Cert.ReferenceProj2Ideal.nD Cert.ReferenceProj2Ideal.τ).loc Cert.ReferenceProj2Ideal.main_arg0)
      ∧ r.2.mem ((c.tc : Thread Cert.ReferenceProj2Ideal.nD Cert.ReferenceProj2Ideal.τ).loc Cert.ReferenceProj2Ideal.main_arg1) = m ((c.tc : Thread Cert.ReferenceProj2Ideal.nD Cert.ReferenceProj2Ideal.τ).loc Cert.ReferenceProj2Ideal.main_arg1)
      ∧ r.2.mem ((c.tc : Thread Cert.ReferenceProj2Ideal.nD Cert.ReferenceProj2Ideal.τ).loc Cert.ReferenceProj2Ideal.main_arg2) = m ((c.tc : Thread Cert.ReferenceProj2Ideal.nD Cert.ReferenceProj2Ideal.τ).loc Cert.ReferenceProj2Ideal.main_arg2))
      ∧ r.2.sem = fun _ => 0)

def quiescent_KernelProj3 [hKernelProj3 : Cert.KernelProj3.Facts] : Prop :=
  ∀ (m : (ℓ : Loc Cert.KernelProj3.nD Cert.KernelProj3.τ Cert.KernelProj3.sig) → Buf (Elt Bits) ℓ) (g : Dev Cert.KernelProj3.nD → PrngReg), Pre_KernelProj3 m →
    θ_run (Cert.KernelProj3.defs (F := Bits)) (onTc (τ := Cert.KernelProj3.τ) (Cert.KernelProj3.main (F := Bits))) ⟨m, fun _ => 0, g⟩ (fun r => (∀ c : Dev Cert.KernelProj3.nD,
      r.2.mem ((c.tc : Thread Cert.KernelProj3.nD Cert.KernelProj3.τ).loc Cert.KernelProj3.main_arg0) = m ((c.tc : Thread Cert.KernelProj3.nD Cert.KernelProj3.τ).loc Cert.KernelProj3.main_arg0)
      ∧ r.2.mem ((c.tc : Thread Cert.KernelProj3.nD Cert.KernelProj3.τ).loc Cert.KernelProj3.main_arg1) = m ((c.tc : Thread Cert.KernelProj3.nD Cert.KernelProj3.τ).loc Cert.KernelProj3.main_arg1)
      ∧ r.2.mem ((c.tc : Thread Cert.KernelProj3.nD Cert.KernelProj3.τ).loc Cert.KernelProj3.main_arg2) = m ((c.tc : Thread Cert.KernelProj3.nD Cert.KernelProj3.τ).loc Cert.KernelProj3.main_arg2))
      ∧ r.2.sem = fun _ => 0)

def quiescent_KernelProj3Ideal [hKernelProj3Ideal : Cert.KernelProj3Ideal.Facts] : Prop :=
  ∀ (m : (ℓ : Loc Cert.KernelProj3Ideal.nD Cert.KernelProj3Ideal.τ Cert.KernelProj3Ideal.sig) → Buf (Elt Ideal) ℓ) (g : Dev Cert.KernelProj3Ideal.nD → PrngReg), Pre_KernelProj3Ideal m →
    θ_run (Cert.KernelProj3Ideal.defs (F := Ideal)) (onTc (τ := Cert.KernelProj3Ideal.τ) (Cert.KernelProj3Ideal.main (F := Ideal))) ⟨m, fun _ => 0, g⟩ (fun r => (∀ c : Dev Cert.KernelProj3Ideal.nD,
      r.2.mem ((c.tc : Thread Cert.KernelProj3Ideal.nD Cert.KernelProj3Ideal.τ).loc Cert.KernelProj3Ideal.main_arg0) = m ((c.tc : Thread Cert.KernelProj3Ideal.nD Cert.KernelProj3Ideal.τ).loc Cert.KernelProj3Ideal.main_arg0)
      ∧ r.2.mem ((c.tc : Thread Cert.KernelProj3Ideal.nD Cert.KernelProj3Ideal.τ).loc Cert.KernelProj3Ideal.main_arg1) = m ((c.tc : Thread Cert.KernelProj3Ideal.nD Cert.KernelProj3Ideal.τ).loc Cert.KernelProj3Ideal.main_arg1)
      ∧ r.2.mem ((c.tc : Thread Cert.KernelProj3Ideal.nD Cert.KernelProj3Ideal.τ).loc Cert.KernelProj3Ideal.main_arg2) = m ((c.tc : Thread Cert.KernelProj3Ideal.nD Cert.KernelProj3Ideal.τ).loc Cert.KernelProj3Ideal.main_arg2))
      ∧ r.2.sem = fun _ => 0)

def quiescent_ReferenceProj3Ideal [hReferenceProj3Ideal : Cert.ReferenceProj3Ideal.Facts] : Prop :=
  ∀ (m : (ℓ : Loc Cert.ReferenceProj3Ideal.nD Cert.ReferenceProj3Ideal.τ Cert.ReferenceProj3Ideal.sig) → Buf (Elt Ideal) ℓ) (g : Dev Cert.ReferenceProj3Ideal.nD → PrngReg), Pre_ReferenceProj3Ideal m →
    θ_run (Cert.ReferenceProj3Ideal.defs (F := Ideal)) (onTc (τ := Cert.ReferenceProj3Ideal.τ) (Cert.ReferenceProj3Ideal.main (F := Ideal))) ⟨m, fun _ => 0, g⟩ (fun r => (∀ c : Dev Cert.ReferenceProj3Ideal.nD,
      r.2.mem ((c.tc : Thread Cert.ReferenceProj3Ideal.nD Cert.ReferenceProj3Ideal.τ).loc Cert.ReferenceProj3Ideal.main_arg0) = m ((c.tc : Thread Cert.ReferenceProj3Ideal.nD Cert.ReferenceProj3Ideal.τ).loc Cert.ReferenceProj3Ideal.main_arg0)
      ∧ r.2.mem ((c.tc : Thread Cert.ReferenceProj3Ideal.nD Cert.ReferenceProj3Ideal.τ).loc Cert.ReferenceProj3Ideal.main_arg1) = m ((c.tc : Thread Cert.ReferenceProj3Ideal.nD Cert.ReferenceProj3Ideal.τ).loc Cert.ReferenceProj3Ideal.main_arg1)
      ∧ r.2.mem ((c.tc : Thread Cert.ReferenceProj3Ideal.nD Cert.ReferenceProj3Ideal.τ).loc Cert.ReferenceProj3Ideal.main_arg2) = m ((c.tc : Thread Cert.ReferenceProj3Ideal.nD Cert.ReferenceProj3Ideal.τ).loc Cert.ReferenceProj3Ideal.main_arg2))
      ∧ r.2.sem = fun _ => 0)

def quiescent_KernelProj4 [hKernelProj4 : Cert.KernelProj4.Facts] : Prop :=
  ∀ (m : (ℓ : Loc Cert.KernelProj4.nD Cert.KernelProj4.τ Cert.KernelProj4.sig) → Buf (Elt Bits) ℓ) (g : Dev Cert.KernelProj4.nD → PrngReg), Pre_KernelProj4 m →
    θ_run (Cert.KernelProj4.defs (F := Bits)) (onTc (τ := Cert.KernelProj4.τ) (Cert.KernelProj4.main (F := Bits))) ⟨m, fun _ => 0, g⟩ (fun r => (∀ c : Dev Cert.KernelProj4.nD,
      r.2.mem ((c.tc : Thread Cert.KernelProj4.nD Cert.KernelProj4.τ).loc Cert.KernelProj4.main_arg0) = m ((c.tc : Thread Cert.KernelProj4.nD Cert.KernelProj4.τ).loc Cert.KernelProj4.main_arg0)
      ∧ r.2.mem ((c.tc : Thread Cert.KernelProj4.nD Cert.KernelProj4.τ).loc Cert.KernelProj4.main_arg1) = m ((c.tc : Thread Cert.KernelProj4.nD Cert.KernelProj4.τ).loc Cert.KernelProj4.main_arg1)
      ∧ r.2.mem ((c.tc : Thread Cert.KernelProj4.nD Cert.KernelProj4.τ).loc Cert.KernelProj4.main_arg2) = m ((c.tc : Thread Cert.KernelProj4.nD Cert.KernelProj4.τ).loc Cert.KernelProj4.main_arg2))
      ∧ r.2.sem = fun _ => 0)

def quiescent_KernelProj4Ideal [hKernelProj4Ideal : Cert.KernelProj4Ideal.Facts] : Prop :=
  ∀ (m : (ℓ : Loc Cert.KernelProj4Ideal.nD Cert.KernelProj4Ideal.τ Cert.KernelProj4Ideal.sig) → Buf (Elt Ideal) ℓ) (g : Dev Cert.KernelProj4Ideal.nD → PrngReg), Pre_KernelProj4Ideal m →
    θ_run (Cert.KernelProj4Ideal.defs (F := Ideal)) (onTc (τ := Cert.KernelProj4Ideal.τ) (Cert.KernelProj4Ideal.main (F := Ideal))) ⟨m, fun _ => 0, g⟩ (fun r => (∀ c : Dev Cert.KernelProj4Ideal.nD,
      r.2.mem ((c.tc : Thread Cert.KernelProj4Ideal.nD Cert.KernelProj4Ideal.τ).loc Cert.KernelProj4Ideal.main_arg0) = m ((c.tc : Thread Cert.KernelProj4Ideal.nD Cert.KernelProj4Ideal.τ).loc Cert.KernelProj4Ideal.main_arg0)
      ∧ r.2.mem ((c.tc : Thread Cert.KernelProj4Ideal.nD Cert.KernelProj4Ideal.τ).loc Cert.KernelProj4Ideal.main_arg1) = m ((c.tc : Thread Cert.KernelProj4Ideal.nD Cert.KernelProj4Ideal.τ).loc Cert.KernelProj4Ideal.main_arg1)
      ∧ r.2.mem ((c.tc : Thread Cert.KernelProj4Ideal.nD Cert.KernelProj4Ideal.τ).loc Cert.KernelProj4Ideal.main_arg2) = m ((c.tc : Thread Cert.KernelProj4Ideal.nD Cert.KernelProj4Ideal.τ).loc Cert.KernelProj4Ideal.main_arg2))
      ∧ r.2.sem = fun _ => 0)

def quiescent_ReferenceProj4Ideal [hReferenceProj4Ideal : Cert.ReferenceProj4Ideal.Facts] : Prop :=
  ∀ (m : (ℓ : Loc Cert.ReferenceProj4Ideal.nD Cert.ReferenceProj4Ideal.τ Cert.ReferenceProj4Ideal.sig) → Buf (Elt Ideal) ℓ) (g : Dev Cert.ReferenceProj4Ideal.nD → PrngReg), Pre_ReferenceProj4Ideal m →
    θ_run (Cert.ReferenceProj4Ideal.defs (F := Ideal)) (onTc (τ := Cert.ReferenceProj4Ideal.τ) (Cert.ReferenceProj4Ideal.main (F := Ideal))) ⟨m, fun _ => 0, g⟩ (fun r => (∀ c : Dev Cert.ReferenceProj4Ideal.nD,
      r.2.mem ((c.tc : Thread Cert.ReferenceProj4Ideal.nD Cert.ReferenceProj4Ideal.τ).loc Cert.ReferenceProj4Ideal.main_arg0) = m ((c.tc : Thread Cert.ReferenceProj4Ideal.nD Cert.ReferenceProj4Ideal.τ).loc Cert.ReferenceProj4Ideal.main_arg0)
      ∧ r.2.mem ((c.tc : Thread Cert.ReferenceProj4Ideal.nD Cert.ReferenceProj4Ideal.τ).loc Cert.ReferenceProj4Ideal.main_arg1) = m ((c.tc : Thread Cert.ReferenceProj4Ideal.nD Cert.ReferenceProj4Ideal.τ).loc Cert.ReferenceProj4Ideal.main_arg1)
      ∧ r.2.mem ((c.tc : Thread Cert.ReferenceProj4Ideal.nD Cert.ReferenceProj4Ideal.τ).loc Cert.ReferenceProj4Ideal.main_arg2) = m ((c.tc : Thread Cert.ReferenceProj4Ideal.nD Cert.ReferenceProj4Ideal.τ).loc Cert.ReferenceProj4Ideal.main_arg2))
      ∧ r.2.sem = fun _ => 0)

def quiescent_KernelOutProj [hKernelOutProj : Cert.KernelOutProj.Facts] : Prop :=
  ∀ (m : (ℓ : Loc Cert.KernelOutProj.nD Cert.KernelOutProj.τ Cert.KernelOutProj.sig) → Buf (Elt Bits) ℓ) (g : Dev Cert.KernelOutProj.nD → PrngReg), Pre_KernelOutProj m →
    θ_run (Cert.KernelOutProj.defs (F := Bits)) (onTc (τ := Cert.KernelOutProj.τ) (Cert.KernelOutProj.main (F := Bits))) ⟨m, fun _ => 0, g⟩ (fun r => (∀ c : Dev Cert.KernelOutProj.nD,
      r.2.mem ((c.tc : Thread Cert.KernelOutProj.nD Cert.KernelOutProj.τ).loc Cert.KernelOutProj.main_arg0) = m ((c.tc : Thread Cert.KernelOutProj.nD Cert.KernelOutProj.τ).loc Cert.KernelOutProj.main_arg0)
      ∧ r.2.mem ((c.tc : Thread Cert.KernelOutProj.nD Cert.KernelOutProj.τ).loc Cert.KernelOutProj.main_arg1) = m ((c.tc : Thread Cert.KernelOutProj.nD Cert.KernelOutProj.τ).loc Cert.KernelOutProj.main_arg1)
      ∧ r.2.mem ((c.tc : Thread Cert.KernelOutProj.nD Cert.KernelOutProj.τ).loc Cert.KernelOutProj.main_arg2) = m ((c.tc : Thread Cert.KernelOutProj.nD Cert.KernelOutProj.τ).loc Cert.KernelOutProj.main_arg2)
      ∧ r.2.mem ((c.tc : Thread Cert.KernelOutProj.nD Cert.KernelOutProj.τ).loc Cert.KernelOutProj.main_arg3) = m ((c.tc : Thread Cert.KernelOutProj.nD Cert.KernelOutProj.τ).loc Cert.KernelOutProj.main_arg3))
      ∧ r.2.sem = fun _ => 0)

def quiescent_KernelOutProjIdeal [hKernelOutProjIdeal : Cert.KernelOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg), Pre_KernelOutProjIdeal m →
    θ_run (Cert.KernelOutProjIdeal.defs (F := Ideal)) (onTc (τ := Cert.KernelOutProjIdeal.τ) (Cert.KernelOutProjIdeal.main (F := Ideal))) ⟨m, fun _ => 0, g⟩ (fun r => (∀ c : Dev Cert.KernelOutProjIdeal.nD,
      r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
      ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
      ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2)
      ∧ r.2.mem ((c.tc : Thread Cert.KernelOutProjIdeal.nD Cert.KernelOutProjIdeal.τ).loc Cert.KernelOutProjIdeal.main_arg3) = m ((c.tc : Thread Cert.KernelOutProjIdeal.nD Cert.KernelOutProjIdeal.τ).loc Cert.KernelOutProjIdeal.main_arg3))
      ∧ r.2.sem = fun _ => 0)

def quiescent_ReferenceOutProjIdeal [hReferenceOutProjIdeal : Cert.ReferenceOutProjIdeal.Facts] : Prop :=
  ∀ (m : (ℓ : Loc Cert.ReferenceOutProjIdeal.nD Cert.ReferenceOutProjIdeal.τ Cert.ReferenceOutProjIdeal.sig) → Buf (Elt Ideal) ℓ) (g : Dev Cert.ReferenceOutProjIdeal.nD → PrngReg), Pre_ReferenceOutProjIdeal m →
    θ_run (Cert.ReferenceOutProjIdeal.defs (F := Ideal)) (onTc (τ := Cert.ReferenceOutProjIdeal.τ) (Cert.ReferenceOutProjIdeal.main (F := Ideal))) ⟨m, fun _ => 0, g⟩ (fun r => (∀ c : Dev Cert.ReferenceOutProjIdeal.nD,
      r.2.mem ((c.tc : Thread Cert.ReferenceOutProjIdeal.nD Cert.ReferenceOutProjIdeal.τ).loc Cert.ReferenceOutProjIdeal.main_arg0) = m ((c.tc : Thread Cert.ReferenceOutProjIdeal.nD Cert.ReferenceOutProjIdeal.τ).loc Cert.ReferenceOutProjIdeal.main_arg0)
      ∧ r.2.mem ((c.tc : Thread Cert.ReferenceOutProjIdeal.nD Cert.ReferenceOutProjIdeal.τ).loc Cert.ReferenceOutProjIdeal.main_arg1) = m ((c.tc : Thread Cert.ReferenceOutProjIdeal.nD Cert.ReferenceOutProjIdeal.τ).loc Cert.ReferenceOutProjIdeal.main_arg1)
      ∧ r.2.mem ((c.tc : Thread Cert.ReferenceOutProjIdeal.nD Cert.ReferenceOutProjIdeal.τ).loc Cert.ReferenceOutProjIdeal.main_arg2) = m ((c.tc : Thread Cert.ReferenceOutProjIdeal.nD Cert.ReferenceOutProjIdeal.τ).loc Cert.ReferenceOutProjIdeal.main_arg2)
      ∧ r.2.mem ((c.tc : Thread Cert.ReferenceOutProjIdeal.nD Cert.ReferenceOutProjIdeal.τ).loc Cert.ReferenceOutProjIdeal.main_arg3) = m ((c.tc : Thread Cert.ReferenceOutProjIdeal.nD Cert.ReferenceOutProjIdeal.τ).loc Cert.ReferenceOutProjIdeal.main_arg3))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3)
      ∧ r.2.mem ((c.tc : Thread Cert.KernelGate.nD Cert.KernelGate.τ).loc Cert.KernelGate.main_arg4) = m ((c.tc : Thread Cert.KernelGate.nD Cert.KernelGate.τ).loc Cert.KernelGate.main_arg4)
      ∧ r.2.mem ((c.tc : Thread Cert.KernelGate.nD Cert.KernelGate.τ).loc Cert.KernelGate.main_arg5) = m ((c.tc : Thread Cert.KernelGate.nD Cert.KernelGate.τ).loc Cert.KernelGate.main_arg5)
      ∧ r.2.mem ((c.tc : Thread Cert.KernelGate.nD Cert.KernelGate.τ).loc Cert.KernelGate.main_arg6) = m ((c.tc : Thread Cert.KernelGate.nD Cert.KernelGate.τ).loc Cert.KernelGate.main_arg6))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
      ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
      ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5)
      ∧ r.2.mem ((c.tc : Thread Cert.KernelGateIdeal.nD Cert.KernelGateIdeal.τ).loc Cert.KernelGateIdeal.main_arg6) = m ((c.tc : Thread Cert.KernelGateIdeal.nD Cert.KernelGateIdeal.τ).loc Cert.KernelGateIdeal.main_arg6))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4)
      ∧ r.2.mem ((c.tc : Thread Cert.ReferenceGateIdeal.nD Cert.ReferenceGateIdeal.τ).loc Cert.ReferenceGateIdeal.main_arg5) = m ((c.tc : Thread Cert.ReferenceGateIdeal.nD Cert.ReferenceGateIdeal.τ).loc Cert.ReferenceGateIdeal.main_arg5)
      ∧ r.2.mem ((c.tc : Thread Cert.ReferenceGateIdeal.nD Cert.ReferenceGateIdeal.τ).loc Cert.ReferenceGateIdeal.main_arg6) = m ((c.tc : Thread Cert.ReferenceGateIdeal.nD Cert.ReferenceGateIdeal.τ).loc Cert.ReferenceGateIdeal.main_arg6))
      ∧ r.2.sem = fun _ => 0)

def quiescent_KernelAttnGate [hKernelAttnGate : Cert.KernelAttnGate.Facts] : Prop :=
  ∀ (m : (ℓ : Loc Cert.KernelAttnGate.nD Cert.KernelAttnGate.τ Cert.KernelAttnGate.sig) → Buf (Elt Bits) ℓ) (g : Dev Cert.KernelAttnGate.nD → PrngReg), Pre_KernelAttnGate m →
    θ_run (Cert.KernelAttnGate.defs (F := Bits)) (onTc (τ := Cert.KernelAttnGate.τ) (Cert.KernelAttnGate.main (F := Bits))) ⟨m, fun _ => 0, g⟩ (fun r => (∀ c : Dev Cert.KernelAttnGate.nD,
      r.2.mem ((c.tc : Thread Cert.KernelAttnGate.nD Cert.KernelAttnGate.τ).loc Cert.KernelAttnGate.main_arg0) = m ((c.tc : Thread Cert.KernelAttnGate.nD Cert.KernelAttnGate.τ).loc Cert.KernelAttnGate.main_arg0)
      ∧ r.2.mem ((c.tc : Thread Cert.KernelAttnGate.nD Cert.KernelAttnGate.τ).loc Cert.KernelAttnGate.main_arg1) = m ((c.tc : Thread Cert.KernelAttnGate.nD Cert.KernelAttnGate.τ).loc Cert.KernelAttnGate.main_arg1)
      ∧ r.2.mem ((c.tc : Thread Cert.KernelAttnGate.nD Cert.KernelAttnGate.τ).loc Cert.KernelAttnGate.main_arg2) = m ((c.tc : Thread Cert.KernelAttnGate.nD Cert.KernelAttnGate.τ).loc Cert.KernelAttnGate.main_arg2)
      ∧ r.2.mem ((c.tc : Thread Cert.KernelAttnGate.nD Cert.KernelAttnGate.τ).loc Cert.KernelAttnGate.main_arg3) = m ((c.tc : Thread Cert.KernelAttnGate.nD Cert.KernelAttnGate.τ).loc Cert.KernelAttnGate.main_arg3)
      ∧ r.2.mem ((c.tc : Thread Cert.KernelAttnGate.nD Cert.KernelAttnGate.τ).loc Cert.KernelAttnGate.main_arg4) = m ((c.tc : Thread Cert.KernelAttnGate.nD Cert.KernelAttnGate.τ).loc Cert.KernelAttnGate.main_arg4))
      ∧ r.2.sem = fun _ => 0)

def quiescent_KernelAttnGateIdeal [hKernelAttnGateIdeal : Cert.KernelAttnGateIdeal.Facts] : Prop :=
  ∀ (m : (ℓ : Loc Cert.KernelAttnGateIdeal.nD Cert.KernelAttnGateIdeal.τ Cert.KernelAttnGateIdeal.sig) → Buf (Elt Ideal) ℓ) (g : Dev Cert.KernelAttnGateIdeal.nD → PrngReg), Pre_KernelAttnGateIdeal m →
    θ_run (Cert.KernelAttnGateIdeal.defs (F := Ideal)) (onTc (τ := Cert.KernelAttnGateIdeal.τ) (Cert.KernelAttnGateIdeal.main (F := Ideal))) ⟨m, fun _ => 0, g⟩ (fun r => (∀ c : Dev Cert.KernelAttnGateIdeal.nD,
      r.2.mem ((c.tc : Thread Cert.KernelAttnGateIdeal.nD Cert.KernelAttnGateIdeal.τ).loc Cert.KernelAttnGateIdeal.main_arg0) = m ((c.tc : Thread Cert.KernelAttnGateIdeal.nD Cert.KernelAttnGateIdeal.τ).loc Cert.KernelAttnGateIdeal.main_arg0)
      ∧ r.2.mem ((c.tc : Thread Cert.KernelAttnGateIdeal.nD Cert.KernelAttnGateIdeal.τ).loc Cert.KernelAttnGateIdeal.main_arg1) = m ((c.tc : Thread Cert.KernelAttnGateIdeal.nD Cert.KernelAttnGateIdeal.τ).loc Cert.KernelAttnGateIdeal.main_arg1)
      ∧ r.2.mem ((c.tc : Thread Cert.KernelAttnGateIdeal.nD Cert.KernelAttnGateIdeal.τ).loc Cert.KernelAttnGateIdeal.main_arg2) = m ((c.tc : Thread Cert.KernelAttnGateIdeal.nD Cert.KernelAttnGateIdeal.τ).loc Cert.KernelAttnGateIdeal.main_arg2)
      ∧ r.2.mem ((c.tc : Thread Cert.KernelAttnGateIdeal.nD Cert.KernelAttnGateIdeal.τ).loc Cert.KernelAttnGateIdeal.main_arg3) = m ((c.tc : Thread Cert.KernelAttnGateIdeal.nD Cert.KernelAttnGateIdeal.τ).loc Cert.KernelAttnGateIdeal.main_arg3)
      ∧ r.2.mem ((c.tc : Thread Cert.KernelAttnGateIdeal.nD Cert.KernelAttnGateIdeal.τ).loc Cert.KernelAttnGateIdeal.main_arg4) = m ((c.tc : Thread Cert.KernelAttnGateIdeal.nD Cert.KernelAttnGateIdeal.τ).loc Cert.KernelAttnGateIdeal.main_arg4))
      ∧ r.2.sem = fun _ => 0)

def quiescent_KernelAttnGateIdeal_pre_finite_attn_gate [hKernelAttnGateIdeal : Cert.KernelAttnGateIdeal.Facts] [hPre_finite_attn_gate : Cert.Pre_finite_attn_gate.Facts] : Prop :=
  ∀ (m : (ℓ : Loc Cert.KernelAttnGateIdeal.nD Cert.KernelAttnGateIdeal.τ Cert.KernelAttnGateIdeal.sig) → Buf (Elt Ideal) ℓ) (g : Dev Cert.KernelAttnGateIdeal.nD → PrngReg), Pre_KernelAttnGateIdeal_finite_attn_gate m →
    θ_run (Cert.KernelAttnGateIdeal.defs (F := Ideal)) (onTc (τ := Cert.KernelAttnGateIdeal.τ) (Cert.KernelAttnGateIdeal.main (F := Ideal))) ⟨m, fun _ => 0, g⟩ (fun r => (∀ c : Dev Cert.KernelAttnGateIdeal.nD,
      r.2.mem ((c.tc : Thread Cert.KernelAttnGateIdeal.nD Cert.KernelAttnGateIdeal.τ).loc Cert.KernelAttnGateIdeal.main_arg0) = m ((c.tc : Thread Cert.KernelAttnGateIdeal.nD Cert.KernelAttnGateIdeal.τ).loc Cert.KernelAttnGateIdeal.main_arg0)
      ∧ r.2.mem ((c.tc : Thread Cert.KernelAttnGateIdeal.nD Cert.KernelAttnGateIdeal.τ).loc Cert.KernelAttnGateIdeal.main_arg1) = m ((c.tc : Thread Cert.KernelAttnGateIdeal.nD Cert.KernelAttnGateIdeal.τ).loc Cert.KernelAttnGateIdeal.main_arg1)
      ∧ r.2.mem ((c.tc : Thread Cert.KernelAttnGateIdeal.nD Cert.KernelAttnGateIdeal.τ).loc Cert.KernelAttnGateIdeal.main_arg2) = m ((c.tc : Thread Cert.KernelAttnGateIdeal.nD Cert.KernelAttnGateIdeal.τ).loc Cert.KernelAttnGateIdeal.main_arg2)
      ∧ r.2.mem ((c.tc : Thread Cert.KernelAttnGateIdeal.nD Cert.KernelAttnGateIdeal.τ).loc Cert.KernelAttnGateIdeal.main_arg3) = m ((c.tc : Thread Cert.KernelAttnGateIdeal.nD Cert.KernelAttnGateIdeal.τ).loc Cert.KernelAttnGateIdeal.main_arg3)
      ∧ r.2.mem ((c.tc : Thread Cert.KernelAttnGateIdeal.nD Cert.KernelAttnGateIdeal.τ).loc Cert.KernelAttnGateIdeal.main_arg4) = m ((c.tc : Thread Cert.KernelAttnGateIdeal.nD Cert.KernelAttnGateIdeal.τ).loc Cert.KernelAttnGateIdeal.main_arg4))
      ∧ r.2.sem = fun _ => 0)

def quiescent_ReferenceAttnGateIdeal [hReferenceAttnGateIdeal : Cert.ReferenceAttnGateIdeal.Facts] : Prop :=
  ∀ (m : (ℓ : Loc Cert.ReferenceAttnGateIdeal.nD Cert.ReferenceAttnGateIdeal.τ Cert.ReferenceAttnGateIdeal.sig) → Buf (Elt Ideal) ℓ) (g : Dev Cert.ReferenceAttnGateIdeal.nD → PrngReg), Pre_ReferenceAttnGateIdeal m →
    θ_run (Cert.ReferenceAttnGateIdeal.defs (F := Ideal)) (onTc (τ := Cert.ReferenceAttnGateIdeal.τ) (Cert.ReferenceAttnGateIdeal.main (F := Ideal))) ⟨m, fun _ => 0, g⟩ (fun r => (∀ c : Dev Cert.ReferenceAttnGateIdeal.nD,
      r.2.mem ((c.tc : Thread Cert.ReferenceAttnGateIdeal.nD Cert.ReferenceAttnGateIdeal.τ).loc Cert.ReferenceAttnGateIdeal.main_arg0) = m ((c.tc : Thread Cert.ReferenceAttnGateIdeal.nD Cert.ReferenceAttnGateIdeal.τ).loc Cert.ReferenceAttnGateIdeal.main_arg0)
      ∧ r.2.mem ((c.tc : Thread Cert.ReferenceAttnGateIdeal.nD Cert.ReferenceAttnGateIdeal.τ).loc Cert.ReferenceAttnGateIdeal.main_arg1) = m ((c.tc : Thread Cert.ReferenceAttnGateIdeal.nD Cert.ReferenceAttnGateIdeal.τ).loc Cert.ReferenceAttnGateIdeal.main_arg1)
      ∧ r.2.mem ((c.tc : Thread Cert.ReferenceAttnGateIdeal.nD Cert.ReferenceAttnGateIdeal.τ).loc Cert.ReferenceAttnGateIdeal.main_arg2) = m ((c.tc : Thread Cert.ReferenceAttnGateIdeal.nD Cert.ReferenceAttnGateIdeal.τ).loc Cert.ReferenceAttnGateIdeal.main_arg2)
      ∧ r.2.mem ((c.tc : Thread Cert.ReferenceAttnGateIdeal.nD Cert.ReferenceAttnGateIdeal.τ).loc Cert.ReferenceAttnGateIdeal.main_arg3) = m ((c.tc : Thread Cert.ReferenceAttnGateIdeal.nD Cert.ReferenceAttnGateIdeal.τ).loc Cert.ReferenceAttnGateIdeal.main_arg3)
      ∧ r.2.mem ((c.tc : Thread Cert.ReferenceAttnGateIdeal.nD Cert.ReferenceAttnGateIdeal.τ).loc Cert.ReferenceAttnGateIdeal.main_arg4) = m ((c.tc : Thread Cert.ReferenceAttnGateIdeal.nD Cert.ReferenceAttnGateIdeal.τ).loc Cert.ReferenceAttnGateIdeal.main_arg4))
      ∧ r.2.sem = fun _ => 0)

def quiescent_ReferenceAttnGateIdeal_pre_finite_attn_gate [hReferenceAttnGateIdeal : Cert.ReferenceAttnGateIdeal.Facts] [hPre_finite_attn_gate : Cert.Pre_finite_attn_gate.Facts] : Prop :=
  ∀ (m : (ℓ : Loc Cert.ReferenceAttnGateIdeal.nD Cert.ReferenceAttnGateIdeal.τ Cert.ReferenceAttnGateIdeal.sig) → Buf (Elt Ideal) ℓ) (g : Dev Cert.ReferenceAttnGateIdeal.nD → PrngReg), Pre_ReferenceAttnGateIdeal_finite_attn_gate m →
    θ_run (Cert.ReferenceAttnGateIdeal.defs (F := Ideal)) (onTc (τ := Cert.ReferenceAttnGateIdeal.τ) (Cert.ReferenceAttnGateIdeal.main (F := Ideal))) ⟨m, fun _ => 0, g⟩ (fun r => (∀ c : Dev Cert.ReferenceAttnGateIdeal.nD,
      r.2.mem ((c.tc : Thread Cert.ReferenceAttnGateIdeal.nD Cert.ReferenceAttnGateIdeal.τ).loc Cert.ReferenceAttnGateIdeal.main_arg0) = m ((c.tc : Thread Cert.ReferenceAttnGateIdeal.nD Cert.ReferenceAttnGateIdeal.τ).loc Cert.ReferenceAttnGateIdeal.main_arg0)
      ∧ r.2.mem ((c.tc : Thread Cert.ReferenceAttnGateIdeal.nD Cert.ReferenceAttnGateIdeal.τ).loc Cert.ReferenceAttnGateIdeal.main_arg1) = m ((c.tc : Thread Cert.ReferenceAttnGateIdeal.nD Cert.ReferenceAttnGateIdeal.τ).loc Cert.ReferenceAttnGateIdeal.main_arg1)
      ∧ r.2.mem ((c.tc : Thread Cert.ReferenceAttnGateIdeal.nD Cert.ReferenceAttnGateIdeal.τ).loc Cert.ReferenceAttnGateIdeal.main_arg2) = m ((c.tc : Thread Cert.ReferenceAttnGateIdeal.nD Cert.ReferenceAttnGateIdeal.τ).loc Cert.ReferenceAttnGateIdeal.main_arg2)
      ∧ r.2.mem ((c.tc : Thread Cert.ReferenceAttnGateIdeal.nD Cert.ReferenceAttnGateIdeal.τ).loc Cert.ReferenceAttnGateIdeal.main_arg3) = m ((c.tc : Thread Cert.ReferenceAttnGateIdeal.nD Cert.ReferenceAttnGateIdeal.τ).loc Cert.ReferenceAttnGateIdeal.main_arg3)
      ∧ r.2.mem ((c.tc : Thread Cert.ReferenceAttnGateIdeal.nD Cert.ReferenceAttnGateIdeal.τ).loc Cert.ReferenceAttnGateIdeal.main_arg4) = m ((c.tc : Thread Cert.ReferenceAttnGateIdeal.nD Cert.ReferenceAttnGateIdeal.τ).loc Cert.ReferenceAttnGateIdeal.main_arg4))
      ∧ r.2.sem = fun _ => 0)

def quiescent_KernelPoolGate [hKernelPoolGate : Cert.KernelPoolGate.Facts] : Prop :=
  ∀ (m : (ℓ : Loc Cert.KernelPoolGate.nD Cert.KernelPoolGate.τ Cert.KernelPoolGate.sig) → Buf (Elt Bits) ℓ) (g : Dev Cert.KernelPoolGate.nD → PrngReg), Pre_KernelPoolGate m →
    θ_run (Cert.KernelPoolGate.defs (F := Bits)) (onTc (τ := Cert.KernelPoolGate.τ) (Cert.KernelPoolGate.main (F := Bits))) ⟨m, fun _ => 0, g⟩ (fun r => (∀ c : Dev Cert.KernelPoolGate.nD,
      r.2.mem ((c.tc : Thread Cert.KernelPoolGate.nD Cert.KernelPoolGate.τ).loc Cert.KernelPoolGate.main_arg0) = m ((c.tc : Thread Cert.KernelPoolGate.nD Cert.KernelPoolGate.τ).loc Cert.KernelPoolGate.main_arg0)
      ∧ r.2.mem ((c.tc : Thread Cert.KernelPoolGate.nD Cert.KernelPoolGate.τ).loc Cert.KernelPoolGate.main_arg1) = m ((c.tc : Thread Cert.KernelPoolGate.nD Cert.KernelPoolGate.τ).loc Cert.KernelPoolGate.main_arg1)
      ∧ r.2.mem ((c.tc : Thread Cert.KernelPoolGate.nD Cert.KernelPoolGate.τ).loc Cert.KernelPoolGate.main_arg2) = m ((c.tc : Thread Cert.KernelPoolGate.nD Cert.KernelPoolGate.τ).loc Cert.KernelPoolGate.main_arg2)
      ∧ r.2.mem ((c.tc : Thread Cert.KernelPoolGate.nD Cert.KernelPoolGate.τ).loc Cert.KernelPoolGate.main_arg3) = m ((c.tc : Thread Cert.KernelPoolGate.nD Cert.KernelPoolGate.τ).loc Cert.KernelPoolGate.main_arg3)
      ∧ r.2.mem ((c.tc : Thread Cert.KernelPoolGate.nD Cert.KernelPoolGate.τ).loc Cert.KernelPoolGate.main_arg4) = m ((c.tc : Thread Cert.KernelPoolGate.nD Cert.KernelPoolGate.τ).loc Cert.KernelPoolGate.main_arg4)
      ∧ r.2.mem ((c.tc : Thread Cert.KernelPoolGate.nD Cert.KernelPoolGate.τ).loc Cert.KernelPoolGate.main_arg5) = m ((c.tc : Thread Cert.KernelPoolGate.nD Cert.KernelPoolGate.τ).loc Cert.KernelPoolGate.main_arg5))
      ∧ r.2.sem = fun _ => 0)

def quiescent_KernelPoolGateIdeal [hKernelPoolGateIdeal : Cert.KernelPoolGateIdeal.Facts] : Prop :=
  ∀ (m : (ℓ : Loc Cert.KernelPoolGateIdeal.nD Cert.KernelPoolGateIdeal.τ Cert.KernelPoolGateIdeal.sig) → Buf (Elt Ideal) ℓ) (g : Dev Cert.KernelPoolGateIdeal.nD → PrngReg), Pre_KernelPoolGateIdeal m →
    θ_run (Cert.KernelPoolGateIdeal.defs (F := Ideal)) (onTc (τ := Cert.KernelPoolGateIdeal.τ) (Cert.KernelPoolGateIdeal.main (F := Ideal))) ⟨m, fun _ => 0, g⟩ (fun r => (∀ c : Dev Cert.KernelPoolGateIdeal.nD,
      r.2.mem ((c.tc : Thread Cert.KernelPoolGateIdeal.nD Cert.KernelPoolGateIdeal.τ).loc Cert.KernelPoolGateIdeal.main_arg0) = m ((c.tc : Thread Cert.KernelPoolGateIdeal.nD Cert.KernelPoolGateIdeal.τ).loc Cert.KernelPoolGateIdeal.main_arg0)
      ∧ r.2.mem ((c.tc : Thread Cert.KernelPoolGateIdeal.nD Cert.KernelPoolGateIdeal.τ).loc Cert.KernelPoolGateIdeal.main_arg1) = m ((c.tc : Thread Cert.KernelPoolGateIdeal.nD Cert.KernelPoolGateIdeal.τ).loc Cert.KernelPoolGateIdeal.main_arg1)
      ∧ r.2.mem ((c.tc : Thread Cert.KernelPoolGateIdeal.nD Cert.KernelPoolGateIdeal.τ).loc Cert.KernelPoolGateIdeal.main_arg2) = m ((c.tc : Thread Cert.KernelPoolGateIdeal.nD Cert.KernelPoolGateIdeal.τ).loc Cert.KernelPoolGateIdeal.main_arg2)
      ∧ r.2.mem ((c.tc : Thread Cert.KernelPoolGateIdeal.nD Cert.KernelPoolGateIdeal.τ).loc Cert.KernelPoolGateIdeal.main_arg3) = m ((c.tc : Thread Cert.KernelPoolGateIdeal.nD Cert.KernelPoolGateIdeal.τ).loc Cert.KernelPoolGateIdeal.main_arg3)
      ∧ r.2.mem ((c.tc : Thread Cert.KernelPoolGateIdeal.nD Cert.KernelPoolGateIdeal.τ).loc Cert.KernelPoolGateIdeal.main_arg4) = m ((c.tc : Thread Cert.KernelPoolGateIdeal.nD Cert.KernelPoolGateIdeal.τ).loc Cert.KernelPoolGateIdeal.main_arg4)
      ∧ r.2.mem ((c.tc : Thread Cert.KernelPoolGateIdeal.nD Cert.KernelPoolGateIdeal.τ).loc Cert.KernelPoolGateIdeal.main_arg5) = m ((c.tc : Thread Cert.KernelPoolGateIdeal.nD Cert.KernelPoolGateIdeal.τ).loc Cert.KernelPoolGateIdeal.main_arg5))
      ∧ r.2.sem = fun _ => 0)

def quiescent_KernelPoolGateIdeal_pre_finite_pool_gate [hKernelPoolGateIdeal : Cert.KernelPoolGateIdeal.Facts] [hPre_finite_pool_gate : Cert.Pre_finite_pool_gate.Facts] : Prop :=
  ∀ (m : (ℓ : Loc Cert.KernelPoolGateIdeal.nD Cert.KernelPoolGateIdeal.τ Cert.KernelPoolGateIdeal.sig) → Buf (Elt Ideal) ℓ) (g : Dev Cert.KernelPoolGateIdeal.nD → PrngReg), Pre_KernelPoolGateIdeal_finite_pool_gate m →
    θ_run (Cert.KernelPoolGateIdeal.defs (F := Ideal)) (onTc (τ := Cert.KernelPoolGateIdeal.τ) (Cert.KernelPoolGateIdeal.main (F := Ideal))) ⟨m, fun _ => 0, g⟩ (fun r => (∀ c : Dev Cert.KernelPoolGateIdeal.nD,
      r.2.mem ((c.tc : Thread Cert.KernelPoolGateIdeal.nD Cert.KernelPoolGateIdeal.τ).loc Cert.KernelPoolGateIdeal.main_arg0) = m ((c.tc : Thread Cert.KernelPoolGateIdeal.nD Cert.KernelPoolGateIdeal.τ).loc Cert.KernelPoolGateIdeal.main_arg0)
      ∧ r.2.mem ((c.tc : Thread Cert.KernelPoolGateIdeal.nD Cert.KernelPoolGateIdeal.τ).loc Cert.KernelPoolGateIdeal.main_arg1) = m ((c.tc : Thread Cert.KernelPoolGateIdeal.nD Cert.KernelPoolGateIdeal.τ).loc Cert.KernelPoolGateIdeal.main_arg1)
      ∧ r.2.mem ((c.tc : Thread Cert.KernelPoolGateIdeal.nD Cert.KernelPoolGateIdeal.τ).loc Cert.KernelPoolGateIdeal.main_arg2) = m ((c.tc : Thread Cert.KernelPoolGateIdeal.nD Cert.KernelPoolGateIdeal.τ).loc Cert.KernelPoolGateIdeal.main_arg2)
      ∧ r.2.mem ((c.tc : Thread Cert.KernelPoolGateIdeal.nD Cert.KernelPoolGateIdeal.τ).loc Cert.KernelPoolGateIdeal.main_arg3) = m ((c.tc : Thread Cert.KernelPoolGateIdeal.nD Cert.KernelPoolGateIdeal.τ).loc Cert.KernelPoolGateIdeal.main_arg3)
      ∧ r.2.mem ((c.tc : Thread Cert.KernelPoolGateIdeal.nD Cert.KernelPoolGateIdeal.τ).loc Cert.KernelPoolGateIdeal.main_arg4) = m ((c.tc : Thread Cert.KernelPoolGateIdeal.nD Cert.KernelPoolGateIdeal.τ).loc Cert.KernelPoolGateIdeal.main_arg4)
      ∧ r.2.mem ((c.tc : Thread Cert.KernelPoolGateIdeal.nD Cert.KernelPoolGateIdeal.τ).loc Cert.KernelPoolGateIdeal.main_arg5) = m ((c.tc : Thread Cert.KernelPoolGateIdeal.nD Cert.KernelPoolGateIdeal.τ).loc Cert.KernelPoolGateIdeal.main_arg5))
      ∧ r.2.sem = fun _ => 0)

def quiescent_ReferencePoolGateIdeal [hReferencePoolGateIdeal : Cert.ReferencePoolGateIdeal.Facts] : Prop :=
  ∀ (m : (ℓ : Loc Cert.ReferencePoolGateIdeal.nD Cert.ReferencePoolGateIdeal.τ Cert.ReferencePoolGateIdeal.sig) → Buf (Elt Ideal) ℓ) (g : Dev Cert.ReferencePoolGateIdeal.nD → PrngReg), Pre_ReferencePoolGateIdeal m →
    θ_run (Cert.ReferencePoolGateIdeal.defs (F := Ideal)) (onTc (τ := Cert.ReferencePoolGateIdeal.τ) (Cert.ReferencePoolGateIdeal.main (F := Ideal))) ⟨m, fun _ => 0, g⟩ (fun r => (∀ c : Dev Cert.ReferencePoolGateIdeal.nD,
      r.2.mem ((c.tc : Thread Cert.ReferencePoolGateIdeal.nD Cert.ReferencePoolGateIdeal.τ).loc Cert.ReferencePoolGateIdeal.main_arg0) = m ((c.tc : Thread Cert.ReferencePoolGateIdeal.nD Cert.ReferencePoolGateIdeal.τ).loc Cert.ReferencePoolGateIdeal.main_arg0)
      ∧ r.2.mem ((c.tc : Thread Cert.ReferencePoolGateIdeal.nD Cert.ReferencePoolGateIdeal.τ).loc Cert.ReferencePoolGateIdeal.main_arg1) = m ((c.tc : Thread Cert.ReferencePoolGateIdeal.nD Cert.ReferencePoolGateIdeal.τ).loc Cert.ReferencePoolGateIdeal.main_arg1)
      ∧ r.2.mem ((c.tc : Thread Cert.ReferencePoolGateIdeal.nD Cert.ReferencePoolGateIdeal.τ).loc Cert.ReferencePoolGateIdeal.main_arg2) = m ((c.tc : Thread Cert.ReferencePoolGateIdeal.nD Cert.ReferencePoolGateIdeal.τ).loc Cert.ReferencePoolGateIdeal.main_arg2)
      ∧ r.2.mem ((c.tc : Thread Cert.ReferencePoolGateIdeal.nD Cert.ReferencePoolGateIdeal.τ).loc Cert.ReferencePoolGateIdeal.main_arg3) = m ((c.tc : Thread Cert.ReferencePoolGateIdeal.nD Cert.ReferencePoolGateIdeal.τ).loc Cert.ReferencePoolGateIdeal.main_arg3)
      ∧ r.2.mem ((c.tc : Thread Cert.ReferencePoolGateIdeal.nD Cert.ReferencePoolGateIdeal.τ).loc Cert.ReferencePoolGateIdeal.main_arg4) = m ((c.tc : Thread Cert.ReferencePoolGateIdeal.nD Cert.ReferencePoolGateIdeal.τ).loc Cert.ReferencePoolGateIdeal.main_arg4)
      ∧ r.2.mem ((c.tc : Thread Cert.ReferencePoolGateIdeal.nD Cert.ReferencePoolGateIdeal.τ).loc Cert.ReferencePoolGateIdeal.main_arg5) = m ((c.tc : Thread Cert.ReferencePoolGateIdeal.nD Cert.ReferencePoolGateIdeal.τ).loc Cert.ReferencePoolGateIdeal.main_arg5))
      ∧ r.2.sem = fun _ => 0)

def quiescent_ReferencePoolGateIdeal_pre_finite_pool_gate [hReferencePoolGateIdeal : Cert.ReferencePoolGateIdeal.Facts] [hPre_finite_pool_gate : Cert.Pre_finite_pool_gate.Facts] : Prop :=
  ∀ (m : (ℓ : Loc Cert.ReferencePoolGateIdeal.nD Cert.ReferencePoolGateIdeal.τ Cert.ReferencePoolGateIdeal.sig) → Buf (Elt Ideal) ℓ) (g : Dev Cert.ReferencePoolGateIdeal.nD → PrngReg), Pre_ReferencePoolGateIdeal_finite_pool_gate m →
    θ_run (Cert.ReferencePoolGateIdeal.defs (F := Ideal)) (onTc (τ := Cert.ReferencePoolGateIdeal.τ) (Cert.ReferencePoolGateIdeal.main (F := Ideal))) ⟨m, fun _ => 0, g⟩ (fun r => (∀ c : Dev Cert.ReferencePoolGateIdeal.nD,
      r.2.mem ((c.tc : Thread Cert.ReferencePoolGateIdeal.nD Cert.ReferencePoolGateIdeal.τ).loc Cert.ReferencePoolGateIdeal.main_arg0) = m ((c.tc : Thread Cert.ReferencePoolGateIdeal.nD Cert.ReferencePoolGateIdeal.τ).loc Cert.ReferencePoolGateIdeal.main_arg0)
      ∧ r.2.mem ((c.tc : Thread Cert.ReferencePoolGateIdeal.nD Cert.ReferencePoolGateIdeal.τ).loc Cert.ReferencePoolGateIdeal.main_arg1) = m ((c.tc : Thread Cert.ReferencePoolGateIdeal.nD Cert.ReferencePoolGateIdeal.τ).loc Cert.ReferencePoolGateIdeal.main_arg1)
      ∧ r.2.mem ((c.tc : Thread Cert.ReferencePoolGateIdeal.nD Cert.ReferencePoolGateIdeal.τ).loc Cert.ReferencePoolGateIdeal.main_arg2) = m ((c.tc : Thread Cert.ReferencePoolGateIdeal.nD Cert.ReferencePoolGateIdeal.τ).loc Cert.ReferencePoolGateIdeal.main_arg2)
      ∧ r.2.mem ((c.tc : Thread Cert.ReferencePoolGateIdeal.nD Cert.ReferencePoolGateIdeal.τ).loc Cert.ReferencePoolGateIdeal.main_arg3) = m ((c.tc : Thread Cert.ReferencePoolGateIdeal.nD Cert.ReferencePoolGateIdeal.τ).loc Cert.ReferencePoolGateIdeal.main_arg3)
      ∧ r.2.mem ((c.tc : Thread Cert.ReferencePoolGateIdeal.nD Cert.ReferencePoolGateIdeal.τ).loc Cert.ReferencePoolGateIdeal.main_arg4) = m ((c.tc : Thread Cert.ReferencePoolGateIdeal.nD Cert.ReferencePoolGateIdeal.τ).loc Cert.ReferencePoolGateIdeal.main_arg4)
      ∧ r.2.mem ((c.tc : Thread Cert.ReferencePoolGateIdeal.nD Cert.ReferencePoolGateIdeal.τ).loc Cert.ReferencePoolGateIdeal.main_arg5) = m ((c.tc : Thread Cert.ReferencePoolGateIdeal.nD Cert.ReferencePoolGateIdeal.τ).loc Cert.ReferencePoolGateIdeal.main_arg5))
      ∧ r.2.sem = fun _ => 0)

def quiescent_KernelRmsFwd [hKernelRmsFwd : Cert.KernelRmsFwd.Facts] : Prop :=
  ∀ (m : (ℓ : Loc Cert.KernelRmsFwd.nD Cert.KernelRmsFwd.τ Cert.KernelRmsFwd.sig) → Buf (Elt Bits) ℓ) (g : Dev Cert.KernelRmsFwd.nD → PrngReg), Pre_KernelRmsFwd m →
    θ_run (Cert.KernelRmsFwd.defs (F := Bits)) (onTc (τ := Cert.KernelRmsFwd.τ) (Cert.KernelRmsFwd.main (F := Bits))) ⟨m, fun _ => 0, g⟩ (fun r => (∀ c : Dev Cert.KernelRmsFwd.nD,
      r.2.mem ((c.tc : Thread Cert.KernelRmsFwd.nD Cert.KernelRmsFwd.τ).loc Cert.KernelRmsFwd.main_arg0) = m ((c.tc : Thread Cert.KernelRmsFwd.nD Cert.KernelRmsFwd.τ).loc Cert.KernelRmsFwd.main_arg0)
      ∧ r.2.mem ((c.tc : Thread Cert.KernelRmsFwd.nD Cert.KernelRmsFwd.τ).loc Cert.KernelRmsFwd.main_arg1) = m ((c.tc : Thread Cert.KernelRmsFwd.nD Cert.KernelRmsFwd.τ).loc Cert.KernelRmsFwd.main_arg1)
      ∧ r.2.mem ((c.tc : Thread Cert.KernelRmsFwd.nD Cert.KernelRmsFwd.τ).loc Cert.KernelRmsFwd.main_arg2) = m ((c.tc : Thread Cert.KernelRmsFwd.nD Cert.KernelRmsFwd.τ).loc Cert.KernelRmsFwd.main_arg2))
      ∧ r.2.sem = fun _ => 0)

def quiescent_KernelRmsFwdIdeal [hKernelRmsFwdIdeal : Cert.KernelRmsFwdIdeal.Facts] : Prop :=
  ∀ (m : (ℓ : Loc Cert.KernelRmsFwdIdeal.nD Cert.KernelRmsFwdIdeal.τ Cert.KernelRmsFwdIdeal.sig) → Buf (Elt Ideal) ℓ) (g : Dev Cert.KernelRmsFwdIdeal.nD → PrngReg), Pre_KernelRmsFwdIdeal m →
    θ_run (Cert.KernelRmsFwdIdeal.defs (F := Ideal)) (onTc (τ := Cert.KernelRmsFwdIdeal.τ) (Cert.KernelRmsFwdIdeal.main (F := Ideal))) ⟨m, fun _ => 0, g⟩ (fun r => (∀ c : Dev Cert.KernelRmsFwdIdeal.nD,
      r.2.mem ((c.tc : Thread Cert.KernelRmsFwdIdeal.nD Cert.KernelRmsFwdIdeal.τ).loc Cert.KernelRmsFwdIdeal.main_arg0) = m ((c.tc : Thread Cert.KernelRmsFwdIdeal.nD Cert.KernelRmsFwdIdeal.τ).loc Cert.KernelRmsFwdIdeal.main_arg0)
      ∧ r.2.mem ((c.tc : Thread Cert.KernelRmsFwdIdeal.nD Cert.KernelRmsFwdIdeal.τ).loc Cert.KernelRmsFwdIdeal.main_arg1) = m ((c.tc : Thread Cert.KernelRmsFwdIdeal.nD Cert.KernelRmsFwdIdeal.τ).loc Cert.KernelRmsFwdIdeal.main_arg1)
      ∧ r.2.mem ((c.tc : Thread Cert.KernelRmsFwdIdeal.nD Cert.KernelRmsFwdIdeal.τ).loc Cert.KernelRmsFwdIdeal.main_arg2) = m ((c.tc : Thread Cert.KernelRmsFwdIdeal.nD Cert.KernelRmsFwdIdeal.τ).loc Cert.KernelRmsFwdIdeal.main_arg2))
      ∧ r.2.sem = fun _ => 0)

def quiescent_ReferenceRmsFwdIdeal [hReferenceRmsFwdIdeal : Cert.ReferenceRmsFwdIdeal.Facts] : Prop :=
  ∀ (m : (ℓ : Loc Cert.ReferenceRmsFwdIdeal.nD Cert.ReferenceRmsFwdIdeal.τ Cert.ReferenceRmsFwdIdeal.sig) → Buf (Elt Ideal) ℓ) (g : Dev Cert.ReferenceRmsFwdIdeal.nD → PrngReg), Pre_ReferenceRmsFwdIdeal m →
    θ_run (Cert.ReferenceRmsFwdIdeal.defs (F := Ideal)) (onTc (τ := Cert.ReferenceRmsFwdIdeal.τ) (Cert.ReferenceRmsFwdIdeal.main (F := Ideal))) ⟨m, fun _ => 0, g⟩ (fun r => (∀ c : Dev Cert.ReferenceRmsFwdIdeal.nD,
      r.2.mem ((c.tc : Thread Cert.ReferenceRmsFwdIdeal.nD Cert.ReferenceRmsFwdIdeal.τ).loc Cert.ReferenceRmsFwdIdeal.main_arg0) = m ((c.tc : Thread Cert.ReferenceRmsFwdIdeal.nD Cert.ReferenceRmsFwdIdeal.τ).loc Cert.ReferenceRmsFwdIdeal.main_arg0)
      ∧ r.2.mem ((c.tc : Thread Cert.ReferenceRmsFwdIdeal.nD Cert.ReferenceRmsFwdIdeal.τ).loc Cert.ReferenceRmsFwdIdeal.main_arg1) = m ((c.tc : Thread Cert.ReferenceRmsFwdIdeal.nD Cert.ReferenceRmsFwdIdeal.τ).loc Cert.ReferenceRmsFwdIdeal.main_arg1)
      ∧ r.2.mem ((c.tc : Thread Cert.ReferenceRmsFwdIdeal.nD Cert.ReferenceRmsFwdIdeal.τ).loc Cert.ReferenceRmsFwdIdeal.main_arg2) = m ((c.tc : Thread Cert.ReferenceRmsFwdIdeal.nD Cert.ReferenceRmsFwdIdeal.τ).loc Cert.ReferenceRmsFwdIdeal.main_arg2))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamOutAttn [hKernelAdamOutAttn : Cert.KernelAdamOutAttn.Facts] : Prop :=
  ∀ (m : (ℓ : Loc Cert.KernelAdamOutAttn.nD Cert.KernelAdamOutAttn.τ Cert.KernelAdamOutAttn.sig) → Buf (Elt Bits) ℓ) (g : Dev Cert.KernelAdamOutAttn.nD → PrngReg), Pre_KernelAdamOutAttn m →
    θ_run (Cert.KernelAdamOutAttn.defs (F := Bits)) (onTc (τ := Cert.KernelAdamOutAttn.τ) (Cert.KernelAdamOutAttn.main (F := Bits))) ⟨m, fun _ => 0, g⟩ (fun r => (∀ c : Dev Cert.KernelAdamOutAttn.nD,
      r.2.mem ((c.tc : Thread Cert.KernelAdamOutAttn.nD Cert.KernelAdamOutAttn.τ).loc Cert.KernelAdamOutAttn.main_arg0) = m ((c.tc : Thread Cert.KernelAdamOutAttn.nD Cert.KernelAdamOutAttn.τ).loc Cert.KernelAdamOutAttn.main_arg0)
      ∧ r.2.mem ((c.tc : Thread Cert.KernelAdamOutAttn.nD Cert.KernelAdamOutAttn.τ).loc Cert.KernelAdamOutAttn.main_arg1) = m ((c.tc : Thread Cert.KernelAdamOutAttn.nD Cert.KernelAdamOutAttn.τ).loc Cert.KernelAdamOutAttn.main_arg1)
      ∧ r.2.mem ((c.tc : Thread Cert.KernelAdamOutAttn.nD Cert.KernelAdamOutAttn.τ).loc Cert.KernelAdamOutAttn.main_arg2) = m ((c.tc : Thread Cert.KernelAdamOutAttn.nD Cert.KernelAdamOutAttn.τ).loc Cert.KernelAdamOutAttn.main_arg2)
      ∧ r.2.mem ((c.tc : Thread Cert.KernelAdamOutAttn.nD Cert.KernelAdamOutAttn.τ).loc Cert.KernelAdamOutAttn.main_arg3) = m ((c.tc : Thread Cert.KernelAdamOutAttn.nD Cert.KernelAdamOutAttn.τ).loc Cert.KernelAdamOutAttn.main_arg3))
      ∧ r.2.sem = fun _ => 0)

def quiescent_KernelAdamOutAttnIdeal [hKernelAdamOutAttnIdeal : Cert.KernelAdamOutAttnIdeal.Facts] : Prop :=
  ∀ (m : (ℓ : Loc Cert.KernelAdamOutAttnIdeal.nD Cert.KernelAdamOutAttnIdeal.τ Cert.KernelAdamOutAttnIdeal.sig) → Buf (Elt Ideal) ℓ) (g : Dev Cert.KernelAdamOutAttnIdeal.nD → PrngReg), Pre_KernelAdamOutAttnIdeal m →
    θ_run (Cert.KernelAdamOutAttnIdeal.defs (F := Ideal)) (onTc (τ := Cert.KernelAdamOutAttnIdeal.τ) (Cert.KernelAdamOutAttnIdeal.main (F := Ideal))) ⟨m, fun _ => 0, g⟩ (fun r => (∀ c : Dev Cert.KernelAdamOutAttnIdeal.nD,
      r.2.mem ((c.tc : Thread Cert.KernelAdamOutAttnIdeal.nD Cert.KernelAdamOutAttnIdeal.τ).loc Cert.KernelAdamOutAttnIdeal.main_arg0) = m ((c.tc : Thread Cert.KernelAdamOutAttnIdeal.nD Cert.KernelAdamOutAttnIdeal.τ).loc Cert.KernelAdamOutAttnIdeal.main_arg0)
      ∧ r.2.mem ((c.tc : Thread Cert.KernelAdamOutAttnIdeal.nD Cert.KernelAdamOutAttnIdeal.τ).loc Cert.KernelAdamOutAttnIdeal.main_arg1) = m ((c.tc : Thread Cert.KernelAdamOutAttnIdeal.nD Cert.KernelAdamOutAttnIdeal.τ).loc Cert.KernelAdamOutAttnIdeal.main_arg1)
      ∧ r.2.mem ((c.tc : Thread Cert.KernelAdamOutAttnIdeal.nD Cert.KernelAdamOutAttnIdeal.τ).loc Cert.KernelAdamOutAttnIdeal.main_arg2) = m ((c.tc : Thread Cert.KernelAdamOutAttnIdeal.nD Cert.KernelAdamOutAttnIdeal.τ).loc Cert.KernelAdamOutAttnIdeal.main_arg2)
      ∧ r.2.mem ((c.tc : Thread Cert.KernelAdamOutAttnIdeal.nD Cert.KernelAdamOutAttnIdeal.τ).loc Cert.KernelAdamOutAttnIdeal.main_arg3) = m ((c.tc : Thread Cert.KernelAdamOutAttnIdeal.nD Cert.KernelAdamOutAttnIdeal.τ).loc Cert.KernelAdamOutAttnIdeal.main_arg3))
      ∧ r.2.sem = fun _ => 0)

def quiescent_ReferenceAdamOutAttnIdeal [hReferenceAdamOutAttnIdeal : Cert.ReferenceAdamOutAttnIdeal.Facts] : Prop :=
  ∀ (m : (ℓ : Loc Cert.ReferenceAdamOutAttnIdeal.nD Cert.ReferenceAdamOutAttnIdeal.τ Cert.ReferenceAdamOutAttnIdeal.sig) → Buf (Elt Ideal) ℓ) (g : Dev Cert.ReferenceAdamOutAttnIdeal.nD → PrngReg), Pre_ReferenceAdamOutAttnIdeal m →
    θ_run (Cert.ReferenceAdamOutAttnIdeal.defs (F := Ideal)) (onTc (τ := Cert.ReferenceAdamOutAttnIdeal.τ) (Cert.ReferenceAdamOutAttnIdeal.main (F := Ideal))) ⟨m, fun _ => 0, g⟩ (fun r => (∀ c : Dev Cert.ReferenceAdamOutAttnIdeal.nD,
      r.2.mem ((c.tc : Thread Cert.ReferenceAdamOutAttnIdeal.nD Cert.ReferenceAdamOutAttnIdeal.τ).loc Cert.ReferenceAdamOutAttnIdeal.main_arg0) = m ((c.tc : Thread Cert.ReferenceAdamOutAttnIdeal.nD Cert.ReferenceAdamOutAttnIdeal.τ).loc Cert.ReferenceAdamOutAttnIdeal.main_arg0)
      ∧ r.2.mem ((c.tc : Thread Cert.ReferenceAdamOutAttnIdeal.nD Cert.ReferenceAdamOutAttnIdeal.τ).loc Cert.ReferenceAdamOutAttnIdeal.main_arg1) = m ((c.tc : Thread Cert.ReferenceAdamOutAttnIdeal.nD Cert.ReferenceAdamOutAttnIdeal.τ).loc Cert.ReferenceAdamOutAttnIdeal.main_arg1)
      ∧ r.2.mem ((c.tc : Thread Cert.ReferenceAdamOutAttnIdeal.nD Cert.ReferenceAdamOutAttnIdeal.τ).loc Cert.ReferenceAdamOutAttnIdeal.main_arg2) = m ((c.tc : Thread Cert.ReferenceAdamOutAttnIdeal.nD Cert.ReferenceAdamOutAttnIdeal.τ).loc Cert.ReferenceAdamOutAttnIdeal.main_arg2)
      ∧ r.2.mem ((c.tc : Thread Cert.ReferenceAdamOutAttnIdeal.nD Cert.ReferenceAdamOutAttnIdeal.τ).loc Cert.ReferenceAdamOutAttnIdeal.main_arg3) = m ((c.tc : Thread Cert.ReferenceAdamOutAttnIdeal.nD Cert.ReferenceAdamOutAttnIdeal.τ).loc Cert.ReferenceAdamOutAttnIdeal.main_arg3))
      ∧ r.2.sem = fun _ => 0)

def quiescent_KernelAdamOutPool [hKernelAdamOutPool : Cert.KernelAdamOutPool.Facts] : Prop :=
  ∀ (m : (ℓ : Loc Cert.KernelAdamOutPool.nD Cert.KernelAdamOutPool.τ Cert.KernelAdamOutPool.sig) → Buf (Elt Bits) ℓ) (g : Dev Cert.KernelAdamOutPool.nD → PrngReg), Pre_KernelAdamOutPool m →
    θ_run (Cert.KernelAdamOutPool.defs (F := Bits)) (onTc (τ := Cert.KernelAdamOutPool.τ) (Cert.KernelAdamOutPool.main (F := Bits))) ⟨m, fun _ => 0, g⟩ (fun r => (∀ c : Dev Cert.KernelAdamOutPool.nD,
      r.2.mem ((c.tc : Thread Cert.KernelAdamOutPool.nD Cert.KernelAdamOutPool.τ).loc Cert.KernelAdamOutPool.main_arg0) = m ((c.tc : Thread Cert.KernelAdamOutPool.nD Cert.KernelAdamOutPool.τ).loc Cert.KernelAdamOutPool.main_arg0)
      ∧ r.2.mem ((c.tc : Thread Cert.KernelAdamOutPool.nD Cert.KernelAdamOutPool.τ).loc Cert.KernelAdamOutPool.main_arg1) = m ((c.tc : Thread Cert.KernelAdamOutPool.nD Cert.KernelAdamOutPool.τ).loc Cert.KernelAdamOutPool.main_arg1)
      ∧ r.2.mem ((c.tc : Thread Cert.KernelAdamOutPool.nD Cert.KernelAdamOutPool.τ).loc Cert.KernelAdamOutPool.main_arg2) = m ((c.tc : Thread Cert.KernelAdamOutPool.nD Cert.KernelAdamOutPool.τ).loc Cert.KernelAdamOutPool.main_arg2)
      ∧ r.2.mem ((c.tc : Thread Cert.KernelAdamOutPool.nD Cert.KernelAdamOutPool.τ).loc Cert.KernelAdamOutPool.main_arg3) = m ((c.tc : Thread Cert.KernelAdamOutPool.nD Cert.KernelAdamOutPool.τ).loc Cert.KernelAdamOutPool.main_arg3))
      ∧ r.2.sem = fun _ => 0)

def quiescent_KernelAdamOutPoolIdeal [hKernelAdamOutPoolIdeal : Cert.KernelAdamOutPoolIdeal.Facts] : Prop :=
  ∀ (m : (ℓ : Loc Cert.KernelAdamOutPoolIdeal.nD Cert.KernelAdamOutPoolIdeal.τ Cert.KernelAdamOutPoolIdeal.sig) → Buf (Elt Ideal) ℓ) (g : Dev Cert.KernelAdamOutPoolIdeal.nD → PrngReg), Pre_KernelAdamOutPoolIdeal m →
    θ_run (Cert.KernelAdamOutPoolIdeal.defs (F := Ideal)) (onTc (τ := Cert.KernelAdamOutPoolIdeal.τ) (Cert.KernelAdamOutPoolIdeal.main (F := Ideal))) ⟨m, fun _ => 0, g⟩ (fun r => (∀ c : Dev Cert.KernelAdamOutPoolIdeal.nD,
      r.2.mem ((c.tc : Thread Cert.KernelAdamOutPoolIdeal.nD Cert.KernelAdamOutPoolIdeal.τ).loc Cert.KernelAdamOutPoolIdeal.main_arg0) = m ((c.tc : Thread Cert.KernelAdamOutPoolIdeal.nD Cert.KernelAdamOutPoolIdeal.τ).loc Cert.KernelAdamOutPoolIdeal.main_arg0)
      ∧ r.2.mem ((c.tc : Thread Cert.KernelAdamOutPoolIdeal.nD Cert.KernelAdamOutPoolIdeal.τ).loc Cert.KernelAdamOutPoolIdeal.main_arg1) = m ((c.tc : Thread Cert.KernelAdamOutPoolIdeal.nD Cert.KernelAdamOutPoolIdeal.τ).loc Cert.KernelAdamOutPoolIdeal.main_arg1)
      ∧ r.2.mem ((c.tc : Thread Cert.KernelAdamOutPoolIdeal.nD Cert.KernelAdamOutPoolIdeal.τ).loc Cert.KernelAdamOutPoolIdeal.main_arg2) = m ((c.tc : Thread Cert.KernelAdamOutPoolIdeal.nD Cert.KernelAdamOutPoolIdeal.τ).loc Cert.KernelAdamOutPoolIdeal.main_arg2)
      ∧ r.2.mem ((c.tc : Thread Cert.KernelAdamOutPoolIdeal.nD Cert.KernelAdamOutPoolIdeal.τ).loc Cert.KernelAdamOutPoolIdeal.main_arg3) = m ((c.tc : Thread Cert.KernelAdamOutPoolIdeal.nD Cert.KernelAdamOutPoolIdeal.τ).loc Cert.KernelAdamOutPoolIdeal.main_arg3))
      ∧ r.2.sem = fun _ => 0)

def quiescent_ReferenceAdamOutPoolIdeal [hReferenceAdamOutPoolIdeal : Cert.ReferenceAdamOutPoolIdeal.Facts] : Prop :=
  ∀ (m : (ℓ : Loc Cert.ReferenceAdamOutPoolIdeal.nD Cert.ReferenceAdamOutPoolIdeal.τ Cert.ReferenceAdamOutPoolIdeal.sig) → Buf (Elt Ideal) ℓ) (g : Dev Cert.ReferenceAdamOutPoolIdeal.nD → PrngReg), Pre_ReferenceAdamOutPoolIdeal m →
    θ_run (Cert.ReferenceAdamOutPoolIdeal.defs (F := Ideal)) (onTc (τ := Cert.ReferenceAdamOutPoolIdeal.τ) (Cert.ReferenceAdamOutPoolIdeal.main (F := Ideal))) ⟨m, fun _ => 0, g⟩ (fun r => (∀ c : Dev Cert.ReferenceAdamOutPoolIdeal.nD,
      r.2.mem ((c.tc : Thread Cert.ReferenceAdamOutPoolIdeal.nD Cert.ReferenceAdamOutPoolIdeal.τ).loc Cert.ReferenceAdamOutPoolIdeal.main_arg0) = m ((c.tc : Thread Cert.ReferenceAdamOutPoolIdeal.nD Cert.ReferenceAdamOutPoolIdeal.τ).loc Cert.ReferenceAdamOutPoolIdeal.main_arg0)
      ∧ r.2.mem ((c.tc : Thread Cert.ReferenceAdamOutPoolIdeal.nD Cert.ReferenceAdamOutPoolIdeal.τ).loc Cert.ReferenceAdamOutPoolIdeal.main_arg1) = m ((c.tc : Thread Cert.ReferenceAdamOutPoolIdeal.nD Cert.ReferenceAdamOutPoolIdeal.τ).loc Cert.ReferenceAdamOutPoolIdeal.main_arg1)
      ∧ r.2.mem ((c.tc : Thread Cert.ReferenceAdamOutPoolIdeal.nD Cert.ReferenceAdamOutPoolIdeal.τ).loc Cert.ReferenceAdamOutPoolIdeal.main_arg2) = m ((c.tc : Thread Cert.ReferenceAdamOutPoolIdeal.nD Cert.ReferenceAdamOutPoolIdeal.τ).loc Cert.ReferenceAdamOutPoolIdeal.main_arg2)
      ∧ r.2.mem ((c.tc : Thread Cert.ReferenceAdamOutPoolIdeal.nD Cert.ReferenceAdamOutPoolIdeal.τ).loc Cert.ReferenceAdamOutPoolIdeal.main_arg3) = m ((c.tc : Thread Cert.ReferenceAdamOutPoolIdeal.nD Cert.ReferenceAdamOutPoolIdeal.τ).loc Cert.ReferenceAdamOutPoolIdeal.main_arg3))
      ∧ r.2.sem = fun _ => 0)

def quiescent_KernelAdamPoolW [hKernelAdamPoolW : Cert.KernelAdamPoolW.Facts] : Prop :=
  ∀ (m : (ℓ : Loc Cert.KernelAdamPoolW.nD Cert.KernelAdamPoolW.τ Cert.KernelAdamPoolW.sig) → Buf (Elt Bits) ℓ) (g : Dev Cert.KernelAdamPoolW.nD → PrngReg), Pre_KernelAdamPoolW m →
    θ_run (Cert.KernelAdamPoolW.defs (F := Bits)) (onTc (τ := Cert.KernelAdamPoolW.τ) (Cert.KernelAdamPoolW.main (F := Bits))) ⟨m, fun _ => 0, g⟩ (fun r => (∀ c : Dev Cert.KernelAdamPoolW.nD,
      r.2.mem ((c.tc : Thread Cert.KernelAdamPoolW.nD Cert.KernelAdamPoolW.τ).loc Cert.KernelAdamPoolW.main_arg0) = m ((c.tc : Thread Cert.KernelAdamPoolW.nD Cert.KernelAdamPoolW.τ).loc Cert.KernelAdamPoolW.main_arg0)
      ∧ r.2.mem ((c.tc : Thread Cert.KernelAdamPoolW.nD Cert.KernelAdamPoolW.τ).loc Cert.KernelAdamPoolW.main_arg1) = m ((c.tc : Thread Cert.KernelAdamPoolW.nD Cert.KernelAdamPoolW.τ).loc Cert.KernelAdamPoolW.main_arg1)
      ∧ r.2.mem ((c.tc : Thread Cert.KernelAdamPoolW.nD Cert.KernelAdamPoolW.τ).loc Cert.KernelAdamPoolW.main_arg2) = m ((c.tc : Thread Cert.KernelAdamPoolW.nD Cert.KernelAdamPoolW.τ).loc Cert.KernelAdamPoolW.main_arg2)
      ∧ r.2.mem ((c.tc : Thread Cert.KernelAdamPoolW.nD Cert.KernelAdamPoolW.τ).loc Cert.KernelAdamPoolW.main_arg3) = m ((c.tc : Thread Cert.KernelAdamPoolW.nD Cert.KernelAdamPoolW.τ).loc Cert.KernelAdamPoolW.main_arg3))
      ∧ r.2.sem = fun _ => 0)

def quiescent_KernelAdamPoolWIdeal [hKernelAdamPoolWIdeal : Cert.KernelAdamPoolWIdeal.Facts] : Prop :=
  ∀ (m : (ℓ : Loc Cert.KernelAdamPoolWIdeal.nD Cert.KernelAdamPoolWIdeal.τ Cert.KernelAdamPoolWIdeal.sig) → Buf (Elt Ideal) ℓ) (g : Dev Cert.KernelAdamPoolWIdeal.nD → PrngReg), Pre_KernelAdamPoolWIdeal m →
    θ_run (Cert.KernelAdamPoolWIdeal.defs (F := Ideal)) (onTc (τ := Cert.KernelAdamPoolWIdeal.τ) (Cert.KernelAdamPoolWIdeal.main (F := Ideal))) ⟨m, fun _ => 0, g⟩ (fun r => (∀ c : Dev Cert.KernelAdamPoolWIdeal.nD,
      r.2.mem ((c.tc : Thread Cert.KernelAdamPoolWIdeal.nD Cert.KernelAdamPoolWIdeal.τ).loc Cert.KernelAdamPoolWIdeal.main_arg0) = m ((c.tc : Thread Cert.KernelAdamPoolWIdeal.nD Cert.KernelAdamPoolWIdeal.τ).loc Cert.KernelAdamPoolWIdeal.main_arg0)
      ∧ r.2.mem ((c.tc : Thread Cert.KernelAdamPoolWIdeal.nD Cert.KernelAdamPoolWIdeal.τ).loc Cert.KernelAdamPoolWIdeal.main_arg1) = m ((c.tc : Thread Cert.KernelAdamPoolWIdeal.nD Cert.KernelAdamPoolWIdeal.τ).loc Cert.KernelAdamPoolWIdeal.main_arg1)
      ∧ r.2.mem ((c.tc : Thread Cert.KernelAdamPoolWIdeal.nD Cert.KernelAdamPoolWIdeal.τ).loc Cert.KernelAdamPoolWIdeal.main_arg2) = m ((c.tc : Thread Cert.KernelAdamPoolWIdeal.nD Cert.KernelAdamPoolWIdeal.τ).loc Cert.KernelAdamPoolWIdeal.main_arg2)
      ∧ r.2.mem ((c.tc : Thread Cert.KernelAdamPoolWIdeal.nD Cert.KernelAdamPoolWIdeal.τ).loc Cert.KernelAdamPoolWIdeal.main_arg3) = m ((c.tc : Thread Cert.KernelAdamPoolWIdeal.nD Cert.KernelAdamPoolWIdeal.τ).loc Cert.KernelAdamPoolWIdeal.main_arg3))
      ∧ r.2.sem = fun _ => 0)

def quiescent_ReferenceAdamPoolWIdeal [hReferenceAdamPoolWIdeal : Cert.ReferenceAdamPoolWIdeal.Facts] : Prop :=
  ∀ (m : (ℓ : Loc Cert.ReferenceAdamPoolWIdeal.nD Cert.ReferenceAdamPoolWIdeal.τ Cert.ReferenceAdamPoolWIdeal.sig) → Buf (Elt Ideal) ℓ) (g : Dev Cert.ReferenceAdamPoolWIdeal.nD → PrngReg), Pre_ReferenceAdamPoolWIdeal m →
    θ_run (Cert.ReferenceAdamPoolWIdeal.defs (F := Ideal)) (onTc (τ := Cert.ReferenceAdamPoolWIdeal.τ) (Cert.ReferenceAdamPoolWIdeal.main (F := Ideal))) ⟨m, fun _ => 0, g⟩ (fun r => (∀ c : Dev Cert.ReferenceAdamPoolWIdeal.nD,
      r.2.mem ((c.tc : Thread Cert.ReferenceAdamPoolWIdeal.nD Cert.ReferenceAdamPoolWIdeal.τ).loc Cert.ReferenceAdamPoolWIdeal.main_arg0) = m ((c.tc : Thread Cert.ReferenceAdamPoolWIdeal.nD Cert.ReferenceAdamPoolWIdeal.τ).loc Cert.ReferenceAdamPoolWIdeal.main_arg0)
      ∧ r.2.mem ((c.tc : Thread Cert.ReferenceAdamPoolWIdeal.nD Cert.ReferenceAdamPoolWIdeal.τ).loc Cert.ReferenceAdamPoolWIdeal.main_arg1) = m ((c.tc : Thread Cert.ReferenceAdamPoolWIdeal.nD Cert.ReferenceAdamPoolWIdeal.τ).loc Cert.ReferenceAdamPoolWIdeal.main_arg1)
      ∧ r.2.mem ((c.tc : Thread Cert.ReferenceAdamPoolWIdeal.nD Cert.ReferenceAdamPoolWIdeal.τ).loc Cert.ReferenceAdamPoolWIdeal.main_arg2) = m ((c.tc : Thread Cert.ReferenceAdamPoolWIdeal.nD Cert.ReferenceAdamPoolWIdeal.τ).loc Cert.ReferenceAdamPoolWIdeal.main_arg2)
      ∧ r.2.mem ((c.tc : Thread Cert.ReferenceAdamPoolWIdeal.nD Cert.ReferenceAdamPoolWIdeal.τ).loc Cert.ReferenceAdamPoolWIdeal.main_arg3) = m ((c.tc : Thread Cert.ReferenceAdamPoolWIdeal.nD Cert.ReferenceAdamPoolWIdeal.τ).loc Cert.ReferenceAdamPoolWIdeal.main_arg3))
      ∧ r.2.sem = fun _ => 0)

def quiescent_KernelAdamGateBias [hKernelAdamGateBias : Cert.KernelAdamGateBias.Facts] : Prop :=
  ∀ (m : (ℓ : Loc Cert.KernelAdamGateBias.nD Cert.KernelAdamGateBias.τ Cert.KernelAdamGateBias.sig) → Buf (Elt Bits) ℓ) (g : Dev Cert.KernelAdamGateBias.nD → PrngReg), Pre_KernelAdamGateBias m →
    θ_run (Cert.KernelAdamGateBias.defs (F := Bits)) (onTc (τ := Cert.KernelAdamGateBias.τ) (Cert.KernelAdamGateBias.main (F := Bits))) ⟨m, fun _ => 0, g⟩ (fun r => (∀ c : Dev Cert.KernelAdamGateBias.nD,
      r.2.mem ((c.tc : Thread Cert.KernelAdamGateBias.nD Cert.KernelAdamGateBias.τ).loc Cert.KernelAdamGateBias.main_arg0) = m ((c.tc : Thread Cert.KernelAdamGateBias.nD Cert.KernelAdamGateBias.τ).loc Cert.KernelAdamGateBias.main_arg0)
      ∧ r.2.mem ((c.tc : Thread Cert.KernelAdamGateBias.nD Cert.KernelAdamGateBias.τ).loc Cert.KernelAdamGateBias.main_arg1) = m ((c.tc : Thread Cert.KernelAdamGateBias.nD Cert.KernelAdamGateBias.τ).loc Cert.KernelAdamGateBias.main_arg1)
      ∧ r.2.mem ((c.tc : Thread Cert.KernelAdamGateBias.nD Cert.KernelAdamGateBias.τ).loc Cert.KernelAdamGateBias.main_arg2) = m ((c.tc : Thread Cert.KernelAdamGateBias.nD Cert.KernelAdamGateBias.τ).loc Cert.KernelAdamGateBias.main_arg2)
      ∧ r.2.mem ((c.tc : Thread Cert.KernelAdamGateBias.nD Cert.KernelAdamGateBias.τ).loc Cert.KernelAdamGateBias.main_arg3) = m ((c.tc : Thread Cert.KernelAdamGateBias.nD Cert.KernelAdamGateBias.τ).loc Cert.KernelAdamGateBias.main_arg3))
      ∧ r.2.sem = fun _ => 0)

def quiescent_KernelAdamGateBiasIdeal [hKernelAdamGateBiasIdeal : Cert.KernelAdamGateBiasIdeal.Facts] : Prop :=
  ∀ (m : (ℓ : Loc Cert.KernelAdamGateBiasIdeal.nD Cert.KernelAdamGateBiasIdeal.τ Cert.KernelAdamGateBiasIdeal.sig) → Buf (Elt Ideal) ℓ) (g : Dev Cert.KernelAdamGateBiasIdeal.nD → PrngReg), Pre_KernelAdamGateBiasIdeal m →
    θ_run (Cert.KernelAdamGateBiasIdeal.defs (F := Ideal)) (onTc (τ := Cert.KernelAdamGateBiasIdeal.τ) (Cert.KernelAdamGateBiasIdeal.main (F := Ideal))) ⟨m, fun _ => 0, g⟩ (fun r => (∀ c : Dev Cert.KernelAdamGateBiasIdeal.nD,
      r.2.mem ((c.tc : Thread Cert.KernelAdamGateBiasIdeal.nD Cert.KernelAdamGateBiasIdeal.τ).loc Cert.KernelAdamGateBiasIdeal.main_arg0) = m ((c.tc : Thread Cert.KernelAdamGateBiasIdeal.nD Cert.KernelAdamGateBiasIdeal.τ).loc Cert.KernelAdamGateBiasIdeal.main_arg0)
      ∧ r.2.mem ((c.tc : Thread Cert.KernelAdamGateBiasIdeal.nD Cert.KernelAdamGateBiasIdeal.τ).loc Cert.KernelAdamGateBiasIdeal.main_arg1) = m ((c.tc : Thread Cert.KernelAdamGateBiasIdeal.nD Cert.KernelAdamGateBiasIdeal.τ).loc Cert.KernelAdamGateBiasIdeal.main_arg1)
      ∧ r.2.mem ((c.tc : Thread Cert.KernelAdamGateBiasIdeal.nD Cert.KernelAdamGateBiasIdeal.τ).loc Cert.KernelAdamGateBiasIdeal.main_arg2) = m ((c.tc : Thread Cert.KernelAdamGateBiasIdeal.nD Cert.KernelAdamGateBiasIdeal.τ).loc Cert.KernelAdamGateBiasIdeal.main_arg2)
      ∧ r.2.mem ((c.tc : Thread Cert.KernelAdamGateBiasIdeal.nD Cert.KernelAdamGateBiasIdeal.τ).loc Cert.KernelAdamGateBiasIdeal.main_arg3) = m ((c.tc : Thread Cert.KernelAdamGateBiasIdeal.nD Cert.KernelAdamGateBiasIdeal.τ).loc Cert.KernelAdamGateBiasIdeal.main_arg3))
      ∧ r.2.sem = fun _ => 0)

def quiescent_ReferenceAdamGateBiasIdeal [hReferenceAdamGateBiasIdeal : Cert.ReferenceAdamGateBiasIdeal.Facts] : Prop :=
  ∀ (m : (ℓ : Loc Cert.ReferenceAdamGateBiasIdeal.nD Cert.ReferenceAdamGateBiasIdeal.τ Cert.ReferenceAdamGateBiasIdeal.sig) → Buf (Elt Ideal) ℓ) (g : Dev Cert.ReferenceAdamGateBiasIdeal.nD → PrngReg), Pre_ReferenceAdamGateBiasIdeal m →
    θ_run (Cert.ReferenceAdamGateBiasIdeal.defs (F := Ideal)) (onTc (τ := Cert.ReferenceAdamGateBiasIdeal.τ) (Cert.ReferenceAdamGateBiasIdeal.main (F := Ideal))) ⟨m, fun _ => 0, g⟩ (fun r => (∀ c : Dev Cert.ReferenceAdamGateBiasIdeal.nD,
      r.2.mem ((c.tc : Thread Cert.ReferenceAdamGateBiasIdeal.nD Cert.ReferenceAdamGateBiasIdeal.τ).loc Cert.ReferenceAdamGateBiasIdeal.main_arg0) = m ((c.tc : Thread Cert.ReferenceAdamGateBiasIdeal.nD Cert.ReferenceAdamGateBiasIdeal.τ).loc Cert.ReferenceAdamGateBiasIdeal.main_arg0)
      ∧ r.2.mem ((c.tc : Thread Cert.ReferenceAdamGateBiasIdeal.nD Cert.ReferenceAdamGateBiasIdeal.τ).loc Cert.ReferenceAdamGateBiasIdeal.main_arg1) = m ((c.tc : Thread Cert.ReferenceAdamGateBiasIdeal.nD Cert.ReferenceAdamGateBiasIdeal.τ).loc Cert.ReferenceAdamGateBiasIdeal.main_arg1)
      ∧ r.2.mem ((c.tc : Thread Cert.ReferenceAdamGateBiasIdeal.nD Cert.ReferenceAdamGateBiasIdeal.τ).loc Cert.ReferenceAdamGateBiasIdeal.main_arg2) = m ((c.tc : Thread Cert.ReferenceAdamGateBiasIdeal.nD Cert.ReferenceAdamGateBiasIdeal.τ).loc Cert.ReferenceAdamGateBiasIdeal.main_arg2)
      ∧ r.2.mem ((c.tc : Thread Cert.ReferenceAdamGateBiasIdeal.nD Cert.ReferenceAdamGateBiasIdeal.τ).loc Cert.ReferenceAdamGateBiasIdeal.main_arg3) = m ((c.tc : Thread Cert.ReferenceAdamGateBiasIdeal.nD Cert.ReferenceAdamGateBiasIdeal.τ).loc Cert.ReferenceAdamGateBiasIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3)
      ∧ r.2.mem ((c.tc : Thread Cert.KernelAdamIn.nD Cert.KernelAdamIn.τ).loc Cert.KernelAdamIn.main_arg4) = m ((c.tc : Thread Cert.KernelAdamIn.nD Cert.KernelAdamIn.τ).loc Cert.KernelAdamIn.main_arg4))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
      ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3)
      ∧ r.2.mem ((c.tc : Thread Cert.ReferenceAdamInIdeal.nD Cert.ReferenceAdamInIdeal.τ).loc Cert.ReferenceAdamInIdeal.main_arg4) = m ((c.tc : Thread Cert.ReferenceAdamInIdeal.nD Cert.ReferenceAdamInIdeal.τ).loc Cert.ReferenceAdamInIdeal.main_arg4))
      ∧ r.2.sem = fun _ => 0)

def quiescent_KernelBiasRows [hKernelBiasRows : Cert.KernelBiasRows.Facts] : Prop :=
  ∀ (m : (ℓ : Loc Cert.KernelBiasRows.nD Cert.KernelBiasRows.τ Cert.KernelBiasRows.sig) → Buf (Elt Bits) ℓ) (g : Dev Cert.KernelBiasRows.nD → PrngReg), Pre_KernelBiasRows m →
    θ_run (Cert.KernelBiasRows.defs (F := Bits)) (onTc (τ := Cert.KernelBiasRows.τ) (Cert.KernelBiasRows.main (F := Bits))) ⟨m, fun _ => 0, g⟩ (fun r => (∀ c : Dev Cert.KernelBiasRows.nD,
      r.2.mem ((c.tc : Thread Cert.KernelBiasRows.nD Cert.KernelBiasRows.τ).loc Cert.KernelBiasRows.main_arg0) = m ((c.tc : Thread Cert.KernelBiasRows.nD Cert.KernelBiasRows.τ).loc Cert.KernelBiasRows.main_arg0))
      ∧ r.2.sem = fun _ => 0)

def quiescent_KernelBiasRowsIdeal [hKernelBiasRowsIdeal : Cert.KernelBiasRowsIdeal.Facts] : Prop :=
  ∀ (m : (ℓ : Loc Cert.KernelBiasRowsIdeal.nD Cert.KernelBiasRowsIdeal.τ Cert.KernelBiasRowsIdeal.sig) → Buf (Elt Ideal) ℓ) (g : Dev Cert.KernelBiasRowsIdeal.nD → PrngReg), Pre_KernelBiasRowsIdeal m →
    θ_run (Cert.KernelBiasRowsIdeal.defs (F := Ideal)) (onTc (τ := Cert.KernelBiasRowsIdeal.τ) (Cert.KernelBiasRowsIdeal.main (F := Ideal))) ⟨m, fun _ => 0, g⟩ (fun r => (∀ c : Dev Cert.KernelBiasRowsIdeal.nD,
      r.2.mem ((c.tc : Thread Cert.KernelBiasRowsIdeal.nD Cert.KernelBiasRowsIdeal.τ).loc Cert.KernelBiasRowsIdeal.main_arg0) = m ((c.tc : Thread Cert.KernelBiasRowsIdeal.nD Cert.KernelBiasRowsIdeal.τ).loc Cert.KernelBiasRowsIdeal.main_arg0))
      ∧ r.2.sem = fun _ => 0)

def quiescent_ReferenceBiasRowsIdeal [hReferenceBiasRowsIdeal : Cert.ReferenceBiasRowsIdeal.Facts] : Prop :=
  ∀ (m : (ℓ : Loc Cert.ReferenceBiasRowsIdeal.nD Cert.ReferenceBiasRowsIdeal.τ Cert.ReferenceBiasRowsIdeal.sig) → Buf (Elt Ideal) ℓ) (g : Dev Cert.ReferenceBiasRowsIdeal.nD → PrngReg), Pre_ReferenceBiasRowsIdeal m →
    θ_run (Cert.ReferenceBiasRowsIdeal.defs (F := Ideal)) (onTc (τ := Cert.ReferenceBiasRowsIdeal.τ) (Cert.ReferenceBiasRowsIdeal.main (F := Ideal))) ⟨m, fun _ => 0, g⟩ (fun r => (∀ c : Dev Cert.ReferenceBiasRowsIdeal.nD,
      r.2.mem ((c.tc : Thread Cert.ReferenceBiasRowsIdeal.nD Cert.ReferenceBiasRowsIdeal.τ).loc Cert.ReferenceBiasRowsIdeal.main_arg0) = m ((c.tc : Thread Cert.ReferenceBiasRowsIdeal.nD Cert.ReferenceBiasRowsIdeal.τ).loc Cert.ReferenceBiasRowsIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDwLo_KernelDwLoIdeal : Prop :=
  True

def algebraic_KernelDwLoIdeal_ReferenceDwLoIdeal [hKernelDwLoIdeal : Cert.KernelDwLoIdeal.Facts] [hReferenceDwLoIdeal : Cert.ReferenceDwLoIdeal.Facts] : Prop :=
  ∀ (m : (ℓ : Loc Cert.KernelDwLoIdeal.nD Cert.KernelDwLoIdeal.τ Cert.KernelDwLoIdeal.sig) → Buf (Elt Ideal) ℓ) (g : Dev Cert.KernelDwLoIdeal.nD → PrngReg)
    (m' : (ℓ : Loc Cert.ReferenceDwLoIdeal.nD Cert.ReferenceDwLoIdeal.τ Cert.ReferenceDwLoIdeal.sig) → Buf (Elt Ideal) ℓ) (g' : Dev Cert.ReferenceDwLoIdeal.nD → PrngReg), Pre_KernelDwLoIdeal m →
    (∀ c : Dev Cert.KernelDwLoIdeal.nD,
      m' ((c.tc : Thread Cert.ReferenceDwLoIdeal.nD Cert.ReferenceDwLoIdeal.τ).loc Cert.ReferenceDwLoIdeal.main_arg0) = m ((c.tc : Thread Cert.KernelDwLoIdeal.nD Cert.KernelDwLoIdeal.τ).loc Cert.KernelDwLoIdeal.main_arg0)
      ∧ m' ((c.tc : Thread Cert.ReferenceDwLoIdeal.nD Cert.ReferenceDwLoIdeal.τ).loc Cert.ReferenceDwLoIdeal.main_arg1) = m ((c.tc : Thread Cert.KernelDwLoIdeal.nD Cert.KernelDwLoIdeal.τ).loc Cert.KernelDwLoIdeal.main_arg1)) →
    ∃ (v0 : (c : Dev Cert.KernelDwLoIdeal.nD) → Buf (Elt Ideal) ((c.tc : Thread Cert.KernelDwLoIdeal.nD Cert.KernelDwLoIdeal.τ).loc Cert.KernelDwLoIdeal.main_v0)),
      θ_run (Cert.KernelDwLoIdeal.defs (F := Ideal)) (onTc (τ := Cert.KernelDwLoIdeal.τ) (Cert.KernelDwLoIdeal.main (F := Ideal))) ⟨m, fun _ => 0, g⟩ (fun r => ∀ c : Dev Cert.KernelDwLoIdeal.nD,
          r.2.mem ((c.tc : Thread Cert.KernelDwLoIdeal.nD Cert.KernelDwLoIdeal.τ).loc Cert.KernelDwLoIdeal.main_v0) = v0 c
          ∧ r.2.mem ((c.tc : Thread Cert.KernelDwLoIdeal.nD Cert.KernelDwLoIdeal.τ).loc Cert.KernelDwLoIdeal.main_arg0) = m ((c.tc : Thread Cert.KernelDwLoIdeal.nD Cert.KernelDwLoIdeal.τ).loc Cert.KernelDwLoIdeal.main_arg0)
          ∧ r.2.mem ((c.tc : Thread Cert.KernelDwLoIdeal.nD Cert.KernelDwLoIdeal.τ).loc Cert.KernelDwLoIdeal.main_arg1) = m ((c.tc : Thread Cert.KernelDwLoIdeal.nD Cert.KernelDwLoIdeal.τ).loc Cert.KernelDwLoIdeal.main_arg1))
      ∧ θ_run (Cert.ReferenceDwLoIdeal.defs (F := Ideal)) (onTc (τ := Cert.ReferenceDwLoIdeal.τ) (Cert.ReferenceDwLoIdeal.main (F := Ideal))) ⟨m', fun _ => 0, g'⟩ (fun r => ∀ c : Dev Cert.ReferenceDwLoIdeal.nD,
          r.2.mem ((c.tc : Thread Cert.ReferenceDwLoIdeal.nD Cert.ReferenceDwLoIdeal.τ).loc Cert.ReferenceDwLoIdeal.main_v16) = v0 c
          ∧ r.2.mem ((c.tc : Thread Cert.ReferenceDwLoIdeal.nD Cert.ReferenceDwLoIdeal.τ).loc Cert.ReferenceDwLoIdeal.main_arg0) = m' ((c.tc : Thread Cert.ReferenceDwLoIdeal.nD Cert.ReferenceDwLoIdeal.τ).loc Cert.ReferenceDwLoIdeal.main_arg0)
          ∧ r.2.mem ((c.tc : Thread Cert.ReferenceDwLoIdeal.nD Cert.ReferenceDwLoIdeal.τ).loc Cert.ReferenceDwLoIdeal.main_arg1) = m' ((c.tc : Thread Cert.ReferenceDwLoIdeal.nD Cert.ReferenceDwLoIdeal.τ).loc Cert.ReferenceDwLoIdeal.main_arg1))

def preserves_KernelDwHi_KernelDwHiIdeal : Prop :=
  True

def algebraic_KernelDwHiIdeal_ReferenceDwHiIdeal [hKernelDwHiIdeal : Cert.KernelDwHiIdeal.Facts] [hReferenceDwHiIdeal : Cert.ReferenceDwHiIdeal.Facts] : Prop :=
  ∀ (m : (ℓ : Loc Cert.KernelDwHiIdeal.nD Cert.KernelDwHiIdeal.τ Cert.KernelDwHiIdeal.sig) → Buf (Elt Ideal) ℓ) (g : Dev Cert.KernelDwHiIdeal.nD → PrngReg)
    (m' : (ℓ : Loc Cert.ReferenceDwHiIdeal.nD Cert.ReferenceDwHiIdeal.τ Cert.ReferenceDwHiIdeal.sig) → Buf (Elt Ideal) ℓ) (g' : Dev Cert.ReferenceDwHiIdeal.nD → PrngReg), Pre_KernelDwHiIdeal m →
    (∀ c : Dev Cert.KernelDwHiIdeal.nD,
      m' ((c.tc : Thread Cert.ReferenceDwHiIdeal.nD Cert.ReferenceDwHiIdeal.τ).loc Cert.ReferenceDwHiIdeal.main_arg0) = m ((c.tc : Thread Cert.KernelDwHiIdeal.nD Cert.KernelDwHiIdeal.τ).loc Cert.KernelDwHiIdeal.main_arg0)
      ∧ m' ((c.tc : Thread Cert.ReferenceDwHiIdeal.nD Cert.ReferenceDwHiIdeal.τ).loc Cert.ReferenceDwHiIdeal.main_arg1) = m ((c.tc : Thread Cert.KernelDwHiIdeal.nD Cert.KernelDwHiIdeal.τ).loc Cert.KernelDwHiIdeal.main_arg1)) →
    ∃ (v0 : (c : Dev Cert.KernelDwHiIdeal.nD) → Buf (Elt Ideal) ((c.tc : Thread Cert.KernelDwHiIdeal.nD Cert.KernelDwHiIdeal.τ).loc Cert.KernelDwHiIdeal.main_v0)),
      θ_run (Cert.KernelDwHiIdeal.defs (F := Ideal)) (onTc (τ := Cert.KernelDwHiIdeal.τ) (Cert.KernelDwHiIdeal.main (F := Ideal))) ⟨m, fun _ => 0, g⟩ (fun r => ∀ c : Dev Cert.KernelDwHiIdeal.nD,
          r.2.mem ((c.tc : Thread Cert.KernelDwHiIdeal.nD Cert.KernelDwHiIdeal.τ).loc Cert.KernelDwHiIdeal.main_v0) = v0 c
          ∧ r.2.mem ((c.tc : Thread Cert.KernelDwHiIdeal.nD Cert.KernelDwHiIdeal.τ).loc Cert.KernelDwHiIdeal.main_arg0) = m ((c.tc : Thread Cert.KernelDwHiIdeal.nD Cert.KernelDwHiIdeal.τ).loc Cert.KernelDwHiIdeal.main_arg0)
          ∧ r.2.mem ((c.tc : Thread Cert.KernelDwHiIdeal.nD Cert.KernelDwHiIdeal.τ).loc Cert.KernelDwHiIdeal.main_arg1) = m ((c.tc : Thread Cert.KernelDwHiIdeal.nD Cert.KernelDwHiIdeal.τ).loc Cert.KernelDwHiIdeal.main_arg1))
      ∧ θ_run (Cert.ReferenceDwHiIdeal.defs (F := Ideal)) (onTc (τ := Cert.ReferenceDwHiIdeal.τ) (Cert.ReferenceDwHiIdeal.main (F := Ideal))) ⟨m', fun _ => 0, g'⟩ (fun r => ∀ c : Dev Cert.ReferenceDwHiIdeal.nD,
          r.2.mem ((c.tc : Thread Cert.ReferenceDwHiIdeal.nD Cert.ReferenceDwHiIdeal.τ).loc Cert.ReferenceDwHiIdeal.main_v16) = v0 c
          ∧ r.2.mem ((c.tc : Thread Cert.ReferenceDwHiIdeal.nD Cert.ReferenceDwHiIdeal.τ).loc Cert.ReferenceDwHiIdeal.main_arg0) = m' ((c.tc : Thread Cert.ReferenceDwHiIdeal.nD Cert.ReferenceDwHiIdeal.τ).loc Cert.ReferenceDwHiIdeal.main_arg0)
          ∧ r.2.mem ((c.tc : Thread Cert.ReferenceDwHiIdeal.nD Cert.ReferenceDwHiIdeal.τ).loc Cert.ReferenceDwHiIdeal.main_arg1) = m' ((c.tc : Thread Cert.ReferenceDwHiIdeal.nD Cert.ReferenceDwHiIdeal.τ).loc Cert.ReferenceDwHiIdeal.main_arg1))

def preserves_KernelDhRest_KernelDhRestIdeal : Prop :=
  True

def algebraic_KernelDhRestIdeal_ReferenceDhRestIdeal [hKernelDhRestIdeal : Cert.KernelDhRestIdeal.Facts] [hReferenceDhRestIdeal : Cert.ReferenceDhRestIdeal.Facts] : Prop :=
  ∀ (m : (ℓ : Loc Cert.KernelDhRestIdeal.nD Cert.KernelDhRestIdeal.τ Cert.KernelDhRestIdeal.sig) → Buf (Elt Ideal) ℓ) (g : Dev Cert.KernelDhRestIdeal.nD → PrngReg)
    (m' : (ℓ : Loc Cert.ReferenceDhRestIdeal.nD Cert.ReferenceDhRestIdeal.τ Cert.ReferenceDhRestIdeal.sig) → Buf (Elt Ideal) ℓ) (g' : Dev Cert.ReferenceDhRestIdeal.nD → PrngReg), Pre_KernelDhRestIdeal m →
    (∀ c : Dev Cert.KernelDhRestIdeal.nD,
      m' ((c.tc : Thread Cert.ReferenceDhRestIdeal.nD Cert.ReferenceDhRestIdeal.τ).loc Cert.ReferenceDhRestIdeal.main_arg0) = m ((c.tc : Thread Cert.KernelDhRestIdeal.nD Cert.KernelDhRestIdeal.τ).loc Cert.KernelDhRestIdeal.main_arg0)
      ∧ m' ((c.tc : Thread Cert.ReferenceDhRestIdeal.nD Cert.ReferenceDhRestIdeal.τ).loc Cert.ReferenceDhRestIdeal.main_arg1) = m ((c.tc : Thread Cert.KernelDhRestIdeal.nD Cert.KernelDhRestIdeal.τ).loc Cert.KernelDhRestIdeal.main_arg1)
      ∧ m' ((c.tc : Thread Cert.ReferenceDhRestIdeal.nD Cert.ReferenceDhRestIdeal.τ).loc Cert.ReferenceDhRestIdeal.main_arg2) = m ((c.tc : Thread Cert.KernelDhRestIdeal.nD Cert.KernelDhRestIdeal.τ).loc Cert.KernelDhRestIdeal.main_arg2)
      ∧ m' ((c.tc : Thread Cert.ReferenceDhRestIdeal.nD Cert.ReferenceDhRestIdeal.τ).loc Cert.ReferenceDhRestIdeal.main_arg3) = m ((c.tc : Thread Cert.KernelDhRestIdeal.nD Cert.KernelDhRestIdeal.τ).loc Cert.KernelDhRestIdeal.main_arg3)
      ∧ m' ((c.tc : Thread Cert.ReferenceDhRestIdeal.nD Cert.ReferenceDhRestIdeal.τ).loc Cert.ReferenceDhRestIdeal.main_arg4) = m ((c.tc : Thread Cert.KernelDhRestIdeal.nD Cert.KernelDhRestIdeal.τ).loc Cert.KernelDhRestIdeal.main_arg4)
      ∧ m' ((c.tc : Thread Cert.ReferenceDhRestIdeal.nD Cert.ReferenceDhRestIdeal.τ).loc Cert.ReferenceDhRestIdeal.main_arg5) = m ((c.tc : Thread Cert.KernelDhRestIdeal.nD Cert.KernelDhRestIdeal.τ).loc Cert.KernelDhRestIdeal.main_arg5)
      ∧ m' ((c.tc : Thread Cert.ReferenceDhRestIdeal.nD Cert.ReferenceDhRestIdeal.τ).loc Cert.ReferenceDhRestIdeal.main_arg6) = m ((c.tc : Thread Cert.KernelDhRestIdeal.nD Cert.KernelDhRestIdeal.τ).loc Cert.KernelDhRestIdeal.main_arg6)) →
    ∃ (v0 : (c : Dev Cert.KernelDhRestIdeal.nD) → Buf (Elt Ideal) ((c.tc : Thread Cert.KernelDhRestIdeal.nD Cert.KernelDhRestIdeal.τ).loc Cert.KernelDhRestIdeal.main_v0)),
      θ_run (Cert.KernelDhRestIdeal.defs (F := Ideal)) (onTc (τ := Cert.KernelDhRestIdeal.τ) (Cert.KernelDhRestIdeal.main (F := Ideal))) ⟨m, fun _ => 0, g⟩ (fun r => ∀ c : Dev Cert.KernelDhRestIdeal.nD,
          r.2.mem ((c.tc : Thread Cert.KernelDhRestIdeal.nD Cert.KernelDhRestIdeal.τ).loc Cert.KernelDhRestIdeal.main_v0) = v0 c
          ∧ r.2.mem ((c.tc : Thread Cert.KernelDhRestIdeal.nD Cert.KernelDhRestIdeal.τ).loc Cert.KernelDhRestIdeal.main_arg0) = m ((c.tc : Thread Cert.KernelDhRestIdeal.nD Cert.KernelDhRestIdeal.τ).loc Cert.KernelDhRestIdeal.main_arg0)
          ∧ r.2.mem ((c.tc : Thread Cert.KernelDhRestIdeal.nD Cert.KernelDhRestIdeal.τ).loc Cert.KernelDhRestIdeal.main_arg1) = m ((c.tc : Thread Cert.KernelDhRestIdeal.nD Cert.KernelDhRestIdeal.τ).loc Cert.KernelDhRestIdeal.main_arg1)
          ∧ r.2.mem ((c.tc : Thread Cert.KernelDhRestIdeal.nD Cert.KernelDhRestIdeal.τ).loc Cert.KernelDhRestIdeal.main_arg2) = m ((c.tc : Thread Cert.KernelDhRestIdeal.nD Cert.KernelDhRestIdeal.τ).loc Cert.KernelDhRestIdeal.main_arg2)
          ∧ r.2.mem ((c.tc : Thread Cert.KernelDhRestIdeal.nD Cert.KernelDhRestIdeal.τ).loc Cert.KernelDhRestIdeal.main_arg3) = m ((c.tc : Thread Cert.KernelDhRestIdeal.nD Cert.KernelDhRestIdeal.τ).loc Cert.KernelDhRestIdeal.main_arg3)
          ∧ r.2.mem ((c.tc : Thread Cert.KernelDhRestIdeal.nD Cert.KernelDhRestIdeal.τ).loc Cert.KernelDhRestIdeal.main_arg4) = m ((c.tc : Thread Cert.KernelDhRestIdeal.nD Cert.KernelDhRestIdeal.τ).loc Cert.KernelDhRestIdeal.main_arg4)
          ∧ r.2.mem ((c.tc : Thread Cert.KernelDhRestIdeal.nD Cert.KernelDhRestIdeal.τ).loc Cert.KernelDhRestIdeal.main_arg5) = m ((c.tc : Thread Cert.KernelDhRestIdeal.nD Cert.KernelDhRestIdeal.τ).loc Cert.KernelDhRestIdeal.main_arg5)
          ∧ r.2.mem ((c.tc : Thread Cert.KernelDhRestIdeal.nD Cert.KernelDhRestIdeal.τ).loc Cert.KernelDhRestIdeal.main_arg6) = m ((c.tc : Thread Cert.KernelDhRestIdeal.nD Cert.KernelDhRestIdeal.τ).loc Cert.KernelDhRestIdeal.main_arg6))
      ∧ θ_run (Cert.ReferenceDhRestIdeal.defs (F := Ideal)) (onTc (τ := Cert.ReferenceDhRestIdeal.τ) (Cert.ReferenceDhRestIdeal.main (F := Ideal))) ⟨m', fun _ => 0, g'⟩ (fun r => ∀ c : Dev Cert.ReferenceDhRestIdeal.nD,
          r.2.mem ((c.tc : Thread Cert.ReferenceDhRestIdeal.nD Cert.ReferenceDhRestIdeal.τ).loc Cert.ReferenceDhRestIdeal.main_v16) = v0 c
          ∧ r.2.mem ((c.tc : Thread Cert.ReferenceDhRestIdeal.nD Cert.ReferenceDhRestIdeal.τ).loc Cert.ReferenceDhRestIdeal.main_arg0) = m' ((c.tc : Thread Cert.ReferenceDhRestIdeal.nD Cert.ReferenceDhRestIdeal.τ).loc Cert.ReferenceDhRestIdeal.main_arg0)
          ∧ r.2.mem ((c.tc : Thread Cert.ReferenceDhRestIdeal.nD Cert.ReferenceDhRestIdeal.τ).loc Cert.ReferenceDhRestIdeal.main_arg1) = m' ((c.tc : Thread Cert.ReferenceDhRestIdeal.nD Cert.ReferenceDhRestIdeal.τ).loc Cert.ReferenceDhRestIdeal.main_arg1)
          ∧ r.2.mem ((c.tc : Thread Cert.ReferenceDhRestIdeal.nD Cert.ReferenceDhRestIdeal.τ).loc Cert.ReferenceDhRestIdeal.main_arg2) = m' ((c.tc : Thread Cert.ReferenceDhRestIdeal.nD Cert.ReferenceDhRestIdeal.τ).loc Cert.ReferenceDhRestIdeal.main_arg2)
          ∧ r.2.mem ((c.tc : Thread Cert.ReferenceDhRestIdeal.nD Cert.ReferenceDhRestIdeal.τ).loc Cert.ReferenceDhRestIdeal.main_arg3) = m' ((c.tc : Thread Cert.ReferenceDhRestIdeal.nD Cert.ReferenceDhRestIdeal.τ).loc Cert.ReferenceDhRestIdeal.main_arg3)
          ∧ r.2.mem ((c.tc : Thread Cert.ReferenceDhRestIdeal.nD Cert.ReferenceDhRestIdeal.τ).loc Cert.ReferenceDhRestIdeal.main_arg4) = m' ((c.tc : Thread Cert.ReferenceDhRestIdeal.nD Cert.ReferenceDhRestIdeal.τ).loc Cert.ReferenceDhRestIdeal.main_arg4)
          ∧ r.2.mem ((c.tc : Thread Cert.ReferenceDhRestIdeal.nD Cert.ReferenceDhRestIdeal.τ).loc Cert.ReferenceDhRestIdeal.main_arg5) = m' ((c.tc : Thread Cert.ReferenceDhRestIdeal.nD Cert.ReferenceDhRestIdeal.τ).loc Cert.ReferenceDhRestIdeal.main_arg5)
          ∧ r.2.mem ((c.tc : Thread Cert.ReferenceDhRestIdeal.nD Cert.ReferenceDhRestIdeal.τ).loc Cert.ReferenceDhRestIdeal.main_arg6) = m' ((c.tc : Thread Cert.ReferenceDhRestIdeal.nD Cert.ReferenceDhRestIdeal.τ).loc Cert.ReferenceDhRestIdeal.main_arg6))

def preserves_KernelDhHead_KernelDhHeadIdeal : Prop :=
  True

def algebraic_KernelDhHeadIdeal_ReferenceDhHeadIdeal [hKernelDhHeadIdeal : Cert.KernelDhHeadIdeal.Facts] [hReferenceDhHeadIdeal : Cert.ReferenceDhHeadIdeal.Facts] : Prop :=
  ∀ (m : (ℓ : Loc Cert.KernelDhHeadIdeal.nD Cert.KernelDhHeadIdeal.τ Cert.KernelDhHeadIdeal.sig) → Buf (Elt Ideal) ℓ) (g : Dev Cert.KernelDhHeadIdeal.nD → PrngReg)
    (m' : (ℓ : Loc Cert.ReferenceDhHeadIdeal.nD Cert.ReferenceDhHeadIdeal.τ Cert.ReferenceDhHeadIdeal.sig) → Buf (Elt Ideal) ℓ) (g' : Dev Cert.ReferenceDhHeadIdeal.nD → PrngReg), Pre_KernelDhHeadIdeal m →
    (∀ c : Dev Cert.KernelDhHeadIdeal.nD,
      m' ((c.tc : Thread Cert.ReferenceDhHeadIdeal.nD Cert.ReferenceDhHeadIdeal.τ).loc Cert.ReferenceDhHeadIdeal.main_arg0) = m ((c.tc : Thread Cert.KernelDhHeadIdeal.nD Cert.KernelDhHeadIdeal.τ).loc Cert.KernelDhHeadIdeal.main_arg0)
      ∧ m' ((c.tc : Thread Cert.ReferenceDhHeadIdeal.nD Cert.ReferenceDhHeadIdeal.τ).loc Cert.ReferenceDhHeadIdeal.main_arg1) = m ((c.tc : Thread Cert.KernelDhHeadIdeal.nD Cert.KernelDhHeadIdeal.τ).loc Cert.KernelDhHeadIdeal.main_arg1)
      ∧ m' ((c.tc : Thread Cert.ReferenceDhHeadIdeal.nD Cert.ReferenceDhHeadIdeal.τ).loc Cert.ReferenceDhHeadIdeal.main_arg2) = m ((c.tc : Thread Cert.KernelDhHeadIdeal.nD Cert.KernelDhHeadIdeal.τ).loc Cert.KernelDhHeadIdeal.main_arg2)
      ∧ m' ((c.tc : Thread Cert.ReferenceDhHeadIdeal.nD Cert.ReferenceDhHeadIdeal.τ).loc Cert.ReferenceDhHeadIdeal.main_arg3) = m ((c.tc : Thread Cert.KernelDhHeadIdeal.nD Cert.KernelDhHeadIdeal.τ).loc Cert.KernelDhHeadIdeal.main_arg3)
      ∧ m' ((c.tc : Thread Cert.ReferenceDhHeadIdeal.nD Cert.ReferenceDhHeadIdeal.τ).loc Cert.ReferenceDhHeadIdeal.main_arg4) = m ((c.tc : Thread Cert.KernelDhHeadIdeal.nD Cert.KernelDhHeadIdeal.τ).loc Cert.KernelDhHeadIdeal.main_arg4)
      ∧ m' ((c.tc : Thread Cert.ReferenceDhHeadIdeal.nD Cert.ReferenceDhHeadIdeal.τ).loc Cert.ReferenceDhHeadIdeal.main_arg5) = m ((c.tc : Thread Cert.KernelDhHeadIdeal.nD Cert.KernelDhHeadIdeal.τ).loc Cert.KernelDhHeadIdeal.main_arg5)) →
    ∃ (v0 : (c : Dev Cert.KernelDhHeadIdeal.nD) → Buf (Elt Ideal) ((c.tc : Thread Cert.KernelDhHeadIdeal.nD Cert.KernelDhHeadIdeal.τ).loc Cert.KernelDhHeadIdeal.main_v1)),
      θ_run (Cert.KernelDhHeadIdeal.defs (F := Ideal)) (onTc (τ := Cert.KernelDhHeadIdeal.τ) (Cert.KernelDhHeadIdeal.main (F := Ideal))) ⟨m, fun _ => 0, g⟩ (fun r => ∀ c : Dev Cert.KernelDhHeadIdeal.nD,
          r.2.mem ((c.tc : Thread Cert.KernelDhHeadIdeal.nD Cert.KernelDhHeadIdeal.τ).loc Cert.KernelDhHeadIdeal.main_v1) = v0 c
          ∧ r.2.mem ((c.tc : Thread Cert.KernelDhHeadIdeal.nD Cert.KernelDhHeadIdeal.τ).loc Cert.KernelDhHeadIdeal.main_arg0) = m ((c.tc : Thread Cert.KernelDhHeadIdeal.nD Cert.KernelDhHeadIdeal.τ).loc Cert.KernelDhHeadIdeal.main_arg0)
          ∧ r.2.mem ((c.tc : Thread Cert.KernelDhHeadIdeal.nD Cert.KernelDhHeadIdeal.τ).loc Cert.KernelDhHeadIdeal.main_arg1) = m ((c.tc : Thread Cert.KernelDhHeadIdeal.nD Cert.KernelDhHeadIdeal.τ).loc Cert.KernelDhHeadIdeal.main_arg1)
          ∧ r.2.mem ((c.tc : Thread Cert.KernelDhHeadIdeal.nD Cert.KernelDhHeadIdeal.τ).loc Cert.KernelDhHeadIdeal.main_arg2) = m ((c.tc : Thread Cert.KernelDhHeadIdeal.nD Cert.KernelDhHeadIdeal.τ).loc Cert.KernelDhHeadIdeal.main_arg2)
          ∧ r.2.mem ((c.tc : Thread Cert.KernelDhHeadIdeal.nD Cert.KernelDhHeadIdeal.τ).loc Cert.KernelDhHeadIdeal.main_arg3) = m ((c.tc : Thread Cert.KernelDhHeadIdeal.nD Cert.KernelDhHeadIdeal.τ).loc Cert.KernelDhHeadIdeal.main_arg3)
          ∧ r.2.mem ((c.tc : Thread Cert.KernelDhHeadIdeal.nD Cert.KernelDhHeadIdeal.τ).loc Cert.KernelDhHeadIdeal.main_arg4) = m ((c.tc : Thread Cert.KernelDhHeadIdeal.nD Cert.KernelDhHeadIdeal.τ).loc Cert.KernelDhHeadIdeal.main_arg4)
          ∧ r.2.mem ((c.tc : Thread Cert.KernelDhHeadIdeal.nD Cert.KernelDhHeadIdeal.τ).loc Cert.KernelDhHeadIdeal.main_arg5) = m ((c.tc : Thread Cert.KernelDhHeadIdeal.nD Cert.KernelDhHeadIdeal.τ).loc Cert.KernelDhHeadIdeal.main_arg5))
      ∧ θ_run (Cert.ReferenceDhHeadIdeal.defs (F := Ideal)) (onTc (τ := Cert.ReferenceDhHeadIdeal.τ) (Cert.ReferenceDhHeadIdeal.main (F := Ideal))) ⟨m', fun _ => 0, g'⟩ (fun r => ∀ c : Dev Cert.ReferenceDhHeadIdeal.nD,
          r.2.mem ((c.tc : Thread Cert.ReferenceDhHeadIdeal.nD Cert.ReferenceDhHeadIdeal.τ).loc Cert.ReferenceDhHeadIdeal.main_v14) = v0 c
          ∧ r.2.mem ((c.tc : Thread Cert.ReferenceDhHeadIdeal.nD Cert.ReferenceDhHeadIdeal.τ).loc Cert.ReferenceDhHeadIdeal.main_arg0) = m' ((c.tc : Thread Cert.ReferenceDhHeadIdeal.nD Cert.ReferenceDhHeadIdeal.τ).loc Cert.ReferenceDhHeadIdeal.main_arg0)
          ∧ r.2.mem ((c.tc : Thread Cert.ReferenceDhHeadIdeal.nD Cert.ReferenceDhHeadIdeal.τ).loc Cert.ReferenceDhHeadIdeal.main_arg1) = m' ((c.tc : Thread Cert.ReferenceDhHeadIdeal.nD Cert.ReferenceDhHeadIdeal.τ).loc Cert.ReferenceDhHeadIdeal.main_arg1)
          ∧ r.2.mem ((c.tc : Thread Cert.ReferenceDhHeadIdeal.nD Cert.ReferenceDhHeadIdeal.τ).loc Cert.ReferenceDhHeadIdeal.main_arg2) = m' ((c.tc : Thread Cert.ReferenceDhHeadIdeal.nD Cert.ReferenceDhHeadIdeal.τ).loc Cert.ReferenceDhHeadIdeal.main_arg2)
          ∧ r.2.mem ((c.tc : Thread Cert.ReferenceDhHeadIdeal.nD Cert.ReferenceDhHeadIdeal.τ).loc Cert.ReferenceDhHeadIdeal.main_arg3) = m' ((c.tc : Thread Cert.ReferenceDhHeadIdeal.nD Cert.ReferenceDhHeadIdeal.τ).loc Cert.ReferenceDhHeadIdeal.main_arg3)
          ∧ r.2.mem ((c.tc : Thread Cert.ReferenceDhHeadIdeal.nD Cert.ReferenceDhHeadIdeal.τ).loc Cert.ReferenceDhHeadIdeal.main_arg4) = m' ((c.tc : Thread Cert.ReferenceDhHeadIdeal.nD Cert.ReferenceDhHeadIdeal.τ).loc Cert.ReferenceDhHeadIdeal.main_arg4)
          ∧ r.2.mem ((c.tc : Thread Cert.ReferenceDhHeadIdeal.nD Cert.ReferenceDhHeadIdeal.τ).loc Cert.ReferenceDhHeadIdeal.main_arg5) = m' ((c.tc : Thread Cert.ReferenceDhHeadIdeal.nD Cert.ReferenceDhHeadIdeal.τ).loc Cert.ReferenceDhHeadIdeal.main_arg5))

def preserves_KernelDwOut_KernelDwOutIdeal : Prop :=
  True

def algebraic_KernelDwOutIdeal_ReferenceDwOutIdeal [hKernelDwOutIdeal : Cert.KernelDwOutIdeal.Facts] [hReferenceDwOutIdeal : Cert.ReferenceDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg)
    (m' : (ℓ : Loc Cert.ReferenceDwOutIdeal.nD Cert.ReferenceDwOutIdeal.τ Cert.ReferenceDwOutIdeal.sig) → Buf (Elt Ideal) ℓ) (g' : Dev Cert.ReferenceDwOutIdeal.nD → PrngReg), Pre_KernelDwOutIdeal m →
    (∀ c : Dev Cert.KernelDwOutIdeal.nD,
      m' ((c.tc : Thread Cert.ReferenceDwOutIdeal.nD Cert.ReferenceDwOutIdeal.τ).loc Cert.ReferenceDwOutIdeal.main_arg0) = m ((c.tc : Thread Cert.KernelDwOutIdeal.nD Cert.KernelDwOutIdeal.τ).loc Cert.KernelDwOutIdeal.main_arg0)
      ∧ m' ((c.tc : Thread Cert.ReferenceDwOutIdeal.nD Cert.ReferenceDwOutIdeal.τ).loc Cert.ReferenceDwOutIdeal.main_arg1) = m ((c.tc : Thread Cert.KernelDwOutIdeal.nD Cert.KernelDwOutIdeal.τ).loc Cert.KernelDwOutIdeal.main_arg1)
      ∧ m' ((c.tc : Thread Cert.ReferenceDwOutIdeal.nD Cert.ReferenceDwOutIdeal.τ).loc Cert.ReferenceDwOutIdeal.main_arg2) = m ((c.tc : Thread Cert.KernelDwOutIdeal.nD Cert.KernelDwOutIdeal.τ).loc Cert.KernelDwOutIdeal.main_arg2)) →
    ∃ (v0 : (c : Dev Cert.KernelDwOutIdeal.nD) → Buf (Elt Ideal) ((c.tc : Thread Cert.KernelDwOutIdeal.nD Cert.KernelDwOutIdeal.τ).loc Cert.KernelDwOutIdeal.main_v0)),
      θ_run (Cert.KernelDwOutIdeal.defs (F := Ideal)) (onTc (τ := Cert.KernelDwOutIdeal.τ) (Cert.KernelDwOutIdeal.main (F := Ideal))) ⟨m, fun _ => 0, g⟩ (fun r => ∀ c : Dev Cert.KernelDwOutIdeal.nD,
          r.2.mem ((c.tc : Thread Cert.KernelDwOutIdeal.nD Cert.KernelDwOutIdeal.τ).loc Cert.KernelDwOutIdeal.main_v0) = v0 c
          ∧ r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
          ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1)
          ∧ r.2.mem ((c.tc : Thread Cert.KernelDwOutIdeal.nD Cert.KernelDwOutIdeal.τ).loc Cert.KernelDwOutIdeal.main_arg2) = m ((c.tc : Thread Cert.KernelDwOutIdeal.nD Cert.KernelDwOutIdeal.τ).loc Cert.KernelDwOutIdeal.main_arg2))
      ∧ θ_run (Cert.ReferenceDwOutIdeal.defs (F := Ideal)) (onTc (τ := Cert.ReferenceDwOutIdeal.τ) (Cert.ReferenceDwOutIdeal.main (F := Ideal))) ⟨m', fun _ => 0, g'⟩ (fun r => ∀ c : Dev Cert.ReferenceDwOutIdeal.nD,
          r.2.mem ((c.tc : Thread Cert.ReferenceDwOutIdeal.nD Cert.ReferenceDwOutIdeal.τ).loc Cert.ReferenceDwOutIdeal.main_v12) = v0 c
          ∧ r.2.mem ((c.tc : Thread Cert.ReferenceDwOutIdeal.nD Cert.ReferenceDwOutIdeal.τ).loc Cert.ReferenceDwOutIdeal.main_arg0) = m' ((c.tc : Thread Cert.ReferenceDwOutIdeal.nD Cert.ReferenceDwOutIdeal.τ).loc Cert.ReferenceDwOutIdeal.main_arg0)
          ∧ r.2.mem ((c.tc : Thread Cert.ReferenceDwOutIdeal.nD Cert.ReferenceDwOutIdeal.τ).loc Cert.ReferenceDwOutIdeal.main_arg1) = m' ((c.tc : Thread Cert.ReferenceDwOutIdeal.nD Cert.ReferenceDwOutIdeal.τ).loc Cert.ReferenceDwOutIdeal.main_arg1)
          ∧ r.2.mem ((c.tc : Thread Cert.ReferenceDwOutIdeal.nD Cert.ReferenceDwOutIdeal.τ).loc Cert.ReferenceDwOutIdeal.main_arg2) = m' ((c.tc : Thread Cert.ReferenceDwOutIdeal.nD Cert.ReferenceDwOutIdeal.τ).loc Cert.ReferenceDwOutIdeal.main_arg2))

def preserves_KernelDwOutAttn_KernelDwOutAttnIdeal : Prop :=
  True

def algebraic_KernelDwOutAttnIdeal_ReferenceDwOutAttnIdeal [hKernelDwOutAttnIdeal : Cert.KernelDwOutAttnIdeal.Facts] [hReferenceDwOutAttnIdeal : Cert.ReferenceDwOutAttnIdeal.Facts] : Prop :=
  ∀ (m : (ℓ : Loc Cert.KernelDwOutAttnIdeal.nD Cert.KernelDwOutAttnIdeal.τ Cert.KernelDwOutAttnIdeal.sig) → Buf (Elt Ideal) ℓ) (g : Dev Cert.KernelDwOutAttnIdeal.nD → PrngReg)
    (m' : (ℓ : Loc Cert.ReferenceDwOutAttnIdeal.nD Cert.ReferenceDwOutAttnIdeal.τ Cert.ReferenceDwOutAttnIdeal.sig) → Buf (Elt Ideal) ℓ) (g' : Dev Cert.ReferenceDwOutAttnIdeal.nD → PrngReg), Pre_KernelDwOutAttnIdeal m →
    (∀ c : Dev Cert.KernelDwOutAttnIdeal.nD,
      m' ((c.tc : Thread Cert.ReferenceDwOutAttnIdeal.nD Cert.ReferenceDwOutAttnIdeal.τ).loc Cert.ReferenceDwOutAttnIdeal.main_arg0) = m ((c.tc : Thread Cert.KernelDwOutAttnIdeal.nD Cert.KernelDwOutAttnIdeal.τ).loc Cert.KernelDwOutAttnIdeal.main_arg0)
      ∧ m' ((c.tc : Thread Cert.ReferenceDwOutAttnIdeal.nD Cert.ReferenceDwOutAttnIdeal.τ).loc Cert.ReferenceDwOutAttnIdeal.main_arg1) = m ((c.tc : Thread Cert.KernelDwOutAttnIdeal.nD Cert.KernelDwOutAttnIdeal.τ).loc Cert.KernelDwOutAttnIdeal.main_arg1)
      ∧ m' ((c.tc : Thread Cert.ReferenceDwOutAttnIdeal.nD Cert.ReferenceDwOutAttnIdeal.τ).loc Cert.ReferenceDwOutAttnIdeal.main_arg2) = m ((c.tc : Thread Cert.KernelDwOutAttnIdeal.nD Cert.KernelDwOutAttnIdeal.τ).loc Cert.KernelDwOutAttnIdeal.main_arg2)) →
    ∃ (v0 : (c : Dev Cert.KernelDwOutAttnIdeal.nD) → Buf (Elt Ideal) ((c.tc : Thread Cert.KernelDwOutAttnIdeal.nD Cert.KernelDwOutAttnIdeal.τ).loc Cert.KernelDwOutAttnIdeal.main_v0)),
      θ_run (Cert.KernelDwOutAttnIdeal.defs (F := Ideal)) (onTc (τ := Cert.KernelDwOutAttnIdeal.τ) (Cert.KernelDwOutAttnIdeal.main (F := Ideal))) ⟨m, fun _ => 0, g⟩ (fun r => ∀ c : Dev Cert.KernelDwOutAttnIdeal.nD,
          r.2.mem ((c.tc : Thread Cert.KernelDwOutAttnIdeal.nD Cert.KernelDwOutAttnIdeal.τ).loc Cert.KernelDwOutAttnIdeal.main_v0) = v0 c
          ∧ r.2.mem ((c.tc : Thread Cert.KernelDwOutAttnIdeal.nD Cert.KernelDwOutAttnIdeal.τ).loc Cert.KernelDwOutAttnIdeal.main_arg0) = m ((c.tc : Thread Cert.KernelDwOutAttnIdeal.nD Cert.KernelDwOutAttnIdeal.τ).loc Cert.KernelDwOutAttnIdeal.main_arg0)
          ∧ r.2.mem ((c.tc : Thread Cert.KernelDwOutAttnIdeal.nD Cert.KernelDwOutAttnIdeal.τ).loc Cert.KernelDwOutAttnIdeal.main_arg1) = m ((c.tc : Thread Cert.KernelDwOutAttnIdeal.nD Cert.KernelDwOutAttnIdeal.τ).loc Cert.KernelDwOutAttnIdeal.main_arg1)
          ∧ r.2.mem ((c.tc : Thread Cert.KernelDwOutAttnIdeal.nD Cert.KernelDwOutAttnIdeal.τ).loc Cert.KernelDwOutAttnIdeal.main_arg2) = m ((c.tc : Thread Cert.KernelDwOutAttnIdeal.nD Cert.KernelDwOutAttnIdeal.τ).loc Cert.KernelDwOutAttnIdeal.main_arg2))
      ∧ θ_run (Cert.ReferenceDwOutAttnIdeal.defs (F := Ideal)) (onTc (τ := Cert.ReferenceDwOutAttnIdeal.τ) (Cert.ReferenceDwOutAttnIdeal.main (F := Ideal))) ⟨m', fun _ => 0, g'⟩ (fun r => ∀ c : Dev Cert.ReferenceDwOutAttnIdeal.nD,
          r.2.mem ((c.tc : Thread Cert.ReferenceDwOutAttnIdeal.nD Cert.ReferenceDwOutAttnIdeal.τ).loc Cert.ReferenceDwOutAttnIdeal.main_v10) = v0 c
          ∧ r.2.mem ((c.tc : Thread Cert.ReferenceDwOutAttnIdeal.nD Cert.ReferenceDwOutAttnIdeal.τ).loc Cert.ReferenceDwOutAttnIdeal.main_arg0) = m' ((c.tc : Thread Cert.ReferenceDwOutAttnIdeal.nD Cert.ReferenceDwOutAttnIdeal.τ).loc Cert.ReferenceDwOutAttnIdeal.main_arg0)
          ∧ r.2.mem ((c.tc : Thread Cert.ReferenceDwOutAttnIdeal.nD Cert.ReferenceDwOutAttnIdeal.τ).loc Cert.ReferenceDwOutAttnIdeal.main_arg1) = m' ((c.tc : Thread Cert.ReferenceDwOutAttnIdeal.nD Cert.ReferenceDwOutAttnIdeal.τ).loc Cert.ReferenceDwOutAttnIdeal.main_arg1)
          ∧ r.2.mem ((c.tc : Thread Cert.ReferenceDwOutAttnIdeal.nD Cert.ReferenceDwOutAttnIdeal.τ).loc Cert.ReferenceDwOutAttnIdeal.main_arg2) = m' ((c.tc : Thread Cert.ReferenceDwOutAttnIdeal.nD Cert.ReferenceDwOutAttnIdeal.τ).loc Cert.ReferenceDwOutAttnIdeal.main_arg2))

def preserves_KernelDwOutPool_KernelDwOutPoolIdeal : Prop :=
  True

def algebraic_KernelDwOutPoolIdeal_ReferenceDwOutPoolIdeal [hKernelDwOutPoolIdeal : Cert.KernelDwOutPoolIdeal.Facts] [hReferenceDwOutPoolIdeal : Cert.ReferenceDwOutPoolIdeal.Facts] : Prop :=
  ∀ (m : (ℓ : Loc Cert.KernelDwOutPoolIdeal.nD Cert.KernelDwOutPoolIdeal.τ Cert.KernelDwOutPoolIdeal.sig) → Buf (Elt Ideal) ℓ) (g : Dev Cert.KernelDwOutPoolIdeal.nD → PrngReg)
    (m' : (ℓ : Loc Cert.ReferenceDwOutPoolIdeal.nD Cert.ReferenceDwOutPoolIdeal.τ Cert.ReferenceDwOutPoolIdeal.sig) → Buf (Elt Ideal) ℓ) (g' : Dev Cert.ReferenceDwOutPoolIdeal.nD → PrngReg), Pre_KernelDwOutPoolIdeal m →
    (∀ c : Dev Cert.KernelDwOutPoolIdeal.nD,
      m' ((c.tc : Thread Cert.ReferenceDwOutPoolIdeal.nD Cert.ReferenceDwOutPoolIdeal.τ).loc Cert.ReferenceDwOutPoolIdeal.main_arg0) = m ((c.tc : Thread Cert.KernelDwOutPoolIdeal.nD Cert.KernelDwOutPoolIdeal.τ).loc Cert.KernelDwOutPoolIdeal.main_arg0)
      ∧ m' ((c.tc : Thread Cert.ReferenceDwOutPoolIdeal.nD Cert.ReferenceDwOutPoolIdeal.τ).loc Cert.ReferenceDwOutPoolIdeal.main_arg1) = m ((c.tc : Thread Cert.KernelDwOutPoolIdeal.nD Cert.KernelDwOutPoolIdeal.τ).loc Cert.KernelDwOutPoolIdeal.main_arg1)
      ∧ m' ((c.tc : Thread Cert.ReferenceDwOutPoolIdeal.nD Cert.ReferenceDwOutPoolIdeal.τ).loc Cert.ReferenceDwOutPoolIdeal.main_arg2) = m ((c.tc : Thread Cert.KernelDwOutPoolIdeal.nD Cert.KernelDwOutPoolIdeal.τ).loc Cert.KernelDwOutPoolIdeal.main_arg2)) →
    ∃ (v0 : (c : Dev Cert.KernelDwOutPoolIdeal.nD) → Buf (Elt Ideal) ((c.tc : Thread Cert.KernelDwOutPoolIdeal.nD Cert.KernelDwOutPoolIdeal.τ).loc Cert.KernelDwOutPoolIdeal.main_v0)),
      θ_run (Cert.KernelDwOutPoolIdeal.defs (F := Ideal)) (onTc (τ := Cert.KernelDwOutPoolIdeal.τ) (Cert.KernelDwOutPoolIdeal.main (F := Ideal))) ⟨m, fun _ => 0, g⟩ (fun r => ∀ c : Dev Cert.KernelDwOutPoolIdeal.nD,
          r.2.mem ((c.tc : Thread Cert.KernelDwOutPoolIdeal.nD Cert.KernelDwOutPoolIdeal.τ).loc Cert.KernelDwOutPoolIdeal.main_v0) = v0 c
          ∧ r.2.mem ((c.tc : Thread Cert.KernelDwOutPoolIdeal.nD Cert.KernelDwOutPoolIdeal.τ).loc Cert.KernelDwOutPoolIdeal.main_arg0) = m ((c.tc : Thread Cert.KernelDwOutPoolIdeal.nD Cert.KernelDwOutPoolIdeal.τ).loc Cert.KernelDwOutPoolIdeal.main_arg0)
          ∧ r.2.mem ((c.tc : Thread Cert.KernelDwOutPoolIdeal.nD Cert.KernelDwOutPoolIdeal.τ).loc Cert.KernelDwOutPoolIdeal.main_arg1) = m ((c.tc : Thread Cert.KernelDwOutPoolIdeal.nD Cert.KernelDwOutPoolIdeal.τ).loc Cert.KernelDwOutPoolIdeal.main_arg1)
          ∧ r.2.mem ((c.tc : Thread Cert.KernelDwOutPoolIdeal.nD Cert.KernelDwOutPoolIdeal.τ).loc Cert.KernelDwOutPoolIdeal.main_arg2) = m ((c.tc : Thread Cert.KernelDwOutPoolIdeal.nD Cert.KernelDwOutPoolIdeal.τ).loc Cert.KernelDwOutPoolIdeal.main_arg2))
      ∧ θ_run (Cert.ReferenceDwOutPoolIdeal.defs (F := Ideal)) (onTc (τ := Cert.ReferenceDwOutPoolIdeal.τ) (Cert.ReferenceDwOutPoolIdeal.main (F := Ideal))) ⟨m', fun _ => 0, g'⟩ (fun r => ∀ c : Dev Cert.ReferenceDwOutPoolIdeal.nD,
          r.2.mem ((c.tc : Thread Cert.ReferenceDwOutPoolIdeal.nD Cert.ReferenceDwOutPoolIdeal.τ).loc Cert.ReferenceDwOutPoolIdeal.main_v11) = v0 c
          ∧ r.2.mem ((c.tc : Thread Cert.ReferenceDwOutPoolIdeal.nD Cert.ReferenceDwOutPoolIdeal.τ).loc Cert.ReferenceDwOutPoolIdeal.main_arg0) = m' ((c.tc : Thread Cert.ReferenceDwOutPoolIdeal.nD Cert.ReferenceDwOutPoolIdeal.τ).loc Cert.ReferenceDwOutPoolIdeal.main_arg0)
          ∧ r.2.mem ((c.tc : Thread Cert.ReferenceDwOutPoolIdeal.nD Cert.ReferenceDwOutPoolIdeal.τ).loc Cert.ReferenceDwOutPoolIdeal.main_arg1) = m' ((c.tc : Thread Cert.ReferenceDwOutPoolIdeal.nD Cert.ReferenceDwOutPoolIdeal.τ).loc Cert.ReferenceDwOutPoolIdeal.main_arg1)
          ∧ r.2.mem ((c.tc : Thread Cert.ReferenceDwOutPoolIdeal.nD Cert.ReferenceDwOutPoolIdeal.τ).loc Cert.ReferenceDwOutPoolIdeal.main_arg2) = m' ((c.tc : Thread Cert.ReferenceDwOutPoolIdeal.nD Cert.ReferenceDwOutPoolIdeal.τ).loc Cert.ReferenceDwOutPoolIdeal.main_arg2))

def preserves_KernelProj0_KernelProj0Ideal : Prop :=
  True

def algebraic_KernelProj0Ideal_ReferenceProj0Ideal [hKernelProj0Ideal : Cert.KernelProj0Ideal.Facts] [hReferenceProj0Ideal : Cert.ReferenceProj0Ideal.Facts] : Prop :=
  ∀ (m : (ℓ : Loc Cert.KernelProj0Ideal.nD Cert.KernelProj0Ideal.τ Cert.KernelProj0Ideal.sig) → Buf (Elt Ideal) ℓ) (g : Dev Cert.KernelProj0Ideal.nD → PrngReg)
    (m' : (ℓ : Loc Cert.ReferenceProj0Ideal.nD Cert.ReferenceProj0Ideal.τ Cert.ReferenceProj0Ideal.sig) → Buf (Elt Ideal) ℓ) (g' : Dev Cert.ReferenceProj0Ideal.nD → PrngReg), Pre_KernelProj0Ideal m →
    (∀ c : Dev Cert.KernelProj0Ideal.nD,
      m' ((c.tc : Thread Cert.ReferenceProj0Ideal.nD Cert.ReferenceProj0Ideal.τ).loc Cert.ReferenceProj0Ideal.main_arg0) = m ((c.tc : Thread Cert.KernelProj0Ideal.nD Cert.KernelProj0Ideal.τ).loc Cert.KernelProj0Ideal.main_arg0)
      ∧ m' ((c.tc : Thread Cert.ReferenceProj0Ideal.nD Cert.ReferenceProj0Ideal.τ).loc Cert.ReferenceProj0Ideal.main_arg1) = m ((c.tc : Thread Cert.KernelProj0Ideal.nD Cert.KernelProj0Ideal.τ).loc Cert.KernelProj0Ideal.main_arg1)) →
    ∃ (v0 : (c : Dev Cert.KernelProj0Ideal.nD) → Buf (Elt Ideal) ((c.tc : Thread Cert.KernelProj0Ideal.nD Cert.KernelProj0Ideal.τ).loc Cert.KernelProj0Ideal.main_v9)),
      θ_run (Cert.KernelProj0Ideal.defs (F := Ideal)) (onTc (τ := Cert.KernelProj0Ideal.τ) (Cert.KernelProj0Ideal.main (F := Ideal))) ⟨m, fun _ => 0, g⟩ (fun r => ∀ c : Dev Cert.KernelProj0Ideal.nD,
          r.2.mem ((c.tc : Thread Cert.KernelProj0Ideal.nD Cert.KernelProj0Ideal.τ).loc Cert.KernelProj0Ideal.main_v9) = v0 c
          ∧ r.2.mem ((c.tc : Thread Cert.KernelProj0Ideal.nD Cert.KernelProj0Ideal.τ).loc Cert.KernelProj0Ideal.main_arg0) = m ((c.tc : Thread Cert.KernelProj0Ideal.nD Cert.KernelProj0Ideal.τ).loc Cert.KernelProj0Ideal.main_arg0)
          ∧ r.2.mem ((c.tc : Thread Cert.KernelProj0Ideal.nD Cert.KernelProj0Ideal.τ).loc Cert.KernelProj0Ideal.main_arg1) = m ((c.tc : Thread Cert.KernelProj0Ideal.nD Cert.KernelProj0Ideal.τ).loc Cert.KernelProj0Ideal.main_arg1))
      ∧ θ_run (Cert.ReferenceProj0Ideal.defs (F := Ideal)) (onTc (τ := Cert.ReferenceProj0Ideal.τ) (Cert.ReferenceProj0Ideal.main (F := Ideal))) ⟨m', fun _ => 0, g'⟩ (fun r => ∀ c : Dev Cert.ReferenceProj0Ideal.nD,
          r.2.mem ((c.tc : Thread Cert.ReferenceProj0Ideal.nD Cert.ReferenceProj0Ideal.τ).loc Cert.ReferenceProj0Ideal.main_v4) = v0 c
          ∧ r.2.mem ((c.tc : Thread Cert.ReferenceProj0Ideal.nD Cert.ReferenceProj0Ideal.τ).loc Cert.ReferenceProj0Ideal.main_arg0) = m' ((c.tc : Thread Cert.ReferenceProj0Ideal.nD Cert.ReferenceProj0Ideal.τ).loc Cert.ReferenceProj0Ideal.main_arg0)
          ∧ r.2.mem ((c.tc : Thread Cert.ReferenceProj0Ideal.nD Cert.ReferenceProj0Ideal.τ).loc Cert.ReferenceProj0Ideal.main_arg1) = m' ((c.tc : Thread Cert.ReferenceProj0Ideal.nD Cert.ReferenceProj0Ideal.τ).loc Cert.ReferenceProj0Ideal.main_arg1))

def preserves_KernelProj1_KernelProj1Ideal : Prop :=
  True

def algebraic_KernelProj1Ideal_ReferenceProj1Ideal [hKernelProj1Ideal : Cert.KernelProj1Ideal.Facts] [hReferenceProj1Ideal : Cert.ReferenceProj1Ideal.Facts] : Prop :=
  ∀ (m : (ℓ : Loc Cert.KernelProj1Ideal.nD Cert.KernelProj1Ideal.τ Cert.KernelProj1Ideal.sig) → Buf (Elt Ideal) ℓ) (g : Dev Cert.KernelProj1Ideal.nD → PrngReg)
    (m' : (ℓ : Loc Cert.ReferenceProj1Ideal.nD Cert.ReferenceProj1Ideal.τ Cert.ReferenceProj1Ideal.sig) → Buf (Elt Ideal) ℓ) (g' : Dev Cert.ReferenceProj1Ideal.nD → PrngReg), Pre_KernelProj1Ideal m →
    (∀ c : Dev Cert.KernelProj1Ideal.nD,
      m' ((c.tc : Thread Cert.ReferenceProj1Ideal.nD Cert.ReferenceProj1Ideal.τ).loc Cert.ReferenceProj1Ideal.main_arg0) = m ((c.tc : Thread Cert.KernelProj1Ideal.nD Cert.KernelProj1Ideal.τ).loc Cert.KernelProj1Ideal.main_arg0)
      ∧ m' ((c.tc : Thread Cert.ReferenceProj1Ideal.nD Cert.ReferenceProj1Ideal.τ).loc Cert.ReferenceProj1Ideal.main_arg1) = m ((c.tc : Thread Cert.KernelProj1Ideal.nD Cert.KernelProj1Ideal.τ).loc Cert.KernelProj1Ideal.main_arg1)
      ∧ m' ((c.tc : Thread Cert.ReferenceProj1Ideal.nD Cert.ReferenceProj1Ideal.τ).loc Cert.ReferenceProj1Ideal.main_arg2) = m ((c.tc : Thread Cert.KernelProj1Ideal.nD Cert.KernelProj1Ideal.τ).loc Cert.KernelProj1Ideal.main_arg2)) →
    ∃ (v0 : (c : Dev Cert.KernelProj1Ideal.nD) → Buf (Elt Ideal) ((c.tc : Thread Cert.KernelProj1Ideal.nD Cert.KernelProj1Ideal.τ).loc Cert.KernelProj1Ideal.main_v0)),
      θ_run (Cert.KernelProj1Ideal.defs (F := Ideal)) (onTc (τ := Cert.KernelProj1Ideal.τ) (Cert.KernelProj1Ideal.main (F := Ideal))) ⟨m, fun _ => 0, g⟩ (fun r => ∀ c : Dev Cert.KernelProj1Ideal.nD,
          r.2.mem ((c.tc : Thread Cert.KernelProj1Ideal.nD Cert.KernelProj1Ideal.τ).loc Cert.KernelProj1Ideal.main_v0) = v0 c
          ∧ r.2.mem ((c.tc : Thread Cert.KernelProj1Ideal.nD Cert.KernelProj1Ideal.τ).loc Cert.KernelProj1Ideal.main_arg0) = m ((c.tc : Thread Cert.KernelProj1Ideal.nD Cert.KernelProj1Ideal.τ).loc Cert.KernelProj1Ideal.main_arg0)
          ∧ r.2.mem ((c.tc : Thread Cert.KernelProj1Ideal.nD Cert.KernelProj1Ideal.τ).loc Cert.KernelProj1Ideal.main_arg1) = m ((c.tc : Thread Cert.KernelProj1Ideal.nD Cert.KernelProj1Ideal.τ).loc Cert.KernelProj1Ideal.main_arg1)
          ∧ r.2.mem ((c.tc : Thread Cert.KernelProj1Ideal.nD Cert.KernelProj1Ideal.τ).loc Cert.KernelProj1Ideal.main_arg2) = m ((c.tc : Thread Cert.KernelProj1Ideal.nD Cert.KernelProj1Ideal.τ).loc Cert.KernelProj1Ideal.main_arg2))
      ∧ θ_run (Cert.ReferenceProj1Ideal.defs (F := Ideal)) (onTc (τ := Cert.ReferenceProj1Ideal.τ) (Cert.ReferenceProj1Ideal.main (F := Ideal))) ⟨m', fun _ => 0, g'⟩ (fun r => ∀ c : Dev Cert.ReferenceProj1Ideal.nD,
          r.2.mem ((c.tc : Thread Cert.ReferenceProj1Ideal.nD Cert.ReferenceProj1Ideal.τ).loc Cert.ReferenceProj1Ideal.main_v21) = v0 c
          ∧ r.2.mem ((c.tc : Thread Cert.ReferenceProj1Ideal.nD Cert.ReferenceProj1Ideal.τ).loc Cert.ReferenceProj1Ideal.main_arg0) = m' ((c.tc : Thread Cert.ReferenceProj1Ideal.nD Cert.ReferenceProj1Ideal.τ).loc Cert.ReferenceProj1Ideal.main_arg0)
          ∧ r.2.mem ((c.tc : Thread Cert.ReferenceProj1Ideal.nD Cert.ReferenceProj1Ideal.τ).loc Cert.ReferenceProj1Ideal.main_arg1) = m' ((c.tc : Thread Cert.ReferenceProj1Ideal.nD Cert.ReferenceProj1Ideal.τ).loc Cert.ReferenceProj1Ideal.main_arg1)
          ∧ r.2.mem ((c.tc : Thread Cert.ReferenceProj1Ideal.nD Cert.ReferenceProj1Ideal.τ).loc Cert.ReferenceProj1Ideal.main_arg2) = m' ((c.tc : Thread Cert.ReferenceProj1Ideal.nD Cert.ReferenceProj1Ideal.τ).loc Cert.ReferenceProj1Ideal.main_arg2))

def preserves_KernelProj2_KernelProj2Ideal : Prop :=
  True

def algebraic_KernelProj2Ideal_ReferenceProj2Ideal [hKernelProj2Ideal : Cert.KernelProj2Ideal.Facts] [hReferenceProj2Ideal : Cert.ReferenceProj2Ideal.Facts] : Prop :=
  ∀ (m : (ℓ : Loc Cert.KernelProj2Ideal.nD Cert.KernelProj2Ideal.τ Cert.KernelProj2Ideal.sig) → Buf (Elt Ideal) ℓ) (g : Dev Cert.KernelProj2Ideal.nD → PrngReg)
    (m' : (ℓ : Loc Cert.ReferenceProj2Ideal.nD Cert.ReferenceProj2Ideal.τ Cert.ReferenceProj2Ideal.sig) → Buf (Elt Ideal) ℓ) (g' : Dev Cert.ReferenceProj2Ideal.nD → PrngReg), Pre_KernelProj2Ideal m →
    (∀ c : Dev Cert.KernelProj2Ideal.nD,
      m' ((c.tc : Thread Cert.ReferenceProj2Ideal.nD Cert.ReferenceProj2Ideal.τ).loc Cert.ReferenceProj2Ideal.main_arg0) = m ((c.tc : Thread Cert.KernelProj2Ideal.nD Cert.KernelProj2Ideal.τ).loc Cert.KernelProj2Ideal.main_arg0)
      ∧ m' ((c.tc : Thread Cert.ReferenceProj2Ideal.nD Cert.ReferenceProj2Ideal.τ).loc Cert.ReferenceProj2Ideal.main_arg1) = m ((c.tc : Thread Cert.KernelProj2Ideal.nD Cert.KernelProj2Ideal.τ).loc Cert.KernelProj2Ideal.main_arg1)
      ∧ m' ((c.tc : Thread Cert.ReferenceProj2Ideal.nD Cert.ReferenceProj2Ideal.τ).loc Cert.ReferenceProj2Ideal.main_arg2) = m ((c.tc : Thread Cert.KernelProj2Ideal.nD Cert.KernelProj2Ideal.τ).loc Cert.KernelProj2Ideal.main_arg2)) →
    ∃ (v0 : (c : Dev Cert.KernelProj2Ideal.nD) → Buf (Elt Ideal) ((c.tc : Thread Cert.KernelProj2Ideal.nD Cert.KernelProj2Ideal.τ).loc Cert.KernelProj2Ideal.main_v0)),
      θ_run (Cert.KernelProj2Ideal.defs (F := Ideal)) (onTc (τ := Cert.KernelProj2Ideal.τ) (Cert.KernelProj2Ideal.main (F := Ideal))) ⟨m, fun _ => 0, g⟩ (fun r => ∀ c : Dev Cert.KernelProj2Ideal.nD,
          r.2.mem ((c.tc : Thread Cert.KernelProj2Ideal.nD Cert.KernelProj2Ideal.τ).loc Cert.KernelProj2Ideal.main_v0) = v0 c
          ∧ r.2.mem ((c.tc : Thread Cert.KernelProj2Ideal.nD Cert.KernelProj2Ideal.τ).loc Cert.KernelProj2Ideal.main_arg0) = m ((c.tc : Thread Cert.KernelProj2Ideal.nD Cert.KernelProj2Ideal.τ).loc Cert.KernelProj2Ideal.main_arg0)
          ∧ r.2.mem ((c.tc : Thread Cert.KernelProj2Ideal.nD Cert.KernelProj2Ideal.τ).loc Cert.KernelProj2Ideal.main_arg1) = m ((c.tc : Thread Cert.KernelProj2Ideal.nD Cert.KernelProj2Ideal.τ).loc Cert.KernelProj2Ideal.main_arg1)
          ∧ r.2.mem ((c.tc : Thread Cert.KernelProj2Ideal.nD Cert.KernelProj2Ideal.τ).loc Cert.KernelProj2Ideal.main_arg2) = m ((c.tc : Thread Cert.KernelProj2Ideal.nD Cert.KernelProj2Ideal.τ).loc Cert.KernelProj2Ideal.main_arg2))
      ∧ θ_run (Cert.ReferenceProj2Ideal.defs (F := Ideal)) (onTc (τ := Cert.ReferenceProj2Ideal.τ) (Cert.ReferenceProj2Ideal.main (F := Ideal))) ⟨m', fun _ => 0, g'⟩ (fun r => ∀ c : Dev Cert.ReferenceProj2Ideal.nD,
          r.2.mem ((c.tc : Thread Cert.ReferenceProj2Ideal.nD Cert.ReferenceProj2Ideal.τ).loc Cert.ReferenceProj2Ideal.main_v21) = v0 c
          ∧ r.2.mem ((c.tc : Thread Cert.ReferenceProj2Ideal.nD Cert.ReferenceProj2Ideal.τ).loc Cert.ReferenceProj2Ideal.main_arg0) = m' ((c.tc : Thread Cert.ReferenceProj2Ideal.nD Cert.ReferenceProj2Ideal.τ).loc Cert.ReferenceProj2Ideal.main_arg0)
          ∧ r.2.mem ((c.tc : Thread Cert.ReferenceProj2Ideal.nD Cert.ReferenceProj2Ideal.τ).loc Cert.ReferenceProj2Ideal.main_arg1) = m' ((c.tc : Thread Cert.ReferenceProj2Ideal.nD Cert.ReferenceProj2Ideal.τ).loc Cert.ReferenceProj2Ideal.main_arg1)
          ∧ r.2.mem ((c.tc : Thread Cert.ReferenceProj2Ideal.nD Cert.ReferenceProj2Ideal.τ).loc Cert.ReferenceProj2Ideal.main_arg2) = m' ((c.tc : Thread Cert.ReferenceProj2Ideal.nD Cert.ReferenceProj2Ideal.τ).loc Cert.ReferenceProj2Ideal.main_arg2))

def preserves_KernelProj3_KernelProj3Ideal : Prop :=
  True

def algebraic_KernelProj3Ideal_ReferenceProj3Ideal [hKernelProj3Ideal : Cert.KernelProj3Ideal.Facts] [hReferenceProj3Ideal : Cert.ReferenceProj3Ideal.Facts] : Prop :=
  ∀ (m : (ℓ : Loc Cert.KernelProj3Ideal.nD Cert.KernelProj3Ideal.τ Cert.KernelProj3Ideal.sig) → Buf (Elt Ideal) ℓ) (g : Dev Cert.KernelProj3Ideal.nD → PrngReg)
    (m' : (ℓ : Loc Cert.ReferenceProj3Ideal.nD Cert.ReferenceProj3Ideal.τ Cert.ReferenceProj3Ideal.sig) → Buf (Elt Ideal) ℓ) (g' : Dev Cert.ReferenceProj3Ideal.nD → PrngReg), Pre_KernelProj3Ideal m →
    (∀ c : Dev Cert.KernelProj3Ideal.nD,
      m' ((c.tc : Thread Cert.ReferenceProj3Ideal.nD Cert.ReferenceProj3Ideal.τ).loc Cert.ReferenceProj3Ideal.main_arg0) = m ((c.tc : Thread Cert.KernelProj3Ideal.nD Cert.KernelProj3Ideal.τ).loc Cert.KernelProj3Ideal.main_arg0)
      ∧ m' ((c.tc : Thread Cert.ReferenceProj3Ideal.nD Cert.ReferenceProj3Ideal.τ).loc Cert.ReferenceProj3Ideal.main_arg1) = m ((c.tc : Thread Cert.KernelProj3Ideal.nD Cert.KernelProj3Ideal.τ).loc Cert.KernelProj3Ideal.main_arg1)
      ∧ m' ((c.tc : Thread Cert.ReferenceProj3Ideal.nD Cert.ReferenceProj3Ideal.τ).loc Cert.ReferenceProj3Ideal.main_arg2) = m ((c.tc : Thread Cert.KernelProj3Ideal.nD Cert.KernelProj3Ideal.τ).loc Cert.KernelProj3Ideal.main_arg2)) →
    ∃ (v0 : (c : Dev Cert.KernelProj3Ideal.nD) → Buf (Elt Ideal) ((c.tc : Thread Cert.KernelProj3Ideal.nD Cert.KernelProj3Ideal.τ).loc Cert.KernelProj3Ideal.main_v0)),
      θ_run (Cert.KernelProj3Ideal.defs (F := Ideal)) (onTc (τ := Cert.KernelProj3Ideal.τ) (Cert.KernelProj3Ideal.main (F := Ideal))) ⟨m, fun _ => 0, g⟩ (fun r => ∀ c : Dev Cert.KernelProj3Ideal.nD,
          r.2.mem ((c.tc : Thread Cert.KernelProj3Ideal.nD Cert.KernelProj3Ideal.τ).loc Cert.KernelProj3Ideal.main_v0) = v0 c
          ∧ r.2.mem ((c.tc : Thread Cert.KernelProj3Ideal.nD Cert.KernelProj3Ideal.τ).loc Cert.KernelProj3Ideal.main_arg0) = m ((c.tc : Thread Cert.KernelProj3Ideal.nD Cert.KernelProj3Ideal.τ).loc Cert.KernelProj3Ideal.main_arg0)
          ∧ r.2.mem ((c.tc : Thread Cert.KernelProj3Ideal.nD Cert.KernelProj3Ideal.τ).loc Cert.KernelProj3Ideal.main_arg1) = m ((c.tc : Thread Cert.KernelProj3Ideal.nD Cert.KernelProj3Ideal.τ).loc Cert.KernelProj3Ideal.main_arg1)
          ∧ r.2.mem ((c.tc : Thread Cert.KernelProj3Ideal.nD Cert.KernelProj3Ideal.τ).loc Cert.KernelProj3Ideal.main_arg2) = m ((c.tc : Thread Cert.KernelProj3Ideal.nD Cert.KernelProj3Ideal.τ).loc Cert.KernelProj3Ideal.main_arg2))
      ∧ θ_run (Cert.ReferenceProj3Ideal.defs (F := Ideal)) (onTc (τ := Cert.ReferenceProj3Ideal.τ) (Cert.ReferenceProj3Ideal.main (F := Ideal))) ⟨m', fun _ => 0, g'⟩ (fun r => ∀ c : Dev Cert.ReferenceProj3Ideal.nD,
          r.2.mem ((c.tc : Thread Cert.ReferenceProj3Ideal.nD Cert.ReferenceProj3Ideal.τ).loc Cert.ReferenceProj3Ideal.main_v21) = v0 c
          ∧ r.2.mem ((c.tc : Thread Cert.ReferenceProj3Ideal.nD Cert.ReferenceProj3Ideal.τ).loc Cert.ReferenceProj3Ideal.main_arg0) = m' ((c.tc : Thread Cert.ReferenceProj3Ideal.nD Cert.ReferenceProj3Ideal.τ).loc Cert.ReferenceProj3Ideal.main_arg0)
          ∧ r.2.mem ((c.tc : Thread Cert.ReferenceProj3Ideal.nD Cert.ReferenceProj3Ideal.τ).loc Cert.ReferenceProj3Ideal.main_arg1) = m' ((c.tc : Thread Cert.ReferenceProj3Ideal.nD Cert.ReferenceProj3Ideal.τ).loc Cert.ReferenceProj3Ideal.main_arg1)
          ∧ r.2.mem ((c.tc : Thread Cert.ReferenceProj3Ideal.nD Cert.ReferenceProj3Ideal.τ).loc Cert.ReferenceProj3Ideal.main_arg2) = m' ((c.tc : Thread Cert.ReferenceProj3Ideal.nD Cert.ReferenceProj3Ideal.τ).loc Cert.ReferenceProj3Ideal.main_arg2))

def preserves_KernelProj4_KernelProj4Ideal : Prop :=
  True

def algebraic_KernelProj4Ideal_ReferenceProj4Ideal [hKernelProj4Ideal : Cert.KernelProj4Ideal.Facts] [hReferenceProj4Ideal : Cert.ReferenceProj4Ideal.Facts] : Prop :=
  ∀ (m : (ℓ : Loc Cert.KernelProj4Ideal.nD Cert.KernelProj4Ideal.τ Cert.KernelProj4Ideal.sig) → Buf (Elt Ideal) ℓ) (g : Dev Cert.KernelProj4Ideal.nD → PrngReg)
    (m' : (ℓ : Loc Cert.ReferenceProj4Ideal.nD Cert.ReferenceProj4Ideal.τ Cert.ReferenceProj4Ideal.sig) → Buf (Elt Ideal) ℓ) (g' : Dev Cert.ReferenceProj4Ideal.nD → PrngReg), Pre_KernelProj4Ideal m →
    (∀ c : Dev Cert.KernelProj4Ideal.nD,
      m' ((c.tc : Thread Cert.ReferenceProj4Ideal.nD Cert.ReferenceProj4Ideal.τ).loc Cert.ReferenceProj4Ideal.main_arg0) = m ((c.tc : Thread Cert.KernelProj4Ideal.nD Cert.KernelProj4Ideal.τ).loc Cert.KernelProj4Ideal.main_arg0)
      ∧ m' ((c.tc : Thread Cert.ReferenceProj4Ideal.nD Cert.ReferenceProj4Ideal.τ).loc Cert.ReferenceProj4Ideal.main_arg1) = m ((c.tc : Thread Cert.KernelProj4Ideal.nD Cert.KernelProj4Ideal.τ).loc Cert.KernelProj4Ideal.main_arg1)
      ∧ m' ((c.tc : Thread Cert.ReferenceProj4Ideal.nD Cert.ReferenceProj4Ideal.τ).loc Cert.ReferenceProj4Ideal.main_arg2) = m ((c.tc : Thread Cert.KernelProj4Ideal.nD Cert.KernelProj4Ideal.τ).loc Cert.KernelProj4Ideal.main_arg2)) →
    ∃ (v0 : (c : Dev Cert.KernelProj4Ideal.nD) → Buf (Elt Ideal) ((c.tc : Thread Cert.KernelProj4Ideal.nD Cert.KernelProj4Ideal.τ).loc Cert.KernelProj4Ideal.main_v0)),
      θ_run (Cert.KernelProj4Ideal.defs (F := Ideal)) (onTc (τ := Cert.KernelProj4Ideal.τ) (Cert.KernelProj4Ideal.main (F := Ideal))) ⟨m, fun _ => 0, g⟩ (fun r => ∀ c : Dev Cert.KernelProj4Ideal.nD,
          r.2.mem ((c.tc : Thread Cert.KernelProj4Ideal.nD Cert.KernelProj4Ideal.τ).loc Cert.KernelProj4Ideal.main_v0) = v0 c
          ∧ r.2.mem ((c.tc : Thread Cert.KernelProj4Ideal.nD Cert.KernelProj4Ideal.τ).loc Cert.KernelProj4Ideal.main_arg0) = m ((c.tc : Thread Cert.KernelProj4Ideal.nD Cert.KernelProj4Ideal.τ).loc Cert.KernelProj4Ideal.main_arg0)
          ∧ r.2.mem ((c.tc : Thread Cert.KernelProj4Ideal.nD Cert.KernelProj4Ideal.τ).loc Cert.KernelProj4Ideal.main_arg1) = m ((c.tc : Thread Cert.KernelProj4Ideal.nD Cert.KernelProj4Ideal.τ).loc Cert.KernelProj4Ideal.main_arg1)
          ∧ r.2.mem ((c.tc : Thread Cert.KernelProj4Ideal.nD Cert.KernelProj4Ideal.τ).loc Cert.KernelProj4Ideal.main_arg2) = m ((c.tc : Thread Cert.KernelProj4Ideal.nD Cert.KernelProj4Ideal.τ).loc Cert.KernelProj4Ideal.main_arg2))
      ∧ θ_run (Cert.ReferenceProj4Ideal.defs (F := Ideal)) (onTc (τ := Cert.ReferenceProj4Ideal.τ) (Cert.ReferenceProj4Ideal.main (F := Ideal))) ⟨m', fun _ => 0, g'⟩ (fun r => ∀ c : Dev Cert.ReferenceProj4Ideal.nD,
          r.2.mem ((c.tc : Thread Cert.ReferenceProj4Ideal.nD Cert.ReferenceProj4Ideal.τ).loc Cert.ReferenceProj4Ideal.main_v21) = v0 c
          ∧ r.2.mem ((c.tc : Thread Cert.ReferenceProj4Ideal.nD Cert.ReferenceProj4Ideal.τ).loc Cert.ReferenceProj4Ideal.main_arg0) = m' ((c.tc : Thread Cert.ReferenceProj4Ideal.nD Cert.ReferenceProj4Ideal.τ).loc Cert.ReferenceProj4Ideal.main_arg0)
          ∧ r.2.mem ((c.tc : Thread Cert.ReferenceProj4Ideal.nD Cert.ReferenceProj4Ideal.τ).loc Cert.ReferenceProj4Ideal.main_arg1) = m' ((c.tc : Thread Cert.ReferenceProj4Ideal.nD Cert.ReferenceProj4Ideal.τ).loc Cert.ReferenceProj4Ideal.main_arg1)
          ∧ r.2.mem ((c.tc : Thread Cert.ReferenceProj4Ideal.nD Cert.ReferenceProj4Ideal.τ).loc Cert.ReferenceProj4Ideal.main_arg2) = m' ((c.tc : Thread Cert.ReferenceProj4Ideal.nD Cert.ReferenceProj4Ideal.τ).loc Cert.ReferenceProj4Ideal.main_arg2))

def preserves_KernelOutProj_KernelOutProjIdeal : Prop :=
  True

def algebraic_KernelOutProjIdeal_ReferenceOutProjIdeal [hKernelOutProjIdeal : Cert.KernelOutProjIdeal.Facts] [hReferenceOutProjIdeal : Cert.ReferenceOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg)
    (m' : (ℓ : Loc Cert.ReferenceOutProjIdeal.nD Cert.ReferenceOutProjIdeal.τ Cert.ReferenceOutProjIdeal.sig) → Buf (Elt Ideal) ℓ) (g' : Dev Cert.ReferenceOutProjIdeal.nD → PrngReg), Pre_KernelOutProjIdeal m →
    (∀ c : Dev Cert.KernelOutProjIdeal.nD,
      m' ((c.tc : Thread Cert.ReferenceOutProjIdeal.nD Cert.ReferenceOutProjIdeal.τ).loc Cert.ReferenceOutProjIdeal.main_arg0) = m ((c.tc : Thread Cert.KernelOutProjIdeal.nD Cert.KernelOutProjIdeal.τ).loc Cert.KernelOutProjIdeal.main_arg0)
      ∧ m' ((c.tc : Thread Cert.ReferenceOutProjIdeal.nD Cert.ReferenceOutProjIdeal.τ).loc Cert.ReferenceOutProjIdeal.main_arg1) = m ((c.tc : Thread Cert.KernelOutProjIdeal.nD Cert.KernelOutProjIdeal.τ).loc Cert.KernelOutProjIdeal.main_arg1)
      ∧ m' ((c.tc : Thread Cert.ReferenceOutProjIdeal.nD Cert.ReferenceOutProjIdeal.τ).loc Cert.ReferenceOutProjIdeal.main_arg2) = m ((c.tc : Thread Cert.KernelOutProjIdeal.nD Cert.KernelOutProjIdeal.τ).loc Cert.KernelOutProjIdeal.main_arg2)
      ∧ m' ((c.tc : Thread Cert.ReferenceOutProjIdeal.nD Cert.ReferenceOutProjIdeal.τ).loc Cert.ReferenceOutProjIdeal.main_arg3) = m ((c.tc : Thread Cert.KernelOutProjIdeal.nD Cert.KernelOutProjIdeal.τ).loc Cert.KernelOutProjIdeal.main_arg3)) →
    ∃ (v0 : (c : Dev Cert.KernelOutProjIdeal.nD) → Buf (Elt Ideal) ((c.tc : Thread Cert.KernelOutProjIdeal.nD Cert.KernelOutProjIdeal.τ).loc Cert.KernelOutProjIdeal.main_v0)),
      θ_run (Cert.KernelOutProjIdeal.defs (F := Ideal)) (onTc (τ := Cert.KernelOutProjIdeal.τ) (Cert.KernelOutProjIdeal.main (F := Ideal))) ⟨m, fun _ => 0, g⟩ (fun r => ∀ c : Dev Cert.KernelOutProjIdeal.nD,
          r.2.mem ((c.tc : Thread Cert.KernelOutProjIdeal.nD Cert.KernelOutProjIdeal.τ).loc Cert.KernelOutProjIdeal.main_v0) = v0 c
          ∧ r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
          ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
          ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2)
          ∧ r.2.mem ((c.tc : Thread Cert.KernelOutProjIdeal.nD Cert.KernelOutProjIdeal.τ).loc Cert.KernelOutProjIdeal.main_arg3) = m ((c.tc : Thread Cert.KernelOutProjIdeal.nD Cert.KernelOutProjIdeal.τ).loc Cert.KernelOutProjIdeal.main_arg3))
      ∧ θ_run (Cert.ReferenceOutProjIdeal.defs (F := Ideal)) (onTc (τ := Cert.ReferenceOutProjIdeal.τ) (Cert.ReferenceOutProjIdeal.main (F := Ideal))) ⟨m', fun _ => 0, g'⟩ (fun r => ∀ c : Dev Cert.ReferenceOutProjIdeal.nD,
          r.2.mem ((c.tc : Thread Cert.ReferenceOutProjIdeal.nD Cert.ReferenceOutProjIdeal.τ).loc Cert.ReferenceOutProjIdeal.main_v4) = v0 c
          ∧ r.2.mem ((c.tc : Thread Cert.ReferenceOutProjIdeal.nD Cert.ReferenceOutProjIdeal.τ).loc Cert.ReferenceOutProjIdeal.main_arg0) = m' ((c.tc : Thread Cert.ReferenceOutProjIdeal.nD Cert.ReferenceOutProjIdeal.τ).loc Cert.ReferenceOutProjIdeal.main_arg0)
          ∧ r.2.mem ((c.tc : Thread Cert.ReferenceOutProjIdeal.nD Cert.ReferenceOutProjIdeal.τ).loc Cert.ReferenceOutProjIdeal.main_arg1) = m' ((c.tc : Thread Cert.ReferenceOutProjIdeal.nD Cert.ReferenceOutProjIdeal.τ).loc Cert.ReferenceOutProjIdeal.main_arg1)
          ∧ r.2.mem ((c.tc : Thread Cert.ReferenceOutProjIdeal.nD Cert.ReferenceOutProjIdeal.τ).loc Cert.ReferenceOutProjIdeal.main_arg2) = m' ((c.tc : Thread Cert.ReferenceOutProjIdeal.nD Cert.ReferenceOutProjIdeal.τ).loc Cert.ReferenceOutProjIdeal.main_arg2)
          ∧ r.2.mem ((c.tc : Thread Cert.ReferenceOutProjIdeal.nD Cert.ReferenceOutProjIdeal.τ).loc Cert.ReferenceOutProjIdeal.main_arg3) = m' ((c.tc : Thread Cert.ReferenceOutProjIdeal.nD Cert.ReferenceOutProjIdeal.τ).loc Cert.ReferenceOutProjIdeal.main_arg3))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)) →
    ∃ (v0 : (c : Dev Cert.KernelMergeIdeal.nD) → Buf (Elt Ideal) ((c.tc : Thread Cert.KernelMergeIdeal.nD Cert.KernelMergeIdeal.τ).loc Cert.KernelMergeIdeal.main_v0_0)) (v1 : (c : Dev Cert.KernelMergeIdeal.nD) → Buf (Elt Ideal) ((c.tc : Thread Cert.KernelMergeIdeal.nD Cert.KernelMergeIdeal.τ).loc Cert.KernelMergeIdeal.main_v0_1)) (v2 : (c : Dev Cert.KernelMergeIdeal.nD) → Buf (Elt Ideal) ((c.tc : Thread Cert.KernelMergeIdeal.nD Cert.KernelMergeIdeal.τ).loc Cert.KernelMergeIdeal.main_v0_2)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0_0) = v0 c
          ∧ r.2.mem ((c.tc : Thread Cert.KernelMergeIdeal.nD Cert.KernelMergeIdeal.τ).loc Cert.KernelMergeIdeal.main_v0_1) = v1 c
          ∧ r.2.mem ((c.tc : Thread Cert.KernelMergeIdeal.nD Cert.KernelMergeIdeal.τ).loc Cert.KernelMergeIdeal.main_v0_2) = v2 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v44) = v0 c
          ∧ r.2.mem ((c.tc : Thread Cert.ReferenceMergeIdeal.nD Cert.ReferenceMergeIdeal.τ).loc Cert.ReferenceMergeIdeal.main_v45) = v1 c
          ∧ r.2.mem ((c.tc : Thread Cert.ReferenceMergeIdeal.nD Cert.ReferenceMergeIdeal.τ).loc Cert.ReferenceMergeIdeal.main_v46) = v2 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)
      ∧ m' ((c.tc : Thread Cert.ReferenceGateIdeal.nD Cert.ReferenceGateIdeal.τ).loc Cert.ReferenceGateIdeal.main_arg4) = m ((c.tc : Thread Cert.KernelGateIdeal.nD Cert.KernelGateIdeal.τ).loc Cert.KernelGateIdeal.main_arg4)
      ∧ m' ((c.tc : Thread Cert.ReferenceGateIdeal.nD Cert.ReferenceGateIdeal.τ).loc Cert.ReferenceGateIdeal.main_arg5) = m ((c.tc : Thread Cert.KernelGateIdeal.nD Cert.KernelGateIdeal.τ).loc Cert.KernelGateIdeal.main_arg5)
      ∧ m' ((c.tc : Thread Cert.ReferenceGateIdeal.nD Cert.ReferenceGateIdeal.τ).loc Cert.ReferenceGateIdeal.main_arg6) = m ((c.tc : Thread Cert.KernelGateIdeal.nD Cert.KernelGateIdeal.τ).loc Cert.KernelGateIdeal.main_arg6)) →
    ∃ (v0 : (c : Dev Cert.KernelGateIdeal.nD) → Buf (Elt Ideal) ((c.tc : Thread Cert.KernelGateIdeal.nD Cert.KernelGateIdeal.τ).loc Cert.KernelGateIdeal.main_v0_0)) (v1 : (c : Dev Cert.KernelGateIdeal.nD) → Buf (Elt Ideal) ((c.tc : Thread Cert.KernelGateIdeal.nD Cert.KernelGateIdeal.τ).loc Cert.KernelGateIdeal.main_v0_1)) (v2 : (c : Dev Cert.KernelGateIdeal.nD) → Buf (Elt Ideal) ((c.tc : Thread Cert.KernelGateIdeal.nD Cert.KernelGateIdeal.τ).loc Cert.KernelGateIdeal.main_v1)) (v3 : (c : Dev Cert.KernelGateIdeal.nD) → Buf (Elt Ideal) ((c.tc : Thread Cert.KernelGateIdeal.nD Cert.KernelGateIdeal.τ).loc Cert.KernelGateIdeal.main_v0_3)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0_0) = v0 c
          ∧ r.2.mem ((c.tc : Thread Cert.KernelGateIdeal.nD Cert.KernelGateIdeal.τ).loc Cert.KernelGateIdeal.main_v0_1) = v1 c
          ∧ r.2.mem ((c.tc : Thread Cert.KernelGateIdeal.nD Cert.KernelGateIdeal.τ).loc Cert.KernelGateIdeal.main_v1) = v2 c
          ∧ r.2.mem ((c.tc : Thread Cert.KernelGateIdeal.nD Cert.KernelGateIdeal.τ).loc Cert.KernelGateIdeal.main_v0_3) = v3 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
          ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
          ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5)
          ∧ r.2.mem ((c.tc : Thread Cert.KernelGateIdeal.nD Cert.KernelGateIdeal.τ).loc Cert.KernelGateIdeal.main_arg6) = m ((c.tc : Thread Cert.KernelGateIdeal.nD Cert.KernelGateIdeal.τ).loc Cert.KernelGateIdeal.main_arg6))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v65) = v0 c
          ∧ r.2.mem ((c.tc : Thread Cert.ReferenceGateIdeal.nD Cert.ReferenceGateIdeal.τ).loc Cert.ReferenceGateIdeal.main_v66) = v1 c
          ∧ r.2.mem ((c.tc : Thread Cert.ReferenceGateIdeal.nD Cert.ReferenceGateIdeal.τ).loc Cert.ReferenceGateIdeal.main_v67) = v2 c
          ∧ r.2.mem ((c.tc : Thread Cert.ReferenceGateIdeal.nD Cert.ReferenceGateIdeal.τ).loc Cert.ReferenceGateIdeal.main_v71) = v3 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3)
          ∧ r.2.mem ((c.tc : Thread Cert.ReferenceGateIdeal.nD Cert.ReferenceGateIdeal.τ).loc Cert.ReferenceGateIdeal.main_arg4) = m' ((c.tc : Thread Cert.ReferenceGateIdeal.nD Cert.ReferenceGateIdeal.τ).loc Cert.ReferenceGateIdeal.main_arg4)
          ∧ r.2.mem ((c.tc : Thread Cert.ReferenceGateIdeal.nD Cert.ReferenceGateIdeal.τ).loc Cert.ReferenceGateIdeal.main_arg5) = m' ((c.tc : Thread Cert.ReferenceGateIdeal.nD Cert.ReferenceGateIdeal.τ).loc Cert.ReferenceGateIdeal.main_arg5)
          ∧ r.2.mem ((c.tc : Thread Cert.ReferenceGateIdeal.nD Cert.ReferenceGateIdeal.τ).loc Cert.ReferenceGateIdeal.main_arg6) = m' ((c.tc : Thread Cert.ReferenceGateIdeal.nD Cert.ReferenceGateIdeal.τ).loc Cert.ReferenceGateIdeal.main_arg6))

def preserves_KernelAttnGate_KernelAttnGateIdeal : Prop :=
  True

def algebraic_KernelAttnGateIdeal_ReferenceAttnGateIdeal_pre_finite_attn_gate [hKernelAttnGateIdeal : Cert.KernelAttnGateIdeal.Facts] [hReferenceAttnGateIdeal : Cert.ReferenceAttnGateIdeal.Facts] [hPre_finite_attn_gate : Cert.Pre_finite_attn_gate.Facts] : Prop :=
  ∀ (m : (ℓ : Loc Cert.KernelAttnGateIdeal.nD Cert.KernelAttnGateIdeal.τ Cert.KernelAttnGateIdeal.sig) → Buf (Elt Ideal) ℓ) (g : Dev Cert.KernelAttnGateIdeal.nD → PrngReg)
    (m' : (ℓ : Loc Cert.ReferenceAttnGateIdeal.nD Cert.ReferenceAttnGateIdeal.τ Cert.ReferenceAttnGateIdeal.sig) → Buf (Elt Ideal) ℓ) (g' : Dev Cert.ReferenceAttnGateIdeal.nD → PrngReg), Pre_KernelAttnGateIdeal_finite_attn_gate m →
    (∀ c : Dev Cert.KernelAttnGateIdeal.nD,
      m' ((c.tc : Thread Cert.ReferenceAttnGateIdeal.nD Cert.ReferenceAttnGateIdeal.τ).loc Cert.ReferenceAttnGateIdeal.main_arg0) = m ((c.tc : Thread Cert.KernelAttnGateIdeal.nD Cert.KernelAttnGateIdeal.τ).loc Cert.KernelAttnGateIdeal.main_arg0)
      ∧ m' ((c.tc : Thread Cert.ReferenceAttnGateIdeal.nD Cert.ReferenceAttnGateIdeal.τ).loc Cert.ReferenceAttnGateIdeal.main_arg1) = m ((c.tc : Thread Cert.KernelAttnGateIdeal.nD Cert.KernelAttnGateIdeal.τ).loc Cert.KernelAttnGateIdeal.main_arg1)
      ∧ m' ((c.tc : Thread Cert.ReferenceAttnGateIdeal.nD Cert.ReferenceAttnGateIdeal.τ).loc Cert.ReferenceAttnGateIdeal.main_arg2) = m ((c.tc : Thread Cert.KernelAttnGateIdeal.nD Cert.KernelAttnGateIdeal.τ).loc Cert.KernelAttnGateIdeal.main_arg2)
      ∧ m' ((c.tc : Thread Cert.ReferenceAttnGateIdeal.nD Cert.ReferenceAttnGateIdeal.τ).loc Cert.ReferenceAttnGateIdeal.main_arg3) = m ((c.tc : Thread Cert.KernelAttnGateIdeal.nD Cert.KernelAttnGateIdeal.τ).loc Cert.KernelAttnGateIdeal.main_arg3)
      ∧ m' ((c.tc : Thread Cert.ReferenceAttnGateIdeal.nD Cert.ReferenceAttnGateIdeal.τ).loc Cert.ReferenceAttnGateIdeal.main_arg4) = m ((c.tc : Thread Cert.KernelAttnGateIdeal.nD Cert.KernelAttnGateIdeal.τ).loc Cert.KernelAttnGateIdeal.main_arg4)) →
    ∃ (v0 : (c : Dev Cert.KernelAttnGateIdeal.nD) → Buf (Elt Ideal) ((c.tc : Thread Cert.KernelAttnGateIdeal.nD Cert.KernelAttnGateIdeal.τ).loc Cert.KernelAttnGateIdeal.main_v0_0)) (v1 : (c : Dev Cert.KernelAttnGateIdeal.nD) → Buf (Elt Ideal) ((c.tc : Thread Cert.KernelAttnGateIdeal.nD Cert.KernelAttnGateIdeal.τ).loc Cert.KernelAttnGateIdeal.main_v0_1)),
      θ_run (Cert.KernelAttnGateIdeal.defs (F := Ideal)) (onTc (τ := Cert.KernelAttnGateIdeal.τ) (Cert.KernelAttnGateIdeal.main (F := Ideal))) ⟨m, fun _ => 0, g⟩ (fun r => ∀ c : Dev Cert.KernelAttnGateIdeal.nD,
          r.2.mem ((c.tc : Thread Cert.KernelAttnGateIdeal.nD Cert.KernelAttnGateIdeal.τ).loc Cert.KernelAttnGateIdeal.main_v0_0) = v0 c
          ∧ r.2.mem ((c.tc : Thread Cert.KernelAttnGateIdeal.nD Cert.KernelAttnGateIdeal.τ).loc Cert.KernelAttnGateIdeal.main_v0_1) = v1 c
          ∧ r.2.mem ((c.tc : Thread Cert.KernelAttnGateIdeal.nD Cert.KernelAttnGateIdeal.τ).loc Cert.KernelAttnGateIdeal.main_arg0) = m ((c.tc : Thread Cert.KernelAttnGateIdeal.nD Cert.KernelAttnGateIdeal.τ).loc Cert.KernelAttnGateIdeal.main_arg0)
          ∧ r.2.mem ((c.tc : Thread Cert.KernelAttnGateIdeal.nD Cert.KernelAttnGateIdeal.τ).loc Cert.KernelAttnGateIdeal.main_arg1) = m ((c.tc : Thread Cert.KernelAttnGateIdeal.nD Cert.KernelAttnGateIdeal.τ).loc Cert.KernelAttnGateIdeal.main_arg1)
          ∧ r.2.mem ((c.tc : Thread Cert.KernelAttnGateIdeal.nD Cert.KernelAttnGateIdeal.τ).loc Cert.KernelAttnGateIdeal.main_arg2) = m ((c.tc : Thread Cert.KernelAttnGateIdeal.nD Cert.KernelAttnGateIdeal.τ).loc Cert.KernelAttnGateIdeal.main_arg2)
          ∧ r.2.mem ((c.tc : Thread Cert.KernelAttnGateIdeal.nD Cert.KernelAttnGateIdeal.τ).loc Cert.KernelAttnGateIdeal.main_arg3) = m ((c.tc : Thread Cert.KernelAttnGateIdeal.nD Cert.KernelAttnGateIdeal.τ).loc Cert.KernelAttnGateIdeal.main_arg3)
          ∧ r.2.mem ((c.tc : Thread Cert.KernelAttnGateIdeal.nD Cert.KernelAttnGateIdeal.τ).loc Cert.KernelAttnGateIdeal.main_arg4) = m ((c.tc : Thread Cert.KernelAttnGateIdeal.nD Cert.KernelAttnGateIdeal.τ).loc Cert.KernelAttnGateIdeal.main_arg4))
      ∧ θ_run (Cert.ReferenceAttnGateIdeal.defs (F := Ideal)) (onTc (τ := Cert.ReferenceAttnGateIdeal.τ) (Cert.ReferenceAttnGateIdeal.main (F := Ideal))) ⟨m', fun _ => 0, g'⟩ (fun r => ∀ c : Dev Cert.ReferenceAttnGateIdeal.nD,
          r.2.mem ((c.tc : Thread Cert.ReferenceAttnGateIdeal.nD Cert.ReferenceAttnGateIdeal.τ).loc Cert.ReferenceAttnGateIdeal.main_v16) = v0 c
          ∧ r.2.mem ((c.tc : Thread Cert.ReferenceAttnGateIdeal.nD Cert.ReferenceAttnGateIdeal.τ).loc Cert.ReferenceAttnGateIdeal.main_v15) = v1 c
          ∧ r.2.mem ((c.tc : Thread Cert.ReferenceAttnGateIdeal.nD Cert.ReferenceAttnGateIdeal.τ).loc Cert.ReferenceAttnGateIdeal.main_arg0) = m' ((c.tc : Thread Cert.ReferenceAttnGateIdeal.nD Cert.ReferenceAttnGateIdeal.τ).loc Cert.ReferenceAttnGateIdeal.main_arg0)
          ∧ r.2.mem ((c.tc : Thread Cert.ReferenceAttnGateIdeal.nD Cert.ReferenceAttnGateIdeal.τ).loc Cert.ReferenceAttnGateIdeal.main_arg1) = m' ((c.tc : Thread Cert.ReferenceAttnGateIdeal.nD Cert.ReferenceAttnGateIdeal.τ).loc Cert.ReferenceAttnGateIdeal.main_arg1)
          ∧ r.2.mem ((c.tc : Thread Cert.ReferenceAttnGateIdeal.nD Cert.ReferenceAttnGateIdeal.τ).loc Cert.ReferenceAttnGateIdeal.main_arg2) = m' ((c.tc : Thread Cert.ReferenceAttnGateIdeal.nD Cert.ReferenceAttnGateIdeal.τ).loc Cert.ReferenceAttnGateIdeal.main_arg2)
          ∧ r.2.mem ((c.tc : Thread Cert.ReferenceAttnGateIdeal.nD Cert.ReferenceAttnGateIdeal.τ).loc Cert.ReferenceAttnGateIdeal.main_arg3) = m' ((c.tc : Thread Cert.ReferenceAttnGateIdeal.nD Cert.ReferenceAttnGateIdeal.τ).loc Cert.ReferenceAttnGateIdeal.main_arg3)
          ∧ r.2.mem ((c.tc : Thread Cert.ReferenceAttnGateIdeal.nD Cert.ReferenceAttnGateIdeal.τ).loc Cert.ReferenceAttnGateIdeal.main_arg4) = m' ((c.tc : Thread Cert.ReferenceAttnGateIdeal.nD Cert.ReferenceAttnGateIdeal.τ).loc Cert.ReferenceAttnGateIdeal.main_arg4))

def preserves_KernelPoolGate_KernelPoolGateIdeal : Prop :=
  True

def algebraic_KernelPoolGateIdeal_ReferencePoolGateIdeal_pre_finite_pool_gate [hKernelPoolGateIdeal : Cert.KernelPoolGateIdeal.Facts] [hReferencePoolGateIdeal : Cert.ReferencePoolGateIdeal.Facts] [hPre_finite_pool_gate : Cert.Pre_finite_pool_gate.Facts] : Prop :=
  ∀ (m : (ℓ : Loc Cert.KernelPoolGateIdeal.nD Cert.KernelPoolGateIdeal.τ Cert.KernelPoolGateIdeal.sig) → Buf (Elt Ideal) ℓ) (g : Dev Cert.KernelPoolGateIdeal.nD → PrngReg)
    (m' : (ℓ : Loc Cert.ReferencePoolGateIdeal.nD Cert.ReferencePoolGateIdeal.τ Cert.ReferencePoolGateIdeal.sig) → Buf (Elt Ideal) ℓ) (g' : Dev Cert.ReferencePoolGateIdeal.nD → PrngReg), Pre_KernelPoolGateIdeal_finite_pool_gate m →
    (∀ c : Dev Cert.KernelPoolGateIdeal.nD,
      m' ((c.tc : Thread Cert.ReferencePoolGateIdeal.nD Cert.ReferencePoolGateIdeal.τ).loc Cert.ReferencePoolGateIdeal.main_arg0) = m ((c.tc : Thread Cert.KernelPoolGateIdeal.nD Cert.KernelPoolGateIdeal.τ).loc Cert.KernelPoolGateIdeal.main_arg0)
      ∧ m' ((c.tc : Thread Cert.ReferencePoolGateIdeal.nD Cert.ReferencePoolGateIdeal.τ).loc Cert.ReferencePoolGateIdeal.main_arg1) = m ((c.tc : Thread Cert.KernelPoolGateIdeal.nD Cert.KernelPoolGateIdeal.τ).loc Cert.KernelPoolGateIdeal.main_arg1)
      ∧ m' ((c.tc : Thread Cert.ReferencePoolGateIdeal.nD Cert.ReferencePoolGateIdeal.τ).loc Cert.ReferencePoolGateIdeal.main_arg2) = m ((c.tc : Thread Cert.KernelPoolGateIdeal.nD Cert.KernelPoolGateIdeal.τ).loc Cert.KernelPoolGateIdeal.main_arg2)
      ∧ m' ((c.tc : Thread Cert.ReferencePoolGateIdeal.nD Cert.ReferencePoolGateIdeal.τ).loc Cert.ReferencePoolGateIdeal.main_arg3) = m ((c.tc : Thread Cert.KernelPoolGateIdeal.nD Cert.KernelPoolGateIdeal.τ).loc Cert.KernelPoolGateIdeal.main_arg3)
      ∧ m' ((c.tc : Thread Cert.ReferencePoolGateIdeal.nD Cert.ReferencePoolGateIdeal.τ).loc Cert.ReferencePoolGateIdeal.main_arg4) = m ((c.tc : Thread Cert.KernelPoolGateIdeal.nD Cert.KernelPoolGateIdeal.τ).loc Cert.KernelPoolGateIdeal.main_arg4)
      ∧ m' ((c.tc : Thread Cert.ReferencePoolGateIdeal.nD Cert.ReferencePoolGateIdeal.τ).loc Cert.ReferencePoolGateIdeal.main_arg5) = m ((c.tc : Thread Cert.KernelPoolGateIdeal.nD Cert.KernelPoolGateIdeal.τ).loc Cert.KernelPoolGateIdeal.main_arg5)) →
    ∃ (v0 : (c : Dev Cert.KernelPoolGateIdeal.nD) → Buf (Elt Ideal) ((c.tc : Thread Cert.KernelPoolGateIdeal.nD Cert.KernelPoolGateIdeal.τ).loc Cert.KernelPoolGateIdeal.main_v0_0)) (v1 : (c : Dev Cert.KernelPoolGateIdeal.nD) → Buf (Elt Ideal) ((c.tc : Thread Cert.KernelPoolGateIdeal.nD Cert.KernelPoolGateIdeal.τ).loc Cert.KernelPoolGateIdeal.main_v0_1)) (v2 : (c : Dev Cert.KernelPoolGateIdeal.nD) → Buf (Elt Ideal) ((c.tc : Thread Cert.KernelPoolGateIdeal.nD Cert.KernelPoolGateIdeal.τ).loc Cert.KernelPoolGateIdeal.main_v0_2)),
      θ_run (Cert.KernelPoolGateIdeal.defs (F := Ideal)) (onTc (τ := Cert.KernelPoolGateIdeal.τ) (Cert.KernelPoolGateIdeal.main (F := Ideal))) ⟨m, fun _ => 0, g⟩ (fun r => ∀ c : Dev Cert.KernelPoolGateIdeal.nD,
          r.2.mem ((c.tc : Thread Cert.KernelPoolGateIdeal.nD Cert.KernelPoolGateIdeal.τ).loc Cert.KernelPoolGateIdeal.main_v0_0) = v0 c
          ∧ r.2.mem ((c.tc : Thread Cert.KernelPoolGateIdeal.nD Cert.KernelPoolGateIdeal.τ).loc Cert.KernelPoolGateIdeal.main_v0_1) = v1 c
          ∧ r.2.mem ((c.tc : Thread Cert.KernelPoolGateIdeal.nD Cert.KernelPoolGateIdeal.τ).loc Cert.KernelPoolGateIdeal.main_v0_2) = v2 c
          ∧ r.2.mem ((c.tc : Thread Cert.KernelPoolGateIdeal.nD Cert.KernelPoolGateIdeal.τ).loc Cert.KernelPoolGateIdeal.main_arg0) = m ((c.tc : Thread Cert.KernelPoolGateIdeal.nD Cert.KernelPoolGateIdeal.τ).loc Cert.KernelPoolGateIdeal.main_arg0)
          ∧ r.2.mem ((c.tc : Thread Cert.KernelPoolGateIdeal.nD Cert.KernelPoolGateIdeal.τ).loc Cert.KernelPoolGateIdeal.main_arg1) = m ((c.tc : Thread Cert.KernelPoolGateIdeal.nD Cert.KernelPoolGateIdeal.τ).loc Cert.KernelPoolGateIdeal.main_arg1)
          ∧ r.2.mem ((c.tc : Thread Cert.KernelPoolGateIdeal.nD Cert.KernelPoolGateIdeal.τ).loc Cert.KernelPoolGateIdeal.main_arg2) = m ((c.tc : Thread Cert.KernelPoolGateIdeal.nD Cert.KernelPoolGateIdeal.τ).loc Cert.KernelPoolGateIdeal.main_arg2)
          ∧ r.2.mem ((c.tc : Thread Cert.KernelPoolGateIdeal.nD Cert.KernelPoolGateIdeal.τ).loc Cert.KernelPoolGateIdeal.main_arg3) = m ((c.tc : Thread Cert.KernelPoolGateIdeal.nD Cert.KernelPoolGateIdeal.τ).loc Cert.KernelPoolGateIdeal.main_arg3)
          ∧ r.2.mem ((c.tc : Thread Cert.KernelPoolGateIdeal.nD Cert.KernelPoolGateIdeal.τ).loc Cert.KernelPoolGateIdeal.main_arg4) = m ((c.tc : Thread Cert.KernelPoolGateIdeal.nD Cert.KernelPoolGateIdeal.τ).loc Cert.KernelPoolGateIdeal.main_arg4)
          ∧ r.2.mem ((c.tc : Thread Cert.KernelPoolGateIdeal.nD Cert.KernelPoolGateIdeal.τ).loc Cert.KernelPoolGateIdeal.main_arg5) = m ((c.tc : Thread Cert.KernelPoolGateIdeal.nD Cert.KernelPoolGateIdeal.τ).loc Cert.KernelPoolGateIdeal.main_arg5))
      ∧ θ_run (Cert.ReferencePoolGateIdeal.defs (F := Ideal)) (onTc (τ := Cert.ReferencePoolGateIdeal.τ) (Cert.ReferencePoolGateIdeal.main (F := Ideal))) ⟨m', fun _ => 0, g'⟩ (fun r => ∀ c : Dev Cert.ReferencePoolGateIdeal.nD,
          r.2.mem ((c.tc : Thread Cert.ReferencePoolGateIdeal.nD Cert.ReferencePoolGateIdeal.τ).loc Cert.ReferencePoolGateIdeal.main_v25) = v0 c
          ∧ r.2.mem ((c.tc : Thread Cert.ReferencePoolGateIdeal.nD Cert.ReferencePoolGateIdeal.τ).loc Cert.ReferencePoolGateIdeal.main_v26) = v1 c
          ∧ r.2.mem ((c.tc : Thread Cert.ReferencePoolGateIdeal.nD Cert.ReferencePoolGateIdeal.τ).loc Cert.ReferencePoolGateIdeal.main_v27) = v2 c
          ∧ r.2.mem ((c.tc : Thread Cert.ReferencePoolGateIdeal.nD Cert.ReferencePoolGateIdeal.τ).loc Cert.ReferencePoolGateIdeal.main_arg0) = m' ((c.tc : Thread Cert.ReferencePoolGateIdeal.nD Cert.ReferencePoolGateIdeal.τ).loc Cert.ReferencePoolGateIdeal.main_arg0)
          ∧ r.2.mem ((c.tc : Thread Cert.ReferencePoolGateIdeal.nD Cert.ReferencePoolGateIdeal.τ).loc Cert.ReferencePoolGateIdeal.main_arg1) = m' ((c.tc : Thread Cert.ReferencePoolGateIdeal.nD Cert.ReferencePoolGateIdeal.τ).loc Cert.ReferencePoolGateIdeal.main_arg1)
          ∧ r.2.mem ((c.tc : Thread Cert.ReferencePoolGateIdeal.nD Cert.ReferencePoolGateIdeal.τ).loc Cert.ReferencePoolGateIdeal.main_arg2) = m' ((c.tc : Thread Cert.ReferencePoolGateIdeal.nD Cert.ReferencePoolGateIdeal.τ).loc Cert.ReferencePoolGateIdeal.main_arg2)
          ∧ r.2.mem ((c.tc : Thread Cert.ReferencePoolGateIdeal.nD Cert.ReferencePoolGateIdeal.τ).loc Cert.ReferencePoolGateIdeal.main_arg3) = m' ((c.tc : Thread Cert.ReferencePoolGateIdeal.nD Cert.ReferencePoolGateIdeal.τ).loc Cert.ReferencePoolGateIdeal.main_arg3)
          ∧ r.2.mem ((c.tc : Thread Cert.ReferencePoolGateIdeal.nD Cert.ReferencePoolGateIdeal.τ).loc Cert.ReferencePoolGateIdeal.main_arg4) = m' ((c.tc : Thread Cert.ReferencePoolGateIdeal.nD Cert.ReferencePoolGateIdeal.τ).loc Cert.ReferencePoolGateIdeal.main_arg4)
          ∧ r.2.mem ((c.tc : Thread Cert.ReferencePoolGateIdeal.nD Cert.ReferencePoolGateIdeal.τ).loc Cert.ReferencePoolGateIdeal.main_arg5) = m' ((c.tc : Thread Cert.ReferencePoolGateIdeal.nD Cert.ReferencePoolGateIdeal.τ).loc Cert.ReferencePoolGateIdeal.main_arg5))

def preserves_KernelRmsFwd_KernelRmsFwdIdeal : Prop :=
  True

def algebraic_KernelRmsFwdIdeal_ReferenceRmsFwdIdeal [hKernelRmsFwdIdeal : Cert.KernelRmsFwdIdeal.Facts] [hReferenceRmsFwdIdeal : Cert.ReferenceRmsFwdIdeal.Facts] : Prop :=
  ∀ (m : (ℓ : Loc Cert.KernelRmsFwdIdeal.nD Cert.KernelRmsFwdIdeal.τ Cert.KernelRmsFwdIdeal.sig) → Buf (Elt Ideal) ℓ) (g : Dev Cert.KernelRmsFwdIdeal.nD → PrngReg)
    (m' : (ℓ : Loc Cert.ReferenceRmsFwdIdeal.nD Cert.ReferenceRmsFwdIdeal.τ Cert.ReferenceRmsFwdIdeal.sig) → Buf (Elt Ideal) ℓ) (g' : Dev Cert.ReferenceRmsFwdIdeal.nD → PrngReg), Pre_KernelRmsFwdIdeal m →
    (∀ c : Dev Cert.KernelRmsFwdIdeal.nD,
      m' ((c.tc : Thread Cert.ReferenceRmsFwdIdeal.nD Cert.ReferenceRmsFwdIdeal.τ).loc Cert.ReferenceRmsFwdIdeal.main_arg0) = m ((c.tc : Thread Cert.KernelRmsFwdIdeal.nD Cert.KernelRmsFwdIdeal.τ).loc Cert.KernelRmsFwdIdeal.main_arg0)
      ∧ m' ((c.tc : Thread Cert.ReferenceRmsFwdIdeal.nD Cert.ReferenceRmsFwdIdeal.τ).loc Cert.ReferenceRmsFwdIdeal.main_arg1) = m ((c.tc : Thread Cert.KernelRmsFwdIdeal.nD Cert.KernelRmsFwdIdeal.τ).loc Cert.KernelRmsFwdIdeal.main_arg1)
      ∧ m' ((c.tc : Thread Cert.ReferenceRmsFwdIdeal.nD Cert.ReferenceRmsFwdIdeal.τ).loc Cert.ReferenceRmsFwdIdeal.main_arg2) = m ((c.tc : Thread Cert.KernelRmsFwdIdeal.nD Cert.KernelRmsFwdIdeal.τ).loc Cert.KernelRmsFwdIdeal.main_arg2)) →
    ∃ (v0 : (c : Dev Cert.KernelRmsFwdIdeal.nD) → Buf (Elt Ideal) ((c.tc : Thread Cert.KernelRmsFwdIdeal.nD Cert.KernelRmsFwdIdeal.τ).loc Cert.KernelRmsFwdIdeal.main_v0_0)) (v1 : (c : Dev Cert.KernelRmsFwdIdeal.nD) → Buf (Elt Ideal) ((c.tc : Thread Cert.KernelRmsFwdIdeal.nD Cert.KernelRmsFwdIdeal.τ).loc Cert.KernelRmsFwdIdeal.main_v0_1)),
      θ_run (Cert.KernelRmsFwdIdeal.defs (F := Ideal)) (onTc (τ := Cert.KernelRmsFwdIdeal.τ) (Cert.KernelRmsFwdIdeal.main (F := Ideal))) ⟨m, fun _ => 0, g⟩ (fun r => ∀ c : Dev Cert.KernelRmsFwdIdeal.nD,
          r.2.mem ((c.tc : Thread Cert.KernelRmsFwdIdeal.nD Cert.KernelRmsFwdIdeal.τ).loc Cert.KernelRmsFwdIdeal.main_v0_0) = v0 c
          ∧ r.2.mem ((c.tc : Thread Cert.KernelRmsFwdIdeal.nD Cert.KernelRmsFwdIdeal.τ).loc Cert.KernelRmsFwdIdeal.main_v0_1) = v1 c
          ∧ r.2.mem ((c.tc : Thread Cert.KernelRmsFwdIdeal.nD Cert.KernelRmsFwdIdeal.τ).loc Cert.KernelRmsFwdIdeal.main_arg0) = m ((c.tc : Thread Cert.KernelRmsFwdIdeal.nD Cert.KernelRmsFwdIdeal.τ).loc Cert.KernelRmsFwdIdeal.main_arg0)
          ∧ r.2.mem ((c.tc : Thread Cert.KernelRmsFwdIdeal.nD Cert.KernelRmsFwdIdeal.τ).loc Cert.KernelRmsFwdIdeal.main_arg1) = m ((c.tc : Thread Cert.KernelRmsFwdIdeal.nD Cert.KernelRmsFwdIdeal.τ).loc Cert.KernelRmsFwdIdeal.main_arg1)
          ∧ r.2.mem ((c.tc : Thread Cert.KernelRmsFwdIdeal.nD Cert.KernelRmsFwdIdeal.τ).loc Cert.KernelRmsFwdIdeal.main_arg2) = m ((c.tc : Thread Cert.KernelRmsFwdIdeal.nD Cert.KernelRmsFwdIdeal.τ).loc Cert.KernelRmsFwdIdeal.main_arg2))
      ∧ θ_run (Cert.ReferenceRmsFwdIdeal.defs (F := Ideal)) (onTc (τ := Cert.ReferenceRmsFwdIdeal.τ) (Cert.ReferenceRmsFwdIdeal.main (F := Ideal))) ⟨m', fun _ => 0, g'⟩ (fun r => ∀ c : Dev Cert.ReferenceRmsFwdIdeal.nD,
          r.2.mem ((c.tc : Thread Cert.ReferenceRmsFwdIdeal.nD Cert.ReferenceRmsFwdIdeal.τ).loc Cert.ReferenceRmsFwdIdeal.main_v14) = v0 c
          ∧ r.2.mem ((c.tc : Thread Cert.ReferenceRmsFwdIdeal.nD Cert.ReferenceRmsFwdIdeal.τ).loc Cert.ReferenceRmsFwdIdeal.main_v15) = v1 c
          ∧ r.2.mem ((c.tc : Thread Cert.ReferenceRmsFwdIdeal.nD Cert.ReferenceRmsFwdIdeal.τ).loc Cert.ReferenceRmsFwdIdeal.main_arg0) = m' ((c.tc : Thread Cert.ReferenceRmsFwdIdeal.nD Cert.ReferenceRmsFwdIdeal.τ).loc Cert.ReferenceRmsFwdIdeal.main_arg0)
          ∧ r.2.mem ((c.tc : Thread Cert.ReferenceRmsFwdIdeal.nD Cert.ReferenceRmsFwdIdeal.τ).loc Cert.ReferenceRmsFwdIdeal.main_arg1) = m' ((c.tc : Thread Cert.ReferenceRmsFwdIdeal.nD Cert.ReferenceRmsFwdIdeal.τ).loc Cert.ReferenceRmsFwdIdeal.main_arg1)
          ∧ r.2.mem ((c.tc : Thread Cert.ReferenceRmsFwdIdeal.nD Cert.ReferenceRmsFwdIdeal.τ).loc Cert.ReferenceRmsFwdIdeal.main_arg2) = m' ((c.tc : Thread Cert.ReferenceRmsFwdIdeal.nD Cert.ReferenceRmsFwdIdeal.τ).loc Cert.ReferenceRmsFwdIdeal.main_arg2))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)) (v3 : (c : Dev Cert.KernelAdamOutIdeal.nD) → Buf (Elt Ideal) ((c.tc : Thread Cert.KernelAdamOutIdeal.nD Cert.KernelAdamOutIdeal.τ).loc Cert.KernelAdamOutIdeal.main_v0_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_v0_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v2) = v0 c
          ∧ r.2.mem ((c.tc : Thread Cert.ReferenceAdamOutIdeal.nD Cert.ReferenceAdamOutIdeal.τ).loc Cert.ReferenceAdamOutIdeal.main_v26) = v1 c
          ∧ r.2.mem ((c.tc : Thread Cert.ReferenceAdamOutIdeal.nD Cert.ReferenceAdamOutIdeal.τ).loc Cert.ReferenceAdamOutIdeal.main_v7) = v2 c
          ∧ r.2.mem ((c.tc : Thread Cert.ReferenceAdamOutIdeal.nD Cert.ReferenceAdamOutIdeal.τ).loc Cert.ReferenceAdamOutIdeal.main_v13) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamOutAttn_KernelAdamOutAttnIdeal : Prop :=
  True

def algebraic_KernelAdamOutAttnIdeal_ReferenceAdamOutAttnIdeal [hKernelAdamOutAttnIdeal : Cert.KernelAdamOutAttnIdeal.Facts] [hReferenceAdamOutAttnIdeal : Cert.ReferenceAdamOutAttnIdeal.Facts] : Prop :=
  ∀ (m : (ℓ : Loc Cert.KernelAdamOutAttnIdeal.nD Cert.KernelAdamOutAttnIdeal.τ Cert.KernelAdamOutAttnIdeal.sig) → Buf (Elt Ideal) ℓ) (g : Dev Cert.KernelAdamOutAttnIdeal.nD → PrngReg)
    (m' : (ℓ : Loc Cert.ReferenceAdamOutAttnIdeal.nD Cert.ReferenceAdamOutAttnIdeal.τ Cert.ReferenceAdamOutAttnIdeal.sig) → Buf (Elt Ideal) ℓ) (g' : Dev Cert.ReferenceAdamOutAttnIdeal.nD → PrngReg), Pre_KernelAdamOutAttnIdeal m →
    (∀ c : Dev Cert.KernelAdamOutAttnIdeal.nD,
      m' ((c.tc : Thread Cert.ReferenceAdamOutAttnIdeal.nD Cert.ReferenceAdamOutAttnIdeal.τ).loc Cert.ReferenceAdamOutAttnIdeal.main_arg0) = m ((c.tc : Thread Cert.KernelAdamOutAttnIdeal.nD Cert.KernelAdamOutAttnIdeal.τ).loc Cert.KernelAdamOutAttnIdeal.main_arg0)
      ∧ m' ((c.tc : Thread Cert.ReferenceAdamOutAttnIdeal.nD Cert.ReferenceAdamOutAttnIdeal.τ).loc Cert.ReferenceAdamOutAttnIdeal.main_arg1) = m ((c.tc : Thread Cert.KernelAdamOutAttnIdeal.nD Cert.KernelAdamOutAttnIdeal.τ).loc Cert.KernelAdamOutAttnIdeal.main_arg1)
      ∧ m' ((c.tc : Thread Cert.ReferenceAdamOutAttnIdeal.nD Cert.ReferenceAdamOutAttnIdeal.τ).loc Cert.ReferenceAdamOutAttnIdeal.main_arg2) = m ((c.tc : Thread Cert.KernelAdamOutAttnIdeal.nD Cert.KernelAdamOutAttnIdeal.τ).loc Cert.KernelAdamOutAttnIdeal.main_arg2)
      ∧ m' ((c.tc : Thread Cert.ReferenceAdamOutAttnIdeal.nD Cert.ReferenceAdamOutAttnIdeal.τ).loc Cert.ReferenceAdamOutAttnIdeal.main_arg3) = m ((c.tc : Thread Cert.KernelAdamOutAttnIdeal.nD Cert.KernelAdamOutAttnIdeal.τ).loc Cert.KernelAdamOutAttnIdeal.main_arg3)) →
    ∃ (v0 : (c : Dev Cert.KernelAdamOutAttnIdeal.nD) → Buf (Elt Ideal) ((c.tc : Thread Cert.KernelAdamOutAttnIdeal.nD Cert.KernelAdamOutAttnIdeal.τ).loc Cert.KernelAdamOutAttnIdeal.main_v0_0)) (v1 : (c : Dev Cert.KernelAdamOutAttnIdeal.nD) → Buf (Elt Ideal) ((c.tc : Thread Cert.KernelAdamOutAttnIdeal.nD Cert.KernelAdamOutAttnIdeal.τ).loc Cert.KernelAdamOutAttnIdeal.main_v0_1)) (v2 : (c : Dev Cert.KernelAdamOutAttnIdeal.nD) → Buf (Elt Ideal) ((c.tc : Thread Cert.KernelAdamOutAttnIdeal.nD Cert.KernelAdamOutAttnIdeal.τ).loc Cert.KernelAdamOutAttnIdeal.main_v0_2)) (v3 : (c : Dev Cert.KernelAdamOutAttnIdeal.nD) → Buf (Elt Ideal) ((c.tc : Thread Cert.KernelAdamOutAttnIdeal.nD Cert.KernelAdamOutAttnIdeal.τ).loc Cert.KernelAdamOutAttnIdeal.main_v0_3)),
      θ_run (Cert.KernelAdamOutAttnIdeal.defs (F := Ideal)) (onTc (τ := Cert.KernelAdamOutAttnIdeal.τ) (Cert.KernelAdamOutAttnIdeal.main (F := Ideal))) ⟨m, fun _ => 0, g⟩ (fun r => ∀ c : Dev Cert.KernelAdamOutAttnIdeal.nD,
          r.2.mem ((c.tc : Thread Cert.KernelAdamOutAttnIdeal.nD Cert.KernelAdamOutAttnIdeal.τ).loc Cert.KernelAdamOutAttnIdeal.main_v0_0) = v0 c
          ∧ r.2.mem ((c.tc : Thread Cert.KernelAdamOutAttnIdeal.nD Cert.KernelAdamOutAttnIdeal.τ).loc Cert.KernelAdamOutAttnIdeal.main_v0_1) = v1 c
          ∧ r.2.mem ((c.tc : Thread Cert.KernelAdamOutAttnIdeal.nD Cert.KernelAdamOutAttnIdeal.τ).loc Cert.KernelAdamOutAttnIdeal.main_v0_2) = v2 c
          ∧ r.2.mem ((c.tc : Thread Cert.KernelAdamOutAttnIdeal.nD Cert.KernelAdamOutAttnIdeal.τ).loc Cert.KernelAdamOutAttnIdeal.main_v0_3) = v3 c
          ∧ r.2.mem ((c.tc : Thread Cert.KernelAdamOutAttnIdeal.nD Cert.KernelAdamOutAttnIdeal.τ).loc Cert.KernelAdamOutAttnIdeal.main_arg0) = m ((c.tc : Thread Cert.KernelAdamOutAttnIdeal.nD Cert.KernelAdamOutAttnIdeal.τ).loc Cert.KernelAdamOutAttnIdeal.main_arg0)
          ∧ r.2.mem ((c.tc : Thread Cert.KernelAdamOutAttnIdeal.nD Cert.KernelAdamOutAttnIdeal.τ).loc Cert.KernelAdamOutAttnIdeal.main_arg1) = m ((c.tc : Thread Cert.KernelAdamOutAttnIdeal.nD Cert.KernelAdamOutAttnIdeal.τ).loc Cert.KernelAdamOutAttnIdeal.main_arg1)
          ∧ r.2.mem ((c.tc : Thread Cert.KernelAdamOutAttnIdeal.nD Cert.KernelAdamOutAttnIdeal.τ).loc Cert.KernelAdamOutAttnIdeal.main_arg2) = m ((c.tc : Thread Cert.KernelAdamOutAttnIdeal.nD Cert.KernelAdamOutAttnIdeal.τ).loc Cert.KernelAdamOutAttnIdeal.main_arg2)
          ∧ r.2.mem ((c.tc : Thread Cert.KernelAdamOutAttnIdeal.nD Cert.KernelAdamOutAttnIdeal.τ).loc Cert.KernelAdamOutAttnIdeal.main_arg3) = m ((c.tc : Thread Cert.KernelAdamOutAttnIdeal.nD Cert.KernelAdamOutAttnIdeal.τ).loc Cert.KernelAdamOutAttnIdeal.main_arg3))
      ∧ θ_run (Cert.ReferenceAdamOutAttnIdeal.defs (F := Ideal)) (onTc (τ := Cert.ReferenceAdamOutAttnIdeal.τ) (Cert.ReferenceAdamOutAttnIdeal.main (F := Ideal))) ⟨m', fun _ => 0, g'⟩ (fun r => ∀ c : Dev Cert.ReferenceAdamOutAttnIdeal.nD,
          r.2.mem ((c.tc : Thread Cert.ReferenceAdamOutAttnIdeal.nD Cert.ReferenceAdamOutAttnIdeal.τ).loc Cert.ReferenceAdamOutAttnIdeal.main_v2) = v0 c
          ∧ r.2.mem ((c.tc : Thread Cert.ReferenceAdamOutAttnIdeal.nD Cert.ReferenceAdamOutAttnIdeal.τ).loc Cert.ReferenceAdamOutAttnIdeal.main_v26) = v1 c
          ∧ r.2.mem ((c.tc : Thread Cert.ReferenceAdamOutAttnIdeal.nD Cert.ReferenceAdamOutAttnIdeal.τ).loc Cert.ReferenceAdamOutAttnIdeal.main_v7) = v2 c
          ∧ r.2.mem ((c.tc : Thread Cert.ReferenceAdamOutAttnIdeal.nD Cert.ReferenceAdamOutAttnIdeal.τ).loc Cert.ReferenceAdamOutAttnIdeal.main_v13) = v3 c
          ∧ r.2.mem ((c.tc : Thread Cert.ReferenceAdamOutAttnIdeal.nD Cert.ReferenceAdamOutAttnIdeal.τ).loc Cert.ReferenceAdamOutAttnIdeal.main_arg0) = m' ((c.tc : Thread Cert.ReferenceAdamOutAttnIdeal.nD Cert.ReferenceAdamOutAttnIdeal.τ).loc Cert.ReferenceAdamOutAttnIdeal.main_arg0)
          ∧ r.2.mem ((c.tc : Thread Cert.ReferenceAdamOutAttnIdeal.nD Cert.ReferenceAdamOutAttnIdeal.τ).loc Cert.ReferenceAdamOutAttnIdeal.main_arg1) = m' ((c.tc : Thread Cert.ReferenceAdamOutAttnIdeal.nD Cert.ReferenceAdamOutAttnIdeal.τ).loc Cert.ReferenceAdamOutAttnIdeal.main_arg1)
          ∧ r.2.mem ((c.tc : Thread Cert.ReferenceAdamOutAttnIdeal.nD Cert.ReferenceAdamOutAttnIdeal.τ).loc Cert.ReferenceAdamOutAttnIdeal.main_arg2) = m' ((c.tc : Thread Cert.ReferenceAdamOutAttnIdeal.nD Cert.ReferenceAdamOutAttnIdeal.τ).loc Cert.ReferenceAdamOutAttnIdeal.main_arg2)
          ∧ r.2.mem ((c.tc : Thread Cert.ReferenceAdamOutAttnIdeal.nD Cert.ReferenceAdamOutAttnIdeal.τ).loc Cert.ReferenceAdamOutAttnIdeal.main_arg3) = m' ((c.tc : Thread Cert.ReferenceAdamOutAttnIdeal.nD Cert.ReferenceAdamOutAttnIdeal.τ).loc Cert.ReferenceAdamOutAttnIdeal.main_arg3))

def preserves_KernelAdamOutPool_KernelAdamOutPoolIdeal : Prop :=
  True

def algebraic_KernelAdamOutPoolIdeal_ReferenceAdamOutPoolIdeal [hKernelAdamOutPoolIdeal : Cert.KernelAdamOutPoolIdeal.Facts] [hReferenceAdamOutPoolIdeal : Cert.ReferenceAdamOutPoolIdeal.Facts] : Prop :=
  ∀ (m : (ℓ : Loc Cert.KernelAdamOutPoolIdeal.nD Cert.KernelAdamOutPoolIdeal.τ Cert.KernelAdamOutPoolIdeal.sig) → Buf (Elt Ideal) ℓ) (g : Dev Cert.KernelAdamOutPoolIdeal.nD → PrngReg)
    (m' : (ℓ : Loc Cert.ReferenceAdamOutPoolIdeal.nD Cert.ReferenceAdamOutPoolIdeal.τ Cert.ReferenceAdamOutPoolIdeal.sig) → Buf (Elt Ideal) ℓ) (g' : Dev Cert.ReferenceAdamOutPoolIdeal.nD → PrngReg), Pre_KernelAdamOutPoolIdeal m →
    (∀ c : Dev Cert.KernelAdamOutPoolIdeal.nD,
      m' ((c.tc : Thread Cert.ReferenceAdamOutPoolIdeal.nD Cert.ReferenceAdamOutPoolIdeal.τ).loc Cert.ReferenceAdamOutPoolIdeal.main_arg0) = m ((c.tc : Thread Cert.KernelAdamOutPoolIdeal.nD Cert.KernelAdamOutPoolIdeal.τ).loc Cert.KernelAdamOutPoolIdeal.main_arg0)
      ∧ m' ((c.tc : Thread Cert.ReferenceAdamOutPoolIdeal.nD Cert.ReferenceAdamOutPoolIdeal.τ).loc Cert.ReferenceAdamOutPoolIdeal.main_arg1) = m ((c.tc : Thread Cert.KernelAdamOutPoolIdeal.nD Cert.KernelAdamOutPoolIdeal.τ).loc Cert.KernelAdamOutPoolIdeal.main_arg1)
      ∧ m' ((c.tc : Thread Cert.ReferenceAdamOutPoolIdeal.nD Cert.ReferenceAdamOutPoolIdeal.τ).loc Cert.ReferenceAdamOutPoolIdeal.main_arg2) = m ((c.tc : Thread Cert.KernelAdamOutPoolIdeal.nD Cert.KernelAdamOutPoolIdeal.τ).loc Cert.KernelAdamOutPoolIdeal.main_arg2)
      ∧ m' ((c.tc : Thread Cert.ReferenceAdamOutPoolIdeal.nD Cert.ReferenceAdamOutPoolIdeal.τ).loc Cert.ReferenceAdamOutPoolIdeal.main_arg3) = m ((c.tc : Thread Cert.KernelAdamOutPoolIdeal.nD Cert.KernelAdamOutPoolIdeal.τ).loc Cert.KernelAdamOutPoolIdeal.main_arg3)) →
    ∃ (v0 : (c : Dev Cert.KernelAdamOutPoolIdeal.nD) → Buf (Elt Ideal) ((c.tc : Thread Cert.KernelAdamOutPoolIdeal.nD Cert.KernelAdamOutPoolIdeal.τ).loc Cert.KernelAdamOutPoolIdeal.main_v0_0)) (v1 : (c : Dev Cert.KernelAdamOutPoolIdeal.nD) → Buf (Elt Ideal) ((c.tc : Thread Cert.KernelAdamOutPoolIdeal.nD Cert.KernelAdamOutPoolIdeal.τ).loc Cert.KernelAdamOutPoolIdeal.main_v0_1)) (v2 : (c : Dev Cert.KernelAdamOutPoolIdeal.nD) → Buf (Elt Ideal) ((c.tc : Thread Cert.KernelAdamOutPoolIdeal.nD Cert.KernelAdamOutPoolIdeal.τ).loc Cert.KernelAdamOutPoolIdeal.main_v0_2)) (v3 : (c : Dev Cert.KernelAdamOutPoolIdeal.nD) → Buf (Elt Ideal) ((c.tc : Thread Cert.KernelAdamOutPoolIdeal.nD Cert.KernelAdamOutPoolIdeal.τ).loc Cert.KernelAdamOutPoolIdeal.main_v0_3)),
      θ_run (Cert.KernelAdamOutPoolIdeal.defs (F := Ideal)) (onTc (τ := Cert.KernelAdamOutPoolIdeal.τ) (Cert.KernelAdamOutPoolIdeal.main (F := Ideal))) ⟨m, fun _ => 0, g⟩ (fun r => ∀ c : Dev Cert.KernelAdamOutPoolIdeal.nD,
          r.2.mem ((c.tc : Thread Cert.KernelAdamOutPoolIdeal.nD Cert.KernelAdamOutPoolIdeal.τ).loc Cert.KernelAdamOutPoolIdeal.main_v0_0) = v0 c
          ∧ r.2.mem ((c.tc : Thread Cert.KernelAdamOutPoolIdeal.nD Cert.KernelAdamOutPoolIdeal.τ).loc Cert.KernelAdamOutPoolIdeal.main_v0_1) = v1 c
          ∧ r.2.mem ((c.tc : Thread Cert.KernelAdamOutPoolIdeal.nD Cert.KernelAdamOutPoolIdeal.τ).loc Cert.KernelAdamOutPoolIdeal.main_v0_2) = v2 c
          ∧ r.2.mem ((c.tc : Thread Cert.KernelAdamOutPoolIdeal.nD Cert.KernelAdamOutPoolIdeal.τ).loc Cert.KernelAdamOutPoolIdeal.main_v0_3) = v3 c
          ∧ r.2.mem ((c.tc : Thread Cert.KernelAdamOutPoolIdeal.nD Cert.KernelAdamOutPoolIdeal.τ).loc Cert.KernelAdamOutPoolIdeal.main_arg0) = m ((c.tc : Thread Cert.KernelAdamOutPoolIdeal.nD Cert.KernelAdamOutPoolIdeal.τ).loc Cert.KernelAdamOutPoolIdeal.main_arg0)
          ∧ r.2.mem ((c.tc : Thread Cert.KernelAdamOutPoolIdeal.nD Cert.KernelAdamOutPoolIdeal.τ).loc Cert.KernelAdamOutPoolIdeal.main_arg1) = m ((c.tc : Thread Cert.KernelAdamOutPoolIdeal.nD Cert.KernelAdamOutPoolIdeal.τ).loc Cert.KernelAdamOutPoolIdeal.main_arg1)
          ∧ r.2.mem ((c.tc : Thread Cert.KernelAdamOutPoolIdeal.nD Cert.KernelAdamOutPoolIdeal.τ).loc Cert.KernelAdamOutPoolIdeal.main_arg2) = m ((c.tc : Thread Cert.KernelAdamOutPoolIdeal.nD Cert.KernelAdamOutPoolIdeal.τ).loc Cert.KernelAdamOutPoolIdeal.main_arg2)
          ∧ r.2.mem ((c.tc : Thread Cert.KernelAdamOutPoolIdeal.nD Cert.KernelAdamOutPoolIdeal.τ).loc Cert.KernelAdamOutPoolIdeal.main_arg3) = m ((c.tc : Thread Cert.KernelAdamOutPoolIdeal.nD Cert.KernelAdamOutPoolIdeal.τ).loc Cert.KernelAdamOutPoolIdeal.main_arg3))
      ∧ θ_run (Cert.ReferenceAdamOutPoolIdeal.defs (F := Ideal)) (onTc (τ := Cert.ReferenceAdamOutPoolIdeal.τ) (Cert.ReferenceAdamOutPoolIdeal.main (F := Ideal))) ⟨m', fun _ => 0, g'⟩ (fun r => ∀ c : Dev Cert.ReferenceAdamOutPoolIdeal.nD,
          r.2.mem ((c.tc : Thread Cert.ReferenceAdamOutPoolIdeal.nD Cert.ReferenceAdamOutPoolIdeal.τ).loc Cert.ReferenceAdamOutPoolIdeal.main_v2) = v0 c
          ∧ r.2.mem ((c.tc : Thread Cert.ReferenceAdamOutPoolIdeal.nD Cert.ReferenceAdamOutPoolIdeal.τ).loc Cert.ReferenceAdamOutPoolIdeal.main_v26) = v1 c
          ∧ r.2.mem ((c.tc : Thread Cert.ReferenceAdamOutPoolIdeal.nD Cert.ReferenceAdamOutPoolIdeal.τ).loc Cert.ReferenceAdamOutPoolIdeal.main_v7) = v2 c
          ∧ r.2.mem ((c.tc : Thread Cert.ReferenceAdamOutPoolIdeal.nD Cert.ReferenceAdamOutPoolIdeal.τ).loc Cert.ReferenceAdamOutPoolIdeal.main_v13) = v3 c
          ∧ r.2.mem ((c.tc : Thread Cert.ReferenceAdamOutPoolIdeal.nD Cert.ReferenceAdamOutPoolIdeal.τ).loc Cert.ReferenceAdamOutPoolIdeal.main_arg0) = m' ((c.tc : Thread Cert.ReferenceAdamOutPoolIdeal.nD Cert.ReferenceAdamOutPoolIdeal.τ).loc Cert.ReferenceAdamOutPoolIdeal.main_arg0)
          ∧ r.2.mem ((c.tc : Thread Cert.ReferenceAdamOutPoolIdeal.nD Cert.ReferenceAdamOutPoolIdeal.τ).loc Cert.ReferenceAdamOutPoolIdeal.main_arg1) = m' ((c.tc : Thread Cert.ReferenceAdamOutPoolIdeal.nD Cert.ReferenceAdamOutPoolIdeal.τ).loc Cert.ReferenceAdamOutPoolIdeal.main_arg1)
          ∧ r.2.mem ((c.tc : Thread Cert.ReferenceAdamOutPoolIdeal.nD Cert.ReferenceAdamOutPoolIdeal.τ).loc Cert.ReferenceAdamOutPoolIdeal.main_arg2) = m' ((c.tc : Thread Cert.ReferenceAdamOutPoolIdeal.nD Cert.ReferenceAdamOutPoolIdeal.τ).loc Cert.ReferenceAdamOutPoolIdeal.main_arg2)
          ∧ r.2.mem ((c.tc : Thread Cert.ReferenceAdamOutPoolIdeal.nD Cert.ReferenceAdamOutPoolIdeal.τ).loc Cert.ReferenceAdamOutPoolIdeal.main_arg3) = m' ((c.tc : Thread Cert.ReferenceAdamOutPoolIdeal.nD Cert.ReferenceAdamOutPoolIdeal.τ).loc Cert.ReferenceAdamOutPoolIdeal.main_arg3))

def preserves_KernelAdamPoolW_KernelAdamPoolWIdeal : Prop :=
  True

def algebraic_KernelAdamPoolWIdeal_ReferenceAdamPoolWIdeal [hKernelAdamPoolWIdeal : Cert.KernelAdamPoolWIdeal.Facts] [hReferenceAdamPoolWIdeal : Cert.ReferenceAdamPoolWIdeal.Facts] : Prop :=
  ∀ (m : (ℓ : Loc Cert.KernelAdamPoolWIdeal.nD Cert.KernelAdamPoolWIdeal.τ Cert.KernelAdamPoolWIdeal.sig) → Buf (Elt Ideal) ℓ) (g : Dev Cert.KernelAdamPoolWIdeal.nD → PrngReg)
    (m' : (ℓ : Loc Cert.ReferenceAdamPoolWIdeal.nD Cert.ReferenceAdamPoolWIdeal.τ Cert.ReferenceAdamPoolWIdeal.sig) → Buf (Elt Ideal) ℓ) (g' : Dev Cert.ReferenceAdamPoolWIdeal.nD → PrngReg), Pre_KernelAdamPoolWIdeal m →
    (∀ c : Dev Cert.KernelAdamPoolWIdeal.nD,
      m' ((c.tc : Thread Cert.ReferenceAdamPoolWIdeal.nD Cert.ReferenceAdamPoolWIdeal.τ).loc Cert.ReferenceAdamPoolWIdeal.main_arg0) = m ((c.tc : Thread Cert.KernelAdamPoolWIdeal.nD Cert.KernelAdamPoolWIdeal.τ).loc Cert.KernelAdamPoolWIdeal.main_arg0)
      ∧ m' ((c.tc : Thread Cert.ReferenceAdamPoolWIdeal.nD Cert.ReferenceAdamPoolWIdeal.τ).loc Cert.ReferenceAdamPoolWIdeal.main_arg1) = m ((c.tc : Thread Cert.KernelAdamPoolWIdeal.nD Cert.KernelAdamPoolWIdeal.τ).loc Cert.KernelAdamPoolWIdeal.main_arg1)
      ∧ m' ((c.tc : Thread Cert.ReferenceAdamPoolWIdeal.nD Cert.ReferenceAdamPoolWIdeal.τ).loc Cert.ReferenceAdamPoolWIdeal.main_arg2) = m ((c.tc : Thread Cert.KernelAdamPoolWIdeal.nD Cert.KernelAdamPoolWIdeal.τ).loc Cert.KernelAdamPoolWIdeal.main_arg2)
      ∧ m' ((c.tc : Thread Cert.ReferenceAdamPoolWIdeal.nD Cert.ReferenceAdamPoolWIdeal.τ).loc Cert.ReferenceAdamPoolWIdeal.main_arg3) = m ((c.tc : Thread Cert.KernelAdamPoolWIdeal.nD Cert.KernelAdamPoolWIdeal.τ).loc Cert.KernelAdamPoolWIdeal.main_arg3)) →
    ∃ (v0 : (c : Dev Cert.KernelAdamPoolWIdeal.nD) → Buf (Elt Ideal) ((c.tc : Thread Cert.KernelAdamPoolWIdeal.nD Cert.KernelAdamPoolWIdeal.τ).loc Cert.KernelAdamPoolWIdeal.main_v0_0)) (v1 : (c : Dev Cert.KernelAdamPoolWIdeal.nD) → Buf (Elt Ideal) ((c.tc : Thread Cert.KernelAdamPoolWIdeal.nD Cert.KernelAdamPoolWIdeal.τ).loc Cert.KernelAdamPoolWIdeal.main_v0_1)) (v2 : (c : Dev Cert.KernelAdamPoolWIdeal.nD) → Buf (Elt Ideal) ((c.tc : Thread Cert.KernelAdamPoolWIdeal.nD Cert.KernelAdamPoolWIdeal.τ).loc Cert.KernelAdamPoolWIdeal.main_v0_2)) (v3 : (c : Dev Cert.KernelAdamPoolWIdeal.nD) → Buf (Elt Ideal) ((c.tc : Thread Cert.KernelAdamPoolWIdeal.nD Cert.KernelAdamPoolWIdeal.τ).loc Cert.KernelAdamPoolWIdeal.main_v0_3)),
      θ_run (Cert.KernelAdamPoolWIdeal.defs (F := Ideal)) (onTc (τ := Cert.KernelAdamPoolWIdeal.τ) (Cert.KernelAdamPoolWIdeal.main (F := Ideal))) ⟨m, fun _ => 0, g⟩ (fun r => ∀ c : Dev Cert.KernelAdamPoolWIdeal.nD,
          r.2.mem ((c.tc : Thread Cert.KernelAdamPoolWIdeal.nD Cert.KernelAdamPoolWIdeal.τ).loc Cert.KernelAdamPoolWIdeal.main_v0_0) = v0 c
          ∧ r.2.mem ((c.tc : Thread Cert.KernelAdamPoolWIdeal.nD Cert.KernelAdamPoolWIdeal.τ).loc Cert.KernelAdamPoolWIdeal.main_v0_1) = v1 c
          ∧ r.2.mem ((c.tc : Thread Cert.KernelAdamPoolWIdeal.nD Cert.KernelAdamPoolWIdeal.τ).loc Cert.KernelAdamPoolWIdeal.main_v0_2) = v2 c
          ∧ r.2.mem ((c.tc : Thread Cert.KernelAdamPoolWIdeal.nD Cert.KernelAdamPoolWIdeal.τ).loc Cert.KernelAdamPoolWIdeal.main_v0_3) = v3 c
          ∧ r.2.mem ((c.tc : Thread Cert.KernelAdamPoolWIdeal.nD Cert.KernelAdamPoolWIdeal.τ).loc Cert.KernelAdamPoolWIdeal.main_arg0) = m ((c.tc : Thread Cert.KernelAdamPoolWIdeal.nD Cert.KernelAdamPoolWIdeal.τ).loc Cert.KernelAdamPoolWIdeal.main_arg0)
          ∧ r.2.mem ((c.tc : Thread Cert.KernelAdamPoolWIdeal.nD Cert.KernelAdamPoolWIdeal.τ).loc Cert.KernelAdamPoolWIdeal.main_arg1) = m ((c.tc : Thread Cert.KernelAdamPoolWIdeal.nD Cert.KernelAdamPoolWIdeal.τ).loc Cert.KernelAdamPoolWIdeal.main_arg1)
          ∧ r.2.mem ((c.tc : Thread Cert.KernelAdamPoolWIdeal.nD Cert.KernelAdamPoolWIdeal.τ).loc Cert.KernelAdamPoolWIdeal.main_arg2) = m ((c.tc : Thread Cert.KernelAdamPoolWIdeal.nD Cert.KernelAdamPoolWIdeal.τ).loc Cert.KernelAdamPoolWIdeal.main_arg2)
          ∧ r.2.mem ((c.tc : Thread Cert.KernelAdamPoolWIdeal.nD Cert.KernelAdamPoolWIdeal.τ).loc Cert.KernelAdamPoolWIdeal.main_arg3) = m ((c.tc : Thread Cert.KernelAdamPoolWIdeal.nD Cert.KernelAdamPoolWIdeal.τ).loc Cert.KernelAdamPoolWIdeal.main_arg3))
      ∧ θ_run (Cert.ReferenceAdamPoolWIdeal.defs (F := Ideal)) (onTc (τ := Cert.ReferenceAdamPoolWIdeal.τ) (Cert.ReferenceAdamPoolWIdeal.main (F := Ideal))) ⟨m', fun _ => 0, g'⟩ (fun r => ∀ c : Dev Cert.ReferenceAdamPoolWIdeal.nD,
          r.2.mem ((c.tc : Thread Cert.ReferenceAdamPoolWIdeal.nD Cert.ReferenceAdamPoolWIdeal.τ).loc Cert.ReferenceAdamPoolWIdeal.main_v2) = v0 c
          ∧ r.2.mem ((c.tc : Thread Cert.ReferenceAdamPoolWIdeal.nD Cert.ReferenceAdamPoolWIdeal.τ).loc Cert.ReferenceAdamPoolWIdeal.main_v26) = v1 c
          ∧ r.2.mem ((c.tc : Thread Cert.ReferenceAdamPoolWIdeal.nD Cert.ReferenceAdamPoolWIdeal.τ).loc Cert.ReferenceAdamPoolWIdeal.main_v7) = v2 c
          ∧ r.2.mem ((c.tc : Thread Cert.ReferenceAdamPoolWIdeal.nD Cert.ReferenceAdamPoolWIdeal.τ).loc Cert.ReferenceAdamPoolWIdeal.main_v13) = v3 c
          ∧ r.2.mem ((c.tc : Thread Cert.ReferenceAdamPoolWIdeal.nD Cert.ReferenceAdamPoolWIdeal.τ).loc Cert.ReferenceAdamPoolWIdeal.main_arg0) = m' ((c.tc : Thread Cert.ReferenceAdamPoolWIdeal.nD Cert.ReferenceAdamPoolWIdeal.τ).loc Cert.ReferenceAdamPoolWIdeal.main_arg0)
          ∧ r.2.mem ((c.tc : Thread Cert.ReferenceAdamPoolWIdeal.nD Cert.ReferenceAdamPoolWIdeal.τ).loc Cert.ReferenceAdamPoolWIdeal.main_arg1) = m' ((c.tc : Thread Cert.ReferenceAdamPoolWIdeal.nD Cert.ReferenceAdamPoolWIdeal.τ).loc Cert.ReferenceAdamPoolWIdeal.main_arg1)
          ∧ r.2.mem ((c.tc : Thread Cert.ReferenceAdamPoolWIdeal.nD Cert.ReferenceAdamPoolWIdeal.τ).loc Cert.ReferenceAdamPoolWIdeal.main_arg2) = m' ((c.tc : Thread Cert.ReferenceAdamPoolWIdeal.nD Cert.ReferenceAdamPoolWIdeal.τ).loc Cert.ReferenceAdamPoolWIdeal.main_arg2)
          ∧ r.2.mem ((c.tc : Thread Cert.ReferenceAdamPoolWIdeal.nD Cert.ReferenceAdamPoolWIdeal.τ).loc Cert.ReferenceAdamPoolWIdeal.main_arg3) = m' ((c.tc : Thread Cert.ReferenceAdamPoolWIdeal.nD Cert.ReferenceAdamPoolWIdeal.τ).loc Cert.ReferenceAdamPoolWIdeal.main_arg3))

def preserves_KernelAdamGateBias_KernelAdamGateBiasIdeal : Prop :=
  True

def algebraic_KernelAdamGateBiasIdeal_ReferenceAdamGateBiasIdeal [hKernelAdamGateBiasIdeal : Cert.KernelAdamGateBiasIdeal.Facts] [hReferenceAdamGateBiasIdeal : Cert.ReferenceAdamGateBiasIdeal.Facts] : Prop :=
  ∀ (m : (ℓ : Loc Cert.KernelAdamGateBiasIdeal.nD Cert.KernelAdamGateBiasIdeal.τ Cert.KernelAdamGateBiasIdeal.sig) → Buf (Elt Ideal) ℓ) (g : Dev Cert.KernelAdamGateBiasIdeal.nD → PrngReg)
    (m' : (ℓ : Loc Cert.ReferenceAdamGateBiasIdeal.nD Cert.ReferenceAdamGateBiasIdeal.τ Cert.ReferenceAdamGateBiasIdeal.sig) → Buf (Elt Ideal) ℓ) (g' : Dev Cert.ReferenceAdamGateBiasIdeal.nD → PrngReg), Pre_KernelAdamGateBiasIdeal m →
    (∀ c : Dev Cert.KernelAdamGateBiasIdeal.nD,
      m' ((c.tc : Thread Cert.ReferenceAdamGateBiasIdeal.nD Cert.ReferenceAdamGateBiasIdeal.τ).loc Cert.ReferenceAdamGateBiasIdeal.main_arg0) = m ((c.tc : Thread Cert.KernelAdamGateBiasIdeal.nD Cert.KernelAdamGateBiasIdeal.τ).loc Cert.KernelAdamGateBiasIdeal.main_arg0)
      ∧ m' ((c.tc : Thread Cert.ReferenceAdamGateBiasIdeal.nD Cert.ReferenceAdamGateBiasIdeal.τ).loc Cert.ReferenceAdamGateBiasIdeal.main_arg1) = m ((c.tc : Thread Cert.KernelAdamGateBiasIdeal.nD Cert.KernelAdamGateBiasIdeal.τ).loc Cert.KernelAdamGateBiasIdeal.main_arg1)
      ∧ m' ((c.tc : Thread Cert.ReferenceAdamGateBiasIdeal.nD Cert.ReferenceAdamGateBiasIdeal.τ).loc Cert.ReferenceAdamGateBiasIdeal.main_arg2) = m ((c.tc : Thread Cert.KernelAdamGateBiasIdeal.nD Cert.KernelAdamGateBiasIdeal.τ).loc Cert.KernelAdamGateBiasIdeal.main_arg2)
      ∧ m' ((c.tc : Thread Cert.ReferenceAdamGateBiasIdeal.nD Cert.ReferenceAdamGateBiasIdeal.τ).loc Cert.ReferenceAdamGateBiasIdeal.main_arg3) = m ((c.tc : Thread Cert.KernelAdamGateBiasIdeal.nD Cert.KernelAdamGateBiasIdeal.τ).loc Cert.KernelAdamGateBiasIdeal.main_arg3)) →
    ∃ (v0 : (c : Dev Cert.KernelAdamGateBiasIdeal.nD) → Buf (Elt Ideal) ((c.tc : Thread Cert.KernelAdamGateBiasIdeal.nD Cert.KernelAdamGateBiasIdeal.τ).loc Cert.KernelAdamGateBiasIdeal.main_v0_0)) (v1 : (c : Dev Cert.KernelAdamGateBiasIdeal.nD) → Buf (Elt Ideal) ((c.tc : Thread Cert.KernelAdamGateBiasIdeal.nD Cert.KernelAdamGateBiasIdeal.τ).loc Cert.KernelAdamGateBiasIdeal.main_v0_1)) (v2 : (c : Dev Cert.KernelAdamGateBiasIdeal.nD) → Buf (Elt Ideal) ((c.tc : Thread Cert.KernelAdamGateBiasIdeal.nD Cert.KernelAdamGateBiasIdeal.τ).loc Cert.KernelAdamGateBiasIdeal.main_v0_2)) (v3 : (c : Dev Cert.KernelAdamGateBiasIdeal.nD) → Buf (Elt Ideal) ((c.tc : Thread Cert.KernelAdamGateBiasIdeal.nD Cert.KernelAdamGateBiasIdeal.τ).loc Cert.KernelAdamGateBiasIdeal.main_v0_3)),
      θ_run (Cert.KernelAdamGateBiasIdeal.defs (F := Ideal)) (onTc (τ := Cert.KernelAdamGateBiasIdeal.τ) (Cert.KernelAdamGateBiasIdeal.main (F := Ideal))) ⟨m, fun _ => 0, g⟩ (fun r => ∀ c : Dev Cert.KernelAdamGateBiasIdeal.nD,
          r.2.mem ((c.tc : Thread Cert.KernelAdamGateBiasIdeal.nD Cert.KernelAdamGateBiasIdeal.τ).loc Cert.KernelAdamGateBiasIdeal.main_v0_0) = v0 c
          ∧ r.2.mem ((c.tc : Thread Cert.KernelAdamGateBiasIdeal.nD Cert.KernelAdamGateBiasIdeal.τ).loc Cert.KernelAdamGateBiasIdeal.main_v0_1) = v1 c
          ∧ r.2.mem ((c.tc : Thread Cert.KernelAdamGateBiasIdeal.nD Cert.KernelAdamGateBiasIdeal.τ).loc Cert.KernelAdamGateBiasIdeal.main_v0_2) = v2 c
          ∧ r.2.mem ((c.tc : Thread Cert.KernelAdamGateBiasIdeal.nD Cert.KernelAdamGateBiasIdeal.τ).loc Cert.KernelAdamGateBiasIdeal.main_v0_3) = v3 c
          ∧ r.2.mem ((c.tc : Thread Cert.KernelAdamGateBiasIdeal.nD Cert.KernelAdamGateBiasIdeal.τ).loc Cert.KernelAdamGateBiasIdeal.main_arg0) = m ((c.tc : Thread Cert.KernelAdamGateBiasIdeal.nD Cert.KernelAdamGateBiasIdeal.τ).loc Cert.KernelAdamGateBiasIdeal.main_arg0)
          ∧ r.2.mem ((c.tc : Thread Cert.KernelAdamGateBiasIdeal.nD Cert.KernelAdamGateBiasIdeal.τ).loc Cert.KernelAdamGateBiasIdeal.main_arg1) = m ((c.tc : Thread Cert.KernelAdamGateBiasIdeal.nD Cert.KernelAdamGateBiasIdeal.τ).loc Cert.KernelAdamGateBiasIdeal.main_arg1)
          ∧ r.2.mem ((c.tc : Thread Cert.KernelAdamGateBiasIdeal.nD Cert.KernelAdamGateBiasIdeal.τ).loc Cert.KernelAdamGateBiasIdeal.main_arg2) = m ((c.tc : Thread Cert.KernelAdamGateBiasIdeal.nD Cert.KernelAdamGateBiasIdeal.τ).loc Cert.KernelAdamGateBiasIdeal.main_arg2)
          ∧ r.2.mem ((c.tc : Thread Cert.KernelAdamGateBiasIdeal.nD Cert.KernelAdamGateBiasIdeal.τ).loc Cert.KernelAdamGateBiasIdeal.main_arg3) = m ((c.tc : Thread Cert.KernelAdamGateBiasIdeal.nD Cert.KernelAdamGateBiasIdeal.τ).loc Cert.KernelAdamGateBiasIdeal.main_arg3))
      ∧ θ_run (Cert.ReferenceAdamGateBiasIdeal.defs (F := Ideal)) (onTc (τ := Cert.ReferenceAdamGateBiasIdeal.τ) (Cert.ReferenceAdamGateBiasIdeal.main (F := Ideal))) ⟨m', fun _ => 0, g'⟩ (fun r => ∀ c : Dev Cert.ReferenceAdamGateBiasIdeal.nD,
          r.2.mem ((c.tc : Thread Cert.ReferenceAdamGateBiasIdeal.nD Cert.ReferenceAdamGateBiasIdeal.τ).loc Cert.ReferenceAdamGateBiasIdeal.main_v2) = v0 c
          ∧ r.2.mem ((c.tc : Thread Cert.ReferenceAdamGateBiasIdeal.nD Cert.ReferenceAdamGateBiasIdeal.τ).loc Cert.ReferenceAdamGateBiasIdeal.main_v26) = v1 c
          ∧ r.2.mem ((c.tc : Thread Cert.ReferenceAdamGateBiasIdeal.nD Cert.ReferenceAdamGateBiasIdeal.τ).loc Cert.ReferenceAdamGateBiasIdeal.main_v7) = v2 c
          ∧ r.2.mem ((c.tc : Thread Cert.ReferenceAdamGateBiasIdeal.nD Cert.ReferenceAdamGateBiasIdeal.τ).loc Cert.ReferenceAdamGateBiasIdeal.main_v13) = v3 c
          ∧ r.2.mem ((c.tc : Thread Cert.ReferenceAdamGateBiasIdeal.nD Cert.ReferenceAdamGateBiasIdeal.τ).loc Cert.ReferenceAdamGateBiasIdeal.main_arg0) = m' ((c.tc : Thread Cert.ReferenceAdamGateBiasIdeal.nD Cert.ReferenceAdamGateBiasIdeal.τ).loc Cert.ReferenceAdamGateBiasIdeal.main_arg0)
          ∧ r.2.mem ((c.tc : Thread Cert.ReferenceAdamGateBiasIdeal.nD Cert.ReferenceAdamGateBiasIdeal.τ).loc Cert.ReferenceAdamGateBiasIdeal.main_arg1) = m' ((c.tc : Thread Cert.ReferenceAdamGateBiasIdeal.nD Cert.ReferenceAdamGateBiasIdeal.τ).loc Cert.ReferenceAdamGateBiasIdeal.main_arg1)
          ∧ r.2.mem ((c.tc : Thread Cert.ReferenceAdamGateBiasIdeal.nD Cert.ReferenceAdamGateBiasIdeal.τ).loc Cert.ReferenceAdamGateBiasIdeal.main_arg2) = m' ((c.tc : Thread Cert.ReferenceAdamGateBiasIdeal.nD Cert.ReferenceAdamGateBiasIdeal.τ).loc Cert.ReferenceAdamGateBiasIdeal.main_arg2)
          ∧ r.2.mem ((c.tc : Thread Cert.ReferenceAdamGateBiasIdeal.nD Cert.ReferenceAdamGateBiasIdeal.τ).loc Cert.ReferenceAdamGateBiasIdeal.main_arg3) = m' ((c.tc : Thread Cert.ReferenceAdamGateBiasIdeal.nD Cert.ReferenceAdamGateBiasIdeal.τ).loc Cert.ReferenceAdamGateBiasIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)
      ∧ m' ((c.tc : Thread Cert.ReferenceAdamInIdeal.nD Cert.ReferenceAdamInIdeal.τ).loc Cert.ReferenceAdamInIdeal.main_arg4) = m ((c.tc : Thread Cert.KernelAdamInIdeal.nD Cert.KernelAdamInIdeal.τ).loc Cert.KernelAdamInIdeal.main_arg4)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)) (v3 : (c : Dev Cert.KernelAdamInIdeal.nD) → Buf (Elt Ideal) ((c.tc : Thread Cert.KernelAdamInIdeal.nD Cert.KernelAdamInIdeal.τ).loc Cert.KernelAdamInIdeal.main_v0_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_v0_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
          ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v14) = v0 c
          ∧ r.2.mem ((c.tc : Thread Cert.ReferenceAdamInIdeal.nD Cert.ReferenceAdamInIdeal.τ).loc Cert.ReferenceAdamInIdeal.main_v38) = v1 c
          ∧ r.2.mem ((c.tc : Thread Cert.ReferenceAdamInIdeal.nD Cert.ReferenceAdamInIdeal.τ).loc Cert.ReferenceAdamInIdeal.main_v19) = v2 c
          ∧ r.2.mem ((c.tc : Thread Cert.ReferenceAdamInIdeal.nD Cert.ReferenceAdamInIdeal.τ).loc Cert.ReferenceAdamInIdeal.main_v25) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3)
          ∧ r.2.mem ((c.tc : Thread Cert.ReferenceAdamInIdeal.nD Cert.ReferenceAdamInIdeal.τ).loc Cert.ReferenceAdamInIdeal.main_arg4) = m' ((c.tc : Thread Cert.ReferenceAdamInIdeal.nD Cert.ReferenceAdamInIdeal.τ).loc Cert.ReferenceAdamInIdeal.main_arg4))

def preserves_KernelBiasRows_KernelBiasRowsIdeal : Prop :=
  True

def algebraic_KernelBiasRowsIdeal_ReferenceBiasRowsIdeal [hKernelBiasRowsIdeal : Cert.KernelBiasRowsIdeal.Facts] [hReferenceBiasRowsIdeal : Cert.ReferenceBiasRowsIdeal.Facts] : Prop :=
  ∀ (m : (ℓ : Loc Cert.KernelBiasRowsIdeal.nD Cert.KernelBiasRowsIdeal.τ Cert.KernelBiasRowsIdeal.sig) → Buf (Elt Ideal) ℓ) (g : Dev Cert.KernelBiasRowsIdeal.nD → PrngReg)
    (m' : (ℓ : Loc Cert.ReferenceBiasRowsIdeal.nD Cert.ReferenceBiasRowsIdeal.τ Cert.ReferenceBiasRowsIdeal.sig) → Buf (Elt Ideal) ℓ) (g' : Dev Cert.ReferenceBiasRowsIdeal.nD → PrngReg), Pre_KernelBiasRowsIdeal m →
    (∀ c : Dev Cert.KernelBiasRowsIdeal.nD,
      m' ((c.tc : Thread Cert.ReferenceBiasRowsIdeal.nD Cert.ReferenceBiasRowsIdeal.τ).loc Cert.ReferenceBiasRowsIdeal.main_arg0) = m ((c.tc : Thread Cert.KernelBiasRowsIdeal.nD Cert.KernelBiasRowsIdeal.τ).loc Cert.KernelBiasRowsIdeal.main_arg0)) →
    ∃ (v0 : (c : Dev Cert.KernelBiasRowsIdeal.nD) → Buf (Elt Ideal) ((c.tc : Thread Cert.KernelBiasRowsIdeal.nD Cert.KernelBiasRowsIdeal.τ).loc Cert.KernelBiasRowsIdeal.main_v0)),
      θ_run (Cert.KernelBiasRowsIdeal.defs (F := Ideal)) (onTc (τ := Cert.KernelBiasRowsIdeal.τ) (Cert.KernelBiasRowsIdeal.main (F := Ideal))) ⟨m, fun _ => 0, g⟩ (fun r => ∀ c : Dev Cert.KernelBiasRowsIdeal.nD,
          r.2.mem ((c.tc : Thread Cert.KernelBiasRowsIdeal.nD Cert.KernelBiasRowsIdeal.τ).loc Cert.KernelBiasRowsIdeal.main_v0) = v0 c
          ∧ r.2.mem ((c.tc : Thread Cert.KernelBiasRowsIdeal.nD Cert.KernelBiasRowsIdeal.τ).loc Cert.KernelBiasRowsIdeal.main_arg0) = m ((c.tc : Thread Cert.KernelBiasRowsIdeal.nD Cert.KernelBiasRowsIdeal.τ).loc Cert.KernelBiasRowsIdeal.main_arg0))
      ∧ θ_run (Cert.ReferenceBiasRowsIdeal.defs (F := Ideal)) (onTc (τ := Cert.ReferenceBiasRowsIdeal.τ) (Cert.ReferenceBiasRowsIdeal.main (F := Ideal))) ⟨m', fun _ => 0, g'⟩ (fun r => ∀ c : Dev Cert.ReferenceBiasRowsIdeal.nD,
          r.2.mem ((c.tc : Thread Cert.ReferenceBiasRowsIdeal.nD Cert.ReferenceBiasRowsIdeal.τ).loc Cert.ReferenceBiasRowsIdeal.main_v17) = v0 c
          ∧ r.2.mem ((c.tc : Thread Cert.ReferenceBiasRowsIdeal.nD Cert.ReferenceBiasRowsIdeal.τ).loc Cert.ReferenceBiasRowsIdeal.main_arg0) = m' ((c.tc : Thread Cert.ReferenceBiasRowsIdeal.nD Cert.ReferenceBiasRowsIdeal.τ).loc Cert.ReferenceBiasRowsIdeal.main_arg0))

def Claim : Prop :=
  ∃ (hKernel : Cert.Kernel.Facts) (hKernelIdeal : Cert.KernelIdeal.Facts) (hReferenceIdeal : Cert.ReferenceIdeal.Facts) (hKernelDwLo : Cert.KernelDwLo.Facts) (hKernelDwLoIdeal : Cert.KernelDwLoIdeal.Facts) (hReferenceDwLoIdeal : Cert.ReferenceDwLoIdeal.Facts) (hKernelDwHi : Cert.KernelDwHi.Facts) (hKernelDwHiIdeal : Cert.KernelDwHiIdeal.Facts) (hReferenceDwHiIdeal : Cert.ReferenceDwHiIdeal.Facts) (hKernelDhRest : Cert.KernelDhRest.Facts) (hKernelDhRestIdeal : Cert.KernelDhRestIdeal.Facts) (hReferenceDhRestIdeal : Cert.ReferenceDhRestIdeal.Facts) (hKernelDhHead : Cert.KernelDhHead.Facts) (hKernelDhHeadIdeal : Cert.KernelDhHeadIdeal.Facts) (hReferenceDhHeadIdeal : Cert.ReferenceDhHeadIdeal.Facts) (hKernelDwOut : Cert.KernelDwOut.Facts) (hKernelDwOutIdeal : Cert.KernelDwOutIdeal.Facts) (hReferenceDwOutIdeal : Cert.ReferenceDwOutIdeal.Facts) (hKernelDwOutAttn : Cert.KernelDwOutAttn.Facts) (hKernelDwOutAttnIdeal : Cert.KernelDwOutAttnIdeal.Facts) (hReferenceDwOutAttnIdeal : Cert.ReferenceDwOutAttnIdeal.Facts) (hKernelDwOutPool : Cert.KernelDwOutPool.Facts) (hKernelDwOutPoolIdeal : Cert.KernelDwOutPoolIdeal.Facts) (hReferenceDwOutPoolIdeal : Cert.ReferenceDwOutPoolIdeal.Facts) (hKernelProj0 : Cert.KernelProj0.Facts) (hKernelProj0Ideal : Cert.KernelProj0Ideal.Facts) (hReferenceProj0Ideal : Cert.ReferenceProj0Ideal.Facts) (hKernelProj1 : Cert.KernelProj1.Facts) (hKernelProj1Ideal : Cert.KernelProj1Ideal.Facts) (hReferenceProj1Ideal : Cert.ReferenceProj1Ideal.Facts) (hKernelProj2 : Cert.KernelProj2.Facts) (hKernelProj2Ideal : Cert.KernelProj2Ideal.Facts) (hReferenceProj2Ideal : Cert.ReferenceProj2Ideal.Facts) (hKernelProj3 : Cert.KernelProj3.Facts) (hKernelProj3Ideal : Cert.KernelProj3Ideal.Facts) (hReferenceProj3Ideal : Cert.ReferenceProj3Ideal.Facts) (hKernelProj4 : Cert.KernelProj4.Facts) (hKernelProj4Ideal : Cert.KernelProj4Ideal.Facts) (hReferenceProj4Ideal : Cert.ReferenceProj4Ideal.Facts) (hKernelOutProj : Cert.KernelOutProj.Facts) (hKernelOutProjIdeal : Cert.KernelOutProjIdeal.Facts) (hReferenceOutProjIdeal : Cert.ReferenceOutProjIdeal.Facts) (hKernelMerge : Cert.KernelMerge.Facts) (hKernelMergeIdeal : Cert.KernelMergeIdeal.Facts) (hReferenceMergeIdeal : Cert.ReferenceMergeIdeal.Facts) (hKernelGate : Cert.KernelGate.Facts) (hKernelGateIdeal : Cert.KernelGateIdeal.Facts) (hReferenceGateIdeal : Cert.ReferenceGateIdeal.Facts) (hKernelAttnGate : Cert.KernelAttnGate.Facts) (hKernelAttnGateIdeal : Cert.KernelAttnGateIdeal.Facts) (hReferenceAttnGateIdeal : Cert.ReferenceAttnGateIdeal.Facts) (hKernelPoolGate : Cert.KernelPoolGate.Facts) (hKernelPoolGateIdeal : Cert.KernelPoolGateIdeal.Facts) (hReferencePoolGateIdeal : Cert.ReferencePoolGateIdeal.Facts) (hKernelRmsFwd : Cert.KernelRmsFwd.Facts) (hKernelRmsFwdIdeal : Cert.KernelRmsFwdIdeal.Facts) (hReferenceRmsFwdIdeal : Cert.ReferenceRmsFwdIdeal.Facts) (hKernelAdamOut : Cert.KernelAdamOut.Facts) (hKernelAdamOutIdeal : Cert.KernelAdamOutIdeal.Facts) (hReferenceAdamOutIdeal : Cert.ReferenceAdamOutIdeal.Facts) (hKernelAdamOutAttn : Cert.KernelAdamOutAttn.Facts) (hKernelAdamOutAttnIdeal : Cert.KernelAdamOutAttnIdeal.Facts) (hReferenceAdamOutAttnIdeal : Cert.ReferenceAdamOutAttnIdeal.Facts) (hKernelAdamOutPool : Cert.KernelAdamOutPool.Facts) (hKernelAdamOutPoolIdeal : Cert.KernelAdamOutPoolIdeal.Facts) (hReferenceAdamOutPoolIdeal : Cert.ReferenceAdamOutPoolIdeal.Facts) (hKernelAdamPoolW : Cert.KernelAdamPoolW.Facts) (hKernelAdamPoolWIdeal : Cert.KernelAdamPoolWIdeal.Facts) (hReferenceAdamPoolWIdeal : Cert.ReferenceAdamPoolWIdeal.Facts) (hKernelAdamGateBias : Cert.KernelAdamGateBias.Facts) (hKernelAdamGateBiasIdeal : Cert.KernelAdamGateBiasIdeal.Facts) (hReferenceAdamGateBiasIdeal : Cert.ReferenceAdamGateBiasIdeal.Facts) (hKernelAdamIn : Cert.KernelAdamIn.Facts) (hKernelAdamInIdeal : Cert.KernelAdamInIdeal.Facts) (hReferenceAdamInIdeal : Cert.ReferenceAdamInIdeal.Facts) (hKernelBiasRows : Cert.KernelBiasRows.Facts) (hKernelBiasRowsIdeal : Cert.KernelBiasRowsIdeal.Facts) (hReferenceBiasRowsIdeal : Cert.ReferenceBiasRowsIdeal.Facts) (hPre_finite : Cert.Pre_finite.Facts) (hPre_finite_attn_gate : Cert.Pre_finite_attn_gate.Facts) (hPre_finite_pool_gate : Cert.Pre_finite_pool_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDwLo (hKernelDwLo := hKernelDwLo)
    ∧ quiescent_KernelDwLoIdeal (hKernelDwLoIdeal := hKernelDwLoIdeal)
    ∧ quiescent_ReferenceDwLoIdeal (hReferenceDwLoIdeal := hReferenceDwLoIdeal)
    ∧ quiescent_KernelDwHi (hKernelDwHi := hKernelDwHi)
    ∧ quiescent_KernelDwHiIdeal (hKernelDwHiIdeal := hKernelDwHiIdeal)
    ∧ quiescent_ReferenceDwHiIdeal (hReferenceDwHiIdeal := hReferenceDwHiIdeal)
    ∧ quiescent_KernelDhRest (hKernelDhRest := hKernelDhRest)
    ∧ quiescent_KernelDhRestIdeal (hKernelDhRestIdeal := hKernelDhRestIdeal)
    ∧ quiescent_ReferenceDhRestIdeal (hReferenceDhRestIdeal := hReferenceDhRestIdeal)
    ∧ quiescent_KernelDhHead (hKernelDhHead := hKernelDhHead)
    ∧ quiescent_KernelDhHeadIdeal (hKernelDhHeadIdeal := hKernelDhHeadIdeal)
    ∧ quiescent_ReferenceDhHeadIdeal (hReferenceDhHeadIdeal := hReferenceDhHeadIdeal)
    ∧ quiescent_KernelDwOut (hKernelDwOut := hKernelDwOut)
    ∧ quiescent_KernelDwOutIdeal (hKernelDwOutIdeal := hKernelDwOutIdeal)
    ∧ quiescent_ReferenceDwOutIdeal (hReferenceDwOutIdeal := hReferenceDwOutIdeal)
    ∧ quiescent_KernelDwOutAttn (hKernelDwOutAttn := hKernelDwOutAttn)
    ∧ quiescent_KernelDwOutAttnIdeal (hKernelDwOutAttnIdeal := hKernelDwOutAttnIdeal)
    ∧ quiescent_ReferenceDwOutAttnIdeal (hReferenceDwOutAttnIdeal := hReferenceDwOutAttnIdeal)
    ∧ quiescent_KernelDwOutPool (hKernelDwOutPool := hKernelDwOutPool)
    ∧ quiescent_KernelDwOutPoolIdeal (hKernelDwOutPoolIdeal := hKernelDwOutPoolIdeal)
    ∧ quiescent_ReferenceDwOutPoolIdeal (hReferenceDwOutPoolIdeal := hReferenceDwOutPoolIdeal)
    ∧ quiescent_KernelProj0 (hKernelProj0 := hKernelProj0)
    ∧ quiescent_KernelProj0Ideal (hKernelProj0Ideal := hKernelProj0Ideal)
    ∧ quiescent_ReferenceProj0Ideal (hReferenceProj0Ideal := hReferenceProj0Ideal)
    ∧ quiescent_KernelProj1 (hKernelProj1 := hKernelProj1)
    ∧ quiescent_KernelProj1Ideal (hKernelProj1Ideal := hKernelProj1Ideal)
    ∧ quiescent_ReferenceProj1Ideal (hReferenceProj1Ideal := hReferenceProj1Ideal)
    ∧ quiescent_KernelProj2 (hKernelProj2 := hKernelProj2)
    ∧ quiescent_KernelProj2Ideal (hKernelProj2Ideal := hKernelProj2Ideal)
    ∧ quiescent_ReferenceProj2Ideal (hReferenceProj2Ideal := hReferenceProj2Ideal)
    ∧ quiescent_KernelProj3 (hKernelProj3 := hKernelProj3)
    ∧ quiescent_KernelProj3Ideal (hKernelProj3Ideal := hKernelProj3Ideal)
    ∧ quiescent_ReferenceProj3Ideal (hReferenceProj3Ideal := hReferenceProj3Ideal)
    ∧ quiescent_KernelProj4 (hKernelProj4 := hKernelProj4)
    ∧ quiescent_KernelProj4Ideal (hKernelProj4Ideal := hKernelProj4Ideal)
    ∧ quiescent_ReferenceProj4Ideal (hReferenceProj4Ideal := hReferenceProj4Ideal)
    ∧ quiescent_KernelOutProj (hKernelOutProj := hKernelOutProj)
    ∧ quiescent_KernelOutProjIdeal (hKernelOutProjIdeal := hKernelOutProjIdeal)
    ∧ quiescent_ReferenceOutProjIdeal (hReferenceOutProjIdeal := hReferenceOutProjIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelAttnGate (hKernelAttnGate := hKernelAttnGate)
    ∧ quiescent_KernelAttnGateIdeal (hKernelAttnGateIdeal := hKernelAttnGateIdeal)
    ∧ quiescent_KernelAttnGateIdeal_pre_finite_attn_gate (hKernelAttnGateIdeal := hKernelAttnGateIdeal) (hPre_finite_attn_gate := hPre_finite_attn_gate)
    ∧ quiescent_ReferenceAttnGateIdeal (hReferenceAttnGateIdeal := hReferenceAttnGateIdeal)
    ∧ quiescent_ReferenceAttnGateIdeal_pre_finite_attn_gate (hReferenceAttnGateIdeal := hReferenceAttnGateIdeal) (hPre_finite_attn_gate := hPre_finite_attn_gate)
    ∧ quiescent_KernelPoolGate (hKernelPoolGate := hKernelPoolGate)
    ∧ quiescent_KernelPoolGateIdeal (hKernelPoolGateIdeal := hKernelPoolGateIdeal)
    ∧ quiescent_KernelPoolGateIdeal_pre_finite_pool_gate (hKernelPoolGateIdeal := hKernelPoolGateIdeal) (hPre_finite_pool_gate := hPre_finite_pool_gate)
    ∧ quiescent_ReferencePoolGateIdeal (hReferencePoolGateIdeal := hReferencePoolGateIdeal)
    ∧ quiescent_ReferencePoolGateIdeal_pre_finite_pool_gate (hReferencePoolGateIdeal := hReferencePoolGateIdeal) (hPre_finite_pool_gate := hPre_finite_pool_gate)
    ∧ quiescent_KernelRmsFwd (hKernelRmsFwd := hKernelRmsFwd)
    ∧ quiescent_KernelRmsFwdIdeal (hKernelRmsFwdIdeal := hKernelRmsFwdIdeal)
    ∧ quiescent_ReferenceRmsFwdIdeal (hReferenceRmsFwdIdeal := hReferenceRmsFwdIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamOutAttn (hKernelAdamOutAttn := hKernelAdamOutAttn)
    ∧ quiescent_KernelAdamOutAttnIdeal (hKernelAdamOutAttnIdeal := hKernelAdamOutAttnIdeal)
    ∧ quiescent_ReferenceAdamOutAttnIdeal (hReferenceAdamOutAttnIdeal := hReferenceAdamOutAttnIdeal)
    ∧ quiescent_KernelAdamOutPool (hKernelAdamOutPool := hKernelAdamOutPool)
    ∧ quiescent_KernelAdamOutPoolIdeal (hKernelAdamOutPoolIdeal := hKernelAdamOutPoolIdeal)
    ∧ quiescent_ReferenceAdamOutPoolIdeal (hReferenceAdamOutPoolIdeal := hReferenceAdamOutPoolIdeal)
    ∧ quiescent_KernelAdamPoolW (hKernelAdamPoolW := hKernelAdamPoolW)
    ∧ quiescent_KernelAdamPoolWIdeal (hKernelAdamPoolWIdeal := hKernelAdamPoolWIdeal)
    ∧ quiescent_ReferenceAdamPoolWIdeal (hReferenceAdamPoolWIdeal := hReferenceAdamPoolWIdeal)
    ∧ quiescent_KernelAdamGateBias (hKernelAdamGateBias := hKernelAdamGateBias)
    ∧ quiescent_KernelAdamGateBiasIdeal (hKernelAdamGateBiasIdeal := hKernelAdamGateBiasIdeal)
    ∧ quiescent_ReferenceAdamGateBiasIdeal (hReferenceAdamGateBiasIdeal := hReferenceAdamGateBiasIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelBiasRows (hKernelBiasRows := hKernelBiasRows)
    ∧ quiescent_KernelBiasRowsIdeal (hKernelBiasRowsIdeal := hKernelBiasRowsIdeal)
    ∧ quiescent_ReferenceBiasRowsIdeal (hReferenceBiasRowsIdeal := hReferenceBiasRowsIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDwLo_KernelDwLoIdeal
    ∧ algebraic_KernelDwLoIdeal_ReferenceDwLoIdeal (hKernelDwLoIdeal := hKernelDwLoIdeal) (hReferenceDwLoIdeal := hReferenceDwLoIdeal)
    ∧ preserves_KernelDwHi_KernelDwHiIdeal
    ∧ algebraic_KernelDwHiIdeal_ReferenceDwHiIdeal (hKernelDwHiIdeal := hKernelDwHiIdeal) (hReferenceDwHiIdeal := hReferenceDwHiIdeal)
    ∧ preserves_KernelDhRest_KernelDhRestIdeal
    ∧ algebraic_KernelDhRestIdeal_ReferenceDhRestIdeal (hKernelDhRestIdeal := hKernelDhRestIdeal) (hReferenceDhRestIdeal := hReferenceDhRestIdeal)
    ∧ preserves_KernelDhHead_KernelDhHeadIdeal
    ∧ algebraic_KernelDhHeadIdeal_ReferenceDhHeadIdeal (hKernelDhHeadIdeal := hKernelDhHeadIdeal) (hReferenceDhHeadIdeal := hReferenceDhHeadIdeal)
    ∧ preserves_KernelDwOut_KernelDwOutIdeal
    ∧ algebraic_KernelDwOutIdeal_ReferenceDwOutIdeal (hKernelDwOutIdeal := hKernelDwOutIdeal) (hReferenceDwOutIdeal := hReferenceDwOutIdeal)
    ∧ preserves_KernelDwOutAttn_KernelDwOutAttnIdeal
    ∧ algebraic_KernelDwOutAttnIdeal_ReferenceDwOutAttnIdeal (hKernelDwOutAttnIdeal := hKernelDwOutAttnIdeal) (hReferenceDwOutAttnIdeal := hReferenceDwOutAttnIdeal)
    ∧ preserves_KernelDwOutPool_KernelDwOutPoolIdeal
    ∧ algebraic_KernelDwOutPoolIdeal_ReferenceDwOutPoolIdeal (hKernelDwOutPoolIdeal := hKernelDwOutPoolIdeal) (hReferenceDwOutPoolIdeal := hReferenceDwOutPoolIdeal)
    ∧ preserves_KernelProj0_KernelProj0Ideal
    ∧ algebraic_KernelProj0Ideal_ReferenceProj0Ideal (hKernelProj0Ideal := hKernelProj0Ideal) (hReferenceProj0Ideal := hReferenceProj0Ideal)
    ∧ preserves_KernelProj1_KernelProj1Ideal
    ∧ algebraic_KernelProj1Ideal_ReferenceProj1Ideal (hKernelProj1Ideal := hKernelProj1Ideal) (hReferenceProj1Ideal := hReferenceProj1Ideal)
    ∧ preserves_KernelProj2_KernelProj2Ideal
    ∧ algebraic_KernelProj2Ideal_ReferenceProj2Ideal (hKernelProj2Ideal := hKernelProj2Ideal) (hReferenceProj2Ideal := hReferenceProj2Ideal)
    ∧ preserves_KernelProj3_KernelProj3Ideal
    ∧ algebraic_KernelProj3Ideal_ReferenceProj3Ideal (hKernelProj3Ideal := hKernelProj3Ideal) (hReferenceProj3Ideal := hReferenceProj3Ideal)
    ∧ preserves_KernelProj4_KernelProj4Ideal
    ∧ algebraic_KernelProj4Ideal_ReferenceProj4Ideal (hKernelProj4Ideal := hKernelProj4Ideal) (hReferenceProj4Ideal := hReferenceProj4Ideal)
    ∧ preserves_KernelOutProj_KernelOutProjIdeal
    ∧ algebraic_KernelOutProjIdeal_ReferenceOutProjIdeal (hKernelOutProjIdeal := hKernelOutProjIdeal) (hReferenceOutProjIdeal := hReferenceOutProjIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelGate_KernelGateIdeal
    ∧ algebraic_KernelGateIdeal_ReferenceGateIdeal (hKernelGateIdeal := hKernelGateIdeal) (hReferenceGateIdeal := hReferenceGateIdeal)
    ∧ preserves_KernelAttnGate_KernelAttnGateIdeal
    ∧ algebraic_KernelAttnGateIdeal_ReferenceAttnGateIdeal_pre_finite_attn_gate (hKernelAttnGateIdeal := hKernelAttnGateIdeal) (hReferenceAttnGateIdeal := hReferenceAttnGateIdeal) (hPre_finite_attn_gate := hPre_finite_attn_gate)
    ∧ preserves_KernelPoolGate_KernelPoolGateIdeal
    ∧ algebraic_KernelPoolGateIdeal_ReferencePoolGateIdeal_pre_finite_pool_gate (hKernelPoolGateIdeal := hKernelPoolGateIdeal) (hReferencePoolGateIdeal := hReferencePoolGateIdeal) (hPre_finite_pool_gate := hPre_finite_pool_gate)
    ∧ preserves_KernelRmsFwd_KernelRmsFwdIdeal
    ∧ algebraic_KernelRmsFwdIdeal_ReferenceRmsFwdIdeal (hKernelRmsFwdIdeal := hKernelRmsFwdIdeal) (hReferenceRmsFwdIdeal := hReferenceRmsFwdIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamOutAttn_KernelAdamOutAttnIdeal
    ∧ algebraic_KernelAdamOutAttnIdeal_ReferenceAdamOutAttnIdeal (hKernelAdamOutAttnIdeal := hKernelAdamOutAttnIdeal) (hReferenceAdamOutAttnIdeal := hReferenceAdamOutAttnIdeal)
    ∧ preserves_KernelAdamOutPool_KernelAdamOutPoolIdeal
    ∧ algebraic_KernelAdamOutPoolIdeal_ReferenceAdamOutPoolIdeal (hKernelAdamOutPoolIdeal := hKernelAdamOutPoolIdeal) (hReferenceAdamOutPoolIdeal := hReferenceAdamOutPoolIdeal)
    ∧ preserves_KernelAdamPoolW_KernelAdamPoolWIdeal
    ∧ algebraic_KernelAdamPoolWIdeal_ReferenceAdamPoolWIdeal (hKernelAdamPoolWIdeal := hKernelAdamPoolWIdeal) (hReferenceAdamPoolWIdeal := hReferenceAdamPoolWIdeal)
    ∧ preserves_KernelAdamGateBias_KernelAdamGateBiasIdeal
    ∧ algebraic_KernelAdamGateBiasIdeal_ReferenceAdamGateBiasIdeal (hKernelAdamGateBiasIdeal := hKernelAdamGateBiasIdeal) (hReferenceAdamGateBiasIdeal := hReferenceAdamGateBiasIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelBiasRows_KernelBiasRowsIdeal
    ∧ algebraic_KernelBiasRowsIdeal_ReferenceBiasRowsIdeal (hKernelBiasRowsIdeal := hKernelBiasRowsIdeal) (hReferenceBiasRowsIdeal := hReferenceBiasRowsIdeal)
-- ==== Pre_finite.lean ====
abbrev S4096x20480 : Shape := ⟨2, ![4096, 20480]⟩
abbrev S16x257 : Shape := ⟨2, ![16, 257]⟩
abbrev S4096x2048 : Shape := ⟨2, ![4096, 2048]⟩
abbrev S4096x4096 : Shape := ⟨2, ![4096, 4096]⟩
abbrev S_ : Shape := ⟨0, ![]⟩

class Facts : Prop where
  slices_S4096x20480_S4096x4096_0_0 : S4096x20480.Slices ![0, 0] S4096x4096
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S4096x20480 .bf16) (main_arg1 : FVec F S16x257 .f32) (main_arg2 : FVec F S4096x2048 .bf16) (main_arg3 : FVec F S4096x20480 .bf16) : IVec S_ 1 :=
  let main_v0 : FVec F S4096x4096 .bf16 := (extractStridedSlice S4096x4096 ![0, 0] · slices_S4096x20480_S4096x4096_0_0) main_arg0
  let main_v1 : FVec F S4096x4096 .f32 := (extf .f32 · bitsLt_bf16_f32) main_v0
  let main_v2 : FVec F S4096x4096 .f32 := Host.absf main_v1
  let main_cst : FVec F S_ .f32 := constant S_ .f32 0x7F800000#32
  let main_v3 : FVec F S4096x4096 .f32 := broadcastInDim S4096x4096 ![] bcast_S_S4096x4096 main_cst
  let main_v4 : IVec S4096x4096 1 := cmpf .olt main_v2 main_v3
  let main_c : IVec S_ 1 := constantI S_ 1 1#1
  let main_v5 : IVec S_ 1 := (fun x v => Host.reduce IntOp.andi x v reducesTo_S4096x4096_S_d0_1 h_S_) main_v4 main_c
  let main_v6 : FVec F S16x257 .f32 := Host.absf main_arg1
  let main_cst_0 : FVec F S_ .f32 := constant S_ .f32 0x7F800000#32
  let main_v7 : FVec F S16x257 .f32 := broadcastInDim S16x257 ![] bcast_S_S16x257 main_cst_0
  let main_v8 : IVec S16x257 1 := cmpf .olt main_v6 main_v7
  let main_c_1 : IVec S_ 1 := constantI S_ 1 1#1
  let main_v9 : IVec S_ 1 := (fun x v => Host.reduce IntOp.andi x v reducesTo_S16x257_S_d0_1 h_S_) main_v8 main_c_1
  let main_v10 : IVec S_ 1 := andi main_v5 main_v9
  main_v10
-- ==== Pre_finite_attn_gate.lean ====
abbrev S4096x4096 : Shape := ⟨2, ![4096, 4096]⟩
abbrev S2048x4096 : Shape := ⟨2, ![2048, 4096]⟩
abbrev S4096x20480 : Shape := ⟨2, ![4096, 20480]⟩
abbrev S4096x2048 : Shape := ⟨2, ![4096, 2048]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x4096 .bf16) (main_arg1 : FVec F S2048x4096 .bf16) (main_arg2 : FVec F S4096x20480 .bf16) (main_arg3 : FVec F S4096x2048 .bf16) (main_arg4 : FVec F S4096x20480 .bf16) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S2048x4096 .f32 := (extf .f32 · bitsLt_bf16_f32) main_arg1
  let main_v6 : FVec F S2048x4096 .f32 := Host.absf main_v5
  let main_cst_0 : FVec F S_ .f32 := constant S_ .f32 0x7F800000#32
  let main_v7 : FVec F S2048x4096 .f32 := broadcastInDim S2048x4096 ![] bcast_S_S2048x4096 main_cst_0
  let main_v8 : IVec S2048x4096 1 := cmpf .olt main_v6 main_v7
  let main_c_1 : IVec S_ 1 := constantI S_ 1 1#1
  let main_v9 : IVec S_ 1 := (fun x v => Host.reduce IntOp.andi x v reducesTo_S2048x4096_S_d0_1 h_S_) main_v8 main_c_1
  let main_v10 : IVec S_ 1 := andi main_v4 main_v9
  let main_v11 : FVec F S4096x2048 .f32 := (extf .f32 · bitsLt_bf16_f32) main_arg3
  let main_v12 : FVec F S4096x2048 .f32 := Host.absf main_v11
  let main_cst_2 : FVec F S_ .f32 := constant S_ .f32 0x7F800000#32
  let main_v13 : FVec F S4096x2048 .f32 := broadcastInDim S4096x2048 ![] bcast_S_S4096x2048 main_cst_2
  let main_v14 : IVec S4096x2048 1 := cmpf .olt main_v12 main_v13
  let main_c_3 : IVec S_ 1 := constantI S_ 1 1#1
  let main_v15 : IVec S_ 1 := (fun x v => Host.reduce IntOp.andi x v reducesTo_S4096x2048_S_d0_1 h_S_) main_v14 main_c_3
  let main_v16 : IVec S_ 1 := andi main_v10 main_v15
  main_v16
-- ==== Pre_finite_pool_gate.lean ====
abbrev S4096x4096 : Shape := ⟨2, ![4096, 4096]⟩
abbrev S2048x4096 : Shape := ⟨2, ![2048, 4096]⟩
abbrev S4096x20480 : Shape := ⟨2, ![4096, 20480]⟩
abbrev S4096x2048 : Shape := ⟨2, ![4096, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v16 : IVec S_ 1) (main_v17 : FVec F S1x2048 .f32) : IVec S_ 1 :=
  let main_cst_4 : FVec F S_ .f32 := constant S_ .f32 0x7F800000#32
  let main_v18 : FVec F S1x2048 .f32 := broadcastInDim S1x2048 ![] bcast_S_S1x2048 main_cst_4
  let main_v19 : IVec S1x2048 1 := cmpf .olt main_v17 main_v18
  let main_c_5 : IVec S_ 1 := constantI S_ 1 1#1
  let main_v20 : IVec S_ 1 := (fun x v => Host.reduce IntOp.andi x v reducesTo_S1x2048_S_d0_1 h_S_) main_v19 main_c_5
  let main_v21 : IVec S_ 1 := andi main_v16 main_v20
  main_v21

def fn {F : FTy → Type} [FloatOps F] (main_arg0 : FVec F S4096x4096 .bf16) (main_arg1 : FVec F S2048x4096 .bf16) (main_arg2 : FVec F S4096x20480 .bf16) (main_arg3 : FVec F S4096x2048 .bf16) (main_arg4 : FVec F S1x2048 .f32) (main_arg5 : FVec F S4096x20480 .bf16) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S2048x4096 .f32 := (extf .f32 · bitsLt_bf16_f32) main_arg1
  let main_v6 : FVec F S2048x4096 .f32 := Host.absf main_v5
  let main_cst_0 : FVec F S_ .f32 := constant S_ .f32 0x7F800000#32
  let main_v7 : FVec F S2048x4096 .f32 := broadcastInDim S2048x4096 ![] bcast_S_S2048x4096 main_cst_0
  let main_v8 : IVec S2048x4096 1 := cmpf .olt main_v6 main_v7
  let main_c_1 : IVec S_ 1 := constantI S_ 1 1#1
  let main_v9 : IVec S_ 1 := (fun x v => Host.reduce IntOp.andi x v reducesTo_S2048x4096_S_d0_1 h_S_) main_v8 main_c_1
  let main_v10 : IVec S_ 1 := andi main_v4 main_v9
  let main_v11 : FVec F S4096x2048 .f32 := (extf .f32 · bitsLt_bf16_f32) main_arg3
  let main_v12 : FVec F S4096x2048 .f32 := Host.absf main_v11
  let main_cst_2 : FVec F S_ .f32 := constant S_ .f32 0x7F800000#32
  let main_v13 : FVec F S4096x2048 .f32 := broadcastInDim S4096x2048 ![] bcast_S_S4096x2048 main_cst_2
  let main_v14 : IVec S4096x2048 1 := cmpf .olt main_v12 main_v13
  let main_c_3 : IVec S_ 1 := constantI S_ 1 1#1
  let main_v15 : IVec S_ 1 := (fun x v => Host.reduce IntOp.andi x v reducesTo_S4096x2048_S_d0_1 h_S_) main_v14 main_c_3
  let main_v16 : IVec S_ 1 := andi main_v10 main_v15
  let main_v17 : FVec F S1x2048 .f32 := Host.absf main_arg4
  fn_part1 (F := F) main_v16 main_v17
-- ==== Kernel.lean ====
abbrev S4096x20480 : Shape := ⟨2, ![4096, 20480]⟩
abbrev S16x257 : Shape := ⟨2, ![16, 257]⟩
abbrev S4096x2048 : Shape := ⟨2, ![4096, 2048]⟩
abbrev S2048 : Shape := ⟨1, ![2048]⟩
abbrev S_ : Shape := ⟨0, ![]⟩
abbrev S2048x1 : Shape := ⟨2, ![2048, 1]⟩
abbrev S16x2048 : Shape := ⟨2, ![16, 2048]⟩
abbrev S16x1x2048 : Shape := ⟨3, ![16, 1, 2048]⟩
abbrev S512x128 : Shape := ⟨2, ![512, 128]⟩
abbrev S1x1x2048 : Shape := ⟨3, ![1, 1, 2048]⟩
abbrev S512x1024 : Shape := ⟨2, ![512, 1024]⟩
abbrev S1x2048 : Shape := ⟨2, ![1, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1024x128 : Shape := ⟨2, ![1024, 128]⟩

abbrev nBuf : Space → Nat
  | .hbm => 40
  | .vmem => 26
  | .smem => 0
  | _ => 0

abbrev bufTy : (tb : Table) → Fin (tcTables nBuf tb) → BufTy
  | .hbm, ⟨0, _⟩ => ⟨S4096x20480, .bf16⟩
  | .hbm, ⟨1, _⟩ => ⟨S16x257, .f32⟩
  | .hbm, ⟨2, _⟩ => ⟨S4096x2048, .bf16⟩
  | .hbm, ⟨3, _⟩ => ⟨S4096x20480, .bf16⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S2048x1, .i32⟩
  | .hbm, ⟨34, _⟩ => ⟨S16x2048, .f32⟩
  | .hbm, ⟨35, _⟩ => ⟨S16x1x2048, .f32⟩
  | .hbm, ⟨36, _⟩ => ⟨S4096x20480, .bf16⟩
  | .hbm, ⟨37, _⟩ => ⟨S4096x2048, .bf16⟩
  | .hbm, ⟨38, _⟩ => ⟨S4096x2048, .bf16⟩
  | .hbm, ⟨39, _⟩ => ⟨S16x1x2048, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S1x1x2048, .f32⟩
  | .local _ .vmem, ⟨13, _⟩ => ⟨S1x1x2048, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1x1x2048, .f32⟩
  | .local _ .vmem, ⟨21, _⟩ => ⟨S1x1x2048, .f32⟩
  | .local _ .vmem, ⟨22, _⟩ => ⟨S512x1024, .f32⟩
  | .local _ .vmem, ⟨23, _⟩ => ⟨S512x1024, .f32⟩
  | .local _ .vmem, ⟨24, _⟩ => ⟨S512x128, .f32⟩
  | .local _ .vmem, ⟨25, _⟩ => ⟨S512x128, .f32⟩
  | _, _ => ⟨S4096x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_c_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_c_5 : Ref sig .tc := ⟨.hbm, 26, rfl⟩
abbrev main_v11 : Ref sig .tc := ⟨.hbm, 27, rfl⟩
abbrev main_v12 : Ref sig .tc := ⟨.hbm, 28, rfl⟩
abbrev main_c_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev main_v19_2 : Ref sig .tc := ⟨.hbm, 38, rfl⟩
abbrev main_v19_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c8_i32 : BitVec 32 := 8#32
  let v4 : BitVec 1 := Scalar.cmpi .slt arg1 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c8_i32_3 : BitVec 32 := 8#32
  let v8 : BitVec 1 := Scalar.cmpi .eq arg1 c8_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c16_i32 : BitVec 32 := 16#32
  let v1 : BitVec 32 := Scalar.addi c16_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let v3 : BitVec 32 := Scalar.addi c32_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c32_i32 : BitVec 32 := 32#32
  let v1 : BitVec 32 := Scalar.addi c32_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let v1 : BitVec 32 := Scalar.addi c0_i32 arg0
  let c0_i32_0 : BitVec 32 := 0#32
  ![v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x20480 : Shape := ⟨2, ![4096, 20480]⟩
abbrev S16x257 : Shape := ⟨2, ![16, 257]⟩
abbrev S4096x2048 : Shape := ⟨2, ![4096, 2048]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S16x4096x4096 : Shape := ⟨3, ![16, 4096, 4096]⟩
abbrev S4096x16x128 : Shape := ⟨3, ![4096, 16, 128]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩

abbrev nBuf : Space → Nat
  | .hbm => 179
  | .vmem => 0
  | .smem => 0
  | _ => 0

abbrev hbmTy0_0 (i : Nat) : BufTy := match i % 128 with
  | 0 => ⟨S4096x20480, .bf16⟩
  | 1 => ⟨S16x257, .f32⟩
  | 2 => ⟨S4096x2048, .bf16⟩
  | 3 => ⟨S4096x20480, .bf16⟩
  | 4 => ⟨S4096x2048, .bf16⟩
  | 5 => ⟨S4096x2048, .f32⟩
  | 6 => ⟨S4096x2048, .bf16⟩
  | 7 => ⟨S4096x2048, .f32⟩
  | 8 => ⟨S4096x2048, .bf16⟩
  | 9 => ⟨S4096x2048, .f32⟩
  | 10 => ⟨S4096, .i32⟩
  | 11 => ⟨S4096x1, .i32⟩
  | 12 => ⟨S1x4096, .i32⟩
  | 13 => ⟨S4096x4096, .i32⟩
  | 14 => ⟨S4096x4096, .i32⟩
  | 15 => ⟨S4096x4096, .i32⟩
  | 16 => ⟨S_, .i32⟩
  | 17 => ⟨S_, .i32⟩
  | 18 => ⟨S_, .i32⟩
  | 19 => ⟨S4096x4096, .i32⟩
  | 20 => ⟨S4096x4096, .i32⟩
  | 21 => ⟨S_, .i32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S_, .i32⟩
  | 28 => ⟨S4096x4096, .i32⟩
  | 29 => ⟨S4096x4096, .i1⟩
  | 30 => ⟨S_, .i32⟩
  | 31 => ⟨S4096x4096, .i32⟩
  | 32 => ⟨S4096x4096, .i32⟩
  | 33 => ⟨S4096x4096, .i32⟩
  | 34 => ⟨S4096x4096x1, .i32⟩
  | 35 => ⟨S16x4096x4096, .f32⟩
  | 36 => ⟨S4096x16x128, .f32⟩
  | 37 => ⟨S4096x16x128, .f32⟩
  | 38 => ⟨S16x4096x4096, .f32⟩
  | 39 => ⟨S_, .f32⟩
  | 40 => ⟨S16x4096x4096, .f32⟩
  | 41 => ⟨S16x4096x4096, .f32⟩
  | 42 => ⟨S16x4096x4096, .f32⟩
  | 43 => ⟨S4096x1, .i32⟩
  | 44 => ⟨S_, .i32⟩
  | 45 => ⟨S_, .i32⟩
  | 46 => ⟨S4096x1, .i32⟩
  | 47 => ⟨S4096x1, .i32⟩
  | 48 => ⟨S4096x1, .i32⟩
  | 49 => ⟨S_, .i32⟩
  | 50 => ⟨S4096x1, .i32⟩
  | 51 => ⟨S4096x1, .i1⟩
  | 52 => ⟨S4096x1, .i32⟩
  | 53 => ⟨S4096x1, .i32⟩
  | 54 => ⟨S_, .i32⟩
  | 55 => ⟨S4096x1, .i32⟩
  | 56 => ⟨S4096x1, .i1⟩
  | 57 => ⟨S4096x1, .i1⟩
  | 58 => ⟨S_, .i32⟩
  | 59 => ⟨S4096x1, .i32⟩
  | 60 => ⟨S4096x1, .i32⟩
  | 61 => ⟨S4096x1, .i32⟩
  | 62 => ⟨S1x4096, .i32⟩
  | 63 => ⟨S_, .i32⟩
  | 64 => ⟨S_, .i32⟩
  | 65 => ⟨S1x4096, .i32⟩
  | 66 => ⟨S1x4096, .i32⟩
  | 67 => ⟨S1x4096, .i32⟩
  | 68 => ⟨S_, .i32⟩
  | 69 => ⟨S1x4096, .i32⟩
  | 70 => ⟨S1x4096, .i1⟩
  | 71 => ⟨S1x4096, .i32⟩
  | 72 => ⟨S1x4096, .i32⟩
  | 73 => ⟨S_, .i32⟩
  | 74 => ⟨S1x4096, .i32⟩
  | 75 => ⟨S1x4096, .i1⟩
  | 76 => ⟨S1x4096, .i1⟩
  | 77 => ⟨S_, .i32⟩
  | 78 => ⟨S1x4096, .i32⟩
  | 79 => ⟨S1x4096, .i32⟩
  | 80 => ⟨S1x4096, .i32⟩
  | 81 => ⟨S4096x4096, .i32⟩
  | 82 => ⟨S4096x4096, .i32⟩
  | 83 => ⟨S4096x4096, .i32⟩
  | 84 => ⟨S_, .i32⟩
  | 85 => ⟨S4096x4096, .i32⟩
  | 86 => ⟨S4096x4096, .i1⟩
  | 87 => ⟨S_, .i32⟩
  | 88 => ⟨S4096x4096, .i32⟩
  | 89 => ⟨S4096x4096, .i1⟩
  | 90 => ⟨S4096x4096, .i1⟩
  | 91 => ⟨S_, .f32⟩
  | 92 => ⟨S_, .f32⟩
  | 93 => ⟨S16x4096x4096, .i1⟩
  | 94 => ⟨S16x4096x4096, .f32⟩
  | 95 => ⟨S16x4096x4096, .f32⟩
  | 96 => ⟨S_, .f32⟩
  | 97 => ⟨S16x4096x4096, .f32⟩
  | 98 => ⟨S_, .f32⟩
  | 99 => ⟨S16x4096, .f32⟩
  | 100 => ⟨S16x4096x1, .f32⟩
  | 101 => ⟨S16x4096x4096, .f32⟩
  | 102 => ⟨S16x4096x4096, .i1⟩
  | 103 => ⟨S16x4096x4096, .f32⟩
  | 104 => ⟨S_, .f32⟩
  | 105 => ⟨S16x4096, .f32⟩
  | 106 => ⟨S_, .f32⟩
  | 107 => ⟨S16x4096, .f32⟩
  | 108 => ⟨S16x4096, .f32⟩
  | 109 => ⟨S_, .f32⟩
  | 110 => ⟨S16x4096, .f32⟩
  | 111 => ⟨S16x4096, .i1⟩
  | 112 => ⟨S_, .f32⟩
  | 113 => ⟨S16x4096, .f32⟩
  | 114 => ⟨S16x4096, .i1⟩
  | 115 => ⟨S_, .f32⟩
  | 116 => ⟨S16x4096, .f32⟩
  | 117 => ⟨S_, .f32⟩
  | 118 => ⟨S16x4096, .f32⟩
  | 119 => ⟨S_, .f32⟩
  | 120 => ⟨S16x4096, .f32⟩
  | 121 => ⟨S16x4096, .f32⟩
  | 122 => ⟨S16x4096, .f32⟩
  | 123 => ⟨S16x4096x1, .f32⟩
  | 124 => ⟨S16x4096x4096, .f32⟩
  | 125 => ⟨S16x4096x4096, .f32⟩
  | 126 => ⟨S16x4096x4096, .f32⟩
  | 127 => ⟨S_, .f32⟩
  | _ => ⟨S4096x20480, .bf16⟩

abbrev hbmTy0_1 (i : Nat) : BufTy := match i % 128 with
  | 0 => ⟨S16x4096, .f32⟩
  | 1 => ⟨S16x4096x1, .f32⟩
  | 2 => ⟨S16x4096x4096, .f32⟩
  | 3 => ⟨S16x4096x4096, .f32⟩
  | 4 => ⟨S16x4096x1, .f32⟩
  | 5 => ⟨S_, .f32⟩
  | 6 => ⟨S16x4096x1, .f32⟩
  | 7 => ⟨S16x4096x1, .f32⟩
  | 8 => ⟨S4096x16x128, .f32⟩
  | 9 => ⟨S16x128x4096, .f32⟩
  | 10 => ⟨S4096x16x128, .f32⟩
  | 11 => ⟨S4096x2048, .f32⟩
  | 12 => ⟨S4096x2048, .f32⟩
  | 13 => ⟨S4096x16x128, .f32⟩
  | 14 => ⟨S16x128x4096, .f32⟩
  | 15 => ⟨S16x4096x4096, .f32⟩
  | 16 => ⟨S16x128x4096, .f32⟩
  | 17 => ⟨S4096x16x128, .f32⟩
  | 18 => ⟨S4096x2048, .f32⟩
  | 19 => ⟨S16x4096x4096, .f32⟩
  | 20 => ⟨S16x4096x4096, .f32⟩
  | 21 => ⟨S16x4096x4096, .f32⟩
  | 22 => ⟨S_, .f32⟩
  | 23 => ⟨S16x4096, .f32⟩
  | 24 => ⟨S16x4096x1, .f32⟩
  | 25 => ⟨S16x4096x1, .f32⟩
  | 26 => ⟨S16x4096x4096, .f32⟩
  | 27 => ⟨S16x4096x4096, .f32⟩
  | 28 => ⟨S_, .f32⟩
  | 29 => ⟨S16x4096, .f32⟩
  | 30 => ⟨S16x4096x4096, .f32⟩
  | 31 => ⟨S16x4096x4096, .f32⟩
  | 32 => ⟨S16x4096x4096, .f32⟩
  | 33 => ⟨S_, .f32⟩
  | 34 => ⟨S16x4096x4096, .f32⟩
  | 35 => ⟨S16x4096x4096, .f32⟩
  | 36 => ⟨S_, .f32⟩
  | 37 => ⟨S16x4096x4096, .f32⟩
  | 38 => ⟨S16x4096x4096, .f32⟩
  | 39 => ⟨S16x4096x128, .f32⟩
  | 40 => ⟨S4096x16x128, .f32⟩
  | 41 => ⟨S16x4096x128, .f32⟩
  | 42 => ⟨S4096x16x128, .f32⟩
  | 43 => ⟨S4096x2048, .f32⟩
  | 44 => ⟨S4096x2048, .f32⟩
  | 45 => ⟨S4096x2048, .bf16⟩
  | 46 => ⟨S_, .i32⟩
  | 47 => ⟨S_, .i32⟩
  | 48 => ⟨S4096x20480, .bf16⟩
  | 49 => ⟨S4096x2048, .bf16⟩
  | 50 => ⟨S4096x2048, .bf16⟩
  | _ => ⟨S4096x20480, .bf16⟩

abbrev hbmTy (i : Nat) : BufTy := match i / 128 with
  | 0 => hbmTy0_0 i
  | 1 => hbmTy0_1 i
  | _ => ⟨S4096x20480, .bf16⟩

abbrev bufTy : (tb : Table) → Fin (tcTables nBuf tb) → BufTy
  | .hbm, ⟨i, _⟩ => hbmTy i
  | _, _ => ⟨S4096x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v29 : Ref sig .tc := ⟨.hbm, 61, rfl⟩
abbrev main_v30 : Ref sig .tc := ⟨.hbm, 62, rfl⟩
abbrev main_c_5 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_c : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_0 : Ref sig .tc := ⟨.hbm, 77, rfl⟩
abbrev main_call2_v12 : Ref sig .tc := ⟨.hbm, 78, rfl⟩
abbrev main_call2_v13 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_c_6 : Ref sig .tc := ⟨.hbm, 84, rfl⟩
abbrev main_v35 : Ref sig .tc := ⟨.hbm, 85, rfl⟩
abbrev main_v36 : Ref sig .tc := ⟨.hbm, 86, rfl⟩
abbrev main_c_7 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_8 : Ref sig .tc := ⟨.hbm, 91, rfl⟩
abbrev main_call3_v0 : Ref sig .tc := ⟨.hbm, 92, rfl⟩
abbrev main_v40_1 : Ref sig .tc := ⟨.hbm, 93, rfl⟩
abbrev main_call3_v2 : Ref sig .tc := ⟨.hbm, 94, rfl⟩
abbrev main_v40_0 : Ref sig .tc := ⟨.hbm, 95, rfl⟩
abbrev main_call3_cst : Ref sig .tc := ⟨.hbm, 96, rfl⟩
abbrev main_v40_2 : Ref sig .tc := ⟨.hbm, 97, rfl⟩
abbrev main_cst_9 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_cst_10 : Ref sig .tc := ⟨.hbm, 104, rfl⟩
abbrev main_v46 : Ref sig .tc := ⟨.hbm, 105, rfl⟩
abbrev main_cst_11 : Ref sig .tc := ⟨.hbm, 106, rfl⟩
abbrev main_v47 : Ref sig .tc := ⟨.hbm, 107, rfl⟩
abbrev main_v48 : Ref sig .tc := ⟨.hbm, 108, rfl⟩
abbrev main_cst_12 : Ref sig .tc := ⟨.hbm, 109, rfl⟩
abbrev main_v49 : Ref sig .tc := ⟨.hbm, 110, rfl⟩
abbrev main_v50 : Ref sig .tc := ⟨.hbm, 111, rfl⟩
abbrev main_cst_13 : Ref sig .tc := ⟨.hbm, 112, rfl⟩
abbrev main_v51 : Ref sig .tc := ⟨.hbm, 113, rfl⟩
abbrev main_v52 : Ref sig .tc := ⟨.hbm, 114, rfl⟩
abbrev main_cst_14 : Ref sig .tc := ⟨.hbm, 115, rfl⟩
abbrev main_v53 : Ref sig .tc := ⟨.hbm, 116, rfl⟩
abbrev main_cst_15 : Ref sig .tc := ⟨.hbm, 117, rfl⟩
abbrev main_v54 : Ref sig .tc := ⟨.hbm, 118, rfl⟩
abbrev main_cst_16 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_cst_17 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_cst_18 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_19 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_cst_20 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_call4_cst : Ref sig .tc := ⟨.hbm, 161, rfl⟩
abbrev main_call4_v0 : Ref sig .tc := ⟨.hbm, 162, rfl⟩
abbrev main_v92 : Ref sig .tc := ⟨.hbm, 163, rfl⟩
abbrev main_cst_21 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_c_22 : Ref sig .tc := ⟨.hbm, 174, rfl⟩
abbrev main_c_23 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩

abbrev nD : Nat := 1
abbrev τ : Topo := Topo.v7x

variable {F : FTy → Type} [FloatOps F]
-- ==== KernelDwLo.lean ====
abbrev S4096x4096 : Shape := ⟨2, ![4096, 4096]⟩
abbrev S4096x20480 : Shape := ⟨2, ![4096, 20480]⟩
abbrev S2x4x10240x512 : Shape := ⟨4, ![2, 4, 10240, 512]⟩
abbrev S4096x1024 : Shape := ⟨2, ![4096, 1024]⟩
abbrev S4096x512 : Shape := ⟨2, ![4096, 512]⟩
abbrev S1x1x1024x512 : Shape := ⟨4, ![1, 1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x20480, .bf16⟩
  | .hbm, ⟨2, _⟩ => ⟨S2x4x10240x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1x1024x512, .bf16⟩
  | .local _ .vmem, ⟨5, _⟩ => ⟨S1x1x1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 40], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c24_i32_0 : BitVec 32 := 24#32
  let v1 : BitVec 1 := Scalar.cmpi .slt arg1 c24_i32_0
  let c8_i32 : BitVec 32 := 8#32
  let v2 : BitVec 1 := Scalar.cmpi .slt v0 c8_i32
  let c2_i32 : BitVec 32 := 2#32
  let v3 : BitVec 32 := Scalar.muli c2_i32 v0
  let c24_i32_1 : BitVec 32 := 24#32
  let v4 : BitVec 32 := Scalar.addi c24_i32_1 v3
  let c8_i32_2 : BitVec 32 := 8#32
  let v5 : BitVec 32 := Scalar.subi v0 c8_i32_2
  let c2_i32_3 : BitVec 32 := 2#32
  let v6 : BitVec 32 := Scalar.muli c2_i32_3 v5
  let c24_i32_4 : BitVec 32 := 24#32
  let v7 : BitVec 32 := Scalar.addi c24_i32_4 v6
  let c1_i32 : BitVec 32 := 1#32
  let v8 : BitVec 32 := Scalar.addi v7 c1_i32
  let v9 : BitVec 32 := Scalar.select v2 v4 v8
  let v10 : BitVec 32 := Scalar.select v1 arg1 v9
  let c0_i32 : BitVec 32 := 0#32
  let c0_i32_5 : BitVec 32 := 0#32
  ![c0_i32.toNat, v10.toNat]

def cc0_transform_2 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let v17 : BitVec 1 := Scalar.cmpi .eq c2_i32 c0_i32_4
  let c1_i32_5 : BitVec 32 := 1#32
  let v18 : BitVec 32 := Scalar.select v17 c1_i32_5 c2_i32
  let v19 : BitVec 32 := Scalar.remsi v16 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c5_i32_9 : BitVec 32 := 5#32
  let v27 : BitVec 32 := Scalar.divsi arg1 c5_i32_9
  let c0_i32_10 : BitVec 32 := 0#32
  let v28 : BitVec 1 := Scalar.cmpi .sgt arg1 c0_i32_10
  let v29 : BitVec 32 := Scalar.extui v28
  let c0_i32_11 : BitVec 32 := 0#32
  let v30 : BitVec 1 := Scalar.cmpi .slt arg1 c0_i32_11
  let v31 : BitVec 32 := Scalar.extui v30
  let v32 : BitVec 32 := Scalar.subi v29 v31
  let c0_i32_12 : BitVec 32 := 0#32
  let v33 : BitVec 1 := Scalar.cmpi .sgt c5_i32_9 c0_i32_12
  let v34 : BitVec 32 := Scalar.extui v33
  let c0_i32_13 : BitVec 32 := 0#32
  let v35 : BitVec 1 := Scalar.cmpi .slt c5_i32_9 c0_i32_13
  let v36 : BitVec 32 := Scalar.extui v35
  let v37 : BitVec 32 := Scalar.subi v34 v36
  let v38 : BitVec 1 := Scalar.cmpi .ne v32 v37
  let v39 : BitVec 32 := Scalar.remsi arg1 c5_i32_9
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c2_i32_16 : BitVec 32 := 2#32
  let v44 : BitVec 32 := Scalar.divsi v43 c2_i32_16
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c0_i32_19 : BitVec 32 := 0#32
  let v50 : BitVec 1 := Scalar.cmpi .sgt c2_i32_16 c0_i32_19
  let v51 : BitVec 32 := Scalar.extui v50
  let c0_i32_20 : BitVec 32 := 0#32
  let v52 : BitVec 1 := Scalar.cmpi .slt c2_i32_16 c0_i32_20
  let v53 : BitVec 32 := Scalar.extui v52
  let v54 : BitVec 32 := Scalar.subi v51 v53
  let v55 : BitVec 1 := Scalar.cmpi .ne v49 v54
  let v56 : BitVec 32 := Scalar.remsi v43 c2_i32_16
  let c0_i32_21 : BitVec 32 := 0#32
  let v57 : BitVec 1 := Scalar.cmpi .ne v56 c0_i32_21
  let v58 : BitVec 1 := Scalar.andi v55 v57
  let c1_i32_22 : BitVec 32 := 1#32
  let v59 : BitVec 32 := Scalar.subi v44 c1_i32_22
  let v60 : BitVec 32 := Scalar.select v58 v59 v44
  let c5_i32_23 : BitVec 32 := 5#32
  let c0_i32_24 : BitVec 32 := 0#32
  let v61 : BitVec 1 := Scalar.cmpi .eq c5_i32_23 c0_i32_24
  let c1_i32_25 : BitVec 32 := 1#32
  let v62 : BitVec 32 := Scalar.select v61 c1_i32_25 c5_i32_23
  let v63 : BitVec 32 := Scalar.remsi arg1 v62
  let c0_i32_26 : BitVec 32 := 0#32
  let v64 : BitVec 1 := Scalar.cmpi .ne v63 c0_i32_26
  let c0_i32_27 : BitVec 32 := 0#32
  let v65 : BitVec 1 := Scalar.cmpi .slt v63 c0_i32_27
  let c0_i32_28 : BitVec 32 := 0#32
  let v66 : BitVec 1 := Scalar.cmpi .slt v62 c0_i32_28
  let v67 : BitVec 1 := Scalar.xori v65 v66
  let v68 : BitVec 1 := Scalar.andi v67 v64
  let v69 : BitVec 32 := Scalar.addi v63 v62
  let v70 : BitVec 32 := Scalar.select v68 v69 v63
  let c2_i32_29 : BitVec 32 := 2#32
  let v71 : BitVec 32 := Scalar.muli v70 c2_i32_29
  let v72 : BitVec 32 := Scalar.addi v71 arg0
  let c0_i32_30 : BitVec 32 := 0#32
  let c0_i32_31 : BitVec 32 := 0#32
  ![v26.toNat, v60.toNat, v72.toNat, c0_i32_30.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwLoIdeal.lean ====
abbrev S4096x4096 : Shape := ⟨2, ![4096, 4096]⟩
abbrev S4096x20480 : Shape := ⟨2, ![4096, 20480]⟩
abbrev S_ : Shape := ⟨0, ![]⟩
abbrev S4096x8192 : Shape := ⟨2, ![4096, 8192]⟩
abbrev S4096x8x2x512 : Shape := ⟨4, ![4096, 8, 2, 512]⟩
abbrev S4096x2x8x512 : Shape := ⟨4, ![4096, 2, 8, 512]⟩
abbrev S4096x12288 : Shape := ⟨2, ![4096, 12288]⟩
abbrev S20480x4096 : Shape := ⟨2, ![20480, 4096]⟩
abbrev S2048x20480 : Shape := ⟨2, ![2048, 20480]⟩
abbrev S2048x4x2x5x512 : Shape := ⟨5, ![2048, 4, 2, 5, 512]⟩
abbrev S2x4x5x2048x512 : Shape := ⟨5, ![2, 4, 5, 2048, 512]⟩
abbrev S2x4x10240x512 : Shape := ⟨4, ![2, 4, 10240, 512]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x20480, .bf16⟩
  | .hbm, ⟨2, _⟩ => ⟨S_, .f32⟩
  | .hbm, ⟨3, _⟩ => ⟨S4096x20480, .f32⟩
  | .hbm, ⟨4, _⟩ => ⟨S4096x4096, .f32⟩
  | .hbm, ⟨5, _⟩ => ⟨S4096x20480, .f32⟩
  | .hbm, ⟨6, _⟩ => ⟨S4096x8192, .bf16⟩
  | .hbm, ⟨7, _⟩ => ⟨S4096x8x2x512, .bf16⟩
  | .hbm, ⟨8, _⟩ => ⟨S4096x2x8x512, .bf16⟩
  | .hbm, ⟨9, _⟩ => ⟨S4096x8192, .bf16⟩
  | .hbm, ⟨10, _⟩ => ⟨S4096x12288, .bf16⟩
  | .hbm, ⟨11, _⟩ => ⟨S4096x20480, .bf16⟩
  | .hbm, ⟨12, _⟩ => ⟨S4096x20480, .f32⟩
  | .hbm, ⟨13, _⟩ => ⟨S20480x4096, .f32⟩
  | .hbm, ⟨14, _⟩ => ⟨S4096x20480, .f32⟩
  | .hbm, ⟨15, _⟩ => ⟨S4096x20480, .bf16⟩
  | .hbm, ⟨16, _⟩ => ⟨S2048x20480, .bf16⟩
  | .hbm, ⟨17, _⟩ => ⟨S2048x4x2x5x512, .bf16⟩
  | .hbm, ⟨18, _⟩ => ⟨S2x4x5x2048x512, .bf16⟩
  | .hbm, ⟨19, _⟩ => ⟨S2x4x10240x512, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== KernelDwHi.lean ====
abbrev S4096x4096 : Shape := ⟨2, ![4096, 4096]⟩
abbrev S4096x20480 : Shape := ⟨2, ![4096, 20480]⟩
abbrev S2x4x10240x512 : Shape := ⟨4, ![2, 4, 10240, 512]⟩
abbrev S4096x1024 : Shape := ⟨2, ![4096, 1024]⟩
abbrev S4096x512 : Shape := ⟨2, ![4096, 512]⟩
abbrev S1x1x1024x512 : Shape := ⟨4, ![1, 1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x20480, .bf16⟩
  | .hbm, ⟨2, _⟩ => ⟨S2x4x10240x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1x1024x512, .bf16⟩
  | .local _ .vmem, ⟨5, _⟩ => ⟨S1x1x1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 40], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c24_i32_0 : BitVec 32 := 24#32
  let v1 : BitVec 1 := Scalar.cmpi .slt arg1 c24_i32_0
  let c8_i32 : BitVec 32 := 8#32
  let v2 : BitVec 1 := Scalar.cmpi .slt v0 c8_i32
  let c2_i32 : BitVec 32 := 2#32
  let v3 : BitVec 32 := Scalar.muli c2_i32 v0
  let c24_i32_1 : BitVec 32 := 24#32
  let v4 : BitVec 32 := Scalar.addi c24_i32_1 v3
  let c8_i32_2 : BitVec 32 := 8#32
  let v5 : BitVec 32 := Scalar.subi v0 c8_i32_2
  let c2_i32_3 : BitVec 32 := 2#32
  let v6 : BitVec 32 := Scalar.muli c2_i32_3 v5
  let c24_i32_4 : BitVec 32 := 24#32
  let v7 : BitVec 32 := Scalar.addi c24_i32_4 v6
  let c1_i32 : BitVec 32 := 1#32
  let v8 : BitVec 32 := Scalar.addi v7 c1_i32
  let v9 : BitVec 32 := Scalar.select v2 v4 v8
  let v10 : BitVec 32 := Scalar.select v1 arg1 v9
  let c0_i32 : BitVec 32 := 0#32
  let c0_i32_5 : BitVec 32 := 0#32
  ![c0_i32.toNat, v10.toNat]

def cc0_transform_2 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let v17 : BitVec 1 := Scalar.cmpi .eq c2_i32 c0_i32_4
  let c1_i32_5 : BitVec 32 := 1#32
  let v18 : BitVec 32 := Scalar.select v17 c1_i32_5 c2_i32
  let v19 : BitVec 32 := Scalar.remsi v16 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c5_i32_9 : BitVec 32 := 5#32
  let v27 : BitVec 32 := Scalar.divsi arg1 c5_i32_9
  let c0_i32_10 : BitVec 32 := 0#32
  let v28 : BitVec 1 := Scalar.cmpi .sgt arg1 c0_i32_10
  let v29 : BitVec 32 := Scalar.extui v28
  let c0_i32_11 : BitVec 32 := 0#32
  let v30 : BitVec 1 := Scalar.cmpi .slt arg1 c0_i32_11
  let v31 : BitVec 32 := Scalar.extui v30
  let v32 : BitVec 32 := Scalar.subi v29 v31
  let c0_i32_12 : BitVec 32 := 0#32
  let v33 : BitVec 1 := Scalar.cmpi .sgt c5_i32_9 c0_i32_12
  let v34 : BitVec 32 := Scalar.extui v33
  let c0_i32_13 : BitVec 32 := 0#32
  let v35 : BitVec 1 := Scalar.cmpi .slt c5_i32_9 c0_i32_13
  let v36 : BitVec 32 := Scalar.extui v35
  let v37 : BitVec 32 := Scalar.subi v34 v36
  let v38 : BitVec 1 := Scalar.cmpi .ne v32 v37
  let v39 : BitVec 32 := Scalar.remsi arg1 c5_i32_9
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c2_i32_16 : BitVec 32 := 2#32
  let v44 : BitVec 32 := Scalar.divsi v43 c2_i32_16
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c0_i32_19 : BitVec 32 := 0#32
  let v50 : BitVec 1 := Scalar.cmpi .sgt c2_i32_16 c0_i32_19
  let v51 : BitVec 32 := Scalar.extui v50
  let c0_i32_20 : BitVec 32 := 0#32
  let v52 : BitVec 1 := Scalar.cmpi .slt c2_i32_16 c0_i32_20
  let v53 : BitVec 32 := Scalar.extui v52
  let v54 : BitVec 32 := Scalar.subi v51 v53
  let v55 : BitVec 1 := Scalar.cmpi .ne v49 v54
  let v56 : BitVec 32 := Scalar.remsi v43 c2_i32_16
  let c0_i32_21 : BitVec 32 := 0#32
  let v57 : BitVec 1 := Scalar.cmpi .ne v56 c0_i32_21
  let v58 : BitVec 1 := Scalar.andi v55 v57
  let c1_i32_22 : BitVec 32 := 1#32
  let v59 : BitVec 32 := Scalar.subi v44 c1_i32_22
  let v60 : BitVec 32 := Scalar.select v58 v59 v44
  let c5_i32_23 : BitVec 32 := 5#32
  let c0_i32_24 : BitVec 32 := 0#32
  let v61 : BitVec 1 := Scalar.cmpi .eq c5_i32_23 c0_i32_24
  let c1_i32_25 : BitVec 32 := 1#32
  let v62 : BitVec 32 := Scalar.select v61 c1_i32_25 c5_i32_23
  let v63 : BitVec 32 := Scalar.remsi arg1 v62
  let c0_i32_26 : BitVec 32 := 0#32
  let v64 : BitVec 1 := Scalar.cmpi .ne v63 c0_i32_26
  let c0_i32_27 : BitVec 32 := 0#32
  let v65 : BitVec 1 := Scalar.cmpi .slt v63 c0_i32_27
  let c0_i32_28 : BitVec 32 := 0#32
  let v66 : BitVec 1 := Scalar.cmpi .slt v62 c0_i32_28
  let v67 : BitVec 1 := Scalar.xori v65 v66
  let v68 : BitVec 1 := Scalar.andi v67 v64
  let v69 : BitVec 32 := Scalar.addi v63 v62
  let v70 : BitVec 32 := Scalar.select v68 v69 v63
  let c2_i32_29 : BitVec 32 := 2#32
  let v71 : BitVec 32 := Scalar.muli v70 c2_i32_29
  let v72 : BitVec 32 := Scalar.addi v71 arg0
  let c0_i32_30 : BitVec 32 := 0#32
  let c0_i32_31 : BitVec 32 := 0#32
  ![v26.toNat, v60.toNat, v72.toNat, c0_i32_30.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwHiIdeal.lean ====
abbrev S4096x4096 : Shape := ⟨2, ![4096, 4096]⟩
abbrev S4096x20480 : Shape := ⟨2, ![4096, 20480]⟩
abbrev S_ : Shape := ⟨0, ![]⟩
abbrev S4096x8192 : Shape := ⟨2, ![4096, 8192]⟩
abbrev S4096x8x2x512 : Shape := ⟨4, ![4096, 8, 2, 512]⟩
abbrev S4096x2x8x512 : Shape := ⟨4, ![4096, 2, 8, 512]⟩
abbrev S4096x12288 : Shape := ⟨2, ![4096, 12288]⟩
abbrev S20480x4096 : Shape := ⟨2, ![20480, 4096]⟩
abbrev S2048x20480 : Shape := ⟨2, ![2048, 20480]⟩
abbrev S2048x4x2x5x512 : Shape := ⟨5, ![2048, 4, 2, 5, 512]⟩
abbrev S2x4x5x2048x512 : Shape := ⟨5, ![2, 4, 5, 2048, 512]⟩
abbrev S2x4x10240x512 : Shape := ⟨4, ![2, 4, 10240, 512]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x20480, .bf16⟩
  | .hbm, ⟨2, _⟩ => ⟨S_, .f32⟩
  | .hbm, ⟨3, _⟩ => ⟨S4096x20480, .f32⟩
  | .hbm, ⟨4, _⟩ => ⟨S4096x4096, .f32⟩
  | .hbm, ⟨5, _⟩ => ⟨S4096x20480, .f32⟩
  | .hbm, ⟨6, _⟩ => ⟨S4096x8192, .bf16⟩
  | .hbm, ⟨7, _⟩ => ⟨S4096x8x2x512, .bf16⟩
  | .hbm, ⟨8, _⟩ => ⟨S4096x2x8x512, .bf16⟩
  | .hbm, ⟨9, _⟩ => ⟨S4096x8192, .bf16⟩
  | .hbm, ⟨10, _⟩ => ⟨S4096x12288, .bf16⟩
  | .hbm, ⟨11, _⟩ => ⟨S4096x20480, .bf16⟩
  | .hbm, ⟨12, _⟩ => ⟨S4096x20480, .f32⟩
  | .hbm, ⟨13, _⟩ => ⟨S20480x4096, .f32⟩
  | .hbm, ⟨14, _⟩ => ⟨S4096x20480, .f32⟩
  | .hbm, ⟨15, _⟩ => ⟨S4096x20480, .bf16⟩
  | .hbm, ⟨16, _⟩ => ⟨S2048x20480, .bf16⟩
  | .hbm, ⟨17, _⟩ => ⟨S2048x4x2x5x512, .bf16⟩
  | .hbm, ⟨18, _⟩ => ⟨S2x4x5x2048x512, .bf16⟩
  | .hbm, ⟨19, _⟩ => ⟨S2x4x10240x512, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== KernelDhRest.lean ====
abbrev S4096x20480 : Shape := ⟨2, ![4096, 20480]⟩
abbrev S8x4096x512 : Shape := ⟨3, ![8, 4096, 512]⟩
abbrev S4096x4096 : Shape := ⟨2, ![4096, 4096]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 8
  | .vmem => 23
  | .smem => 0
  | _ => 0

abbrev bufTy : (tb : Table) → Fin (tcTables nBuf tb) → BufTy
  | .hbm, ⟨0, _⟩ => ⟨S4096x20480, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S8x4096x512, .bf16⟩
  | .hbm, ⟨6, _⟩ => ⟨S4096x4096, .f32⟩
  | .hbm, ⟨7, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S4096x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_31 : BitVec 32 := 0#32
  let v32 : BitVec 1 := Scalar.cmpi .ne v31 c0_i32_31
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c5_i32 : BitVec 32 := 5#32
  let v1 : BitVec 32 := Scalar.muli c5_i32 arg2
  let c0_i32 : BitVec 32 := 0#32
  let v2 : BitVec 32 := Scalar.addi v1 c0_i32
  let c24_i32 : BitVec 32 := 24#32
  let v3 : BitVec 32 := Scalar.subi v2 c24_i32
  let c24_i32_0 : BitVec 32 := 24#32
  let v4 : BitVec 1 := Scalar.cmpi .slt v2 c24_i32_0
  let c8_i32 : BitVec 32 := 8#32
  let v5 : BitVec 1 := Scalar.cmpi .slt v3 c8_i32
  let c2_i32_1 : BitVec 32 := 2#32
  let v6 : BitVec 32 := Scalar.muli c2_i32_1 v3
  let c24_i32_2 : BitVec 32 := 24#32
  let v7 : BitVec 32 := Scalar.addi c24_i32_2 v6
  let c8_i32_3 : BitVec 32 := 8#32
  let v8 : BitVec 32 := Scalar.subi v3 c8_i32_3
  let c2_i32_4 : BitVec 32 := 2#32
  let v9 : BitVec 32 := Scalar.muli c2_i32_4 v8
  let c24_i32_5 : BitVec 32 := 24#32
  let v10 : BitVec 32 := Scalar.addi c24_i32_5 v9
  let c1_i32 : BitVec 32 := 1#32
  let v11 : BitVec 32 := Scalar.addi v10 c1_i32
  let v12 : BitVec 32 := Scalar.select v5 v7 v11
  let v13 : BitVec 32 := Scalar.select v4 v2 v12
  let c0_i32_6 : BitVec 32 := 0#32
  ![v0.toNat, v13.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c5_i32 : BitVec 32 := 5#32
  let v1 : BitVec 32 := Scalar.muli c5_i32 arg2
  let c1_i32 : BitVec 32 := 1#32
  let v2 : BitVec 32 := Scalar.addi v1 c1_i32
  let c24_i32 : BitVec 32 := 24#32
  let v3 : BitVec 32 := Scalar.subi v2 c24_i32
  let c24_i32_0 : BitVec 32 := 24#32
  let v4 : BitVec 1 := Scalar.cmpi .slt v2 c24_i32_0
  let c8_i32 : BitVec 32 := 8#32
  let v5 : BitVec 1 := Scalar.cmpi .slt v3 c8_i32
  let c2_i32_1 : BitVec 32 := 2#32
  let v6 : BitVec 32 := Scalar.muli c2_i32_1 v3
  let c24_i32_2 : BitVec 32 := 24#32
  let v7 : BitVec 32 := Scalar.addi c24_i32_2 v6
  let c8_i32_3 : BitVec 32 := 8#32
  let v8 : BitVec 32 := Scalar.subi v3 c8_i32_3
  let c2_i32_4 : BitVec 32 := 2#32
  let v9 : BitVec 32 := Scalar.muli c2_i32_4 v8
  let c24_i32_5 : BitVec 32 := 24#32
  let v10 : BitVec 32 := Scalar.addi c24_i32_5 v9
  let c1_i32_6 : BitVec 32 := 1#32
  let v11 : BitVec 32 := Scalar.addi v10 c1_i32_6
  let v12 : BitVec 32 := Scalar.select v5 v7 v11
  let v13 : BitVec 32 := Scalar.select v4 v2 v12
  let c0_i32 : BitVec 32 := 0#32
  ![v0.toNat, v13.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c5_i32 : BitVec 32 := 5#32
  let v1 : BitVec 32 := Scalar.muli c5_i32 arg2
  let c2_i32_0 : BitVec 32 := 2#32
  let v2 : BitVec 32 := Scalar.addi v1 c2_i32_0
  let c24_i32 : BitVec 32 := 24#32
  let v3 : BitVec 32 := Scalar.subi v2 c24_i32
  let c24_i32_1 : BitVec 32 := 24#32
  let v4 : BitVec 1 := Scalar.cmpi .slt v2 c24_i32_1
  let c8_i32 : BitVec 32 := 8#32
  let v5 : BitVec 1 := Scalar.cmpi .slt v3 c8_i32
  let c2_i32_2 : BitVec 32 := 2#32
  let v6 : BitVec 32 := Scalar.muli c2_i32_2 v3
  let c24_i32_3 : BitVec 32 := 24#32
  let v7 : BitVec 32 := Scalar.addi c24_i32_3 v6
  let c8_i32_4 : BitVec 32 := 8#32
  let v8 : BitVec 32 := Scalar.subi v3 c8_i32_4
  let c2_i32_5 : BitVec 32 := 2#32
  let v9 : BitVec 32 := Scalar.muli c2_i32_5 v8
  let c24_i32_6 : BitVec 32 := 24#32
  let v10 : BitVec 32 := Scalar.addi c24_i32_6 v9
  let c1_i32 : BitVec 32 := 1#32
  let v11 : BitVec 32 := Scalar.addi v10 c1_i32
  let v12 : BitVec 32 := Scalar.select v5 v7 v11
  let v13 : BitVec 32 := Scalar.select v4 v2 v12
  let c0_i32 : BitVec 32 := 0#32
  ![v0.toNat, v13.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c5_i32 : BitVec 32 := 5#32
  let v1 : BitVec 32 := Scalar.muli c5_i32 arg2
  let c3_i32 : BitVec 32 := 3#32
  let v2 : BitVec 32 := Scalar.addi v1 c3_i32
  let c24_i32 : BitVec 32 := 24#32
  let v3 : BitVec 32 := Scalar.subi v2 c24_i32
  let c24_i32_0 : BitVec 32 := 24#32
  let v4 : BitVec 1 := Scalar.cmpi .slt v2 c24_i32_0
  let c8_i32 : BitVec 32 := 8#32
  let v5 : BitVec 1 := Scalar.cmpi .slt v3 c8_i32
  let c2_i32_1 : BitVec 32 := 2#32
  let v6 : BitVec 32 := Scalar.muli c2_i32_1 v3
  let c24_i32_2 : BitVec 32 := 24#32
  let v7 : BitVec 32 := Scalar.addi c24_i32_2 v6
  let c8_i32_3 : BitVec 32 := 8#32
  let v8 : BitVec 32 := Scalar.subi v3 c8_i32_3
  let c2_i32_4 : BitVec 32 := 2#32
  let v9 : BitVec 32 := Scalar.muli c2_i32_4 v8
  let c24_i32_5 : BitVec 32 := 24#32
  let v10 : BitVec 32 := Scalar.addi c24_i32_5 v9
  let c1_i32 : BitVec 32 := 1#32
  let v11 : BitVec 32 := Scalar.addi v10 c1_i32
  let v12 : BitVec 32 := Scalar.select v5 v7 v11
  let v13 : BitVec 32 := Scalar.select v4 v2 v12
  let c0_i32 : BitVec 32 := 0#32
  ![v0.toNat, v13.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c5_i32 : BitVec 32 := 5#32
  let v1 : BitVec 32 := Scalar.muli c5_i32 arg2
  let c4_i32 : BitVec 32 := 4#32
  let v2 : BitVec 32 := Scalar.addi v1 c4_i32
  let c24_i32 : BitVec 32 := 24#32
  let v3 : BitVec 32 := Scalar.subi v2 c24_i32
  let c24_i32_0 : BitVec 32 := 24#32
  let v4 : BitVec 1 := Scalar.cmpi .slt v2 c24_i32_0
  let c8_i32 : BitVec 32 := 8#32
  let v5 : BitVec 1 := Scalar.cmpi .slt v3 c8_i32
  let c2_i32_1 : BitVec 32 := 2#32
  let v6 : BitVec 32 := Scalar.muli c2_i32_1 v3
  let c24_i32_2 : BitVec 32 := 24#32
  let v7 : BitVec 32 := Scalar.addi c24_i32_2 v6
  let c8_i32_3 : BitVec 32 := 8#32
  let v8 : BitVec 32 := Scalar.subi v3 c8_i32_3
  let c2_i32_4 : BitVec 32 := 2#32
  let v9 : BitVec 32 := Scalar.muli c2_i32_4 v8
  let c24_i32_5 : BitVec 32 := 24#32
  let v10 : BitVec 32 := Scalar.addi c24_i32_5 v9
  let c1_i32 : BitVec 32 := 1#32
  let v11 : BitVec 32 := Scalar.addi v10 c1_i32
  let v12 : BitVec 32 := Scalar.select v5 v7 v11
  let v13 : BitVec 32 := Scalar.select v4 v2 v12
  let c0_i32 : BitVec 32 := 0#32
  ![v0.toNat, v13.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceDhRestIdeal.lean ====
abbrev S4096x20480 : Shape := ⟨2, ![4096, 20480]⟩
abbrev S8x4096x512 : Shape := ⟨3, ![8, 4096, 512]⟩
abbrev S4096x4096 : Shape := ⟨2, ![4096, 4096]⟩
abbrev S8x4096x2560 : Shape := ⟨3, ![8, 4096, 2560]⟩
abbrev S4096x8x2560 : Shape := ⟨3, ![4096, 8, 2560]⟩
abbrev S_ : Shape := ⟨0, ![]⟩
abbrev S4096x8192 : Shape := ⟨2, ![4096, 8192]⟩
abbrev S4096x8x2x512 : Shape := ⟨4, ![4096, 8, 2, 512]⟩
abbrev S4096x2x8x512 : Shape := ⟨4, ![4096, 2, 8, 512]⟩
abbrev S4096x12288 : Shape := ⟨2, ![4096, 12288]⟩
abbrev S2048x4096 : Shape := ⟨2, ![2048, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x20480, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S8x4096x512, .bf16⟩
  | .hbm, ⟨6, _⟩ => ⟨S4096x4096, .f32⟩
  | .hbm, ⟨7, _⟩ => ⟨S8x4096x2560, .bf16⟩
  | .hbm, ⟨8, _⟩ => ⟨S4096x8x2560, .bf16⟩
  | .hbm, ⟨9, _⟩ => ⟨S4096x20480, .bf16⟩
  | .hbm, ⟨10, _⟩ => ⟨S4096x20480, .f32⟩
  | .hbm, ⟨11, _⟩ => ⟨S_, .f32⟩
  | .hbm, ⟨12, _⟩ => ⟨S4096x4096, .f32⟩
  | .hbm, ⟨13, _⟩ => ⟨S4096x20480, .f32⟩
  | .hbm, ⟨14, _⟩ => ⟨S4096x8192, .bf16⟩
  | .hbm, ⟨15, _⟩ => ⟨S4096x8x2x512, .bf16⟩
  | .hbm, ⟨16, _⟩ => ⟨S4096x2x8x512, .bf16⟩
  | .hbm, ⟨17, _⟩ => ⟨S4096x8192, .bf16⟩
  | .hbm, ⟨18, _⟩ => ⟨S4096x12288, .bf16⟩
  | .hbm, ⟨19, _⟩ => ⟨S4096x20480, .bf16⟩
  | .hbm, ⟨20, _⟩ => ⟨S4096x20480, .f32⟩
  | .hbm, ⟨21, _⟩ => ⟨S4096x4096, .f32⟩
  | .hbm, ⟨22, _⟩ => ⟨S2048x4096, .f32⟩
  | .hbm, ⟨23, _⟩ => ⟨S2048x4096, .f32⟩
  | .hbm, ⟨24, _⟩ => ⟨S4096x4096, .f32⟩
  | _, _ => ⟨S4096x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== KernelDhHead.lean ====
abbrev S4096x20480 : Shape := ⟨2, ![4096, 20480]⟩
abbrev S8x4096x512 : Shape := ⟨3, ![8, 4096, 512]⟩
abbrev S4096x4096 : Shape := ⟨2, ![4096, 4096]⟩
abbrev S1024x512 : Shape := ⟨2, ![1024, 512]⟩
abbrev S1x1024x512 : Shape := ⟨3, ![1, 1024, 512]⟩
abbrev S1024x1024 : Shape := ⟨2, ![1024, 1024]⟩
abbrev S2048x4096 : Shape := ⟨2, ![2048, 4096]⟩

abbrev nBuf : Space → Nat
  | .hbm => 8
  | .vmem => 23
  | .smem => 0
  | _ => 0

abbrev bufTy : (tb : Table) → Fin (tcTables nBuf tb) → BufTy
  | .hbm, ⟨0, _⟩ => ⟨S4096x20480, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S8x4096x512, .bf16⟩
  | .hbm, ⟨6, _⟩ => ⟨S4096x4096, .f32⟩
  | .hbm, ⟨7, _⟩ => ⟨S2048x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S4096x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_31 : BitVec 32 := 0#32
  let v32 : BitVec 1 := Scalar.cmpi .ne v31 c0_i32_31
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c5_i32 : BitVec 32 := 5#32
  let v1 : BitVec 32 := Scalar.muli c5_i32 arg2
  let c0_i32_0 : BitVec 32 := 0#32
  let v2 : BitVec 32 := Scalar.addi v1 c0_i32_0
  let c24_i32 : BitVec 32 := 24#32
  let v3 : BitVec 32 := Scalar.subi v2 c24_i32
  let c24_i32_1 : BitVec 32 := 24#32
  let v4 : BitVec 1 := Scalar.cmpi .slt v2 c24_i32_1
  let c8_i32 : BitVec 32 := 8#32
  let v5 : BitVec 1 := Scalar.cmpi .slt v3 c8_i32
  let c2_i32 : BitVec 32 := 2#32
  let v6 : BitVec 32 := Scalar.muli c2_i32 v3
  let c24_i32_2 : BitVec 32 := 24#32
  let v7 : BitVec 32 := Scalar.addi c24_i32_2 v6
  let c8_i32_3 : BitVec 32 := 8#32
  let v8 : BitVec 32 := Scalar.subi v3 c8_i32_3
  let c2_i32_4 : BitVec 32 := 2#32
  let v9 : BitVec 32 := Scalar.muli c2_i32_4 v8
  let c24_i32_5 : BitVec 32 := 24#32
  let v10 : BitVec 32 := Scalar.addi c24_i32_5 v9
  let c1_i32 : BitVec 32 := 1#32
  let v11 : BitVec 32 := Scalar.addi v10 c1_i32
  let v12 : BitVec 32 := Scalar.select v5 v7 v11
  let v13 : BitVec 32 := Scalar.select v4 v2 v12
  let c0_i32_6 : BitVec 32 := 0#32
  ![v0.toNat, v13.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c5_i32 : BitVec 32 := 5#32
  let v1 : BitVec 32 := Scalar.muli c5_i32 arg2
  let c1_i32 : BitVec 32 := 1#32
  let v2 : BitVec 32 := Scalar.addi v1 c1_i32
  let c24_i32 : BitVec 32 := 24#32
  let v3 : BitVec 32 := Scalar.subi v2 c24_i32
  let c24_i32_0 : BitVec 32 := 24#32
  let v4 : BitVec 1 := Scalar.cmpi .slt v2 c24_i32_0
  let c8_i32 : BitVec 32 := 8#32
  let v5 : BitVec 1 := Scalar.cmpi .slt v3 c8_i32
  let c2_i32 : BitVec 32 := 2#32
  let v6 : BitVec 32 := Scalar.muli c2_i32 v3
  let c24_i32_1 : BitVec 32 := 24#32
  let v7 : BitVec 32 := Scalar.addi c24_i32_1 v6
  let c8_i32_2 : BitVec 32 := 8#32
  let v8 : BitVec 32 := Scalar.subi v3 c8_i32_2
  let c2_i32_3 : BitVec 32 := 2#32
  let v9 : BitVec 32 := Scalar.muli c2_i32_3 v8
  let c24_i32_4 : BitVec 32 := 24#32
  let v10 : BitVec 32 := Scalar.addi c24_i32_4 v9
  let c1_i32_5 : BitVec 32 := 1#32
  let v11 : BitVec 32 := Scalar.addi v10 c1_i32_5
  let v12 : BitVec 32 := Scalar.select v5 v7 v11
  let v13 : BitVec 32 := Scalar.select v4 v2 v12
  let c0_i32_6 : BitVec 32 := 0#32
  ![v0.toNat, v13.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c5_i32 : BitVec 32 := 5#32
  let v1 : BitVec 32 := Scalar.muli c5_i32 arg2
  let c2_i32 : BitVec 32 := 2#32
  let v2 : BitVec 32 := Scalar.addi v1 c2_i32
  let c24_i32 : BitVec 32 := 24#32
  let v3 : BitVec 32 := Scalar.subi v2 c24_i32
  let c24_i32_0 : BitVec 32 := 24#32
  let v4 : BitVec 1 := Scalar.cmpi .slt v2 c24_i32_0
  let c8_i32 : BitVec 32 := 8#32
  let v5 : BitVec 1 := Scalar.cmpi .slt v3 c8_i32
  let c2_i32_1 : BitVec 32 := 2#32
  let v6 : BitVec 32 := Scalar.muli c2_i32_1 v3
  let c24_i32_2 : BitVec 32 := 24#32
  let v7 : BitVec 32 := Scalar.addi c24_i32_2 v6
  let c8_i32_3 : BitVec 32 := 8#32
  let v8 : BitVec 32 := Scalar.subi v3 c8_i32_3
  let c2_i32_4 : BitVec 32 := 2#32
  let v9 : BitVec 32 := Scalar.muli c2_i32_4 v8
  let c24_i32_5 : BitVec 32 := 24#32
  let v10 : BitVec 32 := Scalar.addi c24_i32_5 v9
  let c1_i32 : BitVec 32 := 1#32
  let v11 : BitVec 32 := Scalar.addi v10 c1_i32
  let v12 : BitVec 32 := Scalar.select v5 v7 v11
  let v13 : BitVec 32 := Scalar.select v4 v2 v12
  let c0_i32_6 : BitVec 32 := 0#32
  ![v0.toNat, v13.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c5_i32 : BitVec 32 := 5#32
  let v1 : BitVec 32 := Scalar.muli c5_i32 arg2
  let c3_i32 : BitVec 32 := 3#32
  let v2 : BitVec 32 := Scalar.addi v1 c3_i32
  let c24_i32 : BitVec 32 := 24#32
  let v3 : BitVec 32 := Scalar.subi v2 c24_i32
  let c24_i32_0 : BitVec 32 := 24#32
  let v4 : BitVec 1 := Scalar.cmpi .slt v2 c24_i32_0
  let c8_i32 : BitVec 32 := 8#32
  let v5 : BitVec 1 := Scalar.cmpi .slt v3 c8_i32
  let c2_i32 : BitVec 32 := 2#32
  let v6 : BitVec 32 := Scalar.muli c2_i32 v3
  let c24_i32_1 : BitVec 32 := 24#32
  let v7 : BitVec 32 := Scalar.addi c24_i32_1 v6
  let c8_i32_2 : BitVec 32 := 8#32
  let v8 : BitVec 32 := Scalar.subi v3 c8_i32_2
  let c2_i32_3 : BitVec 32 := 2#32
  let v9 : BitVec 32 := Scalar.muli c2_i32_3 v8
  let c24_i32_4 : BitVec 32 := 24#32
  let v10 : BitVec 32 := Scalar.addi c24_i32_4 v9
  let c1_i32 : BitVec 32 := 1#32
  let v11 : BitVec 32 := Scalar.addi v10 c1_i32
  let v12 : BitVec 32 := Scalar.select v5 v7 v11
  let v13 : BitVec 32 := Scalar.select v4 v2 v12
  let c0_i32_5 : BitVec 32 := 0#32
  ![v0.toNat, v13.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c5_i32 : BitVec 32 := 5#32
  let v1 : BitVec 32 := Scalar.muli c5_i32 arg2
  let c4_i32 : BitVec 32 := 4#32
  let v2 : BitVec 32 := Scalar.addi v1 c4_i32
  let c24_i32 : BitVec 32 := 24#32
  let v3 : BitVec 32 := Scalar.subi v2 c24_i32
  let c24_i32_0 : BitVec 32 := 24#32
  let v4 : BitVec 1 := Scalar.cmpi .slt v2 c24_i32_0
  let c8_i32 : BitVec 32 := 8#32
  let v5 : BitVec 1 := Scalar.cmpi .slt v3 c8_i32
  let c2_i32 : BitVec 32 := 2#32
  let v6 : BitVec 32 := Scalar.muli c2_i32 v3
  let c24_i32_1 : BitVec 32 := 24#32
  let v7 : BitVec 32 := Scalar.addi c24_i32_1 v6
  let c8_i32_2 : BitVec 32 := 8#32
  let v8 : BitVec 32 := Scalar.subi v3 c8_i32_2
  let c2_i32_3 : BitVec 32 := 2#32
  let v9 : BitVec 32 := Scalar.muli c2_i32_3 v8
  let c24_i32_4 : BitVec 32 := 24#32
  let v10 : BitVec 32 := Scalar.addi c24_i32_4 v9
  let c1_i32 : BitVec 32 := 1#32
  let v11 : BitVec 32 := Scalar.addi v10 c1_i32
  let v12 : BitVec 32 := Scalar.select v5 v7 v11
  let v13 : BitVec 32 := Scalar.select v4 v2 v12
  let c0_i32_5 : BitVec 32 := 0#32
  ![v0.toNat, v13.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceDhHeadIdeal.lean ====
abbrev S4096x20480 : Shape := ⟨2, ![4096, 20480]⟩
abbrev S8x4096x512 : Shape := ⟨3, ![8, 4096, 512]⟩
abbrev S8x4096x2560 : Shape := ⟨3, ![8, 4096, 2560]⟩
abbrev S4096x8x2560 : Shape := ⟨3, ![4096, 8, 2560]⟩
abbrev S_ : Shape := ⟨0, ![]⟩
abbrev S4096x4096 : Shape := ⟨2, ![4096, 4096]⟩
abbrev S4096x8192 : Shape := ⟨2, ![4096, 8192]⟩
abbrev S4096x8x2x512 : Shape := ⟨4, ![4096, 8, 2, 512]⟩
abbrev S4096x2x8x512 : Shape := ⟨4, ![4096, 2, 8, 512]⟩
abbrev S4096x12288 : Shape := ⟨2, ![4096, 12288]⟩
abbrev S2048x4096 : Shape := ⟨2, ![2048, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x20480, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S8x4096x512, .bf16⟩
  | .hbm, ⟨6, _⟩ => ⟨S8x4096x2560, .bf16⟩
  | .hbm, ⟨7, _⟩ => ⟨S4096x8x2560, .bf16⟩
  | .hbm, ⟨8, _⟩ => ⟨S4096x20480, .bf16⟩
  | .hbm, ⟨9, _⟩ => ⟨S4096x20480, .f32⟩
  | .hbm, ⟨10, _⟩ => ⟨S_, .f32⟩
  | .hbm, ⟨11, _⟩ => ⟨S4096x4096, .f32⟩
  | .hbm, ⟨12, _⟩ => ⟨S4096x20480, .f32⟩
  | .hbm, ⟨13, _⟩ => ⟨S4096x8192, .bf16⟩
  | .hbm, ⟨14, _⟩ => ⟨S4096x8x2x512, .bf16⟩
  | .hbm, ⟨15, _⟩ => ⟨S4096x2x8x512, .bf16⟩
  | .hbm, ⟨16, _⟩ => ⟨S4096x8192, .bf16⟩
  | .hbm, ⟨17, _⟩ => ⟨S4096x12288, .bf16⟩
  | .hbm, ⟨18, _⟩ => ⟨S4096x20480, .bf16⟩
  | .hbm, ⟨19, _⟩ => ⟨S4096x20480, .f32⟩
  | .hbm, ⟨20, _⟩ => ⟨S4096x4096, .f32⟩
  | .hbm, ⟨21, _⟩ => ⟨S2048x4096, .f32⟩
  | _, _ => ⟨S4096x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== KernelDwOut.lean ====
abbrev S4096x4096 : Shape := ⟨2, ![4096, 4096]⟩
abbrev S2x4x8704x512 : Shape := ⟨4, ![2, 4, 8704, 512]⟩
abbrev S4096x1024 : Shape := ⟨2, ![4096, 1024]⟩
abbrev S4096x512 : Shape := ⟨2, ![4096, 512]⟩
abbrev S2x1x512x512 : Shape := ⟨4, ![2, 1, 512, 512]⟩
abbrev S1024x512 : Shape := ⟨2, ![1024, 512]⟩
abbrev S512x512 : Shape := ⟨2, ![512, 512]⟩
abbrev S1x1x512x512 : Shape := ⟨4, ![1, 1, 512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S2x4x8704x512, .bf16⟩
  | .hbm, ⟨3, _⟩ => ⟨S2x4x8704x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S2x1x512x512, .bf16⟩
  | .local _ .vmem, ⟨5, _⟩ => ⟨S2x1x512x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, arg0.toNat, v0.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwOutIdeal.lean ====
abbrev S4096x4096 : Shape := ⟨2, ![4096, 4096]⟩
abbrev S2x4x8704x512 : Shape := ⟨4, ![2, 4, 8704, 512]⟩
abbrev S_ : Shape := ⟨0, ![]⟩
abbrev S4x2x512x8x512 : Shape := ⟨5, ![4, 2, 512, 8, 512]⟩
abbrev S2x4x8x512x512 : Shape := ⟨5, ![2, 4, 8, 512, 512]⟩
abbrev S2x4x4096x512 : Shape := ⟨4, ![2, 4, 4096, 512]⟩
abbrev S2x4x512x512 : Shape := ⟨4, ![2, 4, 512, 512]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S2x4x8704x512, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4x2x512x8x512, .bf16⟩
  | .hbm, ⟨12, _⟩ => ⟨S2x4x8x512x512, .bf16⟩
  | .hbm, ⟨13, _⟩ => ⟨S2x4x4096x512, .bf16⟩
  | .hbm, ⟨14, _⟩ => ⟨S2x4x4096x512, .bf16⟩
  | .hbm, ⟨15, _⟩ => ⟨S2x4x512x512, .bf16⟩
  | .hbm, ⟨16, _⟩ => ⟨S2x4x8704x512, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== KernelDwOutAttn.lean ====
abbrev S4096x2048 : Shape := ⟨2, ![4096, 2048]⟩
abbrev S4096x4096 : Shape := ⟨2, ![4096, 4096]⟩
abbrev S2x4x8704x512 : Shape := ⟨4, ![2, 4, 8704, 512]⟩
abbrev S4096x1024 : Shape := ⟨2, ![4096, 1024]⟩
abbrev S4096x512 : Shape := ⟨2, ![4096, 512]⟩
abbrev S1x1x1024x512 : Shape := ⟨4, ![1, 1, 1024, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2x4x8704x512, .bf16⟩
  | .hbm, ⟨3, _⟩ => ⟨S2x4x8704x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1x1024x512, .bf16⟩
  | .local _ .vmem, ⟨5, _⟩ => ⟨S1x1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg0.toNat, c0_i32_10.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwOutAttnIdeal.lean ====
abbrev S4096x2048 : Shape := ⟨2, ![4096, 2048]⟩
abbrev S4096x4096 : Shape := ⟨2, ![4096, 4096]⟩
abbrev S2x4x8704x512 : Shape := ⟨4, ![2, 4, 8704, 512]⟩
abbrev S_ : Shape := ⟨0, ![]⟩
abbrev S2048x4096 : Shape := ⟨2, ![2048, 4096]⟩
abbrev S2048x4x2x512 : Shape := ⟨4, ![2048, 4, 2, 512]⟩
abbrev S2x4x2048x512 : Shape := ⟨4, ![2, 4, 2048, 512]⟩
abbrev S2x4x6656x512 : Shape := ⟨4, ![2, 4, 6656, 512]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2x4x8704x512, .bf16⟩
  | .hbm, ⟨3, _⟩ => ⟨S_, .f32⟩
  | .hbm, ⟨4, _⟩ => ⟨S2048x4096, .f32⟩
  | .hbm, ⟨5, _⟩ => ⟨S4096x2048, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S2048x4096, .f32⟩
  | .hbm, ⟨10, _⟩ => ⟨S2048x4096, .bf16⟩
  | .hbm, ⟨11, _⟩ => ⟨S2048x4x2x512, .bf16⟩
  | .hbm, ⟨12, _⟩ => ⟨S2x4x2048x512, .bf16⟩
  | .hbm, ⟨13, _⟩ => ⟨S2x4x6656x512, .bf16⟩
  | .hbm, ⟨14, _⟩ => ⟨S2x4x8704x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KernelDwOutPool.lean ====
abbrev S4096x2048 : Shape := ⟨2, ![4096, 2048]⟩
abbrev S4096x4096 : Shape := ⟨2, ![4096, 4096]⟩
abbrev S2x4x8704x512 : Shape := ⟨4, ![2, 4, 8704, 512]⟩
abbrev S4096x1024 : Shape := ⟨2, ![4096, 1024]⟩
abbrev S4096x512 : Shape := ⟨2, ![4096, 512]⟩
abbrev S1x1x1024x512 : Shape := ⟨4, ![1, 1, 1024, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2x4x8704x512, .bf16⟩
  | .hbm, ⟨3, _⟩ => ⟨S2x4x8704x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1x1024x512, .bf16⟩
  | .local _ .vmem, ⟨5, _⟩ => ⟨S1x1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c2_i32_10 : BitVec 32 := 2#32
  let v27 : BitVec 32 := Scalar.addi c2_i32_10 arg0
  let c0_i32_11 : BitVec 32 := 0#32
  let c0_i32_12 : BitVec 32 := 0#32
  ![v9.toNat, v26.toNat, v27.toNat, c0_i32_11.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwOutPoolIdeal.lean ====
abbrev S4096x2048 : Shape := ⟨2, ![4096, 2048]⟩
abbrev S4096x4096 : Shape := ⟨2, ![4096, 4096]⟩
abbrev S2x4x8704x512 : Shape := ⟨4, ![2, 4, 8704, 512]⟩
abbrev S2x4x2048x512 : Shape := ⟨4, ![2, 4, 2048, 512]⟩
abbrev S_ : Shape := ⟨0, ![]⟩
abbrev S2048x4096 : Shape := ⟨2, ![2048, 4096]⟩
abbrev S2048x4x2x512 : Shape := ⟨4, ![2048, 4, 2, 512]⟩
abbrev S2x4x4608x512 : Shape := ⟨4, ![2, 4, 4608, 512]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2x4x8704x512, .bf16⟩
  | .hbm, ⟨3, _⟩ => ⟨S2x4x2048x512, .bf16⟩
  | .hbm, ⟨4, _⟩ => ⟨S_, .f32⟩
  | .hbm, ⟨5, _⟩ => ⟨S2048x4096, .f32⟩
  | .hbm, ⟨6, _⟩ => ⟨S4096x2048, .f32⟩
  | .hbm, ⟨7, _⟩ => ⟨S4096x4096, .f32⟩
  | .hbm, ⟨8, _⟩ => ⟨S4096x4096, .f32⟩
  | .hbm, ⟨9, _⟩ => ⟨S4096x2048, .f32⟩
  | .hbm, ⟨10, _⟩ => ⟨S2048x4096, .f32⟩
  | .hbm, ⟨11, _⟩ => ⟨S2048x4096, .bf16⟩
  | .hbm, ⟨12, _⟩ => ⟨S2048x4x2x512, .bf16⟩
  | .hbm, ⟨13, _⟩ => ⟨S2x4x2048x512, .bf16⟩
  | .hbm, ⟨14, _⟩ => ⟨S2x4x4608x512, .bf16⟩
  | .hbm, ⟨15, _⟩ => ⟨S2x4x8704x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelProj0.lean ====
abbrev S4096x4096 : Shape := ⟨2, ![4096, 4096]⟩
abbrev S8x4096x512 : Shape := ⟨3, ![8, 4096, 512]⟩
abbrev S4096x20480 : Shape := ⟨2, ![4096, 20480]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 12
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8x4096x512, .bf16⟩
  | .hbm, ⟨2, _⟩ => ⟨S4096x20480, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c0_i32 : BitVec 32 := 0#32
  let v1 : BitVec 32 := Scalar.addi v0 c0_i32
  let c24_i32 : BitVec 32 := 24#32
  let v2 : BitVec 32 := Scalar.subi v1 c24_i32
  let c24_i32_0 : BitVec 32 := 24#32
  let v3 : BitVec 1 := Scalar.cmpi .slt v1 c24_i32_0
  let c8_i32 : BitVec 32 := 8#32
  let v4 : BitVec 1 := Scalar.cmpi .slt v2 c8_i32
  let c2_i32 : BitVec 32 := 2#32
  let v5 : BitVec 32 := Scalar.muli c2_i32 v2
  let c24_i32_1 : BitVec 32 := 24#32
  let v6 : BitVec 32 := Scalar.addi c24_i32_1 v5
  let c8_i32_2 : BitVec 32 := 8#32
  let v7 : BitVec 32 := Scalar.subi v2 c8_i32_2
  let c2_i32_3 : BitVec 32 := 2#32
  let v8 : BitVec 32 := Scalar.muli c2_i32_3 v7
  let c24_i32_4 : BitVec 32 := 24#32
  let v9 : BitVec 32 := Scalar.addi c24_i32_4 v8
  let c1_i32 : BitVec 32 := 1#32
  let v10 : BitVec 32 := Scalar.addi v9 c1_i32
  let v11 : BitVec 32 := Scalar.select v4 v6 v10
  let v12 : BitVec 32 := Scalar.select v3 v1 v11
  let c0_i32_5 : BitVec 32 := 0#32
  ![arg0.toNat, v12.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProj0Ideal.lean ====
abbrev S4096x4096 : Shape := ⟨2, ![4096, 4096]⟩
abbrev S8x4096x512 : Shape := ⟨3, ![8, 4096, 512]⟩
abbrev S4096x8x512 : Shape := ⟨3, ![4096, 8, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x512, .bf16⟩
  | .hbm, ⟨2, _⟩ => ⟨S4096x4096, .f32⟩
  | .hbm, ⟨3, _⟩ => ⟨S8x4096x512, .f32⟩
  | .hbm, ⟨4, _⟩ => ⟨S4096x8x512, .f32⟩
  | .hbm, ⟨5, _⟩ => ⟨S4096x8x512, .bf16⟩
  | .hbm, ⟨6, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelProj1.lean ====
abbrev S4096x4096 : Shape := ⟨2, ![4096, 4096]⟩
abbrev S8x4096x512 : Shape := ⟨3, ![8, 4096, 512]⟩
abbrev S4096x20480 : Shape := ⟨2, ![4096, 20480]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8x4096x512, .bf16⟩
  | .hbm, ⟨2, _⟩ => ⟨S4096x20480, .bf16⟩
  | .hbm, ⟨3, _⟩ => ⟨S4096x20480, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c1_i32 : BitVec 32 := 1#32
  let v1 : BitVec 32 := Scalar.addi v0 c1_i32
  let c24_i32 : BitVec 32 := 24#32
  let v2 : BitVec 32 := Scalar.subi v1 c24_i32
  let c24_i32_0 : BitVec 32 := 24#32
  let v3 : BitVec 1 := Scalar.cmpi .slt v1 c24_i32_0
  let c8_i32 : BitVec 32 := 8#32
  let v4 : BitVec 1 := Scalar.cmpi .slt v2 c8_i32
  let c2_i32 : BitVec 32 := 2#32
  let v5 : BitVec 32 := Scalar.muli c2_i32 v2
  let c24_i32_1 : BitVec 32 := 24#32
  let v6 : BitVec 32 := Scalar.addi c24_i32_1 v5
  let c8_i32_2 : BitVec 32 := 8#32
  let v7 : BitVec 32 := Scalar.subi v2 c8_i32_2
  let c2_i32_3 : BitVec 32 := 2#32
  let v8 : BitVec 32 := Scalar.muli c2_i32_3 v7
  let c24_i32_4 : BitVec 32 := 24#32
  let v9 : BitVec 32 := Scalar.addi c24_i32_4 v8
  let c1_i32_5 : BitVec 32 := 1#32
  let v10 : BitVec 32 := Scalar.addi v9 c1_i32_5
  let v11 : BitVec 32 := Scalar.select v4 v6 v10
  let v12 : BitVec 32 := Scalar.select v3 v1 v11
  let c0_i32 : BitVec 32 := 0#32
  ![arg0.toNat, v12.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProj1Ideal.lean ====
abbrev S4096x4096 : Shape := ⟨2, ![4096, 4096]⟩
abbrev S8x4096x512 : Shape := ⟨3, ![8, 4096, 512]⟩
abbrev S4096x20480 : Shape := ⟨2, ![4096, 20480]⟩
abbrev S4096x8x512 : Shape := ⟨3, ![4096, 8, 512]⟩
abbrev S4096x8192 : Shape := ⟨2, ![4096, 8192]⟩
abbrev S4096x8x2x512 : Shape := ⟨4, ![4096, 8, 2, 512]⟩
abbrev S4096x2x8x512 : Shape := ⟨4, ![4096, 2, 8, 512]⟩
abbrev S4096x12288 : Shape := ⟨2, ![4096, 12288]⟩
abbrev S4096x8x5x512 : Shape := ⟨4, ![4096, 8, 5, 512]⟩
abbrev S4096x8x1x512 : Shape := ⟨4, ![4096, 8, 1, 512]⟩
abbrev S4096x8x3x512 : Shape := ⟨4, ![4096, 8, 3, 512]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x512, .bf16⟩
  | .hbm, ⟨2, _⟩ => ⟨S4096x20480, .bf16⟩
  | .hbm, ⟨3, _⟩ => ⟨S4096x4096, .f32⟩
  | .hbm, ⟨4, _⟩ => ⟨S8x4096x512, .f32⟩
  | .hbm, ⟨5, _⟩ => ⟨S4096x8x512, .f32⟩
  | .hbm, ⟨6, _⟩ => ⟨S4096x8x512, .bf16⟩
  | .hbm, ⟨7, _⟩ => ⟨S4096x8192, .bf16⟩
  | .hbm, ⟨8, _⟩ => ⟨S4096x8x2x512, .bf16⟩
  | .hbm, ⟨9, _⟩ => ⟨S4096x2x8x512, .bf16⟩
  | .hbm, ⟨10, _⟩ => ⟨S4096x8192, .bf16⟩
  | .hbm, ⟨11, _⟩ => ⟨S4096x12288, .bf16⟩
  | .hbm, ⟨12, _⟩ => ⟨S4096x20480, .bf16⟩
  | .hbm, ⟨13, _⟩ => ⟨S4096x8x5x512, .bf16⟩
  | .hbm, ⟨14, _⟩ => ⟨S4096x8x1x512, .bf16⟩
  | .hbm, ⟨15, _⟩ => ⟨S4096x8x1x512, .bf16⟩
  | .hbm, ⟨16, _⟩ => ⟨S4096x8x3x512, .bf16⟩
  | .hbm, ⟨17, _⟩ => ⟨S4096x8x5x512, .bf16⟩
  | .hbm, ⟨18, _⟩ => ⟨S4096x20480, .bf16⟩
  | .hbm, ⟨19, _⟩ => ⟨S4096x8192, .bf16⟩
  | .hbm, ⟨20, _⟩ => ⟨S4096x2x8x512, .bf16⟩
  | .hbm, ⟨21, _⟩ => ⟨S4096x8x2x512, .bf16⟩
  | .hbm, ⟨22, _⟩ => ⟨S4096x8192, .bf16⟩
  | .hbm, ⟨23, _⟩ => ⟨S4096x12288, .bf16⟩
  | .hbm, ⟨24, _⟩ => ⟨S4096x20480, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== KernelProj2.lean ====
abbrev S4096x4096 : Shape := ⟨2, ![4096, 4096]⟩
abbrev S8x4096x512 : Shape := ⟨3, ![8, 4096, 512]⟩
abbrev S4096x20480 : Shape := ⟨2, ![4096, 20480]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8x4096x512, .bf16⟩
  | .hbm, ⟨2, _⟩ => ⟨S4096x20480, .bf16⟩
  | .hbm, ⟨3, _⟩ => ⟨S4096x20480, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c2_i32 : BitVec 32 := 2#32
  let v1 : BitVec 32 := Scalar.addi v0 c2_i32
  let c24_i32 : BitVec 32 := 24#32
  let v2 : BitVec 32 := Scalar.subi v1 c24_i32
  let c24_i32_0 : BitVec 32 := 24#32
  let v3 : BitVec 1 := Scalar.cmpi .slt v1 c24_i32_0
  let c8_i32 : BitVec 32 := 8#32
  let v4 : BitVec 1 := Scalar.cmpi .slt v2 c8_i32
  let c2_i32_1 : BitVec 32 := 2#32
  let v5 : BitVec 32 := Scalar.muli c2_i32_1 v2
  let c24_i32_2 : BitVec 32 := 24#32
  let v6 : BitVec 32 := Scalar.addi c24_i32_2 v5
  let c8_i32_3 : BitVec 32 := 8#32
  let v7 : BitVec 32 := Scalar.subi v2 c8_i32_3
  let c2_i32_4 : BitVec 32 := 2#32
  let v8 : BitVec 32 := Scalar.muli c2_i32_4 v7
  let c24_i32_5 : BitVec 32 := 24#32
  let v9 : BitVec 32 := Scalar.addi c24_i32_5 v8
  let c1_i32 : BitVec 32 := 1#32
  let v10 : BitVec 32 := Scalar.addi v9 c1_i32
  let v11 : BitVec 32 := Scalar.select v4 v6 v10
  let v12 : BitVec 32 := Scalar.select v3 v1 v11
  let c0_i32 : BitVec 32 := 0#32
  ![arg0.toNat, v12.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProj2Ideal.lean ====
abbrev S4096x4096 : Shape := ⟨2, ![4096, 4096]⟩
abbrev S8x4096x512 : Shape := ⟨3, ![8, 4096, 512]⟩
abbrev S4096x20480 : Shape := ⟨2, ![4096, 20480]⟩
abbrev S4096x8x512 : Shape := ⟨3, ![4096, 8, 512]⟩
abbrev S4096x8192 : Shape := ⟨2, ![4096, 8192]⟩
abbrev S4096x8x2x512 : Shape := ⟨4, ![4096, 8, 2, 512]⟩
abbrev S4096x2x8x512 : Shape := ⟨4, ![4096, 2, 8, 512]⟩
abbrev S4096x12288 : Shape := ⟨2, ![4096, 12288]⟩
abbrev S4096x8x5x512 : Shape := ⟨4, ![4096, 8, 5, 512]⟩
abbrev S4096x8x1x512 : Shape := ⟨4, ![4096, 8, 1, 512]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x512, .bf16⟩
  | .hbm, ⟨2, _⟩ => ⟨S4096x20480, .bf16⟩
  | .hbm, ⟨3, _⟩ => ⟨S4096x4096, .f32⟩
  | .hbm, ⟨4, _⟩ => ⟨S8x4096x512, .f32⟩
  | .hbm, ⟨5, _⟩ => ⟨S4096x8x512, .f32⟩
  | .hbm, ⟨6, _⟩ => ⟨S4096x8x512, .bf16⟩
  | .hbm, ⟨7, _⟩ => ⟨S4096x8192, .bf16⟩
  | .hbm, ⟨8, _⟩ => ⟨S4096x8x2x512, .bf16⟩
  | .hbm, ⟨9, _⟩ => ⟨S4096x2x8x512, .bf16⟩
  | .hbm, ⟨10, _⟩ => ⟨S4096x8192, .bf16⟩
  | .hbm, ⟨11, _⟩ => ⟨S4096x12288, .bf16⟩
  | .hbm, ⟨12, _⟩ => ⟨S4096x20480, .bf16⟩
  | .hbm, ⟨13, _⟩ => ⟨S4096x8x5x512, .bf16⟩
  | .hbm, ⟨14, _⟩ => ⟨S4096x8x2x512, .bf16⟩
  | .hbm, ⟨15, _⟩ => ⟨S4096x8x1x512, .bf16⟩
  | .hbm, ⟨16, _⟩ => ⟨S4096x8x2x512, .bf16⟩
  | .hbm, ⟨17, _⟩ => ⟨S4096x8x5x512, .bf16⟩
  | .hbm, ⟨18, _⟩ => ⟨S4096x20480, .bf16⟩
  | .hbm, ⟨19, _⟩ => ⟨S4096x8192, .bf16⟩
  | .hbm, ⟨20, _⟩ => ⟨S4096x2x8x512, .bf16⟩
  | .hbm, ⟨21, _⟩ => ⟨S4096x8x2x512, .bf16⟩
  | .hbm, ⟨22, _⟩ => ⟨S4096x8192, .bf16⟩
  | .hbm, ⟨23, _⟩ => ⟨S4096x12288, .bf16⟩
  | .hbm, ⟨24, _⟩ => ⟨S4096x20480, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== KernelProj3.lean ====
abbrev S4096x4096 : Shape := ⟨2, ![4096, 4096]⟩
abbrev S8x4096x512 : Shape := ⟨3, ![8, 4096, 512]⟩
abbrev S4096x20480 : Shape := ⟨2, ![4096, 20480]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8x4096x512, .bf16⟩
  | .hbm, ⟨2, _⟩ => ⟨S4096x20480, .bf16⟩
  | .hbm, ⟨3, _⟩ => ⟨S4096x20480, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c3_i32 : BitVec 32 := 3#32
  let v1 : BitVec 32 := Scalar.addi v0 c3_i32
  let c24_i32 : BitVec 32 := 24#32
  let v2 : BitVec 32 := Scalar.subi v1 c24_i32
  let c24_i32_0 : BitVec 32 := 24#32
  let v3 : BitVec 1 := Scalar.cmpi .slt v1 c24_i32_0
  let c8_i32 : BitVec 32 := 8#32
  let v4 : BitVec 1 := Scalar.cmpi .slt v2 c8_i32
  let c2_i32 : BitVec 32 := 2#32
  let v5 : BitVec 32 := Scalar.muli c2_i32 v2
  let c24_i32_1 : BitVec 32 := 24#32
  let v6 : BitVec 32 := Scalar.addi c24_i32_1 v5
  let c8_i32_2 : BitVec 32 := 8#32
  let v7 : BitVec 32 := Scalar.subi v2 c8_i32_2
  let c2_i32_3 : BitVec 32 := 2#32
  let v8 : BitVec 32 := Scalar.muli c2_i32_3 v7
  let c24_i32_4 : BitVec 32 := 24#32
  let v9 : BitVec 32 := Scalar.addi c24_i32_4 v8
  let c1_i32 : BitVec 32 := 1#32
  let v10 : BitVec 32 := Scalar.addi v9 c1_i32
  let v11 : BitVec 32 := Scalar.select v4 v6 v10
  let v12 : BitVec 32 := Scalar.select v3 v1 v11
  let c0_i32 : BitVec 32 := 0#32
  ![arg0.toNat, v12.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProj3Ideal.lean ====
abbrev S4096x4096 : Shape := ⟨2, ![4096, 4096]⟩
abbrev S8x4096x512 : Shape := ⟨3, ![8, 4096, 512]⟩
abbrev S4096x20480 : Shape := ⟨2, ![4096, 20480]⟩
abbrev S4096x8x512 : Shape := ⟨3, ![4096, 8, 512]⟩
abbrev S4096x8192 : Shape := ⟨2, ![4096, 8192]⟩
abbrev S4096x8x2x512 : Shape := ⟨4, ![4096, 8, 2, 512]⟩
abbrev S4096x2x8x512 : Shape := ⟨4, ![4096, 2, 8, 512]⟩
abbrev S4096x12288 : Shape := ⟨2, ![4096, 12288]⟩
abbrev S4096x8x5x512 : Shape := ⟨4, ![4096, 8, 5, 512]⟩
abbrev S4096x8x3x512 : Shape := ⟨4, ![4096, 8, 3, 512]⟩
abbrev S4096x8x1x512 : Shape := ⟨4, ![4096, 8, 1, 512]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x512, .bf16⟩
  | .hbm, ⟨2, _⟩ => ⟨S4096x20480, .bf16⟩
  | .hbm, ⟨3, _⟩ => ⟨S4096x4096, .f32⟩
  | .hbm, ⟨4, _⟩ => ⟨S8x4096x512, .f32⟩
  | .hbm, ⟨5, _⟩ => ⟨S4096x8x512, .f32⟩
  | .hbm, ⟨6, _⟩ => ⟨S4096x8x512, .bf16⟩
  | .hbm, ⟨7, _⟩ => ⟨S4096x8192, .bf16⟩
  | .hbm, ⟨8, _⟩ => ⟨S4096x8x2x512, .bf16⟩
  | .hbm, ⟨9, _⟩ => ⟨S4096x2x8x512, .bf16⟩
  | .hbm, ⟨10, _⟩ => ⟨S4096x8192, .bf16⟩
  | .hbm, ⟨11, _⟩ => ⟨S4096x12288, .bf16⟩
  | .hbm, ⟨12, _⟩ => ⟨S4096x20480, .bf16⟩
  | .hbm, ⟨13, _⟩ => ⟨S4096x8x5x512, .bf16⟩
  | .hbm, ⟨14, _⟩ => ⟨S4096x8x3x512, .bf16⟩
  | .hbm, ⟨15, _⟩ => ⟨S4096x8x1x512, .bf16⟩
  | .hbm, ⟨16, _⟩ => ⟨S4096x8x1x512, .bf16⟩
  | .hbm, ⟨17, _⟩ => ⟨S4096x8x5x512, .bf16⟩
  | .hbm, ⟨18, _⟩ => ⟨S4096x20480, .bf16⟩
  | .hbm, ⟨19, _⟩ => ⟨S4096x8192, .bf16⟩
  | .hbm, ⟨20, _⟩ => ⟨S4096x2x8x512, .bf16⟩
  | .hbm, ⟨21, _⟩ => ⟨S4096x8x2x512, .bf16⟩
  | .hbm, ⟨22, _⟩ => ⟨S4096x8192, .bf16⟩
  | .hbm, ⟨23, _⟩ => ⟨S4096x12288, .bf16⟩
  | .hbm, ⟨24, _⟩ => ⟨S4096x20480, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== KernelProj4.lean ====
abbrev S4096x4096 : Shape := ⟨2, ![4096, 4096]⟩
abbrev S8x4096x512 : Shape := ⟨3, ![8, 4096, 512]⟩
abbrev S4096x20480 : Shape := ⟨2, ![4096, 20480]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8x4096x512, .bf16⟩
  | .hbm, ⟨2, _⟩ => ⟨S4096x20480, .bf16⟩
  | .hbm, ⟨3, _⟩ => ⟨S4096x20480, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c4_i32 : BitVec 32 := 4#32
  let v1 : BitVec 32 := Scalar.addi v0 c4_i32
  let c24_i32 : BitVec 32 := 24#32
  let v2 : BitVec 32 := Scalar.subi v1 c24_i32
  let c24_i32_0 : BitVec 32 := 24#32
  let v3 : BitVec 1 := Scalar.cmpi .slt v1 c24_i32_0
  let c8_i32 : BitVec 32 := 8#32
  let v4 : BitVec 1 := Scalar.cmpi .slt v2 c8_i32
  let c2_i32 : BitVec 32 := 2#32
  let v5 : BitVec 32 := Scalar.muli c2_i32 v2
  let c24_i32_1 : BitVec 32 := 24#32
  let v6 : BitVec 32 := Scalar.addi c24_i32_1 v5
  let c8_i32_2 : BitVec 32 := 8#32
  let v7 : BitVec 32 := Scalar.subi v2 c8_i32_2
  let c2_i32_3 : BitVec 32 := 2#32
  let v8 : BitVec 32 := Scalar.muli c2_i32_3 v7
  let c24_i32_4 : BitVec 32 := 24#32
  let v9 : BitVec 32 := Scalar.addi c24_i32_4 v8
  let c1_i32 : BitVec 32 := 1#32
  let v10 : BitVec 32 := Scalar.addi v9 c1_i32
  let v11 : BitVec 32 := Scalar.select v4 v6 v10
  let v12 : BitVec 32 := Scalar.select v3 v1 v11
  let c0_i32 : BitVec 32 := 0#32
  ![arg0.toNat, v12.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProj4Ideal.lean ====
abbrev S4096x4096 : Shape := ⟨2, ![4096, 4096]⟩
abbrev S8x4096x512 : Shape := ⟨3, ![8, 4096, 512]⟩
abbrev S4096x20480 : Shape := ⟨2, ![4096, 20480]⟩
abbrev S4096x8x512 : Shape := ⟨3, ![4096, 8, 512]⟩
abbrev S4096x8192 : Shape := ⟨2, ![4096, 8192]⟩
abbrev S4096x8x2x512 : Shape := ⟨4, ![4096, 8, 2, 512]⟩
abbrev S4096x2x8x512 : Shape := ⟨4, ![4096, 2, 8, 512]⟩
abbrev S4096x12288 : Shape := ⟨2, ![4096, 12288]⟩
abbrev S4096x8x5x512 : Shape := ⟨4, ![4096, 8, 5, 512]⟩
abbrev S4096x8x4x512 : Shape := ⟨4, ![4096, 8, 4, 512]⟩
abbrev S4096x8x1x512 : Shape := ⟨4, ![4096, 8, 1, 512]⟩
abbrev S4096x8x0x512 : Shape := ⟨4, ![4096, 8, 0, 512]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x512, .bf16⟩
  | .hbm, ⟨2, _⟩ => ⟨S4096x20480, .bf16⟩
  | .hbm, ⟨3, _⟩ => ⟨S4096x4096, .f32⟩
  | .hbm, ⟨4, _⟩ => ⟨S8x4096x512, .f32⟩
  | .hbm, ⟨5, _⟩ => ⟨S4096x8x512, .f32⟩
  | .hbm, ⟨6, _⟩ => ⟨S4096x8x512, .bf16⟩
  | .hbm, ⟨7, _⟩ => ⟨S4096x8192, .bf16⟩
  | .hbm, ⟨8, _⟩ => ⟨S4096x8x2x512, .bf16⟩
  | .hbm, ⟨9, _⟩ => ⟨S4096x2x8x512, .bf16⟩
  | .hbm, ⟨10, _⟩ => ⟨S4096x8192, .bf16⟩
  | .hbm, ⟨11, _⟩ => ⟨S4096x12288, .bf16⟩
  | .hbm, ⟨12, _⟩ => ⟨S4096x20480, .bf16⟩
  | .hbm, ⟨13, _⟩ => ⟨S4096x8x5x512, .bf16⟩
  | .hbm, ⟨14, _⟩ => ⟨S4096x8x4x512, .bf16⟩
  | .hbm, ⟨15, _⟩ => ⟨S4096x8x1x512, .bf16⟩
  | .hbm, ⟨16, _⟩ => ⟨S4096x8x0x512, .bf16⟩
  | .hbm, ⟨17, _⟩ => ⟨S4096x8x5x512, .bf16⟩
  | .hbm, ⟨18, _⟩ => ⟨S4096x20480, .bf16⟩
  | .hbm, ⟨19, _⟩ => ⟨S4096x8192, .bf16⟩
  | .hbm, ⟨20, _⟩ => ⟨S4096x2x8x512, .bf16⟩
  | .hbm, ⟨21, _⟩ => ⟨S4096x8x2x512, .bf16⟩
  | .hbm, ⟨22, _⟩ => ⟨S4096x8192, .bf16⟩
  | .hbm, ⟨23, _⟩ => ⟨S4096x12288, .bf16⟩
  | .hbm, ⟨24, _⟩ => ⟨S4096x20480, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== KernelOutProj.lean ====
abbrev S4096x4096 : Shape := ⟨2, ![4096, 4096]⟩
abbrev S4096x1024 : Shape := ⟨2, ![4096, 1024]⟩
abbrev S4096x3072 : Shape := ⟨2, ![4096, 3072]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x3072, .bf16⟩
  | .hbm, ⟨3, _⟩ => ⟨S4096x4096, .f32⟩
  | .hbm, ⟨4, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c2_i32_0 : BitVec 32 := 2#32
  let v3 : BitVec 1 := Scalar.cmpi .sge arg1 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceOutProjIdeal.lean ====
abbrev S4096x4096 : Shape := ⟨2, ![4096, 4096]⟩
abbrev S4096x1024 : Shape := ⟨2, ![4096, 1024]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x3072, .bf16⟩
  | .hbm, ⟨3, _⟩ => ⟨S4096x4096, .f32⟩
  | .hbm, ⟨4, _⟩ => ⟨S4096x4096, .bf16⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelMerge.lean ====
abbrev S4096x2048 : Shape := ⟨2, ![4096, 2048]⟩
abbrev S8x2048x512 : Shape := ⟨3, ![8, 2048, 512]⟩
abbrev S4096x20480 : Shape := ⟨2, ![4096, 20480]⟩
abbrev S2x4096 : Shape := ⟨2, ![2, 4096]⟩
abbrev S4096x4096 : Shape := ⟨2, ![4096, 4096]⟩
abbrev S1024x2048 : Shape := ⟨2, ![1024, 2048]⟩
abbrev S1x2048x512 : Shape := ⟨3, ![1, 2048, 512]⟩
abbrev S1024x512 : Shape := ⟨2, ![1024, 512]⟩
abbrev S2x512 : Shape := ⟨2, ![2, 512]⟩
abbrev S2048x512 : Shape := ⟨2, ![2048, 512]⟩
abbrev S1x512 : Shape := ⟨2, ![1, 512]⟩

abbrev nBuf : Space → Nat
  | .hbm => 9
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x2048, .bf16⟩
  | .hbm, ⟨3, _⟩ => ⟨S8x2048x512, .bf16⟩
  | .hbm, ⟨4, _⟩ => ⟨S4096x20480, .bf16⟩
  | .hbm, ⟨5, _⟩ => ⟨S2x4096, .f32⟩
  | .hbm, ⟨6, _⟩ => ⟨S4096x4096, .bf16⟩
  | .hbm, ⟨7, _⟩ => ⟨S4096x4096, .bf16⟩
  | .hbm, ⟨8, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S2x512, .f32⟩
  | .local _ .vmem, ⟨13, _⟩ => ⟨S2x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c24_i32 : BitVec 32 := 24#32
  let v1 : BitVec 32 := Scalar.addi c24_i32 v0
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c24_i32 : BitVec 32 := 24#32
  let v1 : BitVec 32 := Scalar.addi c24_i32 v0
  let c1_i32 : BitVec 32 := 1#32
  let v2 : BitVec 32 := Scalar.addi v1 c1_i32
  let c0_i32 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceMergeIdeal.lean ====
abbrev S4096x2048 : Shape := ⟨2, ![4096, 2048]⟩
abbrev S8x2048x512 : Shape := ⟨3, ![8, 2048, 512]⟩
abbrev S4096x20480 : Shape := ⟨2, ![4096, 20480]⟩
abbrev S2x4096 : Shape := ⟨2, ![2, 4096]⟩
abbrev S4096x8192 : Shape := ⟨2, ![4096, 8192]⟩
abbrev S4096x8x2x512 : Shape := ⟨4, ![4096, 8, 2, 512]⟩
abbrev S4096x8x1x512 : Shape := ⟨4, ![4096, 8, 1, 512]⟩
abbrev S4096x8x512 : Shape := ⟨3, ![4096, 8, 512]⟩
abbrev S4096x4096 : Shape := ⟨2, ![4096, 4096]⟩
abbrev S2048x8x512 : Shape := ⟨3, ![2048, 8, 512]⟩
abbrev S2048x4096 : Shape := ⟨2, ![2048, 4096]⟩
abbrev S1x4096 : Shape := ⟨2, ![1, 4096]⟩
abbrev S4096 : Shape := ⟨1, ![4096]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x2048, .bf16⟩
  | .hbm, ⟨3, _⟩ => ⟨S8x2048x512, .bf16⟩
  | .hbm, ⟨4, _⟩ => ⟨S4096x20480, .bf16⟩
  | .hbm, ⟨5, _⟩ => ⟨S2x4096, .f32⟩
  | .hbm, ⟨6, _⟩ => ⟨S4096x8192, .bf16⟩
  | .hbm, ⟨7, _⟩ => ⟨S4096x8192, .f32⟩
  | .hbm, ⟨8, _⟩ => ⟨S4096x8x2x512, .f32⟩
  | .hbm, ⟨9, _⟩ => ⟨S4096x8x1x512, .f32⟩
  | .hbm, ⟨10, _⟩ => ⟨S4096x8x512, .f32⟩
  | .hbm, ⟨11, _⟩ => ⟨S4096x4096, .f32⟩
  | .hbm, ⟨12, _⟩ => ⟨S4096x8x1x512, .f32⟩
  | .hbm, ⟨13, _⟩ => ⟨S4096x8x512, .f32⟩
  | .hbm, ⟨14, _⟩ => ⟨S4096x4096, .f32⟩
  | .hbm, ⟨15, _⟩ => ⟨S4096x2048, .f32⟩
  | .hbm, ⟨16, _⟩ => ⟨S8x2048x512, .f32⟩
  | .hbm, ⟨17, _⟩ => ⟨S2048x8x512, .f32⟩
  | .hbm, ⟨18, _⟩ => ⟨S2048x4096, .f32⟩
  | .hbm, ⟨19, _⟩ => ⟨S4096x4096, .f32⟩
  | .hbm, ⟨20, _⟩ => ⟨S4096x2048, .f32⟩
  | .hbm, ⟨21, _⟩ => ⟨S8x2048x512, .f32⟩
  | .hbm, ⟨22, _⟩ => ⟨S2048x8x512, .f32⟩
  | .hbm, ⟨23, _⟩ => ⟨S2048x4096, .f32⟩
  | .hbm, ⟨24, _⟩ => ⟨S4096x4096, .f32⟩
  | .hbm, ⟨25, _⟩ => ⟨S1x4096, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S1x4096, .f32⟩
  | .hbm, ⟨40, _⟩ => ⟨S4096, .f32⟩
  | .hbm, ⟨41, _⟩ => ⟨S1x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .bf16⟩
  | .hbm, ⟨55, _⟩ => ⟨S4096x4096, .bf16⟩
  | .hbm, ⟨56, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_1 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== KernelGate.lean ====
abbrev S4096x4096 : Shape := ⟨2, ![4096, 4096]⟩
abbrev S4096x1024 : Shape := ⟨2, ![4096, 1024]⟩
abbrev S4096x3072 : Shape := ⟨2, ![4096, 3072]⟩
abbrev S4096x20480 : Shape := ⟨2, ![4096, 20480]⟩
abbrev S2x4096 : Shape := ⟨2, ![2, 4096]⟩
abbrev S8x4096 : Shape := ⟨2, ![8, 4096]⟩
abbrev S512x4096 : Shape := ⟨2, ![512, 4096]⟩
abbrev S512x1024 : Shape := ⟨2, ![512, 1024]⟩
abbrev S512x3072 : Shape := ⟨2, ![512, 3072]⟩
abbrev S512x512 : Shape := ⟨2, ![512, 512]⟩
abbrev S2x512 : Shape := ⟨2, ![2, 512]⟩
abbrev S8x512 : Shape := ⟨2, ![8, 512]⟩
abbrev S1x512 : Shape := ⟨2, ![1, 512]⟩
abbrev S512 : Shape := ⟨1, ![512]⟩
abbrev S4096x8192 : Shape := ⟨2, ![4096, 8192]⟩

abbrev nBuf : Space → Nat
  | .hbm => 12
  | .vmem => 24
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x3072, .bf16⟩
  | .hbm, ⟨3, _⟩ => ⟨S4096x4096, .bf16⟩
  | .hbm, ⟨4, _⟩ => ⟨S4096x4096, .bf16⟩
  | .hbm, ⟨5, _⟩ => ⟨S4096x20480, .bf16⟩
  | .hbm, ⟨6, _⟩ => ⟨S2x4096, .f32⟩
  | .hbm, ⟨7, _⟩ => ⟨S4096x4096, .bf16⟩
  | .hbm, ⟨8, _⟩ => ⟨S4096x4096, .bf16⟩
  | .hbm, ⟨9, _⟩ => ⟨S4096x20480, .bf16⟩
  | .hbm, ⟨10, _⟩ => ⟨S8x4096, .f32⟩
  | .hbm, ⟨11, _⟩ => ⟨S4096x8192, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S512x3072, .bf16⟩
  | .local _ .vmem, ⟨5, _⟩ => ⟨S512x3072, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S2x512, .f32⟩
  | .local _ .vmem, ⟨15, _⟩ => ⟨S2x512, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S8x512, .f32⟩
  | .local _ .vmem, ⟨23, _⟩ => ⟨S8x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32_37 : BitVec 32 := 0#32
  let v73 : BitVec 1 := Scalar.cmpi .eq arg1 c0_i32_37
  let v74 : BitVec 32 := Scalar.extui v73
  let c0_i32_38 : BitVec 32 := 0#32
  let v75 : BitVec 1 := Scalar.cmpi .ne v74 c0_i32_38
  v75

def k0_cond2 (i : grid0.Coords) : BitVec 1 :=
  let arg1 : BitVec 32 := BitVec.ofNat 32 (i 1).val
  let c0_i32_39 : BitVec 32 := 0#32
  let v76 : BitVec 1 := Scalar.cmpi .sgt arg1 c0_i32_39
  let v77 : BitVec 32 := Scalar.extui v76
  let c0_i32_40 : BitVec 32 := 0#32
  let v78 : BitVec 1 := Scalar.cmpi .ne v77 c0_i32_40
  v78

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c24_i32 : BitVec 32 := 24#32
  let v1 : BitVec 32 := Scalar.addi c24_i32 v0
  let c0_i32 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c24_i32 : BitVec 32 := 24#32
  let v1 : BitVec 32 := Scalar.addi c24_i32 v0
  let c1_i32 : BitVec 32 := 1#32
  let v2 : BitVec 32 := Scalar.addi v1 c1_i32
  let c0_i32 : BitVec 32 := 0#32
  ![arg1.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceGateIdeal.lean ====
abbrev S4096x4096 : Shape := ⟨2, ![4096, 4096]⟩
abbrev S4096x1024 : Shape := ⟨2, ![4096, 1024]⟩
abbrev S4096x3072 : Shape := ⟨2, ![4096, 3072]⟩
abbrev S4096x20480 : Shape := ⟨2, ![4096, 20480]⟩
abbrev S2x4096 : Shape := ⟨2, ![2, 4096]⟩
abbrev S4096x8192 : Shape := ⟨2, ![4096, 8192]⟩
abbrev S4096x8x2x512 : Shape := ⟨4, ![4096, 8, 2, 512]⟩
abbrev S4096x8x1x512 : Shape := ⟨4, ![4096, 8, 1, 512]⟩
abbrev S4096x8x512 : Shape := ⟨3, ![4096, 8, 512]⟩
abbrev S1x4096 : Shape := ⟨2, ![1, 4096]⟩
abbrev S4096 : Shape := ⟨1, ![4096]⟩
abbrev S_ : Shape := ⟨0, ![]⟩
abbrev S6x4096 : Shape := ⟨2, ![6, 4096]⟩
abbrev S8x4096 : Shape := ⟨2, ![8, 4096]⟩

abbrev nBuf : Space → Nat
  | .hbm => 90
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x3072, .bf16⟩
  | .hbm, ⟨3, _⟩ => ⟨S4096x4096, .bf16⟩
  | .hbm, ⟨4, _⟩ => ⟨S4096x4096, .bf16⟩
  | .hbm, ⟨5, _⟩ => ⟨S4096x20480, .bf16⟩
  | .hbm, ⟨6, _⟩ => ⟨S2x4096, .f32⟩
  | .hbm, ⟨7, _⟩ => ⟨S4096x4096, .bf16⟩
  | .hbm, ⟨8, _⟩ => ⟨S4096x4096, .f32⟩
  | .hbm, ⟨9, _⟩ => ⟨S4096x8192, .bf16⟩
  | .hbm, ⟨10, _⟩ => ⟨S4096x8192, .f32⟩
  | .hbm, ⟨11, _⟩ => ⟨S4096x8x2x512, .f32⟩
  | .hbm, ⟨12, _⟩ => ⟨S4096x8x1x512, .f32⟩
  | .hbm, ⟨13, _⟩ => ⟨S4096x8x512, .f32⟩
  | .hbm, ⟨14, _⟩ => ⟨S4096x4096, .f32⟩
  | .hbm, ⟨15, _⟩ => ⟨S4096x8x1x512, .f32⟩
  | .hbm, ⟨16, _⟩ => ⟨S4096x8x512, .f32⟩
  | .hbm, ⟨17, _⟩ => ⟨S4096x4096, .f32⟩
  | .hbm, ⟨18, _⟩ => ⟨S1x4096, .f32⟩
  | .hbm, ⟨19, _⟩ => ⟨S4096, .f32⟩
  | .hbm, ⟨20, _⟩ => ⟨S1x4096, .f32⟩
  | .hbm, ⟨21, _⟩ => ⟨S4096, .f32⟩
  | .hbm, ⟨22, _⟩ => ⟨S4096x4096, .f32⟩
  | .hbm, ⟨23, _⟩ => ⟨S4096x4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S1x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096, .f32⟩
  | .hbm, ⟨65, _⟩ => ⟨S1x4096, .f32⟩
  | .hbm, ⟨66, _⟩ => ⟨S_, .f32⟩
  | .hbm, ⟨67, _⟩ => ⟨S4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096, .f32⟩
  | .hbm, ⟨73, _⟩ => ⟨S1x4096, .f32⟩
  | .hbm, ⟨74, _⟩ => ⟨S_, .f32⟩
  | .hbm, ⟨75, _⟩ => ⟨S4096, .f32⟩
  | .hbm, ⟨76, _⟩ => ⟨S4096x8x512, .f32⟩
  | .hbm, ⟨77, _⟩ => ⟨S4096x8x512, .f32⟩
  | .hbm, ⟨78, _⟩ => ⟨S4096x8x1x512, .f32⟩
  | .hbm, ⟨79, _⟩ => ⟨S4096x8x1x512, .f32⟩
  | .hbm, ⟨80, _⟩ => ⟨S4096x8x2x512, .f32⟩
  | .hbm, ⟨81, _⟩ => ⟨S4096x8192, .f32⟩
  | .hbm, ⟨82, _⟩ => ⟨S4096x4096, .bf16⟩
  | .hbm, ⟨83, _⟩ => ⟨S4096x4096, .bf16⟩
  | .hbm, ⟨84, _⟩ => ⟨S4096x8192, .bf16⟩
  | .hbm, ⟨85, _⟩ => ⟨S1x4096, .f32⟩
  | .hbm, ⟨86, _⟩ => ⟨S1x4096, .f32⟩
  | .hbm, ⟨87, _⟩ => ⟨S_, .f32⟩
  | .hbm, ⟨88, _⟩ => ⟨S6x4096, .f32⟩
  | .hbm, ⟨89, _⟩ => ⟨S8x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_9 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== KernelAttnGate.lean ====
abbrev S4096x4096 : Shape := ⟨2, ![4096, 4096]⟩
abbrev S2048x4096 : Shape := ⟨2, ![2048, 4096]⟩
abbrev S4096x20480 : Shape := ⟨2, ![4096, 20480]⟩
abbrev S4096x2048 : Shape := ⟨2, ![4096, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x20480, .bf16⟩
  | .hbm, ⟨3, _⟩ => ⟨S4096x2048, .bf16⟩
  | .hbm, ⟨4, _⟩ => ⟨S4096x20480, .bf16⟩
  | .hbm, ⟨5, _⟩ => ⟨S4096x2048, .bf16⟩
  | .hbm, ⟨6, _⟩ => ⟨S4096x20480, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceAttnGateIdeal.lean ====
abbrev S4096x4096 : Shape := ⟨2, ![4096, 4096]⟩
abbrev S2048x4096 : Shape := ⟨2, ![2048, 4096]⟩
abbrev S4096x20480 : Shape := ⟨2, ![4096, 20480]⟩
abbrev S4096x2048 : Shape := ⟨2, ![4096, 2048]⟩
abbrev S_ : Shape := ⟨0, ![]⟩
abbrev S4096x6144 : Shape := ⟨2, ![4096, 6144]⟩
abbrev S4096x12288 : Shape := ⟨2, ![4096, 12288]⟩

abbrev nBuf : Space → Nat
  | .hbm => 37
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x20480, .bf16⟩
  | .hbm, ⟨3, _⟩ => ⟨S4096x2048, .bf16⟩
  | .hbm, ⟨4, _⟩ => ⟨S4096x20480, .bf16⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S2048x4096, .f32⟩
  | .hbm, ⟨23, _⟩ => ⟨S4096x4096, .f32⟩
  | .hbm, ⟨24, _⟩ => ⟨S4096x4096, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x6144, .bf16⟩
  | .hbm, ⟨33, _⟩ => ⟨S4096x2048, .bf16⟩
  | .hbm, ⟨34, _⟩ => ⟨S4096x12288, .bf16⟩
  | .hbm, ⟨35, _⟩ => ⟨S4096x20480, .bf16⟩
  | .hbm, ⟨36, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== KernelPoolGate.lean ====
abbrev S4096x4096 : Shape := ⟨2, ![4096, 4096]⟩
abbrev S2048x4096 : Shape := ⟨2, ![2048, 4096]⟩
abbrev S4096x20480 : Shape := ⟨2, ![4096, 20480]⟩
abbrev S4096x2048 : Shape := ⟨2, ![4096, 2048]⟩
abbrev S1x2048 : Shape := ⟨2, ![1, 2048]⟩
abbrev S512x4096 : Shape := ⟨2, ![512, 4096]⟩
abbrev S512x512 : Shape := ⟨2, ![512, 512]⟩
abbrev S1x512 : Shape := ⟨2, ![1, 512]⟩
abbrev S512 : Shape := ⟨1, ![512]⟩

abbrev nBuf : Space → Nat
  | .hbm => 9
  | .vmem => 16
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x20480, .bf16⟩
  | .hbm, ⟨3, _⟩ => ⟨S4096x2048, .bf16⟩
  | .hbm, ⟨4, _⟩ => ⟨S1x2048, .f32⟩
  | .hbm, ⟨5, _⟩ => ⟨S4096x20480, .bf16⟩
  | .hbm, ⟨6, _⟩ => ⟨S4096x20480, .bf16⟩
  | .hbm, ⟨7, _⟩ => ⟨S4096x2048, .bf16⟩
  | .hbm, ⟨8, _⟩ => ⟨S1x2048, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S1x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_19 : BitVec 32 := 0#32
  let v38 : BitVec 1 := Scalar.cmpi .ne v37 c0_i32_19
  v38

def k0_cond2 (i : grid0.Coords) : BitVec 1 :=
  let arg1 : BitVec 32 := BitVec.ofNat 32 (i 1).val
  let c0_i32_20 : BitVec 32 := 0#32
  let v39 : BitVec 1 := Scalar.cmpi .sgt arg1 c0_i32_20
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferencePoolGateIdeal.lean ====
abbrev S4096x4096 : Shape := ⟨2, ![4096, 4096]⟩
abbrev S2048x4096 : Shape := ⟨2, ![2048, 4096]⟩
abbrev S4096x20480 : Shape := ⟨2, ![4096, 20480]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096x10240 : Shape := ⟨2, ![4096, 10240]⟩
abbrev S4096x8192 : Shape := ⟨2, ![4096, 8192]⟩

abbrev nBuf : Space → Nat
  | .hbm => 51
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x20480, .bf16⟩
  | .hbm, ⟨3, _⟩ => ⟨S4096x2048, .bf16⟩
  | .hbm, ⟨4, _⟩ => ⟨S1x2048, .f32⟩
  | .hbm, ⟨5, _⟩ => ⟨S4096x20480, .bf16⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S2048x4096, .f32⟩
  | .hbm, ⟨28, _⟩ => ⟨S4096x4096, .f32⟩
  | .hbm, ⟨29, _⟩ => ⟨S4096x4096, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S4096x10240, .bf16⟩
  | .hbm, ⟨46, _⟩ => ⟨S4096x2048, .bf16⟩
  | .hbm, ⟨47, _⟩ => ⟨S4096x8192, .bf16⟩
  | .hbm, ⟨48, _⟩ => ⟨S4096x20480, .bf16⟩
  | .hbm, ⟨49, _⟩ => ⟨S4096x2048, .bf16⟩
  | .hbm, ⟨50, _⟩ => ⟨S1x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v7_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v7_1 : Ref sig .tc := ⟨.hbm, 24, rfl⟩
abbrev main_v7_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== KernelRmsFwd.lean ====
abbrev S4096x4096 : Shape := ⟨2, ![4096, 4096]⟩
abbrev S1x4096 : Shape := ⟨2, ![1, 4096]⟩
abbrev S4096x2560 : Shape := ⟨2, ![4096, 2560]⟩
abbrev S256x4096 : Shape := ⟨2, ![256, 4096]⟩
abbrev S256x2560 : Shape := ⟨2, ![256, 2560]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x2560, .f32⟩
  | .hbm, ⟨3, _⟩ => ⟨S4096x4096, .bf16⟩
  | .hbm, ⟨4, _⟩ => ⟨S4096x2560, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x2560, .f32⟩
  | .local _ .vmem, ⟨4, _⟩ => ⟨S256x2560, .f32⟩
  | .local _ .vmem, ⟨5, _⟩ => ⟨S256x4096, .bf16⟩
  | .local _ .vmem, ⟨6, _⟩ => ⟨S256x4096, .bf16⟩
  | .local _ .vmem, ⟨7, _⟩ => ⟨S256x2560, .bf16⟩
  | .local _ .vmem, ⟨8, _⟩ => ⟨S256x2560, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceRmsFwdIdeal.lean ====
abbrev S4096x4096 : Shape := ⟨2, ![4096, 4096]⟩
abbrev S1x4096 : Shape := ⟨2, ![1, 4096]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x2560, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x4096, .bf16⟩
  | .hbm, ⟨21, _⟩ => ⟨S4096x2560, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelAdamOut.lean ====
abbrev S4x8704x512 : Shape := ⟨3, ![4, 8704, 512]⟩
abbrev S4096x512 : Shape := ⟨2, ![4096, 512]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x8704x512, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .local _ .vmem, ⟨0, _⟩ => ⟨S4x512x512, .bf16⟩
  | .local _ .vmem, ⟨1, _⟩ => ⟨S4x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S4x8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let c4096_i32_0 : BitVec 32 := 4096#32
  let v1 : BitVec 32 := Scalar.addi c4096_i32_0 v0
  let c512_i32 : BitVec 32 := 512#32
  let v2 : BitVec 32 := Scalar.divsi v1 c512_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c512_i32 c0_i32_2
  let v9 : BitVec 32 := Scalar.extui v8
  let c0_i32_3 : BitVec 32 := 0#32
  let v10 : BitVec 1 := Scalar.cmpi .slt c512_i32 c0_i32_3
  let v11 : BitVec 32 := Scalar.extui v10
  let v12 : BitVec 32 := Scalar.subi v9 v11
  let v13 : BitVec 1 := Scalar.cmpi .ne v7 v12
  let v14 : BitVec 32 := Scalar.remsi v1 c512_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg1
  let c0_i32_5 : BitVec 32 := 0#32
  let c0_i32_6 : BitVec 32 := 0#32
  let c0_i32_7 : BitVec 32 := 0#32
  ![c0_i32_5.toNat, v19.toNat, c0_i32_6.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamOutIdeal.lean ====
abbrev S4x8704x512 : Shape := ⟨3, ![4, 8704, 512]⟩
abbrev S4096x512 : Shape := ⟨2, ![4096, 512]⟩
abbrev S4x4096x512 : Shape := ⟨3, ![4, 4096, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x8704x512, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4x4096x512, .bf16⟩
  | .hbm, ⟨5, _⟩ => ⟨S4x4096x512, .f32⟩
  | .hbm, ⟨6, _⟩ => ⟨S_, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | _, _ => ⟨S4x8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamOutAttn.lean ====
abbrev S4x8704x512 : Shape := ⟨3, ![4, 8704, 512]⟩
abbrev S2048x512 : Shape := ⟨2, ![2048, 512]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x8704x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S4x512x512, .bf16⟩
  | .local _ .vmem, ⟨1, _⟩ => ⟨S4x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S4x8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c0_i32 : BitVec 32 := 0#32
  let v1 : BitVec 32 := Scalar.addi c0_i32 v0
  let c512_i32 : BitVec 32 := 512#32
  let v2 : BitVec 32 := Scalar.divsi v1 c512_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c512_i32 c0_i32_2
  let v9 : BitVec 32 := Scalar.extui v8
  let c0_i32_3 : BitVec 32 := 0#32
  let v10 : BitVec 1 := Scalar.cmpi .slt c512_i32 c0_i32_3
  let v11 : BitVec 32 := Scalar.extui v10
  let v12 : BitVec 32 := Scalar.subi v9 v11
  let v13 : BitVec 1 := Scalar.cmpi .ne v7 v12
  let v14 : BitVec 32 := Scalar.remsi v1 c512_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg1
  let c0_i32_5 : BitVec 32 := 0#32
  let c0_i32_6 : BitVec 32 := 0#32
  let c0_i32_7 : BitVec 32 := 0#32
  ![c0_i32_5.toNat, v19.toNat, c0_i32_6.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamOutAttnIdeal.lean ====
abbrev S4x8704x512 : Shape := ⟨3, ![4, 8704, 512]⟩
abbrev S2048x512 : Shape := ⟨2, ![2048, 512]⟩
abbrev S4x2048x512 : Shape := ⟨3, ![4, 2048, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x8704x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S4x2048x512, .bf16⟩
  | .hbm, ⟨5, _⟩ => ⟨S4x2048x512, .f32⟩
  | .hbm, ⟨6, _⟩ => ⟨S_, .f32⟩
  | .hbm, ⟨7, _⟩ => ⟨S2048x512, .f32⟩
  | .hbm, ⟨8, _⟩ => ⟨S_, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | _, _ => ⟨S4x8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamOutPool.lean ====
abbrev S4x8704x512 : Shape := ⟨3, ![4, 8704, 512]⟩
abbrev S2048x512 : Shape := ⟨2, ![2048, 512]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x8704x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S4x512x512, .bf16⟩
  | .local _ .vmem, ⟨1, _⟩ => ⟨S4x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S4x8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c2048_i32_0 : BitVec 32 := 2048#32
  let v1 : BitVec 32 := Scalar.addi c2048_i32_0 v0
  let c512_i32 : BitVec 32 := 512#32
  let v2 : BitVec 32 := Scalar.divsi v1 c512_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c512_i32 c0_i32_2
  let v9 : BitVec 32 := Scalar.extui v8
  let c0_i32_3 : BitVec 32 := 0#32
  let v10 : BitVec 1 := Scalar.cmpi .slt c512_i32 c0_i32_3
  let v11 : BitVec 32 := Scalar.extui v10
  let v12 : BitVec 32 := Scalar.subi v9 v11
  let v13 : BitVec 1 := Scalar.cmpi .ne v7 v12
  let v14 : BitVec 32 := Scalar.remsi v1 c512_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg1
  let c0_i32_5 : BitVec 32 := 0#32
  let c0_i32_6 : BitVec 32 := 0#32
  let c0_i32_7 : BitVec 32 := 0#32
  ![c0_i32_5.toNat, v19.toNat, c0_i32_6.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamOutPoolIdeal.lean ====
abbrev S4x8704x512 : Shape := ⟨3, ![4, 8704, 512]⟩
abbrev S2048x512 : Shape := ⟨2, ![2048, 512]⟩
abbrev S4x2048x512 : Shape := ⟨3, ![4, 2048, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x8704x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S4x2048x512, .bf16⟩
  | .hbm, ⟨5, _⟩ => ⟨S4x2048x512, .f32⟩
  | .hbm, ⟨6, _⟩ => ⟨S_, .f32⟩
  | .hbm, ⟨7, _⟩ => ⟨S2048x512, .f32⟩
  | .hbm, ⟨8, _⟩ => ⟨S_, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | _, _ => ⟨S4x8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamPoolW.lean ====
abbrev S4x8704x512 : Shape := ⟨3, ![4, 8704, 512]⟩
abbrev S256x512 : Shape := ⟨2, ![256, 512]⟩
abbrev S4x256x512 : Shape := ⟨3, ![4, 256, 512]⟩
abbrev S1x256x512 : Shape := ⟨3, ![1, 256, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x8704x512, .bf16⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S4x256x512, .bf16⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S4x8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c8192_i32 : BitVec 32 := 8192#32
  let v1 : BitVec 32 := Scalar.addi c8192_i32 v0
  let c256_i32_0 : BitVec 32 := 256#32
  let v2 : BitVec 32 := Scalar.divsi v1 c256_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c256_i32_0 c0_i32_2
  let v9 : BitVec 32 := Scalar.extui v8
  let c0_i32_3 : BitVec 32 := 0#32
  let v10 : BitVec 1 := Scalar.cmpi .slt c256_i32_0 c0_i32_3
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg1
  let c0_i32_5 : BitVec 32 := 0#32
  let c0_i32_6 : BitVec 32 := 0#32
  let c0_i32_7 : BitVec 32 := 0#32
  ![c0_i32_5.toNat, v19.toNat, c0_i32_6.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamPoolWIdeal.lean ====
abbrev S4x8704x512 : Shape := ⟨3, ![4, 8704, 512]⟩
abbrev S256x512 : Shape := ⟨2, ![256, 512]⟩
abbrev S4x256x512 : Shape := ⟨3, ![4, 256, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x8704x512, .bf16⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S4x256x512, .bf16⟩
  | .hbm, ⟨5, _⟩ => ⟨S4x256x512, .f32⟩
  | .hbm, ⟨6, _⟩ => ⟨S_, .f32⟩
  | .hbm, ⟨7, _⟩ => ⟨S256x512, .f32⟩
  | .hbm, ⟨8, _⟩ => ⟨S_, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S256x512, .f32⟩
  | .hbm, ⟨23, _⟩ => ⟨S_, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | .hbm, ⟨37, _⟩ => ⟨S256x512, .f32⟩
  | .hbm, ⟨38, _⟩ => ⟨S_, .f32⟩
  | .hbm, ⟨39, _⟩ => ⟨S256x512, .f32⟩
  | .hbm, ⟨40, _⟩ => ⟨S256x512, .f32⟩
  | _, _ => ⟨S4x8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamGateBias.lean ====
abbrev S4x8704x512 : Shape := ⟨3, ![4, 8704, 512]⟩
abbrev S16x512 : Shape := ⟨2, ![16, 512]⟩
abbrev S4x16x512 : Shape := ⟨3, ![4, 16, 512]⟩
abbrev S1x16x512 : Shape := ⟨3, ![1, 16, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x8704x512, .bf16⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x512, .f32⟩
  | .local _ .vmem, ⟨0, _⟩ => ⟨S4x16x512, .bf16⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | _, _ => ⟨S4x8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c8448_i32 : BitVec 32 := 8448#32
  let v1 : BitVec 32 := Scalar.addi c8448_i32 v0
  let c16_i32_0 : BitVec 32 := 16#32
  let v2 : BitVec 32 := Scalar.divsi v1 c16_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32_0 c0_i32_2
  let v9 : BitVec 32 := Scalar.extui v8
  let c0_i32_3 : BitVec 32 := 0#32
  let v10 : BitVec 1 := Scalar.cmpi .slt c16_i32_0 c0_i32_3
  let v11 : BitVec 32 := Scalar.extui v10
  let v12 : BitVec 32 := Scalar.subi v9 v11
  let v13 : BitVec 1 := Scalar.cmpi .ne v7 v12
  let v14 : BitVec 32 := Scalar.remsi v1 c16_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg1
  let c0_i32_5 : BitVec 32 := 0#32
  let c0_i32_6 : BitVec 32 := 0#32
  let c0_i32_7 : BitVec 32 := 0#32
  ![c0_i32_5.toNat, v19.toNat, c0_i32_6.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4x16x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamGateBiasIdeal.lean ====
abbrev S4x8704x512 : Shape := ⟨3, ![4, 8704, 512]⟩
abbrev S16x512 : Shape := ⟨2, ![16, 512]⟩
abbrev S4x16x512 : Shape := ⟨3, ![4, 16, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x8704x512, .bf16⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S4x16x512, .bf16⟩
  | .hbm, ⟨5, _⟩ => ⟨S4x16x512, .f32⟩
  | .hbm, ⟨6, _⟩ => ⟨S_, .f32⟩
  | .hbm, ⟨7, _⟩ => ⟨S16x512, .f32⟩
  | .hbm, ⟨8, _⟩ => ⟨S_, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S16x512, .f32⟩
  | .hbm, ⟨23, _⟩ => ⟨S_, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | .hbm, ⟨37, _⟩ => ⟨S16x512, .f32⟩
  | .hbm, ⟨38, _⟩ => ⟨S_, .f32⟩
  | .hbm, ⟨39, _⟩ => ⟨S16x512, .f32⟩
  | .hbm, ⟨40, _⟩ => ⟨S16x512, .f32⟩
  | _, _ => ⟨S4x8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamIn.lean ====
abbrev S4x10240x512 : Shape := ⟨3, ![4, 10240, 512]⟩
abbrev S4096x2560 : Shape := ⟨2, ![4096, 2560]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 9
  | .vmem => 18
  | .smem => 0
  | _ => 0

abbrev bufTy : (tb : Table) → Fin (tcTables nBuf tb) → BufTy
  | .hbm, ⟨0, _⟩ => ⟨S4x10240x512, .bf16⟩
  | .hbm, ⟨1, _⟩ => ⟨S4x10240x512, .bf16⟩
  | .hbm, ⟨2, _⟩ => ⟨S4096x2560, .f32⟩
  | .hbm, ⟨3, _⟩ => ⟨S4096x2560, .f32⟩
  | .hbm, ⟨4, _⟩ => ⟨S4096x2560, .f32⟩
  | .hbm, ⟨5, _⟩ => ⟨S4096x2560, .f32⟩
  | .hbm, ⟨6, _⟩ => ⟨S4096x2560, .f32⟩
  | .hbm, ⟨7, _⟩ => ⟨S4096x2560, .f32⟩
  | .hbm, ⟨8, _⟩ => ⟨S4096x2560, .f32⟩
  | .local _ .vmem, ⟨0, _⟩ => ⟨S4x512x512, .bf16⟩
  | .local _ .vmem, ⟨1, _⟩ => ⟨S4x512x512, .bf16⟩
  | .local _ .vmem, ⟨2, _⟩ => ⟨S4x512x512, .bf16⟩
  | .local _ .vmem, ⟨3, _⟩ => ⟨S4x512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S4x10240x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![5, 8], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.subi arg1 c4_i32_0
  let c0_i32 : BitVec 32 := 0#32
  let v2 : BitVec 32 := Scalar.maxsi v1 c0_i32
  let v3 : BitVec 32 := Scalar.addi v0 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamInIdeal.lean ====
abbrev S4x10240x512 : Shape := ⟨3, ![4, 10240, 512]⟩
abbrev S4096x2560 : Shape := ⟨2, ![4096, 2560]⟩
abbrev S4x2048x512 : Shape := ⟨3, ![4, 2048, 512]⟩
abbrev S4x2048x2560 : Shape := ⟨3, ![4, 2048, 2560]⟩
abbrev S4x4096x2560 : Shape := ⟨3, ![4, 4096, 2560]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4x10240x512, .bf16⟩
  | .hbm, ⟨1, _⟩ => ⟨S4x10240x512, .bf16⟩
  | .hbm, ⟨2, _⟩ => ⟨S4096x2560, .f32⟩
  | .hbm, ⟨3, _⟩ => ⟨S4096x2560, .f32⟩
  | .hbm, ⟨4, _⟩ => ⟨S4096x2560, .f32⟩
  | .hbm, ⟨5, _⟩ => ⟨S4x2048x512, .bf16⟩
  | .hbm, ⟨6, _⟩ => ⟨S4x2048x512, .bf16⟩
  | .hbm, ⟨7, _⟩ => ⟨S4x2048x512, .bf16⟩
  | .hbm, ⟨8, _⟩ => ⟨S4x2048x512, .bf16⟩
  | .hbm, ⟨9, _⟩ => ⟨S4x2048x512, .bf16⟩
  | .hbm, ⟨10, _⟩ => ⟨S4x2048x2560, .bf16⟩
  | .hbm, ⟨11, _⟩ => ⟨S4x2048x512, .bf16⟩
  | .hbm, ⟨12, _⟩ => ⟨S4x2048x512, .bf16⟩
  | .hbm, ⟨13, _⟩ => ⟨S4x2048x512, .bf16⟩
  | .hbm, ⟨14, _⟩ => ⟨S4x2048x512, .bf16⟩
  | .hbm, ⟨15, _⟩ => ⟨S4x2048x512, .bf16⟩
  | .hbm, ⟨16, _⟩ => ⟨S4x2048x2560, .bf16⟩
  | .hbm, ⟨17, _⟩ => ⟨S4x4096x2560, .bf16⟩
  | .hbm, ⟨18, _⟩ => ⟨S4x4096x2560, .f32⟩
  | .hbm, ⟨19, _⟩ => ⟨S_, .f32⟩
  | .hbm, ⟨20, _⟩ => ⟨S4096x2560, .f32⟩
  | .hbm, ⟨21, _⟩ => ⟨S_, .f32⟩
  | .hbm, ⟨22, _⟩ => ⟨S4096x2560, .f32⟩
  | .hbm, ⟨23, _⟩ => ⟨S4096x2560, .f32⟩
  | .hbm, ⟨24, _⟩ => ⟨S_, .f32⟩
  | .hbm, ⟨25, _⟩ => ⟨S4096x2560, .f32⟩
  | .hbm, ⟨26, _⟩ => ⟨S4096x2560, .f32⟩
  | .hbm, ⟨27, _⟩ => ⟨S4096x2560, .f32⟩
  | .hbm, ⟨28, _⟩ => ⟨S_, .f32⟩
  | .hbm, ⟨29, _⟩ => ⟨S4096x2560, .f32⟩
  | .hbm, ⟨30, _⟩ => ⟨S4096x2560, .f32⟩
  | .hbm, ⟨31, _⟩ => ⟨S4096x2560, .f32⟩
  | .hbm, ⟨32, _⟩ => ⟨S_, .f32⟩
  | .hbm, ⟨33, _⟩ => ⟨S4096x2560, .f32⟩
  | .hbm, ⟨34, _⟩ => ⟨S4096x2560, .f32⟩
  | .hbm, ⟨35, _⟩ => ⟨S4096x2560, .f32⟩
  | .hbm, ⟨36, _⟩ => ⟨S_, .f32⟩
  | .hbm, ⟨37, _⟩ => ⟨S4096x2560, .f32⟩
  | .hbm, ⟨38, _⟩ => ⟨S4096x2560, .f32⟩
  | .hbm, ⟨39, _⟩ => ⟨S_, .f32⟩
  | .hbm, ⟨40, _⟩ => ⟨S4096x2560, .f32⟩
  | .hbm, ⟨41, _⟩ => ⟨S4096x2560, .f32⟩
  | .hbm, ⟨42, _⟩ => ⟨S4096x2560, .f32⟩
  | .hbm, ⟨43, _⟩ => ⟨S_, .f32⟩
  | .hbm, ⟨44, _⟩ => ⟨S4096x2560, .f32⟩
  | .hbm, ⟨45, _⟩ => ⟨S4096x2560, .f32⟩
  | .hbm, ⟨46, _⟩ => ⟨S4096x2560, .f32⟩
  | .hbm, ⟨47, _⟩ => ⟨S_, .f32⟩
  | .hbm, ⟨48, _⟩ => ⟨S4096x2560, .f32⟩
  | .hbm, ⟨49, _⟩ => ⟨S4096x2560, .f32⟩
  | .hbm, ⟨50, _⟩ => ⟨S4096x2560, .f32⟩
  | .hbm, ⟨51, _⟩ => ⟨S_, .f32⟩
  | .hbm, ⟨52, _⟩ => ⟨S4096x2560, .f32⟩
  | .hbm, ⟨53, _⟩ => ⟨S4096x2560, .f32⟩
  | _, _ => ⟨S4x10240x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== KernelBiasRows.lean ====
abbrev S16x384 : Shape := ⟨2, ![16, 384]⟩
abbrev S16x2048 : Shape := ⟨2, ![16, 2048]⟩
abbrev S384x2048 : Shape := ⟨2, ![384, 2048]⟩

abbrev nBuf : Space → Nat
  | .hbm => 2
  | .vmem => 2
  | .smem => 0
  | _ => 0

abbrev bufTy : (tb : Table) → Fin (tcTables nBuf tb) → BufTy
  | .hbm, ⟨0, _⟩ => ⟨S16x384, .f32⟩
  | .hbm, ⟨1, _⟩ => ⟨S16x2048, .f32⟩
  | .local _ .vmem, ⟨0, _⟩ => ⟨S16x384, .f32⟩
  | .local _ .vmem, ⟨1, _⟩ => ⟨S16x2048, .f32⟩
  | _, _ => ⟨S16x384, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceBiasRowsIdeal.lean ====
abbrev S16x384 : Shape := ⟨2, ![16, 384]⟩
abbrev S2048 : Shape := ⟨1, ![2048]⟩
abbrev S_ : Shape := ⟨0, ![]⟩
abbrev S2048x1 : Shape := ⟨2, ![2048, 1]⟩
abbrev S16x2048 : Shape := ⟨2, ![16, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16x384, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S2048x1, .i32⟩
  | .hbm, ⟨31, _⟩ => ⟨S16x2048, .f32⟩
  | _, _ => ⟨S16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_c_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v8 : Ref sig .tc := ⟨.hbm, 19, rfl⟩
abbrev main_c_4 : Ref sig .tc := ⟨.hbm, 20, rfl⟩
abbrev main_v9 : Ref sig .tc := ⟨.hbm, 21, rfl⟩
abbrev main_v10 : Ref sig .tc := ⟨.hbm, 22, rfl⟩
abbrev main_c_5 : Ref sig .tc := ⟨.hbm, 23, rfl⟩
abbrev main_v11 : Ref sig .tc := ⟨.hbm, 24, rfl⟩
abbrev main_v12 : Ref sig .tc := ⟨.hbm, 25, rfl⟩
abbrev main_c_6 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Proof.Dw.Order.lean ====
/- The order of the projections' columns. The gradient of the projections holds the columns of the two gates by turns, a tile of
   512 of the one and a tile of the other, where the weights hold all the columns of the one and then all of the other. -/
module

public import Mathlib.Data.EReal.Operations
public import Mathlib.Algebra.BigOperators.Fin

@[expose] public section

namespace Cert.Order

/-- The tile of the projections that holds the weights' tile `t` of 512 columns. -/
def pos (t : ℕ) : ℕ := if t < 24 then t else if t < 32 then 24 + 2 * (t - 24) else 24 + 2 * (t - 32) + 1

/-- The column of the projections that holds the weights' column `n`. -/
def src (n : ℕ) : ℕ := 512 * pos (n / 512) + n % 512

theorem pos_lt {t : ℕ} (h : t < 40) : pos t < 40 := by
  unfold pos
  split
  · omega
  · split <;> omega

theorem src_lt {n : ℕ} (h : n < 20480) : src n < 20480 := by
  have := pos_lt (show n / 512 < 40 by omega)
  unfold src
  omega

theorem src_tile {t c : ℕ} (hc : c < 512) : src (512 * t + c) = 512 * pos t + c := by
  unfold src
  rw [show (512 * t + c) / 512 = t by omega, show (512 * t + c) % 512 = c by omega]

theorem src_before {n : ℕ} (h : n < 12288) : src n = n := by
  unfold src pos
  rw [if_pos (by omega)]
  omega

/-- Column `c` of tile `b` of gate `a`. -/
theorem src_gate {a b c : ℕ} (ha : a < 2) (hb : b < 8) (hc : c < 512) :
    src (12288 + ((a * 8 + b) * 512 + c)) = 12288 + ((b * 2 + a) * 512 + c) := by
  rw [show 12288 + ((a * 8 + b) * 512 + c) = 512 * (24 + (a * 8 + b)) + c by ring, src_tile hc]
  unfold pos
  rw [if_neg (by omega)]
  split
  · obtain rfl : a = 0 := by omega
    omega
  · obtain rfl : a = 1 := by omega
    omega

/-- The column of the projections that holds the weights' column `n`, as an index. -/
def col (n : Fin 20480) : Fin 20480 := ⟨src n.val, src_lt n.isLt⟩

/-- A sum of products over the tokens: the weights' gradient at row `d` and column `n`. -/
noncomputable def dw (h : Fin 4096 → Fin 4096 → EReal) (g : Fin 4096 → Fin 20480 → EReal) (d : Fin 4096) (n : Fin 20480) : EReal :=
  ∑ s, h s d * g s (col n)

/-- The column of the weights in tile `y / 2048` of chip `2 q + p`. -/
def chipCol (p q y c : ℕ) : ℕ := 512 * ((q * 2 + p) * 5 + y / 2048) + c

theorem chipCol_lt {p q y c : ℕ} (hp : p < 2) (hq : q < 4) (hy : y < 10240) (hc : c < 512) : chipCol p q y c < 20480 := by
  unfold chipCol
  omega

end Cert.Order
-- ==== Proof.Dw.KernelLo.lean ====
/- What the kernel of the first half of the weights' gradient leaves in its result array. -/
module

public import proofs.«01_k».proof.Proof.Dw.Order
public import proofs.«01_k».proof.Proof.Gen.KernelDwLoIdeal.Value
public import Idealize.ShloMosaic.Lib.Pointwise
public import Idealize.ShloMosaic.Lib.ValueIdx
public import Idealize.ShloMosaic.Lib.IdealHost

@[expose] public section

set_option maxRecDepth 16384

noncomputable section

namespace Cert.KernelDwLoIdeal.Dw

open Cert.KernelDwLoIdeal Cert.KernelDwLoIdeal.Gen Cert.Order
open Idealize.ShloMosaic Idealize.ShloMosaic.TcCoe Idealize.ShloMosaic.Tactic

/-- A grid point's block: the rows' block and the tile of columns. -/
theorem idx_0 : ∀ t : Fin grid0.N, win0_0.index t 0 = 0 ∧ win0_0.index t 1 = 0 + t.val / 40 := by decide +kernel
theorem idx_1 : ∀ t : Fin grid0.N, win0_1.index t 0 = 0 ∧ win0_1.index t 1 = pos (t.val % 40) := by decide +kernel
theorem idx_2 : ∀ t : Fin grid0.N, win0_2.index t 0 = t.val % 40 / 5 % 2 ∧ win0_2.index t 1 = t.val % 40 / 5 / 2
    ∧ win0_2.index t 2 = t.val % 40 % 5 * 2 + t.val / 40 ∧ win0_2.index t 3 = 0 := by decide +kernel

/-- The body's product read at an index. -/
theorem pay1_at (x : Vec Ideal S4096x1024 .bf16) (y : Vec Ideal S4096x512 .bf16) (r : Fin 1024) (k : Fin 512) :
    k0_pay1 x y (ix4 0 0 r k) = ∑ s : Fin 4096, x (ix2 s r) * y (ix2 s k) := by
  unfold k0_pay1
  pointwise

theorem out_at (x : Vec Ideal S4096x1024 .bf16) (y : Vec Ideal S4096x512 .bf16) (r : Fin 1024) (k : Fin 512) :
    out0_2 x y (ix4 0 0 r k) = ∑ s : Fin 4096, x (ix2 s r) * y (ix2 s k) := by
  have z4 : (![0, 0, 0, 0] : Fin 4 → Nat) = fun _ => 0 := by decide
  have z2 : (![0, 0] : Fin 2 → Nat) = fun _ => 0 := by decide
  have e : out0_2 x y = k0_pay1 x y := by
    unfold out0_2 r0_2 r0_1 r0_0
    rw [View.canon_unit_zero z4, View.ld_unit_zero z2, View.ld_unit_zero z2]
  rw [e, pay1_at]

variable (m : (ℓ : Loc nD τ sig) → Buf (Elt Ideal) ℓ) (c : Dev nD)

/-- The hidden rows and the projections' gradient, as launched. -/
def H (s d : Fin 4096) : EReal := (m ((c : Thread nD τ).loc main_arg0) : Vec Ideal S4096x4096 .bf16) (ix2 s d)
def G (s : Fin 4096) (n : Fin 20480) : EReal := (m ((c : Thread nD τ).loc main_arg1) : Vec Ideal S4096x20480 .bf16) (ix2 s n)

theorem blk_0 (t : Fin cfg0.N) (s : Fin 4096) (r : Fin 1024) (d : Fin 4096) (h : d.val = 0 + 1024 * (t.val / 40) + r.val) :
    (iblk m c 0 t : Vec Ideal S4096x1024 .bf16) (ix2 s r) = H m c s d := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 4096 + 1 * s.val = s.val
              rw [(idx_0 t).1]; omega
  | ⟨1, _⟩ => show win0_0.index t 1 * 1024 + 1 * r.val = d.val
              rw [(idx_0 t).2]; omega

theorem blk_1 (t : Fin cfg0.N) (s : Fin 4096) (k : Fin 512) (n : Fin 20480) (h : n.val = 512 * pos (t.val % 40) + k.val) :
    (iblk m c 1 t : Vec Ideal S4096x512 .bf16) (ix2 s k) = G m c s n := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 4096 + 1 * s.val = s.val
              rw [(idx_1 t).1]; omega
  | ⟨1, _⟩ => show win0_1.index t 1 * 512 + 1 * k.val = n.val
              rw [(idx_1 t).2]; omega

/-- The result array: each chip's columns of the weights' gradient, its five tiles below one another. -/
def arr : Buf (Elt Ideal) ((c : Thread nD τ).loc main_v0) :=
  (fun i => dw (H m c) (G m c) ⟨0 + (i 2).val % 2048, by omega⟩
    ⟨chipCol (i 0).val (i 1).val (i 2).val (i 3).val, chipCol_lt (i 0).isLt (i 1).isLt (i 2).isLt (i 3).isLt⟩ : Vec Ideal S2x4x10240x512 .bf16)

theorem arr_at (j : S2x4x10240x512.Idx) (d : Fin 4096) (n : Fin 20480) (hd : d.val = 0 + (j 2).val % 2048)
    (hn : n.val = chipCol (j 0).val (j 1).val (j 2).val (j 3).val) : (arr m c : Vec Ideal S2x4x10240x512 .bf16) j = dw (H m c) (G m c) d n := by
  show dw (H m c) (G m c) _ _ = _
  congr 1
  · exact Fin.ext hd.symm
  · exact Fin.ext hn.symm

theorem flushed_2 (t : Fin cfg0.N) (hf : (cfg0.win 2).flush t = true) :
    (dats m 0 c).flushed 2 t = ((cfg0.win 2).blk t).view.read (Elt Ideal) (arr m c) := by
  rw [Value.flushed2]
  have ht : t.val < 80 := t.isLt
  funext i
  rw [View.read_apply]
  have h2 : (i 2).val < 1024 := (i 2).isLt
  have h3 : (i 3).val < 512 := (i 3).isLt
  have h0 : (i 0).val < 1 := (i 0).isLt
  have h1 : (i 1).val < 1 := (i 1).isLt
  have e : (cfg0.win 2).cut (grid0.coords t) (out0_2 (iblk m c 0 t) (iblk m c 1 t)) i
      = out0_2 (iblk m c 0 t) (iblk m c 1 t) (ix4 0 0 ⟨(i 2).val, h2⟩ ⟨(i 3).val, h3⟩) := by
    refine congrArg (out0_2 (iblk m c 0 t) (iblk m c 1 t)) (funext fun a => Fin.ext ?_)
    match a with
    | ⟨0, _⟩ => show (i 0).val = 0; omega
    | ⟨1, _⟩ => show (i 1).val = 0; omega
    | ⟨2, _⟩ => rfl
    | ⟨3, _⟩ => rfl
  refine e.trans ((out_at _ _ _ _).trans ?_)
  refine ((arr_at m c (((cfg0.win 2).blk t).view.emb i) ⟨0 + 1024 * (t.val / 40) + (i 2).val, by omega⟩
    ⟨512 * (t.val % 40) + (i 3).val, by omega⟩ ?_ ?_).trans ?_).symm
  · show 0 + 1024 * (t.val / 40) + (i 2).val = 0 + (win0_2.index t 2 * 1024 + 1 * (i 2).val) % 2048
    rw [(idx_2 t).2.2.1]; omega
  · show 512 * (t.val % 40) + (i 3).val = chipCol (win0_2.index t 0 * 1 + 1 * (i 0).val) (win0_2.index t 1 * 1 + 1 * (i 1).val)
      (win0_2.index t 2 * 1024 + 1 * (i 2).val) (win0_2.index t 3 * 512 + 1 * (i 3).val)
    rw [(idx_2 t).1, (idx_2 t).2.1, (idx_2 t).2.2.1, (idx_2 t).2.2.2]
    unfold chipCol
    omega
  · show (∑ s : Fin 4096, _ : EReal) = (∑ s : Fin 4096, _ : EReal)
    refine Finset.sum_congr rfl fun s _ => ?_
    exact (congrArg₂ (fun x y : EReal => x * y) (blk_0 m c t s ⟨(i 2).val, h2⟩ ⟨0 + 1024 * (t.val / 40) + (i 2).val, by omega⟩ rfl)
      (blk_1 m c t s ⟨(i 3).val, h3⟩ (col ⟨512 * (t.val % 40) + (i 3).val, by omega⟩) (src_tile h3))).symm

theorem final_2 : (dats m 0 c).arrAt 2 cfg0.N = arr m c :=
  (dats m 0 c).arrAt_eq_of_cover 2 (arr m c) (flushed_2 m c) fun i => by
    have h0 : (i 0 : Nat) < 2 := (i 0).isLt
    have h1 : (i 1 : Nat) < 4 := (i 1).isLt
    have h2 : (i 2 : Nat) < 10240 := (i 2).isLt
    have h3 : (i 3 : Nat) < 512 := (i 3).isLt
    let t : Fin cfg0.N := ⟨40 * ((i 2 : Nat) % 2048 / 1024) + (((i 1 : Nat) * 2 + (i 0 : Nat)) * 5 + (i 2 : Nat) / 2048), by show _ < 80; omega⟩
    have hm : t.val % 40 = ((i 1 : Nat) * 2 + (i 0 : Nat)) * 5 + (i 2 : Nat) / 2048 := by simp only [t]; omega
    have hv : t.val / 40 = (i 2 : Nat) % 2048 / 1024 := by simp only [t]; omega
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [(idx_2 t).1]; omega
    | ⟨1, _⟩ => show win0_2.index t 1 * 1 ≤ (i 1 : Nat) ∧ (i 1 : Nat) < win0_2.index t 1 * 1 + 1
                rw [(idx_2 t).2.1]; omega
    | ⟨2, _⟩ => show win0_2.index t 2 * 1024 ≤ (i 2 : Nat) ∧ (i 2 : Nat) < win0_2.index t 2 * 1024 + 1024
                rw [(idx_2 t).2.2.1]; omega
    | ⟨3, _⟩ => show win0_2.index t 3 * 512 ≤ (i 3 : Nat) ∧ (i 3 : Nat) < win0_2.index t 3 * 512 + 512
                rw [(idx_2 t).2.2.2]; omega

end Cert.KernelDwLoIdeal.Dw

end
-- ==== Proof.Dw.RefLo.lean ====
/- What the reference of the first half of the weights' gradient leaves in its result array. -/
module

public import proofs.«01_k».proof.Proof.Dw.Order
public import proofs.«01_k».proof.Proof.Gen.ReferenceDwLoIdeal.Read
public import Idealize.ShloMosaic.Lib.Pointwise
public import Idealize.ShloMosaic.Lib.ValueIdx
public import Idealize.ShloMosaic.Lib.IdealHost

@[expose] public section

set_option maxRecDepth 16384

noncomputable section

namespace Cert.ReferenceDwLoIdeal.Dw

open Cert.ReferenceDwLoIdeal Cert.ReferenceDwLoIdeal.Gen Cert.ReferenceDwLoIdeal.Read Cert.Order
open Idealize.ShloMosaic Idealize.ShloMosaic.TcCoe Idealize.ShloMosaic.Tactic

variable (x0 : Vec Ideal S4096x4096 .bf16) (x1 : Vec Ideal S4096x20480 .bf16)

/-- Column `k` of tile `b` of gate `a`, out of the tiles by turns. -/
theorem gate_at (s : Fin 4096) (a : Fin 2) (b : Fin 8) (k : Fin 512) :
    val_main_v6 (F := Ideal) x1 (ix2 s ⟨(a.val * 8 + b.val) * 512 + k.val, by omega⟩)
      = x1 (ix2 s ⟨12288 + ((b.val * 2 + a.val) * 512 + k.val), by omega⟩) := by
  rw [val_main_v6_apply]
  have e6 : idx_main_v6 (ix2 s ⟨(a.val * 8 + b.val) * 512 + k.val, by omega⟩) = ix4 s a b k := funext fun d => Fin.ext (match d with
    | ⟨0, _⟩ => by show (s.val * 8192 + ((a.val * 8 + b.val) * 512 + k.val)) / 8192 = s.val; omega
    | ⟨1, _⟩ => by show (s.val * 8192 + ((a.val * 8 + b.val) * 512 + k.val)) / 4096 % 2 = a.val; omega
    | ⟨2, _⟩ => by show (s.val * 8192 + ((a.val * 8 + b.val) * 512 + k.val)) / 512 % 8 = b.val; omega
    | ⟨3, _⟩ => by show (s.val * 8192 + ((a.val * 8 + b.val) * 512 + k.val)) % 512 = k.val; omega)
  rw [e6, val_main_v5_apply, val_main_v4_apply, val_main_v3_apply]
  refine congrArg x1 (funext fun d => Fin.ext ?_)
  match d with
  | ⟨0, _⟩ => show (((s.val * 8 + b.val) * 2 + a.val) * 512 + k.val) / 8192 = s.val; omega
  | ⟨1, _⟩ => show 12288 + (((s.val * 8 + b.val) * 2 + a.val) * 512 + k.val) % 8192 = 12288 + ((b.val * 2 + a.val) * 512 + k.val); omega

/-- The gradient's columns in the weights' order. -/
theorem cols_at (s : Fin 4096) (n : Fin 20480) : val_main_v8 (F := Ideal) x1 (ix2 s n) = x1 (ix2 s (col n)) := by
  have hn := n.isLt
  unfold val_main_v8
  rw [concatenate_pair_apply]
  split
  · next hlt =>
    have h : n.val < 12288 := hlt
    rw [val_main_v7_apply]
    refine congrArg x1 (funext fun a => Fin.ext ?_)
    match a with
    | ⟨0, _⟩ => rfl
    | ⟨1, _⟩ => exact (src_before h).symm
  · next hlt =>
    have h : ¬ n.val < 12288 := hlt
    have e := gate_at x1 s ⟨(n.val - 12288) / 4096, by omega⟩ ⟨(n.val - 12288) / 512 % 8, by omega⟩ ⟨n.val % 512, by omega⟩
    refine Eq.trans (congrArg (val_main_v6 (F := Ideal) x1) (funext fun a => Fin.ext ?_)) (e.trans
      (congrArg (fun n => x1 (ix2 s n)) (Fin.ext ?_)))
    · match a with
      | ⟨0, _⟩ => rfl
      | ⟨1, _⟩ => show n.val - 12288 = ((n.val - 12288) / 4096 * 8 + (n.val - 12288) / 512 % 8) * 512 + n.val % 512; omega
    · refine (src_gate (a := (n.val - 12288) / 4096) (b := (n.val - 12288) / 512 % 8) (c := n.val % 512) (by omega) (by omega) (by omega)).symm.trans ?_
      refine congrArg src ?_
      show 12288 + (((n.val - 12288) / 4096 * 8 + (n.val - 12288) / 512 % 8) * 512 + n.val % 512) = n.val
      omega

/-- The gradient of the weights at row `d` and column `n`. -/
theorem dw_at (d : Fin 4096) (n : Fin 20480) : val_main_v12 (F := Ideal) x0 x1 (ix2 d n)
    = dw (fun s d => x0 (ix2 s d)) (fun s n => x1 (ix2 s n)) d n := by
  rw [val_main_v12_apply, val_main_v11_apply, val_main_v10_apply]
  show (∑ k : Fin 4096, _) = _
  unfold dw
  refine Finset.sum_congr rfl fun s _ => ?_
  have e1 : lidx_main_v10 (idx_main_v11 (ix2 d n)) s = ix2 s n := funext fun a => match a with
    | ⟨0, _⟩ => rfl
    | ⟨1, _⟩ => rfl
  have e2 : ridx_main_v10 (idx_main_v11 (ix2 d n)) s = ix2 s d := funext fun a => match a with
    | ⟨0, _⟩ => rfl
    | ⟨1, _⟩ => rfl
  rw [e1, e2, val_main_v9_apply, val_main_v1_apply, cols_at, mul_comm]
  rfl

/-- The result: each chip's columns, its five tiles below one another. -/
theorem result_at (i : S2x4x10240x512.Idx) (d : Fin 4096) (n : Fin 20480) (hd : d.val = 0 + (i 2).val % 2048)
    (hn : n.val = chipCol (i 0).val (i 1).val (i 2).val (i 3).val) : val_main_v16 (F := Ideal) x0 x1 i
    = dw (fun s d => x0 (ix2 s d)) (fun s n => x1 (ix2 s n)) d n := by
  have h0 : (i 0).val < 2 := (i 0).isLt
  have h1 : (i 1).val < 4 := (i 1).isLt
  have h2 : (i 2).val < 10240 := (i 2).isLt
  have h3 : (i 3).val < 512 := (i 3).isLt
  unfold chipCol at hn
  have e16 : idx_main_v16 i = ix5 ⟨(i 0).val, h0⟩ ⟨(i 1).val, h1⟩ ⟨(i 2).val / 2048, by omega⟩ ⟨(i 2).val % 2048, by omega⟩ ⟨(i 3).val, h3⟩ :=
    funext fun a => Fin.ext (match a with
    | ⟨0, _⟩ => by show ((((i 0).val * 4 + (i 1).val) * 10240 + (i 2).val) * 512 + (i 3).val) / 20971520 = (i 0).val; omega
    | ⟨1, _⟩ => by show ((((i 0).val * 4 + (i 1).val) * 10240 + (i 2).val) * 512 + (i 3).val) / 5242880 % 4 = (i 1).val; omega
    | ⟨2, _⟩ => by show ((((i 0).val * 4 + (i 1).val) * 10240 + (i 2).val) * 512 + (i 3).val) / 1048576 % 5 = (i 2).val / 2048; omega
    | ⟨3, _⟩ => by show ((((i 0).val * 4 + (i 1).val) * 10240 + (i 2).val) * 512 + (i 3).val) / 512 % 2048 = (i 2).val % 2048; omega
    | ⟨4, _⟩ => by show ((((i 0).val * 4 + (i 1).val) * 10240 + (i 2).val) * 512 + (i 3).val) % 512 = (i 3).val; omega)
  rw [val_main_v16_apply, e16, val_main_v15_apply, val_main_v14_apply, val_main_v13_apply, ← dw_at]
  refine congrArg (val_main_v12 (F := Ideal) x0 x1) (funext fun a => Fin.ext ?_)
  match a with
  | ⟨0, _⟩ =>
    show (((((i 2).val % 2048 * 4 + (i 1).val) * 2 + (i 0).val) * 5 + (i 2).val / 2048) * 512 + (i 3).val) / 20480 = d.val
    omega
  | ⟨1, _⟩ =>
    show (((((i 2).val % 2048 * 4 + (i 1).val) * 2 + (i 0).val) * 5 + (i 2).val / 2048) * 512 + (i 3).val) % 20480 = n.val
    omega

end Cert.ReferenceDwLoIdeal.Dw

end
-- ==== Proof.Dw.Lo.lean ====
/- The first half of the weights' gradient: the kernel's result (Dw/KernelLo.lean) is the reference's (Dw/RefLo.lean). -/
module

public import proofs.«01_k».proof.Defs
public import proofs.«01_k».proof.Proof.Dw.KernelLo
public import proofs.«01_k».proof.Proof.Dw.RefLo
public import proofs.«01_k».proof.Proof.Gen.KernelDwLo
public import proofs.«01_k».proof.Proof.Gen.KernelDwLo.Frame
public import proofs.«01_k».proof.Proof.Gen.ReferenceDwLoIdeal.Run
public import Idealize.ShloMosaic.Lib.QuiescentFlight
public import Idealize.ShloMosaic.Init

@[expose] public section

set_option maxRecDepth 16384

noncomputable section

namespace Cert.Proof.DwLo

open Idealize.ShloMosaic Idealize.ShloMosaic.TcCoe Idealize.SL.Sem

theorem frame_R : Cert.quiescent_ReferenceDwLoIdeal := fun m g _ =>
  (θ_run Cert.ReferenceDwLoIdeal.defs _ _).mono (fun r h => ⟨fun c => (h c).2, sem_eq_zero_of_no_sems (by decide) r.2⟩)
    (Cert.ReferenceDwLoIdeal.Value.run (F := Ideal) m g)

theorem algebraic : Cert.algebraic_KernelDwLoIdeal_ReferenceDwLoIdeal := by
  intro m g m' g' _ hagree
  refine ⟨Cert.KernelDwLoIdeal.Dw.arr m, ?_, ?_⟩
  · exact (θ_run _ _ _).mono (fun _ h c => ⟨(h c).1.trans (Cert.KernelDwLoIdeal.Dw.final_2 m c), (h c).2⟩)
      (Cert.KernelDwLoIdeal.Value.run_blocks (F := Ideal) m g)
  · refine (θ_run _ _ _).mono (fun _ h c => ⟨(h c).1.trans ?_, (h c).2⟩) (Cert.ReferenceDwLoIdeal.Value.run (F := Ideal) m' g')
    obtain ⟨a0, a1⟩ := hagree c
    rw [Cert.ReferenceDwLoIdeal.Read.val_main_v16_eq, a0, a1]
    funext j
    exact Cert.ReferenceDwLoIdeal.Dw.result_at _ _ j _ _ rfl rfl

end Cert.Proof.DwLo

end
-- ==== Proof.Dw.KernelHi.lean ====
/- What the kernel of the second half of the weights' gradient leaves in its result array. -/
module

public import proofs.«01_k».proof.Proof.Dw.Order
public import proofs.«01_k».proof.Proof.Gen.KernelDwHiIdeal.Value
public import Idealize.ShloMosaic.Lib.Pointwise
public import Idealize.ShloMosaic.Lib.ValueIdx
public import Idealize.ShloMosaic.Lib.IdealHost

@[expose] public section

set_option maxRecDepth 16384

noncomputable section

namespace Cert.KernelDwHiIdeal.Dw

open Cert.KernelDwHiIdeal Cert.KernelDwHiIdeal.Gen Cert.Order
open Idealize.ShloMosaic Idealize.ShloMosaic.TcCoe Idealize.ShloMosaic.Tactic

/-- A grid point's block: the rows' block and the tile of columns. -/
theorem idx_0 : ∀ t : Fin grid0.N, win0_0.index t 0 = 0 ∧ win0_0.index t 1 = 2 + t.val / 40 := by decide +kernel
theorem idx_1 : ∀ t : Fin grid0.N, win0_1.index t 0 = 0 ∧ win0_1.index t 1 = pos (t.val % 40) := by decide +kernel
theorem idx_2 : ∀ t : Fin grid0.N, win0_2.index t 0 = t.val % 40 / 5 % 2 ∧ win0_2.index t 1 = t.val % 40 / 5 / 2
    ∧ win0_2.index t 2 = t.val % 40 % 5 * 2 + t.val / 40 ∧ win0_2.index t 3 = 0 := by decide +kernel

/-- The body's product read at an index. -/
theorem pay1_at (x : Vec Ideal S4096x1024 .bf16) (y : Vec Ideal S4096x512 .bf16) (r : Fin 1024) (k : Fin 512) :
    k0_pay1 x y (ix4 0 0 r k) = ∑ s : Fin 4096, x (ix2 s r) * y (ix2 s k) := by
  unfold k0_pay1
  pointwise

theorem out_at (x : Vec Ideal S4096x1024 .bf16) (y : Vec Ideal S4096x512 .bf16) (r : Fin 1024) (k : Fin 512) :
    out0_2 x y (ix4 0 0 r k) = ∑ s : Fin 4096, x (ix2 s r) * y (ix2 s k) := by
  have z4 : (![0, 0, 0, 0] : Fin 4 → Nat) = fun _ => 0 := by decide
  have z2 : (![0, 0] : Fin 2 → Nat) = fun _ => 0 := by decide
  have e : out0_2 x y = k0_pay1 x y := by
    unfold out0_2 r0_2 r0_1 r0_0
    rw [View.canon_unit_zero z4, View.ld_unit_zero z2, View.ld_unit_zero z2]
  rw [e, pay1_at]

variable (m : (ℓ : Loc nD τ sig) → Buf (Elt Ideal) ℓ) (c : Dev nD)

/-- The hidden rows and the projections' gradient, as launched. -/
def H (s d : Fin 4096) : EReal := (m ((c : Thread nD τ).loc main_arg0) : Vec Ideal S4096x4096 .bf16) (ix2 s d)
def G (s : Fin 4096) (n : Fin 20480) : EReal := (m ((c : Thread nD τ).loc main_arg1) : Vec Ideal S4096x20480 .bf16) (ix2 s n)

theorem blk_0 (t : Fin cfg0.N) (s : Fin 4096) (r : Fin 1024) (d : Fin 4096) (h : d.val = 2048 + 1024 * (t.val / 40) + r.val) :
    (iblk m c 0 t : Vec Ideal S4096x1024 .bf16) (ix2 s r) = H m c s d := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 4096 + 1 * s.val = s.val
              rw [(idx_0 t).1]; omega
  | ⟨1, _⟩ => show win0_0.index t 1 * 1024 + 1 * r.val = d.val
              rw [(idx_0 t).2]; omega

theorem blk_1 (t : Fin cfg0.N) (s : Fin 4096) (k : Fin 512) (n : Fin 20480) (h : n.val = 512 * pos (t.val % 40) + k.val) :
    (iblk m c 1 t : Vec Ideal S4096x512 .bf16) (ix2 s k) = G m c s n := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 4096 + 1 * s.val = s.val
              rw [(idx_1 t).1]; omega
  | ⟨1, _⟩ => show win0_1.index t 1 * 512 + 1 * k.val = n.val
              rw [(idx_1 t).2]; omega

/-- The result array: each chip's columns of the weights' gradient, its five tiles below one another. -/
def arr : Buf (Elt Ideal) ((c : Thread nD τ).loc main_v0) :=
  (fun i => dw (H m c) (G m c) ⟨2048 + (i 2).val % 2048, by omega⟩
    ⟨chipCol (i 0).val (i 1).val (i 2).val (i 3).val, chipCol_lt (i 0).isLt (i 1).isLt (i 2).isLt (i 3).isLt⟩ : Vec Ideal S2x4x10240x512 .bf16)

theorem arr_at (j : S2x4x10240x512.Idx) (d : Fin 4096) (n : Fin 20480) (hd : d.val = 2048 + (j 2).val % 2048)
    (hn : n.val = chipCol (j 0).val (j 1).val (j 2).val (j 3).val) : (arr m c : Vec Ideal S2x4x10240x512 .bf16) j = dw (H m c) (G m c) d n := by
  show dw (H m c) (G m c) _ _ = _
  congr 1
  · exact Fin.ext hd.symm
  · exact Fin.ext hn.symm

theorem flushed_2 (t : Fin cfg0.N) (hf : (cfg0.win 2).flush t = true) :
    (dats m 0 c).flushed 2 t = ((cfg0.win 2).blk t).view.read (Elt Ideal) (arr m c) := by
  rw [Value.flushed2]
  have ht : t.val < 80 := t.isLt
  funext i
  rw [View.read_apply]
  have h2 : (i 2).val < 1024 := (i 2).isLt
  have h3 : (i 3).val < 512 := (i 3).isLt
  have h0 : (i 0).val < 1 := (i 0).isLt
  have h1 : (i 1).val < 1 := (i 1).isLt
  have e : (cfg0.win 2).cut (grid0.coords t) (out0_2 (iblk m c 0 t) (iblk m c 1 t)) i
      = out0_2 (iblk m c 0 t) (iblk m c 1 t) (ix4 0 0 ⟨(i 2).val, h2⟩ ⟨(i 3).val, h3⟩) := by
    refine congrArg (out0_2 (iblk m c 0 t) (iblk m c 1 t)) (funext fun a => Fin.ext ?_)
    match a with
    | ⟨0, _⟩ => show (i 0).val = 0; omega
    | ⟨1, _⟩ => show (i 1).val = 0; omega
    | ⟨2, _⟩ => rfl
    | ⟨3, _⟩ => rfl
  refine e.trans ((out_at _ _ _ _).trans ?_)
  refine ((arr_at m c (((cfg0.win 2).blk t).view.emb i) ⟨2048 + 1024 * (t.val / 40) + (i 2).val, by omega⟩
    ⟨512 * (t.val % 40) + (i 3).val, by omega⟩ ?_ ?_).trans ?_).symm
  · show 2048 + 1024 * (t.val / 40) + (i 2).val = 2048 + (win0_2.index t 2 * 1024 + 1 * (i 2).val) % 2048
    rw [(idx_2 t).2.2.1]; omega
  · show 512 * (t.val % 40) + (i 3).val = chipCol (win0_2.index t 0 * 1 + 1 * (i 0).val) (win0_2.index t 1 * 1 + 1 * (i 1).val)
      (win0_2.index t 2 * 1024 + 1 * (i 2).val) (win0_2.index t 3 * 512 + 1 * (i 3).val)
    rw [(idx_2 t).1, (idx_2 t).2.1, (idx_2 t).2.2.1, (idx_2 t).2.2.2]
    unfold chipCol
    omega
  · show (∑ s : Fin 4096, _ : EReal) = (∑ s : Fin 4096, _ : EReal)
    refine Finset.sum_congr rfl fun s _ => ?_
    exact (congrArg₂ (fun x y : EReal => x * y) (blk_0 m c t s ⟨(i 2).val, h2⟩ ⟨2048 + 1024 * (t.val / 40) + (i 2).val, by omega⟩ rfl)
      (blk_1 m c t s ⟨(i 3).val, h3⟩ (col ⟨512 * (t.val % 40) + (i 3).val, by omega⟩) (src_tile h3))).symm

theorem final_2 : (dats m 0 c).arrAt 2 cfg0.N = arr m c :=
  (dats m 0 c).arrAt_eq_of_cover 2 (arr m c) (flushed_2 m c) fun i => by
    have h0 : (i 0 : Nat) < 2 := (i 0).isLt
    have h1 : (i 1 : Nat) < 4 := (i 1).isLt
    have h2 : (i 2 : Nat) < 10240 := (i 2).isLt
    have h3 : (i 3 : Nat) < 512 := (i 3).isLt
    let t : Fin cfg0.N := ⟨40 * ((i 2 : Nat) % 2048 / 1024) + (((i 1 : Nat) * 2 + (i 0 : Nat)) * 5 + (i 2 : Nat) / 2048), by show _ < 80; omega⟩
    have hm : t.val % 40 = ((i 1 : Nat) * 2 + (i 0 : Nat)) * 5 + (i 2 : Nat) / 2048 := by simp only [t]; omega
    have hv : t.val / 40 = (i 2 : Nat) % 2048 / 1024 := by simp only [t]; omega
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [(idx_2 t).1]; omega
    | ⟨1, _⟩ => show win0_2.index t 1 * 1 ≤ (i 1 : Nat) ∧ (i 1 : Nat) < win0_2.index t 1 * 1 + 1
                rw [(idx_2 t).2.1]; omega
    | ⟨2, _⟩ => show win0_2.index t 2 * 1024 ≤ (i 2 : Nat) ∧ (i 2 : Nat) < win0_2.index t 2 * 1024 + 1024
                rw [(idx_2 t).2.2.1]; omega
    | ⟨3, _⟩ => show win0_2.index t 3 * 512 ≤ (i 3 : Nat) ∧ (i 3 : Nat) < win0_2.index t 3 * 512 + 512
                rw [(idx_2 t).2.2.2]; omega

end Cert.KernelDwHiIdeal.Dw

end
-- ==== Proof.Dw.RefHi.lean ====
/- What the reference of the second half of the weights' gradient leaves in its result array. -/
module

public import proofs.«01_k».proof.Proof.Dw.Order
public import proofs.«01_k».proof.Proof.Gen.ReferenceDwHiIdeal.Read
public import Idealize.ShloMosaic.Lib.Pointwise
public import Idealize.ShloMosaic.Lib.ValueIdx
public import Idealize.ShloMosaic.Lib.IdealHost

@[expose] public section

set_option maxRecDepth 16384

noncomputable section

namespace Cert.ReferenceDwHiIdeal.Dw

open Cert.ReferenceDwHiIdeal Cert.ReferenceDwHiIdeal.Gen Cert.ReferenceDwHiIdeal.Read Cert.Order
open Idealize.ShloMosaic Idealize.ShloMosaic.TcCoe Idealize.ShloMosaic.Tactic

variable (x0 : Vec Ideal S4096x4096 .bf16) (x1 : Vec Ideal S4096x20480 .bf16)

/-- Column `k` of tile `b` of gate `a`, out of the tiles by turns. -/
theorem gate_at (s : Fin 4096) (a : Fin 2) (b : Fin 8) (k : Fin 512) :
    val_main_v6 (F := Ideal) x1 (ix2 s ⟨(a.val * 8 + b.val) * 512 + k.val, by omega⟩)
      = x1 (ix2 s ⟨12288 + ((b.val * 2 + a.val) * 512 + k.val), by omega⟩) := by
  rw [val_main_v6_apply]
  have e6 : idx_main_v6 (ix2 s ⟨(a.val * 8 + b.val) * 512 + k.val, by omega⟩) = ix4 s a b k := funext fun d => Fin.ext (match d with
    | ⟨0, _⟩ => by show (s.val * 8192 + ((a.val * 8 + b.val) * 512 + k.val)) / 8192 = s.val; omega
    | ⟨1, _⟩ => by show (s.val * 8192 + ((a.val * 8 + b.val) * 512 + k.val)) / 4096 % 2 = a.val; omega
    | ⟨2, _⟩ => by show (s.val * 8192 + ((a.val * 8 + b.val) * 512 + k.val)) / 512 % 8 = b.val; omega
    | ⟨3, _⟩ => by show (s.val * 8192 + ((a.val * 8 + b.val) * 512 + k.val)) % 512 = k.val; omega)
  rw [e6, val_main_v5_apply, val_main_v4_apply, val_main_v3_apply]
  refine congrArg x1 (funext fun d => Fin.ext ?_)
  match d with
  | ⟨0, _⟩ => show (((s.val * 8 + b.val) * 2 + a.val) * 512 + k.val) / 8192 = s.val; omega
  | ⟨1, _⟩ => show 12288 + (((s.val * 8 + b.val) * 2 + a.val) * 512 + k.val) % 8192 = 12288 + ((b.val * 2 + a.val) * 512 + k.val); omega

/-- The gradient's columns in the weights' order. -/
theorem cols_at (s : Fin 4096) (n : Fin 20480) : val_main_v8 (F := Ideal) x1 (ix2 s n) = x1 (ix2 s (col n)) := by
  have hn := n.isLt
  unfold val_main_v8
  rw [concatenate_pair_apply]
  split
  · next hlt =>
    have h : n.val < 12288 := hlt
    rw [val_main_v7_apply]
    refine congrArg x1 (funext fun a => Fin.ext ?_)
    match a with
    | ⟨0, _⟩ => rfl
    | ⟨1, _⟩ => exact (src_before h).symm
  · next hlt =>
    have h : ¬ n.val < 12288 := hlt
    have e := gate_at x1 s ⟨(n.val - 12288) / 4096, by omega⟩ ⟨(n.val - 12288) / 512 % 8, by omega⟩ ⟨n.val % 512, by omega⟩
    refine Eq.trans (congrArg (val_main_v6 (F := Ideal) x1) (funext fun a => Fin.ext ?_)) (e.trans
      (congrArg (fun n => x1 (ix2 s n)) (Fin.ext ?_)))
    · match a with
      | ⟨0, _⟩ => rfl
      | ⟨1, _⟩ => show n.val - 12288 = ((n.val - 12288) / 4096 * 8 + (n.val - 12288) / 512 % 8) * 512 + n.val % 512; omega
    · refine (src_gate (a := (n.val - 12288) / 4096) (b := (n.val - 12288) / 512 % 8) (c := n.val % 512) (by omega) (by omega) (by omega)).symm.trans ?_
      refine congrArg src ?_
      show 12288 + (((n.val - 12288) / 4096 * 8 + (n.val - 12288) / 512 % 8) * 512 + n.val % 512) = n.val
      omega

/-- The gradient of the weights at row `d` and column `n`. -/
theorem dw_at (d : Fin 4096) (n : Fin 20480) : val_main_v12 (F := Ideal) x0 x1 (ix2 d n)
    = dw (fun s d => x0 (ix2 s d)) (fun s n => x1 (ix2 s n)) d n := by
  rw [val_main_v12_apply, val_main_v11_apply, val_main_v10_apply]
  show (∑ k : Fin 4096, _) = _
  unfold dw
  refine Finset.sum_congr rfl fun s _ => ?_
  have e1 : lidx_main_v10 (idx_main_v11 (ix2 d n)) s = ix2 s n := funext fun a => match a with
    | ⟨0, _⟩ => rfl
    | ⟨1, _⟩ => rfl
  have e2 : ridx_main_v10 (idx_main_v11 (ix2 d n)) s = ix2 s d := funext fun a => match a with
    | ⟨0, _⟩ => rfl
    | ⟨1, _⟩ => rfl
  rw [e1, e2, val_main_v9_apply, val_main_v1_apply, cols_at, mul_comm]
  rfl

/-- The result: each chip's columns, its five tiles below one another. -/
theorem result_at (i : S2x4x10240x512.Idx) (d : Fin 4096) (n : Fin 20480) (hd : d.val = 2048 + (i 2).val % 2048)
    (hn : n.val = chipCol (i 0).val (i 1).val (i 2).val (i 3).val) : val_main_v16 (F := Ideal) x0 x1 i
    = dw (fun s d => x0 (ix2 s d)) (fun s n => x1 (ix2 s n)) d n := by
  have h0 : (i 0).val < 2 := (i 0).isLt
  have h1 : (i 1).val < 4 := (i 1).isLt
  have h2 : (i 2).val < 10240 := (i 2).isLt
  have h3 : (i 3).val < 512 := (i 3).isLt
  unfold chipCol at hn
  have e16 : idx_main_v16 i = ix5 ⟨(i 0).val, h0⟩ ⟨(i 1).val, h1⟩ ⟨(i 2).val / 2048, by omega⟩ ⟨(i 2).val % 2048, by omega⟩ ⟨(i 3).val, h3⟩ :=
    funext fun a => Fin.ext (match a with
    | ⟨0, _⟩ => by show ((((i 0).val * 4 + (i 1).val) * 10240 + (i 2).val) * 512 + (i 3).val) / 20971520 = (i 0).val; omega
    | ⟨1, _⟩ => by show ((((i 0).val * 4 + (i 1).val) * 10240 + (i 2).val) * 512 + (i 3).val) / 5242880 % 4 = (i 1).val; omega
    | ⟨2, _⟩ => by show ((((i 0).val * 4 + (i 1).val) * 10240 + (i 2).val) * 512 + (i 3).val) / 1048576 % 5 = (i 2).val / 2048; omega
    | ⟨3, _⟩ => by show ((((i 0).val * 4 + (i 1).val) * 10240 + (i 2).val) * 512 + (i 3).val) / 512 % 2048 = (i 2).val % 2048; omega
    | ⟨4, _⟩ => by show ((((i 0).val * 4 + (i 1).val) * 10240 + (i 2).val) * 512 + (i 3).val) % 512 = (i 3).val; omega)
  rw [val_main_v16_apply, e16, val_main_v15_apply, val_main_v14_apply, val_main_v13_apply, ← dw_at]
  refine congrArg (val_main_v12 (F := Ideal) x0 x1) (funext fun a => Fin.ext ?_)
  match a with
  | ⟨0, _⟩ =>
    show 2048 + (((((i 2).val % 2048 * 4 + (i 1).val) * 2 + (i 0).val) * 5 + (i 2).val / 2048) * 512 + (i 3).val) / 20480 = d.val
    omega
  | ⟨1, _⟩ =>
    show (((((i 2).val % 2048 * 4 + (i 1).val) * 2 + (i 0).val) * 5 + (i 2).val / 2048) * 512 + (i 3).val) % 20480 = n.val
    omega

end Cert.ReferenceDwHiIdeal.Dw

end
-- ==== Proof.Dw.Hi.lean ====
/- The second half of the weights' gradient: the kernel's result (Dw/KernelHi.lean) is the reference's (Dw/RefHi.lean). -/
module

public import proofs.«01_k».proof.Defs
public import proofs.«01_k».proof.Proof.Dw.KernelHi
public import proofs.«01_k».proof.Proof.Dw.RefHi
public import proofs.«01_k».proof.Proof.Gen.KernelDwHi
public import proofs.«01_k».proof.Proof.Gen.KernelDwHi.Frame
public import proofs.«01_k».proof.Proof.Gen.ReferenceDwHiIdeal.Run
public import Idealize.ShloMosaic.Lib.QuiescentFlight
public import Idealize.ShloMosaic.Init

@[expose] public section

set_option maxRecDepth 16384

noncomputable section

namespace Cert.Proof.DwHi

open Idealize.ShloMosaic Idealize.ShloMosaic.TcCoe Idealize.SL.Sem

theorem frame_R : Cert.quiescent_ReferenceDwHiIdeal := fun m g _ =>
  (θ_run Cert.ReferenceDwHiIdeal.defs _ _).mono (fun r h => ⟨fun c => (h c).2, sem_eq_zero_of_no_sems (by decide) r.2⟩)
    (Cert.ReferenceDwHiIdeal.Value.run (F := Ideal) m g)

theorem algebraic : Cert.algebraic_KernelDwHiIdeal_ReferenceDwHiIdeal := by
  intro m g m' g' _ hagree
  refine ⟨Cert.KernelDwHiIdeal.Dw.arr m, ?_, ?_⟩
  · exact (θ_run _ _ _).mono (fun _ h c => ⟨(h c).1.trans (Cert.KernelDwHiIdeal.Dw.final_2 m c), (h c).2⟩)
      (Cert.KernelDwHiIdeal.Value.run_blocks (F := Ideal) m g)
  · refine (θ_run _ _ _).mono (fun _ h c => ⟨(h c).1.trans ?_, (h c).2⟩) (Cert.ReferenceDwHiIdeal.Value.run (F := Ideal) m' g')
    obtain ⟨a0, a1⟩ := hagree c
    rw [Cert.ReferenceDwHiIdeal.Read.val_main_v16_eq, a0, a1]
    funext j
    exact Cert.ReferenceDwHiIdeal.Dw.result_at _ _ j _ _ rfl rfl

end Cert.Proof.DwHi

end
-- ==== Proof.Dh.Order.lean ====
/- The gradient of the hidden rows: at a row and a column, a sum over the projections' columns, which the kernel takes chip by chip and
   round by round. -/
module

public import proofs.«01_k».proof.Proof.Dw.Order
public import Idealize.ShloMosaic.Lib.Pipeline.ValueKit.Acc

@[expose] public section

open Idealize.ShloMosaic

namespace Cert.Order

/-- The weights' columns, a tile of 512 for each round and chip. -/
abbrev Rounds := Fin 5 → Fin 8 → Fin 4096 → Fin 512 → EReal

/-- The gradient at row `s` and column `d`: the weights' column `n` is in the tile of chip `n / 2560` and round `n / 512 % 5`. -/
noncomputable def dh (g : Fin 4096 → Fin 20480 → EReal) (w : Rounds) (s d : Fin 4096) : EReal :=
  ∑ n : Fin 20480, g s (col n) * w ⟨n.val / 512 % 5, by omega⟩ ⟨n.val / 2560, by omega⟩ d ⟨n.val % 512, by omega⟩

/-- What round `r` of chip `k` adds to it, -/
noncomputable def tile (g : Fin 4096 → Fin 20480 → EReal) (w : Rounds) (s d : Fin 4096) (k : Fin 8) (r : Fin 5) : EReal :=
  ∑ c : Fin 512, g s ⟨512 * pos (5 * k.val + r.val) + c.val, by have := pos_lt (show 5 * k.val + r.val < 40 by omega); omega⟩ * w r k d c
/-- and chip `k`, its rounds added up from the first. -/
noncomputable def chip (g : Fin 4096 → Fin 20480 → EReal) (w : Rounds) (s d : Fin 4096) (k : ℕ) : EReal :=
  if h : k < 8 then tile g w s d ⟨k, h⟩ 0 + tile g w s d ⟨k, h⟩ 1 + tile g w s d ⟨k, h⟩ 2 + tile g w s d ⟨k, h⟩ 3 + tile g w s d ⟨k, h⟩ 4
  else 0

theorem sum_chip (g : Fin 4096 → Fin 20480 → EReal) (w : Rounds) (s d : Fin 4096) :
    ∑ k ∈ Finset.range 8, chip g w s d k = dh g w s d := by
  rw [Finset.sum_range]
  unfold dh
  refine Eq.trans ?_ ((Fin.sum_mul_add_fin 8 5 (fun i : Fin 40 => ∑ c : Fin 512, g s (col ⟨i.val * 512 + c.val, by omega⟩)
      * w ⟨(i.val * 512 + c.val) / 512 % 5, by omega⟩ ⟨(i.val * 512 + c.val) / 2560, by omega⟩ d ⟨(i.val * 512 + c.val) % 512, by omega⟩)
      (by decide)).trans (Fin.sum_mul_add_fin 40 512 (fun n : Fin 20480 => g s (col n) * w ⟨n.val / 512 % 5, by omega⟩ ⟨n.val / 2560, by omega⟩
      d ⟨n.val % 512, by omega⟩) (by decide)))
  refine Finset.sum_congr rfl fun k _ => ?_
  unfold chip
  rw [dif_pos k.isLt, Fin.sum_univ_five]
  have e (r : Fin 5) : tile g w s d ⟨k.val, k.isLt⟩ r = ∑ c : Fin 512,
      g s (col ⟨(k.val * 5 + r.val) * 512 + c.val, by omega⟩) * w ⟨((k.val * 5 + r.val) * 512 + c.val) / 512 % 5, by omega⟩
        ⟨((k.val * 5 + r.val) * 512 + c.val) / 2560, by omega⟩ d ⟨((k.val * 5 + r.val) * 512 + c.val) % 512, by omega⟩ := by
    unfold tile
    refine Finset.sum_congr rfl fun c _ => ?_
    congr 2
    · refine Fin.ext ?_
      show _ = src ((k.val * 5 + r.val) * 512 + c.val)
      rw [show (k.val * 5 + r.val) * 512 + c.val = 512 * (5 * k.val + r.val) + c.val by omega, src_tile c.isLt]
    · exact Fin.ext (by show r.val = ((k.val * 5 + r.val) * 512 + c.val) / 512 % 5; omega)
    · exact Fin.ext (by show k.val = ((k.val * 5 + r.val) * 512 + c.val) / 2560; omega)
    · exact Fin.ext (by show c.val = ((k.val * 5 + r.val) * 512 + c.val) % 512; omega)
  rw [e 0, e 1, e 2, e 3, e 4]

end Cert.Order
-- ==== Proof.Loads.lean ====
/- Loads and stores of a whole memref. -/
module

public import Idealize.ShloMosaic.Lib.Pipeline.Value
public import Idealize.ShloMosaic.Lib.IdealHost
public import Idealize.ShloMosaic.Lib.ValueIdx

@[expose] public section

open Idealize.ShloMosaic

namespace Cert.Loads

theorem z2 : (![0, 0] : Fin 2 → Nat) = fun _ => 0 := by decide
theorem z3 : (![0, 0, 0] : Fin 3 → Nat) = fun _ => 0 := by decide

variable {sg : RefSig} {κ : Kind} {sp : Space} {s : Shape} {e : EltTy}

/-- A load of all of a memref is what the memref holds. -/
theorem load_whole {M : Memref sg κ sp s e} (h : M.IsWhole) (X : Vec Ideal s e) {off : Fin s.rank → ℕ}
    (h0 : off = fun _ => 0) (inb : ∀ a, off a + s.size a ≤ s.size a) :
    View.readAt (Elt Ideal) M.view (Rect.unit off s.size inb).toLoadRect (h.unread X) = X :=
  (congrArg (fun f => View.ld f (Rect.unit off s.size inb)) (h.read_unread X)).trans (View.ld_unit_zero h0 inb X)

/-- A load of all of what a store of all has left is what was stored. -/
theorem load_stored (v : View sg κ sp s e) (X : Vec Ideal s e) {off : Fin s.rank → ℕ}
    (h0 : off = fun _ => 0) (inb inb' : ∀ a, off a + s.size a ≤ s.size a) :
    v.readCov [(⟨Rect.unit off s.size inb, X⟩ : View.Piece (Elt Ideal) s e)] (Rect.unit off s.size inb').toLoadRect = X := by
  rw [View.readCov_eq_canon_ld _ _ _ fun y => ⟨_, List.mem_singleton_self _, View.mem_set_unit_zero h0 inb y⟩, View.canon_unit_zero h0]
  exact View.ld_unit_zero h0 inb' X

end Cert.Loads
-- ==== Proof.Dh.KernelRest.lean ====
/- What the kernel of the hidden rows' gradient, its later half, leaves in its result array. -/
module

public import proofs.«01_k».proof.Proof.Dh.Order
public import proofs.«01_k».proof.Proof.Loads
public import proofs.«01_k».proof.Proof.Gen.KernelDhRestIdeal.Frame
public import Idealize.ShloMosaic.Lib.Pointwise
public import Idealize.ShloMosaic.Lib.ValueIdx
public import Idealize.ShloMosaic.Lib.IdealHost
public import Idealize.ShloMosaic.Lib.Pipeline.Value
public import Idealize.ShloMosaic.Lib.StableHlo.ReadAt

@[expose] public section

set_option maxRecDepth 16384

noncomputable section

namespace Cert.KernelDhRestIdeal.Dh

open Cert.KernelDhRestIdeal Cert.KernelDhRestIdeal.Gen Cert.Order Cert.Loads
open Idealize.ShloMosaic Idealize.ShloMosaic.TcCoe Idealize.ShloMosaic.Tactic

/-- A grid point's blocks: of the gradient's rows and tiles, of the weights' rounds, and of the result. -/
theorem idx_0 : ∀ t : Fin grid0.N, win0_0.index t 0 = 2 + t.val / 32 ∧ win0_0.index t 1 = pos (5 * (t.val % 8) + 0) := by decide +kernel
theorem idx_1 : ∀ t : Fin grid0.N, win0_1.index t 0 = 2 + t.val / 32 ∧ win0_1.index t 1 = pos (5 * (t.val % 8) + 1) := by decide +kernel
theorem idx_2 : ∀ t : Fin grid0.N, win0_2.index t 0 = 2 + t.val / 32 ∧ win0_2.index t 1 = pos (5 * (t.val % 8) + 2) := by decide +kernel
theorem idx_3 : ∀ t : Fin grid0.N, win0_3.index t 0 = 2 + t.val / 32 ∧ win0_3.index t 1 = pos (5 * (t.val % 8) + 3) := by decide +kernel
theorem idx_4 : ∀ t : Fin grid0.N, win0_4.index t 0 = 2 + t.val / 32 ∧ win0_4.index t 1 = pos (5 * (t.val % 8) + 4) := by decide +kernel
theorem idx_5 : ∀ t : Fin grid0.N, win0_5.index t 0 = t.val % 8 ∧ win0_5.index t 1 = t.val / 8 % 4 ∧ win0_5.index t 2 = 0 := by decide +kernel
theorem idx_6 : ∀ t : Fin grid0.N, win0_6.index t 0 = t.val % 8 ∧ win0_6.index t 1 = t.val / 8 % 4 ∧ win0_6.index t 2 = 0 := by decide +kernel
theorem idx_7 : ∀ t : Fin grid0.N, win0_7.index t 0 = t.val % 8 ∧ win0_7.index t 1 = t.val / 8 % 4 ∧ win0_7.index t 2 = 0 := by decide +kernel
theorem idx_8 : ∀ t : Fin grid0.N, win0_8.index t 0 = t.val % 8 ∧ win0_8.index t 1 = t.val / 8 % 4 ∧ win0_8.index t 2 = 0 := by decide +kernel
theorem idx_9 : ∀ t : Fin grid0.N, win0_9.index t 0 = t.val % 8 ∧ win0_9.index t 1 = t.val / 8 % 4 ∧ win0_9.index t 2 = 0 := by decide +kernel
theorem idx_10 : ∀ t : Fin grid0.N, win0_10.index t 0 = 2 + t.val / 32 ∧ win0_10.index t 1 = t.val / 8 % 4 := by decide +kernel

/-- The sum of a chip's five products read at an index, -/
theorem pay3_at (x0 : Vec Ideal S1024x512 .bf16) (y0 : Vec Ideal S1x1024x512 .bf16) (x1 : Vec Ideal S1024x512 .bf16) (y1 : Vec Ideal S1x1024x512 .bf16)
    (x2 : Vec Ideal S1024x512 .bf16) (y2 : Vec Ideal S1x1024x512 .bf16) (x3 : Vec Ideal S1024x512 .bf16) (y3 : Vec Ideal S1x1024x512 .bf16)
    (x4 : Vec Ideal S1024x512 .bf16) (y4 : Vec Ideal S1x1024x512 .bf16) (r k : Fin 1024) :
    k0_pay3 (F := Ideal) x0 y0 x1 y1 x2 y2 x3 y3 x4 y4 (ix2 r k) = (∑ s : Fin 512, x0 (ix2 r s) * y0 (ix3 0 k s)) + (∑ s : Fin 512, x1 (ix2 r s) * y1 (ix3 0 k s))
      + (∑ s : Fin 512, x2 (ix2 r s) * y2 (ix3 0 k s)) + (∑ s : Fin 512, x3 (ix2 r s) * y3 (ix3 0 k s)) + ∑ s : Fin 512, x4 (ix2 r s) * y4 (ix3 0 k s) := by
  unfold k0_pay3
  pointwise
/-- of the first chip as it is stored, -/
theorem pay1_at (x : Vec Ideal S1024x1024 .f32) (r k : Fin 1024) : k0_pay1 (F := Ideal) x (ix2 r k) = x (ix2 r k) := by
  unfold k0_pay1
  pointwise
/-- and of a later one, added to what is there. -/
theorem pay2_at (x y : Vec Ideal S1024x1024 .f32) (r k : Fin 1024) : k0_pay2 (F := Ideal) x y (ix2 r k) = y (ix2 r k) + x (ix2 r k) := by
  unfold k0_pay2
  pointwise

variable (m : (ℓ : Loc nD τ sig) → Buf (Elt Ideal) ℓ) (c : Dev nD)

/-- The projections' gradient and the weights, as launched. -/
def G (s : Fin 4096) (n : Fin 20480) : EReal := (m ((c : Thread nD τ).loc main_arg0) : Vec Ideal S4096x20480 .bf16) (ix2 s n)
def W : Rounds := fun r k d n => match r with
  | 0 => (m ((c : Thread nD τ).loc main_arg1) : Vec Ideal S8x4096x512 .bf16) (ix3 k d n)
  | 1 => (m ((c : Thread nD τ).loc main_arg2) : Vec Ideal S8x4096x512 .bf16) (ix3 k d n)
  | 2 => (m ((c : Thread nD τ).loc main_arg3) : Vec Ideal S8x4096x512 .bf16) (ix3 k d n)
  | 3 => (m ((c : Thread nD τ).loc main_arg4) : Vec Ideal S8x4096x512 .bf16) (ix3 k d n)
  | 4 => (m ((c : Thread nD τ).loc main_arg5) : Vec Ideal S8x4096x512 .bf16) (ix3 k d n)

/-- The five products of a point, out of its blocks. -/
def prod (t : Fin cfg0.N) : Vec Ideal S1024x1024 .f32 :=
  k0_pay3 (F := Ideal) (iblk m c 0 t) (iblk m c 5 t) (iblk m c 1 t) (iblk m c 6 t) (iblk m c 2 t) (iblk m c 7 t) (iblk m c 3 t) (iblk m c 8 t) (iblk m c 4 t) (iblk m c 9 t)

/-- What a point leaves in the accumulator: at a block's first point its products, -/
theorem acc_first (t : Fin cfg0.N) (h : t.val % 8 = 0) : (outsAt0 m c t.val t.isLt).2 = k0_pay1 (F := Ideal) (prod m c t) := by
  rw [outsAt0_A m c t h (by omega) (by omega)]; dsimp only
  refine (View.read_writes_junk_eq_canon VS0_0 _).trans ?_
  refine (View.canon_unit_zero z2 _ _).trans ?_
  show k0_pay1 (k0_pay3 _ _ _ _ _ _ _ _ _ _) = _
  rw [load_whole _ _ z2, load_whole _ _ z3, load_whole _ _ z2, load_whole _ _ z3, load_whole _ _ z2, load_whole _ _ z3, load_whole _ _ z2, load_whole _ _ z3, load_whole _ _ z2, load_whole _ _ z3]
  rfl
/-- after it the products added to what the point before left. -/
theorem acc_next (t : Fin cfg0.N) (h : ¬ t.val % 8 = 0) :
    (outsAt0 m c t.val t.isLt).2 = k0_pay2 (F := Ideal) (prod m c t) (outsAt0 m c (t.val - 1) (by have := t.isLt; omega)).2 := by
  by_cases h7 : t.val % 8 = 7
  · rw [outsAt0_C m c t h (by omega) h7]; dsimp only
    refine (View.read_writes_junk_eq_canon VS0_0 _).trans ?_
    refine (View.canon_unit_zero z2 _ _).trans ?_
    show k0_pay2 (k0_pay3 _ _ _ _ _ _ _ _ _ _) _ = _
    rw [load_whole _ _ z2, load_whole _ _ z3, load_whole _ _ z2, load_whole _ _ z3, load_whole _ _ z2, load_whole _ _ z3, load_whole _ _ z2, load_whole _ _ z3, load_whole _ _ z2, load_whole _ _ z3, load_whole _ _ z2]
    rfl
  · rw [outsAt0_B m c t h (by omega) h7]; dsimp only
    refine (View.read_writes_junk_eq_canon VS0_0 _).trans ?_
    refine (View.canon_unit_zero z2 _ _).trans ?_
    show k0_pay2 (k0_pay3 _ _ _ _ _ _ _ _ _ _) _ = _
    rw [load_whole _ _ z2, load_whole _ _ z3, load_whole _ _ z2, load_whole _ _ z3, load_whole _ _ z2, load_whole _ _ z3, load_whole _ _ z2, load_whole _ _ z3, load_whole _ _ z2, load_whole _ _ z3, load_whole _ _ z2]
    rfl
/-- At a block's last point the result's block is the accumulator. -/
theorem out_last (t : Fin cfg0.N) (h7 : t.val % 8 = 7) : (outsAt0 m c t.val t.isLt).1 = (outsAt0 m c t.val t.isLt).2 := by
  rw [outsAt0_C m c t (by omega) (by omega) h7]; dsimp only
  refine (View.read_writes_junk_eq_canon VO0_10 _).trans ?_
  refine (View.canon_unit_zero z2 _ _).trans ?_
  refine Eq.trans ?_ ((View.read_writes_junk_eq_canon VS0_0 _).trans (View.canon_unit_zero z2 _ _)).symm
  exact load_stored scM0_0.view _ z2 _ _

theorem blk_0 (t : Fin cfg0.N) (r : Fin 1024) (k : Fin 512) (s : Fin 4096) (n : Fin 20480) (hs : s.val = 2048 + 1024 * (t.val / 32) + r.val)
    (hn : n.val = 512 * pos (5 * (t.val % 8) + 0) + k.val) : (iblk m c 0 t : Vec Ideal S1024x512 .bf16) (ix2 r k) = G m c s n := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = s.val
              rw [(idx_0 t).1]; omega
  | ⟨1, _⟩ => show win0_0.index t 1 * 512 + 1 * k.val = n.val
              rw [(idx_0 t).2]; omega

theorem blk_1 (t : Fin cfg0.N) (r : Fin 1024) (k : Fin 512) (s : Fin 4096) (n : Fin 20480) (hs : s.val = 2048 + 1024 * (t.val / 32) + r.val)
    (hn : n.val = 512 * pos (5 * (t.val % 8) + 1) + k.val) : (iblk m c 1 t : Vec Ideal S1024x512 .bf16) (ix2 r k) = G m c s n := by
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t 0 * 1024 + 1 * r.val = s.val
              rw [(idx_1 t).1]; omega
  | ⟨1, _⟩ => show win0_1.index t 1 * 512 + 1 * k.val = n.val
              rw [(idx_1 t).2]; omega

theorem blk_2 (t : Fin cfg0.N) (r : Fin 1024) (k : Fin 512) (s : Fin 4096) (n : Fin 20480) (hs : s.val = 2048 + 1024 * (t.val / 32) + r.val)
    (hn : n.val = 512 * pos (5 * (t.val % 8) + 2) + k.val) : (iblk m c 2 t : Vec Ideal S1024x512 .bf16) (ix2 r k) = G m c s n := by
  unfold iblk
  rw [View.read_apply]
  show V m c main_arg0 _ = _
  rw [V_main_arg0]
  refine congrArg (m ((c : Thread nD τ).loc main_arg0)) (funext fun a => Fin.ext ?_)
  match a with
  | ⟨0, _⟩ => show win0_2.index t 0 * 1024 + 1 * r.val = s.val
              rw [(idx_2 t).1]; omega
  | ⟨1, _⟩ => show win0_2.index t 1 * 512 + 1 * k.val = n.val
              rw [(idx_2 t).2]; omega

theorem blk_3 (t : Fin cfg0.N) (r : Fin 1024) (k : Fin 512) (s : Fin 4096) (n : Fin 20480) (hs : s.val = 2048 + 1024 * (t.val / 32) + r.val)
    (hn : n.val = 512 * pos (5 * (t.val % 8) + 3) + k.val) : (iblk m c 3 t : Vec Ideal S1024x512 .bf16) (ix2 r k) = G m c s n := by
  unfold iblk
  rw [View.read_apply]
  show V m c main_arg0 _ = _
  rw [V_main_arg0]
  refine congrArg (m ((c : Thread nD τ).loc main_arg0)) (funext fun a => Fin.ext ?_)
  match a with
  | ⟨0, _⟩ => show win0_3.index t 0 * 1024 + 1 * r.val = s.val
              rw [(idx_3 t).1]; omega
  | ⟨1, _⟩ => show win0_3.index t 1 * 512 + 1 * k.val = n.val
              rw [(idx_3 t).2]; omega

theorem blk_4 (t : Fin cfg0.N) (r : Fin 1024) (k : Fin 512) (s : Fin 4096) (n : Fin 20480) (hs : s.val = 2048 + 1024 * (t.val / 32) + r.val)
    (hn : n.val = 512 * pos (5 * (t.val % 8) + 4) + k.val) : (iblk m c 4 t : Vec Ideal S1024x512 .bf16) (ix2 r k) = G m c s n := by
  unfold iblk
  rw [View.read_apply]
  show V m c main_arg0 _ = _
  rw [V_main_arg0]
  refine congrArg (m ((c : Thread nD τ).loc main_arg0)) (funext fun a => Fin.ext ?_)
  match a with
  | ⟨0, _⟩ => show win0_4.index t 0 * 1024 + 1 * r.val = s.val
              rw [(idx_4 t).1]; omega
  | ⟨1, _⟩ => show win0_4.index t 1 * 512 + 1 * k.val = n.val
              rw [(idx_4 t).2]; omega

theorem blk_5 (t : Fin cfg0.N) (r : Fin 1024) (k : Fin 512) (q : Fin 8) (d : Fin 4096) (hq : q.val = t.val % 8)
    (hd : d.val = 1024 * (t.val / 8 % 4) + r.val) : (iblk m c 5 t : Vec Ideal S1x1024x512 .bf16) (ix3 0 r k) = W m c 0 q d k := by
  unfold iblk
  rw [View.read_apply]
  show V m c main_arg1 _ = _
  rw [V_main_arg1]
  refine congrArg (m ((c : Thread nD τ).loc main_arg1)) (funext fun a => Fin.ext ?_)
  match a with
  | ⟨0, _⟩ => show win0_5.index t 0 * 1 + 1 * 0 = q.val
              rw [(idx_5 t).1]; omega
  | ⟨1, _⟩ => show win0_5.index t 1 * 1024 + 1 * r.val = d.val
              rw [(idx_5 t).2.1]; omega
  | ⟨2, _⟩ => show win0_5.index t 2 * 512 + 1 * k.val = k.val
              rw [(idx_5 t).2.2]; omega

theorem blk_6 (t : Fin cfg0.N) (r : Fin 1024) (k : Fin 512) (q : Fin 8) (d : Fin 4096) (hq : q.val = t.val % 8)
    (hd : d.val = 1024 * (t.val / 8 % 4) + r.val) : (iblk m c 6 t : Vec Ideal S1x1024x512 .bf16) (ix3 0 r k) = W m c 1 q d k := by
  unfold iblk
  rw [View.read_apply]
  show V m c main_arg2 _ = _
  rw [V_main_arg2]
  refine congrArg (m ((c : Thread nD τ).loc main_arg2)) (funext fun a => Fin.ext ?_)
  match a with
  | ⟨0, _⟩ => show win0_6.index t 0 * 1 + 1 * 0 = q.val
              rw [(idx_6 t).1]; omega
  | ⟨1, _⟩ => show win0_6.index t 1 * 1024 + 1 * r.val = d.val
              rw [(idx_6 t).2.1]; omega
  | ⟨2, _⟩ => show win0_6.index t 2 * 512 + 1 * k.val = k.val
              rw [(idx_6 t).2.2]; omega

theorem blk_7 (t : Fin cfg0.N) (r : Fin 1024) (k : Fin 512) (q : Fin 8) (d : Fin 4096) (hq : q.val = t.val % 8)
    (hd : d.val = 1024 * (t.val / 8 % 4) + r.val) : (iblk m c 7 t : Vec Ideal S1x1024x512 .bf16) (ix3 0 r k) = W m c 2 q d k := by
  unfold iblk
  rw [View.read_apply]
  show V m c main_arg3 _ = _
  rw [V_main_arg3]
  refine congrArg (m ((c : Thread nD τ).loc main_arg3)) (funext fun a => Fin.ext ?_)
  match a with
  | ⟨0, _⟩ => show win0_7.index t 0 * 1 + 1 * 0 = q.val
              rw [(idx_7 t).1]; omega
  | ⟨1, _⟩ => show win0_7.index t 1 * 1024 + 1 * r.val = d.val
              rw [(idx_7 t).2.1]; omega
  | ⟨2, _⟩ => show win0_7.index t 2 * 512 + 1 * k.val = k.val
              rw [(idx_7 t).2.2]; omega

theorem blk_8 (t : Fin cfg0.N) (r : Fin 1024) (k : Fin 512) (q : Fin 8) (d : Fin 4096) (hq : q.val = t.val % 8)
    (hd : d.val = 1024 * (t.val / 8 % 4) + r.val) : (iblk m c 8 t : Vec Ideal S1x1024x512 .bf16) (ix3 0 r k) = W m c 3 q d k := by
  unfold iblk
  rw [View.read_apply]
  show V m c main_arg4 _ = _
  rw [V_main_arg4]
  refine congrArg (m ((c : Thread nD τ).loc main_arg4)) (funext fun a => Fin.ext ?_)
  match a with
  | ⟨0, _⟩ => show win0_8.index t 0 * 1 + 1 * 0 = q.val
              rw [(idx_8 t).1]; omega
  | ⟨1, _⟩ => show win0_8.index t 1 * 1024 + 1 * r.val = d.val
              rw [(idx_8 t).2.1]; omega
  | ⟨2, _⟩ => show win0_8.index t 2 * 512 + 1 * k.val = k.val
              rw [(idx_8 t).2.2]; omega

theorem blk_9 (t : Fin cfg0.N) (r : Fin 1024) (k : Fin 512) (q : Fin 8) (d : Fin 4096) (hq : q.val = t.val % 8)
    (hd : d.val = 1024 * (t.val / 8 % 4) + r.val) : (iblk m c 9 t : Vec Ideal S1x1024x512 .bf16) (ix3 0 r k) = W m c 4 q d k := by
  unfold iblk
  rw [View.read_apply]
  show V m c main_arg5 _ = _
  rw [V_main_arg5]
  refine congrArg (m ((c : Thread nD τ).loc main_arg5)) (funext fun a => Fin.ext ?_)
  match a with
  | ⟨0, _⟩ => show win0_9.index t 0 * 1 + 1 * 0 = q.val
              rw [(idx_9 t).1]; omega
  | ⟨1, _⟩ => show win0_9.index t 1 * 1024 + 1 * r.val = d.val
              rw [(idx_9 t).2.1]; omega
  | ⟨2, _⟩ => show win0_9.index t 2 * 512 + 1 * k.val = k.val
              rw [(idx_9 t).2.2]; omega

theorem add5 {a b c d e a' b' c' d' e' : EReal} (ha : a = a') (hb : b = b') (hc : c = c') (hd : d = d') (he : e = e') :
    a + b + c + d + e = a' + b' + c' + d' + e' := by rw [ha, hb, hc, hd, he]

theorem prod_at (t : Fin cfg0.N) (r k : Fin 1024) (s d : Fin 4096) (hs : s.val = 2048 + 1024 * (t.val / 32) + r.val)
    (hd : d.val = 1024 * (t.val / 8 % 4) + k.val) : prod m c t (ix2 r k) = chip (G m c) (W m c) s d (t.val % 8) := by
  unfold prod chip
  rw [pay3_at, dif_pos (show t.val % 8 < 8 by omega)]
  exact add5
    (Finset.sum_congr rfl fun n _ => congrArg₂ (fun x y : EReal => x * y)
      (blk_0 m c t r n s ⟨512 * pos (5 * (t.val % 8) + 0) + n.val, by have := pos_lt (show 5 * (t.val % 8) + 0 < 40 by omega); omega⟩ hs rfl)
      (blk_5 m c t k n ⟨t.val % 8, by omega⟩ d rfl hd))
    (Finset.sum_congr rfl fun n _ => congrArg₂ (fun x y : EReal => x * y)
      (blk_1 m c t r n s ⟨512 * pos (5 * (t.val % 8) + 1) + n.val, by have := pos_lt (show 5 * (t.val % 8) + 1 < 40 by omega); omega⟩ hs rfl)
      (blk_6 m c t k n ⟨t.val % 8, by omega⟩ d rfl hd))
    (Finset.sum_congr rfl fun n _ => congrArg₂ (fun x y : EReal => x * y)
      (blk_2 m c t r n s ⟨512 * pos (5 * (t.val % 8) + 2) + n.val, by have := pos_lt (show 5 * (t.val % 8) + 2 < 40 by omega); omega⟩ hs rfl)
      (blk_7 m c t k n ⟨t.val % 8, by omega⟩ d rfl hd))
    (Finset.sum_congr rfl fun n _ => congrArg₂ (fun x y : EReal => x * y)
      (blk_3 m c t r n s ⟨512 * pos (5 * (t.val % 8) + 3) + n.val, by have := pos_lt (show 5 * (t.val % 8) + 3 < 40 by omega); omega⟩ hs rfl)
      (blk_8 m c t k n ⟨t.val % 8, by omega⟩ d rfl hd))
    (Finset.sum_congr rfl fun n _ => congrArg₂ (fun x y : EReal => x * y)
      (blk_4 m c t r n s ⟨512 * pos (5 * (t.val % 8) + 4) + n.val, by have := pos_lt (show 5 * (t.val % 8) + 4 < 40 by omega); omega⟩ hs rfl)
      (blk_9 m c t k n ⟨t.val % 8, by omega⟩ d rfl hd))

/-- The accumulator after a point: the sum over the block's chips so far. -/
theorem acc_at : ∀ (n : ℕ) (hn : n < cfg0.N) (r k : Fin 1024) (s d : Fin 4096), s.val = 2048 + 1024 * (n / 32) + r.val →
    d.val = 1024 * (n / 8 % 4) + k.val →
    (outsAt0 m c n hn).2 (ix2 r k) = ∑ q ∈ Finset.range (n % 8 + 1), chip (G m c) (W m c) s d q := by
  intro n
  induction n with
  | zero =>
    intro hn r k s d hs hd
    rw [acc_first m c ⟨0, hn⟩ rfl, pay1_at, prod_at m c ⟨0, hn⟩ r k s d hs hd]
    exact (Finset.sum_range_one _).symm
  | succ n ih =>
    intro hn r k s d hs hd
    by_cases h : (n + 1) % 8 = 0
    · rw [acc_first m c ⟨n + 1, hn⟩ h, pay1_at, prod_at m c ⟨n + 1, hn⟩ r k s d hs hd]
      show chip _ _ s d ((n + 1) % 8) = _
      rw [h, Finset.sum_range_one]
    · rw [acc_next m c ⟨n + 1, hn⟩ h, pay2_at, prod_at m c ⟨n + 1, hn⟩ r k s d hs hd]
      show (outsAt0 m c n _).2 (ix2 r k) + chip _ _ s d ((n + 1) % 8) = _
      rw [ih (by omega) r k s d (by omega) (by omega), show (n + 1) % 8 = n % 8 + 1 by omega]
      exact (Finset.sum_range_succ _ _).symm

/-- The result array: the gradient's rows that the kernel computes, and the rest as the array came. -/
def arr : Buf (Elt Ideal) ((c : Thread nD τ).loc main_v0) :=
  (fun i => if 1 ≤ (i 0).val / 2048 ∧ (i 0).val / 2048 < 2 then dh (G m c) (W m c) (i 0) (i 1) else V m c main_v0 i : Vec Ideal S4096x4096 .f32)

theorem arr_at (j : S4096x4096.Idx) (s d : Fin 4096) (hs : (j 0).val = s.val) (hd : (j 1).val = d.val) (h : s.val / 2048 = 1) :
    (arr m c : Vec Ideal S4096x4096 .f32) j = dh (G m c) (W m c) s d := by
  show (if _ then dh (G m c) (W m c) (j 0) (j 1) else _) = _
  rw [if_pos (by omega)]
  congr 1
  · exact Fin.ext hs
  · exact Fin.ext hd

theorem flushed_10 (t : Fin cfg0.N) (hf : (cfg0.win 10).flush t = true) :
    (dats m 0 c).flushed 10 t = ((cfg0.win 10).blk t).view.read (Elt Ideal) (arr m c) := by
  have h7 : t.val % 8 = 7 := (flush0_10 t).mp hf
  have ht : t.val < 64 := t.isLt
  show (cfg0.win 10).cut (grid0.coords t) ((dats m 0 c).after 10 t) = _
  rw [after0_10, out_last m c t h7]
  funext i
  rw [View.read_apply]
  have h0 : (i 0).val < 1024 := (i 0).isLt
  have h1 : (i 1).val < 1024 := (i 1).isLt
  have e : (cfg0.win 10).cut (grid0.coords t) (outsAt0 m c t.val t.isLt).2 i = (outsAt0 m c t.val t.isLt).2 (ix2 ⟨(i 0).val, h0⟩ ⟨(i 1).val, h1⟩) := by
    refine congrArg (outsAt0 m c t.val t.isLt).2 (funext fun a => Fin.ext ?_)
    match a with
    | ⟨0, _⟩ => rfl
    | ⟨1, _⟩ => rfl
  refine e.trans ((acc_at m c t.val t.isLt _ _ ⟨2048 + 1024 * (t.val / 32) + (i 0).val, by omega⟩ ⟨1024 * (t.val / 8 % 4) + (i 1).val, by omega⟩ rfl rfl).trans ?_)
  rw [h7, sum_chip]
  refine (arr_at m c (((cfg0.win 10).blk t).view.emb i) _ _ ?_ ?_ ?_).symm
  · show win0_10.index t 0 * 1024 + 1 * (i 0).val = 2048 + 1024 * (t.val / 32) + (i 0).val
    rw [(idx_10 t).1]; omega
  · show win0_10.index t 1 * 1024 + 1 * (i 1).val = 1024 * (t.val / 8 % 4) + (i 1).val
    rw [(idx_10 t).2]; omega
  · show (2048 + 1024 * (t.val / 32) + (i 0).val) / 2048 = 1
    omega

theorem final_10 : (dats m 0 c).arrAt 10 cfg0.N = arr m c := by
  funext i
  rw [(dats m 0 c).arrAt_eq_piecewise 10 (arr m c) (flushed_10 m c) i]
  have h0 : (i 0 : Nat) < 4096 := (i 0).isLt
  have h1 : (i 1 : Nat) < 4096 := (i 1).isLt
  by_cases hc : (i 0 : Nat) / 2048 = 1
  · refine if_pos ?_
    let t : Fin cfg0.N := ⟨32 * ((i 0 : Nat) % 2048 / 1024) + 8 * ((i 1 : Nat) / 1024) + 7, by show _ < 64; omega⟩
    have ht : t.val = 32 * ((i 0 : Nat) % 2048 / 1024) + 8 * ((i 1 : Nat) / 1024) + 7 := rfl
    refine ⟨t, (flush0_10 t).mpr (by omega), ?_⟩
    show i ∈ ((View.whole main_v0).slice (win0_10.rect t)).set
    rw [View.set_slice_whole, Rect.mem_set_unit]
    intro a
    match a with
    | ⟨0, _⟩ => show win0_10.index t 0 * 1024 ≤ (i 0 : Nat) ∧ (i 0 : Nat) < win0_10.index t 0 * 1024 + 1024
                rw [(idx_10 t).1]; omega
    | ⟨1, _⟩ => show win0_10.index t 1 * 1024 ≤ (i 1 : Nat) ∧ (i 1 : Nat) < win0_10.index t 1 * 1024 + 1024
                rw [(idx_10 t).2]; omega
  · rw [if_neg]
    · rw [A_eq]
      show V m c main_v0 i = if 1 ≤ (i 0).val / 2048 ∧ (i 0).val / 2048 < 2 then _ else V m c main_v0 i
      rw [if_neg (by omega)]
    · rintro ⟨t, -, hi⟩
      replace hi : i ∈ ((View.whole main_v0).slice (win0_10.rect t)).set := hi
      rw [View.set_slice_whole, Rect.mem_set_unit] at hi
      have h1 : win0_10.index t 0 * 1024 ≤ (i 0 : Nat) ∧ (i 0 : Nat) < win0_10.index t 0 * 1024 + 1024 := hi 0
      rw [(idx_10 t).1] at h1
      have : t.val < 64 := t.isLt
      omega

/-- The result array is handed to the region as the launch's last argument. -/
theorem V_copy (i : S4096x4096.Idx) : (V m c main_v0 : Vec Ideal S4096x4096 .f32) i = (m ((c : Thread nD τ).loc main_arg6) : Vec Ideal S4096x4096 .f32) i := by
  unfold V
  after_reads_at
  rfl

end Cert.KernelDhRestIdeal.Dh

end
-- ==== Proof.Dh.RefRest.lean ====
/- What the reference of the hidden rows' gradient, its later half, leaves in its result array. -/
module

public import proofs.«01_k».proof.Proof.Dh.Order
public import proofs.«01_k».proof.Proof.Gen.ReferenceDhRestIdeal.Read
public import Idealize.ShloMosaic.Lib.Pipeline.Value
public import Idealize.ShloMosaic.Lib.Pointwise
public import Idealize.ShloMosaic.Lib.ValueIdx
public import Idealize.ShloMosaic.Lib.IdealHost

@[expose] public section

set_option maxRecDepth 16384

noncomputable section

namespace Cert.ReferenceDhRestIdeal.Dh

open Cert.ReferenceDhRestIdeal Cert.ReferenceDhRestIdeal.Gen Cert.ReferenceDhRestIdeal.Read Cert.Order
open Idealize.ShloMosaic Idealize.ShloMosaic.TcCoe Idealize.ShloMosaic.Tactic

variable (x0 : Vec Ideal S4096x20480 .bf16) (x1 x2 x3 x4 x5 : Vec Ideal S8x4096x512 .bf16) (x6 : Vec Ideal S4096x4096 .f32)

/-- Column `k` of tile `b` of gate `a`, out of the tiles by turns. -/
theorem gate_at (s : Fin 4096) (a : Fin 2) (b : Fin 8) (k : Fin 512) :
    val_main_v9 (F := Ideal) x0 (ix2 s ⟨(a.val * 8 + b.val) * 512 + k.val, by omega⟩)
      = x0 (ix2 s ⟨12288 + ((b.val * 2 + a.val) * 512 + k.val), by omega⟩) := by
  rw [val_main_v9_apply]
  have e9 : idx_main_v9 (ix2 s ⟨(a.val * 8 + b.val) * 512 + k.val, by omega⟩) = ix4 s a b k := funext fun d => Fin.ext (match d with
    | ⟨0, _⟩ => by show (s.val * 8192 + ((a.val * 8 + b.val) * 512 + k.val)) / 8192 = s.val; omega
    | ⟨1, _⟩ => by show (s.val * 8192 + ((a.val * 8 + b.val) * 512 + k.val)) / 4096 % 2 = a.val; omega
    | ⟨2, _⟩ => by show (s.val * 8192 + ((a.val * 8 + b.val) * 512 + k.val)) / 512 % 8 = b.val; omega
    | ⟨3, _⟩ => by show (s.val * 8192 + ((a.val * 8 + b.val) * 512 + k.val)) % 512 = k.val; omega)
  rw [e9, val_main_v8_apply, val_main_v7_apply, val_main_v6_apply]
  refine congrArg x0 (funext fun d => Fin.ext ?_)
  match d with
  | ⟨0, _⟩ => show (((s.val * 8 + b.val) * 2 + a.val) * 512 + k.val) / 8192 = s.val; omega
  | ⟨1, _⟩ => show 12288 + (((s.val * 8 + b.val) * 2 + a.val) * 512 + k.val) % 8192 = 12288 + ((b.val * 2 + a.val) * 512 + k.val); omega

/-- The gradient's columns in the weights' order. -/
theorem cols_at (s : Fin 4096) (n : Fin 20480) : val_main_v11 (F := Ideal) x0 (ix2 s n) = x0 (ix2 s (col n)) := by
  have hn := n.isLt
  unfold val_main_v11
  rw [concatenate_pair_apply]
  split
  · next hlt =>
    have h : n.val < 12288 := hlt
    rw [val_main_v10_apply]
    refine congrArg x0 (funext fun a => Fin.ext ?_)
    match a with
    | ⟨0, _⟩ => rfl
    | ⟨1, _⟩ => exact (src_before h).symm
  · next hlt =>
    have h : ¬ n.val < 12288 := hlt
    have e := gate_at x0 s ⟨(n.val - 12288) / 4096, by omega⟩ ⟨(n.val - 12288) / 512 % 8, by omega⟩ ⟨n.val % 512, by omega⟩
    refine Eq.trans (congrArg (val_main_v9 (F := Ideal) x0) (funext fun a => Fin.ext ?_)) (e.trans
      (congrArg (fun n => x0 (ix2 s n)) (Fin.ext ?_)))
    · match a with
      | ⟨0, _⟩ => rfl
      | ⟨1, _⟩ => show n.val - 12288 = ((n.val - 12288) / 4096 * 8 + (n.val - 12288) / 512 % 8) * 512 + n.val % 512; omega
    · refine (src_gate (a := (n.val - 12288) / 4096) (b := (n.val - 12288) / 512 % 8) (c := n.val % 512) (by omega) (by omega) (by omega)).symm.trans ?_
      refine congrArg src ?_
      show 12288 + (((n.val - 12288) / 4096 * 8 + (n.val - 12288) / 512 % 8) * 512 + n.val % 512) = n.val
      omega

/-- The weights' tiles, by round. -/
def rounds : Rounds := fun r q d k => match r with
  | 0 => x1 (ix3 q d k)
  | 1 => x2 (ix3 q d k)
  | 2 => x3 (ix3 q d k)
  | 3 => x4 (ix3 q d k)
  | 4 => x5 (ix3 q d k)

/-- The rounds' tiles side by side. -/
theorem tiles_at (q : Fin 8) (d : Fin 4096) (r : Fin 5) (k : Fin 512) (n : Fin 2560) (hn : n.val = 512 * r.val + k.val) :
    val_main_v0 (F := Ideal) x1 x2 x3 x4 x5 (ix3 q d n) = rounds x1 x2 x3 x4 x5 r q d k := by
  unfold val_main_v0 rounds
  have off (b : Fin S8x4096x512.rank) (hb : b.cast (rfl : S8x4096x512.rank = S8x4096x2560.rank) ≠ (2 : Fin S8x4096x2560.rank)) : ((ix3 q d k : S8x4096x512.Idx) b).val = ((ix3 q d n : S8x4096x2560.Idx) (b.cast rfl)).val := match b with
    | ⟨0, _⟩ => rfl
    | ⟨1, _⟩ => rfl
    | ⟨2, _⟩ => absurd rfl hb
  match r with
  | 0 =>
    show concatenate S8x4096x2560 2 _ _ (ix3 q d n) = x1 (ix3 q d k)
    refine concatenate_apply_piece (t := S8x4096x2560) 2 _ _ (ix3 q d n) 0 ?_ S8x4096x512 x1 ?_ rfl 0 ?_ (ix3 q d k) off ?_
    · show 0 < 5; decide
    · rfl
    · rfl
    · exact hn.symm
  | 1 =>
    show concatenate S8x4096x2560 2 _ _ (ix3 q d n) = x2 (ix3 q d k)
    refine concatenate_apply_piece (t := S8x4096x2560) 2 _ _ (ix3 q d n) 1 ?_ S8x4096x512 x2 ?_ rfl 512 ?_ (ix3 q d k) off ?_
    · show 1 < 5; decide
    · rfl
    · rfl
    · exact hn.symm
  | 2 =>
    show concatenate S8x4096x2560 2 _ _ (ix3 q d n) = x3 (ix3 q d k)
    refine concatenate_apply_piece (t := S8x4096x2560) 2 _ _ (ix3 q d n) 2 ?_ S8x4096x512 x3 ?_ rfl 1024 ?_ (ix3 q d k) off ?_
    · show 2 < 5; decide
    · rfl
    · rfl
    · exact hn.symm
  | 3 =>
    show concatenate S8x4096x2560 2 _ _ (ix3 q d n) = x4 (ix3 q d k)
    refine concatenate_apply_piece (t := S8x4096x2560) 2 _ _ (ix3 q d n) 3 ?_ S8x4096x512 x4 ?_ rfl 1536 ?_ (ix3 q d k) off ?_
    · show 3 < 5; decide
    · rfl
    · rfl
    · exact hn.symm
  | 4 =>
    show concatenate S8x4096x2560 2 _ _ (ix3 q d n) = x5 (ix3 q d k)
    refine concatenate_apply_piece (t := S8x4096x2560) 2 _ _ (ix3 q d n) 4 ?_ S8x4096x512 x5 ?_ rfl 2048 ?_ (ix3 q d k) off ?_
    · show 4 < 5; decide
    · rfl
    · rfl
    · exact hn.symm

/-- The weights' columns in the weights' order. -/
theorem weights_at (d : Fin 4096) (n : Fin 20480) : val_main_v2 (F := Ideal) x1 x2 x3 x4 x5 (ix2 d n)
    = rounds x1 x2 x3 x4 x5 ⟨n.val / 512 % 5, by omega⟩ ⟨n.val / 2560, by omega⟩ d ⟨n.val % 512, by omega⟩ := by
  have hn := n.isLt
  have e : idx_main_v1 (idx_main_v2 (ix2 d n)) = ix3 ⟨n.val / 2560, by omega⟩ d ⟨n.val % 2560, by omega⟩ := funext fun a => Fin.ext (match a with
    | ⟨0, _⟩ => by show (d.val * 20480 + n.val) / 2560 % 8 = n.val / 2560; omega
    | ⟨1, _⟩ => by show (d.val * 20480 + n.val) / 20480 = d.val; omega
    | ⟨2, _⟩ => by show (d.val * 20480 + n.val) % 2560 = n.val % 2560; omega)
  rw [val_main_v2_apply, val_main_v1_apply, e]
  exact tiles_at x1 x2 x3 x4 x5 _ d ⟨n.val / 512 % 5, by omega⟩ ⟨n.val % 512, by omega⟩ _ (by show n.val % 2560 = 512 * (n.val / 512 % 5) + n.val % 512; omega)

/-- The gradient of the hidden rows at row `s` and column `d`. -/
theorem dh_at (s d : Fin 4096) : val_main_v13 (F := Ideal) x0 x1 x2 x3 x4 x5 (ix2 s d)
    = dh (fun s n => x0 (ix2 s n)) (rounds x1 x2 x3 x4 x5) s d := by
  rw [val_main_v13_apply]
  show (∑ k : Fin 20480, _) = _
  unfold dh
  refine Finset.sum_congr rfl fun n _ => ?_
  have e1 : lidx_main_v13 (ix2 s d) n = ix2 s n := funext fun a => match a with
    | ⟨0, _⟩ => rfl
    | ⟨1, _⟩ => rfl
  have e2 : ridx_main_v13 (ix2 s d) n = ix2 d n := funext fun a => match a with
    | ⟨0, _⟩ => rfl
    | ⟨1, _⟩ => rfl
  rw [e1, e2, val_main_v12_apply, val_main_v3_apply]
  exact congrArg₂ (fun x y : EReal => x * y) (cols_at x0 s n) (weights_at x1 x2 x3 x4 x5 d n)

/-- The result: the rows that were there, and the gradient's later half. -/
theorem result_at (i : S4096x4096.Idx) : val_main_v16 (F := Ideal) x0 x1 x2 x3 x4 x5 x6 i
    = if 1 ≤ (i 0).val / 2048 ∧ (i 0).val / 2048 < 2 then dh (fun s n => x0 (ix2 s n)) (rounds x1 x2 x3 x4 x5) (i 0) (i 1) else x6 i := by
  have h0 : (i 0).val < 4096 := (i 0).isLt
  unfold val_main_v16
  rw [concatenate_pair_apply]
  split
  · next hlt =>
    have h : (i 0).val < 2048 := hlt
    rw [if_neg (by omega), val_main_v14_apply]
    refine congrArg x6 (funext fun a => Fin.ext ?_)
    match a with
    | ⟨0, _⟩ => rfl
    | ⟨1, _⟩ => rfl
  · next hlt =>
    have h : ¬ (i 0).val < 2048 := hlt
    rw [if_pos (by omega), val_main_v15_apply]
    refine Eq.trans ?_ (dh_at x0 x1 x2 x3 x4 x5 (i 0) (i 1))
    refine congrArg (val_main_v13 (F := Ideal) x0 x1 x2 x3 x4 x5) (funext fun a => Fin.ext ?_)
    match a with
    | ⟨0, _⟩ => show 2048 + ((i 0).val - 2048) = (i 0).val; omega
    | ⟨1, _⟩ => rfl

end Cert.ReferenceDhRestIdeal.Dh

end
-- ==== Proof.Dh.Rest.lean ====
/- The later half of the hidden rows' gradient: the kernel's result (Dh/KernelRest.lean) is the reference's (Dh/RefRest.lean). -/
module

public import proofs.«01_k».proof.Defs
public import proofs.«01_k».proof.Proof.Dh.KernelRest
public import proofs.«01_k».proof.Proof.Dh.RefRest
public import proofs.«01_k».proof.Proof.Gen.KernelDhRestIdeal.Value
public import proofs.«01_k».proof.Proof.Gen.KernelDhRest
public import proofs.«01_k».proof.Proof.Gen.KernelDhRest.Frame
public import proofs.«01_k».proof.Proof.Gen.ReferenceDhRestIdeal.Run
public import Idealize.ShloMosaic.Lib.QuiescentFlight
public import Idealize.ShloMosaic.Init

@[expose] public section

set_option maxRecDepth 16384

noncomputable section

namespace Cert.Proof.DhRest

open Idealize.ShloMosaic Idealize.ShloMosaic.TcCoe Idealize.SL.Sem

theorem frame_R : Cert.quiescent_ReferenceDhRestIdeal := fun m g _ =>
  (θ_run Cert.ReferenceDhRestIdeal.defs _ _).mono (fun r h => ⟨fun c => (h c).2, sem_eq_zero_of_no_sems (by decide) r.2⟩)
    (Cert.ReferenceDhRestIdeal.Value.run (F := Ideal) m g)

theorem algebraic : Cert.algebraic_KernelDhRestIdeal_ReferenceDhRestIdeal := by
  intro m g m' g' _ hagree
  refine ⟨Cert.KernelDhRestIdeal.Dh.arr m, ?_, ?_⟩
  · exact (θ_run _ _ _).mono (fun _ h c => ⟨(h c).1.trans (Cert.KernelDhRestIdeal.Dh.final_10 m c), (h c).2⟩)
      (Cert.KernelDhRestIdeal.Value.run_blocks (F := Ideal) m g)
  · refine (θ_run _ _ _).mono (fun _ h c => ⟨(h c).1.trans ?_, (h c).2⟩) (Cert.ReferenceDhRestIdeal.Value.run (F := Ideal) m' g')
    obtain ⟨a0, a1, a2, a3, a4, a5, a6⟩ := hagree c
    rw [Cert.ReferenceDhRestIdeal.Read.val_main_v16_eq, a0, a1, a2, a3, a4, a5, a6]
    funext j
    refine (Cert.ReferenceDhRestIdeal.Dh.result_at _ _ _ _ _ _ _ j).trans ?_
    unfold Cert.KernelDhRestIdeal.Dh.arr
    refine ite_congr rfl (fun _ => rfl) (fun _ => ?_)
    exact (Cert.KernelDhRestIdeal.Dh.V_copy m c j).symm

end Cert.Proof.DhRest

end
-- ==== Proof.Dh.KernelHead.lean ====
/- What the kernel of the hidden rows' gradient, its first half, leaves in its result array. -/
module

public import proofs.«01_k».proof.Proof.Dh.Order
public import proofs.«01_k».proof.Proof.Loads
public import proofs.«01_k».proof.Proof.Gen.KernelDhHeadIdeal.Frame
public import Idealize.ShloMosaic.Lib.Pointwise
public import Idealize.ShloMosaic.Lib.ValueIdx
public import Idealize.ShloMosaic.Lib.IdealHost
public import Idealize.ShloMosaic.Lib.Pipeline.Value
public import Idealize.ShloMosaic.Lib.StableHlo.ReadAt

@[expose] public section

set_option maxRecDepth 16384

noncomputable section

namespace Cert.KernelDhHeadIdeal.Dh

open Cert.KernelDhHeadIdeal Cert.KernelDhHeadIdeal.Gen Cert.Order Cert.Loads
open Idealize.ShloMosaic Idealize.ShloMosaic.TcCoe Idealize.ShloMosaic.Tactic

/-- A grid point's blocks: of the gradient's rows and tiles, of the weights' rounds, and of the result. -/
theorem idx_0 : ∀ t : Fin grid0.N, win0_0.index t 0 = 0 + t.val / 32 ∧ win0_0.index t 1 = pos (5 * (t.val % 8) + 0) := by decide +kernel
theorem idx_1 : ∀ t : Fin grid0.N, win0_1.index t 0 = 0 + t.val / 32 ∧ win0_1.index t 1 = pos (5 * (t.val % 8) + 1) := by decide +kernel
theorem idx_2 : ∀ t : Fin grid0.N, win0_2.index t 0 = 0 + t.val / 32 ∧ win0_2.index t 1 = pos (5 * (t.val % 8) + 2) := by decide +kernel
theorem idx_3 : ∀ t : Fin grid0.N, win0_3.index t 0 = 0 + t.val / 32 ∧ win0_3.index t 1 = pos (5 * (t.val % 8) + 3) := by decide +kernel
theorem idx_4 : ∀ t : Fin grid0.N, win0_4.index t 0 = 0 + t.val / 32 ∧ win0_4.index t 1 = pos (5 * (t.val % 8) + 4) := by decide +kernel
theorem idx_5 : ∀ t : Fin grid0.N, win0_5.index t 0 = t.val % 8 ∧ win0_5.index t 1 = t.val / 8 % 4 ∧ win0_5.index t 2 = 0 := by decide +kernel
theorem idx_6 : ∀ t : Fin grid0.N, win0_6.index t 0 = t.val % 8 ∧ win0_6.index t 1 = t.val / 8 % 4 ∧ win0_6.index t 2 = 0 := by decide +kernel
theorem idx_7 : ∀ t : Fin grid0.N, win0_7.index t 0 = t.val % 8 ∧ win0_7.index t 1 = t.val / 8 % 4 ∧ win0_7.index t 2 = 0 := by decide +kernel
theorem idx_8 : ∀ t : Fin grid0.N, win0_8.index t 0 = t.val % 8 ∧ win0_8.index t 1 = t.val / 8 % 4 ∧ win0_8.index t 2 = 0 := by decide +kernel
theorem idx_9 : ∀ t : Fin grid0.N, win0_9.index t 0 = t.val % 8 ∧ win0_9.index t 1 = t.val / 8 % 4 ∧ win0_9.index t 2 = 0 := by decide +kernel
theorem idx_10 : ∀ t : Fin grid0.N, win0_10.index t 0 = 0 + t.val / 32 ∧ win0_10.index t 1 = t.val / 8 % 4 := by decide +kernel

/-- The sum of a chip's five products read at an index, -/
theorem pay3_at (x0 : Vec Ideal S1024x512 .bf16) (y0 : Vec Ideal S1x1024x512 .bf16) (x1 : Vec Ideal S1024x512 .bf16) (y1 : Vec Ideal S1x1024x512 .bf16)
    (x2 : Vec Ideal S1024x512 .bf16) (y2 : Vec Ideal S1x1024x512 .bf16) (x3 : Vec Ideal S1024x512 .bf16) (y3 : Vec Ideal S1x1024x512 .bf16)
    (x4 : Vec Ideal S1024x512 .bf16) (y4 : Vec Ideal S1x1024x512 .bf16) (r k : Fin 1024) :
    k0_pay3 (F := Ideal) x0 y0 x1 y1 x2 y2 x3 y3 x4 y4 (ix2 r k) = (∑ s : Fin 512, x0 (ix2 r s) * y0 (ix3 0 k s)) + (∑ s : Fin 512, x1 (ix2 r s) * y1 (ix3 0 k s))
      + (∑ s : Fin 512, x2 (ix2 r s) * y2 (ix3 0 k s)) + (∑ s : Fin 512, x3 (ix2 r s) * y3 (ix3 0 k s)) + ∑ s : Fin 512, x4 (ix2 r s) * y4 (ix3 0 k s) := by
  unfold k0_pay3
  pointwise
/-- of the first chip as it is stored, -/
theorem pay1_at (x : Vec Ideal S1024x1024 .f32) (r k : Fin 1024) : k0_pay1 (F := Ideal) x (ix2 r k) = x (ix2 r k) := by
  unfold k0_pay1
  pointwise
/-- and of a later one, added to what is there. -/
theorem pay2_at (x y : Vec Ideal S1024x1024 .f32) (r k : Fin 1024) : k0_pay2 (F := Ideal) x y (ix2 r k) = y (ix2 r k) + x (ix2 r k) := by
  unfold k0_pay2
  pointwise

variable (m : (ℓ : Loc nD τ sig) → Buf (Elt Ideal) ℓ) (c : Dev nD)

/-- The projections' gradient and the weights, as launched. -/
def G (s : Fin 4096) (n : Fin 20480) : EReal := (m ((c : Thread nD τ).loc main_arg0) : Vec Ideal S4096x20480 .bf16) (ix2 s n)
def W : Rounds := fun r k d n => match r with
  | 0 => (m ((c : Thread nD τ).loc main_arg1) : Vec Ideal S8x4096x512 .bf16) (ix3 k d n)
  | 1 => (m ((c : Thread nD τ).loc main_arg2) : Vec Ideal S8x4096x512 .bf16) (ix3 k d n)
  | 2 => (m ((c : Thread nD τ).loc main_arg3) : Vec Ideal S8x4096x512 .bf16) (ix3 k d n)
  | 3 => (m ((c : Thread nD τ).loc main_arg4) : Vec Ideal S8x4096x512 .bf16) (ix3 k d n)
  | 4 => (m ((c : Thread nD τ).loc main_arg5) : Vec Ideal S8x4096x512 .bf16) (ix3 k d n)

/-- The five products of a point, out of its blocks. -/
def prod (t : Fin cfg0.N) : Vec Ideal S1024x1024 .f32 :=
  k0_pay3 (F := Ideal) (iblk m c 0 t) (iblk m c 5 t) (iblk m c 1 t) (iblk m c 6 t) (iblk m c 2 t) (iblk m c 7 t) (iblk m c 3 t) (iblk m c 8 t) (iblk m c 4 t) (iblk m c 9 t)

/-- What a point leaves in the accumulator: at a block's first point its products, -/
theorem acc_first (t : Fin cfg0.N) (h : t.val % 8 = 0) : (outsAt0 m c t.val t.isLt).2 = k0_pay1 (F := Ideal) (prod m c t) := by
  rw [outsAt0_A m c t h (by omega) (by omega)]; dsimp only
  refine (View.read_writes_junk_eq_canon VS0_0 _).trans ?_
  refine (View.canon_unit_zero z2 _ _).trans ?_
  show k0_pay1 (k0_pay3 _ _ _ _ _ _ _ _ _ _) = _
  rw [load_whole _ _ z2, load_whole _ _ z3, load_whole _ _ z2, load_whole _ _ z3, load_whole _ _ z2, load_whole _ _ z3, load_whole _ _ z2, load_whole _ _ z3, load_whole _ _ z2, load_whole _ _ z3]
  rfl
/-- after it the products added to what the point before left. -/
theorem acc_next (t : Fin cfg0.N) (h : ¬ t.val % 8 = 0) :
    (outsAt0 m c t.val t.isLt).2 = k0_pay2 (F := Ideal) (prod m c t) (outsAt0 m c (t.val - 1) (by have := t.isLt; omega)).2 := by
  by_cases h7 : t.val % 8 = 7
  · rw [outsAt0_C m c t h (by omega) h7]; dsimp only
    refine (View.read_writes_junk_eq_canon VS0_0 _).trans ?_
    refine (View.canon_unit_zero z2 _ _).trans ?_
    show k0_pay2 (k0_pay3 _ _ _ _ _ _ _ _ _ _) _ = _
    rw [load_whole _ _ z2, load_whole _ _ z3, load_whole _ _ z2, load_whole _ _ z3, load_whole _ _ z2, load_whole _ _ z3, load_whole _ _ z2, load_whole _ _ z3, load_whole _ _ z2, load_whole _ _ z3, load_whole _ _ z2]
    rfl
  · rw [outsAt0_B m c t h (by omega) h7]; dsimp only
    refine (View.read_writes_junk_eq_canon VS0_0 _).trans ?_
    refine (View.canon_unit_zero z2 _ _).trans ?_
    show k0_pay2 (k0_pay3 _ _ _ _ _ _ _ _ _ _) _ = _
    rw [load_whole _ _ z2, load_whole _ _ z3, load_whole _ _ z2, load_whole _ _ z3, load_whole _ _ z2, load_whole _ _ z3, load_whole _ _ z2, load_whole _ _ z3, load_whole _ _ z2, load_whole _ _ z3, load_whole _ _ z2]
    rfl
/-- At a block's last point the result's block is the accumulator. -/
theorem out_last (t : Fin cfg0.N) (h7 : t.val % 8 = 7) : (outsAt0 m c t.val t.isLt).1 = (outsAt0 m c t.val t.isLt).2 := by
  rw [outsAt0_C m c t (by omega) (by omega) h7]; dsimp only
  refine (View.read_writes_junk_eq_canon VO0_10 _).trans ?_
  refine (View.canon_unit_zero z2 _ _).trans ?_
  refine Eq.trans ?_ ((View.read_writes_junk_eq_canon VS0_0 _).trans (View.canon_unit_zero z2 _ _)).symm
  exact load_stored scM0_0.view _ z2 _ _

theorem blk_0 (t : Fin cfg0.N) (r : Fin 1024) (k : Fin 512) (s : Fin 4096) (n : Fin 20480) (hs : s.val = 0 + 1024 * (t.val / 32) + r.val)
    (hn : n.val = 512 * pos (5 * (t.val % 8) + 0) + k.val) : (iblk m c 0 t : Vec Ideal S1024x512 .bf16) (ix2 r k) = G m c s n := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = s.val
              rw [(idx_0 t).1]; omega
  | ⟨1, _⟩ => show win0_0.index t 1 * 512 + 1 * k.val = n.val
              rw [(idx_0 t).2]; omega

theorem blk_1 (t : Fin cfg0.N) (r : Fin 1024) (k : Fin 512) (s : Fin 4096) (n : Fin 20480) (hs : s.val = 0 + 1024 * (t.val / 32) + r.val)
    (hn : n.val = 512 * pos (5 * (t.val % 8) + 1) + k.val) : (iblk m c 1 t : Vec Ideal S1024x512 .bf16) (ix2 r k) = G m c s n := by
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t 0 * 1024 + 1 * r.val = s.val
              rw [(idx_1 t).1]; omega
  | ⟨1, _⟩ => show win0_1.index t 1 * 512 + 1 * k.val = n.val
              rw [(idx_1 t).2]; omega

theorem blk_2 (t : Fin cfg0.N) (r : Fin 1024) (k : Fin 512) (s : Fin 4096) (n : Fin 20480) (hs : s.val = 0 + 1024 * (t.val / 32) + r.val)
    (hn : n.val = 512 * pos (5 * (t.val % 8) + 2) + k.val) : (iblk m c 2 t : Vec Ideal S1024x512 .bf16) (ix2 r k) = G m c s n := by
  unfold iblk
  rw [View.read_apply]
  show V m c main_arg0 _ = _
  rw [V_main_arg0]
  refine congrArg (m ((c : Thread nD τ).loc main_arg0)) (funext fun a => Fin.ext ?_)
  match a with
  | ⟨0, _⟩ => show win0_2.index t 0 * 1024 + 1 * r.val = s.val
              rw [(idx_2 t).1]; omega
  | ⟨1, _⟩ => show win0_2.index t 1 * 512 + 1 * k.val = n.val
              rw [(idx_2 t).2]; omega

theorem blk_3 (t : Fin cfg0.N) (r : Fin 1024) (k : Fin 512) (s : Fin 4096) (n : Fin 20480) (hs : s.val = 0 + 1024 * (t.val / 32) + r.val)
    (hn : n.val = 512 * pos (5 * (t.val % 8) + 3) + k.val) : (iblk m c 3 t : Vec Ideal S1024x512 .bf16) (ix2 r k) = G m c s n := by
  unfold iblk
  rw [View.read_apply]
  show V m c main_arg0 _ = _
  rw [V_main_arg0]
  refine congrArg (m ((c : Thread nD τ).loc main_arg0)) (funext fun a => Fin.ext ?_)
  match a with
  | ⟨0, _⟩ => show win0_3.index t 0 * 1024 + 1 * r.val = s.val
              rw [(idx_3 t).1]; omega
  | ⟨1, _⟩ => show win0_3.index t 1 * 512 + 1 * k.val = n.val
              rw [(idx_3 t).2]; omega

theorem blk_4 (t : Fin cfg0.N) (r : Fin 1024) (k : Fin 512) (s : Fin 4096) (n : Fin 20480) (hs : s.val = 0 + 1024 * (t.val / 32) + r.val)
    (hn : n.val = 512 * pos (5 * (t.val % 8) + 4) + k.val) : (iblk m c 4 t : Vec Ideal S1024x512 .bf16) (ix2 r k) = G m c s n := by
  unfold iblk
  rw [View.read_apply]
  show V m c main_arg0 _ = _
  rw [V_main_arg0]
  refine congrArg (m ((c : Thread nD τ).loc main_arg0)) (funext fun a => Fin.ext ?_)
  match a with
  | ⟨0, _⟩ => show win0_4.index t 0 * 1024 + 1 * r.val = s.val
              rw [(idx_4 t).1]; omega
  | ⟨1, _⟩ => show win0_4.index t 1 * 512 + 1 * k.val = n.val
              rw [(idx_4 t).2]; omega

theorem blk_5 (t : Fin cfg0.N) (r : Fin 1024) (k : Fin 512) (q : Fin 8) (d : Fin 4096) (hq : q.val = t.val % 8)
    (hd : d.val = 1024 * (t.val / 8 % 4) + r.val) : (iblk m c 5 t : Vec Ideal S1x1024x512 .bf16) (ix3 0 r k) = W m c 0 q d k := by
  unfold iblk
  rw [View.read_apply]
  show V m c main_arg1 _ = _
  rw [V_main_arg1]
  refine congrArg (m ((c : Thread nD τ).loc main_arg1)) (funext fun a => Fin.ext ?_)
  match a with
  | ⟨0, _⟩ => show win0_5.index t 0 * 1 + 1 * 0 = q.val
              rw [(idx_5 t).1]; omega
  | ⟨1, _⟩ => show win0_5.index t 1 * 1024 + 1 * r.val = d.val
              rw [(idx_5 t).2.1]; omega
  | ⟨2, _⟩ => show win0_5.index t 2 * 512 + 1 * k.val = k.val
              rw [(idx_5 t).2.2]; omega

theorem blk_6 (t : Fin cfg0.N) (r : Fin 1024) (k : Fin 512) (q : Fin 8) (d : Fin 4096) (hq : q.val = t.val % 8)
    (hd : d.val = 1024 * (t.val / 8 % 4) + r.val) : (iblk m c 6 t : Vec Ideal S1x1024x512 .bf16) (ix3 0 r k) = W m c 1 q d k := by
  unfold iblk
  rw [View.read_apply]
  show V m c main_arg2 _ = _
  rw [V_main_arg2]
  refine congrArg (m ((c : Thread nD τ).loc main_arg2)) (funext fun a => Fin.ext ?_)
  match a with
  | ⟨0, _⟩ => show win0_6.index t 0 * 1 + 1 * 0 = q.val
              rw [(idx_6 t).1]; omega
  | ⟨1, _⟩ => show win0_6.index t 1 * 1024 + 1 * r.val = d.val
              rw [(idx_6 t).2.1]; omega
  | ⟨2, _⟩ => show win0_6.index t 2 * 512 + 1 * k.val = k.val
              rw [(idx_6 t).2.2]; omega

theorem blk_7 (t : Fin cfg0.N) (r : Fin 1024) (k : Fin 512) (q : Fin 8) (d : Fin 4096) (hq : q.val = t.val % 8)
    (hd : d.val = 1024 * (t.val / 8 % 4) + r.val) : (iblk m c 7 t : Vec Ideal S1x1024x512 .bf16) (ix3 0 r k) = W m c 2 q d k := by
  unfold iblk
  rw [View.read_apply]
  show V m c main_arg3 _ = _
  rw [V_main_arg3]
  refine congrArg (m ((c : Thread nD τ).loc main_arg3)) (funext fun a => Fin.ext ?_)
  match a with
  | ⟨0, _⟩ => show win0_7.index t 0 * 1 + 1 * 0 = q.val
              rw [(idx_7 t).1]; omega
  | ⟨1, _⟩ => show win0_7.index t 1 * 1024 + 1 * r.val = d.val
              rw [(idx_7 t).2.1]; omega
  | ⟨2, _⟩ => show win0_7.index t 2 * 512 + 1 * k.val = k.val
              rw [(idx_7 t).2.2]; omega

theorem blk_8 (t : Fin cfg0.N) (r : Fin 1024) (k : Fin 512) (q : Fin 8) (d : Fin 4096) (hq : q.val = t.val % 8)
    (hd : d.val = 1024 * (t.val / 8 % 4) + r.val) : (iblk m c 8 t : Vec Ideal S1x1024x512 .bf16) (ix3 0 r k) = W m c 3 q d k := by
  unfold iblk
  rw [View.read_apply]
  show V m c main_arg4 _ = _
  rw [V_main_arg4]
  refine congrArg (m ((c : Thread nD τ).loc main_arg4)) (funext fun a => Fin.ext ?_)
  match a with
  | ⟨0, _⟩ => show win0_8.index t 0 * 1 + 1 * 0 = q.val
              rw [(idx_8 t).1]; omega
  | ⟨1, _⟩ => show win0_8.index t 1 * 1024 + 1 * r.val = d.val
              rw [(idx_8 t).2.1]; omega
  | ⟨2, _⟩ => show win0_8.index t 2 * 512 + 1 * k.val = k.val
              rw [(idx_8 t).2.2]; omega

theorem blk_9 (t : Fin cfg0.N) (r : Fin 1024) (k : Fin 512) (q : Fin 8) (d : Fin 4096) (hq : q.val = t.val % 8)
    (hd : d.val = 1024 * (t.val / 8 % 4) + r.val) : (iblk m c 9 t : Vec Ideal S1x1024x512 .bf16) (ix3 0 r k) = W m c 4 q d k := by
  unfold iblk
  rw [View.read_apply]
  show V m c main_arg5 _ = _
  rw [V_main_arg5]
  refine congrArg (m ((c : Thread nD τ).loc main_arg5)) (funext fun a => Fin.ext ?_)
  match a with
  | ⟨0, _⟩ => show win0_9.index t 0 * 1 + 1 * 0 = q.val
              rw [(idx_9 t).1]; omega
  | ⟨1, _⟩ => show win0_9.index t 1 * 1024 + 1 * r.val = d.val
              rw [(idx_9 t).2.1]; omega
  | ⟨2, _⟩ => show win0_9.index t 2 * 512 + 1 * k.val = k.val
              rw [(idx_9 t).2.2]; omega

theorem add5 {a b c d e a' b' c' d' e' : EReal} (ha : a = a') (hb : b = b') (hc : c = c') (hd : d = d') (he : e = e') :
    a + b + c + d + e = a' + b' + c' + d' + e' := by rw [ha, hb, hc, hd, he]

theorem prod_at (t : Fin cfg0.N) (r k : Fin 1024) (s d : Fin 4096) (hs : s.val = 0 + 1024 * (t.val / 32) + r.val)
    (hd : d.val = 1024 * (t.val / 8 % 4) + k.val) : prod m c t (ix2 r k) = chip (G m c) (W m c) s d (t.val % 8) := by
  unfold prod chip
  rw [pay3_at, dif_pos (show t.val % 8 < 8 by omega)]
  exact add5
    (Finset.sum_congr rfl fun n _ => congrArg₂ (fun x y : EReal => x * y)
      (blk_0 m c t r n s ⟨512 * pos (5 * (t.val % 8) + 0) + n.val, by have := pos_lt (show 5 * (t.val % 8) + 0 < 40 by omega); omega⟩ hs rfl)
      (blk_5 m c t k n ⟨t.val % 8, by omega⟩ d rfl hd))
    (Finset.sum_congr rfl fun n _ => congrArg₂ (fun x y : EReal => x * y)
      (blk_1 m c t r n s ⟨512 * pos (5 * (t.val % 8) + 1) + n.val, by have := pos_lt (show 5 * (t.val % 8) + 1 < 40 by omega); omega⟩ hs rfl)
      (blk_6 m c t k n ⟨t.val % 8, by omega⟩ d rfl hd))
    (Finset.sum_congr rfl fun n _ => congrArg₂ (fun x y : EReal => x * y)
      (blk_2 m c t r n s ⟨512 * pos (5 * (t.val % 8) + 2) + n.val, by have := pos_lt (show 5 * (t.val % 8) + 2 < 40 by omega); omega⟩ hs rfl)
      (blk_7 m c t k n ⟨t.val % 8, by omega⟩ d rfl hd))
    (Finset.sum_congr rfl fun n _ => congrArg₂ (fun x y : EReal => x * y)
      (blk_3 m c t r n s ⟨512 * pos (5 * (t.val % 8) + 3) + n.val, by have := pos_lt (show 5 * (t.val % 8) + 3 < 40 by omega); omega⟩ hs rfl)
      (blk_8 m c t k n ⟨t.val % 8, by omega⟩ d rfl hd))
    (Finset.sum_congr rfl fun n _ => congrArg₂ (fun x y : EReal => x * y)
      (blk_4 m c t r n s ⟨512 * pos (5 * (t.val % 8) + 4) + n.val, by have := pos_lt (show 5 * (t.val % 8) + 4 < 40 by omega); omega⟩ hs rfl)
      (blk_9 m c t k n ⟨t.val % 8, by omega⟩ d rfl hd))

/-- The accumulator after a point: the sum over the block's chips so far. -/
theorem acc_at : ∀ (n : ℕ) (hn : n < cfg0.N) (r k : Fin 1024) (s d : Fin 4096), s.val = 0 + 1024 * (n / 32) + r.val →
    d.val = 1024 * (n / 8 % 4) + k.val →
    (outsAt0 m c n hn).2 (ix2 r k) = ∑ q ∈ Finset.range (n % 8 + 1), chip (G m c) (W m c) s d q := by
  intro n
  induction n with
  | zero =>
    intro hn r k s d hs hd
    rw [acc_first m c ⟨0, hn⟩ rfl, pay1_at, prod_at m c ⟨0, hn⟩ r k s d hs hd]
    exact (Finset.sum_range_one _).symm
  | succ n ih =>
    intro hn r k s d hs hd
    by_cases h : (n + 1) % 8 = 0
    · rw [acc_first m c ⟨n + 1, hn⟩ h, pay1_at, prod_at m c ⟨n + 1, hn⟩ r k s d hs hd]
      show chip _ _ s d ((n + 1) % 8) = _
      rw [h, Finset.sum_range_one]
    · rw [acc_next m c ⟨n + 1, hn⟩ h, pay2_at, prod_at m c ⟨n + 1, hn⟩ r k s d hs hd]
      show (outsAt0 m c n _).2 (ix2 r k) + chip _ _ s d ((n + 1) % 8) = _
      rw [ih (by omega) r k s d (by omega) (by omega), show (n + 1) % 8 = n % 8 + 1 by omega]
      exact (Finset.sum_range_succ _ _).symm

/-- The result array: the gradient's rows that the kernel computes, and the rest as the array came. -/
def arr : Buf (Elt Ideal) ((c : Thread nD τ).loc main_v0) :=
  (fun i => if 0 ≤ (i 0).val / 2048 ∧ (i 0).val / 2048 < 1 then dh (G m c) (W m c) (i 0) (i 1) else V m c main_v0 i : Vec Ideal S4096x4096 .f32)

theorem arr_at (j : S4096x4096.Idx) (s d : Fin 4096) (hs : (j 0).val = s.val) (hd : (j 1).val = d.val) (h : s.val / 2048 = 0) :
    (arr m c : Vec Ideal S4096x4096 .f32) j = dh (G m c) (W m c) s d := by
  show (if _ then dh (G m c) (W m c) (j 0) (j 1) else _) = _
  rw [if_pos (by omega)]
  congr 1
  · exact Fin.ext hs
  · exact Fin.ext hd

theorem flushed_10 (t : Fin cfg0.N) (hf : (cfg0.win 10).flush t = true) :
    (dats m 0 c).flushed 10 t = ((cfg0.win 10).blk t).view.read (Elt Ideal) (arr m c) := by
  have h7 : t.val % 8 = 7 := (flush0_10 t).mp hf
  have ht : t.val < 64 := t.isLt
  show (cfg0.win 10).cut (grid0.coords t) ((dats m 0 c).after 10 t) = _
  rw [after0_10, out_last m c t h7]
  funext i
  rw [View.read_apply]
  have h0 : (i 0).val < 1024 := (i 0).isLt
  have h1 : (i 1).val < 1024 := (i 1).isLt
  have e : (cfg0.win 10).cut (grid0.coords t) (outsAt0 m c t.val t.isLt).2 i = (outsAt0 m c t.val t.isLt).2 (ix2 ⟨(i 0).val, h0⟩ ⟨(i 1).val, h1⟩) := by
    refine congrArg (outsAt0 m c t.val t.isLt).2 (funext fun a => Fin.ext ?_)
    match a with
    | ⟨0, _⟩ => rfl
    | ⟨1, _⟩ => rfl
  refine e.trans ((acc_at m c t.val t.isLt _ _ ⟨0 + 1024 * (t.val / 32) + (i 0).val, by omega⟩ ⟨1024 * (t.val / 8 % 4) + (i 1).val, by omega⟩ rfl rfl).trans ?_)
  rw [h7, sum_chip]
  refine (arr_at m c (((cfg0.win 10).blk t).view.emb i) _ _ ?_ ?_ ?_).symm
  · show win0_10.index t 0 * 1024 + 1 * (i 0).val = 0 + 1024 * (t.val / 32) + (i 0).val
    rw [(idx_10 t).1]; omega
  · show win0_10.index t 1 * 1024 + 1 * (i 1).val = 1024 * (t.val / 8 % 4) + (i 1).val
    rw [(idx_10 t).2]; omega
  · show (0 + 1024 * (t.val / 32) + (i 0).val) / 2048 = 0
    omega

theorem final_10 : (dats m 0 c).arrAt 10 cfg0.N = arr m c := by
  funext i
  rw [(dats m 0 c).arrAt_eq_piecewise 10 (arr m c) (flushed_10 m c) i]
  have h0 : (i 0 : Nat) < 4096 := (i 0).isLt
  have h1 : (i 1 : Nat) < 4096 := (i 1).isLt
  by_cases hc : (i 0 : Nat) / 2048 = 0
  · refine if_pos ?_
    let t : Fin cfg0.N := ⟨32 * ((i 0 : Nat) % 2048 / 1024) + 8 * ((i 1 : Nat) / 1024) + 7, by show _ < 64; omega⟩
    have ht : t.val = 32 * ((i 0 : Nat) % 2048 / 1024) + 8 * ((i 1 : Nat) / 1024) + 7 := rfl
    refine ⟨t, (flush0_10 t).mpr (by omega), ?_⟩
    show i ∈ ((View.whole main_v0).slice (win0_10.rect t)).set
    rw [View.set_slice_whole, Rect.mem_set_unit]
    intro a
    match a with
    | ⟨0, _⟩ => show win0_10.index t 0 * 1024 ≤ (i 0 : Nat) ∧ (i 0 : Nat) < win0_10.index t 0 * 1024 + 1024
                rw [(idx_10 t).1]; omega
    | ⟨1, _⟩ => show win0_10.index t 1 * 1024 ≤ (i 1 : Nat) ∧ (i 1 : Nat) < win0_10.index t 1 * 1024 + 1024
                rw [(idx_10 t).2]; omega
  · rw [if_neg]
    · rw [A_eq]
      show V m c main_v0 i = if 0 ≤ (i 0).val / 2048 ∧ (i 0).val / 2048 < 1 then _ else V m c main_v0 i
      rw [if_neg (by omega)]
    · rintro ⟨t, -, hi⟩
      replace hi : i ∈ ((View.whole main_v0).slice (win0_10.rect t)).set := hi
      rw [View.set_slice_whole, Rect.mem_set_unit] at hi
      have h1 : win0_10.index t 0 * 1024 ≤ (i 0 : Nat) ∧ (i 0 : Nat) < win0_10.index t 0 * 1024 + 1024 := hi 0
      rw [(idx_10 t).1] at h1
      have : t.val < 64 := t.isLt
      omega

/-- The result of the program: the array's first half. -/
def half (c : Dev nD) : Buf (Elt Ideal) ((c : Thread nD τ).loc main_v1) :=
  extractStridedSlice S2048x4096 ![0, 0] (arr m c : Vec Ideal S4096x4096 .f32) slices_S4096x4096_S2048x4096_0_0

theorem half_at (j : S2048x4096.Idx) (s d : Fin 4096) (hs : s.val = (j 0).val) (hd : d.val = (j 1).val) :
    (half m c : Vec Ideal S2048x4096 .f32) j = dh (G m c) (W m c) s d := by
  have h0 : (j 0).val < 2048 := (j 0).isLt
  unfold half
  rw [extractStridedSlice_apply ![0, 0] (arr m c : Vec Ideal S4096x4096 .f32) slices_S4096x4096_S2048x4096_0_0 j (ix2 s d) (fun a => match a with
    | ⟨0, _⟩ => by show s.val = 0 + (j 0).val; omega
    | ⟨1, _⟩ => by show d.val = 0 + (j 1).val; omega)]
  exact arr_at m c (ix2 s d) s d rfl rfl (by omega)

theorem run_half (g : Dev nD → PrngReg) : θ_run defs (onTc (τ := τ) (main (F := Ideal))) ⟨m, fun _ => 0, g⟩
    (fun r => ∀ c : Dev nD, r.2.mem ((c.tc : Thread nD τ).loc main_v1) = half m c) := by
  refine (θ_run _ _ _).mono (fun r h c => ((h c).2 main_v1 (Pipeline.mem_restRefs_of main_v1 (by decide) (by decide))).trans ?_) (run_main m g)
  show extractStridedSlice S2048x4096 ![0, 0] (Pipeline.withArrays (cfgs 0).spec c (V0 m c) (fun w => (dats m 0 c).arrAt w (cfgs 0).N)
    (Proc.devRef .tc main_v0) : Vec Ideal S4096x4096 .f32) slices_S4096x4096_S2048x4096_0_0 = _
  unfold half
  refine congrArg (fun x : Vec Ideal S4096x4096 .f32 => extractStridedSlice S2048x4096 ![0, 0] x slices_S4096x4096_S2048x4096_0_0) ?_
  exact ((dats m 0 c).withArrays_arrAt sharedIn0 (V0 m c) (A_eq m c) 10).trans (final_10 m c)

end Cert.KernelDhHeadIdeal.Dh

end
-- ==== Proof.Dh.RefHead.lean ====
/- What the reference of the hidden rows' gradient, its first half, leaves in its result array. -/
module

public import proofs.«01_k».proof.Proof.Dh.Order
public import proofs.«01_k».proof.Proof.Gen.ReferenceDhHeadIdeal.Read
public import Idealize.ShloMosaic.Lib.Pipeline.Value
public import Idealize.ShloMosaic.Lib.Pointwise
public import Idealize.ShloMosaic.Lib.ValueIdx
public import Idealize.ShloMosaic.Lib.IdealHost

@[expose] public section

set_option maxRecDepth 16384

noncomputable section

namespace Cert.ReferenceDhHeadIdeal.Dh

open Cert.ReferenceDhHeadIdeal Cert.ReferenceDhHeadIdeal.Gen Cert.ReferenceDhHeadIdeal.Read Cert.Order
open Idealize.ShloMosaic Idealize.ShloMosaic.TcCoe Idealize.ShloMosaic.Tactic

variable (x0 : Vec Ideal S4096x20480 .bf16) (x1 x2 x3 x4 x5 : Vec Ideal S8x4096x512 .bf16)

/-- Column `k` of tile `b` of gate `a`, out of the tiles by turns. -/
theorem gate_at (s : Fin 4096) (a : Fin 2) (b : Fin 8) (k : Fin 512) :
    val_main_v9 (F := Ideal) x0 (ix2 s ⟨(a.val * 8 + b.val) * 512 + k.val, by omega⟩)
      = x0 (ix2 s ⟨12288 + ((b.val * 2 + a.val) * 512 + k.val), by omega⟩) := by
  rw [val_main_v9_apply]
  have e9 : idx_main_v9 (ix2 s ⟨(a.val * 8 + b.val) * 512 + k.val, by omega⟩) = ix4 s a b k := funext fun d => Fin.ext (match d with
    | ⟨0, _⟩ => by show (s.val * 8192 + ((a.val * 8 + b.val) * 512 + k.val)) / 8192 = s.val; omega
    | ⟨1, _⟩ => by show (s.val * 8192 + ((a.val * 8 + b.val) * 512 + k.val)) / 4096 % 2 = a.val; omega
    | ⟨2, _⟩ => by show (s.val * 8192 + ((a.val * 8 + b.val) * 512 + k.val)) / 512 % 8 = b.val; omega
    | ⟨3, _⟩ => by show (s.val * 8192 + ((a.val * 8 + b.val) * 512 + k.val)) % 512 = k.val; omega)
  rw [e9, val_main_v8_apply, val_main_v7_apply, val_main_v6_apply]
  refine congrArg x0 (funext fun d => Fin.ext ?_)
  match d with
  | ⟨0, _⟩ => show (((s.val * 8 + b.val) * 2 + a.val) * 512 + k.val) / 8192 = s.val; omega
  | ⟨1, _⟩ => show 12288 + (((s.val * 8 + b.val) * 2 + a.val) * 512 + k.val) % 8192 = 12288 + ((b.val * 2 + a.val) * 512 + k.val); omega

/-- The gradient's columns in the weights' order. -/
theorem cols_at (s : Fin 4096) (n : Fin 20480) : val_main_v11 (F := Ideal) x0 (ix2 s n) = x0 (ix2 s (col n)) := by
  have hn := n.isLt
  unfold val_main_v11
  rw [concatenate_pair_apply]
  split
  · next hlt =>
    have h : n.val < 12288 := hlt
    rw [val_main_v10_apply]
    refine congrArg x0 (funext fun a => Fin.ext ?_)
    match a with
    | ⟨0, _⟩ => rfl
    | ⟨1, _⟩ => exact (src_before h).symm
  · next hlt =>
    have h : ¬ n.val < 12288 := hlt
    have e := gate_at x0 s ⟨(n.val - 12288) / 4096, by omega⟩ ⟨(n.val - 12288) / 512 % 8, by omega⟩ ⟨n.val % 512, by omega⟩
    refine Eq.trans (congrArg (val_main_v9 (F := Ideal) x0) (funext fun a => Fin.ext ?_)) (e.trans
      (congrArg (fun n => x0 (ix2 s n)) (Fin.ext ?_)))
    · match a with
      | ⟨0, _⟩ => rfl
      | ⟨1, _⟩ => show n.val - 12288 = ((n.val - 12288) / 4096 * 8 + (n.val - 12288) / 512 % 8) * 512 + n.val % 512; omega
    · refine (src_gate (a := (n.val - 12288) / 4096) (b := (n.val - 12288) / 512 % 8) (c := n.val % 512) (by omega) (by omega) (by omega)).symm.trans ?_
      refine congrArg src ?_
      show 12288 + (((n.val - 12288) / 4096 * 8 + (n.val - 12288) / 512 % 8) * 512 + n.val % 512) = n.val
      omega

/-- The weights' tiles, by round. -/
def rounds : Rounds := fun r q d k => match r with
  | 0 => x1 (ix3 q d k)
  | 1 => x2 (ix3 q d k)
  | 2 => x3 (ix3 q d k)
  | 3 => x4 (ix3 q d k)
  | 4 => x5 (ix3 q d k)

/-- The rounds' tiles side by side. -/
theorem tiles_at (q : Fin 8) (d : Fin 4096) (r : Fin 5) (k : Fin 512) (n : Fin 2560) (hn : n.val = 512 * r.val + k.val) :
    val_main_v0 (F := Ideal) x1 x2 x3 x4 x5 (ix3 q d n) = rounds x1 x2 x3 x4 x5 r q d k := by
  unfold val_main_v0 rounds
  have off (b : Fin S8x4096x512.rank) (hb : b.cast (rfl : S8x4096x512.rank = S8x4096x2560.rank) ≠ (2 : Fin S8x4096x2560.rank)) : ((ix3 q d k : S8x4096x512.Idx) b).val = ((ix3 q d n : S8x4096x2560.Idx) (b.cast rfl)).val := match b with
    | ⟨0, _⟩ => rfl
    | ⟨1, _⟩ => rfl
    | ⟨2, _⟩ => absurd rfl hb
  match r with
  | 0 =>
    show concatenate S8x4096x2560 2 _ _ (ix3 q d n) = x1 (ix3 q d k)
    refine concatenate_apply_piece (t := S8x4096x2560) 2 _ _ (ix3 q d n) 0 ?_ S8x4096x512 x1 ?_ rfl 0 ?_ (ix3 q d k) off ?_
    · show 0 < 5; decide
    · rfl
    · rfl
    · exact hn.symm
  | 1 =>
    show concatenate S8x4096x2560 2 _ _ (ix3 q d n) = x2 (ix3 q d k)
    refine concatenate_apply_piece (t := S8x4096x2560) 2 _ _ (ix3 q d n) 1 ?_ S8x4096x512 x2 ?_ rfl 512 ?_ (ix3 q d k) off ?_
    · show 1 < 5; decide
    · rfl
    · rfl
    · exact hn.symm
  | 2 =>
    show concatenate S8x4096x2560 2 _ _ (ix3 q d n) = x3 (ix3 q d k)
    refine concatenate_apply_piece (t := S8x4096x2560) 2 _ _ (ix3 q d n) 2 ?_ S8x4096x512 x3 ?_ rfl 1024 ?_ (ix3 q d k) off ?_
    · show 2 < 5; decide
    · rfl
    · rfl
    · exact hn.symm
  | 3 =>
    show concatenate S8x4096x2560 2 _ _ (ix3 q d n) = x4 (ix3 q d k)
    refine concatenate_apply_piece (t := S8x4096x2560) 2 _ _ (ix3 q d n) 3 ?_ S8x4096x512 x4 ?_ rfl 1536 ?_ (ix3 q d k) off ?_
    · show 3 < 5; decide
    · rfl
    · rfl
    · exact hn.symm
  | 4 =>
    show concatenate S8x4096x2560 2 _ _ (ix3 q d n) = x5 (ix3 q d k)
    refine concatenate_apply_piece (t := S8x4096x2560) 2 _ _ (ix3 q d n) 4 ?_ S8x4096x512 x5 ?_ rfl 2048 ?_ (ix3 q d k) off ?_
    · show 4 < 5; decide
    · rfl
    · rfl
    · exact hn.symm

/-- The weights' columns in the weights' order. -/
theorem weights_at (d : Fin 4096) (n : Fin 20480) : val_main_v2 (F := Ideal) x1 x2 x3 x4 x5 (ix2 d n)
    = rounds x1 x2 x3 x4 x5 ⟨n.val / 512 % 5, by omega⟩ ⟨n.val / 2560, by omega⟩ d ⟨n.val % 512, by omega⟩ := by
  have hn := n.isLt
  have e : idx_main_v1 (idx_main_v2 (ix2 d n)) = ix3 ⟨n.val / 2560, by omega⟩ d ⟨n.val % 2560, by omega⟩ := funext fun a => Fin.ext (match a with
    | ⟨0, _⟩ => by show (d.val * 20480 + n.val) / 2560 % 8 = n.val / 2560; omega
    | ⟨1, _⟩ => by show (d.val * 20480 + n.val) / 20480 = d.val; omega
    | ⟨2, _⟩ => by show (d.val * 20480 + n.val) % 2560 = n.val % 2560; omega)
  rw [val_main_v2_apply, val_main_v1_apply, e]
  exact tiles_at x1 x2 x3 x4 x5 _ d ⟨n.val / 512 % 5, by omega⟩ ⟨n.val % 512, by omega⟩ _ (by show n.val % 2560 = 512 * (n.val / 512 % 5) + n.val % 512; omega)

/-- The gradient of the hidden rows at row `s` and column `d`. -/
theorem dh_at (s d : Fin 4096) : val_main_v13 (F := Ideal) x0 x1 x2 x3 x4 x5 (ix2 s d)
    = dh (fun s n => x0 (ix2 s n)) (rounds x1 x2 x3 x4 x5) s d := by
  rw [val_main_v13_apply]
  show (∑ k : Fin 20480, _) = _
  unfold dh
  refine Finset.sum_congr rfl fun n _ => ?_
  have e1 : lidx_main_v13 (ix2 s d) n = ix2 s n := funext fun a => match a with
    | ⟨0, _⟩ => rfl
    | ⟨1, _⟩ => rfl
  have e2 : ridx_main_v13 (ix2 s d) n = ix2 d n := funext fun a => match a with
    | ⟨0, _⟩ => rfl
    | ⟨1, _⟩ => rfl
  rw [e1, e2, val_main_v12_apply, val_main_v3_apply]
  exact congrArg₂ (fun x y : EReal => x * y) (cols_at x0 s n) (weights_at x1 x2 x3 x4 x5 d n)

/-- The result: the gradient's first half. -/
theorem result_at (i : S2048x4096.Idx) (s d : Fin 4096) (hs : s.val = (i 0).val) (hd : d.val = (i 1).val) :
    val_main_v14 (F := Ideal) x0 x1 x2 x3 x4 x5 i = dh (fun s n => x0 (ix2 s n)) (rounds x1 x2 x3 x4 x5) s d := by
  rw [val_main_v14_apply, ← dh_at x0 x1 x2 x3 x4 x5 s d]
  refine congrArg (val_main_v13 (F := Ideal) x0 x1 x2 x3 x4 x5) (funext fun a => Fin.ext ?_)
  match a with
  | ⟨0, _⟩ => exact hs.symm
  | ⟨1, _⟩ => exact hd.symm

end Cert.ReferenceDhHeadIdeal.Dh

end
-- ==== Proof.Dh.Head.lean ====
/- The first half of the hidden rows' gradient: the kernel's result (Dh/KernelHead.lean) is the reference's (Dh/RefHead.lean). -/
module

public import proofs.«01_k».proof.Defs
public import proofs.«01_k».proof.Proof.Dh.KernelHead
public import proofs.«01_k».proof.Proof.Dh.RefHead
public import proofs.«01_k».proof.Proof.Gen.KernelDhHead
public import proofs.«01_k».proof.Proof.Gen.KernelDhHead.Frame
public import proofs.«01_k».proof.Proof.Gen.ReferenceDhHeadIdeal.Run
public import Idealize.ShloMosaic.Lib.QuiescentFlight
public import Idealize.ShloMosaic.Init

@[expose] public section

set_option maxRecDepth 16384

noncomputable section

namespace Cert.Proof.DhHead

open Idealize.ShloMosaic Idealize.ShloMosaic.TcCoe Idealize.SL.Sem

theorem frame_R : Cert.quiescent_ReferenceDhHeadIdeal := fun m g _ =>
  (θ_run Cert.ReferenceDhHeadIdeal.defs _ _).mono (fun r h => ⟨fun c => (h c).2, sem_eq_zero_of_no_sems (by decide) r.2⟩)
    (Cert.ReferenceDhHeadIdeal.Value.run (F := Ideal) m g)

theorem algebraic : Cert.algebraic_KernelDhHeadIdeal_ReferenceDhHeadIdeal := by
  intro m g m' g' _ hagree
  refine ⟨Cert.KernelDhHeadIdeal.Dh.half m, ?_, ?_⟩
  · exact (θ_run _ _ _).mono (fun _ h c => ⟨h.1 c, h.2 c⟩)
      (θ_run_and (Cert.KernelDhHeadIdeal.Dh.run_half m g) (Cert.KernelDhHeadIdeal.Gen.unchanged m g))
  · refine (θ_run _ _ _).mono (fun _ h c => ⟨(h c).1.trans ?_, (h c).2⟩) (Cert.ReferenceDhHeadIdeal.Value.run (F := Ideal) m' g')
    obtain ⟨a0, a1, a2, a3, a4, a5⟩ := hagree c
    rw [Cert.ReferenceDhHeadIdeal.Read.val_main_v14_eq, a0, a1, a2, a3, a4, a5]
    funext j
    have h0 : (j 0).val < 2048 := (j 0).isLt
    have h1 : (j 1).val < 4096 := (j 1).isLt
    refine (Cert.ReferenceDhHeadIdeal.Dh.result_at _ _ _ _ _ _ j ⟨(j 0).val, by omega⟩ ⟨(j 1).val, h1⟩ rfl rfl).trans ?_
    exact (Cert.KernelDhHeadIdeal.Dh.half_at m c j ⟨(j 0).val, by omega⟩ ⟨(j 1).val, h1⟩ rfl rfl).symm

end Cert.Proof.DhHead

end
-- ==== Proof.DwOut.Order.lean ====
/- The gradient of the output weights. -/
module

public import Mathlib.Data.EReal.Operations
public import Mathlib.Algebra.BigOperators.Fin

@[expose] public section

namespace Cert.Order

/-- A sum of products over the tokens: the gradient of the weights `w` of `a @ w` at row `d` and column `n`. -/
noncomputable def wgrad {w : ℕ} (a : Fin 4096 → Fin w → EReal) (g : Fin 4096 → Fin 4096 → EReal) (d : Fin w) (n : Fin 4096) : EReal :=
  ∑ s, a s d * g s n

end Cert.Order
-- ==== Proof.DwOut.KernelMerged.lean ====
/- What the kernel of the output projection's weights' gradient leaves in its result array. -/
module

public import proofs.«01_k».proof.Proof.Loads
public import proofs.«01_k».proof.Proof.DwOut.Order
public import proofs.«01_k».proof.Proof.Gen.KernelDwOutIdeal.Value
public import Idealize.ShloMosaic.Lib.StableHlo.ReadAt
public import Idealize.ShloMosaic.Lib.Pointwise
public import Idealize.ShloMosaic.Lib.ValueIdx
public import Idealize.ShloMosaic.Lib.IdealHost

@[expose] public section

set_option maxRecDepth 16384

noncomputable section

namespace Cert.KernelDwOutIdeal.DwOut

open Cert.KernelDwOutIdeal Cert.KernelDwOutIdeal.Gen Cert.Order Cert.Loads
open Idealize.ShloMosaic Idealize.ShloMosaic.TcCoe Idealize.ShloMosaic.Tactic

/-- A grid point's blocks. -/
theorem idx_0 : ∀ t : Fin grid0.N, win0_0.index t 0 = 0 ∧ win0_0.index t 1 = t.val / 8 := by decide +kernel
theorem idx_1 : ∀ t : Fin grid0.N, win0_1.index t 0 = 0 ∧ win0_1.index t 1 = t.val % 8 := by decide +kernel
theorem idx_2 : ∀ t : Fin grid0.N, win0_2.index t 0 = 0 ∧ win0_2.index t 1 = t.val / 8 ∧ win0_2.index t 2 = 8 + t.val % 8
    ∧ win0_2.index t 3 = 0 := by decide +kernel

/-- The body's product read at an index, and its two halves as they are stored. -/
theorem pay1_at (x : Vec Ideal S4096x1024 .bf16) (y : Vec Ideal S4096x512 .bf16) (r : Fin 1024) (k : Fin 512) :
    k0_pay1 (F := Ideal) x y (ix2 r k) = ∑ s : Fin 4096, x (ix2 s r) * y (ix2 s k) := by
  unfold k0_pay1
  pointwise
theorem pay2_at (x : Vec Ideal S4096x1024 .bf16) (y : Vec Ideal S4096x512 .bf16) (r k : Fin 512) (r' : Fin 1024) (h : r'.val = r.val) :
    k0_pay2 (F := Ideal) x y (ix4 0 0 r k) = ∑ s : Fin 4096, x (ix2 s r') * y (ix2 s k) := by
  refine Eq.trans ?_ (pay1_at x y r' k)
  unfold k0_pay2
  generalize k0_pay1 (F := Ideal) x y = z
  pointwise
  exact congrArg z (funext fun a => Fin.ext (match a with
    | ⟨0, _⟩ => h.symm
    | ⟨1, _⟩ => rfl))
theorem pay3_at (x : Vec Ideal S4096x1024 .bf16) (y : Vec Ideal S4096x512 .bf16) (r k : Fin 512) (r' : Fin 1024) (h : r'.val = 512 + r.val) :
    k0_pay3 (F := Ideal) x y (ix4 0 0 r k) = ∑ s : Fin 4096, x (ix2 s r') * y (ix2 s k) := by
  refine Eq.trans ?_ (pay1_at x y r' k)
  unfold k0_pay3
  generalize k0_pay1 (F := Ideal) x y = z
  pointwise
  exact congrArg z (funext fun a => Fin.ext (match a with
    | ⟨0, _⟩ => h.symm
    | ⟨1, _⟩ => rfl))

/-- The two halves as one block. -/
def both (x : Vec Ideal S4096x1024 .bf16) (y : Vec Ideal S4096x512 .bf16) : Vec Ideal S2x1x512x512 .bf16 := fun i =>
  ∑ s : Fin 4096, x (ix2 s ⟨512 * (i 0).val + (i 2).val, by
    have h0 : (i 0).val < 2 := (i 0).isLt
    have h2 : (i 2).val < 512 := (i 2).isLt
    omega⟩) * y (ix2 s (i 3))

variable (m : (ℓ : Loc nD τ sig) → Buf (Elt Ideal) ℓ) (c : Dev nD)

theorem block (t : Fin cfg0.N) : outsAt0 m c t = both (iblk m c 0 t) (iblk m c 1 t) := by
  unfold outsAt0
  funext i
  obtain ⟨pc, hpc, hi⟩ := cover0_A_2 c (grid0.coords t) (ms0_0 t) (hs0_0 t) (ms0_1 t) (hs0_1 t) (ms0_2 t) (hs0_2 t) (iblk m c 0 t) (iblk m c 1 t) i
  unfold out0_A_2
  refine (congrFun (View.read_writes_junk_eq_canon VO0_2 _) i).trans ?_
  refine View.canon_apply_of_pieces (both (iblk m c 0 t) (iblk m c 1 t)) _ ?_ i ⟨pc, hpc, hi⟩
  intro p hp
  have hp' : p = ⟨Rect.unit (s := S2x1x512x512) ![1, 0, 0, 0] S1x1x512x512.size inb_S2x1x512x512_S1x1x512x512_1_0_0_0,
      k0_pay3 (F := Ideal) (View.readAt (Elt Ideal) (ms0_0 t).view (Rect.unit (s := S4096x1024) ![0, 0] S4096x1024.size inb_S4096x1024_S4096x1024_0_0).toLoadRect ((hs0_0 t).unread (iblk m c 0 t)))
        (View.readAt (Elt Ideal) (ms0_1 t).view (Rect.unit (s := S4096x512) ![0, 0] S4096x512.size inb_S4096x512_S4096x512_0_0).toLoadRect ((hs0_1 t).unread (iblk m c 1 t)))⟩
      ∨ p = ⟨Rect.unit (s := S2x1x512x512) ![0, 0, 0, 0] S1x1x512x512.size inb_S2x1x512x512_S1x1x512x512_0_0_0_0,
      k0_pay2 (F := Ideal) (View.readAt (Elt Ideal) (ms0_0 t).view (Rect.unit (s := S4096x1024) ![0, 0] S4096x1024.size inb_S4096x1024_S4096x1024_0_0).toLoadRect ((hs0_0 t).unread (iblk m c 0 t)))
        (View.readAt (Elt Ideal) (ms0_1 t).view (Rect.unit (s := S4096x512) ![0, 0] S4096x512.size inb_S4096x512_S4096x512_0_0).toLoadRect ((hs0_1 t).unread (iblk m c 1 t)))⟩ := by
    rcases List.mem_cons.mp hp with h | h
    · exact Or.inl h
    · exact Or.inr (List.mem_singleton.mp h)
  rcases hp' with rfl | rfl
  · intro (x : S1x1x512x512.Idx)
    rw [load_whole _ _ z2, load_whole _ _ z2]
    have h0 : (x 0).val < 1 := (x 0).isLt
    have h1 : (x 1).val < 1 := (x 1).isLt
    have h2 : (x 2).val < 512 := (x 2).isLt
    refine Eq.trans (congrArg (k0_pay3 (F := Ideal) (iblk m c 0 t) (iblk m c 1 t)) (funext fun a => Fin.ext ?_))
      ((pay3_at (iblk m c 0 t) (iblk m c 1 t) (x 2) (x 3) ⟨512 + (x 2).val, by omega⟩ rfl).trans ?_)
    · match a with
      | ⟨0, _⟩ => show (x 0).val = 0; omega
      | ⟨1, _⟩ => show (x 1).val = 0; omega
      | ⟨2, _⟩ => rfl
      | ⟨3, _⟩ => rfl
    · refine Finset.sum_congr rfl fun s _ => congrArg₂ (fun x y : EReal => x * y) (congrArg (iblk m c 0 t) (funext fun a => Fin.ext ?_))
        (congrArg (iblk m c 1 t) (funext fun a => Fin.ext ?_))
      · match a with
        | ⟨0, _⟩ => rfl
        | ⟨1, _⟩ => show 512 + (x 2).val = 512 * (1 + 1 * (x 0).val) + (0 + 1 * (x 2).val); omega
      · match a with
        | ⟨0, _⟩ => rfl
        | ⟨1, _⟩ => show (x 3).val = 0 + 1 * (x 3).val; omega
  · intro (x : S1x1x512x512.Idx)
    rw [load_whole _ _ z2, load_whole _ _ z2]
    have h0 : (x 0).val < 1 := (x 0).isLt
    have h1 : (x 1).val < 1 := (x 1).isLt
    have h2 : (x 2).val < 512 := (x 2).isLt
    refine Eq.trans (congrArg (k0_pay2 (F := Ideal) (iblk m c 0 t) (iblk m c 1 t)) (funext fun a => Fin.ext ?_))
      ((pay2_at (iblk m c 0 t) (iblk m c 1 t) (x 2) (x 3) ⟨(x 2).val, by omega⟩ rfl).trans ?_)
    · match a with
      | ⟨0, _⟩ => show (x 0).val = 0; omega
      | ⟨1, _⟩ => show (x 1).val = 0; omega
      | ⟨2, _⟩ => rfl
      | ⟨3, _⟩ => rfl
    · refine Finset.sum_congr rfl fun s _ => congrArg₂ (fun x y : EReal => x * y) (congrArg (iblk m c 0 t) (funext fun a => Fin.ext ?_))
        (congrArg (iblk m c 1 t) (funext fun a => Fin.ext ?_))
      · match a with
        | ⟨0, _⟩ => rfl
        | ⟨1, _⟩ => show (x 2).val = 512 * (0 + 1 * (x 0).val) + (0 + 1 * (x 2).val); omega
      · match a with
        | ⟨0, _⟩ => rfl
        | ⟨1, _⟩ => show (x 3).val = 0 + 1 * (x 3).val; omega

/-- The two factors, as launched. -/
def A (s : Fin 4096) (d : Fin 4096) : EReal := (m ((c : Thread nD τ).loc main_arg0) : Vec Ideal S4096x4096 .bf16) (ix2 s d)
def B (s n : Fin 4096) : EReal := (m ((c : Thread nD τ).loc main_arg1) : Vec Ideal S4096x4096 .bf16) (ix2 s n)

theorem blk_0 (t : Fin cfg0.N) (s : Fin 4096) (r : Fin 1024) (d : Fin 4096) (h : d.val = 1024 * (t.val / 8) + r.val) :
    (iblk m c 0 t : Vec Ideal S4096x1024 .bf16) (ix2 s r) = A m c s d := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 4096 + 1 * s.val = s.val
              rw [(idx_0 t).1]; omega
  | ⟨1, _⟩ => show win0_0.index t 1 * 1024 + 1 * r.val = d.val
              rw [(idx_0 t).2]; omega

theorem blk_1 (t : Fin cfg0.N) (s : Fin 4096) (k : Fin 512) (n : Fin 4096) (h : n.val = 512 * (t.val % 8) + k.val) :
    (iblk m c 1 t : Vec Ideal S4096x512 .bf16) (ix2 s k) = B m c s n := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 4096 + 1 * s.val = s.val
              rw [(idx_1 t).1]; omega
  | ⟨1, _⟩ => show win0_1.index t 1 * 512 + 1 * k.val = n.val
              rw [(idx_1 t).2]; omega

/-- The row and the column of the gradient that a place of the result holds. -/
def row (i : S2x4x8704x512.Idx) : Fin 4096 := ⟨1024 * (i 1).val + 512 * (i 0).val + (i 2).val % 512, by
  have h0 : (i 0).val < 2 := (i 0).isLt
  have h1 : (i 1).val < 4 := (i 1).isLt
  omega⟩
def column (i : S2x4x8704x512.Idx) : Fin 4096 := ⟨512 * ((i 2).val / 512 % 8) + (i 3).val, by
  have h0 : (i 0).val < 2 := (i 0).isLt
  have h1 : (i 1).val < 4 := (i 1).isLt
  have h3 : (i 3).val < 512 := (i 3).isLt
  omega⟩

/-- The result array: the gradient in its rows, and the rest as the array came. -/
def arr : Buf (Elt Ideal) ((c : Thread nD τ).loc main_v0) :=
  (fun i => if 4096 ≤ (i 2).val ∧ (i 2).val < 8192 then wgrad (A m c) (B m c) (row i) (column i) else V m c main_v0 i : Vec Ideal S2x4x8704x512 .bf16)

theorem arr_at (j : S2x4x8704x512.Idx) (d : Fin 4096) (n : Fin 4096) (hd : (row j).val = d.val) (hn : (column j).val = n.val)
    (h : 4096 ≤ (j 2).val ∧ (j 2).val < 8192) : (arr m c : Vec Ideal S2x4x8704x512 .bf16) j = wgrad (A m c) (B m c) d n := by
  show (if _ then wgrad (A m c) (B m c) (row j) (column j) else _) = _
  rw [if_pos h, Fin.ext hd, Fin.ext hn]

theorem flushed_2 (t : Fin cfg0.N) (hf : (cfg0.win 2).flush t = true) :
    (dats m 0 c).flushed 2 t = ((cfg0.win 2).blk t).view.read (Elt Ideal) (arr m c) := by
  show (cfg0.win 2).cut (grid0.coords t) ((dats m 0 c).after 2 t) = _
  rw [after0_2, block]
  have ht : t.val < 32 := t.isLt
  funext i
  rw [View.read_apply]
  have h0 : (i 0).val < 2 := (i 0).isLt
  have h1 : (i 1).val < 1 := (i 1).isLt
  have h2 : (i 2).val < 512 := (i 2).isLt
  have h3 : (i 3).val < 512 := (i 3).isLt
  have p0 : ((((cfg0.win 2).blk t).view.emb i : S2x4x8704x512.Idx) 0).val = 0 + (i 0).val := by
    show win0_2.index t 0 * 2 + 1 * (i 0).val = _
    rw [(idx_2 t).1]; omega
  have p1 : ((((cfg0.win 2).blk t).view.emb i : S2x4x8704x512.Idx) 1).val = t.val / 8 := by
    show win0_2.index t 1 * 1 + 1 * (i 1).val = _
    rw [(idx_2 t).2.1]; omega
  have p2 : ((((cfg0.win 2).blk t).view.emb i : S2x4x8704x512.Idx) 2).val = (8 + t.val % 8) * 512 + (i 2).val := by
    show win0_2.index t 2 * 512 + 1 * (i 2).val = _
    rw [(idx_2 t).2.2.1]; omega
  have p3 : ((((cfg0.win 2).blk t).view.emb i : S2x4x8704x512.Idx) 3).val = (i 3).val := by
    show win0_2.index t 3 * 512 + 1 * (i 3).val = _
    rw [(idx_2 t).2.2.2]; omega
  generalize (((cfg0.win 2).blk t).view.emb i : S2x4x8704x512.Idx) = j at p0 p1 p2 p3 ⊢
  refine ((arr_at m c j ⟨1024 * (t.val / 8) + 512 * (i 0).val + (i 2).val, by omega⟩ ⟨512 * (t.val % 8) + (i 3).val, by omega⟩ ?_ ?_ ?_).trans ?_).symm
  · show 1024 * (j 1).val + 512 * (j 0).val + (j 2).val % 512 = 1024 * (t.val / 8) + 512 * (i 0).val + (i 2).val
    omega
  · show 512 * ((j 2).val / 512 % 8) + (j 3).val = 512 * (t.val % 8) + (i 3).val
    omega
  · omega
  · exact (Finset.sum_congr rfl fun s _ => congrArg₂ (fun x y : EReal => x * y)
      (blk_0 m c t s ⟨512 * (i 0).val + (i 2).val, by omega⟩ ⟨1024 * (t.val / 8) + 512 * (i 0).val + (i 2).val, by omega⟩ (by show 1024 * (t.val / 8) + 512 * (i 0).val + (i 2).val = 1024 * (t.val / 8) + (512 * (i 0).val + (i 2).val); omega))
      (blk_1 m c t s ⟨(i 3).val, h3⟩ ⟨512 * (t.val % 8) + (i 3).val, by omega⟩ rfl)).symm

theorem final_2 : (dats m 0 c).arrAt 2 cfg0.N = arr m c := by
  funext i
  rw [(dats m 0 c).arrAt_eq_piecewise 2 (arr m c) (flushed_2 m c) i]
  have h0 : (i 0 : Nat) < 2 := (i 0).isLt
  have h1 : (i 1 : Nat) < 4 := (i 1).isLt
  have h2 : (i 2 : Nat) < 8704 := (i 2).isLt
  have h3 : (i 3 : Nat) < 512 := (i 3).isLt
  by_cases hc : 4096 ≤ (i 2 : Nat) ∧ (i 2 : Nat) < 8192
  · refine if_pos ?_
    let t : Fin cfg0.N := ⟨8 * (i 1 : Nat) + ((i 2 : Nat) - 4096) / 512, by show _ < 32; omega⟩
    have ht : t.val = 8 * (i 1 : Nat) + ((i 2 : Nat) - 4096) / 512 := rfl
    refine ⟨t, flush0_2 t, ?_⟩
    show i ∈ ((View.whole main_v0).slice (win0_2.rect t)).set
    rw [View.set_slice_whole, Rect.mem_set_unit]
    intro a
    match a with
    | ⟨0, _⟩ => show win0_2.index t 0 * 2 ≤ (i 0 : Nat) ∧ (i 0 : Nat) < win0_2.index t 0 * 2 + 2
                rw [(idx_2 t).1]; omega
    | ⟨1, _⟩ => show win0_2.index t 1 * 1 ≤ (i 1 : Nat) ∧ (i 1 : Nat) < win0_2.index t 1 * 1 + 1
                rw [(idx_2 t).2.1]; omega
    | ⟨2, _⟩ => show win0_2.index t 2 * 512 ≤ (i 2 : Nat) ∧ (i 2 : Nat) < win0_2.index t 2 * 512 + 512
                rw [(idx_2 t).2.2.1]; omega
    | ⟨3, _⟩ => show win0_2.index t 3 * 512 ≤ (i 3 : Nat) ∧ (i 3 : Nat) < win0_2.index t 3 * 512 + 512
                rw [(idx_2 t).2.2.2]; omega
  · rw [if_neg]
    · rw [A_eq]
      show V m c main_v0 i = if 4096 ≤ (i 2).val ∧ (i 2).val < 8192 then _ else V m c main_v0 i
      rw [if_neg hc]
    · rintro ⟨t, -, hi⟩
      replace hi : i ∈ ((View.whole main_v0).slice (win0_2.rect t)).set := hi
      rw [View.set_slice_whole, Rect.mem_set_unit] at hi
      have h4 : win0_2.index t 2 * 512 ≤ (i 2 : Nat) ∧ (i 2 : Nat) < win0_2.index t 2 * 512 + 512 := hi 2
      rw [(idx_2 t).2.2.1] at h4
      have : t.val < 32 := t.isLt
      omega

/-- The result array is handed to the region as the launch's last argument. -/
theorem V_copy (i : S2x4x8704x512.Idx) : (V m c main_v0 : Vec Ideal S2x4x8704x512 .bf16) i = (m ((c : Thread nD τ).loc main_arg2) : Vec Ideal S2x4x8704x512 .bf16) i := by
  unfold V
  after_reads_at
  rfl

end Cert.KernelDwOutIdeal.DwOut

end
-- ==== Proof.DwOut.RefMerged.lean ====
/- What the reference of the output projection's weights' gradient leaves in its result array. -/
module

public import proofs.«01_k».proof.Proof.DwOut.Order
public import proofs.«01_k».proof.Proof.Gen.ReferenceDwOutIdeal.Read
public import Idealize.ShloMosaic.Lib.Pipeline.Value
public import Idealize.ShloMosaic.Lib.Pointwise
public import Idealize.ShloMosaic.Lib.ValueIdx
public import Idealize.ShloMosaic.Lib.IdealHost

@[expose] public section

set_option maxRecDepth 16384

noncomputable section

namespace Cert.ReferenceDwOutIdeal.DwOut

open Cert.ReferenceDwOutIdeal Cert.ReferenceDwOutIdeal.Gen Cert.ReferenceDwOutIdeal.Read Cert.Order
open Idealize.ShloMosaic Idealize.ShloMosaic.TcCoe Idealize.ShloMosaic.Tactic

variable (x0 : Vec Ideal S4096x4096 .bf16) (x1 : Vec Ideal S4096x4096 .bf16) (x2 : Vec Ideal S2x4x8704x512 .bf16)

/-- The gradient at row `d` and column `n`. -/
theorem grad_at (d : Fin 4096) (n : Fin 4096) : val_main_v6 (F := Ideal) x0 x1 (ix2 d n)
    = wgrad (fun s d => x0 (ix2 s d)) (fun s n => x1 (ix2 s n)) d n := by
  rw [val_main_v6_apply, val_main_v5_apply, val_main_v4_apply]
  show (∑ s : Fin 4096, _) = _
  unfold wgrad
  refine Finset.sum_congr rfl fun s _ => ?_
  have e1 : lidx_main_v4 (idx_main_v5 (ix2 d n)) s = ix2 s n := funext fun a => match a with
    | ⟨0, _⟩ => rfl
    | ⟨1, _⟩ => rfl
  have e2 : ridx_main_v4 (idx_main_v5 (ix2 d n)) s = ix2 s d := funext fun a => match a with
    | ⟨0, _⟩ => rfl
    | ⟨1, _⟩ => rfl
  rw [e1, e2, val_main_v3_apply, val_main_v1_apply, mul_comm]
  rfl

/-- The gradient's rows laid out by the chip that keeps them. -/
theorem chip_at (p : Fin 2) (q : Fin 4) (y : Fin 4096) (k : Fin 512) (d n : Fin 4096) (hd : d.val = 1024 * q.val + 512 * p.val + y.val % 512)
    (hn : n.val = 512 * (y.val / 512) + k.val) : val_main_v9 (F := Ideal) x0 x1 (ix4 p q y k)
      = wgrad (fun s d => x0 (ix2 s d)) (fun s n => x1 (ix2 s n)) d n := by
  have e9 : idx_main_v9 (ix4 p q y k) = ix5 p q ⟨y.val / 512, by omega⟩ ⟨y.val % 512, by omega⟩ k := funext fun a => Fin.ext (match a with
    | ⟨0, _⟩ => by show (((p.val * 4 + q.val) * 4096 + y.val) * 512 + k.val) / 8388608 = p.val; omega
    | ⟨1, _⟩ => by show (((p.val * 4 + q.val) * 4096 + y.val) * 512 + k.val) / 2097152 % 4 = q.val; omega
    | ⟨2, _⟩ => by show (((p.val * 4 + q.val) * 4096 + y.val) * 512 + k.val) / 262144 % 8 = y.val / 512; omega
    | ⟨3, _⟩ => by show (((p.val * 4 + q.val) * 4096 + y.val) * 512 + k.val) / 512 % 512 = y.val % 512; omega
    | ⟨4, _⟩ => by show (((p.val * 4 + q.val) * 4096 + y.val) * 512 + k.val) % 512 = k.val; omega)
  rw [val_main_v9_apply, e9, val_main_v8_apply, val_main_v7_apply, ← grad_at]
  refine congrArg (val_main_v6 (F := Ideal) x0 x1) (funext fun a => Fin.ext ?_)
  match a with
  | ⟨0, _⟩ =>
    show ((((q.val * 2 + p.val) * 512 + y.val % 512) * 8 + y.val / 512) * 512 + k.val) / 4096 = d.val
    omega
  | ⟨1, _⟩ =>
    show ((((q.val * 2 + p.val) * 512 + y.val % 512) * 8 + y.val / 512) * 512 + k.val) % 4096 = n.val
    omega

/-- The result: the gradient in its rows, and the rest as it was. -/
theorem result_at (i : S2x4x8704x512.Idx) (d : Fin 4096) (n : Fin 4096) (hd : d.val = 1024 * (i 1).val + 512 * (i 0).val + (i 2).val % 512) (hn : n.val = 512 * ((i 2).val / 512 % 8) + (i 3).val) :
    val_main_v12 (F := Ideal) x0 x1 x2 i
      = if 4096 ≤ (i 2).val ∧ (i 2).val < 8192 then wgrad (fun s d => x0 (ix2 s d)) (fun s n => x1 (ix2 s n)) d n else x2 i := by
  have h0 : (i 0).val < 2 := (i 0).isLt
  have h1 : (i 1).val < 4 := (i 1).isLt
  have h2 : (i 2).val < 8704 := (i 2).isLt
  have h3 : (i 3).val < 512 := (i 3).isLt
  unfold val_main_v12
  by_cases hc : 4096 ≤ (i 2).val ∧ (i 2).val < 8192
  · rw [if_pos hc]
    refine Eq.trans (concatenate_apply_piece (t := S2x4x8704x512) 2 _ _ i 1 ?_ S2x4x4096x512 (val_main_v9 (F := Ideal) x0 x1) ?_ rfl 4096 ?_ (ix4 ⟨(i 0).val, h0⟩ ⟨(i 1).val, h1⟩ ⟨(i 2).val - 4096, by omega⟩ ⟨(i 3).val, h3⟩) (fun b hb => match b with
      | ⟨0, _⟩ => rfl
      | ⟨1, _⟩ => rfl
      | ⟨2, _⟩ => absurd rfl hb
      | ⟨3, _⟩ => rfl) ?_) ?_
    · show 1 < 3; decide
    · rfl
    · rfl
    · show 4096 + ((i 2).val - 4096) = (i 2).val; omega
    · exact chip_at x0 x1 _ _ _ _ d n (by show d.val = 1024 * (i 1).val + 512 * (i 0).val + ((i 2).val - 4096) % 512; omega) (by show n.val = 512 * (((i 2).val - 4096) / 512) + (i 3).val; omega)
  · rw [if_neg hc]
    by_cases h : (i 2).val < 4096
    · refine Eq.trans (concatenate_apply_piece (t := S2x4x8704x512) 2 _ _ i 0 ?_ S2x4x4096x512 (val_main_v10 (F := Ideal) x2) ?_ rfl 0 ?_ (ix4 ⟨(i 0).val, h0⟩ ⟨(i 1).val, h1⟩ ⟨(i 2).val, by omega⟩ ⟨(i 3).val, h3⟩) (fun b hb => match b with
        | ⟨0, _⟩ => rfl
        | ⟨1, _⟩ => rfl
        | ⟨2, _⟩ => absurd rfl hb
        | ⟨3, _⟩ => rfl) ?_) ?_
      · show 0 < 3; decide
      · rfl
      · rfl
      · show 0 + ((i 2).val) = (i 2).val; omega
      · rw [val_main_v10_apply]
        refine congrArg x2 (funext fun a => Fin.ext ?_)
        match a with
        | ⟨0, _⟩ => rfl
        | ⟨1, _⟩ => rfl
        | ⟨2, _⟩ => show (i 2).val = (i 2).val; omega
        | ⟨3, _⟩ => rfl
    · refine Eq.trans (concatenate_apply_piece (t := S2x4x8704x512) 2 _ _ i 2 ?_ S2x4x512x512 (val_main_v11 (F := Ideal) x2) ?_ rfl 8192 ?_ (ix4 ⟨(i 0).val, h0⟩ ⟨(i 1).val, h1⟩ ⟨(i 2).val - 8192, by omega⟩ ⟨(i 3).val, h3⟩) (fun b hb => match b with
        | ⟨0, _⟩ => rfl
        | ⟨1, _⟩ => rfl
        | ⟨2, _⟩ => absurd rfl hb
        | ⟨3, _⟩ => rfl) ?_) ?_
      · show 2 < 3; decide
      · rfl
      · rfl
      · show 8192 + ((i 2).val - 8192) = (i 2).val; omega
      · rw [val_main_v11_apply]
        refine congrArg x2 (funext fun a => Fin.ext ?_)
        match a with
        | ⟨0, _⟩ => rfl
        | ⟨1, _⟩ => rfl
        | ⟨2, _⟩ => show 8192 + ((i 2).val - 8192) = (i 2).val; omega
        | ⟨3, _⟩ => rfl

end Cert.ReferenceDwOutIdeal.DwOut

end
-- ==== Proof.DwOut.Merged.lean ====
/- The output projection's weights' gradient: the kernel's result (DwOut/KernelMerged.lean) is the reference's (DwOut/RefMerged.lean). -/
module

public import proofs.«01_k».proof.Defs
public import proofs.«01_k».proof.Proof.DwOut.KernelMerged
public import proofs.«01_k».proof.Proof.DwOut.RefMerged
public import proofs.«01_k».proof.Proof.Gen.KernelDwOut
public import proofs.«01_k».proof.Proof.Gen.KernelDwOut.Frame
public import proofs.«01_k».proof.Proof.Gen.ReferenceDwOutIdeal.Run
public import Idealize.ShloMosaic.Lib.QuiescentFlight
public import Idealize.ShloMosaic.Init

@[expose] public section

set_option maxRecDepth 16384

noncomputable section

namespace Cert.Proof.DwOut

open Idealize.ShloMosaic Idealize.ShloMosaic.TcCoe Idealize.SL.Sem

theorem frame_R : Cert.quiescent_ReferenceDwOutIdeal := fun m g _ =>
  (θ_run Cert.ReferenceDwOutIdeal.defs _ _).mono (fun r h => ⟨fun c => (h c).2, sem_eq_zero_of_no_sems (by decide) r.2⟩)
    (Cert.ReferenceDwOutIdeal.Value.run (F := Ideal) m g)

theorem algebraic : Cert.algebraic_KernelDwOutIdeal_ReferenceDwOutIdeal := by
  intro m g m' g' _ hagree
  refine ⟨Cert.KernelDwOutIdeal.DwOut.arr m, ?_, ?_⟩
  · exact (θ_run _ _ _).mono (fun _ h c => ⟨(h c).1.trans (Cert.KernelDwOutIdeal.DwOut.final_2 m c), (h c).2⟩)
      (Cert.KernelDwOutIdeal.Value.run_blocks (F := Ideal) m g)
  · refine (θ_run _ _ _).mono (fun _ h c => ⟨(h c).1.trans ?_, (h c).2⟩) (Cert.ReferenceDwOutIdeal.Value.run (F := Ideal) m' g')
    obtain ⟨a0, a1, a2⟩ := hagree c
    rw [Cert.ReferenceDwOutIdeal.Read.val_main_v12_eq, a0, a1, a2]
    funext j
    refine (Cert.ReferenceDwOutIdeal.DwOut.result_at _ _ _ j (Cert.KernelDwOutIdeal.DwOut.row j) (Cert.KernelDwOutIdeal.DwOut.column j) rfl rfl).trans ?_
    unfold Cert.KernelDwOutIdeal.DwOut.arr
    exact ite_congr rfl (fun _ => rfl) (fun _ => (Cert.KernelDwOutIdeal.DwOut.V_copy m c j).symm)

end Cert.Proof.DwOut

end
-- ==== Proof.DwOut.KernelAttn.lean ====
/- What the kernel of the attention branch's output weights' gradient leaves in its result array. -/
module

public import proofs.«01_k».proof.Proof.Loads
public import proofs.«01_k».proof.Proof.DwOut.Order
public import proofs.«01_k».proof.Proof.Gen.KernelDwOutAttnIdeal.Value
public import Idealize.ShloMosaic.Lib.StableHlo.ReadAt
public import Idealize.ShloMosaic.Lib.Pointwise
public import Idealize.ShloMosaic.Lib.ValueIdx
public import Idealize.ShloMosaic.Lib.IdealHost

@[expose] public section

set_option maxRecDepth 16384

noncomputable section

namespace Cert.KernelDwOutAttnIdeal.DwOut

open Cert.KernelDwOutAttnIdeal Cert.KernelDwOutAttnIdeal.Gen Cert.Order Cert.Loads
open Idealize.ShloMosaic Idealize.ShloMosaic.TcCoe Idealize.ShloMosaic.Tactic

/-- A grid point's blocks. -/
theorem idx_0 : ∀ t : Fin grid0.N, win0_0.index t 0 = 0 ∧ win0_0.index t 1 = t.val / 8 := by decide +kernel
theorem idx_1 : ∀ t : Fin grid0.N, win0_1.index t 0 = 0 ∧ win0_1.index t 1 = t.val % 8 := by decide +kernel
theorem idx_2 : ∀ t : Fin grid0.N, win0_2.index t 0 = t.val % 8 % 2 ∧ win0_2.index t 1 = t.val % 8 / 2 ∧ win0_2.index t 2 = 0 + t.val / 8
    ∧ win0_2.index t 3 = 0 := by decide +kernel
/-- The result's rows are no multiple of a block's, but every block lies inside. -/
theorem size_2 : ∀ t : Fin grid0.N, win0_2.xsize (grid0.coords t) 0 = 1 ∧ win0_2.xsize (grid0.coords t) 1 = 1 ∧ win0_2.xsize (grid0.coords t) 2 = 1024
    ∧ win0_2.xsize (grid0.coords t) 3 = 512 := by decide +kernel

/-- The body's product read at an index. -/
theorem pay1_at (x : Vec Ideal S4096x1024 .bf16) (y : Vec Ideal S4096x512 .bf16) (r : Fin 1024) (k : Fin 512) :
    k0_pay1 (F := Ideal) x y (ix4 0 0 r k) = ∑ s : Fin 4096, x (ix2 s r) * y (ix2 s k) := by
  unfold k0_pay1
  pointwise

/-- The product as a block. -/
def both (x : Vec Ideal S4096x1024 .bf16) (y : Vec Ideal S4096x512 .bf16) : Vec Ideal S1x1x1024x512 .bf16 := fun i =>
  ∑ s : Fin 4096, x (ix2 s (i 2)) * y (ix2 s (i 3))

variable (m : (ℓ : Loc nD τ sig) → Buf (Elt Ideal) ℓ) (c : Dev nD)

theorem block (t : Fin cfg0.N) : outsAt0 m c t = both (iblk m c 0 t) (iblk m c 1 t) := by
  have z4 : (![0, 0, 0, 0] : Fin 4 → Nat) = fun _ => 0 := by decide
  unfold outsAt0 out0_A_2
  refine (View.read_writes_junk_eq_canon VO0_2 _).trans ?_
  refine (View.canon_unit_zero z4 _ _).trans ?_
  show k0_pay1 _ _ = _
  rw [load_whole _ _ z2, load_whole _ _ z2]
  funext i
  have h0 : (i 0).val < 1 := (i 0).isLt
  have h1 : (i 1).val < 1 := (i 1).isLt
  refine Eq.trans (congrArg (k0_pay1 (F := Ideal) (iblk m c 0 t) (iblk m c 1 t)) (funext fun a => Fin.ext ?_)) (pay1_at _ _ (i 2) (i 3))
  match a with
  | ⟨0, _⟩ => show (i 0).val = 0; omega
  | ⟨1, _⟩ => show (i 1).val = 0; omega
  | ⟨2, _⟩ => rfl
  | ⟨3, _⟩ => rfl

/-- The two factors, as launched. -/
def A (s : Fin 4096) (d : Fin 2048) : EReal := (m ((c : Thread nD τ).loc main_arg0) : Vec Ideal S4096x2048 .bf16) (ix2 s d)
def B (s n : Fin 4096) : EReal := (m ((c : Thread nD τ).loc main_arg1) : Vec Ideal S4096x4096 .bf16) (ix2 s n)

theorem blk_0 (t : Fin cfg0.N) (s : Fin 4096) (r : Fin 1024) (d : Fin 2048) (h : d.val = 1024 * (t.val / 8) + r.val) :
    (iblk m c 0 t : Vec Ideal S4096x1024 .bf16) (ix2 s r) = A m c s d := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 4096 + 1 * s.val = s.val
              rw [(idx_0 t).1]; omega
  | ⟨1, _⟩ => show win0_0.index t 1 * 1024 + 1 * r.val = d.val
              rw [(idx_0 t).2]; omega

theorem blk_1 (t : Fin cfg0.N) (s : Fin 4096) (k : Fin 512) (n : Fin 4096) (h : n.val = 512 * (t.val % 8) + k.val) :
    (iblk m c 1 t : Vec Ideal S4096x512 .bf16) (ix2 s k) = B m c s n := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 4096 + 1 * s.val = s.val
              rw [(idx_1 t).1]; omega
  | ⟨1, _⟩ => show win0_1.index t 1 * 512 + 1 * k.val = n.val
              rw [(idx_1 t).2]; omega

/-- The row and the column of the gradient that a place of the result holds. -/
def row (i : S2x4x8704x512.Idx) : Fin 2048 := ⟨(i 2).val % 2048, by
  have h0 : (i 0).val < 2 := (i 0).isLt
  have h1 : (i 1).val < 4 := (i 1).isLt
  omega⟩
def column (i : S2x4x8704x512.Idx) : Fin 4096 := ⟨512 * (2 * (i 1).val + (i 0).val) + (i 3).val, by
  have h0 : (i 0).val < 2 := (i 0).isLt
  have h1 : (i 1).val < 4 := (i 1).isLt
  have h3 : (i 3).val < 512 := (i 3).isLt
  omega⟩

/-- The result array: the gradient in its rows, and the rest as the array came. -/
def arr : Buf (Elt Ideal) ((c : Thread nD τ).loc main_v0) :=
  (fun i => if 0 ≤ (i 2).val ∧ (i 2).val < 2048 then wgrad (A m c) (B m c) (row i) (column i) else V m c main_v0 i : Vec Ideal S2x4x8704x512 .bf16)

theorem arr_at (j : S2x4x8704x512.Idx) (d : Fin 2048) (n : Fin 4096) (hd : (row j).val = d.val) (hn : (column j).val = n.val)
    (h : 0 ≤ (j 2).val ∧ (j 2).val < 2048) : (arr m c : Vec Ideal S2x4x8704x512 .bf16) j = wgrad (A m c) (B m c) d n := by
  show (if _ then wgrad (A m c) (B m c) (row j) (column j) else _) = _
  rw [if_pos h, Fin.ext hd, Fin.ext hn]

theorem flushed_2 (t : Fin cfg0.N) (hf : (cfg0.win 2).flush t = true) :
    (dats m 0 c).flushed 2 t = ((cfg0.win 2).blk t).view.read (Elt Ideal) (arr m c) := by
  show (cfg0.win 2).cut (grid0.coords t) ((dats m 0 c).after 2 t) = _
  rw [after0_2, block]
  have ht : t.val < 16 := t.isLt
  funext i
  rw [View.read_apply]
  have h0 : (i 0).val < 1 := lt_of_lt_of_eq (i 0).isLt (size_2 t).1
  have h1 : (i 1).val < 1 := lt_of_lt_of_eq (i 1).isLt (size_2 t).2.1
  have h2 : (i 2).val < 1024 := lt_of_lt_of_eq (i 2).isLt (size_2 t).2.2.1
  have h3 : (i 3).val < 512 := lt_of_lt_of_eq (i 3).isLt (size_2 t).2.2.2
  have p0 : ((((cfg0.win 2).blk t).view.emb i : S2x4x8704x512.Idx) 0).val = t.val % 8 % 2 * 1 + (i 0).val := by
    show win0_2.index t 0 * 1 + 1 * (i 0).val = _
    rw [(idx_2 t).1]; omega
  have p1 : ((((cfg0.win 2).blk t).view.emb i : S2x4x8704x512.Idx) 1).val = t.val % 8 / 2 := by
    show win0_2.index t 1 * 1 + 1 * (i 1).val = _
    rw [(idx_2 t).2.1]; omega
  have p2 : ((((cfg0.win 2).blk t).view.emb i : S2x4x8704x512.Idx) 2).val = (0 + t.val / 8) * 1024 + (i 2).val := by
    show win0_2.index t 2 * 1024 + 1 * (i 2).val = _
    rw [(idx_2 t).2.2.1]; omega
  have p3 : ((((cfg0.win 2).blk t).view.emb i : S2x4x8704x512.Idx) 3).val = (i 3).val := by
    show win0_2.index t 3 * 512 + 1 * (i 3).val = _
    rw [(idx_2 t).2.2.2]; omega
  generalize (((cfg0.win 2).blk t).view.emb i : S2x4x8704x512.Idx) = j at p0 p1 p2 p3 ⊢
  refine ((arr_at m c j ⟨1024 * (t.val / 8) + (i 2).val, by omega⟩ ⟨512 * (t.val % 8) + (i 3).val, by omega⟩ ?_ ?_ ?_).trans ?_).symm
  · show (j 2).val % 2048 = 1024 * (t.val / 8) + (i 2).val
    omega
  · show 512 * (2 * (j 1).val + (j 0).val) + (j 3).val = 512 * (t.val % 8) + (i 3).val
    omega
  · omega
  · exact (Finset.sum_congr rfl fun s _ => congrArg₂ (fun x y : EReal => x * y)
      (blk_0 m c t s ⟨(i 2).val, by omega⟩ ⟨1024 * (t.val / 8) + (i 2).val, by omega⟩ (by show 1024 * (t.val / 8) + (i 2).val = 1024 * (t.val / 8) + ((i 2).val); omega))
      (blk_1 m c t s ⟨(i 3).val, h3⟩ ⟨512 * (t.val % 8) + (i 3).val, by omega⟩ rfl)).symm

theorem final_2 : (dats m 0 c).arrAt 2 cfg0.N = arr m c := by
  funext i
  rw [(dats m 0 c).arrAt_eq_piecewise 2 (arr m c) (flushed_2 m c) i]
  have h0 : (i 0 : Nat) < 2 := (i 0).isLt
  have h1 : (i 1 : Nat) < 4 := (i 1).isLt
  have h2 : (i 2 : Nat) < 8704 := (i 2).isLt
  have h3 : (i 3 : Nat) < 512 := (i 3).isLt
  by_cases hc : 0 ≤ (i 2 : Nat) ∧ (i 2 : Nat) < 2048
  · refine if_pos ?_
    let t : Fin cfg0.N := ⟨8 * (((i 2 : Nat) - 0) / 1024) + (2 * (i 1 : Nat) + (i 0 : Nat)), by show _ < 16; omega⟩
    have ht : t.val = 8 * (((i 2 : Nat) - 0) / 1024) + (2 * (i 1 : Nat) + (i 0 : Nat)) := rfl
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + win0_2.xsize (grid0.coords t) 0
                rw [(idx_2 t).1, (size_2 t).1]; omega
    | ⟨1, _⟩ => show win0_2.index t 1 * 1 ≤ (i 1 : Nat) ∧ (i 1 : Nat) < win0_2.index t 1 * 1 + win0_2.xsize (grid0.coords t) 1
                rw [(idx_2 t).2.1, (size_2 t).2.1]; omega
    | ⟨2, _⟩ => show win0_2.index t 2 * 1024 ≤ (i 2 : Nat) ∧ (i 2 : Nat) < win0_2.index t 2 * 1024 + win0_2.xsize (grid0.coords t) 2
                rw [(idx_2 t).2.2.1, (size_2 t).2.2.1]; omega
    | ⟨3, _⟩ => show win0_2.index t 3 * 512 ≤ (i 3 : Nat) ∧ (i 3 : Nat) < win0_2.index t 3 * 512 + win0_2.xsize (grid0.coords t) 3
                rw [(idx_2 t).2.2.2, (size_2 t).2.2.2]; omega
  · rw [if_neg]
    · rw [A_eq]
      show V m c main_v0 i = if 0 ≤ (i 2).val ∧ (i 2).val < 2048 then _ else V m c main_v0 i
      rw [if_neg hc]
    · rintro ⟨t, -, hi⟩
      replace hi : i ∈ ((View.whole main_v0).slice (win0_2.rect t)).set := hi
      rw [View.set_slice_whole, Rect.mem_set_unit] at hi
      have h4 : win0_2.index t 2 * 1024 ≤ (i 2 : Nat) ∧ (i 2 : Nat) < win0_2.index t 2 * 1024 + win0_2.xsize (grid0.coords t) 2 := hi 2
      rw [(idx_2 t).2.2.1, (size_2 t).2.2.1] at h4
      have : t.val < 16 := t.isLt
      omega

/-- The result array is handed to the region as the launch's last argument. -/
theorem V_copy (i : S2x4x8704x512.Idx) : (V m c main_v0 : Vec Ideal S2x4x8704x512 .bf16) i = (m ((c : Thread nD τ).loc main_arg2) : Vec Ideal S2x4x8704x512 .bf16) i := by
  unfold V
  after_reads_at
  rfl

end Cert.KernelDwOutAttnIdeal.DwOut

end
-- ==== Proof.DwOut.RefAttn.lean ====
/- What the reference of the attention branch's output weights' gradient leaves in its result array. -/
module

public import proofs.«01_k».proof.Proof.DwOut.Order
public import proofs.«01_k».proof.Proof.Gen.ReferenceDwOutAttnIdeal.Read
public import Idealize.ShloMosaic.Lib.Pipeline.Value
public import Idealize.ShloMosaic.Lib.Pointwise
public import Idealize.ShloMosaic.Lib.ValueIdx
public import Idealize.ShloMosaic.Lib.IdealHost

@[expose] public section

set_option maxRecDepth 16384

noncomputable section

namespace Cert.ReferenceDwOutAttnIdeal.DwOut

open Cert.ReferenceDwOutAttnIdeal Cert.ReferenceDwOutAttnIdeal.Gen Cert.ReferenceDwOutAttnIdeal.Read Cert.Order
open Idealize.ShloMosaic Idealize.ShloMosaic.TcCoe Idealize.ShloMosaic.Tactic

variable (x0 : Vec Ideal S4096x2048 .bf16) (x1 : Vec Ideal S4096x4096 .bf16) (x2 : Vec Ideal S2x4x8704x512 .bf16)

/-- The gradient at row `d` and column `n`. -/
theorem grad_at (d : Fin 2048) (n : Fin 4096) : val_main_v6 (F := Ideal) x0 x1 (ix2 d n)
    = wgrad (fun s d => x0 (ix2 s d)) (fun s n => x1 (ix2 s n)) d n := by
  rw [val_main_v6_apply, val_main_v5_apply, val_main_v4_apply]
  show (∑ s : Fin 4096, _) = _
  unfold wgrad
  refine Finset.sum_congr rfl fun s _ => ?_
  have e1 : lidx_main_v4 (idx_main_v5 (ix2 d n)) s = ix2 s n := funext fun a => match a with
    | ⟨0, _⟩ => rfl
    | ⟨1, _⟩ => rfl
  have e2 : ridx_main_v4 (idx_main_v5 (ix2 d n)) s = ix2 s d := funext fun a => match a with
    | ⟨0, _⟩ => rfl
    | ⟨1, _⟩ => rfl
  rw [e1, e2, val_main_v3_apply, val_main_v1_apply, mul_comm]
  rfl

/-- The gradient's columns laid out by the chip that keeps them. -/
theorem chip_at (p : Fin 2) (q : Fin 4) (y : Fin 2048) (k : Fin 512) (n : Fin 4096) (hn : n.val = 512 * (2 * q.val + p.val) + k.val) :
    val_main_v8 (F := Ideal) x0 x1 (ix4 p q y k) = wgrad (fun s d => x0 (ix2 s d)) (fun s n => x1 (ix2 s n)) y n := by
  rw [val_main_v8_apply, val_main_v7_apply, ← grad_at]
  refine congrArg (val_main_v6 (F := Ideal) x0 x1) (funext fun a => Fin.ext ?_)
  match a with
  | ⟨0, _⟩ => show (((y.val * 4 + q.val) * 2 + p.val) * 512 + k.val) / 4096 = y.val; omega
  | ⟨1, _⟩ => show (((y.val * 4 + q.val) * 2 + p.val) * 512 + k.val) % 4096 = n.val; omega

/-- The result: the gradient in its rows, and the rest as it was. -/
theorem result_at (i : S2x4x8704x512.Idx) (d : Fin 2048) (n : Fin 4096) (hd : d.val = (i 2).val % 2048) (hn : n.val = 512 * (2 * (i 1).val + (i 0).val) + (i 3).val) :
    val_main_v10 (F := Ideal) x0 x1 x2 i
      = if 0 ≤ (i 2).val ∧ (i 2).val < 2048 then wgrad (fun s d => x0 (ix2 s d)) (fun s n => x1 (ix2 s n)) d n else x2 i := by
  have h0 : (i 0).val < 2 := (i 0).isLt
  have h1 : (i 1).val < 4 := (i 1).isLt
  have h2 : (i 2).val < 8704 := (i 2).isLt
  have h3 : (i 3).val < 512 := (i 3).isLt
  unfold val_main_v10
  by_cases hc : 0 ≤ (i 2).val ∧ (i 2).val < 2048
  · rw [if_pos hc]
    refine Eq.trans (concatenate_apply_piece (t := S2x4x8704x512) 2 _ _ i 0 ?_ S2x4x2048x512 (val_main_v8 (F := Ideal) x0 x1) ?_ rfl 0 ?_ (ix4 ⟨(i 0).val, h0⟩ ⟨(i 1).val, h1⟩ ⟨(i 2).val, by omega⟩ ⟨(i 3).val, h3⟩) (fun b hb => match b with
      | ⟨0, _⟩ => rfl
      | ⟨1, _⟩ => rfl
      | ⟨2, _⟩ => absurd rfl hb
      | ⟨3, _⟩ => rfl) ?_) ?_
    · show 0 < 2; decide
    · rfl
    · rfl
    · show 0 + ((i 2).val) = (i 2).val; omega
    · refine Eq.trans (chip_at x0 x1 _ _ _ _ n hn) (congrArg (fun d => wgrad _ _ d n) (Fin.ext ?_))
      show (i 2).val = d.val; omega
  · rw [if_neg hc]
    refine Eq.trans (concatenate_apply_piece (t := S2x4x8704x512) 2 _ _ i 1 ?_ S2x4x6656x512 (val_main_v9 (F := Ideal) x2) ?_ rfl 2048 ?_ (ix4 ⟨(i 0).val, h0⟩ ⟨(i 1).val, h1⟩ ⟨(i 2).val - 2048, by omega⟩ ⟨(i 3).val, h3⟩) (fun b hb => match b with
      | ⟨0, _⟩ => rfl
      | ⟨1, _⟩ => rfl
      | ⟨2, _⟩ => absurd rfl hb
      | ⟨3, _⟩ => rfl) ?_) ?_
    · show 1 < 2; decide
    · rfl
    · rfl
    · show 2048 + ((i 2).val - 2048) = (i 2).val; omega
    · rw [val_main_v9_apply]
      refine congrArg x2 (funext fun a => Fin.ext ?_)
      match a with
      | ⟨0, _⟩ => rfl
      | ⟨1, _⟩ => rfl
      | ⟨2, _⟩ => show 2048 + ((i 2).val - 2048) = (i 2).val; omega
      | ⟨3, _⟩ => rfl

end Cert.ReferenceDwOutAttnIdeal.DwOut

end
-- ==== Proof.DwOut.Attn.lean ====
/- The attention branch's output weights' gradient: the kernel's result (DwOut/KernelAttn.lean) is the reference's (DwOut/RefAttn.lean). -/
module

public import proofs.«01_k».proof.Defs
public import proofs.«01_k».proof.Proof.DwOut.KernelAttn
public import proofs.«01_k».proof.Proof.DwOut.RefAttn
public import proofs.«01_k».proof.Proof.Gen.KernelDwOutAttn
public import proofs.«01_k».proof.Proof.Gen.KernelDwOutAttn.Frame
public import proofs.«01_k».proof.Proof.Gen.ReferenceDwOutAttnIdeal.Run
public import Idealize.ShloMosaic.Lib.QuiescentFlight
public import Idealize.ShloMosaic.Init

@[expose] public section

set_option maxRecDepth 16384

noncomputable section

namespace Cert.Proof.DwOutAttn

open Idealize.ShloMosaic Idealize.ShloMosaic.TcCoe Idealize.SL.Sem

theorem frame_R : Cert.quiescent_ReferenceDwOutAttnIdeal := fun m g _ =>
  (θ_run Cert.ReferenceDwOutAttnIdeal.defs _ _).mono (fun r h => ⟨fun c => (h c).2, sem_eq_zero_of_no_sems (by decide) r.2⟩)
    (Cert.ReferenceDwOutAttnIdeal.Value.run (F := Ideal) m g)

theorem algebraic : Cert.algebraic_KernelDwOutAttnIdeal_ReferenceDwOutAttnIdeal := by
  intro m g m' g' _ hagree
  refine ⟨Cert.KernelDwOutAttnIdeal.DwOut.arr m, ?_, ?_⟩
  · exact (θ_run _ _ _).mono (fun _ h c => ⟨(h c).1.trans (Cert.KernelDwOutAttnIdeal.DwOut.final_2 m c), (h c).2⟩)
      (Cert.KernelDwOutAttnIdeal.Value.run_blocks (F := Ideal) m g)
  · refine (θ_run _ _ _).mono (fun _ h c => ⟨(h c).1.trans ?_, (h c).2⟩) (Cert.ReferenceDwOutAttnIdeal.Value.run (F := Ideal) m' g')
    obtain ⟨a0, a1, a2⟩ := hagree c
    rw [Cert.ReferenceDwOutAttnIdeal.Read.val_main_v10_eq, a0, a1, a2]
    funext j
    refine (Cert.ReferenceDwOutAttnIdeal.DwOut.result_at _ _ _ j (Cert.KernelDwOutAttnIdeal.DwOut.row j) (Cert.KernelDwOutAttnIdeal.DwOut.column j) rfl rfl).trans ?_
    unfold Cert.KernelDwOutAttnIdeal.DwOut.arr
    exact ite_congr rfl (fun _ => rfl) (fun _ => (Cert.KernelDwOutAttnIdeal.DwOut.V_copy m c j).symm)

end Cert.Proof.DwOutAttn

end
-- ==== Proof.DwOut.KernelPool.lean ====
/- What the kernel of the pooling branch's output weights' gradient leaves in its result array. -/
module

public import proofs.«01_k».proof.Proof.Loads
public import proofs.«01_k».proof.Proof.DwOut.Order
public import proofs.«01_k».proof.Proof.Gen.KernelDwOutPoolIdeal.Value
public import Idealize.ShloMosaic.Lib.StableHlo.ReadAt
public import Idealize.ShloMosaic.Lib.Pointwise
public import Idealize.ShloMosaic.Lib.ValueIdx
public import Idealize.ShloMosaic.Lib.IdealHost

@[expose] public section

set_option maxRecDepth 16384

noncomputable section

namespace Cert.KernelDwOutPoolIdeal.DwOut

open Cert.KernelDwOutPoolIdeal Cert.KernelDwOutPoolIdeal.Gen Cert.Order Cert.Loads
open Idealize.ShloMosaic Idealize.ShloMosaic.TcCoe Idealize.ShloMosaic.Tactic

/-- A grid point's blocks. -/
theorem idx_0 : ∀ t : Fin grid0.N, win0_0.index t 0 = 0 ∧ win0_0.index t 1 = t.val / 8 := by decide +kernel
theorem idx_1 : ∀ t : Fin grid0.N, win0_1.index t 0 = 0 ∧ win0_1.index t 1 = t.val % 8 := by decide +kernel
theorem idx_2 : ∀ t : Fin grid0.N, win0_2.index t 0 = t.val % 8 % 2 ∧ win0_2.index t 1 = t.val % 8 / 2 ∧ win0_2.index t 2 = 2 + t.val / 8
    ∧ win0_2.index t 3 = 0 := by decide +kernel
/-- The result's rows are no multiple of a block's, but every block lies inside. -/
theorem size_2 : ∀ t : Fin grid0.N, win0_2.xsize (grid0.coords t) 0 = 1 ∧ win0_2.xsize (grid0.coords t) 1 = 1 ∧ win0_2.xsize (grid0.coords t) 2 = 1024
    ∧ win0_2.xsize (grid0.coords t) 3 = 512 := by decide +kernel

/-- The body's product read at an index. -/
theorem pay1_at (x : Vec Ideal S4096x1024 .bf16) (y : Vec Ideal S4096x512 .bf16) (r : Fin 1024) (k : Fin 512) :
    k0_pay1 (F := Ideal) x y (ix4 0 0 r k) = ∑ s : Fin 4096, x (ix2 s r) * y (ix2 s k) := by
  unfold k0_pay1
  pointwise

/-- The product as a block. -/
def both (x : Vec Ideal S4096x1024 .bf16) (y : Vec Ideal S4096x512 .bf16) : Vec Ideal S1x1x1024x512 .bf16 := fun i =>
  ∑ s : Fin 4096, x (ix2 s (i 2)) * y (ix2 s (i 3))

variable (m : (ℓ : Loc nD τ sig) → Buf (Elt Ideal) ℓ) (c : Dev nD)

theorem block (t : Fin cfg0.N) : outsAt0 m c t = both (iblk m c 0 t) (iblk m c 1 t) := by
  have z4 : (![0, 0, 0, 0] : Fin 4 → Nat) = fun _ => 0 := by decide
  unfold outsAt0 out0_A_2
  refine (View.read_writes_junk_eq_canon VO0_2 _).trans ?_
  refine (View.canon_unit_zero z4 _ _).trans ?_
  show k0_pay1 _ _ = _
  rw [load_whole _ _ z2, load_whole _ _ z2]
  funext i
  have h0 : (i 0).val < 1 := (i 0).isLt
  have h1 : (i 1).val < 1 := (i 1).isLt
  refine Eq.trans (congrArg (k0_pay1 (F := Ideal) (iblk m c 0 t) (iblk m c 1 t)) (funext fun a => Fin.ext ?_)) (pay1_at _ _ (i 2) (i 3))
  match a with
  | ⟨0, _⟩ => show (i 0).val = 0; omega
  | ⟨1, _⟩ => show (i 1).val = 0; omega
  | ⟨2, _⟩ => rfl
  | ⟨3, _⟩ => rfl

/-- The two factors, as launched. -/
def A (s : Fin 4096) (d : Fin 2048) : EReal := (m ((c : Thread nD τ).loc main_arg0) : Vec Ideal S4096x2048 .bf16) (ix2 s d)
def B (s n : Fin 4096) : EReal := (m ((c : Thread nD τ).loc main_arg1) : Vec Ideal S4096x4096 .bf16) (ix2 s n)

theorem blk_0 (t : Fin cfg0.N) (s : Fin 4096) (r : Fin 1024) (d : Fin 2048) (h : d.val = 1024 * (t.val / 8) + r.val) :
    (iblk m c 0 t : Vec Ideal S4096x1024 .bf16) (ix2 s r) = A m c s d := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 4096 + 1 * s.val = s.val
              rw [(idx_0 t).1]; omega
  | ⟨1, _⟩ => show win0_0.index t 1 * 1024 + 1 * r.val = d.val
              rw [(idx_0 t).2]; omega

theorem blk_1 (t : Fin cfg0.N) (s : Fin 4096) (k : Fin 512) (n : Fin 4096) (h : n.val = 512 * (t.val % 8) + k.val) :
    (iblk m c 1 t : Vec Ideal S4096x512 .bf16) (ix2 s k) = B m c s n := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 4096 + 1 * s.val = s.val
              rw [(idx_1 t).1]; omega
  | ⟨1, _⟩ => show win0_1.index t 1 * 512 + 1 * k.val = n.val
              rw [(idx_1 t).2]; omega

/-- The row and the column of the gradient that a place of the result holds. -/
def row (i : S2x4x8704x512.Idx) : Fin 2048 := ⟨(i 2).val % 2048, by
  have h0 : (i 0).val < 2 := (i 0).isLt
  have h1 : (i 1).val < 4 := (i 1).isLt
  omega⟩
def column (i : S2x4x8704x512.Idx) : Fin 4096 := ⟨512 * (2 * (i 1).val + (i 0).val) + (i 3).val, by
  have h0 : (i 0).val < 2 := (i 0).isLt
  have h1 : (i 1).val < 4 := (i 1).isLt
  have h3 : (i 3).val < 512 := (i 3).isLt
  omega⟩

/-- The result array: the gradient in its rows, and the rest as the array came. -/
def arr : Buf (Elt Ideal) ((c : Thread nD τ).loc main_v0) :=
  (fun i => if 2048 ≤ (i 2).val ∧ (i 2).val < 4096 then wgrad (A m c) (B m c) (row i) (column i) else V m c main_v0 i : Vec Ideal S2x4x8704x512 .bf16)

theorem arr_at (j : S2x4x8704x512.Idx) (d : Fin 2048) (n : Fin 4096) (hd : (row j).val = d.val) (hn : (column j).val = n.val)
    (h : 2048 ≤ (j 2).val ∧ (j 2).val < 4096) : (arr m c : Vec Ideal S2x4x8704x512 .bf16) j = wgrad (A m c) (B m c) d n := by
  show (if _ then wgrad (A m c) (B m c) (row j) (column j) else _) = _
  rw [if_pos h, Fin.ext hd, Fin.ext hn]

theorem flushed_2 (t : Fin cfg0.N) (hf : (cfg0.win 2).flush t = true) :
    (dats m 0 c).flushed 2 t = ((cfg0.win 2).blk t).view.read (Elt Ideal) (arr m c) := by
  show (cfg0.win 2).cut (grid0.coords t) ((dats m 0 c).after 2 t) = _
  rw [after0_2, block]
  have ht : t.val < 16 := t.isLt
  funext i
  rw [View.read_apply]
  have h0 : (i 0).val < 1 := lt_of_lt_of_eq (i 0).isLt (size_2 t).1
  have h1 : (i 1).val < 1 := lt_of_lt_of_eq (i 1).isLt (size_2 t).2.1
  have h2 : (i 2).val < 1024 := lt_of_lt_of_eq (i 2).isLt (size_2 t).2.2.1
  have h3 : (i 3).val < 512 := lt_of_lt_of_eq (i 3).isLt (size_2 t).2.2.2
  have p0 : ((((cfg0.win 2).blk t).view.emb i : S2x4x8704x512.Idx) 0).val = t.val % 8 % 2 * 1 + (i 0).val := by
    show win0_2.index t 0 * 1 + 1 * (i 0).val = _
    rw [(idx_2 t).1]; omega
  have p1 : ((((cfg0.win 2).blk t).view.emb i : S2x4x8704x512.Idx) 1).val = t.val % 8 / 2 := by
    show win0_2.index t 1 * 1 + 1 * (i 1).val = _
    rw [(idx_2 t).2.1]; omega
  have p2 : ((((cfg0.win 2).blk t).view.emb i : S2x4x8704x512.Idx) 2).val = (2 + t.val / 8) * 1024 + (i 2).val := by
    show win0_2.index t 2 * 1024 + 1 * (i 2).val = _
    rw [(idx_2 t).2.2.1]; omega
  have p3 : ((((cfg0.win 2).blk t).view.emb i : S2x4x8704x512.Idx) 3).val = (i 3).val := by
    show win0_2.index t 3 * 512 + 1 * (i 3).val = _
    rw [(idx_2 t).2.2.2]; omega
  generalize (((cfg0.win 2).blk t).view.emb i : S2x4x8704x512.Idx) = j at p0 p1 p2 p3 ⊢
  refine ((arr_at m c j ⟨1024 * (t.val / 8) + (i 2).val, by omega⟩ ⟨512 * (t.val % 8) + (i 3).val, by omega⟩ ?_ ?_ ?_).trans ?_).symm
  · show (j 2).val % 2048 = 1024 * (t.val / 8) + (i 2).val
    omega
  · show 512 * (2 * (j 1).val + (j 0).val) + (j 3).val = 512 * (t.val % 8) + (i 3).val
    omega
  · omega
  · exact (Finset.sum_congr rfl fun s _ => congrArg₂ (fun x y : EReal => x * y)
      (blk_0 m c t s ⟨(i 2).val, by omega⟩ ⟨1024 * (t.val / 8) + (i 2).val, by omega⟩ (by show 1024 * (t.val / 8) + (i 2).val = 1024 * (t.val / 8) + ((i 2).val); omega))
      (blk_1 m c t s ⟨(i 3).val, h3⟩ ⟨512 * (t.val % 8) + (i 3).val, by omega⟩ rfl)).symm

theorem final_2 : (dats m 0 c).arrAt 2 cfg0.N = arr m c := by
  funext i
  rw [(dats m 0 c).arrAt_eq_piecewise 2 (arr m c) (flushed_2 m c) i]
  have h0 : (i 0 : Nat) < 2 := (i 0).isLt
  have h1 : (i 1 : Nat) < 4 := (i 1).isLt
  have h2 : (i 2 : Nat) < 8704 := (i 2).isLt
  have h3 : (i 3 : Nat) < 512 := (i 3).isLt
  by_cases hc : 2048 ≤ (i 2 : Nat) ∧ (i 2 : Nat) < 4096
  · refine if_pos ?_
    let t : Fin cfg0.N := ⟨8 * (((i 2 : Nat) - 2048) / 1024) + (2 * (i 1 : Nat) + (i 0 : Nat)), by show _ < 16; omega⟩
    have ht : t.val = 8 * (((i 2 : Nat) - 2048) / 1024) + (2 * (i 1 : Nat) + (i 0 : Nat)) := rfl
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + win0_2.xsize (grid0.coords t) 0
                rw [(idx_2 t).1, (size_2 t).1]; omega
    | ⟨1, _⟩ => show win0_2.index t 1 * 1 ≤ (i 1 : Nat) ∧ (i 1 : Nat) < win0_2.index t 1 * 1 + win0_2.xsize (grid0.coords t) 1
                rw [(idx_2 t).2.1, (size_2 t).2.1]; omega
    | ⟨2, _⟩ => show win0_2.index t 2 * 1024 ≤ (i 2 : Nat) ∧ (i 2 : Nat) < win0_2.index t 2 * 1024 + win0_2.xsize (grid0.coords t) 2
                rw [(idx_2 t).2.2.1, (size_2 t).2.2.1]; omega
    | ⟨3, _⟩ => show win0_2.index t 3 * 512 ≤ (i 3 : Nat) ∧ (i 3 : Nat) < win0_2.index t 3 * 512 + win0_2.xsize (grid0.coords t) 3
                rw [(idx_2 t).2.2.2, (size_2 t).2.2.2]; omega
  · rw [if_neg]
    · rw [A_eq]
      show V m c main_v0 i = if 2048 ≤ (i 2).val ∧ (i 2).val < 4096 then _ else V m c main_v0 i
      rw [if_neg hc]
    · rintro ⟨t, -, hi⟩
      replace hi : i ∈ ((View.whole main_v0).slice (win0_2.rect t)).set := hi
      rw [View.set_slice_whole, Rect.mem_set_unit] at hi
      have h4 : win0_2.index t 2 * 1024 ≤ (i 2 : Nat) ∧ (i 2 : Nat) < win0_2.index t 2 * 1024 + win0_2.xsize (grid0.coords t) 2 := hi 2
      rw [(idx_2 t).2.2.1, (size_2 t).2.2.1] at h4
      have : t.val < 16 := t.isLt
      omega

/-- The result array is handed to the region as the launch's last argument. -/
theorem V_copy (i : S2x4x8704x512.Idx) : (V m c main_v0 : Vec Ideal S2x4x8704x512 .bf16) i = (m ((c : Thread nD τ).loc main_arg2) : Vec Ideal S2x4x8704x512 .bf16) i := by
  unfold V
  after_reads_at
  rfl

end Cert.KernelDwOutPoolIdeal.DwOut

end
-- ==== Proof.DwOut.RefPool.lean ====
/- What the reference of the pooling branch's output weights' gradient leaves in its result array. -/
module

public import proofs.«01_k».proof.Proof.DwOut.Order
public import proofs.«01_k».proof.Proof.Gen.ReferenceDwOutPoolIdeal.Read
public import Idealize.ShloMosaic.Lib.Pipeline.Value
public import Idealize.ShloMosaic.Lib.Pointwise
public import Idealize.ShloMosaic.Lib.ValueIdx
public import Idealize.ShloMosaic.Lib.IdealHost

@[expose] public section

set_option maxRecDepth 16384

noncomputable section

namespace Cert.ReferenceDwOutPoolIdeal.DwOut

open Cert.ReferenceDwOutPoolIdeal Cert.ReferenceDwOutPoolIdeal.Gen Cert.ReferenceDwOutPoolIdeal.Read Cert.Order
open Idealize.ShloMosaic Idealize.ShloMosaic.TcCoe Idealize.ShloMosaic.Tactic

variable (x0 : Vec Ideal S4096x2048 .bf16) (x1 : Vec Ideal S4096x4096 .bf16) (x2 : Vec Ideal S2x4x8704x512 .bf16)

/-- The gradient at row `d` and column `n`. -/
theorem grad_at (d : Fin 2048) (n : Fin 4096) : val_main_v7 (F := Ideal) x0 x1 (ix2 d n)
    = wgrad (fun s d => x0 (ix2 s d)) (fun s n => x1 (ix2 s n)) d n := by
  rw [val_main_v7_apply, val_main_v6_apply, val_main_v5_apply]
  show (∑ s : Fin 4096, _) = _
  unfold wgrad
  refine Finset.sum_congr rfl fun s _ => ?_
  have e1 : lidx_main_v5 (idx_main_v6 (ix2 d n)) s = ix2 s n := funext fun a => match a with
    | ⟨0, _⟩ => rfl
    | ⟨1, _⟩ => rfl
  have e2 : ridx_main_v5 (idx_main_v6 (ix2 d n)) s = ix2 s d := funext fun a => match a with
    | ⟨0, _⟩ => rfl
    | ⟨1, _⟩ => rfl
  rw [e1, e2, val_main_v4_apply, val_main_v2_apply, mul_comm]
  rfl

/-- The gradient's columns laid out by the chip that keeps them. -/
theorem chip_at (p : Fin 2) (q : Fin 4) (y : Fin 2048) (k : Fin 512) (n : Fin 4096) (hn : n.val = 512 * (2 * q.val + p.val) + k.val) :
    val_main_v9 (F := Ideal) x0 x1 (ix4 p q y k) = wgrad (fun s d => x0 (ix2 s d)) (fun s n => x1 (ix2 s n)) y n := by
  rw [val_main_v9_apply, val_main_v8_apply, ← grad_at]
  refine congrArg (val_main_v7 (F := Ideal) x0 x1) (funext fun a => Fin.ext ?_)
  match a with
  | ⟨0, _⟩ => show (((y.val * 4 + q.val) * 2 + p.val) * 512 + k.val) / 4096 = y.val; omega
  | ⟨1, _⟩ => show (((y.val * 4 + q.val) * 2 + p.val) * 512 + k.val) % 4096 = n.val; omega

/-- The result: the gradient in its rows, and the rest as it was. -/
theorem result_at (i : S2x4x8704x512.Idx) (d : Fin 2048) (n : Fin 4096) (hd : d.val = (i 2).val % 2048) (hn : n.val = 512 * (2 * (i 1).val + (i 0).val) + (i 3).val) :
    val_main_v11 (F := Ideal) x0 x1 x2 i
      = if 2048 ≤ (i 2).val ∧ (i 2).val < 4096 then wgrad (fun s d => x0 (ix2 s d)) (fun s n => x1 (ix2 s n)) d n else x2 i := by
  have h0 : (i 0).val < 2 := (i 0).isLt
  have h1 : (i 1).val < 4 := (i 1).isLt
  have h2 : (i 2).val < 8704 := (i 2).isLt
  have h3 : (i 3).val < 512 := (i 3).isLt
  unfold val_main_v11
  by_cases hc : 2048 ≤ (i 2).val ∧ (i 2).val < 4096
  · rw [if_pos hc]
    refine Eq.trans (concatenate_apply_piece (t := S2x4x8704x512) 2 _ _ i 1 ?_ S2x4x2048x512 (val_main_v9 (F := Ideal) x0 x1) ?_ rfl 2048 ?_ (ix4 ⟨(i 0).val, h0⟩ ⟨(i 1).val, h1⟩ ⟨(i 2).val - 2048, by omega⟩ ⟨(i 3).val, h3⟩) (fun b hb => match b with
      | ⟨0, _⟩ => rfl
      | ⟨1, _⟩ => rfl
      | ⟨2, _⟩ => absurd rfl hb
      | ⟨3, _⟩ => rfl) ?_) ?_
    · show 1 < 3; decide
    · rfl
    · rfl
    · show 2048 + ((i 2).val - 2048) = (i 2).val; omega
    · refine Eq.trans (chip_at x0 x1 _ _ _ _ n hn) (congrArg (fun d => wgrad _ _ d n) (Fin.ext ?_))
      show (i 2).val - 2048 = d.val; omega
  · rw [if_neg hc]
    by_cases h : (i 2).val < 2048
    · refine Eq.trans (concatenate_apply_piece (t := S2x4x8704x512) 2 _ _ i 0 ?_ S2x4x2048x512 (val_main_v0 (F := Ideal) x2) ?_ rfl 0 ?_ (ix4 ⟨(i 0).val, h0⟩ ⟨(i 1).val, h1⟩ ⟨(i 2).val, by omega⟩ ⟨(i 3).val, h3⟩) (fun b hb => match b with
        | ⟨0, _⟩ => rfl
        | ⟨1, _⟩ => rfl
        | ⟨2, _⟩ => absurd rfl hb
        | ⟨3, _⟩ => rfl) ?_) ?_
      · show 0 < 3; decide
      · rfl
      · rfl
      · show 0 + ((i 2).val) = (i 2).val; omega
      · rw [val_main_v0_apply]
        refine congrArg x2 (funext fun a => Fin.ext ?_)
        match a with
        | ⟨0, _⟩ => rfl
        | ⟨1, _⟩ => rfl
        | ⟨2, _⟩ => show (i 2).val = (i 2).val; omega
        | ⟨3, _⟩ => rfl
    · refine Eq.trans (concatenate_apply_piece (t := S2x4x8704x512) 2 _ _ i 2 ?_ S2x4x4608x512 (val_main_v10 (F := Ideal) x2) ?_ rfl 4096 ?_ (ix4 ⟨(i 0).val, h0⟩ ⟨(i 1).val, h1⟩ ⟨(i 2).val - 4096, by omega⟩ ⟨(i 3).val, h3⟩) (fun b hb => match b with
        | ⟨0, _⟩ => rfl
        | ⟨1, _⟩ => rfl
        | ⟨2, _⟩ => absurd rfl hb
        | ⟨3, _⟩ => rfl) ?_) ?_
      · show 2 < 3; decide
      · rfl
      · rfl
      · show 4096 + ((i 2).val - 4096) = (i 2).val; omega
      · rw [val_main_v10_apply]
        refine congrArg x2 (funext fun a => Fin.ext ?_)
        match a with
        | ⟨0, _⟩ => rfl
        | ⟨1, _⟩ => rfl
        | ⟨2, _⟩ => show 4096 + ((i 2).val - 4096) = (i 2).val; omega
        | ⟨3, _⟩ => rfl

end Cert.ReferenceDwOutPoolIdeal.DwOut

end
-- ==== Proof.DwOut.Pool.lean ====
/- The pooling branch's output weights' gradient: the kernel's result (DwOut/KernelPool.lean) is the reference's (DwOut/RefPool.lean). -/
module

public import proofs.«01_k».proof.Defs
public import proofs.«01_k».proof.Proof.DwOut.KernelPool
public import proofs.«01_k».proof.Proof.DwOut.RefPool
public import proofs.«01_k».proof.Proof.Gen.KernelDwOutPool
public import proofs.«01_k».proof.Proof.Gen.KernelDwOutPool.Frame
public import proofs.«01_k».proof.Proof.Gen.ReferenceDwOutPoolIdeal.Run
public import Idealize.ShloMosaic.Lib.QuiescentFlight
public import Idealize.ShloMosaic.Init

@[expose] public section

set_option maxRecDepth 16384

noncomputable section

namespace Cert.Proof.DwOutPool

open Idealize.ShloMosaic Idealize.ShloMosaic.TcCoe Idealize.SL.Sem

theorem frame_R : Cert.quiescent_ReferenceDwOutPoolIdeal := fun m g _ =>
  (θ_run Cert.ReferenceDwOutPoolIdeal.defs _ _).mono (fun r h => ⟨fun c => (h c).2, sem_eq_zero_of_no_sems (by decide) r.2⟩)
    (Cert.ReferenceDwOutPoolIdeal.Value.run (F := Ideal) m g)

theorem algebraic : Cert.algebraic_KernelDwOutPoolIdeal_ReferenceDwOutPoolIdeal := by
  intro m g m' g' _ hagree
  refine ⟨Cert.KernelDwOutPoolIdeal.DwOut.arr m, ?_, ?_⟩
  · exact (θ_run _ _ _).mono (fun _ h c => ⟨(h c).1.trans (Cert.KernelDwOutPoolIdeal.DwOut.final_2 m c), (h c).2⟩)
      (Cert.KernelDwOutPoolIdeal.Value.run_blocks (F := Ideal) m g)
  · refine (θ_run _ _ _).mono (fun _ h c => ⟨(h c).1.trans ?_, (h c).2⟩) (Cert.ReferenceDwOutPoolIdeal.Value.run (F := Ideal) m' g')
    obtain ⟨a0, a1, a2⟩ := hagree c
    rw [Cert.ReferenceDwOutPoolIdeal.Read.val_main_v11_eq, a0, a1, a2]
    funext j
    refine (Cert.ReferenceDwOutPoolIdeal.DwOut.result_at _ _ _ j (Cert.KernelDwOutPoolIdeal.DwOut.row j) (Cert.KernelDwOutPoolIdeal.DwOut.column j) rfl rfl).trans ?_
    unfold Cert.KernelDwOutPoolIdeal.DwOut.arr
    exact ite_congr rfl (fun _ => rfl) (fun _ => (Cert.KernelDwOutPoolIdeal.DwOut.V_copy m c j).symm)

end Cert.Proof.DwOutPool

end
-- ==== Proof.Proj.Order.lean ====
/- The projections' columns: each chip's five tiles of the weights give five tiles of 512 columns, and these lie in the order of Dw/Order.lean. -/
module

public import proofs.«01_k».proof.Proof.Dw.Order

@[expose] public section

namespace Cert.Order

/-- The weights' tile of 512 columns that tile `T` of the projections holds. -/
def inv (T : ℕ) : ℕ := if T < 24 then T else if T % 2 = 0 then 24 + (T - 24) / 2 else 32 + (T - 24) / 2

theorem inv_lt {T : ℕ} (h : T < 40) : inv T < 40 := by
  unfold inv
  split
  · omega
  · split <;> omega

theorem pos_inv {T : ℕ} (h : T < 40) : pos (inv T) = T := by
  unfold inv
  split
  · unfold pos; rw [if_pos (by omega)]
  · split
    · unfold pos; rw [if_neg (by omega), if_pos (by omega)]; omega
    · unfold pos; rw [if_neg (by omega), if_neg (by omega)]; omega

theorem inv_pos {t : ℕ} (h : t < 40) : inv (pos t) = t := by
  unfold pos
  split
  · unfold inv; rw [if_pos (by omega)]
  · split
    · unfold inv; rw [if_neg (by omega), if_pos (by omega)]; omega
    · unfold inv; rw [if_neg (by omega), if_neg (by omega)]; omega

theorem inv_before {T : ℕ} (h : T < 24) : inv T = T := by
  unfold inv
  rw [if_pos h]

theorem inv_gate {a b : ℕ} (ha : a < 2) : inv (24 + (2 * b + a)) = 24 + (8 * a + b) := by
  unfold inv
  rw [if_neg (by omega)]
  split
  · omega
  · omega

/-- Column `k` of a chip's tile of the projections at row `s`. -/
noncomputable def proj (h : Fin 4096 → Fin 4096 → EReal) (w : Fin 8 → Fin 4096 → Fin 512 → EReal) (s : Fin 4096) (q : Fin 8) (k : Fin 512) : EReal :=
  ∑ d, h s d * w q d k

end Cert.Order
-- ==== Proof.Proj.Kernel0.lean ====
/- What the kernel of round 0 of the projections leaves in its result array. -/
module

public import proofs.«01_k».proof.Proof.Loads
public import proofs.«01_k».proof.Proof.Proj.Order
public import proofs.«01_k».proof.Proof.Gen.KernelProj0Ideal.Frame
public import Idealize.ShloMosaic.Lib.StableHlo.ReadAt
public import Idealize.ShloMosaic.Lib.Pointwise
public import Idealize.ShloMosaic.Lib.ValueIdx
public import Idealize.ShloMosaic.Lib.IdealHost

@[expose] public section

set_option maxRecDepth 16384

noncomputable section

namespace Cert.KernelProj0Ideal.Proj

open Cert.KernelProj0Ideal Cert.KernelProj0Ideal.Gen Cert.Order Cert.Loads
open Idealize.ShloMosaic Idealize.ShloMosaic.TcCoe Idealize.ShloMosaic.Tactic

/-- A grid point's blocks: of the hidden rows, of the weights' tiles, and of the result. -/
theorem idx_0 : ∀ t : Fin grid0.N, win0_0.index t 0 = t.val / 8 ∧ win0_0.index t 1 = 0 := by decide +kernel
theorem idx_1 : ∀ t : Fin grid0.N, win0_1.index t 0 = t.val % 8 ∧ win0_1.index t 1 = 0 ∧ win0_1.index t 2 = 0 := by decide +kernel
theorem idx_2 : ∀ t : Fin grid0.N, win0_2.index t 0 = t.val / 8 ∧ win0_2.index t 1 = pos (5 * (t.val % 8) + 0) := by decide +kernel

/-- The body's product read at an index. -/
theorem pay1_at (x : Vec Ideal S1024x4096 .bf16) (y : Vec Ideal S1x4096x512 .bf16) (r : Fin 1024) (k : Fin 512) :
    k0_pay1 (F := Ideal) x y (ix2 r k) = ∑ d : Fin 4096, x (ix2 r d) * y (ix3 0 d k) := by
  unfold k0_pay1
  pointwise

variable (m : (ℓ : Loc nD τ sig) → Buf (Elt Ideal) ℓ) (c : Dev nD)

theorem block (t : Fin cfg0.N) : out0_2 (iblk m c 0 t) (iblk m c 1 t) = k0_pay1 (F := Ideal) (iblk m c 0 t) (iblk m c 1 t) := by
  unfold out0_2 r0_2 r0_1 r0_0
  rw [View.canon_unit_zero z2, View.ld_unit_zero z2, View.ld_unit_zero z3]

/-- The hidden rows and the round's tiles of the weights, as launched. -/
def H (s d : Fin 4096) : EReal := (m ((c : Thread nD τ).loc main_arg0) : Vec Ideal S4096x4096 .bf16) (ix2 s d)
def W (q : Fin 8) (d : Fin 4096) (k : Fin 512) : EReal := (m ((c : Thread nD τ).loc main_arg1) : Vec Ideal S8x4096x512 .bf16) (ix3 q d k)

theorem blk_0 (t : Fin cfg0.N) (r : Fin 1024) (d s : Fin 4096) (h : s.val = 1024 * (t.val / 8) + r.val) :
    (iblk m c 0 t : Vec Ideal S1024x4096 .bf16) (ix2 r d) = H m c s d := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = s.val
              rw [(idx_0 t).1]; omega
  | ⟨1, _⟩ => show win0_0.index t 1 * 4096 + 1 * d.val = d.val
              rw [(idx_0 t).2]; omega

theorem blk_1 (t : Fin cfg0.N) (d : Fin 4096) (k : Fin 512) (q : Fin 8) (h : q.val = t.val % 8) :
    (iblk m c 1 t : Vec Ideal S1x4096x512 .bf16) (ix3 0 d k) = W m c q d k := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = q.val
              rw [(idx_1 t).1]; omega
  | ⟨1, _⟩ => show win0_1.index t 1 * 4096 + 1 * d.val = d.val
              rw [(idx_1 t).2.1]; omega
  | ⟨2, _⟩ => show win0_1.index t 2 * 512 + 1 * k.val = k.val
              rw [(idx_1 t).2.2]; omega

theorem tile_lt (n : Fin 20480) : inv (n.val / 512) / 5 < 8 := by
  have := inv_lt (show n.val / 512 < 40 by omega)
  omega

/-- The result array: the tiles that the round computes, and the rest as the array came. -/
def arr : Buf (Elt Ideal) ((c : Thread nD τ).loc main_v0) :=
  (fun i => if inv ((i 1).val / 512) % 5 = 0 then proj (H m c) (W m c) (i 0) ⟨inv ((i 1).val / 512) / 5, tile_lt (i 1)⟩ ⟨(i 1).val % 512, by omega⟩
    else V m c main_v0 i : Vec Ideal S4096x20480 .bf16)

theorem arr_at (j : S4096x20480.Idx) (s : Fin 4096) (q : Fin 8) (k : Fin 512) (hs : (j 0).val = s.val) (hk : (j 1).val = 512 * pos (5 * q.val + 0) + k.val) :
    (arr m c : Vec Ideal S4096x20480 .bf16) j = proj (H m c) (W m c) s q k := by
  have e : inv ((j 1).val / 512) = 5 * q.val + 0 := by
    rw [show (j 1).val / 512 = pos (5 * q.val + 0) by omega, inv_pos (by omega)]
  show (if inv ((j 1).val / 512) % 5 = 0 then proj (H m c) (W m c) (j 0) _ _ else _) = _
  rw [if_pos (by omega)]
  congr 1
  · exact Fin.ext hs
  · exact Fin.ext (by show inv ((j 1).val / 512) / 5 = q.val; omega)
  · exact Fin.ext (by show (j 1).val % 512 = k.val; omega)

theorem flushed_2 (t : Fin cfg0.N) (hf : (cfg0.win 2).flush t = true) :
    (dats m 0 c).flushed 2 t = ((cfg0.win 2).blk t).view.read (Elt Ideal) (arr m c) := by
  show (cfg0.win 2).cut (grid0.coords t) ((dats m 0 c).after 2 t) = _
  rw [after0_2, block]
  have ht : t.val < 32 := t.isLt
  funext i
  rw [View.read_apply]
  have h0 : (i 0).val < 1024 := (i 0).isLt
  have h1 : (i 1).val < 512 := (i 1).isLt
  have e : (cfg0.win 2).cut (grid0.coords t) (k0_pay1 (F := Ideal) (iblk m c 0 t) (iblk m c 1 t)) i
      = k0_pay1 (F := Ideal) (iblk m c 0 t) (iblk m c 1 t) (ix2 ⟨(i 0).val, h0⟩ ⟨(i 1).val, h1⟩) := by
    refine congrArg (k0_pay1 (F := Ideal) (iblk m c 0 t) (iblk m c 1 t)) (funext fun a => Fin.ext ?_)
    match a with
    | ⟨0, _⟩ => rfl
    | ⟨1, _⟩ => rfl
  refine e.trans ((pay1_at _ _ _ _).trans ?_)
  refine ((arr_at m c (((cfg0.win 2).blk t).view.emb i) ⟨1024 * (t.val / 8) + (i 0).val, by omega⟩ ⟨t.val % 8, by omega⟩ ⟨(i 1).val, h1⟩ ?_ ?_).trans ?_).symm
  · show win0_2.index t 0 * 1024 + 1 * (i 0).val = 1024 * (t.val / 8) + (i 0).val
    rw [(idx_2 t).1]; omega
  · show win0_2.index t 1 * 512 + 1 * (i 1).val = 512 * pos (5 * (t.val % 8) + 0) + (i 1).val
    rw [(idx_2 t).2]; omega
  · exact (Finset.sum_congr rfl fun d _ => congrArg₂ (fun x y : EReal => x * y) (blk_0 m c t ⟨(i 0).val, h0⟩ d ⟨1024 * (t.val / 8) + (i 0).val, by omega⟩ rfl)
      (blk_1 m c t d ⟨(i 1).val, h1⟩ ⟨t.val % 8, by omega⟩ rfl)).symm

theorem final_2 : (dats m 0 c).arrAt 2 cfg0.N = arr m c := by
  funext i
  rw [(dats m 0 c).arrAt_eq_piecewise 2 (arr m c) (flushed_2 m c) i]
  have h0 : (i 0 : Nat) < 4096 := (i 0).isLt
  have h1 : (i 1 : Nat) < 20480 := (i 1).isLt
  have hb := inv_lt (show (i 1 : Nat) / 512 < 40 by omega)
  have hp := pos_inv (show (i 1 : Nat) / 512 < 40 by omega)
  by_cases hc : inv ((i 1 : Nat) / 512) % 5 = 0
  · refine if_pos ?_
    let t : Fin cfg0.N := ⟨8 * ((i 0 : Nat) / 1024) + inv ((i 1 : Nat) / 512) / 5, by show _ < 32; omega⟩
    have ht : t.val = 8 * ((i 0 : Nat) / 1024) + inv ((i 1 : Nat) / 512) / 5 := rfl
    have hj : pos (5 * (t.val % 8) + 0) = (i 1 : Nat) / 512 := by
      rw [show 5 * (t.val % 8) + 0 = inv ((i 1 : Nat) / 512) by omega]
      exact hp
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(idx_2 t).1]; omega
    | ⟨1, _⟩ => show win0_2.index t 1 * 512 ≤ (i 1 : Nat) ∧ (i 1 : Nat) < win0_2.index t 1 * 512 + 512
                rw [(idx_2 t).2, hj]; omega
  · rw [if_neg]
    · rw [A_eq]
      show V m c main_v0 i = if inv ((i 1).val / 512) % 5 = 0 then _ else V m c main_v0 i
      rw [if_neg hc]
    · rintro ⟨t, -, hi⟩
      replace hi : i ∈ ((View.whole main_v0).slice (win0_2.rect t)).set := hi
      rw [View.set_slice_whole, Rect.mem_set_unit] at hi
      have h2 : win0_2.index t 1 * 512 ≤ (i 1 : Nat) ∧ (i 1 : Nat) < win0_2.index t 1 * 512 + 512 := hi 1
      rw [(idx_2 t).2] at h2
      have : t.val < 32 := t.isLt
      refine hc ?_
      rw [show (i 1 : Nat) / 512 = pos (5 * (t.val % 8) + 0) by omega, inv_pos (by omega)]
      omega

/-- The eight tiles of the result array side by side: the host's slices and their concatenation. -/
def tiles (x : Vec Ideal S4096x20480 .bf16) : Vec Ideal S4096x4096 .bf16 :=
  concatenate S4096x4096 1 [⟨S4096x512, extractStridedSlice S4096x512 ![0, 0] x slices_S4096x20480_S4096x512_0_0⟩,
    ⟨S4096x512, extractStridedSlice S4096x512 ![0, 2560] x slices_S4096x20480_S4096x512_0_2560⟩,
    ⟨S4096x512, extractStridedSlice S4096x512 ![0, 5120] x slices_S4096x20480_S4096x512_0_5120⟩,
    ⟨S4096x512, extractStridedSlice S4096x512 ![0, 7680] x slices_S4096x20480_S4096x512_0_7680⟩,
    ⟨S4096x512, extractStridedSlice S4096x512 ![0, 10240] x slices_S4096x20480_S4096x512_0_10240⟩,
    ⟨S4096x512, extractStridedSlice S4096x512 ![0, 13312] x slices_S4096x20480_S4096x512_0_13312⟩,
    ⟨S4096x512, extractStridedSlice S4096x512 ![0, 18432] x slices_S4096x20480_S4096x512_0_18432⟩,
    ⟨S4096x512, extractStridedSlice S4096x512 ![0, 15872] x slices_S4096x20480_S4096x512_0_15872⟩]
    concatenates_S4096x512_S4096x512_S4096x512_S4096x512_S4096x512_S4096x512_S4096x512_S4096x512_S4096x4096_d1

theorem tile_at (x : Vec Ideal S4096x20480 .bf16) (o : ℕ) (h : S4096x20480.Slices ![0, o] S4096x512) (s : Fin 4096) (k : Fin 512) (n : Fin 20480) (hn : n.val = o + k.val) :
    extractStridedSlice S4096x512 ![0, o] x h (ix2 s k) = x (ix2 s n) :=
  extractStridedSlice_apply ![0, o] x h (ix2 s k) (ix2 s n) (fun a => match a with
    | ⟨0, _⟩ => by show s.val = 0 + s.val; omega
    | ⟨1, _⟩ => by show n.val = o + k.val; exact hn)

theorem tiles_at (x : Vec Ideal S4096x20480 .bf16) (s n : Fin 4096) (k : Fin 512) (p : Fin 20480) (hk : k.val = n.val % 512)
    (hp : p.val = 512 * pos (5 * (n.val / 512)) + k.val) : tiles x (ix2 s n) = x (ix2 s p) := by
  unfold tiles
  have hn : n.val < 4096 := n.isLt
  have hq : n.val / 512 = 0 ∨ n.val / 512 = 1 ∨ n.val / 512 = 2 ∨ n.val / 512 = 3 ∨ n.val / 512 = 4 ∨ n.val / 512 = 5 ∨ n.val / 512 = 6 ∨ n.val / 512 = 7 := by omega
  rcases hq with h | h | h | h | h | h | h | h
  · refine Eq.trans (concatenate_apply_piece (t := S4096x4096) 1 _ _ (ix2 s n) 0 (by show 0 < 8; decide) S4096x512
      (extractStridedSlice S4096x512 ![0, 0] x slices_S4096x20480_S4096x512_0_0) rfl rfl 0 rfl (ix2 s k) (fun b hb => match b with
        | ⟨0, _⟩ => rfl
        | ⟨1, _⟩ => absurd rfl hb) (by show 0 + k.val = n.val; omega)) ?_
    refine tile_at x 0 slices_S4096x20480_S4096x512_0_0 s k p ?_
    rw [hp, show n.val / 512 = 0 by omega]
    rfl
  · refine Eq.trans (concatenate_apply_piece (t := S4096x4096) 1 _ _ (ix2 s n) 1 (by show 1 < 8; decide) S4096x512
      (extractStridedSlice S4096x512 ![0, 2560] x slices_S4096x20480_S4096x512_0_2560) rfl rfl 512 rfl (ix2 s k) (fun b hb => match b with
        | ⟨0, _⟩ => rfl
        | ⟨1, _⟩ => absurd rfl hb) (by show 512 + k.val = n.val; omega)) ?_
    refine tile_at x 2560 slices_S4096x20480_S4096x512_0_2560 s k p ?_
    rw [hp, show n.val / 512 = 1 by omega]
    rfl
  · refine Eq.trans (concatenate_apply_piece (t := S4096x4096) 1 _ _ (ix2 s n) 2 (by show 2 < 8; decide) S4096x512
      (extractStridedSlice S4096x512 ![0, 5120] x slices_S4096x20480_S4096x512_0_5120) rfl rfl 1024 rfl (ix2 s k) (fun b hb => match b with
        | ⟨0, _⟩ => rfl
        | ⟨1, _⟩ => absurd rfl hb) (by show 1024 + k.val = n.val; omega)) ?_
    refine tile_at x 5120 slices_S4096x20480_S4096x512_0_5120 s k p ?_
    rw [hp, show n.val / 512 = 2 by omega]
    rfl
  · refine Eq.trans (concatenate_apply_piece (t := S4096x4096) 1 _ _ (ix2 s n) 3 (by show 3 < 8; decide) S4096x512
      (extractStridedSlice S4096x512 ![0, 7680] x slices_S4096x20480_S4096x512_0_7680) rfl rfl 1536 rfl (ix2 s k) (fun b hb => match b with
        | ⟨0, _⟩ => rfl
        | ⟨1, _⟩ => absurd rfl hb) (by show 1536 + k.val = n.val; omega)) ?_
    refine tile_at x 7680 slices_S4096x20480_S4096x512_0_7680 s k p ?_
    rw [hp, show n.val / 512 = 3 by omega]
    rfl
  · refine Eq.trans (concatenate_apply_piece (t := S4096x4096) 1 _ _ (ix2 s n) 4 (by show 4 < 8; decide) S4096x512
      (extractStridedSlice S4096x512 ![0, 10240] x slices_S4096x20480_S4096x512_0_10240) rfl rfl 2048 rfl (ix2 s k) (fun b hb => match b with
        | ⟨0, _⟩ => rfl
        | ⟨1, _⟩ => absurd rfl hb) (by show 2048 + k.val = n.val; omega)) ?_
    refine tile_at x 10240 slices_S4096x20480_S4096x512_0_10240 s k p ?_
    rw [hp, show n.val / 512 = 4 by omega]
    rfl
  · refine Eq.trans (concatenate_apply_piece (t := S4096x4096) 1 _ _ (ix2 s n) 5 (by show 5 < 8; decide) S4096x512
      (extractStridedSlice S4096x512 ![0, 13312] x slices_S4096x20480_S4096x512_0_13312) rfl rfl 2560 rfl (ix2 s k) (fun b hb => match b with
        | ⟨0, _⟩ => rfl
        | ⟨1, _⟩ => absurd rfl hb) (by show 2560 + k.val = n.val; omega)) ?_
    refine tile_at x 13312 slices_S4096x20480_S4096x512_0_13312 s k p ?_
    rw [hp, show n.val / 512 = 5 by omega]
    rfl
  · refine Eq.trans (concatenate_apply_piece (t := S4096x4096) 1 _ _ (ix2 s n) 6 (by show 6 < 8; decide) S4096x512
      (extractStridedSlice S4096x512 ![0, 18432] x slices_S4096x20480_S4096x512_0_18432) rfl rfl 3072 rfl (ix2 s k) (fun b hb => match b with
        | ⟨0, _⟩ => rfl
        | ⟨1, _⟩ => absurd rfl hb) (by show 3072 + k.val = n.val; omega)) ?_
    refine tile_at x 18432 slices_S4096x20480_S4096x512_0_18432 s k p ?_
    rw [hp, show n.val / 512 = 6 by omega]
    rfl
  · refine Eq.trans (concatenate_apply_piece (t := S4096x4096) 1 _ _ (ix2 s n) 7 (by show 7 < 8; decide) S4096x512
      (extractStridedSlice S4096x512 ![0, 15872] x slices_S4096x20480_S4096x512_0_15872) rfl rfl 3584 rfl (ix2 s k) (fun b hb => match b with
        | ⟨0, _⟩ => rfl
        | ⟨1, _⟩ => absurd rfl hb) (by show 3584 + k.val = n.val; omega)) ?_
    refine tile_at x 15872 slices_S4096x20480_S4096x512_0_15872 s k p ?_
    rw [hp, show n.val / 512 = 7 by omega]
    rfl

/-- The host's result. -/
def rows : Buf (Elt Ideal) ((c : Thread nD τ).loc main_v9) := tiles (arr m c)

theorem rows_at (j : S4096x4096.Idx) (s : Fin 4096) (q : Fin 8) (k : Fin 512) (hs : s.val = (j 0).val) (hn : (j 1).val = 512 * q.val + k.val) :
    (rows m c : Vec Ideal S4096x4096 .bf16) j = proj (H m c) (W m c) s q k := by
  have hp : pos (5 * q.val) < 40 := by
    have : ∀ q : Fin 8, pos (5 * q.val) < 40 := by decide
    exact this q
  have ej : ix2 s (j 1) = j := funext fun a => match a with
    | ⟨0, _⟩ => Fin.ext hs
    | ⟨1, _⟩ => rfl
  refine (congrArg (rows m c : Vec Ideal S4096x4096 .bf16) ej.symm).trans ?_
  refine (tiles_at (arr m c) s (j 1) k ⟨512 * pos (5 * q.val) + k.val, by omega⟩ (by omega) ?_).trans ?_
  · show 512 * pos (5 * q.val) + k.val = _
    rw [show (j 1).val / 512 = q.val by omega]
  · exact arr_at m c _ s q k rfl rfl

theorem run_rows (g : Dev nD → PrngReg) : θ_run defs (onTc (τ := τ) (main (F := Ideal))) ⟨m, fun _ => 0, g⟩
    (fun r => ∀ c : Dev nD, r.2.mem ((c.tc : Thread nD τ).loc main_v9) = rows m c) := by
  refine (θ_run _ _ _).mono (fun r h c => ((h c).2 main_v9 (Pipeline.mem_restRefs_of main_v9 (by decide) (by decide))).trans ?_) (run_main m g)
  show tiles (Pipeline.withArrays (cfgs 0).spec c (V0 m c) (fun w => (dats m 0 c).arrAt w (cfgs 0).N) (Proc.devRef .tc main_v0) : Vec Ideal S4096x20480 .bf16) = _
  unfold rows
  exact congrArg tiles (((dats m 0 c).withArrays_arrAt (by decide) (V0 m c) (A_eq m c) 2).trans (final_2 m c))

end Cert.KernelProj0Ideal.Proj

end
-- ==== Proof.Proj.Ref0.lean ====
/- What the reference of round 0 of the projections leaves in its result array. -/
module

public import proofs.«01_k».proof.Proof.Proj.Order
public import proofs.«01_k».proof.Proof.Gen.ReferenceProj0Ideal.Read
public import Idealize.ShloMosaic.Lib.Pipeline.Value
public import Idealize.ShloMosaic.Lib.Pointwise
public import Idealize.ShloMosaic.Lib.ValueIdx
public import Idealize.ShloMosaic.Lib.IdealHost

@[expose] public section

set_option maxRecDepth 16384

noncomputable section

namespace Cert.ReferenceProj0Ideal.Proj

open Cert.ReferenceProj0Ideal Cert.ReferenceProj0Ideal.Gen Cert.ReferenceProj0Ideal.Read Cert.Order
open Idealize.ShloMosaic Idealize.ShloMosaic.TcCoe Idealize.ShloMosaic.Tactic

variable (x0 : Vec Ideal S4096x4096 .bf16) (x1 : Vec Ideal S8x4096x512 .bf16)

/-- The round's new tiles. -/
theorem new_at (s : Fin 4096) (q : Fin 8) (k : Fin 512) : val_main_v3 (F := Ideal) x0 x1 (ix3 s q k)
    = proj (fun s d => x0 (ix2 s d)) (fun q d k => x1 (ix3 q d k)) s q k := by
  rw [val_main_v3_apply, val_main_v2_apply]
  show (∑ d : Fin 4096, _) = _
  unfold proj
  refine Finset.sum_congr rfl fun d _ => ?_
  have e1 : lidx_main_v2 (ix3 s q k) d = ix2 s d := funext fun a => match a with
    | ⟨0, _⟩ => rfl
    | ⟨1, _⟩ => rfl
  have e2 : ridx_main_v2 (ix3 s q k) d = ix3 q d k := funext fun a => match a with
    | ⟨0, _⟩ => rfl
    | ⟨1, _⟩ => rfl
    | ⟨2, _⟩ => rfl
  rw [e1, e2, val_main_v0_apply, val_main_v1_apply]
  rfl

/-- The round's tiles side by side. -/
theorem result_at (j : S4096x4096.Idx) (s : Fin 4096) (q : Fin 8) (k : Fin 512) (hs : s.val = (j 0).val) (hn : (j 1).val = 512 * q.val + k.val) :
    val_main_v4 (F := Ideal) x0 x1 j = proj (fun s d => x0 (ix2 s d)) (fun q d k => x1 (ix3 q d k)) s q k := by
  have e : idx_main_v4 j = ix3 s q k := funext fun a => Fin.ext (match a with
    | ⟨0, _⟩ => by show ((j 0).val * 4096 + (j 1).val) / 4096 = s.val; omega
    | ⟨1, _⟩ => by show ((j 0).val * 4096 + (j 1).val) / 512 % 8 = q.val; omega
    | ⟨2, _⟩ => by show ((j 0).val * 4096 + (j 1).val) % 512 = k.val; omega)
  rw [val_main_v4_apply]
  exact (congrArg (val_main_v3 (F := Ideal) x0 x1) e).trans (new_at x0 x1 s q k)

end Cert.ReferenceProj0Ideal.Proj

end
-- ==== Proof.Proj.Round0.lean ====
/- Round 0 of the projections: the kernel's result (Proj/Kernel0.lean) is the reference's (Proj/Ref0.lean). -/
module

public import proofs.«01_k».proof.Defs
public import proofs.«01_k».proof.Proof.Proj.Kernel0
public import proofs.«01_k».proof.Proof.Proj.Ref0
public import proofs.«01_k».proof.Proof.Gen.KernelProj0
public import proofs.«01_k».proof.Proof.Gen.KernelProj0.Frame
public import proofs.«01_k».proof.Proof.Gen.ReferenceProj0Ideal.Run
public import Idealize.ShloMosaic.Lib.QuiescentFlight
public import Idealize.ShloMosaic.Init

@[expose] public section

set_option maxRecDepth 16384

noncomputable section

namespace Cert.Proof.Proj0

open Idealize.ShloMosaic Idealize.ShloMosaic.TcCoe Idealize.SL.Sem

theorem frame_R : Cert.quiescent_ReferenceProj0Ideal := fun m g _ =>
  (θ_run Cert.ReferenceProj0Ideal.defs _ _).mono (fun r h => ⟨fun c => (h c).2, sem_eq_zero_of_no_sems (by decide) r.2⟩)
    (Cert.ReferenceProj0Ideal.Value.run (F := Ideal) m g)

theorem algebraic : Cert.algebraic_KernelProj0Ideal_ReferenceProj0Ideal := by
  intro m g m' g' _ hagree
  refine ⟨Cert.KernelProj0Ideal.Proj.rows m, ?_, ?_⟩
  · exact (θ_run _ _ _).mono (fun _ h c => ⟨h.1 c, h.2 c⟩)
      (θ_run_and (Cert.KernelProj0Ideal.Proj.run_rows m g) (Cert.KernelProj0Ideal.Gen.unchanged m g))
  · refine (θ_run _ _ _).mono (fun _ h c => ⟨(h c).1.trans ?_, (h c).2⟩) (Cert.ReferenceProj0Ideal.Value.run (F := Ideal) m' g')
    obtain ⟨a0, a1⟩ := hagree c
    rw [Cert.ReferenceProj0Ideal.Read.val_main_v4_eq, a0, a1]
    funext j
    have h1 : (j 1).val < 4096 := (j 1).isLt
    refine (Cert.ReferenceProj0Ideal.Proj.result_at _ _ j (j 0) ⟨(j 1).val / 512, by omega⟩ ⟨(j 1).val % 512, by omega⟩ rfl
      (by show _ = 512 * (_ / 512) + _ % 512; omega)).trans ?_
    exact (Cert.KernelProj0Ideal.Proj.rows_at m c j (j 0) ⟨(j 1).val / 512, by omega⟩ ⟨(j 1).val % 512, by omega⟩ rfl
      (by show _ = 512 * (_ / 512) + _ % 512; omega)).symm

end Cert.Proof.Proj0

end
-- ==== Proof.Proj.Kernel1.lean ====
/- What the kernel of round 1 of the projections leaves in its result array. -/
module

public import proofs.«01_k».proof.Proof.Loads
public import proofs.«01_k».proof.Proof.Proj.Order
public import proofs.«01_k».proof.Proof.Gen.KernelProj1Ideal.Value
public import Idealize.ShloMosaic.Lib.StableHlo.ReadAt
public import Idealize.ShloMosaic.Lib.Pointwise
public import Idealize.ShloMosaic.Lib.ValueIdx
public import Idealize.ShloMosaic.Lib.IdealHost

@[expose] public section

set_option maxRecDepth 16384

noncomputable section

namespace Cert.KernelProj1Ideal.Proj

open Cert.KernelProj1Ideal Cert.KernelProj1Ideal.Gen Cert.Order Cert.Loads
open Idealize.ShloMosaic Idealize.ShloMosaic.TcCoe Idealize.ShloMosaic.Tactic

/-- A grid point's blocks: of the hidden rows, of the weights' tiles, and of the result. -/
theorem idx_0 : ∀ t : Fin grid0.N, win0_0.index t 0 = t.val / 8 ∧ win0_0.index t 1 = 0 := by decide +kernel
theorem idx_1 : ∀ t : Fin grid0.N, win0_1.index t 0 = t.val % 8 ∧ win0_1.index t 1 = 0 ∧ win0_1.index t 2 = 0 := by decide +kernel
theorem idx_2 : ∀ t : Fin grid0.N, win0_2.index t 0 = t.val / 8 ∧ win0_2.index t 1 = pos (5 * (t.val % 8) + 1) := by decide +kernel

/-- The body's product read at an index. -/
theorem pay1_at (x : Vec Ideal S1024x4096 .bf16) (y : Vec Ideal S1x4096x512 .bf16) (r : Fin 1024) (k : Fin 512) :
    k0_pay1 (F := Ideal) x y (ix2 r k) = ∑ d : Fin 4096, x (ix2 r d) * y (ix3 0 d k) := by
  unfold k0_pay1
  pointwise

variable (m : (ℓ : Loc nD τ sig) → Buf (Elt Ideal) ℓ) (c : Dev nD)

theorem block (t : Fin cfg0.N) : outsAt0 m c t = k0_pay1 (F := Ideal) (iblk m c 0 t) (iblk m c 1 t) := by
  unfold outsAt0 out0_A_2
  refine (View.read_writes_junk_eq_canon VO0_2 _).trans ?_
  refine (View.canon_unit_zero z2 _ _).trans ?_
  show k0_pay1 _ _ = _
  rw [load_whole _ _ z2, load_whole _ _ z3]

/-- The hidden rows and the round's tiles of the weights, as launched. -/
def H (s d : Fin 4096) : EReal := (m ((c : Thread nD τ).loc main_arg0) : Vec Ideal S4096x4096 .bf16) (ix2 s d)
def W (q : Fin 8) (d : Fin 4096) (k : Fin 512) : EReal := (m ((c : Thread nD τ).loc main_arg1) : Vec Ideal S8x4096x512 .bf16) (ix3 q d k)

theorem blk_0 (t : Fin cfg0.N) (r : Fin 1024) (d s : Fin 4096) (h : s.val = 1024 * (t.val / 8) + r.val) :
    (iblk m c 0 t : Vec Ideal S1024x4096 .bf16) (ix2 r d) = H m c s d := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = s.val
              rw [(idx_0 t).1]; omega
  | ⟨1, _⟩ => show win0_0.index t 1 * 4096 + 1 * d.val = d.val
              rw [(idx_0 t).2]; omega

theorem blk_1 (t : Fin cfg0.N) (d : Fin 4096) (k : Fin 512) (q : Fin 8) (h : q.val = t.val % 8) :
    (iblk m c 1 t : Vec Ideal S1x4096x512 .bf16) (ix3 0 d k) = W m c q d k := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = q.val
              rw [(idx_1 t).1]; omega
  | ⟨1, _⟩ => show win0_1.index t 1 * 4096 + 1 * d.val = d.val
              rw [(idx_1 t).2.1]; omega
  | ⟨2, _⟩ => show win0_1.index t 2 * 512 + 1 * k.val = k.val
              rw [(idx_1 t).2.2]; omega

theorem tile_lt (n : Fin 20480) : inv (n.val / 512) / 5 < 8 := by
  have := inv_lt (show n.val / 512 < 40 by omega)
  omega

/-- The result array: the tiles that the round computes, and the rest as the array came. -/
def arr : Buf (Elt Ideal) ((c : Thread nD τ).loc main_v0) :=
  (fun i => if inv ((i 1).val / 512) % 5 = 1 then proj (H m c) (W m c) (i 0) ⟨inv ((i 1).val / 512) / 5, tile_lt (i 1)⟩ ⟨(i 1).val % 512, by omega⟩
    else V m c main_v0 i : Vec Ideal S4096x20480 .bf16)

theorem arr_at (j : S4096x20480.Idx) (s : Fin 4096) (q : Fin 8) (k : Fin 512) (hs : (j 0).val = s.val) (hk : (j 1).val = 512 * pos (5 * q.val + 1) + k.val) :
    (arr m c : Vec Ideal S4096x20480 .bf16) j = proj (H m c) (W m c) s q k := by
  have e : inv ((j 1).val / 512) = 5 * q.val + 1 := by
    rw [show (j 1).val / 512 = pos (5 * q.val + 1) by omega, inv_pos (by omega)]
  show (if inv ((j 1).val / 512) % 5 = 1 then proj (H m c) (W m c) (j 0) _ _ else _) = _
  rw [if_pos (by omega)]
  congr 1
  · exact Fin.ext hs
  · exact Fin.ext (by show inv ((j 1).val / 512) / 5 = q.val; omega)
  · exact Fin.ext (by show (j 1).val % 512 = k.val; omega)

theorem flushed_2 (t : Fin cfg0.N) (hf : (cfg0.win 2).flush t = true) :
    (dats m 0 c).flushed 2 t = ((cfg0.win 2).blk t).view.read (Elt Ideal) (arr m c) := by
  show (cfg0.win 2).cut (grid0.coords t) ((dats m 0 c).after 2 t) = _
  rw [after0_2, block]
  have ht : t.val < 32 := t.isLt
  funext i
  rw [View.read_apply]
  have h0 : (i 0).val < 1024 := (i 0).isLt
  have h1 : (i 1).val < 512 := (i 1).isLt
  have e : (cfg0.win 2).cut (grid0.coords t) (k0_pay1 (F := Ideal) (iblk m c 0 t) (iblk m c 1 t)) i
      = k0_pay1 (F := Ideal) (iblk m c 0 t) (iblk m c 1 t) (ix2 ⟨(i 0).val, h0⟩ ⟨(i 1).val, h1⟩) := by
    refine congrArg (k0_pay1 (F := Ideal) (iblk m c 0 t) (iblk m c 1 t)) (funext fun a => Fin.ext ?_)
    match a with
    | ⟨0, _⟩ => rfl
    | ⟨1, _⟩ => rfl
  refine e.trans ((pay1_at _ _ _ _).trans ?_)
  refine ((arr_at m c (((cfg0.win 2).blk t).view.emb i) ⟨1024 * (t.val / 8) + (i 0).val, by omega⟩ ⟨t.val % 8, by omega⟩ ⟨(i 1).val, h1⟩ ?_ ?_).trans ?_).symm
  · show win0_2.index t 0 * 1024 + 1 * (i 0).val = 1024 * (t.val / 8) + (i 0).val
    rw [(idx_2 t).1]; omega
  · show win0_2.index t 1 * 512 + 1 * (i 1).val = 512 * pos (5 * (t.val % 8) + 1) + (i 1).val
    rw [(idx_2 t).2]; omega
  · exact (Finset.sum_congr rfl fun d _ => congrArg₂ (fun x y : EReal => x * y) (blk_0 m c t ⟨(i 0).val, h0⟩ d ⟨1024 * (t.val / 8) + (i 0).val, by omega⟩ rfl)
      (blk_1 m c t d ⟨(i 1).val, h1⟩ ⟨t.val % 8, by omega⟩ rfl)).symm

theorem final_2 : (dats m 0 c).arrAt 2 cfg0.N = arr m c := by
  funext i
  rw [(dats m 0 c).arrAt_eq_piecewise 2 (arr m c) (flushed_2 m c) i]
  have h0 : (i 0 : Nat) < 4096 := (i 0).isLt
  have h1 : (i 1 : Nat) < 20480 := (i 1).isLt
  have hb := inv_lt (show (i 1 : Nat) / 512 < 40 by omega)
  have hp := pos_inv (show (i 1 : Nat) / 512 < 40 by omega)
  by_cases hc : inv ((i 1 : Nat) / 512) % 5 = 1
  · refine if_pos ?_
    let t : Fin cfg0.N := ⟨8 * ((i 0 : Nat) / 1024) + inv ((i 1 : Nat) / 512) / 5, by show _ < 32; omega⟩
    have ht : t.val = 8 * ((i 0 : Nat) / 1024) + inv ((i 1 : Nat) / 512) / 5 := rfl
    have hj : pos (5 * (t.val % 8) + 1) = (i 1 : Nat) / 512 := by
      rw [show 5 * (t.val % 8) + 1 = inv ((i 1 : Nat) / 512) by omega]
      exact hp
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(idx_2 t).1]; omega
    | ⟨1, _⟩ => show win0_2.index t 1 * 512 ≤ (i 1 : Nat) ∧ (i 1 : Nat) < win0_2.index t 1 * 512 + 512
                rw [(idx_2 t).2, hj]; omega
  · rw [if_neg]
    · rw [A_eq]
      show V m c main_v0 i = if inv ((i 1).val / 512) % 5 = 1 then _ else V m c main_v0 i
      rw [if_neg hc]
    · rintro ⟨t, -, hi⟩
      replace hi : i ∈ ((View.whole main_v0).slice (win0_2.rect t)).set := hi
      rw [View.set_slice_whole, Rect.mem_set_unit] at hi
      have h2 : win0_2.index t 1 * 512 ≤ (i 1 : Nat) ∧ (i 1 : Nat) < win0_2.index t 1 * 512 + 512 := hi 1
      rw [(idx_2 t).2] at h2
      have : t.val < 32 := t.isLt
      refine hc ?_
      rw [show (i 1 : Nat) / 512 = pos (5 * (t.val % 8) + 1) by omega, inv_pos (by omega)]
      omega

/-- The result array is handed to the region as the launch's last argument. -/
theorem V_copy (i : S4096x20480.Idx) : (V m c main_v0 : Vec Ideal S4096x20480 .bf16) i = (m ((c : Thread nD τ).loc main_arg2) : Vec Ideal S4096x20480 .bf16) i := by
  unfold V
  after_reads_at
  rfl

end Cert.KernelProj1Ideal.Proj

end
-- ==== Proof.Proj.Ref1.lean ====
/- What the reference of round 1 of the projections leaves in its result array. -/
module

public import proofs.«01_k».proof.Proof.Proj.Order
public import proofs.«01_k».proof.Proof.Gen.ReferenceProj1Ideal.Read
public import Idealize.ShloMosaic.Lib.Pipeline.Value
public import Idealize.ShloMosaic.Lib.Pointwise
public import Idealize.ShloMosaic.Lib.ValueIdx
public import Idealize.ShloMosaic.Lib.IdealHost

@[expose] public section

set_option maxRecDepth 16384

noncomputable section

namespace Cert.ReferenceProj1Ideal.Proj

open Cert.ReferenceProj1Ideal Cert.ReferenceProj1Ideal.Gen Cert.ReferenceProj1Ideal.Read Cert.Order
open Idealize.ShloMosaic Idealize.ShloMosaic.TcCoe Idealize.ShloMosaic.Tactic

variable (x0 : Vec Ideal S4096x4096 .bf16) (x1 : Vec Ideal S8x4096x512 .bf16) (x2 : Vec Ideal S4096x20480 .bf16)

/-- The round's new tiles. -/
theorem new_at (s : Fin 4096) (q : Fin 8) (k : Fin 512) : val_main_v3 (F := Ideal) x0 x1 (ix3 s q k)
    = proj (fun s d => x0 (ix2 s d)) (fun q d k => x1 (ix3 q d k)) s q k := by
  rw [val_main_v3_apply, val_main_v2_apply]
  show (∑ d : Fin 4096, _) = _
  unfold proj
  refine Finset.sum_congr rfl fun d _ => ?_
  have e1 : lidx_main_v2 (ix3 s q k) d = ix2 s d := funext fun a => match a with
    | ⟨0, _⟩ => rfl
    | ⟨1, _⟩ => rfl
  have e2 : ridx_main_v2 (ix3 s q k) d = ix3 q d k := funext fun a => match a with
    | ⟨0, _⟩ => rfl
    | ⟨1, _⟩ => rfl
    | ⟨2, _⟩ => rfl
  rw [e1, e2, val_main_v0_apply, val_main_v1_apply]
  rfl

/-- Column `k` of tile `b` of gate `a`, out of the tiles by turns. -/
theorem gate_at (s : Fin 4096) (a : Fin 2) (b : Fin 8) (k : Fin 512) :
    val_main_v7 (F := Ideal) x2 (ix2 s ⟨(a.val * 8 + b.val) * 512 + k.val, by omega⟩)
      = x2 (ix2 s ⟨12288 + ((b.val * 2 + a.val) * 512 + k.val), by omega⟩) := by
  rw [val_main_v7_apply]
  have e7 : idx_main_v7 (ix2 s ⟨(a.val * 8 + b.val) * 512 + k.val, by omega⟩) = ix4 s a b k := funext fun d => Fin.ext (match d with
    | ⟨0, _⟩ => by show (s.val * 8192 + ((a.val * 8 + b.val) * 512 + k.val)) / 8192 = s.val; omega
    | ⟨1, _⟩ => by show (s.val * 8192 + ((a.val * 8 + b.val) * 512 + k.val)) / 4096 % 2 = a.val; omega
    | ⟨2, _⟩ => by show (s.val * 8192 + ((a.val * 8 + b.val) * 512 + k.val)) / 512 % 8 = b.val; omega
    | ⟨3, _⟩ => by show (s.val * 8192 + ((a.val * 8 + b.val) * 512 + k.val)) % 512 = k.val; omega)
  rw [e7, val_main_v6_apply, val_main_v5_apply, val_main_v4_apply]
  refine congrArg x2 (funext fun d => Fin.ext ?_)
  match d with
  | ⟨0, _⟩ => show (((s.val * 8 + b.val) * 2 + a.val) * 512 + k.val) / 8192 = s.val; omega
  | ⟨1, _⟩ => show 12288 + (((s.val * 8 + b.val) * 2 + a.val) * 512 + k.val) % 8192 = 12288 + ((b.val * 2 + a.val) * 512 + k.val); omega

/-- The columns that were there, in the weights' order. -/
theorem cols_at (s : Fin 4096) (n : Fin 20480) : val_main_v9 (F := Ideal) x2 (ix2 s n) = x2 (ix2 s (col n)) := by
  have hn := n.isLt
  unfold val_main_v9
  rw [concatenate_pair_apply]
  split
  · next hlt =>
    have h : n.val < 12288 := hlt
    rw [val_main_v8_apply]
    refine congrArg x2 (funext fun a => Fin.ext ?_)
    match a with
    | ⟨0, _⟩ => rfl
    | ⟨1, _⟩ => exact (src_before h).symm
  · next hlt =>
    have h : ¬ n.val < 12288 := hlt
    have e := gate_at x2 s ⟨(n.val - 12288) / 4096, by omega⟩ ⟨(n.val - 12288) / 512 % 8, by omega⟩ ⟨n.val % 512, by omega⟩
    refine Eq.trans (congrArg (val_main_v7 (F := Ideal) x2) (funext fun a => Fin.ext ?_)) (e.trans
      (congrArg (fun n => x2 (ix2 s n)) (Fin.ext ?_)))
    · match a with
      | ⟨0, _⟩ => rfl
      | ⟨1, _⟩ => show n.val - 12288 = ((n.val - 12288) / 4096 * 8 + (n.val - 12288) / 512 % 8) * 512 + n.val % 512; omega
    · refine (src_gate (a := (n.val - 12288) / 4096) (b := (n.val - 12288) / 512 % 8) (c := n.val % 512) (by omega) (by omega) (by omega)).symm.trans ?_
      refine congrArg src ?_
      show 12288 + (((n.val - 12288) / 4096 * 8 + (n.val - 12288) / 512 % 8) * 512 + n.val % 512) = n.val
      omega

/-- The tiles that were there, chip by chip. -/
theorem old_at (s : Fin 4096) (q : Fin 8) (e : Fin 5) (k : Fin 512) (n : Fin 20480) (hn : n.val = 512 * pos (5 * q.val + e.val) + k.val) :
    val_main_v10 (F := Ideal) x2 (ix4 s q e k) = x2 (ix2 s n) := by
  rw [val_main_v10_apply]
  have e10 : idx_main_v10 (ix4 s q e k) = ix2 s ⟨512 * (5 * q.val + e.val) + k.val, by omega⟩ := funext fun d => Fin.ext (match d with
    | ⟨0, _⟩ => by show (((s.val * 8 + q.val) * 5 + e.val) * 512 + k.val) / 20480 = s.val; omega
    | ⟨1, _⟩ => by show (((s.val * 8 + q.val) * 5 + e.val) * 512 + k.val) % 20480 = 512 * (5 * q.val + e.val) + k.val; omega)
  rw [e10, cols_at]
  exact congrArg (fun n => x2 (ix2 s n)) (Fin.ext ((src_tile k.isLt).trans hn.symm))

/-- The tiles with the round's replaced. -/
theorem tiles_at (s : Fin 4096) (q : Fin 8) (e : Fin 5) (k : Fin 512) (n : Fin 20480) (hn : n.val = 512 * pos (5 * q.val + e.val) + k.val) :
    val_main_v14 (F := Ideal) x0 x1 x2 (ix4 s q e k)
      = if e.val = 1 then proj (fun s d => x0 (ix2 s d)) (fun q d k => x1 (ix3 q d k)) s q k else x2 (ix2 s n) := by
  unfold val_main_v14
  have he := e.isLt
  by_cases h : e.val = 1
  · rw [if_pos h]
    refine Eq.trans (concatenate_apply_piece (t := S4096x8x5x512) 2 _ _ (ix4 s q e k) 1 ?_ S4096x8x1x512 (val_main_v12 (F := Ideal) x0 x1) ?_ rfl 1 ?_ (ix4 s q 0 k) (fun b hb => match b with
      | ⟨0, _⟩ => rfl
      | ⟨1, _⟩ => rfl
      | ⟨2, _⟩ => absurd rfl hb
      | ⟨3, _⟩ => rfl) ?_) ?_
    · show 1 < 3; decide
    · rfl
    · rfl
    · show 1 + 0 = e.val; omega
    · refine Eq.trans ?_ (new_at x0 x1 s q k)
      rw [val_main_v12_apply]
      refine congrArg (val_main_v3 (F := Ideal) x0 x1) (funext fun a => Fin.ext ?_)
      match a with
      | ⟨0, _⟩ => show (((s.val * 8 + q.val) * 1 + 0) * 512 + k.val) / 4096 = s.val; omega
      | ⟨1, _⟩ => show (((s.val * 8 + q.val) * 1 + 0) * 512 + k.val) / 512 % 8 = q.val; omega
      | ⟨2, _⟩ => show (((s.val * 8 + q.val) * 1 + 0) * 512 + k.val) % 512 = k.val; omega
  · rw [if_neg h]
    by_cases h2 : e.val < 1
    · refine Eq.trans (concatenate_apply_piece (t := S4096x8x5x512) 2 _ _ (ix4 s q e k) 0 ?_ S4096x8x1x512 (val_main_v11 (F := Ideal) x2) ?_ rfl 0 ?_ (ix4 s q ⟨e.val, by omega⟩ k) (fun b hb => match b with
        | ⟨0, _⟩ => rfl
        | ⟨1, _⟩ => rfl
        | ⟨2, _⟩ => absurd rfl hb
        | ⟨3, _⟩ => rfl) ?_) ?_
      · show 0 < 3; decide
      · rfl
      · rfl
      · show 0 + e.val = e.val; omega
      · refine Eq.trans ?_ (old_at x2 s q e k n hn)
        rw [val_main_v11_apply]
        refine congrArg (val_main_v10 (F := Ideal) x2) (funext fun a => Fin.ext ?_)
        match a with
        | ⟨0, _⟩ => rfl
        | ⟨1, _⟩ => rfl
        | ⟨2, _⟩ => rfl
        | ⟨3, _⟩ => rfl
    · refine Eq.trans (concatenate_apply_piece (t := S4096x8x5x512) 2 _ _ (ix4 s q e k) 2 ?_ S4096x8x3x512 (val_main_v13 (F := Ideal) x2) ?_ rfl 2 ?_ (ix4 s q ⟨e.val - 2, by omega⟩ k) (fun b hb => match b with
        | ⟨0, _⟩ => rfl
        | ⟨1, _⟩ => rfl
        | ⟨2, _⟩ => absurd rfl hb
        | ⟨3, _⟩ => rfl) ?_) ?_
      · show 2 < 3; decide
      · rfl
      · rfl
      · show 2 + (e.val - 2) = e.val; omega
      · refine Eq.trans ?_ (old_at x2 s q e k n hn)
        rw [val_main_v13_apply]
        refine congrArg (val_main_v10 (F := Ideal) x2) (funext fun a => Fin.ext ?_)
        match a with
        | ⟨0, _⟩ => rfl
        | ⟨1, _⟩ => rfl
        | ⟨2, _⟩ => show 2 + (e.val - 2) = e.val; omega
        | ⟨3, _⟩ => rfl

/-- The columns in the tiles' own order, out of the tiles chip by chip. -/
def ordered (T : Vec Ideal S4096x8x5x512 .bf16) : Vec Ideal S4096x20480 .bf16 :=
  let y : Vec Ideal S4096x20480 .bf16 := shapeCast _ T shapeCasts_S4096x8x5x512_S4096x20480
  concatenate S4096x20480 1 [⟨S4096x12288, extractStridedSlice S4096x12288 ![0, 0] y slices_S4096x20480_S4096x12288_0_0⟩,
    ⟨S4096x8192, shapeCast _ (transpose S4096x8x2x512 [0, 2, 1, 3] (shapeCast S4096x2x8x512
      (extractStridedSlice S4096x8192 ![0, 12288] y slices_S4096x20480_S4096x8192_0_12288) shapeCasts_S4096x8192_S4096x2x8x512)
      transposes_S4096x2x8x512_S4096x8x2x512_0_2_1_3) shapeCasts_S4096x8x2x512_S4096x8192⟩]
    concatenates_S4096x12288_S4096x8192_S4096x20480_d1

theorem ordered_at (T : Vec Ideal S4096x8x5x512 .bf16) (s : Fin 4096) (n : Fin 20480) (q : Fin 8) (e : Fin 5) (k : Fin 512)
    (hq : 5 * q.val + e.val = inv (n.val / 512)) (hk : k.val = n.val % 512) : ordered T (ix2 s n) = T (ix4 s q e k) := by
  have hn := n.isLt
  have ey (u : Fin 20480) (hu : u.val = 512 * (5 * q.val + e.val) + k.val) :
      shapeCast S4096x20480 T shapeCasts_S4096x8x5x512_S4096x20480 (ix2 s u) = T (ix4 s q e k) :=
    shapeCast_apply T _ (ix2 s u) (ix4 s q e k) (by
      rewrite [Shape.rowMajor_val_four, Shape.rowMajor_val_two]
      show ((s.val * 8 + q.val) * 5 + e.val) * 512 + k.val = s.val * 20480 + u.val
      omega)
  unfold ordered
  dsimp only
  generalize shapeCast S4096x20480 T shapeCasts_S4096x8x5x512_S4096x20480 = y at ey ⊢
  rw [concatenate_pair_apply]
  split
  · next hlt =>
    have h : n.val < 12288 := hlt
    rw [inv_before (by omega)] at hq
    refine (extractStridedSlice_apply ![0, 0] y _ _ (ix2 s n) fun a => ?_).trans (ey n (by omega))
    match a with
    | ⟨0, _⟩ => show s.val = 0 + s.val; omega
    | ⟨1, _⟩ => show n.val = 0 + n.val; omega
  · next hlt =>
    have h : ¬ n.val < 12288 := hlt
    rw [show n.val / 512 = 24 + (2 * ((n.val - 12288) / 1024) + n.val / 512 % 2) by omega, inv_gate (by omega)] at hq
    refine (shapeCast_apply _ _ _ (ix4 s ⟨(n.val - 12288) / 1024, by omega⟩ ⟨n.val / 512 % 2, by omega⟩ k) ?_).trans
      ((transpose_apply [0, 2, 1, 3] _ _ _ (ix4 s ⟨n.val / 512 % 2, by omega⟩ ⟨(n.val - 12288) / 1024, by omega⟩ k) fun b => match b with
        | ⟨0, _⟩ => rfl
        | ⟨1, _⟩ => rfl
        | ⟨2, _⟩ => rfl
        | ⟨3, _⟩ => rfl).trans
      ((shapeCast_apply _ _ _ (ix2 s ⟨(n.val / 512 % 2 * 8 + (n.val - 12288) / 1024) * 512 + k.val, by omega⟩) ?_).trans
      ((extractStridedSlice_apply ![0, 12288] y _ _ (ix2 s ⟨512 * (5 * q.val + e.val) + k.val, by omega⟩) fun a => ?_).trans (ey _ rfl))))
    · rewrite [Shape.rowMajor_val_four, Shape.rowMajor_val_two]
      show ((s.val * 8 + (n.val - 12288) / 1024) * 2 + n.val / 512 % 2) * 512 + k.val = s.val * 8192 + (n.val - 12288)
      omega
    · rewrite [Shape.rowMajor_val_four, Shape.rowMajor_val_two]
      show s.val * 8192 + ((n.val / 512 % 2 * 8 + (n.val - 12288) / 1024) * 512 + k.val)
        = ((s.val * 2 + n.val / 512 % 2) * 8 + (n.val - 12288) / 1024) * 512 + k.val
      omega
    · match a with
      | ⟨0, _⟩ => show s.val = 0 + s.val; omega
      | ⟨1, _⟩ =>
        show 512 * (5 * q.val + e.val) + k.val = 12288 + ((n.val / 512 % 2 * 8 + (n.val - 12288) / 1024) * 512 + k.val)
        omega

/-- A column of the result, by the tile it is in. -/
theorem ordered_idx (T : Vec Ideal S4096x8x5x512 .bf16) (i : S4096x20480.Idx) (q : Fin 8) (e : Fin 5) (k : Fin 512)
    (hq : 5 * q.val + e.val = inv ((i 1).val / 512)) (hk : k.val = (i 1).val % 512) (p : Prop) [Decidable p] (v : EReal)
    (h : ∀ n : Fin 20480, n.val = 512 * pos (5 * q.val + e.val) + k.val → T (ix4 (i 0) q e k) = if p then v else x2 (ix2 (i 0) n)) :
    ordered T i = if p then v else x2 i := by
  have ei : ix2 (i 0) (i 1) = i := funext fun a => match a with
    | ⟨0, _⟩ => rfl
    | ⟨1, _⟩ => rfl
  have hn : (i 1).val < 20480 := (i 1).isLt
  have hp := pos_inv (show (i 1).val / 512 < 40 by omega)
  refine (congrArg (ordered T) ei.symm).trans ((ordered_at T (i 0) (i 1) q e k hq hk).trans ((h (i 1) (by rw [hq, hp]; omega)).trans ?_))
  exact ite_congr rfl (fun _ => rfl) fun _ => congrArg x2 ei

theorem result_idx (i : S4096x20480.Idx) (q : Fin 8) (e : Fin 5) (k : Fin 512) (hq : 5 * q.val + e.val = inv ((i 1).val / 512)) (hk : k.val = (i 1).val % 512) :
    val_main_v21 (F := Ideal) x0 x1 x2 i
      = if e.val = 1 then proj (fun s d => x0 (ix2 s d)) (fun q d k => x1 (ix3 q d k)) (i 0) q k else x2 i :=
  ordered_idx x2 _ i q e k hq hk _ _ fun n hn => tiles_at x0 x1 x2 (i 0) q e k n hn

end Cert.ReferenceProj1Ideal.Proj

end
-- ==== Proof.Proj.Round1.lean ====
/- Round 1 of the projections: the kernel's result (Proj/Kernel1.lean) is the reference's (Proj/Ref1.lean). -/
module

public import proofs.«01_k».proof.Defs
public import proofs.«01_k».proof.Proof.Proj.Kernel1
public import proofs.«01_k».proof.Proof.Proj.Ref1
public import proofs.«01_k».proof.Proof.Gen.KernelProj1
public import proofs.«01_k».proof.Proof.Gen.KernelProj1.Frame
public import proofs.«01_k».proof.Proof.Gen.ReferenceProj1Ideal.Run
public import Idealize.ShloMosaic.Lib.QuiescentFlight
public import Idealize.ShloMosaic.Init

@[expose] public section

set_option maxRecDepth 16384

noncomputable section

namespace Cert.Proof.Proj1

open Idealize.ShloMosaic Idealize.ShloMosaic.TcCoe Idealize.SL.Sem

theorem frame_R : Cert.quiescent_ReferenceProj1Ideal := fun m g _ =>
  (θ_run Cert.ReferenceProj1Ideal.defs _ _).mono (fun r h => ⟨fun c => (h c).2, sem_eq_zero_of_no_sems (by decide) r.2⟩)
    (Cert.ReferenceProj1Ideal.Value.run (F := Ideal) m g)

theorem algebraic : Cert.algebraic_KernelProj1Ideal_ReferenceProj1Ideal := by
  intro m g m' g' _ hagree
  refine ⟨Cert.KernelProj1Ideal.Proj.arr m, ?_, ?_⟩
  · exact (θ_run _ _ _).mono (fun _ h c => ⟨(h c).1.trans (Cert.KernelProj1Ideal.Proj.final_2 m c), (h c).2⟩)
      (Cert.KernelProj1Ideal.Value.run_blocks (F := Ideal) m g)
  · refine (θ_run _ _ _).mono (fun _ h c => ⟨(h c).1.trans ?_, (h c).2⟩) (Cert.ReferenceProj1Ideal.Value.run (F := Ideal) m' g')
    obtain ⟨a0, a1, a2⟩ := hagree c
    rw [Cert.ReferenceProj1Ideal.Read.val_main_v21_eq, a0, a1, a2]
    funext j
    have hb := Cert.KernelProj1Ideal.Proj.tile_lt (j 1)
    refine (Cert.ReferenceProj1Ideal.Proj.result_idx _ _ _ j ⟨Cert.Order.inv ((j 1).val / 512) / 5, hb⟩
        ⟨Cert.Order.inv ((j 1).val / 512) % 5, by omega⟩ ⟨(j 1).val % 512, by omega⟩ (by show 5 * (_ / 5) + _ % 5 = _; omega) rfl).trans ?_
    unfold Cert.KernelProj1Ideal.Proj.arr
    exact ite_congr rfl (fun _ => rfl) (fun _ => (Cert.KernelProj1Ideal.Proj.V_copy m c j).symm)

end Cert.Proof.Proj1

end
-- ==== Proof.Proj.Kernel2.lean ====
/- What the kernel of round 2 of the projections leaves in its result array. -/
module

public import proofs.«01_k».proof.Proof.Loads
public import proofs.«01_k».proof.Proof.Proj.Order
public import proofs.«01_k».proof.Proof.Gen.KernelProj2Ideal.Value
public import Idealize.ShloMosaic.Lib.StableHlo.ReadAt
public import Idealize.ShloMosaic.Lib.Pointwise
public import Idealize.ShloMosaic.Lib.ValueIdx
public import Idealize.ShloMosaic.Lib.IdealHost

@[expose] public section

set_option maxRecDepth 16384

noncomputable section

namespace Cert.KernelProj2Ideal.Proj

open Cert.KernelProj2Ideal Cert.KernelProj2Ideal.Gen Cert.Order Cert.Loads
open Idealize.ShloMosaic Idealize.ShloMosaic.TcCoe Idealize.ShloMosaic.Tactic

/-- A grid point's blocks: of the hidden rows, of the weights' tiles, and of the result. -/
theorem idx_0 : ∀ t : Fin grid0.N, win0_0.index t 0 = t.val / 8 ∧ win0_0.index t 1 = 0 := by decide +kernel
theorem idx_1 : ∀ t : Fin grid0.N, win0_1.index t 0 = t.val % 8 ∧ win0_1.index t 1 = 0 ∧ win0_1.index t 2 = 0 := by decide +kernel
theorem idx_2 : ∀ t : Fin grid0.N, win0_2.index t 0 = t.val / 8 ∧ win0_2.index t 1 = pos (5 * (t.val % 8) + 2) := by decide +kernel

/-- The body's product read at an index. -/
theorem pay1_at (x : Vec Ideal S1024x4096 .bf16) (y : Vec Ideal S1x4096x512 .bf16) (r : Fin 1024) (k : Fin 512) :
    k0_pay1 (F := Ideal) x y (ix2 r k) = ∑ d : Fin 4096, x (ix2 r d) * y (ix3 0 d k) := by
  unfold k0_pay1
  pointwise

variable (m : (ℓ : Loc nD τ sig) → Buf (Elt Ideal) ℓ) (c : Dev nD)

theorem block (t : Fin cfg0.N) : outsAt0 m c t = k0_pay1 (F := Ideal) (iblk m c 0 t) (iblk m c 1 t) := by
  unfold outsAt0 out0_A_2
  refine (View.read_writes_junk_eq_canon VO0_2 _).trans ?_
  refine (View.canon_unit_zero z2 _ _).trans ?_
  show k0_pay1 _ _ = _
  rw [load_whole _ _ z2, load_whole _ _ z3]

/-- The hidden rows and the round's tiles of the weights, as launched. -/
def H (s d : Fin 4096) : EReal := (m ((c : Thread nD τ).loc main_arg0) : Vec Ideal S4096x4096 .bf16) (ix2 s d)
def W (q : Fin 8) (d : Fin 4096) (k : Fin 512) : EReal := (m ((c : Thread nD τ).loc main_arg1) : Vec Ideal S8x4096x512 .bf16) (ix3 q d k)

theorem blk_0 (t : Fin cfg0.N) (r : Fin 1024) (d s : Fin 4096) (h : s.val = 1024 * (t.val / 8) + r.val) :
    (iblk m c 0 t : Vec Ideal S1024x4096 .bf16) (ix2 r d) = H m c s d := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = s.val
              rw [(idx_0 t).1]; omega
  | ⟨1, _⟩ => show win0_0.index t 1 * 4096 + 1 * d.val = d.val
              rw [(idx_0 t).2]; omega

theorem blk_1 (t : Fin cfg0.N) (d : Fin 4096) (k : Fin 512) (q : Fin 8) (h : q.val = t.val % 8) :
    (iblk m c 1 t : Vec Ideal S1x4096x512 .bf16) (ix3 0 d k) = W m c q d k := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = q.val
              rw [(idx_1 t).1]; omega
  | ⟨1, _⟩ => show win0_1.index t 1 * 4096 + 1 * d.val = d.val
              rw [(idx_1 t).2.1]; omega
  | ⟨2, _⟩ => show win0_1.index t 2 * 512 + 1 * k.val = k.val
              rw [(idx_1 t).2.2]; omega

theorem tile_lt (n : Fin 20480) : inv (n.val / 512) / 5 < 8 := by
  have := inv_lt (show n.val / 512 < 40 by omega)
  omega

/-- The result array: the tiles that the round computes, and the rest as the array came. -/
def arr : Buf (Elt Ideal) ((c : Thread nD τ).loc main_v0) :=
  (fun i => if inv ((i 1).val / 512) % 5 = 2 then proj (H m c) (W m c) (i 0) ⟨inv ((i 1).val / 512) / 5, tile_lt (i 1)⟩ ⟨(i 1).val % 512, by omega⟩
    else V m c main_v0 i : Vec Ideal S4096x20480 .bf16)

theorem arr_at (j : S4096x20480.Idx) (s : Fin 4096) (q : Fin 8) (k : Fin 512) (hs : (j 0).val = s.val) (hk : (j 1).val = 512 * pos (5 * q.val + 2) + k.val) :
    (arr m c : Vec Ideal S4096x20480 .bf16) j = proj (H m c) (W m c) s q k := by
  have e : inv ((j 1).val / 512) = 5 * q.val + 2 := by
    rw [show (j 1).val / 512 = pos (5 * q.val + 2) by omega, inv_pos (by omega)]
  show (if inv ((j 1).val / 512) % 5 = 2 then proj (H m c) (W m c) (j 0) _ _ else _) = _
  rw [if_pos (by omega)]
  congr 1
  · exact Fin.ext hs
  · exact Fin.ext (by show inv ((j 1).val / 512) / 5 = q.val; omega)
  · exact Fin.ext (by show (j 1).val % 512 = k.val; omega)

theorem flushed_2 (t : Fin cfg0.N) (hf : (cfg0.win 2).flush t = true) :
    (dats m 0 c).flushed 2 t = ((cfg0.win 2).blk t).view.read (Elt Ideal) (arr m c) := by
  show (cfg0.win 2).cut (grid0.coords t) ((dats m 0 c).after 2 t) = _
  rw [after0_2, block]
  have ht : t.val < 32 := t.isLt
  funext i
  rw [View.read_apply]
  have h0 : (i 0).val < 1024 := (i 0).isLt
  have h1 : (i 1).val < 512 := (i 1).isLt
  have e : (cfg0.win 2).cut (grid0.coords t) (k0_pay1 (F := Ideal) (iblk m c 0 t) (iblk m c 1 t)) i
      = k0_pay1 (F := Ideal) (iblk m c 0 t) (iblk m c 1 t) (ix2 ⟨(i 0).val, h0⟩ ⟨(i 1).val, h1⟩) := by
    refine congrArg (k0_pay1 (F := Ideal) (iblk m c 0 t) (iblk m c 1 t)) (funext fun a => Fin.ext ?_)
    match a with
    | ⟨0, _⟩ => rfl
    | ⟨1, _⟩ => rfl
  refine e.trans ((pay1_at _ _ _ _).trans ?_)
  refine ((arr_at m c (((cfg0.win 2).blk t).view.emb i) ⟨1024 * (t.val / 8) + (i 0).val, by omega⟩ ⟨t.val % 8, by omega⟩ ⟨(i 1).val, h1⟩ ?_ ?_).trans ?_).symm
  · show win0_2.index t 0 * 1024 + 1 * (i 0).val = 1024 * (t.val / 8) + (i 0).val
    rw [(idx_2 t).1]; omega
  · show win0_2.index t 1 * 512 + 1 * (i 1).val = 512 * pos (5 * (t.val % 8) + 2) + (i 1).val
    rw [(idx_2 t).2]; omega
  · exact (Finset.sum_congr rfl fun d _ => congrArg₂ (fun x y : EReal => x * y) (blk_0 m c t ⟨(i 0).val, h0⟩ d ⟨1024 * (t.val / 8) + (i 0).val, by omega⟩ rfl)
      (blk_1 m c t d ⟨(i 1).val, h1⟩ ⟨t.val % 8, by omega⟩ rfl)).symm

theorem final_2 : (dats m 0 c).arrAt 2 cfg0.N = arr m c := by
  funext i
  rw [(dats m 0 c).arrAt_eq_piecewise 2 (arr m c) (flushed_2 m c) i]
  have h0 : (i 0 : Nat) < 4096 := (i 0).isLt
  have h1 : (i 1 : Nat) < 20480 := (i 1).isLt
  have hb := inv_lt (show (i 1 : Nat) / 512 < 40 by omega)
  have hp := pos_inv (show (i 1 : Nat) / 512 < 40 by omega)
  by_cases hc : inv ((i 1 : Nat) / 512) % 5 = 2
  · refine if_pos ?_
    let t : Fin cfg0.N := ⟨8 * ((i 0 : Nat) / 1024) + inv ((i 1 : Nat) / 512) / 5, by show _ < 32; omega⟩
    have ht : t.val = 8 * ((i 0 : Nat) / 1024) + inv ((i 1 : Nat) / 512) / 5 := rfl
    have hj : pos (5 * (t.val % 8) + 2) = (i 1 : Nat) / 512 := by
      rw [show 5 * (t.val % 8) + 2 = inv ((i 1 : Nat) / 512) by omega]
      exact hp
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(idx_2 t).1]; omega
    | ⟨1, _⟩ => show win0_2.index t 1 * 512 ≤ (i 1 : Nat) ∧ (i 1 : Nat) < win0_2.index t 1 * 512 + 512
                rw [(idx_2 t).2, hj]; omega
  · rw [if_neg]
    · rw [A_eq]
      show V m c main_v0 i = if inv ((i 1).val / 512) % 5 = 2 then _ else V m c main_v0 i
      rw [if_neg hc]
    · rintro ⟨t, -, hi⟩
      replace hi : i ∈ ((View.whole main_v0).slice (win0_2.rect t)).set := hi
      rw [View.set_slice_whole, Rect.mem_set_unit] at hi
      have h2 : win0_2.index t 1 * 512 ≤ (i 1 : Nat) ∧ (i 1 : Nat) < win0_2.index t 1 * 512 + 512 := hi 1
      rw [(idx_2 t).2] at h2
      have : t.val < 32 := t.isLt
      refine hc ?_
      rw [show (i 1 : Nat) / 512 = pos (5 * (t.val % 8) + 2) by omega, inv_pos (by omega)]
      omega

/-- The result array is handed to the region as the launch's last argument. -/
theorem V_copy (i : S4096x20480.Idx) : (V m c main_v0 : Vec Ideal S4096x20480 .bf16) i = (m ((c : Thread nD τ).loc main_arg2) : Vec Ideal S4096x20480 .bf16) i := by
  unfold V
  after_reads_at
  rfl

end Cert.KernelProj2Ideal.Proj

end
-- ==== Proof.Proj.Ref2.lean ====
/- What the reference of round 2 of the projections leaves in its result array. -/
module

public import proofs.«01_k».proof.Proof.Proj.Ref1
public import proofs.«01_k».proof.Proof.Gen.ReferenceProj2Ideal.Read
public import Idealize.ShloMosaic.Lib.Pipeline.Value
public import Idealize.ShloMosaic.Lib.Pointwise
public import Idealize.ShloMosaic.Lib.ValueIdx
public import Idealize.ShloMosaic.Lib.IdealHost

@[expose] public section

set_option maxRecDepth 16384

noncomputable section

namespace Cert.ReferenceProj2Ideal.Proj

open Cert.ReferenceProj2Ideal Cert.ReferenceProj2Ideal.Gen Cert.ReferenceProj2Ideal.Read Cert.Order
open Idealize.ShloMosaic Idealize.ShloMosaic.TcCoe Idealize.ShloMosaic.Tactic

variable (x0 : Vec Ideal S4096x4096 .bf16) (x1 : Vec Ideal S8x4096x512 .bf16) (x2 : Vec Ideal S4096x20480 .bf16)

/-- The tiles with the round's replaced. -/
theorem tiles_at (s : Fin 4096) (q : Fin 8) (e : Fin 5) (k : Fin 512) (n : Fin 20480) (hn : n.val = 512 * pos (5 * q.val + e.val) + k.val) :
    val_main_v14 (F := Ideal) x0 x1 x2 (ix4 s q e k)
      = if e.val = 2 then proj (fun s d => x0 (ix2 s d)) (fun q d k => x1 (ix3 q d k)) s q k else x2 (ix2 s n) := by
  unfold val_main_v14
  have he := e.isLt
  by_cases h : e.val = 2
  · rw [if_pos h]
    refine Eq.trans (concatenate_apply_piece (t := S4096x8x5x512) 2 _ _ (ix4 s q e k) 1 ?_ S4096x8x1x512 (val_main_v12 (F := Ideal) x0 x1) ?_ rfl 2 ?_ (ix4 s q 0 k) (fun b hb => match b with
      | ⟨0, _⟩ => rfl
      | ⟨1, _⟩ => rfl
      | ⟨2, _⟩ => absurd rfl hb
      | ⟨3, _⟩ => rfl) ?_) ?_
    · show 1 < 3; decide
    · rfl
    · rfl
    · show 2 + 0 = e.val; omega
    · refine Eq.trans ?_ (Cert.ReferenceProj1Ideal.Proj.new_at x0 x1 s q k)
      rw [val_main_v12_apply]
      refine congrArg (val_main_v3 (F := Ideal) x0 x1) (funext fun a => Fin.ext ?_)
      match a with
      | ⟨0, _⟩ => show (((s.val * 8 + q.val) * 1 + 0) * 512 + k.val) / 4096 = s.val; omega
      | ⟨1, _⟩ => show (((s.val * 8 + q.val) * 1 + 0) * 512 + k.val) / 512 % 8 = q.val; omega
      | ⟨2, _⟩ => show (((s.val * 8 + q.val) * 1 + 0) * 512 + k.val) % 512 = k.val; omega
  · rw [if_neg h]
    by_cases h2 : e.val < 2
    · refine Eq.trans (concatenate_apply_piece (t := S4096x8x5x512) 2 _ _ (ix4 s q e k) 0 ?_ S4096x8x2x512 (val_main_v11 (F := Ideal) x2) ?_ rfl 0 ?_ (ix4 s q ⟨e.val, by omega⟩ k) (fun b hb => match b with
        | ⟨0, _⟩ => rfl
        | ⟨1, _⟩ => rfl
        | ⟨2, _⟩ => absurd rfl hb
        | ⟨3, _⟩ => rfl) ?_) ?_
      · show 0 < 3; decide
      · rfl
      · rfl
      · show 0 + e.val = e.val; omega
      · refine Eq.trans ?_ (Cert.ReferenceProj1Ideal.Proj.old_at x2 s q e k n hn)
        rw [val_main_v11_apply]
        refine congrArg (val_main_v10 (F := Ideal) x2) (funext fun a => Fin.ext ?_)
        match a with
        | ⟨0, _⟩ => rfl
        | ⟨1, _⟩ => rfl
        | ⟨2, _⟩ => rfl
        | ⟨3, _⟩ => rfl
    · refine Eq.trans (concatenate_apply_piece (t := S4096x8x5x512) 2 _ _ (ix4 s q e k) 2 ?_ S4096x8x2x512 (val_main_v13 (F := Ideal) x2) ?_ rfl 3 ?_ (ix4 s q ⟨e.val - 3, by omega⟩ k) (fun b hb => match b with
        | ⟨0, _⟩ => rfl
        | ⟨1, _⟩ => rfl
        | ⟨2, _⟩ => absurd rfl hb
        | ⟨3, _⟩ => rfl) ?_) ?_
      · show 2 < 3; decide
      · rfl
      · rfl
      · show 3 + (e.val - 3) = e.val; omega
      · refine Eq.trans ?_ (Cert.ReferenceProj1Ideal.Proj.old_at x2 s q e k n hn)
        rw [val_main_v13_apply]
        refine congrArg (val_main_v10 (F := Ideal) x2) (funext fun a => Fin.ext ?_)
        match a with
        | ⟨0, _⟩ => rfl
        | ⟨1, _⟩ => rfl
        | ⟨2, _⟩ => show 3 + (e.val - 3) = e.val; omega
        | ⟨3, _⟩ => rfl

theorem result_idx (i : S4096x20480.Idx) (q : Fin 8) (e : Fin 5) (k : Fin 512) (hq : 5 * q.val + e.val = inv ((i 1).val / 512)) (hk : k.val = (i 1).val % 512) :
    val_main_v21 (F := Ideal) x0 x1 x2 i
      = if e.val = 2 then proj (fun s d => x0 (ix2 s d)) (fun q d k => x1 (ix3 q d k)) (i 0) q k else x2 i :=
  Cert.ReferenceProj1Ideal.Proj.ordered_idx x2 _ i q e k hq hk _ _ fun n hn => tiles_at x0 x1 x2 (i 0) q e k n hn

end Cert.ReferenceProj2Ideal.Proj

end
-- ==== Proof.Proj.Round2.lean ====
/- Round 2 of the projections: the kernel's result (Proj/Kernel2.lean) is the reference's (Proj/Ref2.lean). -/
module

public import proofs.«01_k».proof.Defs
public import proofs.«01_k».proof.Proof.Proj.Kernel2
public import proofs.«01_k».proof.Proof.Proj.Ref2
public import proofs.«01_k».proof.Proof.Gen.KernelProj2
public import proofs.«01_k».proof.Proof.Gen.KernelProj2.Frame
public import proofs.«01_k».proof.Proof.Gen.ReferenceProj2Ideal.Run
public import Idealize.ShloMosaic.Lib.QuiescentFlight
public import Idealize.ShloMosaic.Init

@[expose] public section

set_option maxRecDepth 16384

noncomputable section

namespace Cert.Proof.Proj2

open Idealize.ShloMosaic Idealize.ShloMosaic.TcCoe Idealize.SL.Sem

theorem frame_R : Cert.quiescent_ReferenceProj2Ideal := fun m g _ =>
  (θ_run Cert.ReferenceProj2Ideal.defs _ _).mono (fun r h => ⟨fun c => (h c).2, sem_eq_zero_of_no_sems (by decide) r.2⟩)
    (Cert.ReferenceProj2Ideal.Value.run (F := Ideal) m g)

theorem algebraic : Cert.algebraic_KernelProj2Ideal_ReferenceProj2Ideal := by
  intro m g m' g' _ hagree
  refine ⟨Cert.KernelProj2Ideal.Proj.arr m, ?_, ?_⟩
  · exact (θ_run _ _ _).mono (fun _ h c => ⟨(h c).1.trans (Cert.KernelProj2Ideal.Proj.final_2 m c), (h c).2⟩)
      (Cert.KernelProj2Ideal.Value.run_blocks (F := Ideal) m g)
  · refine (θ_run _ _ _).mono (fun _ h c => ⟨(h c).1.trans ?_, (h c).2⟩) (Cert.ReferenceProj2Ideal.Value.run (F := Ideal) m' g')
    obtain ⟨a0, a1, a2⟩ := hagree c
    rw [Cert.ReferenceProj2Ideal.Read.val_main_v21_eq, a0, a1, a2]
    funext j
    have hb := Cert.KernelProj2Ideal.Proj.tile_lt (j 1)
    refine (Cert.ReferenceProj2Ideal.Proj.result_idx _ _ _ j ⟨Cert.Order.inv ((j 1).val / 512) / 5, hb⟩
        ⟨Cert.Order.inv ((j 1).val / 512) % 5, by omega⟩ ⟨(j 1).val % 512, by omega⟩ (by show 5 * (_ / 5) + _ % 5 = _; omega) rfl).trans ?_
    unfold Cert.KernelProj2Ideal.Proj.arr
    exact ite_congr rfl (fun _ => rfl) (fun _ => (Cert.KernelProj2Ideal.Proj.V_copy m c j).symm)

end Cert.Proof.Proj2

end
-- ==== Proof.Proj.Kernel3.lean ====
/- What the kernel of round 3 of the projections leaves in its result array. -/
module

public import proofs.«01_k».proof.Proof.Loads
public import proofs.«01_k».proof.Proof.Proj.Order
public import proofs.«01_k».proof.Proof.Gen.KernelProj3Ideal.Value
public import Idealize.ShloMosaic.Lib.StableHlo.ReadAt
public import Idealize.ShloMosaic.Lib.Pointwise
public import Idealize.ShloMosaic.Lib.ValueIdx
public import Idealize.ShloMosaic.Lib.IdealHost

@[expose] public section

set_option maxRecDepth 16384

noncomputable section

namespace Cert.KernelProj3Ideal.Proj

open Cert.KernelProj3Ideal Cert.KernelProj3Ideal.Gen Cert.Order Cert.Loads
open Idealize.ShloMosaic Idealize.ShloMosaic.TcCoe Idealize.ShloMosaic.Tactic

/-- A grid point's blocks: of the hidden rows, of the weights' tiles, and of the result. -/
theorem idx_0 : ∀ t : Fin grid0.N, win0_0.index t 0 = t.val / 8 ∧ win0_0.index t 1 = 0 := by decide +kernel
theorem idx_1 : ∀ t : Fin grid0.N, win0_1.index t 0 = t.val % 8 ∧ win0_1.index t 1 = 0 ∧ win0_1.index t 2 = 0 := by decide +kernel
theorem idx_2 : ∀ t : Fin grid0.N, win0_2.index t 0 = t.val / 8 ∧ win0_2.index t 1 = pos (5 * (t.val % 8) + 3) := by decide +kernel

/-- The body's product read at an index. -/
theorem pay1_at (x : Vec Ideal S1024x4096 .bf16) (y : Vec Ideal S1x4096x512 .bf16) (r : Fin 1024) (k : Fin 512) :
    k0_pay1 (F := Ideal) x y (ix2 r k) = ∑ d : Fin 4096, x (ix2 r d) * y (ix3 0 d k) := by
  unfold k0_pay1
  pointwise

variable (m : (ℓ : Loc nD τ sig) → Buf (Elt Ideal) ℓ) (c : Dev nD)

theorem block (t : Fin cfg0.N) : outsAt0 m c t = k0_pay1 (F := Ideal) (iblk m c 0 t) (iblk m c 1 t) := by
  unfold outsAt0 out0_A_2
  refine (View.read_writes_junk_eq_canon VO0_2 _).trans ?_
  refine (View.canon_unit_zero z2 _ _).trans ?_
  show k0_pay1 _ _ = _
  rw [load_whole _ _ z2, load_whole _ _ z3]

/-- The hidden rows and the round's tiles of the weights, as launched. -/
def H (s d : Fin 4096) : EReal := (m ((c : Thread nD τ).loc main_arg0) : Vec Ideal S4096x4096 .bf16) (ix2 s d)
def W (q : Fin 8) (d : Fin 4096) (k : Fin 512) : EReal := (m ((c : Thread nD τ).loc main_arg1) : Vec Ideal S8x4096x512 .bf16) (ix3 q d k)

theorem blk_0 (t : Fin cfg0.N) (r : Fin 1024) (d s : Fin 4096) (h : s.val = 1024 * (t.val / 8) + r.val) :
    (iblk m c 0 t : Vec Ideal S1024x4096 .bf16) (ix2 r d) = H m c s d := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = s.val
              rw [(idx_0 t).1]; omega
  | ⟨1, _⟩ => show win0_0.index t 1 * 4096 + 1 * d.val = d.val
              rw [(idx_0 t).2]; omega

theorem blk_1 (t : Fin cfg0.N) (d : Fin 4096) (k : Fin 512) (q : Fin 8) (h : q.val = t.val % 8) :
    (iblk m c 1 t : Vec Ideal S1x4096x512 .bf16) (ix3 0 d k) = W m c q d k := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = q.val
              rw [(idx_1 t).1]; omega
  | ⟨1, _⟩ => show win0_1.index t 1 * 4096 + 1 * d.val = d.val
              rw [(idx_1 t).2.1]; omega
  | ⟨2, _⟩ => show win0_1.index t 2 * 512 + 1 * k.val = k.val
              rw [(idx_1 t).2.2]; omega

theorem tile_lt (n : Fin 20480) : inv (n.val / 512) / 5 < 8 := by
  have := inv_lt (show n.val / 512 < 40 by omega)
  omega

/-- The result array: the tiles that the round computes, and the rest as the array came. -/
def arr : Buf (Elt Ideal) ((c : Thread nD τ).loc main_v0) :=
  (fun i => if inv ((i 1).val / 512) % 5 = 3 then proj (H m c) (W m c) (i 0) ⟨inv ((i 1).val / 512) / 5, tile_lt (i 1)⟩ ⟨(i 1).val % 512, by omega⟩
    else V m c main_v0 i : Vec Ideal S4096x20480 .bf16)

theorem arr_at (j : S4096x20480.Idx) (s : Fin 4096) (q : Fin 8) (k : Fin 512) (hs : (j 0).val = s.val) (hk : (j 1).val = 512 * pos (5 * q.val + 3) + k.val) :
    (arr m c : Vec Ideal S4096x20480 .bf16) j = proj (H m c) (W m c) s q k := by
  have e : inv ((j 1).val / 512) = 5 * q.val + 3 := by
    rw [show (j 1).val / 512 = pos (5 * q.val + 3) by omega, inv_pos (by omega)]
  show (if inv ((j 1).val / 512) % 5 = 3 then proj (H m c) (W m c) (j 0) _ _ else _) = _
  rw [if_pos (by omega)]
  congr 1
  · exact Fin.ext hs
  · exact Fin.ext (by show inv ((j 1).val / 512) / 5 = q.val; omega)
  · exact Fin.ext (by show (j 1).val % 512 = k.val; omega)

theorem flushed_2 (t : Fin cfg0.N) (hf : (cfg0.win 2).flush t = true) :
    (dats m 0 c).flushed 2 t = ((cfg0.win 2).blk t).view.read (Elt Ideal) (arr m c) := by
  show (cfg0.win 2).cut (grid0.coords t) ((dats m 0 c).after 2 t) = _
  rw [after0_2, block]
  have ht : t.val < 32 := t.isLt
  funext i
  rw [View.read_apply]
  have h0 : (i 0).val < 1024 := (i 0).isLt
  have h1 : (i 1).val < 512 := (i 1).isLt
  have e : (cfg0.win 2).cut (grid0.coords t) (k0_pay1 (F := Ideal) (iblk m c 0 t) (iblk m c 1 t)) i
      = k0_pay1 (F := Ideal) (iblk m c 0 t) (iblk m c 1 t) (ix2 ⟨(i 0).val, h0⟩ ⟨(i 1).val, h1⟩) := by
    refine congrArg (k0_pay1 (F := Ideal) (iblk m c 0 t) (iblk m c 1 t)) (funext fun a => Fin.ext ?_)
    match a with
    | ⟨0, _⟩ => rfl
    | ⟨1, _⟩ => rfl
  refine e.trans ((pay1_at _ _ _ _).trans ?_)
  refine ((arr_at m c (((cfg0.win 2).blk t).view.emb i) ⟨1024 * (t.val / 8) + (i 0).val, by omega⟩ ⟨t.val % 8, by omega⟩ ⟨(i 1).val, h1⟩ ?_ ?_).trans ?_).symm
  · show win0_2.index t 0 * 1024 + 1 * (i 0).val = 1024 * (t.val / 8) + (i 0).val
    rw [(idx_2 t).1]; omega
  · show win0_2.index t 1 * 512 + 1 * (i 1).val = 512 * pos (5 * (t.val % 8) + 3) + (i 1).val
    rw [(idx_2 t).2]; omega
  · exact (Finset.sum_congr rfl fun d _ => congrArg₂ (fun x y : EReal => x * y) (blk_0 m c t ⟨(i 0).val, h0⟩ d ⟨1024 * (t.val / 8) + (i 0).val, by omega⟩ rfl)
      (blk_1 m c t d ⟨(i 1).val, h1⟩ ⟨t.val % 8, by omega⟩ rfl)).symm

theorem final_2 : (dats m 0 c).arrAt 2 cfg0.N = arr m c := by
  funext i
  rw [(dats m 0 c).arrAt_eq_piecewise 2 (arr m c) (flushed_2 m c) i]
  have h0 : (i 0 : Nat) < 4096 := (i 0).isLt
  have h1 : (i 1 : Nat) < 20480 := (i 1).isLt
  have hb := inv_lt (show (i 1 : Nat) / 512 < 40 by omega)
  have hp := pos_inv (show (i 1 : Nat) / 512 < 40 by omega)
  by_cases hc : inv ((i 1 : Nat) / 512) % 5 = 3
  · refine if_pos ?_
    let t : Fin cfg0.N := ⟨8 * ((i 0 : Nat) / 1024) + inv ((i 1 : Nat) / 512) / 5, by show _ < 32; omega⟩
    have ht : t.val = 8 * ((i 0 : Nat) / 1024) + inv ((i 1 : Nat) / 512) / 5 := rfl
    have hj : pos (5 * (t.val % 8) + 3) = (i 1 : Nat) / 512 := by
      rw [show 5 * (t.val % 8) + 3 = inv ((i 1 : Nat) / 512) by omega]
      exact hp
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(idx_2 t).1]; omega
    | ⟨1, _⟩ => show win0_2.index t 1 * 512 ≤ (i 1 : Nat) ∧ (i 1 : Nat) < win0_2.index t 1 * 512 + 512
                rw [(idx_2 t).2, hj]; omega
  · rw [if_neg]
    · rw [A_eq]
      show V m c main_v0 i = if inv ((i 1).val / 512) % 5 = 3 then _ else V m c main_v0 i
      rw [if_neg hc]
    · rintro ⟨t, -, hi⟩
      replace hi : i ∈ ((View.whole main_v0).slice (win0_2.rect t)).set := hi
      rw [View.set_slice_whole, Rect.mem_set_unit] at hi
      have h2 : win0_2.index t 1 * 512 ≤ (i 1 : Nat) ∧ (i 1 : Nat) < win0_2.index t 1 * 512 + 512 := hi 1
      rw [(idx_2 t).2] at h2
      have : t.val < 32 := t.isLt
      refine hc ?_
      rw [show (i 1 : Nat) / 512 = pos (5 * (t.val % 8) + 3) by omega, inv_pos (by omega)]
      omega

/-- The result array is handed to the region as the launch's last argument. -/
theorem V_copy (i : S4096x20480.Idx) : (V m c main_v0 : Vec Ideal S4096x20480 .bf16) i = (m ((c : Thread nD τ).loc main_arg2) : Vec Ideal S4096x20480 .bf16) i := by
  unfold V
  after_reads_at
  rfl

end Cert.KernelProj3Ideal.Proj

end
-- ==== Proof.Proj.Ref3.lean ====
/- What the reference of round 3 of the projections leaves in its result array. -/
module

public import proofs.«01_k».proof.Proof.Proj.Ref1
public import proofs.«01_k».proof.Proof.Gen.ReferenceProj3Ideal.Read
public import Idealize.ShloMosaic.Lib.Pipeline.Value
public import Idealize.ShloMosaic.Lib.Pointwise
public import Idealize.ShloMosaic.Lib.ValueIdx
public import Idealize.ShloMosaic.Lib.IdealHost

@[expose] public section

set_option maxRecDepth 16384

noncomputable section

namespace Cert.ReferenceProj3Ideal.Proj

open Cert.ReferenceProj3Ideal Cert.ReferenceProj3Ideal.Gen Cert.ReferenceProj3Ideal.Read Cert.Order
open Idealize.ShloMosaic Idealize.ShloMosaic.TcCoe Idealize.ShloMosaic.Tactic

variable (x0 : Vec Ideal S4096x4096 .bf16) (x1 : Vec Ideal S8x4096x512 .bf16) (x2 : Vec Ideal S4096x20480 .bf16)

/-- The tiles with the round's replaced. -/
theorem tiles_at (s : Fin 4096) (q : Fin 8) (e : Fin 5) (k : Fin 512) (n : Fin 20480) (hn : n.val = 512 * pos (5 * q.val + e.val) + k.val) :
    val_main_v14 (F := Ideal) x0 x1 x2 (ix4 s q e k)
      = if e.val = 3 then proj (fun s d => x0 (ix2 s d)) (fun q d k => x1 (ix3 q d k)) s q k else x2 (ix2 s n) := by
  unfold val_main_v14
  have he := e.isLt
  by_cases h : e.val = 3
  · rw [if_pos h]
    refine Eq.trans (concatenate_apply_piece (t := S4096x8x5x512) 2 _ _ (ix4 s q e k) 1 ?_ S4096x8x1x512 (val_main_v12 (F := Ideal) x0 x1) ?_ rfl 3 ?_ (ix4 s q 0 k) (fun b hb => match b with
      | ⟨0, _⟩ => rfl
      | ⟨1, _⟩ => rfl
      | ⟨2, _⟩ => absurd rfl hb
      | ⟨3, _⟩ => rfl) ?_) ?_
    · show 1 < 3; decide
    · rfl
    · rfl
    · show 3 + 0 = e.val; omega
    · refine Eq.trans ?_ (Cert.ReferenceProj1Ideal.Proj.new_at x0 x1 s q k)
      rw [val_main_v12_apply]
      refine congrArg (val_main_v3 (F := Ideal) x0 x1) (funext fun a => Fin.ext ?_)
      match a with
      | ⟨0, _⟩ => show (((s.val * 8 + q.val) * 1 + 0) * 512 + k.val) / 4096 = s.val; omega
      | ⟨1, _⟩ => show (((s.val * 8 + q.val) * 1 + 0) * 512 + k.val) / 512 % 8 = q.val; omega
      | ⟨2, _⟩ => show (((s.val * 8 + q.val) * 1 + 0) * 512 + k.val) % 512 = k.val; omega
  · rw [if_neg h]
    by_cases h2 : e.val < 3
    · refine Eq.trans (concatenate_apply_piece (t := S4096x8x5x512) 2 _ _ (ix4 s q e k) 0 ?_ S4096x8x3x512 (val_main_v11 (F := Ideal) x2) ?_ rfl 0 ?_ (ix4 s q ⟨e.val, by omega⟩ k) (fun b hb => match b with
        | ⟨0, _⟩ => rfl
        | ⟨1, _⟩ => rfl
        | ⟨2, _⟩ => absurd rfl hb
        | ⟨3, _⟩ => rfl) ?_) ?_
      · show 0 < 3; decide
      · rfl
      · rfl
      · show 0 + e.val = e.val; omega
      · refine Eq.trans ?_ (Cert.ReferenceProj1Ideal.Proj.old_at x2 s q e k n hn)
        rw [val_main_v11_apply]
        refine congrArg (val_main_v10 (F := Ideal) x2) (funext fun a => Fin.ext ?_)
        match a with
        | ⟨0, _⟩ => rfl
        | ⟨1, _⟩ => rfl
        | ⟨2, _⟩ => rfl
        | ⟨3, _⟩ => rfl
    · refine Eq.trans (concatenate_apply_piece (t := S4096x8x5x512) 2 _ _ (ix4 s q e k) 2 ?_ S4096x8x1x512 (val_main_v13 (F := Ideal) x2) ?_ rfl 4 ?_ (ix4 s q ⟨e.val - 4, by omega⟩ k) (fun b hb => match b with
        | ⟨0, _⟩ => rfl
        | ⟨1, _⟩ => rfl
        | ⟨2, _⟩ => absurd rfl hb
        | ⟨3, _⟩ => rfl) ?_) ?_
      · show 2 < 3; decide
      · rfl
      · rfl
      · show 4 + (e.val - 4) = e.val; omega
      · refine Eq.trans ?_ (Cert.ReferenceProj1Ideal.Proj.old_at x2 s q e k n hn)
        rw [val_main_v13_apply]
        refine congrArg (val_main_v10 (F := Ideal) x2) (funext fun a => Fin.ext ?_)
        match a with
        | ⟨0, _⟩ => rfl
        | ⟨1, _⟩ => rfl
        | ⟨2, _⟩ => show 4 + (e.val - 4) = e.val; omega
        | ⟨3, _⟩ => rfl

theorem result_idx (i : S4096x20480.Idx) (q : Fin 8) (e : Fin 5) (k : Fin 512) (hq : 5 * q.val + e.val = inv ((i 1).val / 512)) (hk : k.val = (i 1).val % 512) :
    val_main_v21 (F := Ideal) x0 x1 x2 i
      = if e.val = 3 then proj (fun s d => x0 (ix2 s d)) (fun q d k => x1 (ix3 q d k)) (i 0) q k else x2 i :=
  Cert.ReferenceProj1Ideal.Proj.ordered_idx x2 _ i q e k hq hk _ _ fun n hn => tiles_at x0 x1 x2 (i 0) q e k n hn

end Cert.ReferenceProj3Ideal.Proj

end
-- ==== Proof.Proj.Round3.lean ====
/- Round 3 of the projections: the kernel's result (Proj/Kernel3.lean) is the reference's (Proj/Ref3.lean). -/
module

public import proofs.«01_k».proof.Defs
public import proofs.«01_k».proof.Proof.Proj.Kernel3
public import proofs.«01_k».proof.Proof.Proj.Ref3
public import proofs.«01_k».proof.Proof.Gen.KernelProj3
public import proofs.«01_k».proof.Proof.Gen.KernelProj3.Frame
public import proofs.«01_k».proof.Proof.Gen.ReferenceProj3Ideal.Run
public import Idealize.ShloMosaic.Lib.QuiescentFlight
public import Idealize.ShloMosaic.Init

@[expose] public section

set_option maxRecDepth 16384

noncomputable section

namespace Cert.Proof.Proj3

open Idealize.ShloMosaic Idealize.ShloMosaic.TcCoe Idealize.SL.Sem

theorem frame_R : Cert.quiescent_ReferenceProj3Ideal := fun m g _ =>
  (θ_run Cert.ReferenceProj3Ideal.defs _ _).mono (fun r h => ⟨fun c => (h c).2, sem_eq_zero_of_no_sems (by decide) r.2⟩)
    (Cert.ReferenceProj3Ideal.Value.run (F := Ideal) m g)

theorem algebraic : Cert.algebraic_KernelProj3Ideal_ReferenceProj3Ideal := by
  intro m g m' g' _ hagree
  refine ⟨Cert.KernelProj3Ideal.Proj.arr m, ?_, ?_⟩
  · exact (θ_run _ _ _).mono (fun _ h c => ⟨(h c).1.trans (Cert.KernelProj3Ideal.Proj.final_2 m c), (h c).2⟩)
      (Cert.KernelProj3Ideal.Value.run_blocks (F := Ideal) m g)
  · refine (θ_run _ _ _).mono (fun _ h c => ⟨(h c).1.trans ?_, (h c).2⟩) (Cert.ReferenceProj3Ideal.Value.run (F := Ideal) m' g')
    obtain ⟨a0, a1, a2⟩ := hagree c
    rw [Cert.ReferenceProj3Ideal.Read.val_main_v21_eq, a0, a1, a2]
    funext j
    have hb := Cert.KernelProj3Ideal.Proj.tile_lt (j 1)
    refine (Cert.ReferenceProj3Ideal.Proj.result_idx _ _ _ j ⟨Cert.Order.inv ((j 1).val / 512) / 5, hb⟩
        ⟨Cert.Order.inv ((j 1).val / 512) % 5, by omega⟩ ⟨(j 1).val % 512, by omega⟩ (by show 5 * (_ / 5) + _ % 5 = _; omega) rfl).trans ?_
    unfold Cert.KernelProj3Ideal.Proj.arr
    exact ite_congr rfl (fun _ => rfl) (fun _ => (Cert.KernelProj3Ideal.Proj.V_copy m c j).symm)

end Cert.Proof.Proj3

end
-- ==== Proof.Proj.Kernel4.lean ====
/- What the kernel of round 4 of the projections leaves in its result array. -/
module

public import proofs.«01_k».proof.Proof.Loads
public import proofs.«01_k».proof.Proof.Proj.Order
public import proofs.«01_k».proof.Proof.Gen.KernelProj4Ideal.Value
public import Idealize.ShloMosaic.Lib.StableHlo.ReadAt
public import Idealize.ShloMosaic.Lib.Pointwise
public import Idealize.ShloMosaic.Lib.ValueIdx
public import Idealize.ShloMosaic.Lib.IdealHost

@[expose] public section

set_option maxRecDepth 16384

noncomputable section

namespace Cert.KernelProj4Ideal.Proj

open Cert.KernelProj4Ideal Cert.KernelProj4Ideal.Gen Cert.Order Cert.Loads
open Idealize.ShloMosaic Idealize.ShloMosaic.TcCoe Idealize.ShloMosaic.Tactic

/-- A grid point's blocks: of the hidden rows, of the weights' tiles, and of the result. -/
theorem idx_0 : ∀ t : Fin grid0.N, win0_0.index t 0 = t.val / 8 ∧ win0_0.index t 1 = 0 := by decide +kernel
theorem idx_1 : ∀ t : Fin grid0.N, win0_1.index t 0 = t.val % 8 ∧ win0_1.index t 1 = 0 ∧ win0_1.index t 2 = 0 := by decide +kernel
theorem idx_2 : ∀ t : Fin grid0.N, win0_2.index t 0 = t.val / 8 ∧ win0_2.index t 1 = pos (5 * (t.val % 8) + 4) := by decide +kernel

/-- The body's product read at an index. -/
theorem pay1_at (x : Vec Ideal S1024x4096 .bf16) (y : Vec Ideal S1x4096x512 .bf16) (r : Fin 1024) (k : Fin 512) :
    k0_pay1 (F := Ideal) x y (ix2 r k) = ∑ d : Fin 4096, x (ix2 r d) * y (ix3 0 d k) := by
  unfold k0_pay1
  pointwise

variable (m : (ℓ : Loc nD τ sig) → Buf (Elt Ideal) ℓ) (c : Dev nD)

theorem block (t : Fin cfg0.N) : outsAt0 m c t = k0_pay1 (F := Ideal) (iblk m c 0 t) (iblk m c 1 t) := by
  unfold outsAt0 out0_A_2
  refine (View.read_writes_junk_eq_canon VO0_2 _).trans ?_
  refine (View.canon_unit_zero z2 _ _).trans ?_
  show k0_pay1 _ _ = _
  rw [load_whole _ _ z2, load_whole _ _ z3]

/-- The hidden rows and the round's tiles of the weights, as launched. -/
def H (s d : Fin 4096) : EReal := (m ((c : Thread nD τ).loc main_arg0) : Vec Ideal S4096x4096 .bf16) (ix2 s d)
def W (q : Fin 8) (d : Fin 4096) (k : Fin 512) : EReal := (m ((c : Thread nD τ).loc main_arg1) : Vec Ideal S8x4096x512 .bf16) (ix3 q d k)

theorem blk_0 (t : Fin cfg0.N) (r : Fin 1024) (d s : Fin 4096) (h : s.val = 1024 * (t.val / 8) + r.val) :
    (iblk m c 0 t : Vec Ideal S1024x4096 .bf16) (ix2 r d) = H m c s d := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = s.val
              rw [(idx_0 t).1]; omega
  | ⟨1, _⟩ => show win0_0.index t 1 * 4096 + 1 * d.val = d.val
              rw [(idx_0 t).2]; omega

theorem blk_1 (t : Fin cfg0.N) (d : Fin 4096) (k : Fin 512) (q : Fin 8) (h : q.val = t.val % 8) :
    (iblk m c 1 t : Vec Ideal S1x4096x512 .bf16) (ix3 0 d k) = W m c q d k := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = q.val
              rw [(idx_1 t).1]; omega
  | ⟨1, _⟩ => show win0_1.index t 1 * 4096 + 1 * d.val = d.val
              rw [(idx_1 t).2.1]; omega
  | ⟨2, _⟩ => show win0_1.index t 2 * 512 + 1 * k.val = k.val
              rw [(idx_1 t).2.2]; omega

theorem tile_lt (n : Fin 20480) : inv (n.val / 512) / 5 < 8 := by
  have := inv_lt (show n.val / 512 < 40 by omega)
  omega

/-- The result array: the tiles that the round computes, and the rest as the array came. -/
def arr : Buf (Elt Ideal) ((c : Thread nD τ).loc main_v0) :=
  (fun i => if inv ((i 1).val / 512) % 5 = 4 then proj (H m c) (W m c) (i 0) ⟨inv ((i 1).val / 512) / 5, tile_lt (i 1)⟩ ⟨(i 1).val % 512, by omega⟩
    else V m c main_v0 i : Vec Ideal S4096x20480 .bf16)

theorem arr_at (j : S4096x20480.Idx) (s : Fin 4096) (q : Fin 8) (k : Fin 512) (hs : (j 0).val = s.val) (hk : (j 1).val = 512 * pos (5 * q.val + 4) + k.val) :
    (arr m c : Vec Ideal S4096x20480 .bf16) j = proj (H m c) (W m c) s q k := by
  have e : inv ((j 1).val / 512) = 5 * q.val + 4 := by
    rw [show (j 1).val / 512 = pos (5 * q.val + 4) by omega, inv_pos (by omega)]
  show (if inv ((j 1).val / 512) % 5 = 4 then proj (H m c) (W m c) (j 0) _ _ else _) = _
  rw [if_pos (by omega)]
  congr 1
  · exact Fin.ext hs
  · exact Fin.ext (by show inv ((j 1).val / 512) / 5 = q.val; omega)
  · exact Fin.ext (by show (j 1).val % 512 = k.val; omega)

theorem flushed_2 (t : Fin cfg0.N) (hf : (cfg0.win 2).flush t = true) :
    (dats m 0 c).flushed 2 t = ((cfg0.win 2).blk t).view.read (Elt Ideal) (arr m c) := by
  show (cfg0.win 2).cut (grid0.coords t) ((dats m 0 c).after 2 t) = _
  rw [after0_2, block]
  have ht : t.val < 32 := t.isLt
  funext i
  rw [View.read_apply]
  have h0 : (i 0).val < 1024 := (i 0).isLt
  have h1 : (i 1).val < 512 := (i 1).isLt
  have e : (cfg0.win 2).cut (grid0.coords t) (k0_pay1 (F := Ideal) (iblk m c 0 t) (iblk m c 1 t)) i
      = k0_pay1 (F := Ideal) (iblk m c 0 t) (iblk m c 1 t) (ix2 ⟨(i 0).val, h0⟩ ⟨(i 1).val, h1⟩) := by
    refine congrArg (k0_pay1 (F := Ideal) (iblk m c 0 t) (iblk m c 1 t)) (funext fun a => Fin.ext ?_)
    match a with
    | ⟨0, _⟩ => rfl
    | ⟨1, _⟩ => rfl
  refine e.trans ((pay1_at _ _ _ _).trans ?_)
  refine ((arr_at m c (((cfg0.win 2).blk t).view.emb i) ⟨1024 * (t.val / 8) + (i 0).val, by omega⟩ ⟨t.val % 8, by omega⟩ ⟨(i 1).val, h1⟩ ?_ ?_).trans ?_).symm
  · show win0_2.index t 0 * 1024 + 1 * (i 0).val = 1024 * (t.val / 8) + (i 0).val
    rw [(idx_2 t).1]; omega
  · show win0_2.index t 1 * 512 + 1 * (i 1).val = 512 * pos (5 * (t.val % 8) + 4) + (i 1).val
    rw [(idx_2 t).2]; omega
  · exact (Finset.sum_congr rfl fun d _ => congrArg₂ (fun x y : EReal => x * y) (blk_0 m c t ⟨(i 0).val, h0⟩ d ⟨1024 * (t.val / 8) + (i 0).val, by omega⟩ rfl)
      (blk_1 m c t d ⟨(i 1).val, h1⟩ ⟨t.val % 8, by omega⟩ rfl)).symm

theorem final_2 : (dats m 0 c).arrAt 2 cfg0.N = arr m c := by
  funext i
  rw [(dats m 0 c).arrAt_eq_piecewise 2 (arr m c) (flushed_2 m c) i]
  have h0 : (i 0 : Nat) < 4096 := (i 0).isLt
  have h1 : (i 1 : Nat) < 20480 := (i 1).isLt
  have hb := inv_lt (show (i 1 : Nat) / 512 < 40 by omega)
  have hp := pos_inv (show (i 1 : Nat) / 512 < 40 by omega)
  by_cases hc : inv ((i 1 : Nat) / 512) % 5 = 4
  · refine if_pos ?_
    let t : Fin cfg0.N := ⟨8 * ((i 0 : Nat) / 1024) + inv ((i 1 : Nat) / 512) / 5, by show _ < 32; omega⟩
    have ht : t.val = 8 * ((i 0 : Nat) / 1024) + inv ((i 1 : Nat) / 512) / 5 := rfl
    have hj : pos (5 * (t.val % 8) + 4) = (i 1 : Nat) / 512 := by
      rw [show 5 * (t.val % 8) + 4 = inv ((i 1 : Nat) / 512) by omega]
      exact hp
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(idx_2 t).1]; omega
    | ⟨1, _⟩ => show win0_2.index t 1 * 512 ≤ (i 1 : Nat) ∧ (i 1 : Nat) < win0_2.index t 1 * 512 + 512
                rw [(idx_2 t).2, hj]; omega
  · rw [if_neg]
    · rw [A_eq]
      show V m c main_v0 i = if inv ((i 1).val / 512) % 5 = 4 then _ else V m c main_v0 i
      rw [if_neg hc]
    · rintro ⟨t, -, hi⟩
      replace hi : i ∈ ((View.whole main_v0).slice (win0_2.rect t)).set := hi
      rw [View.set_slice_whole, Rect.mem_set_unit] at hi
      have h2 : win0_2.index t 1 * 512 ≤ (i 1 : Nat) ∧ (i 1 : Nat) < win0_2.index t 1 * 512 + 512 := hi 1
      rw [(idx_2 t).2] at h2
      have : t.val < 32 := t.isLt
      refine hc ?_
      rw [show (i 1 : Nat) / 512 = pos (5 * (t.val % 8) + 4) by omega, inv_pos (by omega)]
      omega

/-- The result array is handed to the region as the launch's last argument. -/
theorem V_copy (i : S4096x20480.Idx) : (V m c main_v0 : Vec Ideal S4096x20480 .bf16) i = (m ((c : Thread nD τ).loc main_arg2) : Vec Ideal S4096x20480 .bf16) i := by
  unfold V
  after_reads_at
  rfl

end Cert.KernelProj4Ideal.Proj

end
-- ==== Proof.Proj.Ref4.lean ====
/- What the reference of round 4 of the projections leaves in its result array. -/
module

public import proofs.«01_k».proof.Proof.Proj.Ref1
public import proofs.«01_k».proof.Proof.Gen.ReferenceProj4Ideal.Read
public import Idealize.ShloMosaic.Lib.Pipeline.Value
public import Idealize.ShloMosaic.Lib.Pointwise
public import Idealize.ShloMosaic.Lib.ValueIdx
public import Idealize.ShloMosaic.Lib.IdealHost

@[expose] public section

set_option maxRecDepth 16384

noncomputable section

namespace Cert.ReferenceProj4Ideal.Proj

open Cert.ReferenceProj4Ideal Cert.ReferenceProj4Ideal.Gen Cert.ReferenceProj4Ideal.Read Cert.Order
open Idealize.ShloMosaic Idealize.ShloMosaic.TcCoe Idealize.ShloMosaic.Tactic

variable (x0 : Vec Ideal S4096x4096 .bf16) (x1 : Vec Ideal S8x4096x512 .bf16) (x2 : Vec Ideal S4096x20480 .bf16)

/-- The tiles with the round's replaced. -/
theorem tiles_at (s : Fin 4096) (q : Fin 8) (e : Fin 5) (k : Fin 512) (n : Fin 20480) (hn : n.val = 512 * pos (5 * q.val + e.val) + k.val) :
    val_main_v14 (F := Ideal) x0 x1 x2 (ix4 s q e k)
      = if e.val = 4 then proj (fun s d => x0 (ix2 s d)) (fun q d k => x1 (ix3 q d k)) s q k else x2 (ix2 s n) := by
  unfold val_main_v14
  have he := e.isLt
  by_cases h : e.val = 4
  · rw [if_pos h]
    refine Eq.trans (concatenate_apply_piece (t := S4096x8x5x512) 2 _ _ (ix4 s q e k) 1 ?_ S4096x8x1x512 (val_main_v12 (F := Ideal) x0 x1) ?_ rfl 4 ?_ (ix4 s q 0 k) (fun b hb => match b with
      | ⟨0, _⟩ => rfl
      | ⟨1, _⟩ => rfl
      | ⟨2, _⟩ => absurd rfl hb
      | ⟨3, _⟩ => rfl) ?_) ?_
    · show 1 < 3; decide
    · rfl
    · rfl
    · show 4 + 0 = e.val; omega
    · refine Eq.trans ?_ (Cert.ReferenceProj1Ideal.Proj.new_at x0 x1 s q k)
      rw [val_main_v12_apply]
      refine congrArg (val_main_v3 (F := Ideal) x0 x1) (funext fun a => Fin.ext ?_)
      match a with
      | ⟨0, _⟩ => show (((s.val * 8 + q.val) * 1 + 0) * 512 + k.val) / 4096 = s.val; omega
      | ⟨1, _⟩ => show (((s.val * 8 + q.val) * 1 + 0) * 512 + k.val) / 512 % 8 = q.val; omega
      | ⟨2, _⟩ => show (((s.val * 8 + q.val) * 1 + 0) * 512 + k.val) % 512 = k.val; omega
  · rw [if_neg h]
    refine Eq.trans (concatenate_apply_piece (t := S4096x8x5x512) 2 _ _ (ix4 s q e k) 0 ?_ S4096x8x4x512 (val_main_v11 (F := Ideal) x2) ?_ rfl 0 ?_ (ix4 s q ⟨e.val, by omega⟩ k) (fun b hb => match b with
      | ⟨0, _⟩ => rfl
      | ⟨1, _⟩ => rfl
      | ⟨2, _⟩ => absurd rfl hb
      | ⟨3, _⟩ => rfl) ?_) ?_
    · show 0 < 3; decide
    · rfl
    · rfl
    · show 0 + e.val = e.val; omega
    · refine Eq.trans ?_ (Cert.ReferenceProj1Ideal.Proj.old_at x2 s q e k n hn)
      rw [val_main_v11_apply]
      refine congrArg (val_main_v10 (F := Ideal) x2) (funext fun a => Fin.ext ?_)
      match a with
      | ⟨0, _⟩ => rfl
      | ⟨1, _⟩ => rfl
      | ⟨2, _⟩ => rfl
      | ⟨3, _⟩ => rfl

theorem result_idx (i : S4096x20480.Idx) (q : Fin 8) (e : Fin 5) (k : Fin 512) (hq : 5 * q.val + e.val = inv ((i 1).val / 512)) (hk : k.val = (i 1).val % 512) :
    val_main_v21 (F := Ideal) x0 x1 x2 i
      = if e.val = 4 then proj (fun s d => x0 (ix2 s d)) (fun q d k => x1 (ix3 q d k)) (i 0) q k else x2 i :=
  Cert.ReferenceProj1Ideal.Proj.ordered_idx x2 _ i q e k hq hk _ _ fun n hn => tiles_at x0 x1 x2 (i 0) q e k n hn

end Cert.ReferenceProj4Ideal.Proj

end
-- ==== Proof.Proj.Round4.lean ====
/- Round 4 of the projections: the kernel's result (Proj/Kernel4.lean) is the reference's (Proj/Ref4.lean). -/
module

public import proofs.«01_k».proof.Defs
public import proofs.«01_k».proof.Proof.Proj.Kernel4
public import proofs.«01_k».proof.Proof.Proj.Ref4
public import proofs.«01_k».proof.Proof.Gen.KernelProj4
public import proofs.«01_k».proof.Proof.Gen.KernelProj4.Frame
public import proofs.«01_k».proof.Proof.Gen.ReferenceProj4Ideal.Run
public import Idealize.ShloMosaic.Lib.QuiescentFlight
public import Idealize.ShloMosaic.Init

@[expose] public section

set_option maxRecDepth 16384

noncomputable section

namespace Cert.Proof.Proj4

open Idealize.ShloMosaic Idealize.ShloMosaic.TcCoe Idealize.SL.Sem

theorem frame_R : Cert.quiescent_ReferenceProj4Ideal := fun m g _ =>
  (θ_run Cert.ReferenceProj4Ideal.defs _ _).mono (fun r h => ⟨fun c => (h c).2, sem_eq_zero_of_no_sems (by decide) r.2⟩)
    (Cert.ReferenceProj4Ideal.Value.run (F := Ideal) m g)

theorem algebraic : Cert.algebraic_KernelProj4Ideal_ReferenceProj4Ideal := by
  intro m g m' g' _ hagree
  refine ⟨Cert.KernelProj4Ideal.Proj.arr m, ?_, ?_⟩
  · exact (θ_run _ _ _).mono (fun _ h c => ⟨(h c).1.trans (Cert.KernelProj4Ideal.Proj.final_2 m c), (h c).2⟩)
      (Cert.KernelProj4Ideal.Value.run_blocks (F := Ideal) m g)
  · refine (θ_run _ _ _).mono (fun _ h c => ⟨(h c).1.trans ?_, (h c).2⟩) (Cert.ReferenceProj4Ideal.Value.run (F := Ideal) m' g')
    obtain ⟨a0, a1, a2⟩ := hagree c
    rw [Cert.ReferenceProj4Ideal.Read.val_main_v21_eq, a0, a1, a2]
    funext j
    have hb := Cert.KernelProj4Ideal.Proj.tile_lt (j 1)
    refine (Cert.ReferenceProj4Ideal.Proj.result_idx _ _ _ j ⟨Cert.Order.inv ((j 1).val / 512) / 5, hb⟩
        ⟨Cert.Order.inv ((j 1).val / 512) % 5, by omega⟩ ⟨(j 1).val % 512, by omega⟩ (by show 5 * (_ / 5) + _ % 5 = _; omega) rfl).trans ?_
    unfold Cert.KernelProj4Ideal.Proj.arr
    exact ite_congr rfl (fun _ => rfl) (fun _ => (Cert.KernelProj4Ideal.Proj.V_copy m c j).symm)

end Cert.Proof.Proj4

end
-- ==== Proof.Fwd.OutProj.lean ====
/- The output projection: the kernel's result is the reference's. -/
module

public import proofs.«01_k».proof.Defs
public import proofs.«01_k».proof.Proof.Gen.KernelOutProj
public import proofs.«01_k».proof.Proof.Gen.KernelOutProj.Frame
public import proofs.«01_k».proof.Proof.Gen.KernelOutProjIdeal.Value
public import proofs.«01_k».proof.Proof.Gen.ReferenceOutProjIdeal.Read
public import proofs.«01_k».proof.Proof.Gen.ReferenceOutProjIdeal.Run
public import Idealize.ShloMosaic.Lib.Pipeline.ValueKit
public import Idealize.ShloMosaic.Lib.QuiescentFlight
public import Idealize.ShloMosaic.Init

@[expose] public section

set_option maxRecDepth 16384

noncomputable section

namespace Cert.KernelOutProjIdeal.Out

open Cert.KernelOutProjIdeal Cert.KernelOutProjIdeal.Gen Cert.ReferenceOutProjIdeal.Read
open Idealize.ShloMosaic Idealize.ShloMosaic.TcCoe Idealize.SL.Sem
open Idealize.ShloMosaic.Pipeline (Dat)

/-- A grid point's blocks: of the merged rows, of the two parts of w_out, of the rows of x, and of the result. -/
theorem idx : ∀ t : Fin cfg0.N, win0_0.index t = ![t.val / 8, 0] ∧ win0_1.index t = ![0, min (t.val % 8) 1] ∧ win0_2.index t = ![0, t.val % 8 - 2]
    ∧ win0_3.index t = ![t.val / 8, t.val % 8] ∧ win0_4.index t = ![t.val / 8, t.val % 8] :=
  (by decide +kernel : ∀ t : Fin grid0.N, _)

variable (m : (ℓ : Loc nD τ sig) → Buf (Elt Ideal) ℓ) (c : Dev nD)

/-- The product added to a row of x; the first two of eight tiles take w_out's first part, the rest its second. -/
theorem partA (t : Fin cfg0.N) (h : t.val % 8 < 2) (y : S1024x512.Idx) (j : S4096x4096.Idx) (h0 : (j 0 : ℕ) = t.val / 8 * 1024 + y 0)
    (h1 : (j 1 : ℕ) = t.val % 8 * 512 + y 1) : k0_pay1 (F := Ideal) (iblk m c 3 t) (iblk m c 0 t) (iblk m c 1 t) y = val_main_v4 (F := Ideal)
      (m ((c : Thread nD τ).loc main_arg0)) (m ((c : Thread nD τ).loc main_arg1)) (m ((c : Thread nD τ).loc main_arg2)) (m ((c : Thread nD τ).loc main_arg3)) j := by
  pointwise [k0_pay1, val_main_v4, val_main_v3, val_main_v2, val_main_v1, val_main_v0]
  blk_point [iblk, V, idx t]
  all_goals (exfalso; omega)

theorem partB (t : Fin cfg0.N) (h : 2 ≤ t.val % 8) (y : S1024x512.Idx) (j : S4096x4096.Idx) (h0 : (j 0 : ℕ) = t.val / 8 * 1024 + y 0)
    (h1 : (j 1 : ℕ) = t.val % 8 * 512 + y 1) : k0_pay2 (F := Ideal) (iblk m c 3 t) (iblk m c 0 t) (iblk m c 2 t) y = val_main_v4 (F := Ideal)
      (m ((c : Thread nD τ).loc main_arg0)) (m ((c : Thread nD τ).loc main_arg1)) (m ((c : Thread nD τ).loc main_arg2)) (m ((c : Thread nD τ).loc main_arg3)) j := by
  pointwise [k0_pay2, val_main_v4, val_main_v3, val_main_v2, val_main_v1, val_main_v0]
  blk_point [iblk, V, idx t]
  all_goals (exfalso; omega)

theorem final_4 : (dats m 0 c).arrAt 4 cfg0.N = val_main_v4 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  rcases Nat.lt_or_ge (t.val % 8) 2 with h | h
  · rw [outsAt0_A m c t (by omega) (by omega)]; frame_out
    refine partA m c t h y _ ?_ ?_ <;> (blk_simp [idx t] <;> try omega)
  · rw [outsAt0_B m c t (by omega) h]; frame_out
    refine partB m c t h y _ ?_ ?_ <;> (blk_simp [idx t] <;> try omega)

end Cert.KernelOutProjIdeal.Out

namespace Cert.Proof.OutProj

open Idealize.ShloMosaic Idealize.ShloMosaic.TcCoe Idealize.SL.Sem

theorem frame_R : Cert.quiescent_ReferenceOutProjIdeal := fun m g _ =>
  (θ_run Cert.ReferenceOutProjIdeal.defs _ _).mono (fun r h => ⟨fun c => (h c).2, sem_eq_zero_of_no_sems (by decide) r.2⟩)
    (Cert.ReferenceOutProjIdeal.Value.run (F := Ideal) m g)

open Cert.KernelOutProjIdeal.Out Cert.ReferenceOutProjIdeal.Read in
theorem algebraic : Cert.algebraic_KernelOutProjIdeal_ReferenceOutProjIdeal := by
  intro m g m' g' _ hagree
  refine ⟨_, (θ_run _ _ _).mono (fun _ h c => ⟨(h c).1.trans (final_4 m c), (h c).2⟩)
    (Cert.KernelOutProjIdeal.Value.run_blocks (F := Ideal) m g), (θ_run _ _ _).mono (fun _ h c => ?_) (Cert.ReferenceOutProjIdeal.Value.run (F := Ideal) m' g')⟩
  obtain ⟨a0, a1, a2, a3⟩ := hagree c
  rw [← a0, ← a1, ← a2, ← a3]
  exact h c

end Cert.Proof.OutProj

end
-- ==== Proof.Fwd.Gates.lean ====
/- The gated merge of the two branches, at an index: the gates' columns among the projections, a branch's product, and the gated sum. -/
module

public import Idealize.ShloMosaic.Lib.IdealHost

@[expose] public section

noncomputable section

namespace Cert.Gates

open Idealize.ShloMosaic

/-- The logistic function as it is computed. -/
def gate (z : EReal) : EReal := Ideal.div 1 (1 + Ideal.exp (-z))

/-- Column `n` of gate `a` (0 or 1): the two gates' tiles of 512 columns are stored by turns behind column 12288. -/
def gateCol (a : Fin 2) (n : Fin 4096) : Fin 20480 := ⟨12288 + 512 * (2 * (n.val / 512) + a.val) + n.val % 512, by omega⟩

/-- A branch's product with its weights, given as each chip's 512 columns. -/
def branch (y : Fin 4096 → Fin 2048 → EReal) (w : Fin 8 → Fin 2048 → Fin 512 → EReal) (s n : Fin 4096) : EReal :=
  ∑ a, y s a * w ⟨n.val / 512, by omega⟩ a ⟨n.val % 512, by omega⟩

/-- The gated sum of the two branches. -/
def gated (am pm : Fin 4096 → Fin 4096 → EReal) (g : Fin 4096 → Fin 20480 → EReal) (b : Fin 2 → Fin 4096 → EReal) (s n : Fin 4096) : EReal :=
  gate (g s (gateCol 0 n) + b 0 n) * am s n + gate (g s (gateCol 1 n) + b 1 n) * pm s n

end Cert.Gates

end
-- ==== Proof.Fwd.KernelMerge.lean ====
/- What the gated merge's kernel leaves in its three result arrays. -/
module

public import proofs.«01_k».proof.Proof.Loads
public import proofs.«01_k».proof.Proof.Fwd.Gates
public import proofs.«01_k».proof.Proof.Gen.KernelMergeIdeal.Value
public import Idealize.ShloMosaic.Lib.Pointwise
public import Idealize.ShloMosaic.Lib.Pipeline.ValueKit
public import Idealize.ShloMosaic.Lib.ValueIdx
public import Idealize.ShloMosaic.Lib.IdealHost

@[expose] public section

set_option maxRecDepth 16384

noncomputable section

namespace Cert.KernelMergeIdeal.Merge

open Cert.KernelMergeIdeal Cert.KernelMergeIdeal.Gen Cert.Loads Cert.Gates
open Idealize.ShloMosaic Idealize.ShloMosaic.TcCoe Idealize.ShloMosaic.Tactic

/-- A grid point's blocks: of each branch's rows and weights, of the two gates' columns, of the biases, and of the results. -/
theorem idx_0 : ∀ t : Fin grid0.N, win0_0.index t 0 = t.val / 8 ∧ win0_0.index t 1 = 0 := by decide +kernel
theorem idx_1 : ∀ t : Fin grid0.N, win0_1.index t 0 = t.val % 8 ∧ win0_1.index t 1 = 0 ∧ win0_1.index t 2 = 0 := by decide +kernel
theorem idx_2 : ∀ t : Fin grid0.N, win0_2.index t 0 = t.val / 8 ∧ win0_2.index t 1 = 0 := by decide +kernel
theorem idx_3 : ∀ t : Fin grid0.N, win0_3.index t 0 = t.val % 8 ∧ win0_3.index t 1 = 0 ∧ win0_3.index t 2 = 0 := by decide +kernel
theorem idx_4 : ∀ t : Fin grid0.N, win0_4.index t 0 = t.val / 8 ∧ win0_4.index t 1 = 24 + (2 * (t.val % 8) + 0) := by decide +kernel
theorem idx_5 : ∀ t : Fin grid0.N, win0_5.index t 0 = t.val / 8 ∧ win0_5.index t 1 = 24 + (2 * (t.val % 8) + 1) := by decide +kernel
theorem idx_6 : ∀ t : Fin grid0.N, win0_6.index t 0 = 0 ∧ win0_6.index t 1 = t.val % 8 := by decide +kernel
theorem idx_7 : ∀ t : Fin grid0.N, win0_7.index t 0 = t.val / 8 ∧ win0_7.index t 1 = t.val % 8 := by decide +kernel
theorem idx_8 : ∀ t : Fin grid0.N, win0_8.index t 0 = t.val / 8 ∧ win0_8.index t 1 = t.val % 8 := by decide +kernel
theorem idx_9 : ∀ t : Fin grid0.N, win0_9.index t 0 = t.val / 8 ∧ win0_9.index t 1 = t.val % 8 := by decide +kernel

/-- The body's products and gates read at an index. -/
theorem pay4_at (x : Vec Ideal S1024x2048 .bf16) (y : Vec Ideal S1x2048x512 .bf16) (r : Fin 1024) (k : Fin 512) :
    k0_pay4 (F := Ideal) x y (ix2 r k) = ∑ a : Fin 2048, x (ix2 r a) * y (ix3 0 a k) := by
  unfold k0_pay4
  pointwise

theorem pay5_at (x : Vec Ideal S1024x2048 .bf16) (y : Vec Ideal S1x2048x512 .bf16) (r : Fin 1024) (k : Fin 512) :
    k0_pay5 (F := Ideal) x y (ix2 r k) = ∑ a : Fin 2048, x (ix2 r a) * y (ix3 0 a k) := by
  unfold k0_pay5
  pointwise

theorem pay6_at (x : Vec Ideal S1024x512 .bf16) (y : Vec Ideal S1x512 .f32) (r : Fin 1024) (k : Fin 512) :
    k0_pay6 (F := Ideal) x y (ix2 r k) = gate (x (ix2 r k) + y (ix2 0 k)) := by
  unfold k0_pay6 gate
  pointwise
  rw [zero_sub]

theorem pay7_at (x : Vec Ideal S1024x512 .bf16) (y : Vec Ideal S1x512 .f32) (r : Fin 1024) (k : Fin 512) :
    k0_pay7 (F := Ideal) x y (ix2 r k) = gate (x (ix2 r k) + y (ix2 0 k)) := by
  unfold k0_pay7 gate
  pointwise
  rw [zero_sub]

theorem pay1_at (a p ga gp : Vec Ideal S1024x512 .f32) (i : S1024x512.Idx) :
    k0_pay1 (F := Ideal) a p ga gp i = ga i * a i + gp i * p i := by
  unfold k0_pay1
  rfl

variable (m : (ℓ : Loc nD τ sig) → Buf (Elt Ideal) ℓ) (c : Dev nD)

/-- The arguments as launched: each branch's rows and weights, the projections and the gates' biases. -/
def Ya (s : Fin 4096) (a : Fin 2048) : EReal := (m ((c : Thread nD τ).loc main_arg0) : Vec Ideal S4096x2048 .bf16) (ix2 s a)
def Wa (q : Fin 8) (a : Fin 2048) (k : Fin 512) : EReal := (m ((c : Thread nD τ).loc main_arg1) : Vec Ideal S8x2048x512 .bf16) (ix3 q a k)
def Yp (s : Fin 4096) (a : Fin 2048) : EReal := (m ((c : Thread nD τ).loc main_arg2) : Vec Ideal S4096x2048 .bf16) (ix2 s a)
def Wp (q : Fin 8) (a : Fin 2048) (k : Fin 512) : EReal := (m ((c : Thread nD τ).loc main_arg3) : Vec Ideal S8x2048x512 .bf16) (ix3 q a k)
def G (s : Fin 4096) (n : Fin 20480) : EReal := (m ((c : Thread nD τ).loc main_arg4) : Vec Ideal S4096x20480 .bf16) (ix2 s n)
def B (a : Fin 2) (n : Fin 4096) : EReal := (m ((c : Thread nD τ).loc main_arg5) : Vec Ideal S2x4096 .f32) (ix2 a n)

theorem blk_0 (t : Fin cfg0.N) (r : Fin 1024) (d : Fin 2048) (s : Fin 4096) (h : s.val = 1024 * (t.val / 8) + r.val) :
    (iblk m c 0 t : Vec Ideal S1024x2048 .bf16) (ix2 r d) = Ya m c s d := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = s.val
              rw [(idx_0 t).1]; omega
  | ⟨1, _⟩ => show win0_0.index t 1 * 2048 + 1 * d.val = d.val
              rw [(idx_0 t).2]; omega

theorem blk_2 (t : Fin cfg0.N) (r : Fin 1024) (d : Fin 2048) (s : Fin 4096) (h : s.val = 1024 * (t.val / 8) + r.val) :
    (iblk m c 2 t : Vec Ideal S1024x2048 .bf16) (ix2 r d) = Yp m c s d := by
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 1024 + 1 * r.val = s.val
              rw [(idx_2 t).1]; omega
  | ⟨1, _⟩ => show win0_2.index t 1 * 2048 + 1 * d.val = d.val
              rw [(idx_2 t).2]; omega

theorem blk_1 (t : Fin cfg0.N) (d : Fin 2048) (k k' : Fin 512) (q : Fin 8) (h : q.val = t.val % 8) (hk : k'.val = k.val) :
    (iblk m c 1 t : Vec Ideal S1x2048x512 .bf16) (ix3 0 d k) = Wa m c q d k' := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = q.val
              rw [(idx_1 t).1]; omega
  | ⟨1, _⟩ => show win0_1.index t 1 * 2048 + 1 * d.val = d.val
              rw [(idx_1 t).2.1]; omega
  | ⟨2, _⟩ => show win0_1.index t 2 * 512 + 1 * k.val = k'.val
              rw [(idx_1 t).2.2]; omega

theorem blk_3 (t : Fin cfg0.N) (d : Fin 2048) (k k' : Fin 512) (q : Fin 8) (h : q.val = t.val % 8) (hk : k'.val = k.val) :
    (iblk m c 3 t : Vec Ideal S1x2048x512 .bf16) (ix3 0 d k) = Wp m c q d k' := by
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 1 + 1 * 0 = q.val
              rw [(idx_3 t).1]; omega
  | ⟨1, _⟩ => show win0_3.index t 1 * 2048 + 1 * d.val = d.val
              rw [(idx_3 t).2.1]; omega
  | ⟨2, _⟩ => show win0_3.index t 2 * 512 + 1 * k.val = k'.val
              rw [(idx_3 t).2.2]; omega

theorem blk_4 (t : Fin cfg0.N) (r : Fin 1024) (k : Fin 512) (s : Fin 4096) (n : Fin 20480) (h : s.val = 1024 * (t.val / 8) + r.val) (hn : n.val = 12288 + 512 * (2 * (t.val % 8) + 0) + k.val) :
    (iblk m c 4 t : Vec Ideal S1024x512 .bf16) (ix2 r k) = G m c s n := by
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t 0 * 1024 + 1 * r.val = s.val
              rw [(idx_4 t).1]; omega
  | ⟨1, _⟩ => show win0_4.index t 1 * 512 + 1 * k.val = n.val
              rw [(idx_4 t).2]; omega

theorem blk_5 (t : Fin cfg0.N) (r : Fin 1024) (k : Fin 512) (s : Fin 4096) (n : Fin 20480) (h : s.val = 1024 * (t.val / 8) + r.val) (hn : n.val = 12288 + 512 * (2 * (t.val % 8) + 1) + k.val) :
    (iblk m c 5 t : Vec Ideal S1024x512 .bf16) (ix2 r k) = G m c s n := by
  unfold iblk
  rw [View.read_apply]
  show V m c main_arg4 _ = _
  rw [V_main_arg4]
  refine congrArg (m ((c : Thread nD τ).loc main_arg4)) (funext fun a => Fin.ext ?_)
  match a with
  | ⟨0, _⟩ => show win0_5.index t 0 * 1024 + 1 * r.val = s.val
              rw [(idx_5 t).1]; omega
  | ⟨1, _⟩ => show win0_5.index t 1 * 512 + 1 * k.val = n.val
              rw [(idx_5 t).2]; omega

theorem blk_6 (t : Fin cfg0.N) (b : Fin 2) (k : Fin 512) (n : Fin 4096) (hn : n.val = 512 * (t.val % 8) + k.val) :
    (iblk m c 6 t : Vec Ideal S2x512 .f32) (ix2 b k) = B m c b n := by
  unfold iblk
  rw [View.read_apply]
  show V m c main_arg5 _ = _
  rw [V_main_arg5]
  refine congrArg (m ((c : Thread nD τ).loc main_arg5)) (funext fun a => Fin.ext ?_)
  match a with
  | ⟨0, _⟩ => show win0_6.index t 0 * 2 + 1 * b.val = b.val
              rw [(idx_6 t).1]; omega
  | ⟨1, _⟩ => show win0_6.index t 1 * 512 + 1 * k.val = n.val
              rw [(idx_6 t).2]; omega

theorem prod_a (t : Fin cfg0.N) (r : Fin 1024) (k : Fin 512) (s n : Fin 4096) (hs : s.val = 1024 * (t.val / 8) + r.val) (hn : n.val = 512 * (t.val % 8) + k.val) :
    k0_pay4 (F := Ideal) (iblk m c 0 t) (iblk m c 1 t) (ix2 r k) = branch (Ya m c) (Wa m c) s n := by
  refine (pay4_at _ _ r k).trans (Finset.sum_congr rfl fun d _ => ?_)
  exact congrArg₂ (fun x y : EReal => x * y) (blk_0 m c t r d s hs)
    (blk_1 m c t d k ⟨n.val % 512, by omega⟩ ⟨n.val / 512, by omega⟩ (by show n.val / 512 = _; omega) (by show n.val % 512 = _; omega))

theorem prod_p (t : Fin cfg0.N) (r : Fin 1024) (k : Fin 512) (s n : Fin 4096) (hs : s.val = 1024 * (t.val / 8) + r.val) (hn : n.val = 512 * (t.val % 8) + k.val) :
    k0_pay5 (F := Ideal) (iblk m c 2 t) (iblk m c 3 t) (ix2 r k) = branch (Yp m c) (Wp m c) s n := by
  refine (pay5_at _ _ r k).trans (Finset.sum_congr rfl fun d _ => ?_)
  exact congrArg₂ (fun x y : EReal => x * y) (blk_2 m c t r d s hs)
    (blk_3 m c t d k ⟨n.val % 512, by omega⟩ ⟨n.val / 512, by omega⟩ (by show n.val / 512 = _; omega) (by show n.val % 512 = _; omega))

theorem gate_a (t : Fin cfg0.N) (r : Fin 1024) (k : Fin 512) (s n : Fin 4096) (hs : s.val = 1024 * (t.val / 8) + r.val) (hn : n.val = 512 * (t.val % 8) + k.val) :
    k0_pay6 (F := Ideal) (iblk m c 4 t) (View.ld (iblk m c 6 t : Vec Ideal S2x512 .f32) r0_3) (ix2 r k) = gate (G m c s (gateCol 0 n) + B m c 0 n) := by
  refine (pay6_at _ _ r k).trans (congrArg gate (congrArg₂ (fun x y : EReal => x + y) (blk_4 m c t r k s _ hs ?_) ?_))
  · show 12288 + 512 * (2 * (n.val / 512) + 0) + n.val % 512 = _
    omega
  · refine Eq.trans ?_ (blk_6 m c t 0 k n hn)
    show (iblk m c 6 t : Vec Ideal S2x512 .f32) (r0_3.idx (ix2 0 k)) = _
    refine congrArg (iblk m c 6 t : Vec Ideal S2x512 .f32) (funext fun d => Fin.ext ?_)
    match d with
    | ⟨0, _⟩ => rfl
    | ⟨1, _⟩ => show 0 + 1 * k.val = k.val
                omega

theorem gate_p (t : Fin cfg0.N) (r : Fin 1024) (k : Fin 512) (s n : Fin 4096) (hs : s.val = 1024 * (t.val / 8) + r.val) (hn : n.val = 512 * (t.val % 8) + k.val) :
    k0_pay7 (F := Ideal) (iblk m c 5 t) (View.ld (iblk m c 6 t : Vec Ideal S2x512 .f32) r0_4) (ix2 r k) = gate (G m c s (gateCol 1 n) + B m c 1 n) := by
  refine (pay7_at _ _ r k).trans (congrArg gate (congrArg₂ (fun x y : EReal => x + y) (blk_5 m c t r k s _ hs ?_) ?_))
  · show 12288 + 512 * (2 * (n.val / 512) + 1) + n.val % 512 = _
    omega
  · refine Eq.trans ?_ (blk_6 m c t 1 k n hn)
    show (iblk m c 6 t : Vec Ideal S2x512 .f32) (r0_4.idx (ix2 0 k)) = _
    refine congrArg (iblk m c 6 t : Vec Ideal S2x512 .f32) (funext fun d => Fin.ext ?_)
    match d with
    | ⟨0, _⟩ => rfl
    | ⟨1, _⟩ => show 0 + 1 * k.val = k.val
                omega

theorem out_8 (t : Fin cfg0.N) : out0_8 (iblk m c 0 t) (iblk m c 1 t) (iblk m c 2 t) (iblk m c 3 t) (iblk m c 4 t) (iblk m c 5 t) (iblk m c 6 t)
    = k0_pay4 (F := Ideal) (iblk m c 0 t) (iblk m c 1 t) := by
  unfold out0_8 k0_pay8 r0_2 r0_1 r0_0
  rw [View.canon_unit_zero z2, View.ld_unit_zero z2, View.ld_unit_zero z3]
  rfl

theorem out_9 (t : Fin cfg0.N) : out0_9 (iblk m c 0 t) (iblk m c 1 t) (iblk m c 2 t) (iblk m c 3 t) (iblk m c 4 t) (iblk m c 5 t) (iblk m c 6 t)
    = k0_pay5 (F := Ideal) (iblk m c 2 t) (iblk m c 3 t) := by
  unfold out0_9 k0_pay9 r0_2 r0_1 r0_0
  rw [View.canon_unit_zero z2, View.ld_unit_zero z2, View.ld_unit_zero z3]
  rfl

theorem out_7 (t : Fin cfg0.N) : out0_7 (iblk m c 0 t) (iblk m c 1 t) (iblk m c 2 t) (iblk m c 3 t) (iblk m c 4 t) (iblk m c 5 t) (iblk m c 6 t)
    = k0_pay1 (F := Ideal) (k0_pay4 (F := Ideal) (iblk m c 0 t) (iblk m c 1 t)) (k0_pay5 (F := Ideal) (iblk m c 2 t) (iblk m c 3 t))
      (k0_pay6 (F := Ideal) (iblk m c 4 t) (View.ld (iblk m c 6 t : Vec Ideal S2x512 .f32) r0_3))
      (k0_pay7 (F := Ideal) (iblk m c 5 t) (View.ld (iblk m c 6 t : Vec Ideal S2x512 .f32) r0_4)) := by
  unfold out0_7 k0_pay8 k0_pay9 r0_2 r0_1 r0_0
  rw [View.canon_unit_zero z2, View.ld_unit_zero z2, View.ld_unit_zero z3, View.ld_unit_zero z2, View.ld_unit_zero z3, View.ld_unit_zero z2, View.ld_unit_zero z2]
  rfl

/-- The results: the gated sum, and the two branches' products. -/
def am (s n : Fin 4096) : EReal := branch (Ya m c) (Wa m c) s n
def pm (s n : Fin 4096) : EReal := branch (Yp m c) (Wp m c) s n
def mm (s n : Fin 4096) : EReal := gated (am m c) (pm m c) (G m c) (B m c) s n

theorem at_8 (t : Fin cfg0.N) (r : Fin 1024) (k : Fin 512) (s n : Fin 4096) (hs : s.val = 1024 * (t.val / 8) + r.val) (hn : n.val = 512 * (t.val % 8) + k.val) :
    (out0_8 (iblk m c 0 t) (iblk m c 1 t) (iblk m c 2 t) (iblk m c 3 t) (iblk m c 4 t) (iblk m c 5 t) (iblk m c 6 t) : Vec Ideal S1024x512 .bf16) (ix2 r k) = am m c s n := by
  rw [out_8]
  exact prod_a m c t r k s n hs hn

theorem at_9 (t : Fin cfg0.N) (r : Fin 1024) (k : Fin 512) (s n : Fin 4096) (hs : s.val = 1024 * (t.val / 8) + r.val) (hn : n.val = 512 * (t.val % 8) + k.val) :
    (out0_9 (iblk m c 0 t) (iblk m c 1 t) (iblk m c 2 t) (iblk m c 3 t) (iblk m c 4 t) (iblk m c 5 t) (iblk m c 6 t) : Vec Ideal S1024x512 .bf16) (ix2 r k) = pm m c s n := by
  rw [out_9]
  exact prod_p m c t r k s n hs hn

theorem at_7 (t : Fin cfg0.N) (r : Fin 1024) (k : Fin 512) (s n : Fin 4096) (hs : s.val = 1024 * (t.val / 8) + r.val) (hn : n.val = 512 * (t.val % 8) + k.val) :
    (out0_7 (iblk m c 0 t) (iblk m c 1 t) (iblk m c 2 t) (iblk m c 3 t) (iblk m c 4 t) (iblk m c 5 t) (iblk m c 6 t) : Vec Ideal S1024x512 .bf16) (ix2 r k) = mm m c s n := by
  rw [out_7]
  refine (pay1_at _ _ _ _ _).trans ?_
  exact congrArg₂ (fun x y : EReal => x + y)
    (congrArg₂ (fun x y : EReal => x * y) (gate_a m c t r k s n hs hn) (prod_a m c t r k s n hs hn))
    (congrArg₂ (fun x y : EReal => x * y) (gate_p m c t r k s n hs hn) (prod_p m c t r k s n hs hn))

theorem eta (y : S1024x512.Idx) : y = ix2 (y 0) (y 1) := funext fun a => match a with
  | ⟨0, _⟩ => rfl
  | ⟨1, _⟩ => rfl

def arr_7 : Buf (Elt Ideal) ((c : Thread nD τ).loc main_v0_0) := (fun i => mm m c (i 0) (i 1) : Vec Ideal S4096x4096 .bf16)

theorem final_7 : (dats m 0 c).arrAt 7 cfg0.N = arr_7 m c := by
  refine (dats m 0 c).arrAt_eq_of_covers 7 _ (by decide +kernel) fun t hf y => ?_
  blk_simp
  rw [after0_7]
  refine (congrArg _ (eta y)).trans (at_7 m c t (y 0) (y 1) _ _ ?_ ?_)
  · show win0_7.index t 0 * 1024 + 1 * (y 0).val = 1024 * (t.val / 8) + (y 0).val
    rw [(idx_7 t).1]; omega
  · show win0_7.index t 1 * 512 + 1 * (y 1).val = 512 * (t.val % 8) + (y 1).val
    rw [(idx_7 t).2]; omega

def arr_8 : Buf (Elt Ideal) ((c : Thread nD τ).loc main_v0_1) := (fun i => am m c (i 0) (i 1) : Vec Ideal S4096x4096 .bf16)

theorem final_8 : (dats m 0 c).arrAt 8 cfg0.N = arr_8 m c := by
  refine (dats m 0 c).arrAt_eq_of_covers 8 _ (by decide +kernel) fun t hf y => ?_
  blk_simp
  rw [after0_8]
  refine (congrArg _ (eta y)).trans (at_8 m c t (y 0) (y 1) _ _ ?_ ?_)
  · show win0_8.index t 0 * 1024 + 1 * (y 0).val = 1024 * (t.val / 8) + (y 0).val
    rw [(idx_8 t).1]; omega
  · show win0_8.index t 1 * 512 + 1 * (y 1).val = 512 * (t.val % 8) + (y 1).val
    rw [(idx_8 t).2]; omega

def arr_9 : Buf (Elt Ideal) ((c : Thread nD τ).loc main_v0_2) := (fun i => pm m c (i 0) (i 1) : Vec Ideal S4096x4096 .bf16)

theorem final_9 : (dats m 0 c).arrAt 9 cfg0.N = arr_9 m c := by
  refine (dats m 0 c).arrAt_eq_of_covers 9 _ (by decide +kernel) fun t hf y => ?_
  blk_simp
  rw [after0_9]
  refine (congrArg _ (eta y)).trans (at_9 m c t (y 0) (y 1) _ _ ?_ ?_)
  · show win0_9.index t 0 * 1024 + 1 * (y 0).val = 1024 * (t.val / 8) + (y 0).val
    rw [(idx_9 t).1]; omega
  · show win0_9.index t 1 * 512 + 1 * (y 1).val = 512 * (t.val % 8) + (y 1).val
    rw [(idx_9 t).2]; omega

end Cert.KernelMergeIdeal.Merge

end
-- ==== Proof.Fwd.RefMerge.lean ====
/- What the gated merge's reference leaves in its three result arrays. -/
module

public import proofs.«01_k».proof.Proof.Fwd.Gates
public import proofs.«01_k».proof.Proof.Gen.ReferenceMergeIdeal.Read
public import Idealize.ShloMosaic.Lib.Pipeline.Value
public import Idealize.ShloMosaic.Lib.Pointwise
public import Idealize.ShloMosaic.Lib.ValueIdx
public import Idealize.ShloMosaic.Lib.IdealHost

@[expose] public section

set_option maxRecDepth 16384

noncomputable section

namespace Cert.ReferenceMergeIdeal.Merge

open Cert.ReferenceMergeIdeal Cert.ReferenceMergeIdeal.Gen Cert.ReferenceMergeIdeal.Read Cert.Gates
open Idealize.ShloMosaic Idealize.ShloMosaic.TcCoe Idealize.ShloMosaic.Tactic

theorem weight_a (x1 : Vec Ideal S8x2048x512 .bf16) (a : Fin 2048) (n : Fin 4096) :
    val_main_v12 (F := Ideal) x1 (ix2 a n) = x1 (ix3 ⟨n.val / 512, by omega⟩ a ⟨n.val % 512, by omega⟩) := by
  rw [val_main_v12_apply, val_main_v11_apply, val_main_v10_apply]
  refine congrArg x1 (funext fun d => Fin.ext ?_)
  match d with
  | ⟨0, _⟩ => show (a.val * 4096 + n.val) / 512 % 8 = n.val / 512
              omega
  | ⟨1, _⟩ => show (a.val * 4096 + n.val) / 4096 = a.val
              omega
  | ⟨2, _⟩ => show (a.val * 4096 + n.val) % 512 = n.val % 512
              omega

theorem prod_a (x0 : Vec Ideal S4096x2048 .bf16) (x1 : Vec Ideal S8x2048x512 .bf16) (s n : Fin 4096) :
    val_main_v13 (F := Ideal) x0 x1 (ix2 s n) = branch (fun s a => x0 (ix2 s a)) (fun q a k => x1 (ix3 q a k)) s n := by
  rw [val_main_v13_apply]
  unfold branch
  refine Finset.sum_congr rfl fun d _ => ?_
  have e1 : lidx_main_v13 (ix2 s n) d = ix2 s d := funext fun a => match a with
    | ⟨0, _⟩ => rfl
    | ⟨1, _⟩ => rfl
  have e2 : ridx_main_v13 (ix2 s n) d = ix2 d n := funext fun a => match a with
    | ⟨0, _⟩ => rfl
    | ⟨1, _⟩ => rfl
  rw [e1, e2]
  exact congrArg (fun y : EReal => x0 (ix2 s d) * y) (weight_a x1 d n)

theorem weight_p (x3 : Vec Ideal S8x2048x512 .bf16) (a : Fin 2048) (n : Fin 4096) :
    val_main_v17 (F := Ideal) x3 (ix2 a n) = x3 (ix3 ⟨n.val / 512, by omega⟩ a ⟨n.val % 512, by omega⟩) := by
  rw [val_main_v17_apply, val_main_v16_apply, val_main_v15_apply]
  refine congrArg x3 (funext fun d => Fin.ext ?_)
  match d with
  | ⟨0, _⟩ => show (a.val * 4096 + n.val) / 512 % 8 = n.val / 512
              omega
  | ⟨1, _⟩ => show (a.val * 4096 + n.val) / 4096 = a.val
              omega
  | ⟨2, _⟩ => show (a.val * 4096 + n.val) % 512 = n.val % 512
              omega

theorem prod_p (x2 : Vec Ideal S4096x2048 .bf16) (x3 : Vec Ideal S8x2048x512 .bf16) (s n : Fin 4096) :
    val_main_v18 (F := Ideal) x2 x3 (ix2 s n) = branch (fun s a => x2 (ix2 s a)) (fun q a k => x3 (ix3 q a k)) s n := by
  rw [val_main_v18_apply]
  unfold branch
  refine Finset.sum_congr rfl fun d _ => ?_
  have e1 : lidx_main_v18 (ix2 s n) d = ix2 s d := funext fun a => match a with
    | ⟨0, _⟩ => rfl
    | ⟨1, _⟩ => rfl
  have e2 : ridx_main_v18 (ix2 s n) d = ix2 d n := funext fun a => match a with
    | ⟨0, _⟩ => rfl
    | ⟨1, _⟩ => rfl
  rw [e1, e2]
  exact congrArg (fun y : EReal => x2 (ix2 s d) * y) (weight_p x3 d n)

theorem col_a (x4 : Vec Ideal S4096x20480 .bf16) (s n : Fin 4096) : val_main_v5 (F := Ideal) x4 (ix2 s n) = x4 (ix2 s (gateCol 0 n)) := by
  rw [val_main_v5_apply]
  have e5 : idx_main_v5 (ix2 s n) = ix3 s ⟨n.val / 512, by omega⟩ ⟨n.val % 512, by omega⟩ := funext fun d => Fin.ext (match d with
    | ⟨0, _⟩ => by show (s.val * 4096 + n.val) / 4096 = s.val; omega
    | ⟨1, _⟩ => by show (s.val * 4096 + n.val) / 512 % 8 = n.val / 512; omega
    | ⟨2, _⟩ => by show (s.val * 4096 + n.val) % 512 = n.val % 512; omega)
  refine (congrArg (val_main_v4 (F := Ideal) x4) e5).trans ?_
  have e4 : idx_main_v4 (ix3 s ⟨n.val / 512, by omega⟩ ⟨n.val % 512, by omega⟩) = ix4 s ⟨n.val / 512, by omega⟩ 0 ⟨n.val % 512, by omega⟩ := funext fun d => Fin.ext (match d with
    | ⟨0, _⟩ => by show ((s.val * 8 + n.val / 512) * 512 + n.val % 512) / 4096 = s.val; omega
    | ⟨1, _⟩ => by show ((s.val * 8 + n.val / 512) * 512 + n.val % 512) / 512 % 8 = n.val / 512; omega
    | ⟨2, _⟩ => rfl
    | ⟨3, _⟩ => by show ((s.val * 8 + n.val / 512) * 512 + n.val % 512) % 512 = n.val % 512; omega)
  rw [val_main_v4_apply]
  refine (congrArg (val_main_v3 (F := Ideal) x4) e4).trans ?_
  rw [val_main_v3_apply, val_main_v2_apply, val_main_v1_apply, val_main_v0_apply]
  refine congrArg x4 (funext fun d => Fin.ext ?_)
  match d with
  | ⟨0, _⟩ => show (((s.val * 8 + n.val / 512) * 2 + 0) * 512 + n.val % 512) / 8192 = s.val
              omega
  | ⟨1, _⟩ => show 12288 + (((s.val * 8 + n.val / 512) * 2 + 0) * 512 + n.val % 512) % 8192 = 12288 + 512 * (2 * (n.val / 512) + 0) + n.val % 512
              omega

theorem bias_a (x5 : Vec Ideal S2x4096 .f32) (s n : Fin 4096) : val_main_v22 (F := Ideal) x5 (ix2 s n) = x5 (ix2 0 n) := by
  rw [val_main_v22_apply, val_main_v21_apply, val_main_v20_apply, val_main_v19_apply]
  refine congrArg x5 (funext fun d => Fin.ext ?_)
  match d with
  | ⟨0, _⟩ => rfl
  | ⟨1, _⟩ => show n.val % 4096 = n.val
              omega

theorem sig_a (x4 : Vec Ideal S4096x20480 .bf16) (x5 : Vec Ideal S2x4096 .f32) (s n : Fin 4096) :
    val_main_v29 (F := Ideal) x4 x5 (ix2 s n) = gate (x4 (ix2 s (gateCol 0 n)) + x5 (ix2 0 n)) := by
  rw [val_main_v29_apply, val_main_v27_apply, val_main_v26_apply, val_main_v28_apply, val_main_v25_apply, val_main_v24_apply, val_main_v23_apply, col_a, bias_a]
  show Ideal.div (Ideal.ofBits .f32 0x3F800000#32) (Ideal.ofBits .f32 0x3F800000#32 + Ideal.exp (-_)) = _
  rw [Ideal.ofBits_one_f32]
  rfl

theorem col_p (x4 : Vec Ideal S4096x20480 .bf16) (s n : Fin 4096) : val_main_v8 (F := Ideal) x4 (ix2 s n) = x4 (ix2 s (gateCol 1 n)) := by
  rw [val_main_v8_apply]
  have e5 : idx_main_v8 (ix2 s n) = ix3 s ⟨n.val / 512, by omega⟩ ⟨n.val % 512, by omega⟩ := funext fun d => Fin.ext (match d with
    | ⟨0, _⟩ => by show (s.val * 4096 + n.val) / 4096 = s.val; omega
    | ⟨1, _⟩ => by show (s.val * 4096 + n.val) / 512 % 8 = n.val / 512; omega
    | ⟨2, _⟩ => by show (s.val * 4096 + n.val) % 512 = n.val % 512; omega)
  refine (congrArg (val_main_v7 (F := Ideal) x4) e5).trans ?_
  have e4 : idx_main_v7 (ix3 s ⟨n.val / 512, by omega⟩ ⟨n.val % 512, by omega⟩) = ix4 s ⟨n.val / 512, by omega⟩ 0 ⟨n.val % 512, by omega⟩ := funext fun d => Fin.ext (match d with
    | ⟨0, _⟩ => by show ((s.val * 8 + n.val / 512) * 512 + n.val % 512) / 4096 = s.val; omega
    | ⟨1, _⟩ => by show ((s.val * 8 + n.val / 512) * 512 + n.val % 512) / 512 % 8 = n.val / 512; omega
    | ⟨2, _⟩ => rfl
    | ⟨3, _⟩ => by show ((s.val * 8 + n.val / 512) * 512 + n.val % 512) % 512 = n.val % 512; omega)
  rw [val_main_v7_apply]
  refine (congrArg (val_main_v6 (F := Ideal) x4) e4).trans ?_
  rw [val_main_v6_apply, val_main_v2_apply, val_main_v1_apply, val_main_v0_apply]
  refine congrArg x4 (funext fun d => Fin.ext ?_)
  match d with
  | ⟨0, _⟩ => show (((s.val * 8 + n.val / 512) * 2 + 1) * 512 + n.val % 512) / 8192 = s.val
              omega
  | ⟨1, _⟩ => show 12288 + (((s.val * 8 + n.val / 512) * 2 + 1) * 512 + n.val % 512) % 8192 = 12288 + 512 * (2 * (n.val / 512) + 1) + n.val % 512
              omega

theorem bias_p (x5 : Vec Ideal S2x4096 .f32) (s n : Fin 4096) : val_main_v34 (F := Ideal) x5 (ix2 s n) = x5 (ix2 1 n) := by
  rw [val_main_v34_apply, val_main_v33_apply, val_main_v32_apply, val_main_v31_apply]
  refine congrArg x5 (funext fun d => Fin.ext ?_)
  match d with
  | ⟨0, _⟩ => rfl
  | ⟨1, _⟩ => show n.val % 4096 = n.val
              omega

theorem sig_p (x4 : Vec Ideal S4096x20480 .bf16) (x5 : Vec Ideal S2x4096 .f32) (s n : Fin 4096) :
    val_main_v41 (F := Ideal) x4 x5 (ix2 s n) = gate (x4 (ix2 s (gateCol 1 n)) + x5 (ix2 1 n)) := by
  rw [val_main_v41_apply, val_main_v39_apply, val_main_v38_apply, val_main_v40_apply, val_main_v37_apply, val_main_v36_apply, val_main_v35_apply, col_p, bias_p]
  show Ideal.div (Ideal.ofBits .f32 0x3F800000#32) (Ideal.ofBits .f32 0x3F800000#32 + Ideal.exp (-_)) = _
  rw [Ideal.ofBits_one_f32]
  rfl

theorem merged_at (x0 : Vec Ideal S4096x2048 .bf16) (x1 : Vec Ideal S8x2048x512 .bf16) (x2 : Vec Ideal S4096x2048 .bf16) (x3 : Vec Ideal S8x2048x512 .bf16) (x4 : Vec Ideal S4096x20480 .bf16) (x5 : Vec Ideal S2x4096 .f32) (s n : Fin 4096) :
    val_main_v44 (F := Ideal) x0 x1 x2 x3 x4 x5 (ix2 s n)
      = gated (branch (fun s a => x0 (ix2 s a)) (fun q a k => x1 (ix3 q a k))) (branch (fun s a => x2 (ix2 s a)) (fun q a k => x3 (ix3 q a k)))
        (fun s n => x4 (ix2 s n)) (fun a n => x5 (ix2 a n)) s n := by
  rw [val_main_v44_apply, val_main_v43_apply, val_main_v42_apply, val_main_v30_apply, sig_a, sig_p, prod_a, prod_p]
  rfl

end Cert.ReferenceMergeIdeal.Merge

end
-- ==== Proof.Fwd.Merge.lean ====
/- The gated merge: the kernel's result (Fwd/KernelMerge.lean) is the reference's (Fwd/RefMerge.lean). -/
module

public import proofs.«01_k».proof.Defs
public import proofs.«01_k».proof.Proof.Fwd.KernelMerge
public import proofs.«01_k».proof.Proof.Fwd.RefMerge
public import proofs.«01_k».proof.Proof.Gen.KernelMerge
public import proofs.«01_k».proof.Proof.Gen.KernelMerge.Frame
public import proofs.«01_k».proof.Proof.Gen.ReferenceMergeIdeal.Run
public import Idealize.ShloMosaic.Lib.QuiescentFlight
public import Idealize.ShloMosaic.Init

@[expose] public section

set_option maxRecDepth 16384

noncomputable section

namespace Cert.Proof.Merge

open Idealize.ShloMosaic Idealize.ShloMosaic.TcCoe Idealize.SL.Sem

theorem frame_R : Cert.quiescent_ReferenceMergeIdeal := fun m g _ =>
  (θ_run Cert.ReferenceMergeIdeal.defs _ _).mono (fun r h => ⟨fun c => (h c).2.2.2, sem_eq_zero_of_no_sems (by decide) r.2⟩)
    (Cert.ReferenceMergeIdeal.Value.run (F := Ideal) m g)

theorem algebraic : Cert.algebraic_KernelMergeIdeal_ReferenceMergeIdeal := by
  intro m g m' g' _ hagree
  refine ⟨Cert.KernelMergeIdeal.Merge.arr_7 m, Cert.KernelMergeIdeal.Merge.arr_8 m, Cert.KernelMergeIdeal.Merge.arr_9 m, ?_, ?_⟩
  · exact (θ_run _ _ _).mono (fun _ h c => ⟨(h c).1.trans (Cert.KernelMergeIdeal.Merge.final_7 m c), (h c).2.1.trans (Cert.KernelMergeIdeal.Merge.final_8 m c),
      (h c).2.2.1.trans (Cert.KernelMergeIdeal.Merge.final_9 m c), (h c).2.2.2⟩) (Cert.KernelMergeIdeal.Value.run_blocks (F := Ideal) m g)
  · refine (θ_run _ _ _).mono (fun _ h c => ⟨(h c).1.trans ?_, (h c).2.1.trans ?_, (h c).2.2.1.trans ?_, (h c).2.2.2⟩) (Cert.ReferenceMergeIdeal.Value.run (F := Ideal) m' g')
    · obtain ⟨a0, a1, a2, a3, a4, a5⟩ := hagree c
      rw [Cert.ReferenceMergeIdeal.Read.val_main_v44_eq, a0, a1, a2, a3, a4, a5]
      funext j
      have ej : Idealize.ShloMosaic.ValueIdx.ix2 (j 0) (j 1) = j := funext fun a => match a with
        | ⟨0, _⟩ => rfl
        | ⟨1, _⟩ => rfl
      exact (congrArg _ ej.symm).trans (Cert.ReferenceMergeIdeal.Merge.merged_at _ _ _ _ _ _ (j 0) (j 1))
    · obtain ⟨a0, a1, a2, a3, a4, a5⟩ := hagree c
      rw [Cert.ReferenceMergeIdeal.Read.val_main_v45_eq, a0, a1]
      funext j
      have ej : Idealize.ShloMosaic.ValueIdx.ix2 (j 0) (j 1) = j := funext fun a => match a with
        | ⟨0, _⟩ => rfl
        | ⟨1, _⟩ => rfl
      exact (congrArg _ ej.symm).trans (Cert.ReferenceMergeIdeal.Merge.prod_a _ _ (j 0) (j 1))
    · obtain ⟨a0, a1, a2, a3, a4, a5⟩ := hagree c
      rw [Cert.ReferenceMergeIdeal.Read.val_main_v46_eq, a2, a3]
      funext j
      have ej : Idealize.ShloMosaic.ValueIdx.ix2 (j 0) (j 1) = j := funext fun a => match a with
        | ⟨0, _⟩ => rfl
        | ⟨1, _⟩ => rfl
      exact (congrArg _ ej.symm).trans (Cert.ReferenceMergeIdeal.Merge.prod_p _ _ (j 0) (j 1))

end Cert.Proof.Merge

end
-- ==== Proof.Gate.Spec.lean ====
/- The backward pass of the two gates at an index: the gradient behind the output projection, what it leaves of each branch and of each gate's
   argument, and sums over all the rows taken 512 at a time. -/
module

public import proofs.«01_k».proof.Proof.Fwd.Gates
public import proofs.«01_k».proof.Proof.Loads
public import Mathlib.Algebra.BigOperators.Fin

@[expose] public section

noncomputable section

namespace Cert.Gates

open Idealize.ShloMosaic

/-- The gradient `dx` times the transposed output projection, whose columns come in two blocks. -/
def back (dx : Fin 4096 → Fin 4096 → EReal) (lo : Fin 4096 → Fin 1024 → EReal) (hi : Fin 4096 → Fin 3072 → EReal) (s n : Fin 4096) : EReal :=
  (∑ a : Fin 1024, dx s (Fin.castAdd 3072 a) * lo n a) + ∑ a : Fin 3072, dx s (Fin.natAdd 1024 a) * hi n a

/-- The two blocks' columns side by side. -/
theorem back_eq (dx : Fin 4096 → Fin 4096 → EReal) (lo : Fin 4096 → Fin 1024 → EReal) (hi : Fin 4096 → Fin 3072 → EReal) (s n : Fin 4096) (w : Fin 4096 → EReal)
    (h1 : ∀ a : Fin 1024, w (Fin.castAdd 3072 a) = lo n a) (h2 : ∀ a : Fin 3072, w (Fin.natAdd 1024 a) = hi n a) :
    ∑ a : Fin 4096, dx s a * w a = back dx lo hi s n := by
  refine (Fin.sum_univ_add fun a : Fin (1024 + 3072) => dx s a * w a).trans ?_
  unfold back
  simp only [h1, h2]

/-- The gradient that reaches a branch, and the one that reaches its gate's argument `z`. -/
def toBranch (dm z : EReal) : EReal := dm * gate z
def toGate (dm a z : EReal) : EReal := dm * a * gate z * (1 - gate z)

/-- Column `p` of the two gates' gradients: their tiles of 512 columns by turns. -/
def dcol (x y : Fin 4096 → EReal) (p : Fin 8192) : EReal :=
  if p.val / 512 % 2 = 0 then x ⟨512 * (p.val / 1024) + p.val % 512, by omega⟩ else y ⟨512 * (p.val / 1024) + p.val % 512, by omega⟩

/-- Rows 0 and 1 hold the two gates' sums, the others are zero. -/
def inRows (x y : EReal) (b : Fin 8) : EReal := if b.val = 0 then x else if b.val = 1 then y else 0

theorem inRows_add (x y x' y' : EReal) (b : Fin 8) : inRows x y b + inRows x' y' b = inRows (x + x') (y + y') b := by
  unfold inRows
  split
  · rfl
  · split
    · rfl
    · exact add_zero 0

/-- The sum of the first `k` entries. -/
def upTo (f : Fin 4096 → EReal) (k : ℕ) : EReal := ∑ x ∈ Finset.range k, if h : x < 4096 then f ⟨x, h⟩ else 0

theorem upTo_zero (f : Fin 4096 → EReal) : upTo f 0 = 0 := Finset.sum_range_zero _

theorem upTo_add (f : Fin 4096 → EReal) (k : ℕ) (g : Fin 512 → EReal) (h : ∀ r : Fin 512, ∃ hk : k + r.val < 4096, g r = f ⟨k + r.val, hk⟩) :
    upTo f (k + 512) = upTo f k + ∑ r, g r := by
  unfold upTo
  rw [Finset.sum_range_add, ← Fin.sum_univ_eq_sum_range (fun x => if h : k + x < 4096 then f ⟨k + x, h⟩ else 0) 512]
  refine congrArg _ (Finset.sum_congr rfl fun r _ => ?_)
  obtain ⟨hk, e⟩ := h r
  rw [dif_pos hk, e]

theorem upTo_all (f : Fin 4096 → EReal) : upTo f 4096 = ∑ s, f s := by
  unfold upTo
  rw [← Fin.sum_univ_eq_sum_range (fun x => if h : x < 4096 then f ⟨x, h⟩ else 0) 4096]
  exact Finset.sum_congr rfl fun s _ => dif_pos s.isLt

end Cert.Gates

namespace Cert.Loads

open Idealize.ShloMosaic

variable {sg : RefSig} {κ : Kind} {sp : Space} {s : Shape} {e : EltTy}

/-- A load of a part of a memref is that part of what the memref holds. -/
theorem load_part {M : Memref sg κ sp s e} (h : M.IsWhole) (X : Vec Ideal s e) (off size : Fin s.rank → ℕ) (inb : ∀ a, off a + size a ≤ s.size a) :
    View.readAt (Elt Ideal) M.view (Rect.unit off size inb).toLoadRect (h.unread X) = View.ld X (Rect.unit off size inb) :=
  congrArg (fun f => View.ld f (Rect.unit off size inb)) (h.read_unread X)

end Cert.Loads

end
-- ==== Proof.Gate.KernelGate.lean ====
/- What the gates' backward kernel leaves in its four result arrays. -/
module

public import proofs.«01_k».proof.Proof.Gate.Spec
public import proofs.«01_k».proof.Proof.Gen.KernelGateIdeal
public import proofs.«01_k».proof.Proof.Gen.KernelGateIdeal.Frame
public import Idealize.ShloMosaic.Lib.Pointwise
public import Idealize.ShloMosaic.Lib.ValueIdx
public import Idealize.ShloMosaic.Lib.IdealHost

@[expose] public section

set_option maxRecDepth 16384

noncomputable section

namespace Cert.KernelGateIdeal.Bwd

open Cert.KernelGateIdeal Cert.KernelGateIdeal.Gen Cert.Loads Cert.Gates
open Idealize.ShloMosaic Idealize.ShloMosaic.TcCoe Idealize.ShloMosaic.Tactic

/-- A grid point's blocks: of the gradient, of the two blocks of the output projection, of the branches, of the gates' columns, of the biases, and of the results. -/
theorem idx_0 : ∀ t : Fin grid0.N, win0_0.index t 0 = t.val % 8 ∧ win0_0.index t 1 = 0 := by decide +kernel
theorem idx_1 : ∀ t : Fin grid0.N, win0_1.index t 0 = t.val / 8 ∧ win0_1.index t 1 = 0 := by decide +kernel
theorem idx_2 : ∀ t : Fin grid0.N, win0_2.index t 0 = t.val / 8 ∧ win0_2.index t 1 = 0 := by decide +kernel
theorem idx_3 : ∀ t : Fin grid0.N, win0_3.index t 0 = t.val % 8 ∧ win0_3.index t 1 = t.val / 8 := by decide +kernel
theorem idx_4 : ∀ t : Fin grid0.N, win0_4.index t 0 = t.val % 8 ∧ win0_4.index t 1 = t.val / 8 := by decide +kernel
theorem idx_5 : ∀ t : Fin grid0.N, win0_5.index t 0 = t.val % 8 ∧ win0_5.index t 1 = 24 + (2 * (t.val / 8) + 0) := by decide +kernel
theorem idx_6 : ∀ t : Fin grid0.N, win0_6.index t 0 = t.val % 8 ∧ win0_6.index t 1 = 24 + (2 * (t.val / 8) + 1) := by decide +kernel
theorem idx_7 : ∀ t : Fin grid0.N, win0_7.index t 0 = 0 ∧ win0_7.index t 1 = t.val / 8 := by decide +kernel
theorem idx_8 : ∀ t : Fin grid0.N, win0_8.index t 0 = t.val % 8 ∧ win0_8.index t 1 = t.val / 8 := by decide +kernel
theorem idx_9 : ∀ t : Fin grid0.N, win0_9.index t 0 = t.val % 8 ∧ win0_9.index t 1 = t.val / 8 := by decide +kernel
theorem idx_10 : ∀ t : Fin grid0.N, win0_10.index t 0 = t.val % 8 ∧ win0_10.index t 1 = 12 + t.val / 8 := by decide +kernel
theorem idx_11 : ∀ t : Fin grid0.N, win0_11.index t 0 = 0 ∧ win0_11.index t 1 = t.val / 8 := by decide +kernel

/-- The body's products, gates and sums read at an index. -/
theorem pay3_at (x : Vec Ideal S512x1024 .bf16) (y : Vec Ideal S512x1024 .bf16) (x' : Vec Ideal S512x3072 .bf16) (y' : Vec Ideal S512x3072 .bf16) (r k : Fin 512) :
    k0_pay3 (F := Ideal) x y x' y' (ix2 r k) = (∑ a : Fin 1024, x (ix2 r a) * y (ix2 k a)) + ∑ a : Fin 3072, x' (ix2 r a) * y' (ix2 k a) := by
  unfold k0_pay3
  pointwise

theorem pay4_at (x : Vec Ideal S512x512 .bf16) (y : Vec Ideal S1x512 .f32) (r k : Fin 512) :
    k0_pay4 (F := Ideal) x y (ix2 r k) = gate (x (ix2 r k) + y (ix2 0 k)) := by
  unfold k0_pay4 gate
  pointwise
  rw [zero_sub]

theorem pay5_at (x : Vec Ideal S512x512 .bf16) (y : Vec Ideal S1x512 .f32) (r k : Fin 512) :
    k0_pay5 (F := Ideal) x y (ix2 r k) = gate (x (ix2 r k) + y (ix2 0 k)) := by
  unfold k0_pay5 gate
  pointwise
  rw [zero_sub]

theorem pay6_at (v g : Vec Ideal S512x512 .f32) (a : Vec Ideal S512x512 .bf16) (i : S512x512.Idx) :
    k0_pay6 (F := Ideal) v g a i = v i * a i * g i * (1 - g i) := by
  show v i * a i * g i * (Ideal.ofBits .f32 0x3F800000#32 - g i) = _
  rw [Ideal.ofBits_one_f32]

theorem pay7_at (v g : Vec Ideal S512x512 .f32) (a : Vec Ideal S512x512 .bf16) (i : S512x512.Idx) :
    k0_pay7 (F := Ideal) v g a i = v i * a i * g i * (1 - g i) := by
  show v i * a i * g i * (Ideal.ofBits .f32 0x3F800000#32 - g i) = _
  rw [Ideal.ofBits_one_f32]

theorem pay13_at (v g : Vec Ideal S512x512 .f32) (a : Vec Ideal S512x512 .bf16) (k : Fin 512) :
    k0_pay13 (F := Ideal) v g a (ix2 0 k) = ∑ r : Fin 512, k0_pay6 (F := Ideal) v g a (ix2 r k) := by
  unfold k0_pay13
  generalize k0_pay6 (F := Ideal) v g a = z
  pointwise

theorem rows_eq (x : FVec Ideal S1x512 .f32) (y : FVec Ideal S1x512 .f32) (b : Fin 8) (k : Fin 512) :
    k0_pay1 (F := Ideal) k0_pay12 x (select (cmpi .eq (iota .tc S8x512 32 [0] iota_S8x512_d0_w32) (broadcast S8x512 1#32))
      (broadcastTo S8x512 y broadcasts_S1x512_S8x512) (broadcast S8x512 (Scalar.ofBits .f32 0x00000000#32))) (ix2 b k)
      = inRows (x (ix2 0 k)) (y (ix2 0 k)) b := by
  unfold k0_pay1 k0_pay12
  fin_cases b <;> pointwise <;> rfl

theorem sums_at (v g g' : Vec Ideal S512x512 .f32) (a a' : Vec Ideal S512x512 .bf16) (b : Fin 8) (k : Fin 512) :
    k0_pay1 (F := Ideal) k0_pay12 (k0_pay13 (F := Ideal) v g a) (k0_pay14 (F := Ideal) v g' a') (ix2 b k)
      = inRows (∑ r : Fin 512, k0_pay6 (F := Ideal) v g a (ix2 r k)) (∑ r : Fin 512, k0_pay7 (F := Ideal) v g' a' (ix2 r k)) b := by
  unfold k0_pay14
  refine (rows_eq _ _ b k).trans (congrArg₂ (fun x y : EReal => inRows x y b) (pay13_at v g a k) ?_)
  generalize k0_pay7 (F := Ideal) v g' a' = z
  pointwise

variable (m : (ℓ : Loc nD τ sig) → Buf (Elt Ideal) ℓ) (c : Dev nD)

/-- The arguments as launched: the gradient, the output projection's two blocks, the two branches, the projections and the gates' biases. -/
def Dx (s a : Fin 4096) : EReal := (m ((c : Thread nD τ).loc main_arg0) : Vec Ideal S4096x4096 .bf16) (ix2 s a)
def Lo (n : Fin 4096) (a : Fin 1024) : EReal := (m ((c : Thread nD τ).loc main_arg1) : Vec Ideal S4096x1024 .bf16) (ix2 n a)
def Hi (n : Fin 4096) (a : Fin 3072) : EReal := (m ((c : Thread nD τ).loc main_arg2) : Vec Ideal S4096x3072 .bf16) (ix2 n a)
def Am (s n : Fin 4096) : EReal := (m ((c : Thread nD τ).loc main_arg3) : Vec Ideal S4096x4096 .bf16) (ix2 s n)
def Pm (s n : Fin 4096) : EReal := (m ((c : Thread nD τ).loc main_arg4) : Vec Ideal S4096x4096 .bf16) (ix2 s n)
def G (s : Fin 4096) (n : Fin 20480) : EReal := (m ((c : Thread nD τ).loc main_arg5) : Vec Ideal S4096x20480 .bf16) (ix2 s n)
def B (a : Fin 2) (n : Fin 4096) : EReal := (m ((c : Thread nD τ).loc main_arg6) : Vec Ideal S2x4096 .f32) (ix2 a n)

theorem blk_0 (t : Fin cfg0.N) (r : Fin 512) (a s : Fin 4096) (hs : s.val = 512 * (t.val % 8) + r.val) :
    (iblk m c 0 t : Vec Ideal S512x4096 .bf16) (ix2 r a) = Dx m c s a := by
  unfold iblk
  rw [View.read_apply]
  show V m c main_arg0 _ = _
  rw [V_main_arg0]
  refine congrArg (m ((c : Thread nD τ).loc main_arg0)) (funext fun b => Fin.ext ?_)
  match b with
  | ⟨0, _⟩ => show win0_0.index t 0 * 512 + 1 * r.val = s.val
              rw [(idx_0 t).1]; omega
  | ⟨1, _⟩ => show win0_0.index t 1 * 4096 + 1 * a.val = a.val
              rw [(idx_0 t).2]; omega

theorem blk_1 (t : Fin cfg0.N) (k : Fin 512) (a : Fin 1024) (n : Fin 4096) (hn : n.val = 512 * (t.val / 8) + k.val) :
    (iblk m c 1 t : Vec Ideal S512x1024 .bf16) (ix2 k a) = Lo m c n a := by
  unfold iblk
  rw [View.read_apply]
  show V m c main_arg1 _ = _
  rw [V_main_arg1]
  refine congrArg (m ((c : Thread nD τ).loc main_arg1)) (funext fun b => Fin.ext ?_)
  match b with
  | ⟨0, _⟩ => show win0_1.index t 0 * 512 + 1 * k.val = n.val
              rw [(idx_1 t).1]; omega
  | ⟨1, _⟩ => show win0_1.index t 1 * 1024 + 1 * a.val = a.val
              rw [(idx_1 t).2]; omega

theorem blk_2 (t : Fin cfg0.N) (k : Fin 512) (a : Fin 3072) (n : Fin 4096) (hn : n.val = 512 * (t.val / 8) + k.val) :
    (iblk m c 2 t : Vec Ideal S512x3072 .bf16) (ix2 k a) = Hi m c n a := by
  unfold iblk
  rw [View.read_apply]
  show V m c main_arg2 _ = _
  rw [V_main_arg2]
  refine congrArg (m ((c : Thread nD τ).loc main_arg2)) (funext fun b => Fin.ext ?_)
  match b with
  | ⟨0, _⟩ => show win0_2.index t 0 * 512 + 1 * k.val = n.val
              rw [(idx_2 t).1]; omega
  | ⟨1, _⟩ => show win0_2.index t 1 * 3072 + 1 * a.val = a.val
              rw [(idx_2 t).2]; omega

theorem blk_3 (t : Fin cfg0.N) (r k : Fin 512) (s n : Fin 4096) (hs : s.val = 512 * (t.val % 8) + r.val) (hn : n.val = 512 * (t.val / 8) + k.val) :
    (iblk m c 3 t : Vec Ideal S512x512 .bf16) (ix2 r k) = Am m c s n := by
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 512 + 1 * r.val = s.val
              rw [(idx_3 t).1]; omega
  | ⟨1, _⟩ => show win0_3.index t 1 * 512 + 1 * k.val = n.val
              rw [(idx_3 t).2]; omega

theorem blk_4 (t : Fin cfg0.N) (r k : Fin 512) (s n : Fin 4096) (hs : s.val = 512 * (t.val % 8) + r.val) (hn : n.val = 512 * (t.val / 8) + k.val) :
    (iblk m c 4 t : Vec Ideal S512x512 .bf16) (ix2 r k) = Pm m c s n := by
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t 0 * 512 + 1 * r.val = s.val
              rw [(idx_4 t).1]; omega
  | ⟨1, _⟩ => show win0_4.index t 1 * 512 + 1 * k.val = n.val
              rw [(idx_4 t).2]; omega

theorem blk_5 (t : Fin cfg0.N) (r k : Fin 512) (s : Fin 4096) (n : Fin 20480) (hs : s.val = 512 * (t.val % 8) + r.val) (hn : n.val = 12288 + 512 * (2 * (t.val / 8) + 0) + k.val) :
    (iblk m c 5 t : Vec Ideal S512x512 .bf16) (ix2 r k) = G m c s n := by
  unfold iblk
  rw [View.read_apply]
  show V m c main_arg5 _ = _
  rw [V_main_arg5]
  refine congrArg (m ((c : Thread nD τ).loc main_arg5)) (funext fun a => Fin.ext ?_)
  match a with
  | ⟨0, _⟩ => show win0_5.index t 0 * 512 + 1 * r.val = s.val
              rw [(idx_5 t).1]; omega
  | ⟨1, _⟩ => show win0_5.index t 1 * 512 + 1 * k.val = n.val
              rw [(idx_5 t).2]; omega

theorem blk_6 (t : Fin cfg0.N) (r k : Fin 512) (s : Fin 4096) (n : Fin 20480) (hs : s.val = 512 * (t.val % 8) + r.val) (hn : n.val = 12288 + 512 * (2 * (t.val / 8) + 1) + k.val) :
    (iblk m c 6 t : Vec Ideal S512x512 .bf16) (ix2 r k) = G m c s n := by
  unfold iblk
  rw [View.read_apply]
  show V m c main_arg5 _ = _
  rw [V_main_arg5]
  refine congrArg (m ((c : Thread nD τ).loc main_arg5)) (funext fun a => Fin.ext ?_)
  match a with
  | ⟨0, _⟩ => show win0_6.index t 0 * 512 + 1 * r.val = s.val
              rw [(idx_6 t).1]; omega
  | ⟨1, _⟩ => show win0_6.index t 1 * 512 + 1 * k.val = n.val
              rw [(idx_6 t).2]; omega

theorem blk_7 (t : Fin cfg0.N) (b : Fin 2) (k : Fin 512) (n : Fin 4096) (hn : n.val = 512 * (t.val / 8) + k.val) :
    (iblk m c 7 t : Vec Ideal S2x512 .f32) (ix2 b k) = B m c b n := by
  unfold iblk
  rw [View.read_apply]
  show V m c main_arg6 _ = _
  rw [V_main_arg6]
  refine congrArg (m ((c : Thread nD τ).loc main_arg6)) (funext fun a => Fin.ext ?_)
  match a with
  | ⟨0, _⟩ => show win0_7.index t 0 * 2 + 1 * b.val = b.val
              rw [(idx_7 t).1]; omega
  | ⟨1, _⟩ => show win0_7.index t 1 * 512 + 1 * k.val = n.val
              rw [(idx_7 t).2]; omega

/-- A grid point's values: the gradient behind the output projection, and the two gates. -/
def dmB (t : Fin cfg0.N) : Vec Ideal S512x512 .f32 :=
  k0_pay3 (F := Ideal) (View.ld (iblk m c 0 t : Vec Ideal S512x4096 .bf16) (Rect.unit (s := S512x4096) ![0, 0] S512x1024.size inb_S512x4096_S512x1024_0_0)) (iblk m c 1 t)
    (View.ld (iblk m c 0 t : Vec Ideal S512x4096 .bf16) (Rect.unit (s := S512x4096) ![0, 1024] S512x3072.size inb_S512x4096_S512x3072_0_1024)) (iblk m c 2 t)
def gaB (t : Fin cfg0.N) : Vec Ideal S512x512 .f32 :=
  k0_pay4 (F := Ideal) (iblk m c 5 t) (View.ld (iblk m c 7 t : Vec Ideal S2x512 .f32) (Rect.unit (s := S2x512) ![0, 0] S1x512.size inb_S2x512_S1x512_0_0))
def gpB (t : Fin cfg0.N) : Vec Ideal S512x512 .f32 :=
  k0_pay5 (F := Ideal) (iblk m c 6 t) (View.ld (iblk m c 7 t : Vec Ideal S2x512 .f32) (Rect.unit (s := S2x512) ![1, 0] S1x512.size inb_S2x512_S1x512_1_0))

def dm (s n : Fin 4096) : EReal := back (Dx m c) (Lo m c) (Hi m c) s n
def za (s n : Fin 4096) : EReal := G m c s (gateCol 0 n) + B m c 0 n
def zp (s n : Fin 4096) : EReal := G m c s (gateCol 1 n) + B m c 1 n

theorem dm_at (t : Fin cfg0.N) (r k : Fin 512) (s n : Fin 4096) (hs : s.val = 512 * (t.val % 8) + r.val) (hn : n.val = 512 * (t.val / 8) + k.val) : dmB m c t (ix2 r k) = dm m c s n := by
  unfold dmB
  refine (pay3_at _ _ _ _ r k).trans ?_
  refine congrArg₂ (fun x y : EReal => x + y) (Finset.sum_congr rfl fun a _ => congrArg₂ (fun x y : EReal => x * y) ?_ (blk_1 m c t k a n hn))
    (Finset.sum_congr rfl fun a _ => congrArg₂ (fun x y : EReal => x * y) ?_ (blk_2 m c t k a n hn))
  · refine Eq.trans ?_ (blk_0 m c t r (Fin.castAdd 3072 a) s hs)
    refine congrArg (iblk m c 0 t : Vec Ideal S512x4096 .bf16) (funext fun d => Fin.ext ?_)
    match d with
    | ⟨0, _⟩ => show 0 + 1 * r.val = r.val
                omega
    | ⟨1, _⟩ => show 0 + 1 * a.val = a.val
                omega
  · refine Eq.trans ?_ (blk_0 m c t r (Fin.natAdd 1024 a) s hs)
    refine congrArg (iblk m c 0 t : Vec Ideal S512x4096 .bf16) (funext fun d => Fin.ext ?_)
    match d with
    | ⟨0, _⟩ => show 0 + 1 * r.val = r.val
                omega
    | ⟨1, _⟩ => show 1024 + 1 * a.val = 1024 + a.val
                omega

theorem ga_at (t : Fin cfg0.N) (r k : Fin 512) (s n : Fin 4096) (hs : s.val = 512 * (t.val % 8) + r.val) (hn : n.val = 512 * (t.val / 8) + k.val) : gaB m c t (ix2 r k) = gate (za m c s n) := by
  unfold gaB
  refine (pay4_at _ _ r k).trans (congrArg gate (congrArg₂ (fun x y : EReal => x + y) (blk_5 m c t r k s _ hs ?_) ?_))
  · show 12288 + 512 * (2 * (n.val / 512) + 0) + n.val % 512 = _
    omega
  · refine Eq.trans ?_ (blk_7 m c t 0 k n hn)
    refine congrArg (iblk m c 7 t : Vec Ideal S2x512 .f32) (funext fun d => Fin.ext ?_)
    match d with
    | ⟨0, _⟩ => rfl
    | ⟨1, _⟩ => show 0 + 1 * k.val = k.val
                omega

theorem gp_at (t : Fin cfg0.N) (r k : Fin 512) (s n : Fin 4096) (hs : s.val = 512 * (t.val % 8) + r.val) (hn : n.val = 512 * (t.val / 8) + k.val) : gpB m c t (ix2 r k) = gate (zp m c s n) := by
  unfold gpB
  refine (pay5_at _ _ r k).trans (congrArg gate (congrArg₂ (fun x y : EReal => x + y) (blk_6 m c t r k s _ hs ?_) ?_))
  · show 12288 + 512 * (2 * (n.val / 512) + 1) + n.val % 512 = _
    omega
  · refine Eq.trans ?_ (blk_7 m c t 1 k n hn)
    refine congrArg (iblk m c 7 t : Vec Ideal S2x512 .f32) (funext fun d => Fin.ext ?_)
    match d with
    | ⟨0, _⟩ => rfl
    | ⟨1, _⟩ => show 0 + 1 * k.val = k.val
                omega

/-- The gradients of the two gates' arguments. -/
def da (s n : Fin 4096) : EReal := toGate (dm m c s n) (Am m c s n) (za m c s n)
def dp (s n : Fin 4096) : EReal := toGate (dm m c s n) (Pm m c s n) (zp m c s n)

theorem da_at (t : Fin cfg0.N) (r k : Fin 512) (s n : Fin 4096) (hs : s.val = 512 * (t.val % 8) + r.val) (hn : n.val = 512 * (t.val / 8) + k.val) :
    k0_pay6 (F := Ideal) (dmB m c t) (gaB m c t) (iblk m c 3 t) (ix2 r k) = da m c s n := by
  refine (pay6_at _ _ _ _).trans ?_
  have e1 := dm_at m c t r k s n hs hn
  have e2 := ga_at m c t r k s n hs hn
  have e3 := blk_3 m c t r k s n hs hn
  exact congrArg₂ (fun x y : EReal => x * y) (congrArg₂ (fun x y : EReal => x * y) (congrArg₂ (fun x y : EReal => x * y) e1 e3) e2)
    (congrArg (fun x : EReal => 1 - x) e2)

theorem dp_at (t : Fin cfg0.N) (r k : Fin 512) (s n : Fin 4096) (hs : s.val = 512 * (t.val % 8) + r.val) (hn : n.val = 512 * (t.val / 8) + k.val) :
    k0_pay7 (F := Ideal) (dmB m c t) (gpB m c t) (iblk m c 4 t) (ix2 r k) = dp m c s n := by
  refine (pay7_at _ _ _ _).trans ?_
  have e1 := dm_at m c t r k s n hs hn
  have e2 := gp_at m c t r k s n hs hn
  have e3 := blk_4 m c t r k s n hs hn
  exact congrArg₂ (fun x y : EReal => x * y) (congrArg₂ (fun x y : EReal => x * y) (congrArg₂ (fun x y : EReal => x * y) e1 e3) e2)
    (congrArg (fun x : EReal => 1 - x) e2)

theorem out_8 (t : Fin cfg0.N) : (outsAt0 m c t.val t.isLt).1 = k0_pay8 (F := Ideal) (dmB m c t) (gaB m c t) := by
  unfold dmB gaB
  by_cases h0 : t.val % 8 = 0
  · rw [outsAt0_A m c t h0 (by omega)]
    dsimp only
    unfold out0_A_8
    refine (View.read_writes_junk_eq_canon VO0_8 _).trans ?_
    refine (View.canon_unit_zero z2 _ _).trans ?_
    show k0_pay8 (k0_pay3 _ _ _ _) (k0_pay4 _ _) = _
    rw [load_part (hs0_0 t), load_part (hs0_0 t), load_part (hs0_7 t), load_whole (hs0_1 t) _ z2, load_whole (hs0_2 t) _ z2, load_whole (hs0_5 t) _ z2]
    rfl
  · rw [outsAt0_B m c t h0 (by omega)]
    dsimp only
    unfold out0_B_8
    refine (View.read_writes_junk_eq_canon VO0_8 _).trans ?_
    refine (View.canon_unit_zero z2 _ _).trans ?_
    show k0_pay8 (k0_pay3 _ _ _ _) (k0_pay4 _ _) = _
    rw [load_part (hs0_0 t), load_part (hs0_0 t), load_part (hs0_7 t), load_whole (hs0_1 t) _ z2, load_whole (hs0_2 t) _ z2, load_whole (hs0_5 t) _ z2]
    rfl

theorem out_9 (t : Fin cfg0.N) : (outsAt0 m c t.val t.isLt).2.1 = k0_pay9 (F := Ideal) (dmB m c t) (gpB m c t) := by
  unfold dmB gpB
  by_cases h0 : t.val % 8 = 0
  · rw [outsAt0_A m c t h0 (by omega)]
    dsimp only
    unfold out0_A_9
    refine (View.read_writes_junk_eq_canon VO0_9 _).trans ?_
    refine (View.canon_unit_zero z2 _ _).trans ?_
    show k0_pay9 (k0_pay3 _ _ _ _) (k0_pay5 _ _) = _
    rw [load_part (hs0_0 t), load_part (hs0_0 t), load_part (hs0_7 t), load_whole (hs0_1 t) _ z2, load_whole (hs0_2 t) _ z2, load_whole (hs0_6 t) _ z2]
    rfl
  · rw [outsAt0_B m c t h0 (by omega)]
    dsimp only
    unfold out0_B_9
    refine (View.read_writes_junk_eq_canon VO0_9 _).trans ?_
    refine (View.canon_unit_zero z2 _ _).trans ?_
    show k0_pay9 (k0_pay3 _ _ _ _) (k0_pay5 _ _) = _
    rw [load_part (hs0_0 t), load_part (hs0_0 t), load_part (hs0_7 t), load_whole (hs0_1 t) _ z2, load_whole (hs0_2 t) _ z2, load_whole (hs0_6 t) _ z2]
    rfl

/-- The two gates' gradients as one block. -/
def both (v g g' : Vec Ideal S512x512 .f32) (a a' : Vec Ideal S512x512 .bf16) : Vec Ideal S512x1024 .bf16 := fun i =>
  if h : (i 1).val < 512 then k0_pay6 (F := Ideal) v g a (ix2 (i 0) ⟨(i 1).val, h⟩)
  else k0_pay7 (F := Ideal) v g' a' (ix2 (i 0) ⟨(i 1).val - 512, by
    have h1 : (i 1).val < 1024 := (i 1).isLt
    omega⟩)

theorem out_10 (t : Fin cfg0.N) : (outsAt0 m c t.val t.isLt).2.2.1 = both (dmB m c t) (gaB m c t) (gpB m c t) (iblk m c 3 t) (iblk m c 4 t) := by
  funext i
  by_cases h0 : t.val % 8 = 0
  · rw [outsAt0_A m c t h0 (by omega)]
    dsimp only
    have hcov := cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => (show ¬1 ≤ t.val % 8 by omega) ((hcond0_1 t).mp h)) (iblk m c 0 t) (iblk m c 1 t) (iblk m c 2 t) (iblk m c 3 t) (iblk m c 4 t) (iblk m c 5 t) (iblk m c 6 t) (iblk m c 7 t) i
    unfold out0_A_10
    refine (congrFun (View.read_writes_junk_eq_canon VO0_10 _) i).trans ?_
    refine View.canon_apply_of_pieces (both (dmB m c t) (gaB m c t) (gpB m c t) (iblk m c 3 t) (iblk m c 4 t)) _ ?_ i hcov
    intro p hp
    rcases List.mem_cons.mp hp with h | h
    · subst h
      intro (x : S512x512.Idx)
      have h1 : (x 1).val < 512 := (x 1).isLt
      show k0_pay7 (F := Ideal) (k0_pay3 _ _ _ _) (k0_pay5 _ _) _ x = _
      rw [load_part (hs0_0 t), load_part (hs0_0 t), load_part (hs0_7 t), load_whole (hs0_1 t) _ z2, load_whole (hs0_2 t) _ z2, load_whole (hs0_6 t) _ z2, load_whole (hs0_4 t) _ z2]
      refine Eq.trans ?_ (dif_neg (show ¬512 + 1 * (x 1).val < 512 by omega)).symm
      refine congrArg (k0_pay7 (F := Ideal) (dmB m c t) (gpB m c t) (iblk m c 4 t)) (funext fun a => Fin.ext ?_)
      match a with
      | ⟨0, _⟩ => show (x 0).val = 0 + 1 * (x 0).val
                  omega
      | ⟨1, _⟩ => show (x 1).val = 512 + 1 * (x 1).val - 512
                  omega
    · have h' := List.mem_singleton.mp h
      subst h'
      intro (x : S512x512.Idx)
      have h1 : (x 1).val < 512 := (x 1).isLt
      show k0_pay6 (F := Ideal) (k0_pay3 _ _ _ _) (k0_pay4 _ _) _ x = _
      rw [load_part (hs0_0 t), load_part (hs0_0 t), load_part (hs0_7 t), load_whole (hs0_1 t) _ z2, load_whole (hs0_2 t) _ z2, load_whole (hs0_5 t) _ z2, load_whole (hs0_3 t) _ z2]
      refine Eq.trans ?_ (dif_pos (show 0 + 1 * (x 1).val < 512 by omega)).symm
      refine congrArg (k0_pay6 (F := Ideal) (dmB m c t) (gaB m c t) (iblk m c 3 t)) (funext fun a => Fin.ext ?_)
      match a with
      | ⟨0, _⟩ => show (x 0).val = 0 + 1 * (x 0).val
                  omega
      | ⟨1, _⟩ => show (x 1).val = 0 + 1 * (x 1).val
                  omega
  · rw [outsAt0_B m c t h0 (by omega)]
    dsimp only
    have hcov := cover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr (show 1 ≤ t.val % 8 by omega)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 i
    unfold out0_B_10
    refine (congrFun (View.read_writes_junk_eq_canon VO0_10 _) i).trans ?_
    refine View.canon_apply_of_pieces (both (dmB m c t) (gaB m c t) (gpB m c t) (iblk m c 3 t) (iblk m c 4 t)) _ ?_ i hcov
    intro p hp
    rcases List.mem_cons.mp hp with h | h
    · subst h
      intro (x : S512x512.Idx)
      have h1 : (x 1).val < 512 := (x 1).isLt
      show k0_pay7 (F := Ideal) (k0_pay3 _ _ _ _) (k0_pay5 _ _) _ x = _
      rw [load_part (hs0_0 t), load_part (hs0_0 t), load_part (hs0_7 t), load_whole (hs0_1 t) _ z2, load_whole (hs0_2 t) _ z2, load_whole (hs0_6 t) _ z2, load_whole (hs0_4 t) _ z2]
      refine Eq.trans ?_ (dif_neg (show ¬512 + 1 * (x 1).val < 512 by omega)).symm
      refine congrArg (k0_pay7 (F := Ideal) (dmB m c t) (gpB m c t) (iblk m c 4 t)) (funext fun a => Fin.ext ?_)
      match a with
      | ⟨0, _⟩ => show (x 0).val = 0 + 1 * (x 0).val
                  omega
      | ⟨1, _⟩ => show (x 1).val = 512 + 1 * (x 1).val - 512
                  omega
    · have h' := List.mem_singleton.mp h
      subst h'
      intro (x : S512x512.Idx)
      have h1 : (x 1).val < 512 := (x 1).isLt
      show k0_pay6 (F := Ideal) (k0_pay3 _ _ _ _) (k0_pay4 _ _) _ x = _
      rw [load_part (hs0_0 t), load_part (hs0_0 t), load_part (hs0_7 t), load_whole (hs0_1 t) _ z2, load_whole (hs0_2 t) _ z2, load_whole (hs0_5 t) _ z2, load_whole (hs0_3 t) _ z2]
      refine Eq.trans ?_ (dif_pos (show 0 + 1 * (x 1).val < 512 by omega)).symm
      refine congrArg (k0_pay6 (F := Ideal) (dmB m c t) (gaB m c t) (iblk m c 3 t)) (funext fun a => Fin.ext ?_)
      match a with
      | ⟨0, _⟩ => show (x 0).val = 0 + 1 * (x 0).val
                  omega
      | ⟨1, _⟩ => show (x 1).val = 0 + 1 * (x 1).val
                  omega

/-- The sums over a grid point's rows. -/
def sumsB (t : Fin cfg0.N) : Vec Ideal S8x512 .f32 :=
  k0_pay1 (F := Ideal) k0_pay12 (k0_pay13 (F := Ideal) (dmB m c t) (gaB m c t) (iblk m c 3 t)) (k0_pay14 (F := Ideal) (dmB m c t) (gpB m c t) (iblk m c 4 t))

theorem out_11_first (t : Fin cfg0.N) (h0 : t.val % 8 = 0) : (outsAt0 m c t.val t.isLt).2.2.2 = sumsB m c t := by
  unfold sumsB dmB gaB gpB
  rw [outsAt0_A m c t h0 (by omega)]
  dsimp only
  unfold out0_A_11
  refine (View.read_writes_junk_eq_canon VO0_11 _).trans ?_
  refine (View.canon_unit_zero z2 _ _).trans ?_
  show k0_pay1 k0_pay12 (k0_pay13 (k0_pay3 _ _ _ _) (k0_pay4 _ _) _) (k0_pay14 (k0_pay3 _ _ _ _) (k0_pay5 _ _) _) = _
  rw [load_part (hs0_0 t), load_part (hs0_0 t), load_part (hs0_7 t), load_part (hs0_7 t), load_whole (hs0_1 t) _ z2, load_whole (hs0_2 t) _ z2, load_whole (hs0_3 t) _ z2,
    load_whole (hs0_4 t) _ z2, load_whole (hs0_5 t) _ z2, load_whole (hs0_6 t) _ z2]
  rfl

theorem pay2_at (w : IVec S8x512 1) (x : FVec Ideal S1x512 .f32) (y : FVec Ideal S8x512 .f32) (v : Vec Ideal S8x512 .f32) (i : S8x512.Idx) :
    k0_pay2 (F := Ideal) w x y v i = v i + k0_pay1 (F := Ideal) w x y i := by
  unfold k0_pay2
  generalize k0_pay1 (F := Ideal) w x y = z
  pointwise

theorem out_11_next (t : Fin cfg0.N) (h0 : ¬t.val % 8 = 0) (i : S8x512.Idx) :
    (outsAt0 m c t.val t.isLt).2.2.2 i = (outsAt0 m c (t.val - 1) (Nat.lt_of_le_of_lt (Nat.sub_le _ _) t.isLt)).2.2.2 i + sumsB m c t i := by
  unfold sumsB dmB gaB gpB
  rw [outsAt0_B m c t h0 (by omega)]
  dsimp only
  generalize (outsAt0 m c (t.val - 1) (Nat.lt_of_le_of_lt (Nat.sub_le _ _) t.isLt)).2.2.2 = q
  refine Eq.trans (congrFun ?_ i) (pay2_at _ _ _ q i)
  unfold out0_B_11
  refine (View.read_writes_junk_eq_canon VO0_11 _).trans ?_
  refine (View.canon_unit_zero z2 _ _).trans ?_
  show k0_pay2 k0_pay12 (k0_pay13 (k0_pay3 _ _ _ _) (k0_pay4 _ _) _) (k0_pay14 (k0_pay3 _ _ _ _) (k0_pay5 _ _) _) _ = _
  rw [load_part (hs0_0 t), load_part (hs0_0 t), load_part (hs0_7 t), load_part (hs0_7 t), load_whole (hs0_1 t) _ z2, load_whole (hs0_2 t) _ z2, load_whole (hs0_3 t) _ z2,
    load_whole (hs0_4 t) _ z2, load_whole (hs0_5 t) _ z2, load_whole (hs0_6 t) _ z2, load_whole (hs0_11 t) _ z2]
  rfl

/-- After a grid point the sums cover the rows up to that point's. -/
theorem sums_upTo (i : ℕ) : ∀ (t : Fin cfg0.N) (b : Fin 8) (k : Fin 512) (n : Fin 4096) (hi : t.val % 8 = i) (hn : n.val = 512 * (t.val / 8) + k.val),
    (outsAt0 m c t.val t.isLt).2.2.2 (ix2 b k) = inRows (upTo (fun s => da m c s n) (512 * i + 512)) (upTo (fun s => dp m c s n) (512 * i + 512)) b := by
  have hsum : ∀ (t : Fin cfg0.N) (b : Fin 8) (k : Fin 512) (n : Fin 4096) (hn : n.val = 512 * (t.val / 8) + k.val), ∃ x y : EReal,
      sumsB m c t (ix2 b k) = inRows x y b ∧ (upTo (fun s => da m c s n) (512 * (t.val % 8) + 512) = upTo (fun s => da m c s n) (512 * (t.val % 8)) + x)
        ∧ (upTo (fun s => dp m c s n) (512 * (t.val % 8) + 512) = upTo (fun s => dp m c s n) (512 * (t.val % 8)) + y) := by
    intro t b k n hn
    refine ⟨_, _, sums_at _ _ _ _ _ b k, upTo_add _ _ _ fun r => ⟨by omega, da_at m c t r k _ n rfl hn⟩, upTo_add _ _ _ fun r => ⟨by omega, dp_at m c t r k _ n rfl hn⟩⟩
  induction i with
  | zero =>
    intro t b k n hi hn
    obtain ⟨x, y, e, ex, ey⟩ := hsum t b k n hn
    rw [hi] at ex ey
    rw [out_11_first m c t hi, e, ex, ey, show 512 * 0 = 0 from rfl, upTo_zero, upTo_zero, zero_add, zero_add]
  | succ i ih =>
    intro t b k n hi hn
    have ht := t.isLt
    obtain ⟨x, y, e, ex, ey⟩ := hsum t b k n hn
    rw [hi] at ex ey
    rw [out_11_next m c t (by omega), ih ⟨t.val - 1, by omega⟩ b k n (by show (t.val - 1) % 8 = i; omega) (by show _ = 512 * ((t.val - 1) / 8) + _; omega), e, inRows_add, ex, ey]
    rfl

def arr_8 : Buf (Elt Ideal) ((c : Thread nD τ).loc main_v0_0) := (fun i => toBranch (dm m c (i 0) (i 1)) (za m c (i 0) (i 1)) : Vec Ideal S4096x4096 .bf16)
def arr_9 : Buf (Elt Ideal) ((c : Thread nD τ).loc main_v0_1) := (fun i => toBranch (dm m c (i 0) (i 1)) (zp m c (i 0) (i 1)) : Vec Ideal S4096x4096 .bf16)

theorem flushed_8 (t : Fin cfg0.N) (hf : (cfg0.win 8).flush t = true) :
    (dats m 0 c).flushed 8 t = ((cfg0.win 8).blk t).view.read (Elt Ideal) (arr_8 m c) := by
  show (cfg0.win 8).cut (grid0.coords t) ((dats m 0 c).after 8 t) = _
  rw [after0_8, out_8]
  have ht : t.val < 64 := t.isLt
  funext i
  rw [View.read_apply]
  have h0 : (i 0).val < 512 := (i 0).isLt
  have h1 : (i 1).val < 512 := (i 1).isLt
  have e : (cfg0.win 8).cut (grid0.coords t) (k0_pay8 (F := Ideal) (dmB m c t) (gaB m c t)) i
      = dmB m c t (ix2 ⟨(i 0).val, h0⟩ ⟨(i 1).val, h1⟩) * gaB m c t (ix2 ⟨(i 0).val, h0⟩ ⟨(i 1).val, h1⟩) := by
    refine (congrArg (k0_pay8 (F := Ideal) (dmB m c t) (gaB m c t)) (funext fun a => Fin.ext ?_)).trans rfl
    match a with
    | ⟨0, _⟩ => rfl
    | ⟨1, _⟩ => rfl
  have hs : (((cfg0.win 8).blk t).view.emb i 0).val = 512 * (t.val % 8) + (i 0).val := by
    show win0_8.index t 0 * 512 + 1 * (i 0).val = _
    rw [(idx_8 t).1]; omega
  have hn : (((cfg0.win 8).blk t).view.emb i 1).val = 512 * (t.val / 8) + (i 1).val := by
    show win0_8.index t 1 * 512 + 1 * (i 1).val = _
    rw [(idx_8 t).2]; omega
  refine e.trans ?_
  exact congrArg₂ (fun x y : EReal => x * y) (dm_at m c t _ _ _ _ hs hn) (ga_at m c t _ _ _ _ hs hn)

theorem final_8 : (dats m 0 c).arrAt 8 cfg0.N = arr_8 m c := by
  funext i
  rw [(dats m 0 c).arrAt_eq_piecewise 8 (arr_8 m c) (flushed_8 m c) i]
  have h0 : (i 0 : Nat) < 4096 := (i 0).isLt
  have h1 : (i 1 : Nat) < 4096 := (i 1).isLt
  refine if_pos ?_
  let t : Fin cfg0.N := ⟨8 * ((i 1 : Nat) / 512) + (i 0 : Nat) / 512, by show _ < 64; omega⟩
  have ht : t.val = 8 * ((i 1 : Nat) / 512) + (i 0 : Nat) / 512 := rfl
  refine ⟨t, flush0_8 t, ?_⟩
  show i ∈ ((View.whole main_v0_0).slice (win0_8.rect t)).set
  rw [View.set_slice_whole, Rect.mem_set_unit]
  intro a
  match a with
  | ⟨0, _⟩ => show win0_8.index t 0 * 512 ≤ (i 0 : Nat) ∧ (i 0 : Nat) < win0_8.index t 0 * 512 + 512
              rw [(idx_8 t).1]; omega
  | ⟨1, _⟩ => show win0_8.index t 1 * 512 ≤ (i 1 : Nat) ∧ (i 1 : Nat) < win0_8.index t 1 * 512 + 512
              rw [(idx_8 t).2]; omega

theorem flushed_9 (t : Fin cfg0.N) (hf : (cfg0.win 9).flush t = true) :
    (dats m 0 c).flushed 9 t = ((cfg0.win 9).blk t).view.read (Elt Ideal) (arr_9 m c) := by
  show (cfg0.win 9).cut (grid0.coords t) ((dats m 0 c).after 9 t) = _
  rw [after0_9, out_9]
  have ht : t.val < 64 := t.isLt
  funext i
  rw [View.read_apply]
  have h0 : (i 0).val < 512 := (i 0).isLt
  have h1 : (i 1).val < 512 := (i 1).isLt
  have e : (cfg0.win 9).cut (grid0.coords t) (k0_pay9 (F := Ideal) (dmB m c t) (gpB m c t)) i
      = dmB m c t (ix2 ⟨(i 0).val, h0⟩ ⟨(i 1).val, h1⟩) * gpB m c t (ix2 ⟨(i 0).val, h0⟩ ⟨(i 1).val, h1⟩) := by
    refine (congrArg (k0_pay9 (F := Ideal) (dmB m c t) (gpB m c t)) (funext fun a => Fin.ext ?_)).trans rfl
    match a with
    | ⟨0, _⟩ => rfl
    | ⟨1, _⟩ => rfl
  have hs : (((cfg0.win 9).blk t).view.emb i 0).val = 512 * (t.val % 8) + (i 0).val := by
    show win0_9.index t 0 * 512 + 1 * (i 0).val = _
    rw [(idx_9 t).1]; omega
  have hn : (((cfg0.win 9).blk t).view.emb i 1).val = 512 * (t.val / 8) + (i 1).val := by
    show win0_9.index t 1 * 512 + 1 * (i 1).val = _
    rw [(idx_9 t).2]; omega
  refine e.trans ?_
  exact congrArg₂ (fun x y : EReal => x * y) (dm_at m c t _ _ _ _ hs hn) (gp_at m c t _ _ _ _ hs hn)

theorem final_9 : (dats m 0 c).arrAt 9 cfg0.N = arr_9 m c := by
  funext i
  rw [(dats m 0 c).arrAt_eq_piecewise 9 (arr_9 m c) (flushed_9 m c) i]
  have h0 : (i 0 : Nat) < 4096 := (i 0).isLt
  have h1 : (i 1 : Nat) < 4096 := (i 1).isLt
  refine if_pos ?_
  let t : Fin cfg0.N := ⟨8 * ((i 1 : Nat) / 512) + (i 0 : Nat) / 512, by show _ < 64; omega⟩
  have ht : t.val = 8 * ((i 1 : Nat) / 512) + (i 0 : Nat) / 512 := rfl
  refine ⟨t, flush0_9 t, ?_⟩
  show i ∈ ((View.whole main_v0_1).slice (win0_9.rect t)).set
  rw [View.set_slice_whole, Rect.mem_set_unit]
  intro a
  match a with
  | ⟨0, _⟩ => show win0_9.index t 0 * 512 ≤ (i 0 : Nat) ∧ (i 0 : Nat) < win0_9.index t 0 * 512 + 512
              rw [(idx_9 t).1]; omega
  | ⟨1, _⟩ => show win0_9.index t 1 * 512 ≤ (i 1 : Nat) ∧ (i 1 : Nat) < win0_9.index t 1 * 512 + 512
              rw [(idx_9 t).2]; omega

/-- The array of the projections' gradients: the gates' columns, and the rest as the array came. -/
def arr_10 : Buf (Elt Ideal) ((c : Thread nD τ).loc main_v0_2) :=
  (fun i => if h : 12288 ≤ (i 1).val then dcol (da m c (i 0)) (dp m c (i 0)) ⟨(i 1).val - 12288, by
      have h1 : (i 1).val < 20480 := (i 1).isLt
      omega⟩
    else V m c main_v0_2 i : Vec Ideal S4096x20480 .bf16)

theorem both_at (t : Fin cfg0.N) (j : S512x1024.Idx) (s : Fin 4096) (p : Fin 8192) (hs : s.val = 512 * (t.val % 8) + (j 0).val) (hp : p.val = 1024 * (t.val / 8) + (j 1).val) :
    both (dmB m c t) (gaB m c t) (gpB m c t) (iblk m c 3 t) (iblk m c 4 t) j = dcol (da m c s) (dp m c s) p := by
  have h1 : (j 1).val < 1024 := (j 1).isLt
  have hp' := p.isLt
  unfold both dcol
  by_cases h : (j 1).val < 512
  · rw [dif_pos h, if_pos (by omega)]
    exact da_at m c t _ _ s _ hs (by show 512 * (p.val / 1024) + p.val % 512 = 512 * (t.val / 8) + (j 1).val; omega)
  · rw [dif_neg h, if_neg (by omega)]
    exact dp_at m c t _ _ s _ hs (by show 512 * (p.val / 1024) + p.val % 512 = 512 * (t.val / 8) + ((j 1).val - 512); omega)

theorem flushed_10 (t : Fin cfg0.N) (hf : (cfg0.win 10).flush t = true) :
    (dats m 0 c).flushed 10 t = ((cfg0.win 10).blk t).view.read (Elt Ideal) (arr_10 m c) := by
  show (cfg0.win 10).cut (grid0.coords t) ((dats m 0 c).after 10 t) = _
  rw [after0_10, out_10]
  have ht : t.val < 64 := t.isLt
  funext i
  rw [View.read_apply]
  have h0 : (i 0).val < 512 := (i 0).isLt
  have h1 : (i 1).val < 1024 := (i 1).isLt
  have hs : (((cfg0.win 10).blk t).view.emb i 0).val = 512 * (t.val % 8) + (i 0).val := by
    show win0_10.index t 0 * 512 + 1 * (i 0).val = _
    rw [(idx_10 t).1]; omega
  have hn : (((cfg0.win 10).blk t).view.emb i 1).val = 1024 * (12 + t.val / 8) + (i 1).val := by
    show win0_10.index t 1 * 1024 + 1 * (i 1).val = _
    rw [(idx_10 t).2]; omega
  refine Eq.trans ?_ (dif_pos (show 12288 ≤ (((cfg0.win 10).blk t).view.emb i 1).val by omega)).symm
  exact both_at m c t _ _ _ hs (by show (((cfg0.win 10).blk t).view.emb i 1).val - 12288 = 1024 * (t.val / 8) + (i 1).val; omega)

theorem final_10 : (dats m 0 c).arrAt 10 cfg0.N = arr_10 m c := by
  funext i
  rw [(dats m 0 c).arrAt_eq_piecewise 10 (arr_10 m c) (flushed_10 m c) i]
  have h0 : (i 0 : Nat) < 4096 := (i 0).isLt
  have h1 : (i 1 : Nat) < 20480 := (i 1).isLt
  by_cases hc : 12288 ≤ (i 1 : Nat)
  · refine if_pos ?_
    let t : Fin cfg0.N := ⟨8 * ((i 1 : Nat) / 1024 - 12) + (i 0 : Nat) / 512, by show _ < 64; omega⟩
    have ht : t.val = 8 * ((i 1 : Nat) / 1024 - 12) + (i 0 : Nat) / 512 := rfl
    refine ⟨t, flush0_10 t, ?_⟩
    show i ∈ ((View.whole main_v0_2).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512
                rw [(idx_10 t).1]; omega
    | ⟨1, _⟩ => show win0_10.index t 1 * 1024 ≤ (i 1 : Nat) ∧ (i 1 : Nat) < win0_10.index t 1 * 1024 + 1024
                rw [(idx_10 t).2]; omega
  · rw [if_neg]
    · rw [A_eq]
      show V m c main_v0_2 i = dite (12288 ≤ (i 1).val) _ _
      rw [dif_neg hc]
    · rintro ⟨t, -, hi⟩
      replace hi : i ∈ ((View.whole main_v0_2).slice (win0_10.rect t)).set := hi
      rw [View.set_slice_whole, Rect.mem_set_unit] at hi
      have h2 : win0_10.index t 1 * 1024 ≤ (i 1 : Nat) ∧ (i 1 : Nat) < win0_10.index t 1 * 1024 + 1024 := hi 1
      rw [(idx_10 t).2] at h2
      omega

/-- The array of the biases' gradients. -/
def arr_11 : Buf (Elt Ideal) ((c : Thread nD τ).loc main_v0_3) :=
  (fun i => inRows (∑ s, da m c s (i 1)) (∑ s, dp m c s (i 1)) (i 0) : Vec Ideal S8x4096 .f32)

theorem flushed_11 (t : Fin cfg0.N) (hf : (cfg0.win 11).flush t = true) :
    (dats m 0 c).flushed 11 t = ((cfg0.win 11).blk t).view.read (Elt Ideal) (arr_11 m c) := by
  show (cfg0.win 11).cut (grid0.coords t) ((dats m 0 c).after 11 t) = _
  rw [after0_11]
  have ht : t.val < 64 := t.isLt
  have h7 : t.val % 8 = 7 := (flush0_11 t).mp hf
  funext i
  rw [View.read_apply]
  have h0 : (i 0).val < 8 := (i 0).isLt
  have h1 : (i 1).val < 512 := (i 1).isLt
  have e : (cfg0.win 11).cut (grid0.coords t) (outsAt0 m c t.val t.isLt).2.2.2 i
      = (outsAt0 m c t.val t.isLt).2.2.2 (ix2 ⟨(i 0).val, h0⟩ ⟨(i 1).val, h1⟩) := by
    refine congrArg (outsAt0 m c t.val t.isLt).2.2.2 (funext fun a => Fin.ext ?_)
    match a with
    | ⟨0, _⟩ => rfl
    | ⟨1, _⟩ => rfl
  have hb : (((cfg0.win 11).blk t).view.emb i 0).val = (i 0).val := by
    show win0_11.index t 0 * 8 + 1 * (i 0).val = _
    rw [(idx_11 t).1]; omega
  have hn : (((cfg0.win 11).blk t).view.emb i 1).val = 512 * (t.val / 8) + (i 1).val := by
    show win0_11.index t 1 * 512 + 1 * (i 1).val = _
    rw [(idx_11 t).2]; omega
  refine e.trans ((sums_upTo m c 7 t _ _ _ h7 hn).trans ?_)
  rw [show 512 * 7 + 512 = 4096 from rfl, upTo_all, upTo_all]
  exact congrArg (inRows _ _) (Fin.ext hb.symm)

theorem final_11 : (dats m 0 c).arrAt 11 cfg0.N = arr_11 m c := by
  funext i
  rw [(dats m 0 c).arrAt_eq_piecewise 11 (arr_11 m c) (flushed_11 m c) i]
  have h0 : (i 0 : Nat) < 8 := (i 0).isLt
  have h1 : (i 1 : Nat) < 4096 := (i 1).isLt
  refine if_pos ?_
  let t : Fin cfg0.N := ⟨8 * ((i 1 : Nat) / 512) + 7, by show _ < 64; omega⟩
  have ht : t.val = 8 * ((i 1 : Nat) / 512) + 7 := rfl
  refine ⟨t, (flush0_11 t).mpr (by omega), ?_⟩
  show i ∈ ((View.whole main_v0_3).slice (win0_11.rect t)).set
  rw [View.set_slice_whole, Rect.mem_set_unit]
  intro a
  match a with
  | ⟨0, _⟩ => show win0_11.index t 0 * 8 ≤ (i 0 : Nat) ∧ (i 0 : Nat) < win0_11.index t 0 * 8 + 8
              rw [(idx_11 t).1]; omega
  | ⟨1, _⟩ => show win0_11.index t 1 * 512 ≤ (i 1 : Nat) ∧ (i 1 : Nat) < win0_11.index t 1 * 512 + 512
              rw [(idx_11 t).2]; omega

/-- The host's slice: the gates' columns. -/
def cols (x : Vec Ideal S4096x20480 .bf16) : Vec Ideal S4096x8192 .bf16 := extractStridedSlice S4096x8192 ![0, 12288] x slices_S4096x20480_S4096x8192_0_12288

def arr_v1 : Buf (Elt Ideal) ((c : Thread nD τ).loc main_v1) := cols (arr_10 m c)

theorem arr_v1_at (s : Fin 4096) (p : Fin 8192) : (arr_v1 m c : Vec Ideal S4096x8192 .bf16) (ix2 s p) = dcol (da m c s) (dp m c s) p := by
  refine (extractStridedSlice_apply ![0, 12288] _ slices_S4096x20480_S4096x8192_0_12288 (ix2 s p) (ix2 s ⟨12288 + p.val, by omega⟩) (fun a => match a with
    | ⟨0, _⟩ => by show s.val = 0 + s.val; omega
    | ⟨1, _⟩ => by show 12288 + p.val = 12288 + p.val; rfl)).trans ?_
  refine (dif_pos (show 12288 ≤ 12288 + p.val by omega)).trans ?_
  exact congrArg (dcol _ _) (Fin.ext (show 12288 + p.val - 12288 = p.val by omega))

/-- The four results. -/
theorem run_results (g : Dev nD → PrngReg) : θ_run defs (onTc (τ := τ) (main (F := Ideal))) ⟨m, fun _ => 0, g⟩
    (fun r => ∀ c : Dev nD, r.2.mem ((c.tc : Thread nD τ).loc main_v0_0) = arr_8 m c ∧ r.2.mem ((c.tc : Thread nD τ).loc main_v0_1) = arr_9 m c
      ∧ r.2.mem ((c.tc : Thread nD τ).loc main_v1) = arr_v1 m c ∧ r.2.mem ((c.tc : Thread nD τ).loc main_v0_3) = arr_11 m c) := by
  refine (θ_run _ _ _).mono (fun r h c => ⟨?_, ?_, ?_, ?_⟩) (run_main m g)
  · exact ((h c).1 8).trans (final_8 m c)
  · exact ((h c).1 9).trans (final_9 m c)
  · refine ((h c).2 main_v1 (Pipeline.mem_restRefs_of main_v1 (by decide) (by decide))).trans ?_
    show cols (Pipeline.withArrays (cfgs 0).spec c (V0 m c) (fun w => (dats m 0 c).arrAt w (cfgs 0).N) (Proc.devRef .tc main_v0_2) : Vec Ideal S4096x20480 .bf16) = _
    unfold arr_v1
    exact congrArg cols (((dats m 0 c).withArrays_arrAt (by decide) (V0 m c) (A_eq m c) 10).trans (final_10 m c))
  · exact ((h c).1 11).trans (final_11 m c)

end Cert.KernelGateIdeal.Bwd

end
-- ==== Proof.Gate.RefGate.lean ====
/- What the gates' backward reference leaves in its four result arrays. -/
module

public import proofs.«01_k».proof.Proof.Gate.Spec
public import proofs.«01_k».proof.Proof.Gen.ReferenceGateIdeal.Read
public import Idealize.ShloMosaic.Lib.Pipeline.Value
public import Idealize.ShloMosaic.Lib.Pointwise
public import Idealize.ShloMosaic.Lib.ValueIdx
public import Idealize.ShloMosaic.Lib.IdealHost

@[expose] public section

set_option maxRecDepth 16384

noncomputable section

namespace Cert.ReferenceGateIdeal.Bwd

open Cert.ReferenceGateIdeal Cert.ReferenceGateIdeal.Gen Cert.ReferenceGateIdeal.Read Cert.Gates
open Idealize.ShloMosaic Idealize.ShloMosaic.TcCoe Idealize.ShloMosaic.Tactic

/-- The output projection's two blocks side by side. -/
theorem weight_lo (x1 : Vec Ideal S4096x1024 .bf16) (x2 : Vec Ideal S4096x3072 .bf16) (n : Fin 4096) (a : Fin 1024) :
    val_main_v1 (F := Ideal) x1 x2 (ix2 n (Fin.castAdd 3072 a)) = x1 (ix2 n a) := by
  show val_main_v0 (F := Ideal) x1 x2 (ix2 n (Fin.castAdd 3072 a)) = _
  unfold val_main_v0
  exact concatenate_apply_piece (t := S4096x4096) 1 [⟨S4096x1024, x1⟩, ⟨S4096x3072, x2⟩] _ (ix2 n (Fin.castAdd 3072 a)) 0 (by show 0 < 2; decide) S4096x1024 x1 rfl rfl 0 rfl (ix2 n a) (fun b hb => match b with
    | ⟨0, _⟩ => rfl
    | ⟨1, _⟩ => absurd rfl hb) (by show 0 + a.val = a.val; omega)

theorem weight_hi (x1 : Vec Ideal S4096x1024 .bf16) (x2 : Vec Ideal S4096x3072 .bf16) (n : Fin 4096) (a : Fin 3072) :
    val_main_v1 (F := Ideal) x1 x2 (ix2 n (Fin.natAdd 1024 a)) = x2 (ix2 n a) := by
  show val_main_v0 (F := Ideal) x1 x2 (ix2 n (Fin.natAdd 1024 a)) = _
  unfold val_main_v0
  exact concatenate_apply_piece (t := S4096x4096) 1 [⟨S4096x1024, x1⟩, ⟨S4096x3072, x2⟩] _ (ix2 n (Fin.natAdd 1024 a)) 1 (by show 1 < 2; decide) S4096x3072 x2 rfl rfl 1024 rfl (ix2 n a) (fun b hb => match b with
    | ⟨0, _⟩ => rfl
    | ⟨1, _⟩ => absurd rfl hb) (by show 1024 + a.val = 1024 + a.val; rfl)

/-- The gradient behind the output projection. -/
theorem dm_at (x0 : Vec Ideal S4096x4096 .bf16) (x1 : Vec Ideal S4096x1024 .bf16) (x2 : Vec Ideal S4096x3072 .bf16) (s n : Fin 4096) :
    val_main_v46 (F := Ideal) x0 x1 x2 (ix2 s n) = back (fun s a => x0 (ix2 s a)) (fun n a => x1 (ix2 n a)) (fun n a => x2 (ix2 n a)) s n := by
  rw [val_main_v46_apply]
  refine Eq.trans (Finset.sum_congr rfl fun d _ => ?_) (back_eq (fun s a => x0 (ix2 s a)) (fun n a => x1 (ix2 n a)) (fun n a => x2 (ix2 n a)) s n
    (fun a => val_main_v1 (F := Ideal) x1 x2 (ix2 n a)) (weight_lo x1 x2 n) (weight_hi x1 x2 n))
  have e1 : lidx_main_v46 (ix2 s n) d = ix2 s d := funext fun a => match a with
    | ⟨0, _⟩ => rfl
    | ⟨1, _⟩ => rfl
  have e2 : ridx_main_v46 (ix2 s n) d = ix2 n d := funext fun a => match a with
    | ⟨0, _⟩ => rfl
    | ⟨1, _⟩ => rfl
  rw [e1, e2]
  rfl

theorem col_a (x5 : Vec Ideal S4096x20480 .bf16) (s n : Fin 4096) : val_main_v7 (F := Ideal) x5 (ix2 s n) = x5 (ix2 s (gateCol 0 n)) := by
  rw [val_main_v7_apply]
  have e5 : idx_main_v7 (ix2 s n) = ix3 s ⟨n.val / 512, by omega⟩ ⟨n.val % 512, by omega⟩ := funext fun d => Fin.ext (match d with
    | ⟨0, _⟩ => by show (s.val * 4096 + n.val) / 4096 = s.val; omega
    | ⟨1, _⟩ => by show (s.val * 4096 + n.val) / 512 % 8 = n.val / 512; omega
    | ⟨2, _⟩ => by show (s.val * 4096 + n.val) % 512 = n.val % 512; omega)
  refine (congrArg (val_main_v6 (F := Ideal) x5) e5).trans ?_
  have e4 : idx_main_v6 (ix3 s ⟨n.val / 512, by omega⟩ ⟨n.val % 512, by omega⟩) = ix4 s ⟨n.val / 512, by omega⟩ 0 ⟨n.val % 512, by omega⟩ := funext fun d => Fin.ext (match d with
    | ⟨0, _⟩ => by show ((s.val * 8 + n.val / 512) * 512 + n.val % 512) / 4096 = s.val; omega
    | ⟨1, _⟩ => by show ((s.val * 8 + n.val / 512) * 512 + n.val % 512) / 512 % 8 = n.val / 512; omega
    | ⟨2, _⟩ => rfl
    | ⟨3, _⟩ => by show ((s.val * 8 + n.val / 512) * 512 + n.val % 512) % 512 = n.val % 512; omega)
  rw [val_main_v6_apply]
  refine (congrArg (val_main_v5 (F := Ideal) x5) e4).trans ?_
  rw [val_main_v5_apply, val_main_v4_apply, val_main_v3_apply, val_main_v2_apply]
  refine congrArg x5 (funext fun d => Fin.ext ?_)
  match d with
  | ⟨0, _⟩ => show (((s.val * 8 + n.val / 512) * 2 + 0) * 512 + n.val % 512) / 8192 = s.val
              omega
  | ⟨1, _⟩ => show 12288 + (((s.val * 8 + n.val / 512) * 2 + 0) * 512 + n.val % 512) % 8192 = 12288 + 512 * (2 * (n.val / 512) + 0) + n.val % 512
              omega

theorem bias_a (x6 : Vec Ideal S2x4096 .f32) (s n : Fin 4096) : val_main_v18 (F := Ideal) x6 (ix2 s n) = x6 (ix2 0 n) := by
  rw [val_main_v18_apply, val_main_v17_apply, val_main_v12_apply, val_main_v11_apply]
  refine congrArg x6 (funext fun d => Fin.ext ?_)
  match d with
  | ⟨0, _⟩ => rfl
  | ⟨1, _⟩ => show n.val % 4096 = n.val
              omega

theorem sig_a (x5 : Vec Ideal S4096x20480 .bf16) (x6 : Vec Ideal S2x4096 .f32) (s n : Fin 4096) :
    val_main_v25 (F := Ideal) x5 x6 (ix2 s n) = gate (x5 (ix2 s (gateCol 0 n)) + x6 (ix2 0 n)) := by
  rw [val_main_v25_apply, val_main_v24_apply, val_main_v23_apply, val_main_v22_apply, val_main_v21_apply, val_main_v20_apply, val_main_v19_apply, col_a, bias_a]
  show Ideal.div (Ideal.ofBits .f32 0x3F800000#32) (Ideal.ofBits .f32 0x3F800000#32 + Ideal.exp (-_)) = _
  rw [Ideal.ofBits_one_f32]
  rfl

theorem col_p (x5 : Vec Ideal S4096x20480 .bf16) (s n : Fin 4096) : val_main_v10 (F := Ideal) x5 (ix2 s n) = x5 (ix2 s (gateCol 1 n)) := by
  rw [val_main_v10_apply]
  have e5 : idx_main_v10 (ix2 s n) = ix3 s ⟨n.val / 512, by omega⟩ ⟨n.val % 512, by omega⟩ := funext fun d => Fin.ext (match d with
    | ⟨0, _⟩ => by show (s.val * 4096 + n.val) / 4096 = s.val; omega
    | ⟨1, _⟩ => by show (s.val * 4096 + n.val) / 512 % 8 = n.val / 512; omega
    | ⟨2, _⟩ => by show (s.val * 4096 + n.val) % 512 = n.val % 512; omega)
  refine (congrArg (val_main_v9 (F := Ideal) x5) e5).trans ?_
  have e4 : idx_main_v9 (ix3 s ⟨n.val / 512, by omega⟩ ⟨n.val % 512, by omega⟩) = ix4 s ⟨n.val / 512, by omega⟩ 0 ⟨n.val % 512, by omega⟩ := funext fun d => Fin.ext (match d with
    | ⟨0, _⟩ => by show ((s.val * 8 + n.val / 512) * 512 + n.val % 512) / 4096 = s.val; omega
    | ⟨1, _⟩ => by show ((s.val * 8 + n.val / 512) * 512 + n.val % 512) / 512 % 8 = n.val / 512; omega
    | ⟨2, _⟩ => rfl
    | ⟨3, _⟩ => by show ((s.val * 8 + n.val / 512) * 512 + n.val % 512) % 512 = n.val % 512; omega)
  rw [val_main_v9_apply]
  refine (congrArg (val_main_v8 (F := Ideal) x5) e4).trans ?_
  rw [val_main_v8_apply, val_main_v4_apply, val_main_v3_apply, val_main_v2_apply]
  refine congrArg x5 (funext fun d => Fin.ext ?_)
  match d with
  | ⟨0, _⟩ => show (((s.val * 8 + n.val / 512) * 2 + 1) * 512 + n.val % 512) / 8192 = s.val
              omega
  | ⟨1, _⟩ => show 12288 + (((s.val * 8 + n.val / 512) * 2 + 1) * 512 + n.val % 512) % 8192 = 12288 + 512 * (2 * (n.val / 512) + 1) + n.val % 512
              omega

theorem bias_p (x6 : Vec Ideal S2x4096 .f32) (s n : Fin 4096) : val_main_v31 (F := Ideal) x6 (ix2 s n) = x6 (ix2 1 n) := by
  rw [val_main_v31_apply, val_main_v30_apply, val_main_v14_apply, val_main_v13_apply]
  refine congrArg x6 (funext fun d => Fin.ext ?_)
  match d with
  | ⟨0, _⟩ => rfl
  | ⟨1, _⟩ => show n.val % 4096 = n.val
              omega

theorem sig_p (x5 : Vec Ideal S4096x20480 .bf16) (x6 : Vec Ideal S2x4096 .f32) (s n : Fin 4096) :
    val_main_v38 (F := Ideal) x5 x6 (ix2 s n) = gate (x5 (ix2 s (gateCol 1 n)) + x6 (ix2 1 n)) := by
  rw [val_main_v38_apply, val_main_v37_apply, val_main_v36_apply, val_main_v35_apply, val_main_v34_apply, val_main_v33_apply, val_main_v32_apply, col_p, bias_p]
  show Ideal.div (Ideal.ofBits .f32 0x3F800000#32) (Ideal.ofBits .f32 0x3F800000#32 + Ideal.exp (-_)) = _
  rw [Ideal.ofBits_one_f32]
  rfl

theorem branch_a (x0 : Vec Ideal S4096x4096 .bf16) (x1 : Vec Ideal S4096x1024 .bf16) (x2 : Vec Ideal S4096x3072 .bf16) (x5 : Vec Ideal S4096x20480 .bf16) (x6 : Vec Ideal S2x4096 .f32) (s n : Fin 4096) :
    val_main_v53 (F := Ideal) x0 x1 x2 x5 x6 (ix2 s n) = toBranch (back (fun s a => x0 (ix2 s a)) (fun n a => x1 (ix2 n a)) (fun n a => x2 (ix2 n a)) s n) (x5 (ix2 s (gateCol 0 n)) + x6 (ix2 0 n)) := by
  rw [val_main_v53_apply, sig_a, dm_at]
  exact mul_comm _ _

theorem grad_a (x0 : Vec Ideal S4096x4096 .bf16) (x1 : Vec Ideal S4096x1024 .bf16) (x2 : Vec Ideal S4096x3072 .bf16) (x3 : Vec Ideal S4096x4096 .bf16) (x5 : Vec Ideal S4096x20480 .bf16) (x6 : Vec Ideal S2x4096 .f32) (s n : Fin 4096) :
    val_main_v55 (F := Ideal) x0 x1 x2 x3 x5 x6 (ix2 s n) = toGate (back (fun s a => x0 (ix2 s a)) (fun n a => x1 (ix2 n a)) (fun n a => x2 (ix2 n a)) s n) (x3 (ix2 s n)) (x5 (ix2 s (gateCol 0 n)) + x6 (ix2 0 n)) := by
  rw [val_main_v55_apply, val_main_v54_apply, val_main_v15_apply, val_main_v28_apply, val_main_v27_apply, val_main_v26_apply, sig_a, dm_at]
  unfold toGate
  show _ * _ * (_ * (Ideal.ofBits .f32 0x3F800000#32 - _)) = _
  rw [Ideal.ofBits_one_f32, ← mul_assoc]
  rfl

theorem branch_p (x0 : Vec Ideal S4096x4096 .bf16) (x1 : Vec Ideal S4096x1024 .bf16) (x2 : Vec Ideal S4096x3072 .bf16) (x5 : Vec Ideal S4096x20480 .bf16) (x6 : Vec Ideal S2x4096 .f32) (s n : Fin 4096) :
    val_main_v47 (F := Ideal) x0 x1 x2 x5 x6 (ix2 s n) = toBranch (back (fun s a => x0 (ix2 s a)) (fun n a => x1 (ix2 n a)) (fun n a => x2 (ix2 n a)) s n) (x5 (ix2 s (gateCol 1 n)) + x6 (ix2 1 n)) := by
  rw [val_main_v47_apply, sig_p, dm_at]
  exact mul_comm _ _

theorem grad_p (x0 : Vec Ideal S4096x4096 .bf16) (x1 : Vec Ideal S4096x1024 .bf16) (x2 : Vec Ideal S4096x3072 .bf16) (x4 : Vec Ideal S4096x4096 .bf16) (x5 : Vec Ideal S4096x20480 .bf16) (x6 : Vec Ideal S2x4096 .f32) (s n : Fin 4096) :
    val_main_v49 (F := Ideal) x0 x1 x2 x4 x5 x6 (ix2 s n) = toGate (back (fun s a => x0 (ix2 s a)) (fun n a => x1 (ix2 n a)) (fun n a => x2 (ix2 n a)) s n) (x4 (ix2 s n)) (x5 (ix2 s (gateCol 1 n)) + x6 (ix2 1 n)) := by
  rw [val_main_v49_apply, val_main_v48_apply, val_main_v16_apply, val_main_v41_apply, val_main_v40_apply, val_main_v39_apply, sig_p, dm_at]
  unfold toGate
  show _ * _ * (_ * (Ideal.ofBits .f32 0x3F800000#32 - _)) = _
  rw [Ideal.ofBits_one_f32, ← mul_assoc]
  rfl

theorem sum_a (x0 : Vec Ideal S4096x4096 .bf16) (x1 : Vec Ideal S4096x1024 .bf16) (x2 : Vec Ideal S4096x3072 .bf16) (x3 : Vec Ideal S4096x4096 .bf16) (x5 : Vec Ideal S4096x20480 .bf16) (x6 : Vec Ideal S2x4096 .f32) (n : Fin 4096) :
    val_main_v58 (F := Ideal) x0 x1 x2 x3 x5 x6 (ix1 n) = ∑ s, val_main_v55 (F := Ideal) x0 x1 x2 x3 x5 x6 (ix2 s n) := by
  rw [val_main_v58_apply, Fin.sum_univ_one, val_main_v57_apply, val_main_v56_apply]
  show Ideal.ofBits .f32 0x00000000#32 + (Ideal.ofBits .f32 0x00000000#32 + _) = _
  rw [Ideal.ofBits_zero_f32, zero_add, zero_add]
  refine Finset.sum_congr rfl fun s _ => congrArg (val_main_v55 (F := Ideal) x0 x1 x2 x3 x5 x6) (funext fun a => Fin.ext ?_)
  match a with
  | ⟨0, _⟩ => rfl
  | ⟨1, _⟩ => show 0 * 4096 + n.val = n.val
              omega

theorem sum_p (x0 : Vec Ideal S4096x4096 .bf16) (x1 : Vec Ideal S4096x1024 .bf16) (x2 : Vec Ideal S4096x3072 .bf16) (x4 : Vec Ideal S4096x4096 .bf16) (x5 : Vec Ideal S4096x20480 .bf16) (x6 : Vec Ideal S2x4096 .f32) (n : Fin 4096) :
    val_main_v52 (F := Ideal) x0 x1 x2 x4 x5 x6 (ix1 n) = ∑ s, val_main_v49 (F := Ideal) x0 x1 x2 x4 x5 x6 (ix2 s n) := by
  rw [val_main_v52_apply, Fin.sum_univ_one, val_main_v51_apply, val_main_v50_apply]
  show Ideal.ofBits .f32 0x00000000#32 + (Ideal.ofBits .f32 0x00000000#32 + _) = _
  rw [Ideal.ofBits_zero_f32, zero_add, zero_add]
  refine Finset.sum_congr rfl fun s _ => congrArg (val_main_v49 (F := Ideal) x0 x1 x2 x4 x5 x6) (funext fun a => Fin.ext ?_)
  match a with
  | ⟨0, _⟩ => rfl
  | ⟨1, _⟩ => show 0 * 4096 + n.val = n.val
              omega

/-- The two gates' gradients, tile by tile. -/
theorem tiles_at (x0 : Vec Ideal S4096x4096 .bf16) (x1 : Vec Ideal S4096x1024 .bf16) (x2 : Vec Ideal S4096x3072 .bf16) (x3 x4 : Vec Ideal S4096x4096 .bf16) (x5 : Vec Ideal S4096x20480 .bf16) (x6 : Vec Ideal S2x4096 .f32) (s : Fin 4096) (p : Fin 8192) :
    val_main_v67 (F := Ideal) x0 x1 x2 x3 x4 x5 x6 (ix2 s p)
      = dcol (fun n => val_main_v55 (F := Ideal) x0 x1 x2 x3 x5 x6 (ix2 s n)) (fun n => val_main_v49 (F := Ideal) x0 x1 x2 x4 x5 x6 (ix2 s n)) p := by
  rw [val_main_v67_apply, val_main_v64_apply]
  show val_main_v63 (F := Ideal) x0 x1 x2 x3 x4 x5 x6 _ = _
  have e : idx_main_v64 (ix2 s p) = ix4 s ⟨p.val / 1024, by omega⟩ ⟨p.val / 512 % 2, by omega⟩ ⟨p.val % 512, by omega⟩ := funext fun d => Fin.ext (match d with
    | ⟨0, _⟩ => by show (s.val * 8192 + p.val) / 8192 = s.val; omega
    | ⟨1, _⟩ => by show (s.val * 8192 + p.val) / 1024 % 8 = p.val / 1024; omega
    | ⟨2, _⟩ => by show (s.val * 8192 + p.val) / 512 % 2 = p.val / 512 % 2; omega
    | ⟨3, _⟩ => by show (s.val * 8192 + p.val) % 512 = p.val % 512; omega)
  refine (congrArg (val_main_v63 (F := Ideal) x0 x1 x2 x3 x4 x5 x6) e).trans ?_
  unfold dcol val_main_v63
  by_cases h : p.val / 512 % 2 = 0
  · rw [if_pos h]
    refine (concatenate_apply_piece (t := S4096x8x2x512) 2 [⟨S4096x8x1x512, val_main_v61 (F := Ideal) x0 x1 x2 x3 x5 x6⟩, ⟨S4096x8x1x512, val_main_v62 (F := Ideal) x0 x1 x2 x4 x5 x6⟩] _
      (ix4 s ⟨p.val / 1024, by omega⟩ ⟨p.val / 512 % 2, by omega⟩ ⟨p.val % 512, by omega⟩) 0 (by show 0 < 2; decide) S4096x8x1x512 (val_main_v61 (F := Ideal) x0 x1 x2 x3 x5 x6) rfl rfl 0 rfl
      (ix4 s ⟨p.val / 1024, by omega⟩ 0 ⟨p.val % 512, by omega⟩) (fun b hb => match b with
        | ⟨0, _⟩ => rfl
        | ⟨1, _⟩ => rfl
        | ⟨2, _⟩ => absurd rfl hb
        | ⟨3, _⟩ => rfl) (by show 0 + 0 = p.val / 512 % 2; omega)).trans ?_
    rw [val_main_v61_apply, val_main_v59_apply]
    refine congrArg (val_main_v55 (F := Ideal) x0 x1 x2 x3 x5 x6) (funext fun d => Fin.ext ?_)
    match d with
    | ⟨0, _⟩ => show ((s.val * 8 + p.val / 1024) * 512 + p.val % 512) / 4096 = s.val
                omega
    | ⟨1, _⟩ => show ((s.val * 8 + p.val / 1024) * 512 + p.val % 512) % 4096 = 512 * (p.val / 1024) + p.val % 512
                omega
  · rw [if_neg h]
    refine (concatenate_apply_piece (t := S4096x8x2x512) 2 [⟨S4096x8x1x512, val_main_v61 (F := Ideal) x0 x1 x2 x3 x5 x6⟩, ⟨S4096x8x1x512, val_main_v62 (F := Ideal) x0 x1 x2 x4 x5 x6⟩] _
      (ix4 s ⟨p.val / 1024, by omega⟩ ⟨p.val / 512 % 2, by omega⟩ ⟨p.val % 512, by omega⟩) 1 (by show 1 < 2; decide) S4096x8x1x512 (val_main_v62 (F := Ideal) x0 x1 x2 x4 x5 x6) rfl rfl 1 rfl
      (ix4 s ⟨p.val / 1024, by omega⟩ 0 ⟨p.val % 512, by omega⟩) (fun b hb => match b with
        | ⟨0, _⟩ => rfl
        | ⟨1, _⟩ => rfl
        | ⟨2, _⟩ => absurd rfl hb
        | ⟨3, _⟩ => rfl) (by show 1 + 0 = p.val / 512 % 2; omega)).trans ?_
    rw [val_main_v62_apply, val_main_v60_apply]
    refine congrArg (val_main_v49 (F := Ideal) x0 x1 x2 x4 x5 x6) (funext fun d => Fin.ext ?_)
    match d with
    | ⟨0, _⟩ => show ((s.val * 8 + p.val / 1024) * 512 + p.val % 512) / 4096 = s.val
                omega
    | ⟨1, _⟩ => show ((s.val * 8 + p.val / 1024) * 512 + p.val % 512) % 4096 = 512 * (p.val / 1024) + p.val % 512
                omega

/-- The biases' gradients in rows 0 and 1. -/
theorem rows_at (x0 : Vec Ideal S4096x4096 .bf16) (x1 : Vec Ideal S4096x1024 .bf16) (x2 : Vec Ideal S4096x3072 .bf16) (x3 x4 : Vec Ideal S4096x4096 .bf16) (x5 : Vec Ideal S4096x20480 .bf16) (x6 : Vec Ideal S2x4096 .f32) (b : Fin 8) (n : Fin 4096) :
    val_main_v71 (F := Ideal) x0 x1 x2 x3 x4 x5 x6 (ix2 b n)
      = inRows (∑ s, val_main_v55 (F := Ideal) x0 x1 x2 x3 x5 x6 (ix2 s n)) (∑ s, val_main_v49 (F := Ideal) x0 x1 x2 x4 x5 x6 (ix2 s n)) b := by
  unfold inRows val_main_v71
  by_cases h : b.val = 0
  · rw [if_pos h]
    refine (concatenate_apply_piece (t := S8x4096) 0 [⟨S1x4096, val_main_v68 (F := Ideal) x0 x1 x2 x3 x5 x6⟩, ⟨S1x4096, val_main_v69 (F := Ideal) x0 x1 x2 x4 x5 x6⟩, ⟨S6x4096, val_main_v70 (F := Ideal)⟩] _
      (ix2 b n) 0 (by show 0 < 3; decide) S1x4096 (val_main_v68 (F := Ideal) x0 x1 x2 x3 x5 x6) rfl rfl 0 rfl (ix2 0 n) (fun b hb => match b with
        | ⟨0, _⟩ => absurd rfl hb
        | ⟨1, _⟩ => rfl) (by show 0 + 0 = b.val; omega)).trans ?_
    rw [val_main_v68_apply]
    refine Eq.trans (congrArg (val_main_v58 (F := Ideal) x0 x1 x2 x3 x5 x6) (funext fun a => ?_)) (sum_a x0 x1 x2 x3 x5 x6 n)
    match a with
    | ⟨0, _⟩ => rfl
  · rw [if_neg h]
    by_cases h1 : b.val = 1
    · rw [if_pos h1]
      refine (concatenate_apply_piece (t := S8x4096) 0 [⟨S1x4096, val_main_v68 (F := Ideal) x0 x1 x2 x3 x5 x6⟩, ⟨S1x4096, val_main_v69 (F := Ideal) x0 x1 x2 x4 x5 x6⟩, ⟨S6x4096, val_main_v70 (F := Ideal)⟩] _
        (ix2 b n) 1 (by show 1 < 3; decide) S1x4096 (val_main_v69 (F := Ideal) x0 x1 x2 x4 x5 x6) rfl rfl 1 rfl (ix2 0 n) (fun b hb => match b with
          | ⟨0, _⟩ => absurd rfl hb
          | ⟨1, _⟩ => rfl) (by show 1 + 0 = b.val; omega)).trans ?_
      rw [val_main_v69_apply]
      refine Eq.trans (congrArg (val_main_v52 (F := Ideal) x0 x1 x2 x4 x5 x6) (funext fun a => ?_)) (sum_p x0 x1 x2 x4 x5 x6 n)
      match a with
      | ⟨0, _⟩ => rfl
    · rw [if_neg h1]
      refine (concatenate_apply_piece (t := S8x4096) 0 [⟨S1x4096, val_main_v68 (F := Ideal) x0 x1 x2 x3 x5 x6⟩, ⟨S1x4096, val_main_v69 (F := Ideal) x0 x1 x2 x4 x5 x6⟩, ⟨S6x4096, val_main_v70 (F := Ideal)⟩] _
        (ix2 b n) 2 (by show 2 < 3; decide) S6x4096 (val_main_v70 (F := Ideal)) rfl rfl 2 rfl (ix2 ⟨b.val - 2, by omega⟩ n) (fun b hb => match b with
          | ⟨0, _⟩ => absurd rfl hb
          | ⟨1, _⟩ => rfl) (by show 2 + (b.val - 2) = b.val; omega)).trans ?_
      rw [val_main_v70_apply]
      exact Ideal.ofBits_zero_f32

end Cert.ReferenceGateIdeal.Bwd

end
-- ==== Proof.Gate.Gate.lean ====
/- The gates' backward pass: its kernel equals its reference. -/
module

public import proofs.«01_k».proof.Defs
public import proofs.«01_k».proof.Proof.Gate.KernelGate
public import proofs.«01_k».proof.Proof.Gate.RefGate
public import proofs.«01_k».proof.Proof.Gen.KernelGate
public import proofs.«01_k».proof.Proof.Gen.KernelGate.Frame
public import proofs.«01_k».proof.Proof.Gen.ReferenceGateIdeal.Run
public import Idealize.ShloMosaic.Lib.QuiescentFlight
public import Idealize.ShloMosaic.Init

@[expose] public section

set_option maxRecDepth 16384

noncomputable section

namespace Cert.Proof.Gate

open Idealize.ShloMosaic Idealize.ShloMosaic.TcCoe Idealize.SL.Sem
open Cert.Gates

theorem frame_R : Cert.quiescent_ReferenceGateIdeal := fun m g _ =>
  (θ_run Cert.ReferenceGateIdeal.defs _ _).mono (fun r h => ⟨fun c => (h c).2.2.2.2, sem_eq_zero_of_no_sems (by decide) r.2⟩)
    (Cert.ReferenceGateIdeal.Value.run (F := Ideal) m g)

theorem algebraic : Cert.algebraic_KernelGateIdeal_ReferenceGateIdeal := by
  intro m g m' g' _ hagree
  refine ⟨Cert.KernelGateIdeal.Bwd.arr_8 m, Cert.KernelGateIdeal.Bwd.arr_9 m, Cert.KernelGateIdeal.Bwd.arr_v1 m, Cert.KernelGateIdeal.Bwd.arr_11 m, ?_, ?_⟩
  · exact (θ_run _ _ _).mono (fun _ h c => ⟨(h.1 c).1, (h.1 c).2.1, (h.1 c).2.2.1, (h.1 c).2.2.2, h.2 c⟩)
      (θ_run_and (Cert.KernelGateIdeal.Bwd.run_results m g) (Cert.KernelGateIdeal.Gen.unchanged m g))
  · refine (θ_run _ _ _).mono (fun _ h c => ⟨(h c).1.trans ?_, (h c).2.1.trans ?_, (h c).2.2.1.trans ?_, (h c).2.2.2.1.trans ?_, (h c).2.2.2.2⟩)
      (Cert.ReferenceGateIdeal.Value.run (F := Ideal) m' g')
    · obtain ⟨a0, a1, a2, a3, a4, a5, a6⟩ := hagree c
      rw [Cert.ReferenceGateIdeal.Read.val_main_v65_eq, a0, a1, a2, a5, a6]
      funext j
      have ej : Idealize.ShloMosaic.ValueIdx.ix2 (j 0) (j 1) = j := funext fun a => match a with
        | ⟨0, _⟩ => rfl
        | ⟨1, _⟩ => rfl
      exact Eq.trans (congrArg _ ej.symm) (Cert.ReferenceGateIdeal.Bwd.branch_a _ _ _ _ _ (j 0) (j 1))
    · obtain ⟨a0, a1, a2, a3, a4, a5, a6⟩ := hagree c
      rw [Cert.ReferenceGateIdeal.Read.val_main_v66_eq, a0, a1, a2, a5, a6]
      funext j
      have ej : Idealize.ShloMosaic.ValueIdx.ix2 (j 0) (j 1) = j := funext fun a => match a with
        | ⟨0, _⟩ => rfl
        | ⟨1, _⟩ => rfl
      exact Eq.trans (congrArg _ ej.symm) (Cert.ReferenceGateIdeal.Bwd.branch_p _ _ _ _ _ (j 0) (j 1))
    · obtain ⟨a0, a1, a2, a3, a4, a5, a6⟩ := hagree c
      rw [Cert.ReferenceGateIdeal.Read.val_main_v67_eq, a0, a1, a2, a3, a4, a5, a6]
      funext j
      have ej : Idealize.ShloMosaic.ValueIdx.ix2 (j 0) (j 1) = j := funext fun a => match a with
        | ⟨0, _⟩ => rfl
        | ⟨1, _⟩ => rfl
      refine Eq.trans (congrArg _ ej.symm) ((Cert.ReferenceGateIdeal.Bwd.tiles_at _ _ _ _ _ _ _ (j 0) (j 1)).trans ?_)
      refine Eq.trans ?_ ((congrArg (Cert.KernelGateIdeal.Bwd.arr_v1 m c) ej.symm).trans (Cert.KernelGateIdeal.Bwd.arr_v1_at m c (j 0) (j 1))).symm
      exact congrArg₂ (fun x y => dcol x y (j 1)) (funext fun n => Cert.ReferenceGateIdeal.Bwd.grad_a _ _ _ _ _ _ (j 0) n)
        (funext fun n => Cert.ReferenceGateIdeal.Bwd.grad_p _ _ _ _ _ _ (j 0) n)
    · obtain ⟨a0, a1, a2, a3, a4, a5, a6⟩ := hagree c
      rw [Cert.ReferenceGateIdeal.Read.val_main_v71_eq, a0, a1, a2, a3, a4, a5, a6]
      funext j
      have ej : Idealize.ShloMosaic.ValueIdx.ix2 (j 0) (j 1) = j := funext fun a => match a with
        | ⟨0, _⟩ => rfl
        | ⟨1, _⟩ => rfl
      refine Eq.trans (congrArg _ ej.symm) ((Cert.ReferenceGateIdeal.Bwd.rows_at _ _ _ _ _ _ _ (j 0) (j 1)).trans ?_)
      exact congrArg₂ (fun x y => inRows x y (j 0)) (Finset.sum_congr rfl fun s _ => Cert.ReferenceGateIdeal.Bwd.grad_a _ _ _ _ _ _ s (j 1))
        (Finset.sum_congr rfl fun s _ => Cert.ReferenceGateIdeal.Bwd.grad_p _ _ _ _ _ _ s (j 1))

end Cert.Proof.Gate

end
-- ==== Proof.Body.lean ====
/- The body of the attention backward kernel at one grid point, run over arbitrary staging buffers: what it leaves in
   each buffer, as a function of what the buffers held, in each of the three cases its conditions select. -/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The values -/

/-- The factor the scores are multiplied by. -/
abbrev sc : F .f32 := Scalar.ofBits .f32 0x3DB504F3#32

/-- A head's biases at (query of the block, key of the two-block window), −∞ outside the band. -/
def tile (b : Vec F S1x1x2048 .f32) : Vec F S512x1024 .f32 :=
  k0_pay18 (k0_pay14 b) k0_pay15 (iota .tc S512x1024 32 [1] iota_S512x1024_d1_w32) 64#32 k0_pay16 k0_pay17
    (Scalar.extui (Scalar.cmpi .sgt 64#32 0#32)) (Scalar.cmpi .slt 64#32 0#32)

/-- The columns of the window's second key block. -/
def tileR (b : Vec F S1x1x2048 .f32) : Vec F S512x512 .f32 :=
  View.ld (tile b) (Rect.unit (s := S512x1024) ![0, 512] S512x512.size inb_S512x1024_S512x512_0_512)

/-- A first query block's query gradient, -/
def dq0 (q kc vc g : Vec F S512x128 .bf16) (b : Vec F S1x1x2048 .f32) : Vec F S512x128 .bf16 :=
  k0_pay25 kc vc (tileR b) g (k0_pay20 kc q) sc
/-- its key gradient -/
def ak0 (q kc vc g : Vec F S512x128 .bf16) (b : Vec F S1x1x2048 .f32) : Vec F S512x128 .f32 :=
  k0_pay27 vc (tileR b) q g (k0_pay20 kc q) sc
/-- and its value gradient. -/
def av0 (q kc g : Vec F S512x128 .bf16) (b : Vec F S1x1x2048 .f32) : Vec F S512x128 .f32 :=
  k0_pay1 (k0_pay26 (tileR b) g (k0_pay20 kc q) sc)

/-- A first query block's score gradients, in the second half of the window; the first half is zero. -/
def ds0 (q kc vc g : Vec F S512x128 .bf16) (b : Vec F S1x1x2048 .f32) : Vec F S512x1024 .f32 :=
  View.canon [⟨Rect.unit ![0, 512] S512x512.size inb_S512x1024_S512x512_0_512,
      k0_pay23 vc (tileR b) g (k0_pay20 kc q) sc
        (View.ld k0_pay19 (Rect.unit (s := S512x1024) ![0, 512] S512x512.size inb_S512x1024_S512x512_0_512))⟩,
    ⟨Rect.unit ![0, 0] S512x1024.size inb_S512x1024_S512x1024_0_0, k0_pay19⟩]

/-- A later query block's query gradient, -/
def dq1 (q kp kc vp vc g : Vec F S512x128 .bf16) (tl : Vec F S512x1024 .f32) : Vec F S512x128 .bf16 :=
  k0_pay4 (k0_pay28 kp kc) (k0_pay32 kp kc vp vc tl q g)
/-- the key gradient of the block before it, finished, -/
def dk1 (q kp kc vp vc g : Vec F S512x128 .bf16) (tl : Vec F S512x1024 .f32) (ak : Vec F S512x128 .f32) : Vec F S512x128 .bf16 :=
  k0_pay7 q (k0_pay32 kp kc vp vc tl q g) ak
/-- the value gradient of the block before it, finished, -/
def dv1 (q kp kc g : Vec F S512x128 .bf16) (tl : Vec F S512x1024 .f32) (av : Vec F S512x128 .f32) : Vec F S512x128 .bf16 :=
  k0_pay8 g (k0_pay29 kp kc tl q) av
/-- its own part of its key gradient -/
def ak1 (q kp kc vp vc g : Vec F S512x128 .bf16) (tl : Vec F S512x1024 .f32) : Vec F S512x128 .f32 :=
  k0_pay9 q (k0_pay32 kp kc vp vc tl q g)
/-- and of its value gradient. -/
def av1 (q kp kc g : Vec F S512x128 .bf16) (tl : Vec F S512x1024 .f32) : Vec F S512x128 .f32 :=
  k0_pay10 g (k0_pay29 kp kc tl q)

/-! ## The body's conditions -/

abbrev cond0 (i : grid0.Coords) : Prop := k0_cond1 i = 1#1
abbrev cond1 (i : grid0.Coords) : Prop := k0_cond2 i = 1#1
abbrev cond2 (i : grid0.Coords) : Prop := k0_cond3 i = 1#1

theorem cond0_iff : ∀ t : Fin cfg0.N, cond0 (grid0.coords t) ↔ t.val % 9 = 0 :=
  (by decide +kernel : ∀ t : Fin grid0.N, cond0 (grid0.coords t) ↔ t.val % 9 = 0)
theorem cond1_iff : ∀ t : Fin cfg0.N, cond1 (grid0.coords t) ↔ (1 ≤ t.val % 9 ∧ t.val % 9 ≤ 7) :=
  (by decide +kernel : ∀ t : Fin grid0.N, cond1 (grid0.coords t) ↔ (1 ≤ t.val % 9 ∧ t.val % 9 ≤ 7))
theorem cond2_iff : ∀ t : Fin cfg0.N, cond2 (grid0.coords t) ↔ t.val % 9 = 8 :=
  (by decide +kernel : ∀ t : Fin grid0.N, cond2 (grid0.coords t) ↔ t.val % 9 = 8)

/-! ## The body -/

/-- The zero offsets of a rank-two or rank-three block. -/
theorem zero2 : (![0, 0] : Fin 2 → Nat) = fun _ => 0 := by decide
theorem zero3 : (![0, 0, 0] : Fin 3 → Nat) = fun _ => 0 := by decide

/-- Whatever a buffer held, a store of the whole block leaves the stored value to read. -/
theorem stored_whole {S : Shape} {e : EltTy} {sg : RefSig} {κ : Kind} {sp : Space} [∀ e, Nonempty (Elt F e)]
    (v : View sg κ sp S e) (f : v.ty.Contents (Elt F)) {off : Fin S.rank → Nat} (h : off = fun _ => 0)
    (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

/-- So does a store of a box over a store of the whole block, the box's value inside it. -/
theorem stored_box {S : Shape} {e : EltTy} {sg : RefSig} {κ : Kind} {sp : Space} [∀ e, Nonempty (Elt F e)]
    (v : View sg κ sp S e) (f : v.ty.Contents (Elt F)) {off : Fin S.rank → Nat} (h : off = fun _ => 0)
    (inb : ∀ a, off a + S.size a ≤ S.size a) (w : S.Idx → Elt F e) (p : View.Piece (Elt F) S e) :
    v.read (Elt F) (v.writes (Elt F) f [p, ⟨Rect.unit off S.size inb, w⟩])
      = View.canon [p, ⟨Rect.unit off S.size inb, w⟩] :=
  View.read_writes_eq_canon v f _ fun y => ⟨_, List.mem_cons_of_mem _ (List.mem_singleton_self _), View.mem_set_unit_zero h inb y⟩

/-- A load of the whole block reads what the buffer holds. -/
theorem loaded {S : Shape} {e : EltTy} {sg : RefSig} {κ : Kind} {sp : Space} {a : Memref sg κ sp S e} (ha : a.IsWhole)
    {off : Fin S.rank → Nat} (h : off = fun _ => 0) (inb : ∀ x, off x + S.size x ≤ S.size x) (X : S.Idx → Elt F e) :
    View.readAt (Elt F) a.view (Rect.unit off S.size inb).toLoadRect (ha.unread X) = X := by
  rw [View.readAt_eq_ld, ha.read_unread, View.ld_unit_zero h]

/-- A load of a box of what a store of the whole block left reads the stored value's box. -/
theorem loaded_box {S : Shape} {e : EltTy} {sg : RefSig} {κ : Kind} {sp : Space} [∀ e, Nonempty (Elt F e)]
    (v : View sg κ sp S e) {off : Fin S.rank → Nat} (h : off = fun _ => 0)
    (inb : ∀ x, off x + S.size x ≤ S.size x) (w : S.Idx → Elt F e) (r : Rect S) :
    v.readCov [(⟨Rect.unit off S.size inb, w⟩ : View.Piece (Elt F) S e)] r.toLoadRect = View.ld w r := by
  rw [View.readCov_eq_canon_ld _ _ _ fun y => ⟨_, List.mem_singleton_self _, View.mem_set_unit_zero h inb y⟩,
    View.canon_unit_zero h]

theorem loadedB {a : Memref sig .tc .vmem S512x128 .bf16} (ha : a.IsWhole) (X : S512x128.Idx → Elt F .bf16) :
    View.readAt (Elt F) a.view (Rect.unit ![0, 0] S512x128.size inb_S512x128_S512x128_0_0).toLoadRect (ha.unread X) = X :=
  loaded ha zero2 _ X
theorem loadedF {a : Memref sig .tc .vmem S512x128 .f32} (ha : a.IsWhole) (X : S512x128.Idx → Elt F .f32) :
    View.readAt (Elt F) a.view (Rect.unit ![0, 0] S512x128.size inb_S512x128_S512x128_0_0).toLoadRect (ha.unread X) = X :=
  loaded ha zero2 _ X
theorem loadedT {a : Memref sig .tc .vmem S512x1024 .f32} (ha : a.IsWhole) (X : S512x1024.Idx → Elt F .f32) :
    View.readAt (Elt F) a.view (Rect.unit ![0, 0] S512x1024.size inb_S512x1024_S512x1024_0_0).toLoadRect (ha.unread X) = X :=
  loaded ha zero2 _ X
theorem loadedR {a : Memref sig .tc .vmem S1x1x2048 .f32} (ha : a.IsWhole) (X : S1x1x2048.Idx → Elt F .f32) :
    View.readAt (Elt F) a.view (Rect.unit ![0, 0, 0] S1x1x2048.size inb_S1x1x2048_S1x1x2048_0_0_0).toLoadRect (ha.unread X) = X :=
  loaded ha zero3 _ X

set_option maxHeartbeats 4000000 in
/-- The body at a head's first query block: it builds the head's tile of biases, stores the block's query gradient, and keeps its key and value gradients. -/
theorem bodyA (c : Dev nD) (i : grid0.Coords)
  (a2 : Memref sig .tc .vmem S512x128 .bf16) (h2 : a2.IsWhole)
  (a3 : Memref sig .tc .vmem S512x128 .bf16) (h3 : a3.IsWhole)
  (a4 : Memref sig .tc .vmem S512x128 .bf16) (h4 : a4.IsWhole)
  (a5 : Memref sig .tc .vmem S512x128 .bf16) (h5 : a5.IsWhole)
  (a6 : Memref sig .tc .vmem S512x128 .bf16) (h6 : a6.IsWhole)
  (a7 : Memref sig .tc .vmem S512x128 .bf16) (h7 : a7.IsWhole)
  (a8 : Memref sig .tc .vmem S1x1x2048 .f32) (h8 : a8.IsWhole)
  (a10 : Memref sig .tc .vmem S512x128 .bf16) (h10 : a10.IsWhole)
  (a11 : Memref sig .tc .vmem S512x128 .bf16) (h11 : a11.IsWhole)
  (a12 : Memref sig .tc .vmem S512x128 .bf16) (h12 : a12.IsWhole)
  (a13 : Memref sig .tc .vmem S1x1x2048 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S512x128 .f32) (h16 : a16.IsWhole)
  (a17 : Memref sig .tc .vmem S512x128 .f32) (h17 : a17.IsWhole)
  (hc0 : cond0 i) (hc1 : ¬cond1 i) (hc2 : ¬cond2 i)
  (q kp kc vp vc g : Vec F S512x128 .bf16) (b : Vec F S1x1x2048 .f32) (dd : Vec F S1x1x2048 .f32)
  (E : Set ℕ) (K : PUnit → sProp 𝕄) :
    iprop(owns (c : Thread nD τ) a2 fullShare q
        ∗ owns (c : Thread nD τ) a3 fullShare kp
        ∗ owns (c : Thread nD τ) a4 fullShare kc
        ∗ owns (c : Thread nD τ) a5 fullShare vp
        ∗ owns (c : Thread nD τ) a6 fullShare vc
        ∗ owns (c : Thread nD τ) a7 fullShare g
        ∗ owns (c : Thread nD τ) a8 fullShare b
        ∗ (∃ d, owns (c : Thread nD τ) a10 fullShare d)
        ∗ (∃ d, owns (c : Thread nD τ) a11 fullShare d)
        ∗ (∃ d, owns (c : Thread nD τ) a12 fullShare d)
        ∗ owns (c : Thread nD τ) a13 fullShare dd
        ∗ (∃ d, owns (c : Thread nD τ) a14 fullShare d)
        ∗ (∃ d, owns (c : Thread nD τ) a15 fullShare d)
        ∗ (∃ d, owns (c : Thread nD τ) a16 fullShare d)
        ∗ (∃ d, owns (c : Thread nD τ) a17 fullShare d)
        ∗ (iprop(owns (c : Thread nD τ) a2 fullShare q
        ∗ owns (c : Thread nD τ) a3 fullShare kp
        ∗ owns (c : Thread nD τ) a4 fullShare kc
        ∗ owns (c : Thread nD τ) a5 fullShare vp
        ∗ owns (c : Thread nD τ) a6 fullShare vc
        ∗ owns (c : Thread nD τ) a7 fullShare g
        ∗ owns (c : Thread nD τ) a8 fullShare b
        ∗ owns (c : Thread nD τ) a10 fullShare (dq0 q kc vc g b)
        ∗ owns (c : Thread nD τ) a11 fullShare k0_pay2
        ∗ owns (c : Thread nD τ) a12 fullShare k0_pay3
        ∗ owns (c : Thread nD τ) a13 fullShare dd
        ∗ owns (c : Thread nD τ) a14 fullShare (tile b)
        ∗ owns (c : Thread nD τ) a15 fullShare (ds0 q kc vc g b)
        ∗ owns (c : Thread nD τ) a16 fullShare (ak0 q kc vc g b)
        ∗ owns (c : Thread nD τ) a17 fullShare (av0 q kc g b)) -∗ K ⟨⟩))
      ⊢ wp frame (wpE (defs₀ (F := F)) Variants.none c none) E (cc0_attn_bwd i a2 h2 a3 h3 a4 h4 a5 h5 a6 h6 a7 h7 a8 h8 (Memref.whole main_arg3) (Memref.isWhole_whole _) a10 h10 a11 h11 a12 h12 a13 h13 a14 h14 a15 h15 a16 h16 a17 h17) K := by
  simp only [cc0_attn_bwd_eq_skeleton]; unfold cc0_attn_bwd_skel
  simp only [k0_part1_eq_skeleton, k0_part2_eq_skeleton, k0_part3_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d10, %f10, -, H10⟩, ⟨%d11, %f11, -, H11⟩, ⟨%d12, %f12, -, H12⟩, ⟨%f13, %e13, H13⟩, ⟨%d14, %f14, -, H14⟩, ⟨%d15, %f15, -, H15⟩, ⟨%d16, %f16, -, H16⟩, ⟨%d17, %f17, -, H17⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h13.eq_unread e13
  sl_exec (disch := first | sl_exact hc0 | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H10]
  · iexists _; isplitr; swap; · iexact H10
    ipureintro
    refine (stored_whole _ _ ?hz _ _).trans ?_
    case hz => exact zero2
    repeat (first | delta bodyA.sl.r | delta bodyA.sl.r_1 | delta bodyA.sl.r_2 | delta bodyA.sl.r_3 | delta bodyA.sl.r_4 | delta bodyA.sl.r_5 | delta bodyA.sl.r_6 | delta bodyA.sl.v86 | delta bodyA.sl.v109 | delta bodyA.sl.cst_38 | delta bodyA.sl.H14_1 | delta bodyA.sl.H15_1 | rw [loadedB] | rw [loadedF] | rw [loadedT] | rw [loadedR] | rw [loaded_box (S := S512x1024) _ zero2])
    try rfl
  isplitl [H11]
  · iexists _; isplitr; swap; · iexact H11
    ipureintro
    refine (stored_whole _ _ ?hz _ _).trans ?_
    case hz => exact zero2
    repeat (first | delta bodyA.sl.r | delta bodyA.sl.r_1 | delta bodyA.sl.r_2 | delta bodyA.sl.r_3 | delta bodyA.sl.r_4 | delta bodyA.sl.r_5 | delta bodyA.sl.r_6 | delta bodyA.sl.v86 | delta bodyA.sl.v109 | delta bodyA.sl.cst_38 | delta bodyA.sl.H14_1 | delta bodyA.sl.H15_1 | rw [loadedB] | rw [loadedF] | rw [loadedT] | rw [loadedR] | rw [loaded_box (S := S512x1024) _ zero2])
    try rfl
  isplitl [H12]
  · iexists _; isplitr; swap; · iexact H12
    ipureintro
    refine (stored_whole _ _ ?hz _ _).trans ?_
    case hz => exact zero2
    repeat (first | delta bodyA.sl.r | delta bodyA.sl.r_1 | delta bodyA.sl.r_2 | delta bodyA.sl.r_3 | delta bodyA.sl.r_4 | delta bodyA.sl.r_5 | delta bodyA.sl.r_6 | delta bodyA.sl.v86 | delta bodyA.sl.v109 | delta bodyA.sl.cst_38 | delta bodyA.sl.H14_1 | delta bodyA.sl.H15_1 | rw [loadedB] | rw [loadedF] | rw [loadedT] | rw [loadedR] | rw [loaded_box (S := S512x1024) _ zero2])
    try rfl
  isplitl [H13]
  · iexists _; isplitr; · ipureintro; exact h13.read_unread _
    iexact H13
  isplitl [H14]
  · iexists _; isplitr; swap; · iexact H14
    ipureintro
    refine (stored_whole _ _ ?hz _ _).trans ?_
    case hz => exact zero2
    repeat (first | delta bodyA.sl.r | delta bodyA.sl.r_1 | delta bodyA.sl.r_2 | delta bodyA.sl.r_3 | delta bodyA.sl.r_4 | delta bodyA.sl.r_5 | delta bodyA.sl.r_6 | delta bodyA.sl.v86 | delta bodyA.sl.v109 | delta bodyA.sl.cst_38 | delta bodyA.sl.H14_1 | delta bodyA.sl.H15_1 | rw [loadedB] | rw [loadedF] | rw [loadedT] | rw [loadedR] | rw [loaded_box (S := S512x1024) _ zero2])
    try rfl
  isplitl [H15]
  · iexists _; isplitr; swap; · iexact H15
    ipureintro
    refine (stored_box _ _ zero2 _ _ _).trans ?_
    repeat (first | delta bodyA.sl.r | delta bodyA.sl.r_1 | delta bodyA.sl.r_2 | delta bodyA.sl.r_3 | delta bodyA.sl.r_4 | delta bodyA.sl.r_5 | delta bodyA.sl.r_6 | delta bodyA.sl.v86 | delta bodyA.sl.v109 | delta bodyA.sl.cst_38 | delta bodyA.sl.H14_1 | delta bodyA.sl.H15_1 | rw [loadedB] | rw [loadedF] | rw [loadedT] | rw [loadedR] | rw [loaded_box (S := S512x1024) _ zero2])
    try rfl
  isplitl [H16]
  · iexists _; isplitr; swap; · iexact H16
    ipureintro
    refine (stored_whole _ _ ?hz _ _).trans ?_
    case hz => exact zero2
    repeat (first | delta bodyA.sl.r | delta bodyA.sl.r_1 | delta bodyA.sl.r_2 | delta bodyA.sl.r_3 | delta bodyA.sl.r_4 | delta bodyA.sl.r_5 | delta bodyA.sl.r_6 | delta bodyA.sl.v86 | delta bodyA.sl.v109 | delta bodyA.sl.cst_38 | delta bodyA.sl.H14_1 | delta bodyA.sl.H15_1 | rw [loadedB] | rw [loadedF] | rw [loadedT] | rw [loadedR] | rw [loaded_box (S := S512x1024) _ zero2])
    try rfl
  iexists _; isplitr; swap; · iexact H17
  ipureintro
  refine (stored_whole _ _ ?hz _ _).trans ?_
  case hz => exact zero2
  repeat (first | delta bodyA.sl.r | delta bodyA.sl.r_1 | delta bodyA.sl.r_2 | delta bodyA.sl.r_3 | delta bodyA.sl.r_4 | delta bodyA.sl.r_5 | delta bodyA.sl.r_6 | delta bodyA.sl.v86 | delta bodyA.sl.v109 | delta bodyA.sl.cst_38 | delta bodyA.sl.H14_1 | delta bodyA.sl.H15_1 | rw [loadedB] | rw [loadedF] | rw [loadedT] | rw [loadedR] | rw [loaded_box (S := S512x1024) _ zero2])
  try rfl

set_option maxHeartbeats 4000000 in
/-- The body at a later query block: its query gradient, the finished key and value gradients of the block before it, and its own share of its key and value gradients kept. -/
theorem bodyB (c : Dev nD) (i : grid0.Coords)
  (a2 : Memref sig .tc .vmem S512x128 .bf16) (h2 : a2.IsWhole)
  (a3 : Memref sig .tc .vmem S512x128 .bf16) (h3 : a3.IsWhole)
  (a4 : Memref sig .tc .vmem S512x128 .bf16) (h4 : a4.IsWhole)
  (a5 : Memref sig .tc .vmem S512x128 .bf16) (h5 : a5.IsWhole)
  (a6 : Memref sig .tc .vmem S512x128 .bf16) (h6 : a6.IsWhole)
  (a7 : Memref sig .tc .vmem S512x128 .bf16) (h7 : a7.IsWhole)
  (a8 : Memref sig .tc .vmem S1x1x2048 .f32) (h8 : a8.IsWhole)
  (a10 : Memref sig .tc .vmem S512x128 .bf16) (h10 : a10.IsWhole)
  (a11 : Memref sig .tc .vmem S512x128 .bf16) (h11 : a11.IsWhole)
  (a12 : Memref sig .tc .vmem S512x128 .bf16) (h12 : a12.IsWhole)
  (a13 : Memref sig .tc .vmem S1x1x2048 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S512x128 .f32) (h16 : a16.IsWhole)
  (a17 : Memref sig .tc .vmem S512x128 .f32) (h17 : a17.IsWhole)
  (hc0 : ¬cond0 i) (hc1 : cond1 i) (hc2 : ¬cond2 i)
  (q kp kc vp vc g : Vec F S512x128 .bf16) (b : Vec F S1x1x2048 .f32) (dd : Vec F S1x1x2048 .f32) (tl ds : Vec F S512x1024 .f32) (ak av : Vec F S512x128 .f32)
  (E : Set ℕ) (K : PUnit → sProp 𝕄) :
    iprop(owns (c : Thread nD τ) a2 fullShare q
        ∗ owns (c : Thread nD τ) a3 fullShare kp
        ∗ owns (c : Thread nD τ) a4 fullShare kc
        ∗ owns (c : Thread nD τ) a5 fullShare vp
        ∗ owns (c : Thread nD τ) a6 fullShare vc
        ∗ owns (c : Thread nD τ) a7 fullShare g
        ∗ owns (c : Thread nD τ) a8 fullShare b
        ∗ (∃ d, owns (c : Thread nD τ) a10 fullShare d)
        ∗ (∃ d, owns (c : Thread nD τ) a11 fullShare d)
        ∗ (∃ d, owns (c : Thread nD τ) a12 fullShare d)
        ∗ owns (c : Thread nD τ) a13 fullShare dd
        ∗ owns (c : Thread nD τ) a14 fullShare tl
        ∗ owns (c : Thread nD τ) a15 fullShare ds
        ∗ owns (c : Thread nD τ) a16 fullShare ak
        ∗ owns (c : Thread nD τ) a17 fullShare av
        ∗ (iprop(owns (c : Thread nD τ) a2 fullShare q
        ∗ owns (c : Thread nD τ) a3 fullShare kp
        ∗ owns (c : Thread nD τ) a4 fullShare kc
        ∗ owns (c : Thread nD τ) a5 fullShare vp
        ∗ owns (c : Thread nD τ) a6 fullShare vc
        ∗ owns (c : Thread nD τ) a7 fullShare g
        ∗ owns (c : Thread nD τ) a8 fullShare b
        ∗ owns (c : Thread nD τ) a10 fullShare (dq1 q kp kc vp vc g tl)
        ∗ owns (c : Thread nD τ) a11 fullShare (dk1 q kp kc vp vc g tl ak)
        ∗ owns (c : Thread nD τ) a12 fullShare (dv1 q kp kc g tl av)
        ∗ owns (c : Thread nD τ) a13 fullShare dd
        ∗ owns (c : Thread nD τ) a14 fullShare tl
        ∗ owns (c : Thread nD τ) a15 fullShare (k0_pay31 kp kc vp vc tl q g ds)
        ∗ owns (c : Thread nD τ) a16 fullShare (ak1 q kp kc vp vc g tl)
        ∗ owns (c : Thread nD τ) a17 fullShare (av1 q kp kc g tl)) -∗ K ⟨⟩))
      ⊢ wp frame (wpE (defs₀ (F := F)) Variants.none c none) E (cc0_attn_bwd i a2 h2 a3 h3 a4 h4 a5 h5 a6 h6 a7 h7 a8 h8 (Memref.whole main_arg3) (Memref.isWhole_whole _) a10 h10 a11 h11 a12 h12 a13 h13 a14 h14 a15 h15 a16 h16 a17 h17) K := by
  simp only [cc0_attn_bwd_eq_skeleton]; unfold cc0_attn_bwd_skel
  simp only [k0_part4_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d10, %f10, -, H10⟩, ⟨%d11, %f11, -, H11⟩, ⟨%d12, %f12, -, H12⟩, ⟨%f13, %e13, H13⟩, ⟨%f14, %e14, H14⟩, ⟨%f15, %e15, H15⟩, ⟨%f16, %e16, H16⟩, ⟨%f17, %e17, H17⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h13.eq_unread e13; obtain rfl := h14.eq_unread e14; obtain rfl := h15.eq_unread e15; obtain rfl := h16.eq_unread e16; obtain rfl := h17.eq_unread e17
  sl_exec (disch := first | sl_exact hc0 | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H10]
  · iexists _; isplitr; swap; · iexact H10
    ipureintro
    refine (stored_whole _ _ ?hz _ _).trans ?_
    case hz => exact zero2
    repeat (first | delta bodyB.sl.r | delta bodyB.sl.r_1 | delta bodyB.sl.r_2 | delta bodyB.sl.r_3 | delta bodyB.sl.r_4 | rw [loadedB] | rw [loadedF] | rw [loadedT])
    try rfl
  isplitl [H11]
  · iexists _; isplitr; swap; · iexact H11
    ipureintro
    refine (stored_whole _ _ ?hz _ _).trans ?_
    case hz => exact zero2
    repeat (first | delta bodyB.sl.r | delta bodyB.sl.r_1 | delta bodyB.sl.r_2 | delta bodyB.sl.r_3 | delta bodyB.sl.r_4 | rw [loadedB] | rw [loadedF] | rw [loadedT])
    try rfl
  isplitl [H12]
  · iexists _; isplitr; swap; · iexact H12
    ipureintro
    refine (stored_whole _ _ ?hz _ _).trans ?_
    case hz => exact zero2
    repeat (first | delta bodyB.sl.r | delta bodyB.sl.r_1 | delta bodyB.sl.r_2 | delta bodyB.sl.r_3 | delta bodyB.sl.r_4 | rw [loadedB] | rw [loadedF] | rw [loadedT])
    try rfl
  isplitl [H13]
  · iexists _; isplitr; · ipureintro; exact h13.read_unread _
    iexact H13
  isplitl [H14]
  · iexists _; isplitr; · ipureintro; exact h14.read_unread _
    iexact H14
  isplitl [H15]
  · iexists _; isplitr; swap; · iexact H15
    ipureintro
    refine (stored_whole _ _ ?hz _ _).trans ?_
    case hz => exact zero2
    repeat (first | delta bodyB.sl.r | delta bodyB.sl.r_1 | delta bodyB.sl.r_2 | delta bodyB.sl.r_3 | delta bodyB.sl.r_4 | rw [loadedB] | rw [loadedF] | rw [loadedT])
    try rfl
  isplitl [H16]
  · iexists _; isplitr; swap; · iexact H16
    ipureintro
    refine (stored_whole _ _ ?hz _ _).trans ?_
    case hz => exact zero2
    repeat (first | delta bodyB.sl.r | delta bodyB.sl.r_1 | delta bodyB.sl.r_2 | delta bodyB.sl.r_3 | delta bodyB.sl.r_4 | rw [loadedB] | rw [loadedF] | rw [loadedT])
    try rfl
  iexists _; isplitr; swap; · iexact H17
  ipureintro
  refine (stored_whole _ _ ?hz _ _).trans ?_
  case hz => exact zero2
  repeat (first | delta bodyB.sl.r | delta bodyB.sl.r_1 | delta bodyB.sl.r_2 | delta bodyB.sl.r_3 | delta bodyB.sl.r_4 | rw [loadedB] | rw [loadedF] | rw [loadedT])
  try rfl

set_option maxHeartbeats 4000000 in
/-- The body after a head's last query block: the last key block's gradients are stored; the query gradient's buffer is left as it is. -/
theorem bodyC (c : Dev nD) (i : grid0.Coords)
  (a2 : Memref sig .tc .vmem S512x128 .bf16) (h2 : a2.IsWhole)
  (a3 : Memref sig .tc .vmem S512x128 .bf16) (h3 : a3.IsWhole)
  (a4 : Memref sig .tc .vmem S512x128 .bf16) (h4 : a4.IsWhole)
  (a5 : Memref sig .tc .vmem S512x128 .bf16) (h5 : a5.IsWhole)
  (a6 : Memref sig .tc .vmem S512x128 .bf16) (h6 : a6.IsWhole)
  (a7 : Memref sig .tc .vmem S512x128 .bf16) (h7 : a7.IsWhole)
  (a8 : Memref sig .tc .vmem S1x1x2048 .f32) (h8 : a8.IsWhole)
  (a10 : Memref sig .tc .vmem S512x128 .bf16) (h10 : a10.IsWhole)
  (a11 : Memref sig .tc .vmem S512x128 .bf16) (h11 : a11.IsWhole)
  (a12 : Memref sig .tc .vmem S512x128 .bf16) (h12 : a12.IsWhole)
  (a13 : Memref sig .tc .vmem S1x1x2048 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S512x128 .f32) (h16 : a16.IsWhole)
  (a17 : Memref sig .tc .vmem S512x128 .f32) (h17 : a17.IsWhole)
  (hc0 : ¬cond0 i) (hc1 : ¬cond1 i) (hc2 : cond2 i)
  (q kp kc vp vc g : Vec F S512x128 .bf16) (b : Vec F S1x1x2048 .f32) (dq : Vec F S512x128 .bf16) (tl ds : Vec F S512x1024 .f32) (ak av : Vec F S512x128 .f32)
  (E : Set ℕ) (K : PUnit → sProp 𝕄) :
    iprop(owns (c : Thread nD τ) a2 fullShare q
        ∗ owns (c : Thread nD τ) a3 fullShare kp
        ∗ owns (c : Thread nD τ) a4 fullShare kc
        ∗ owns (c : Thread nD τ) a5 fullShare vp
        ∗ owns (c : Thread nD τ) a6 fullShare vc
        ∗ owns (c : Thread nD τ) a7 fullShare g
        ∗ owns (c : Thread nD τ) a8 fullShare b
        ∗ owns (c : Thread nD τ) a10 fullShare dq
        ∗ (∃ d, owns (c : Thread nD τ) a11 fullShare d)
        ∗ (∃ d, owns (c : Thread nD τ) a12 fullShare d)
        ∗ (∃ d, owns (c : Thread nD τ) a13 fullShare d)
        ∗ owns (c : Thread nD τ) a14 fullShare tl
        ∗ owns (c : Thread nD τ) a15 fullShare ds
        ∗ owns (c : Thread nD τ) a16 fullShare ak
        ∗ owns (c : Thread nD τ) a17 fullShare av
        ∗ (iprop(owns (c : Thread nD τ) a2 fullShare q
        ∗ owns (c : Thread nD τ) a3 fullShare kp
        ∗ owns (c : Thread nD τ) a4 fullShare kc
        ∗ owns (c : Thread nD τ) a5 fullShare vp
        ∗ owns (c : Thread nD τ) a6 fullShare vc
        ∗ owns (c : Thread nD τ) a7 fullShare g
        ∗ owns (c : Thread nD τ) a8 fullShare b
        ∗ owns (c : Thread nD τ) a10 fullShare dq
        ∗ owns (c : Thread nD τ) a11 fullShare (k0_pay11 ak)
        ∗ owns (c : Thread nD τ) a12 fullShare (k0_pay12 av)
        ∗ owns (c : Thread nD τ) a13 fullShare (k0_pay13 ds)
        ∗ owns (c : Thread nD τ) a14 fullShare tl
        ∗ owns (c : Thread nD τ) a15 fullShare ds
        ∗ owns (c : Thread nD τ) a16 fullShare ak
        ∗ owns (c : Thread nD τ) a17 fullShare av) -∗ K ⟨⟩))
      ⊢ wp frame (wpE (defs₀ (F := F)) Variants.none c none) E (cc0_attn_bwd i a2 h2 a3 h3 a4 h4 a5 h5 a6 h6 a7 h7 a8 h8 (Memref.whole main_arg3) (Memref.isWhole_whole _) a10 h10 a11 h11 a12 h12 a13 h13 a14 h14 a15 h15 a16 h16 a17 h17) K := by
  simp only [cc0_attn_bwd_eq_skeleton]; unfold cc0_attn_bwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f10, %e10, H10⟩, ⟨%d11, %f11, -, H11⟩, ⟨%d12, %f12, -, H12⟩, ⟨%d13, %f13, -, H13⟩, ⟨%f14, %e14, H14⟩, ⟨%f15, %e15, H15⟩, ⟨%f16, %e16, H16⟩, ⟨%f17, %e17, H17⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h10.eq_unread e10; obtain rfl := h14.eq_unread e14; obtain rfl := h15.eq_unread e15; obtain rfl := h16.eq_unread e16; obtain rfl := h17.eq_unread e17
  sl_exec (disch := first | sl_exact hc0 | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H10]
  · iexists _; isplitr; · ipureintro; exact h10.read_unread _
    iexact H10
  isplitl [H11]
  · iexists _; isplitr; swap; · iexact H11
    ipureintro
    refine (stored_whole _ _ ?hz _ _).trans ?_
    case hz => exact zero2
    repeat (first | rw [loadedB] | rw [loadedF] | rw [loadedT])
    try rfl
  isplitl [H12]
  · iexists _; isplitr; swap; · iexact H12
    ipureintro
    refine (stored_whole _ _ ?hz _ _).trans ?_
    case hz => exact zero2
    repeat (first | rw [loadedB] | rw [loadedF] | rw [loadedT])
    try rfl
  isplitl [H13]
  · iexists _; isplitr; swap; · iexact H13
    ipureintro
    refine (stored_whole _ _ ?hz _ _).trans ?_
    case hz => exact zero3
    repeat (first | rw [loadedB] | rw [loadedF] | rw [loadedT])
    try rfl
  isplitl [H14]
  · iexists _; isplitr; · ipureintro; exact h14.read_unread _
    iexact H14
  isplitl [H15]
  · iexists _; isplitr; · ipureintro; exact h15.read_unread _
    iexact H15
  isplitl [H16]
  · iexists _; isplitr; · ipureintro; exact h16.read_unread _
    iexact H16
  iexists _; isplitr; · ipureintro; exact h17.read_unread _
  iexact H17

end Cert.KernelIdeal.Attn

end
-- ==== Proof.Run.lean ====
/- The run of the attention backward program: what the pipeline's buffers and the body's scratch hold after every grid
   point, the body obligation, and what the program leaves in memory. A head is nine consecutive points: eight query
   blocks, then one that only stores the last key block's gradients. -/
module

public import proofs.«01_k».proof.Proof.Body
public import Idealize.ShloMosaic.Lib.Pipeline.FrameBody
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What is carried from point to point -/

/-- The scratch contents: the head's biases, its summed score gradients, the current block's part of the key and of the
    value gradient. -/
structure Carry (F : FTy → Type) where
  tl : Vec F S512x1024 .f32
  ds : Vec F S512x1024 .f32
  ak : Vec F S512x128 .f32
  av : Vec F S512x128 .f32

/-- One point's effect on the scratch. -/
def step (c : Dev nD) (t : Fin cfg0.N) (s : Carry F) : Carry F :=
  if t.val % 9 = 0 then
    ⟨tile (iblk m c 6 t), ds0 (iblk m c 0 t) (iblk m c 2 t) (iblk m c 4 t) (iblk m c 5 t) (iblk m c 6 t),
      ak0 (iblk m c 0 t) (iblk m c 2 t) (iblk m c 4 t) (iblk m c 5 t) (iblk m c 6 t),
      av0 (iblk m c 0 t) (iblk m c 2 t) (iblk m c 5 t) (iblk m c 6 t)⟩
  else if t.val % 9 = 8 then s
  else
    ⟨s.tl, k0_pay31 (iblk m c 1 t) (iblk m c 2 t) (iblk m c 3 t) (iblk m c 4 t) s.tl (iblk m c 0 t) (iblk m c 5 t) s.ds,
      ak1 (iblk m c 0 t) (iblk m c 1 t) (iblk m c 2 t) (iblk m c 3 t) (iblk m c 4 t) (iblk m c 5 t) s.tl,
      av1 (iblk m c 0 t) (iblk m c 1 t) (iblk m c 2 t) (iblk m c 5 t) s.tl⟩

/-- The scratch before position `n` (at the first, a value nothing reads). -/
def carry (c : Dev nD) : (n : ℕ) → n ≤ cfg0.N → Carry F
  | 0, _ => ⟨k0_pay19, k0_pay19, broadcast S512x128 (Scalar.ofBits .f32 0x00000000#32), broadcast S512x128 (Scalar.ofBits .f32 0x00000000#32)⟩
  | n + 1, h => step m c ⟨n, h⟩ (carry c n (Nat.le_of_succ_le h))

/-- The scratch when the body runs at point `t`. -/
abbrev at_ (c : Dev nD) (t : Fin cfg0.N) : Carry F := carry m c t.val (Nat.le_of_lt t.isLt)

theorem carry_succ_A (c : Dev nD) (t : Fin cfg0.N) (h : t.val % 9 = 0) :
    carry m c (t.val + 1) t.isLt = ⟨tile (iblk m c 6 t), ds0 (iblk m c 0 t) (iblk m c 2 t) (iblk m c 4 t) (iblk m c 5 t) (iblk m c 6 t),
      ak0 (iblk m c 0 t) (iblk m c 2 t) (iblk m c 4 t) (iblk m c 5 t) (iblk m c 6 t),
      av0 (iblk m c 0 t) (iblk m c 2 t) (iblk m c 5 t) (iblk m c 6 t)⟩ := if_pos h
theorem carry_succ_B (c : Dev nD) (t : Fin cfg0.N) (h : 1 ≤ t.val % 9 ∧ t.val % 9 ≤ 7) :
    carry m c (t.val + 1) t.isLt = ⟨(at_ m c t).tl,
      k0_pay31 (iblk m c 1 t) (iblk m c 2 t) (iblk m c 3 t) (iblk m c 4 t) (at_ m c t).tl (iblk m c 0 t) (iblk m c 5 t) (at_ m c t).ds,
      ak1 (iblk m c 0 t) (iblk m c 1 t) (iblk m c 2 t) (iblk m c 3 t) (iblk m c 4 t) (iblk m c 5 t) (at_ m c t).tl,
      av1 (iblk m c 0 t) (iblk m c 1 t) (iblk m c 2 t) (iblk m c 5 t) (at_ m c t).tl⟩ :=
  (if_neg (by dsimp only; omega)).trans (if_neg (by dsimp only; omega))
theorem carry_succ_C (c : Dev nD) (t : Fin cfg0.N) (h : t.val % 9 = 8) :
    carry m c (t.val + 1) t.isLt = at_ m c t := (if_neg (by dsimp only; omega)).trans (if_pos h)

/-! ## What the output buffers hold -/

/-- The query gradient of point `t`'s blocks. -/
def dqAt (c : Dev nD) (t : Fin cfg0.N) : Vec F S512x128 .bf16 :=
  if t.val % 9 = 0 then dq0 (iblk m c 0 t) (iblk m c 2 t) (iblk m c 4 t) (iblk m c 5 t) (iblk m c 6 t)
  else dq1 (iblk m c 0 t) (iblk m c 1 t) (iblk m c 2 t) (iblk m c 3 t) (iblk m c 4 t) (iblk m c 5 t) (at_ m c t).tl

/-- The point before. -/
abbrev prev (t : Fin cfg0.N) : Fin cfg0.N := ⟨t.val - 1, Nat.lt_of_le_of_lt (Nat.sub_le _ _) t.isLt⟩

/-- A head's last point leaves the query gradient of the point before. -/
def outDq (c : Dev nD) (t : Fin cfg0.N) : Vec F S512x128 .bf16 :=
  if t.val % 9 = 8 then dqAt m c (prev t) else dqAt m c t

def outDk (c : Dev nD) (t : Fin cfg0.N) : Vec F S512x128 .bf16 :=
  if t.val % 9 = 0 then k0_pay2 else if t.val % 9 = 8 then k0_pay11 (at_ m c t).ak
  else dk1 (iblk m c 0 t) (iblk m c 1 t) (iblk m c 2 t) (iblk m c 3 t) (iblk m c 4 t) (iblk m c 5 t) (at_ m c t).tl (at_ m c t).ak

def outDv (c : Dev nD) (t : Fin cfg0.N) : Vec F S512x128 .bf16 :=
  if t.val % 9 = 0 then k0_pay3 else if t.val % 9 = 8 then k0_pay12 (at_ m c t).av
  else dv1 (iblk m c 0 t) (iblk m c 1 t) (iblk m c 2 t) (iblk m c 5 t) (at_ m c t).tl (at_ m c t).av

def outDd (c : Dev nD) (t : Fin cfg0.N) : Vec F S1x1x2048 .f32 := k0_pay13 (at_ m c t).ds

theorem outDq_A (c : Dev nD) (t : Fin cfg0.N) (h : t.val % 9 = 0) :
    outDq m c t = dq0 (iblk m c 0 t) (iblk m c 2 t) (iblk m c 4 t) (iblk m c 5 t) (iblk m c 6 t) :=
  (if_neg (by omega)).trans (if_pos h)
theorem outDq_B (c : Dev nD) (t : Fin cfg0.N) (h : 1 ≤ t.val % 9 ∧ t.val % 9 ≤ 7) :
    outDq m c t = dq1 (iblk m c 0 t) (iblk m c 1 t) (iblk m c 2 t) (iblk m c 3 t) (iblk m c 4 t) (iblk m c 5 t) (at_ m c t).tl :=
  (if_neg (by omega)).trans (if_neg (by omega))
theorem outDq_C (c : Dev nD) (t : Fin cfg0.N) (h : t.val % 9 = 8) : outDq m c t = outDq m c (prev t) :=
  (if_pos h).trans (if_neg (by show ¬(t.val - 1) % 9 = 8; omega)).symm
theorem outDk_A (c : Dev nD) (t : Fin cfg0.N) (h : t.val % 9 = 0) : outDk m c t = k0_pay2 := if_pos h
theorem outDk_B (c : Dev nD) (t : Fin cfg0.N) (h : 1 ≤ t.val % 9 ∧ t.val % 9 ≤ 7) :
    outDk m c t = dk1 (iblk m c 0 t) (iblk m c 1 t) (iblk m c 2 t) (iblk m c 3 t) (iblk m c 4 t) (iblk m c 5 t) (at_ m c t).tl (at_ m c t).ak :=
  (if_neg (by omega)).trans (if_neg (by omega))
theorem outDk_C (c : Dev nD) (t : Fin cfg0.N) (h : t.val % 9 = 8) : outDk m c t = k0_pay11 (at_ m c t).ak :=
  (if_neg (by omega)).trans (if_pos h)
theorem outDv_A (c : Dev nD) (t : Fin cfg0.N) (h : t.val % 9 = 0) : outDv m c t = k0_pay3 := if_pos h
theorem outDv_B (c : Dev nD) (t : Fin cfg0.N) (h : 1 ≤ t.val % 9 ∧ t.val % 9 ≤ 7) :
    outDv m c t = dv1 (iblk m c 0 t) (iblk m c 1 t) (iblk m c 2 t) (iblk m c 5 t) (at_ m c t).tl (at_ m c t).av :=
  (if_neg (by omega)).trans (if_neg (by omega))
theorem outDv_C (c : Dev nD) (t : Fin cfg0.N) (h : t.val % 9 = 8) : outDv m c t = k0_pay12 (at_ m c t).av :=
  (if_neg (by omega)).trans (if_pos h)
theorem outDd_C (c : Dev nD) (t : Fin cfg0.N) (h : t.val % 9 = 8) : outDd m c t = k0_pay13 (at_ m c t).ds := rfl

/-! ## The scratch, owned -/

/-- The scratch owned at the contents `s`, beside the generator's register. -/
def owned (c : Dev nD) (s : Carry F) : sProp 𝕄 :=
  iprop(iprop(owns (c : Thread nD τ) (Memref.whole cc0_scratch0) fullShare s.tl ∗ owns (c : Thread nD τ) (Memref.whole cc0_scratch1) fullShare s.ds
    ∗ owns (c : Thread nD τ) (Memref.whole cc0_scratch2) fullShare s.ak ∗ owns (c : Thread nD τ) (Memref.whole cc0_scratch3) fullShare s.av)
    ∗ (∃ r, prngReg c r))

/-- The scratch owned at anything. -/
def anyScratch (c : Dev nD) : sProp 𝕄 :=
  iprop(iprop((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d) ∗ (∃ d, owns (c : Thread nD τ) (Memref.whole cc0_scratch3) fullShare d))
    ∗ (∃ r, prngReg c r))

theorem launched_eq (c : Dev nD) : (Pipeline.ΦA spec0 c : sProp 𝕄) = anyScratch c := by
  unfold Pipeline.ΦA anyScratch; rw [scopedRest0_eq]; simp only [owns_whole]; try rfl

theorem owned_any (c : Dev nD) (s : Carry F) : owned c s ⊢ anyScratch c := by
  unfold owned anyScratch
  iintro ⟨⟨S0, S1, S2, S3⟩, Hg⟩
  isplitl [S0 S1 S2 S3]
  · isplitl [S0]; · iexists _; iexact S0
    isplitl [S1]; · iexists _; iexact S1
    isplitl [S2]; · iexists _; iexact S2
    iexists _; iexact S3
  iexact Hg

/-- The region's invariant before position `n`. -/
def inv (c : Dev nD) : (n : ℕ) → n ≤ cfg0.N → sProp 𝕄
  | 0, _ => Pipeline.ΦA spec0 c
  | n + 1, h => owned c (carry m c (n + 1) h)

theorem inv_succ (c : Dev nD) (n : ℕ) (h : n + 1 ≤ cfg0.N) : inv m c (n + 1) h = owned c (carry m c (n + 1) h) := rfl
theorem inv_pos (c : Dev nD) (n : ℕ) (h : n ≤ cfg0.N) (hz : n ≠ 0) : inv m c n h = owned c (carry m c n h) := by
  cases n with
  | zero => exact absurd rfl hz
  | succ n => rfl
theorem inv_any (c : Dev nD) (n : ℕ) (h : n ≤ cfg0.N) : inv m c n h ⊢ anyScratch c := by
  cases n with
  | zero => rw [← launched_eq]; exact .rfl
  | succ n => exact owned_any c _

/-! ## The proof data -/

/-- The arrays as the region finds them; after each point the inputs' buffers at their blocks and the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outDq m c t
    | ⟨8, _⟩ => outDk m c t
    | ⟨9, _⟩ => outDv m c t
    | ⟨10, _⟩ => outDd m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outDq m c t := by dsimp only [dats]
theorem after_8 (c : Dev nD) (t : Fin cfg0.N) : (dats m 0 c).after 8 t = outDk m c t := by dsimp only [dats]
theorem after_9 (c : Dev nD) (t : Fin cfg0.N) : (dats m 0 c).after 9 t = outDv m c t := by dsimp only [dats]
theorem after_10 (c : Dev nD) (t : Fin cfg0.N) : (dats m 0 c).after 10 t = outDd m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## Where the outputs are stored and written back -/

theorem live_7 : ∀ t : Fin cfg0.N, t.val % 9 ≠ 8 → cfg0.idle 7 (grid0.coords t) = false :=
  (by decide +kernel : ∀ t : Fin grid0.N, t.val % 9 ≠ 8 → idle0 7 (grid0.coords t) = false)
theorem live_8 : ∀ t : Fin cfg0.N, cfg0.idle 8 (grid0.coords t) = false :=
  (by decide +kernel : ∀ t : Fin grid0.N, idle0 8 (grid0.coords t) = false)
theorem live_9 : ∀ t : Fin cfg0.N, cfg0.idle 9 (grid0.coords t) = false :=
  (by decide +kernel : ∀ t : Fin grid0.N, idle0 9 (grid0.coords t) = false)
theorem live_10 : ∀ t : Fin cfg0.N, t.val % 9 = 8 → cfg0.idle 10 (grid0.coords t) = false :=
  (by decide +kernel : ∀ t : Fin grid0.N, t.val % 9 = 8 → idle0 10 (grid0.coords t) = false)
theorem idle_10 : ∀ t : Fin cfg0.N, t.val % 9 ≠ 8 → cfg0.idle 10 (grid0.coords t) = true :=
  (by decide +kernel : ∀ t : Fin grid0.N, t.val % 9 ≠ 8 → idle0 10 (grid0.coords t) = true)
theorem noFlush_10 (t : Fin cfg0.N) (h : t.val % 9 ≠ 8) : (cfg0.win 10).flush t = false := by
  rw [Bool.eq_false_iff]; exact fun e => h ((flush0_10 t).mp e)
/-- The query gradient is written back at every point but a head's eighth: there the next point keeps the block. -/
theorem flush_7 : ∀ t : Fin cfg0.N, t.val % 9 ≠ 7 → (cfg0.win 7).flush t = true :=
  (by decide +kernel : ∀ t : Fin grid0.N, t.val % 9 ≠ 7 → win0_7.flush t = true)
theorem noFlush_7 : ∀ t : Fin cfg0.N, t.val % 9 = 7 → (cfg0.win 7).flush t = false :=
  (by decide +kernel : ∀ t : Fin grid0.N, t.val % 9 = 7 → win0_7.flush t = false)

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
theorem leaves_flushed (c : Dev nD) (w : Fin cfg0.W) (t : Fin cfg0.N) (h : (cfg0.win w).flush t = true) :
    (dats m 0 c).leavesExact w t = owns (c : Thread nD τ) ((cfg0.win w).stage (cfg0.slots t w)) fullShare ((dats m 0 c).after w t) := by
  unfold Dat.leavesExact; rw [h]; cases cfg0.idle w (cfg0.grid.coords t) <;> rfl

/-- At a head's last point the query gradient's buffer still holds what the point before left. -/
theorem before_7 (c : Dev nD) (t : Fin cfg0.N) (h : t.val % 9 = 8) (d) : (dats m 0 c).before 7 t d = outDq m c t := by
  rw [(dats m 0 c).before_of_pos 7 t (by omega) ((cfg0.win 7).fetch_out rfl t),
    noFlush_7 _ (by show (t.val - 1) % 9 = 7; omega), if_neg Bool.false_ne_true]
  unfold Dat.left; rw [live_7 _ (by show (t.val - 1) % 9 ≠ 8; omega)]
  show (dats m 0 c).kept 7 _ d = _
  rw [outDq_C m c t h, ← after_7]
  unfold Dat.kept
  rw [Pipeline.fill_of_clip_none 7 _ (fun _ => rfl) d ((dats m 0 c).after 7 (prev t)), Pipeline.Window.fill_cut]

/-! ## The body obligation -/

/-- What the body is called with at point `t`, the windows one by one, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))
/-- and what it must return. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
theorem body_at_A (c : Dev nD) (t : Fin cfg0.N) (h : t.val % 9 = 0) :
    pre m c t ⊢ wp frame (wpE (defs₀ (F := F)) Variants.none c none) Set.univ (bodyAt0 t) (fun _ => post m c t) := by
  have hN : t.val < 144 := lt_of_lt_of_eq t.isLt (show cfg0.N = 144 from N_0)
  have hc0 : cond0 (grid0.coords t) := by rw [cond0_iff]; omega
  have hc1 : ¬cond1 (grid0.coords t) := by rw [cond1_iff]; omega
  have hc2 : ¬cond2 (grid0.coords t) := by rw [cond2_iff]; omega
  unfold pre post bodyAt0
  simp only [before_0, before_1, before_2, before_3, before_4, before_5, before_6]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t (live_7 t (by omega)), after_7]
  rw [leaves_live m c 8 t (live_8 t), after_8]
  rw [leaves_live m c 9 t (live_9 t), after_9]
  rw [Dat.leavesExact_idle (dats m 0 c) 10 t (idle_10 t (by omega)) (noFlush_10 t (by omega))]
  rw [show (dats m 0 c).owesAt () t.succ = (dats m 0 c).owesAt () t.castSucc from rfl,
    show (dats m 0 c).Φ t.succ = inv m c (t.val + 1) t.isLt from rfl, inv_succ, inv_castSucc,
    carry_succ_A m c t h]
  rw [outDq_A m c t h]
  rw [outDk_A m c t h]
  rw [outDv_A m c t h]
  refine (sep_mono (inv_any m c t.val _) .rfl).trans ?_
  unfold anyScratch
  unfold owned
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (bodyA c (grid0.coords t) _ _ _ _ _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [S0]; · iexact S0
  isplitl [S1]; · iexact S1
  isplitl [S2]; · iexact S2
  isplitl [S3]; · iexact S3
  iintro ⟨H0, H1, H2, H3, H4, H5, H6, H7, H8, H9, H10, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
theorem body_at_B (c : Dev nD) (t : Fin cfg0.N) (h : 1 ≤ t.val % 9 ∧ t.val % 9 ≤ 7) :
    pre m c t ⊢ wp frame (wpE (defs₀ (F := F)) Variants.none c none) Set.univ (bodyAt0 t) (fun _ => post m c t) := by
  have hN : t.val < 144 := lt_of_lt_of_eq t.isLt (show cfg0.N = 144 from N_0)
  have hc0 : ¬cond0 (grid0.coords t) := by rw [cond0_iff]; omega
  have hc1 : cond1 (grid0.coords t) := by rw [cond1_iff]; omega
  have hc2 : ¬cond2 (grid0.coords t) := by rw [cond2_iff]; omega
  unfold pre post bodyAt0
  simp only [before_0, before_1, before_2, before_3, before_4, before_5, before_6]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t (live_7 t (by omega)), after_7]
  rw [leaves_live m c 8 t (live_8 t), after_8]
  rw [leaves_live m c 9 t (live_9 t), after_9]
  rw [Dat.leavesExact_idle (dats m 0 c) 10 t (idle_10 t (by omega)) (noFlush_10 t (by omega))]
  rw [show (dats m 0 c).owesAt () t.succ = (dats m 0 c).owesAt () t.castSucc from rfl,
    show (dats m 0 c).Φ t.succ = inv m c (t.val + 1) t.isLt from rfl, inv_succ, inv_castSucc,
    carry_succ_B m c t h, inv_pos m c t.val _ (by omega)]
  rw [outDq_B m c t h]
  rw [outDk_B m c t h]
  rw [outDv_B m c t h]
  unfold owned
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (bodyB c (grid0.coords t) _ _ _ _ _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [S0]; · iexact S0
  isplitl [S1]; · iexact S1
  isplitl [S2]; · iexact S2
  isplitl [S3]; · iexact S3
  iintro ⟨H0, H1, H2, H3, H4, H5, H6, H7, H8, H9, H10, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
theorem body_at_C (c : Dev nD) (t : Fin cfg0.N) (h : t.val % 9 = 8) :
    pre m c t ⊢ wp frame (wpE (defs₀ (F := F)) Variants.none c none) Set.univ (bodyAt0 t) (fun _ => post m c t) := by
  have hN : t.val < 144 := lt_of_lt_of_eq t.isLt (show cfg0.N = 144 from N_0)
  have hc0 : ¬cond0 (grid0.coords t) := by rw [cond0_iff]; omega
  have hc1 : ¬cond1 (grid0.coords t) := by rw [cond1_iff]; omega
  have hc2 : cond2 (grid0.coords t) := by rw [cond2_iff]; omega
  unfold pre post bodyAt0
  simp only [before_0, before_1, before_2, before_3, before_4, before_5, before_6]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_flushed m c 7 t (flush_7 t (by omega)), after_7]
  rw [leaves_live m c 8 t (live_8 t), after_8]
  rw [leaves_live m c 9 t (live_9 t), after_9]
  rw [leaves_live m c 10 t (live_10 t (by omega)), after_10]
  have e7 : ∀ d, (dats m 0 c).before 7 t d = outDq m c t := fun d => before_7 m c t h d
  simp only [e7]
  rw [show (dats m 0 c).owesAt () t.succ = (dats m 0 c).owesAt () t.castSucc from rfl,
    show (dats m 0 c).Φ t.succ = inv m c (t.val + 1) t.isLt from rfl, inv_succ, inv_castSucc,
    carry_succ_C m c t h, inv_pos m c t.val _ (by omega)]
  rw [outDk_C m c t h]
  rw [outDv_C m c t h]
  rw [outDd_C m c t h]
  unfold owned
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (bodyC c (grid0.coords t) _ _ _ _ _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexact S0
  isplitl [S1]; · iexact S1
  isplitl [S2]; · iexact S2
  isplitl [S3]; · iexact S3
  iintro ⟨H0, H1, H2, H3, H4, H5, H6, H7, H8, H9, H10, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_at (c : Dev nD) (t : Fin cfg0.N) :
    pre m c t ⊢ wp frame (wpE (defs₀ (F := F)) Variants.none c none) Set.univ (bodyAt0 t) (fun _ => post m c t) := by
  rcases (by omega : t.val % 9 = 0 ∨ (1 ≤ t.val % 9 ∧ t.val % 9 ≤ 7) ∨ t.val % 9 = 8) with h | h | h
  · exact body_at_A m c t h
  · exact body_at_B m c t h
  · exact body_at_C m c t h

theorem called_body (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, called_body]
  exact triple_restated (body_at m c t) rfl .rfl fun _ => .rfl

theorem inv_first (c : Dev nD) : Pipeline.ΦA spec0 c ⊢ (dats m 0 c).Φ 0 := by
  rw [show (dats m 0 c).Φ 0 = inv m c 0 (Nat.zero_le _) from rfl]; exact .rfl

theorem inv_last (c : Dev nD) : (dats m 0 c).Φ (Fin.last cfg0.N) ⊢ Pipeline.ΦA spec0 c := by
  rw [launched_eq, show (dats m 0 c).Φ (Fin.last cfg0.N) = inv m c cfg0.N le_rfl from rfl]; exact inv_any m c _ _

/-! ## The run -/

set_option backward.isDefEq.respectTransparency.types false in
/-- Every fair execution ends with the pipeline's arrays as the proof data compute them, everything else as the region
    found it, and every semaphore at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := A_eq m) (hin := inv_first m) (hout := inv_last m)

theorem run_main : θ_run defs (onTc (τ := τ) (main (F := F))) (s₀ m ρ) (Pipeline.FramePost cfgs (dats m) 0 (V m)) :=
  (θ_run defs _ _).mono (fun _ h => h.1) (run_quiet m ρ)

/-- The argument arrays end as they were, with every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.KernelIdeal.Attn

end
-- ==== Proof.Spec.lean ====
/- Banded attention's gradients as sums of extended reals, and the two forms of a softmax's gradient that the programs
   compute: over a window of the keys with the difference taken first, and over all keys with the quotients apart. -/
module

public import Idealize.ShloMosaic.PureOps.Ideal
public import Idealize.ShloMosaic.PureOps.Ideal.Laws

@[expose] public section

noncomputable section

namespace Cert.Banded

open Idealize.ShloMosaic

/-! ## Sums of extended reals -/

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A nonnegative real factor goes under a sum, whatever infinities the sum has. -/
theorem sum_mul_coe {ι : Type} (s : Finset ι) (f : ι → EReal) {r : ℝ} (h : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast h) (EReal.coe_ne_top r), ih]

/-- A sum over all of `κ` whose terms vanish off an injection's range is the sum along it. -/
theorem sum_along {ι κ : Type} [Fintype ι] [Fintype κ] {M : Type} [AddCommMonoid M] (e : ι → κ) (he : Function.Injective e)
    (f : κ → M) (h : ∀ k, (∀ i, e i ≠ k) → f k = 0) : ∑ i, f (e i) = ∑ k, f k :=
  Fintype.sum_of_injective e he _ f (fun k hk => h k fun i hi => hk ⟨i, hi⟩) fun _ => rfl

/-! ## Softmax -/

/-- A score's weight: its exponential, nothing for −∞. -/
def wt (x : EReal) : ℝ := if x = ⊥ then 0 else Real.exp x.toReal

theorem wt_bot : wt ⊥ = 0 := if_pos rfl
theorem wt_nonneg (x : EReal) : 0 ≤ wt x := by unfold wt; split; · exact le_refl _
                                               exact (Real.exp_pos _).le
theorem wt_pos {x : EReal} (h : x ≠ ⊥) : 0 < wt x := by unfold wt; rw [if_neg h]; exact Real.exp_pos _

theorem sum_wt_pos {ι : Type} [Fintype ι] (s : ι → EReal) (h : ∃ i, s i ≠ ⊥) : 0 < ∑ i, wt (s i) := by
  obtain ⟨i, hi⟩ := h
  exact Finset.sum_pos' (fun j _ => wt_nonneg _) ⟨i, Finset.mem_univ _, wt_pos hi⟩

/-- The probability of position `i` under the scores `s`. -/
def prob {ι : Type} [Fintype ι] (s : ι → EReal) (i : ι) : ℝ := wt (s i) / ∑ j, wt (s j)

theorem prob_nonneg {ι : Type} [Fintype ι] (s : ι → EReal) (i : ι) : 0 ≤ prob s i :=
  div_nonneg (wt_nonneg _) (Finset.sum_nonneg fun _ _ => wt_nonneg _)

theorem prob_bot {ι : Type} [Fintype ι] (s : ι → EReal) (i : ι) (h : s i = ⊥) : prob s i = 0 := by
  unfold prob; rw [h, wt_bot, zero_div]

/-- Positions of score −∞ may be left out. -/
theorem prob_along {ι κ : Type} [Fintype ι] [Fintype κ] (e : ι → κ) (he : Function.Injective e) (s : κ → EReal)
    (h : ∀ k, (∀ i, e i ≠ k) → s k = ⊥) (i : ι) : prob (fun i => s (e i)) i = prob s (e i) := by
  unfold prob
  rw [sum_along e he (fun k => wt (s k)) fun k hk => by rw [h k hk, wt_bot]]

theorem exp_sub (x : EReal) (hx : x ≠ ⊤) (M : ℝ) :
    Ideal.exp (x - (M : EReal)) = ((wt x * Real.exp (-M) : ℝ) : EReal) := by
  induction x using EReal.rec with
  | bot => rw [wt_bot, zero_mul]; simp
  | top => exact absurd rfl hx
  | coe r =>
    rw [← EReal.coe_sub, Ideal.exp_coe, wt, if_neg (EReal.coe_ne_bot r), EReal.toReal_coe, ← Real.exp_add, sub_eq_add_neg]

/-- A maximum taken from −∞ is a real when no score is +∞ and some score is not −∞. -/
theorem max_real {ι : Type} [Fintype ι] (s : ι → EReal) (hT : ∀ i, s i ≠ ⊤) (hB : ∃ i, s i ≠ ⊥) :
    ∃ M : ℝ, (Finset.univ : Finset ι).fold max ⊥ s = (M : EReal) := by
  have h1 : (Finset.univ : Finset ι).fold max ⊥ s < ⊤ :=
    (Finset.fold_max_lt _).mpr ⟨bot_lt_top, fun i _ => lt_top_iff_ne_top.mpr (hT i)⟩
  have h2 : ⊥ < (Finset.univ : Finset ι).fold max ⊥ s := by
    obtain ⟨i, hi⟩ := hB
    exact lt_of_lt_of_le (bot_lt_iff_ne_bot.mpr hi) ((Finset.le_fold_max (s i)).mpr (Or.inr ⟨i, Finset.mem_univ _, le_refl _⟩))
  exact ⟨_, (EReal.coe_toReal h1.ne h2.ne').symm⟩

/-- The programs' denominator, -/
theorem denom {ι : Type} [Fintype ι] (s : ι → EReal) (hT : ∀ i, s i ≠ ⊤) (M : ℝ) :
    ∑ j, Ideal.exp (s j - (M : EReal)) = (((∑ j, wt (s j)) * Real.exp (-M) : ℝ) : EReal) := by
  rw [Finset.sum_mul, coe_sum]
  exact Finset.sum_congr rfl fun j _ => exp_sub _ (hT j) M

/-- and their quotient. -/
theorem soft {ι : Type} [Fintype ι] (s : ι → EReal) (hT : ∀ i, s i ≠ ⊤) (hB : ∃ i, s i ≠ ⊥) (M : ℝ) (i : ι) :
    Ideal.div (Ideal.exp (s i - (M : EReal))) (∑ j, Ideal.exp (s j - (M : EReal))) = ((prob s i : ℝ) : EReal) := by
  have hL := sum_wt_pos s hB
  have hE := Real.exp_pos (-M)
  rw [denom s hT M, Ideal.div_coe (mul_pos hL hE).ne', exp_sub _ (hT i), ← EReal.coe_mul]
  congr 1; unfold prob; field_simp

/-- The softmax's gradient with the quotients apart is the one with the difference taken first. -/
theorem grad {ι : Type} [Fintype ι] (s : ι → EReal) (hT : ∀ i, s i ≠ ⊤) (hB : ∃ i, s i ≠ ⊥) (M : ℝ) (g : ι → EReal) (i : ι) :
    (Ideal.div (g i) (∑ j, Ideal.exp (s j - (M : EReal)))
      + -(∑ k, g k * Ideal.div 1 ((∑ j, Ideal.exp (s j - (M : EReal))) * (∑ j, Ideal.exp (s j - (M : EReal))))
          * Ideal.exp (s k - (M : EReal)))) * Ideal.exp (s i - (M : EReal))
      = ((prob s i : ℝ) : EReal) * (g i - ∑ k, ((prob s k : ℝ) : EReal) * g k) := by
  have hL := sum_wt_pos s hB
  have hE := Real.exp_pos (-M)
  set L := ∑ j, wt (s j) with hLd
  have hl : 0 < L * Real.exp (-M) := mul_pos hL hE
  rw [denom s hT M, ← hLd, ← EReal.coe_mul, Ideal.div_coe hl.ne', Ideal.div_coe (mul_pos hl hl).ne', one_mul]
  have e1 : ∀ k, g k * ((1 / (L * Real.exp (-M) * (L * Real.exp (-M))) : ℝ) : EReal) * Ideal.exp (s k - (M : EReal))
      = (((prob s k : ℝ) : EReal) * g k) * ((1 / (L * Real.exp (-M)) : ℝ) : EReal) := by
    intro k
    rw [exp_sub _ (hT k), mul_assoc (g k), ← EReal.coe_mul, mul_comm ((prob s k : ℝ) : EReal), mul_assoc (g k), ← EReal.coe_mul]
    congr 2; unfold prob; rw [← hLd]; field_simp
  rw [Finset.sum_congr rfl fun k _ => e1 k, ← sum_mul_coe _ _ (one_div_pos.mpr hl).le, ← EReal.neg_mul,
    ← EReal.right_distrib_of_nonneg_of_ne_top (by exact_mod_cast (one_div_pos.mpr hl).le) (EReal.coe_ne_top _),
    exp_sub _ (hT i), mul_assoc, ← EReal.coe_mul, mul_comm, ← sub_eq_add_neg]
  congr 2; unfold prob; rw [← hLd]; field_simp

/-! ## Attention -/

section
variable (Q K V G : Fin 16 → Fin 4096 → Fin 128 → EReal) (B : Fin 16 → Fin 257 → EReal) (c : EReal)

/-- A query sees the keys of its own block of sixty-four and of the eight blocks before. -/
def band (q k : Fin 4096) : Prop := k.val / 64 ≤ q.val / 64 ∧ q.val / 64 ≤ k.val / 64 + 8

instance (q k : Fin 4096) : Decidable (band q k) := by unfold band; infer_instance

/-- The distance, clipped to 128 either way, counted from 0. -/
def rel (q k : Fin 4096) : Fin 257 := ⟨min 256 (q.val + 128 - k.val), by omega⟩

def score (h : Fin 16) (q k : Fin 4096) : EReal := if band q k then (∑ d, Q h q d * K h k d) * c + B h (rel q k) else ⊥
def P (h : Fin 16) (q k : Fin 4096) : EReal := ((prob (score Q K B c h q) k : ℝ) : EReal)
def dP (h : Fin 16) (q k : Fin 4096) : EReal := ∑ d, G h q d * V h k d
def dS (h : Fin 16) (q k : Fin 4096) : EReal := P Q K B c h q k * (dP V G h q k - ∑ k', P Q K B c h q k' * dP V G h q k')
def dQ (h : Fin 16) (q : Fin 4096) (d : Fin 128) : EReal := (∑ k, dS Q K V G B c h q k * K h k d) * c
def dK (h : Fin 16) (k : Fin 4096) (d : Fin 128) : EReal := (∑ q, dS Q K V G B c h q k * Q h q d) * c
def dV (h : Fin 16) (k : Fin 4096) (d : Fin 128) : EReal := ∑ q, P Q K B c h q k * G h q d

theorem score_off (h : Fin 16) {q k : Fin 4096} (hb : ¬band q k) : score Q K B c h q k = ⊥ := if_neg hb
theorem score_on (h : Fin 16) {q k : Fin 4096} (hb : band q k) :
    score Q K B c h q k = (∑ d, Q h q d * K h k d) * c + B h (rel q k) := if_pos hb
theorem P_off (h : Fin 16) {q k : Fin 4096} (hb : ¬band q k) : P Q K B c h q k = 0 := by
  unfold P; rw [prob_bot _ _ (score_off Q K B c h hb)]; rfl
theorem dS_off (h : Fin 16) {q k : Fin 4096} (hb : ¬band q k) : dS Q K V G B c h q k = 0 := by
  unfold dS; rw [P_off Q K B c h hb, zero_mul]

theorem real_sum {ι : Type} [Fintype ι] (f : ι → EReal) (h : ∀ i, ∃ r : ℝ, f i = r) : ∃ r : ℝ, ∑ i, f i = r := by
  choose r hr using h
  exact ⟨∑ i, r i, by rw [coe_sum]; exact Finset.sum_congr rfl fun i _ => hr i⟩

/-- The scores of the band are reals when the queries, the keys, the biases and the factor are. -/
theorem score_real (hQ : ∀ h q d, ∃ r : ℝ, Q h q d = r) (hK : ∀ h q d, ∃ r : ℝ, K h q d = r) (hB : ∀ h n, ∃ r : ℝ, B h n = r)
    (hc : ∃ r : ℝ, c = r) (h : Fin 16) {q k : Fin 4096} (hb : band q k) : ∃ r : ℝ, score Q K B c h q k = r := by
  rw [score_on Q K B c h hb]
  obtain ⟨a, ha⟩ := real_sum (fun d => Q h q d * K h k d) fun d => by
    obtain ⟨x, hx⟩ := hQ h q d; obtain ⟨y, hy⟩ := hK h k d
    exact ⟨x * y, by rw [hx, hy, EReal.coe_mul]⟩
  obtain ⟨b, hb'⟩ := hB h (rel q k)
  obtain ⟨r, hr⟩ := hc
  exact ⟨a * r + b, by rw [ha, hb', hr, EReal.coe_add, EReal.coe_mul]⟩

theorem band_self (q : Fin 4096) : band q q := ⟨le_refl _, Nat.le_add_right _ _⟩

end

end Cert.Banded

end
-- ==== Proof.Window.lean ====
/- Attention's gradients over a window of the keys, or of the queries, that holds the band. -/
module

public import proofs.«01_k».proof.Proof.Spec

@[expose] public section

noncomputable section

namespace Cert.Banded

open Idealize.ShloMosaic

variable (Q K V G : Fin 16 → Fin 4096 → Fin 128 → EReal) (B : Fin 16 → Fin 257 → EReal) (c : EReal)

/-- What the gradients need: queries, keys, biases and the factor are reals, the factor not negative. -/
structure Real' : Prop where
  q : ∀ h q d, ∃ r : ℝ, Q h q d = r
  k : ∀ h q d, ∃ r : ℝ, K h q d = r
  b : ∀ h n, ∃ r : ℝ, B h n = r
  c : ∃ r : ℝ, 0 ≤ r ∧ c = r

variable {Q K B c}

theorem Real'.score (R : Real' Q K B c) (h : Fin 16) {q k : Fin 4096} (hb : band q k) : ∃ r : ℝ, score Q K B c h q k = r :=
  score_real Q K B c R.q R.k R.b (by obtain ⟨r, _, h⟩ := R.c; exact ⟨r, h⟩) h hb

theorem Real'.score_ne_top (R : Real' Q K B c) (h : Fin 16) (q k : Fin 4096) : Banded.score Q K B c h q k ≠ ⊤ := by
  by_cases hb : band q k
  · obtain ⟨r, hr⟩ := R.score h hb; rw [hr]; exact EReal.coe_ne_top r
  · rw [score_off Q K B c h hb]; exact bot_ne_top

variable (Q K B c)

/-- A window's scores: the products with the bias added, or −∞ off the band. -/
theorem window_score {ι : Type} [Fintype ι] (e : ι → Fin 4096) (h : Fin 16) (q : Fin 4096) (t : ι → EReal)
    (ht : ∀ i, t i = if band q (e i) then B h (rel q (e i)) else ⊥) (i : ι) :
    (∑ d, Q h q d * K h (e i) d) * c + t i = score Q K B c h q (e i) := by
  rw [ht i]; unfold score; split
  · rfl
  · exact EReal.add_bot _

section
variable {ι : Type} [Fintype ι] (e : ι → Fin 4096) (he : Function.Injective e) (h : Fin 16) (q : Fin 4096)
  (cov : ∀ k, band q k → ∃ i, e i = k)

include he cov in
theorem window_prob (i : ι) : ((prob (fun i => score Q K B c h q (e i)) i : ℝ) : EReal) = P Q K B c h q (e i) := by
  unfold P
  rw [prob_along e he (score Q K B c h q) (fun k hk => score_off Q K B c h fun hb => (cov k hb).elim hk) i]

include he cov in
/-- A softmax over the window is the softmax over all keys. -/
theorem window_P (R : Real' Q K B c) (s : ι → EReal) (hs : ∀ i, s i = score Q K B c h q (e i)) (i : ι) :
    Ideal.div (Ideal.exp (s i - Finset.univ.fold max ⊥ s)) (∑ j, Ideal.exp (s j - Finset.univ.fold max ⊥ s))
      = P Q K B c h q (e i) := by
  obtain rfl : s = fun i => score Q K B c h q (e i) := funext hs
  have hT : ∀ i, score Q K B c h q (e i) ≠ ⊤ := fun i => R.score_ne_top h q _
  have hB : ∃ i, score Q K B c h q (e i) ≠ ⊥ := by
    obtain ⟨i, hi⟩ := cov q (band_self q)
    obtain ⟨r, hr⟩ := R.score h (band_self q)
    exact ⟨i, by rw [hi, hr]; exact EReal.coe_ne_bot r⟩
  obtain ⟨M, hM⟩ := max_real _ hT hB
  rw [hM, soft _ hT hB M i]
  exact window_prob Q K B c e he h q cov i

include he cov in
/-- The scores' gradients over the window are those over all keys. -/
theorem window_dS (i : ι) :
    P Q K B c h q (e i) * (dP V G h q (e i) - ∑ j, P Q K B c h q (e j) * dP V G h q (e j)) = dS Q K V G B c h q (e i) := by
  unfold dS
  rw [sum_along e he (fun k => P Q K B c h q k * dP V G h q k) fun k hk => by
    rw [P_off Q K B c h (fun hb => (cov k hb).elim hk), zero_mul]]

include he cov in
theorem window_dQ (d : Fin 128) : (∑ i, dS Q K V G B c h q (e i) * K h (e i) d) * c = dQ Q K V G B c h q d := by
  unfold dQ
  rw [sum_along e he (fun k => dS Q K V G B c h q k * K h k d) fun k hk => by
    rw [dS_off Q K V G B c h (fun hb => (cov k hb).elim hk), zero_mul]]

end

/-- Position `r` of block `b`. -/
def at_ (b : Fin 8) (r : Fin 512) : Fin 4096 := ⟨512 * b.val + r.val, by omega⟩

/-- Key `j` of the window of block `b`, the block before it first. -/
def win_ (b : Fin 8) (hb : 1 ≤ b.val) (j : Fin 1024) : Fin 4096 := ⟨512 * (b.val - 1) + j.val, by omega⟩

theorem at_inj (b : Fin 8) : Function.Injective (at_ b) := fun i j h => Fin.ext (by
  have := congrArg Fin.val h; simp only [at_] at this; omega)
theorem win_inj (b : Fin 8) (hb : 1 ≤ b.val) : Function.Injective (win_ b hb) := fun i j h => Fin.ext (by
  have := congrArg Fin.val h; simp only [win_] at this; omega)

/-- The first block's queries see its keys only, -/
theorem at_cov (r : Fin 512) (k : Fin 4096) (h : band (at_ 0 r) k) : ∃ j, at_ 0 j = k := by
  unfold band at_ at h; simp only [Fin.val_zero] at h
  exact ⟨⟨k.val, by omega⟩, Fin.ext (by simp [at_])⟩

/-- a later block's see the window's. -/
theorem win_cov (b : Fin 8) (hb : 1 ≤ b.val) (r : Fin 512) (k : Fin 4096) (h : band (at_ b r) k) : ∃ j, win_ b hb j = k := by
  unfold band at_ at h; simp only at h
  exact ⟨⟨k.val - 512 * (b.val - 1), by omega⟩, Fin.ext (by simp only [win_]; omega)⟩

/-- A key of block `b` is seen from blocks `b` and `b + 1`. -/
theorem sum_two (b : Fin 8) (hb : b.val < 7) (j : Fin 512) (f : Fin 4096 → EReal) (hf : ∀ q, ¬band q (at_ b j) → f q = 0) :
    (∑ r, f (at_ b r)) + ∑ r, f (at_ ⟨b.val + 1, by omega⟩ r) = ∑ q, f q := by
  rw [← sum_along (Sum.elim (at_ b) (at_ ⟨b.val + 1, by omega⟩)) ?_ f ?_, Fintype.sum_sum_type]
  · rfl
  · rintro (x | x) (y | y) h <;> have h := congrArg Fin.val h <;> simp only [Sum.elim_inl, Sum.elim_inr, at_] at h
    · congr 1; exact Fin.ext (by omega)
    · omega
    · omega
    · congr 1; exact Fin.ext (by omega)
  · intro q hq
    refine hf q fun hbd => ?_
    unfold band at_ at hbd; simp only at hbd
    by_cases hlt : q.val < 512 * b.val + 512
    · exact hq (.inl ⟨q.val - 512 * b.val, by omega⟩) (Fin.ext (by simp only [Sum.elim_inl, at_]; omega))
    · exact hq (.inr ⟨q.val - 512 * (b.val + 1), by omega⟩) (Fin.ext (by simp only [Sum.elim_inr, at_]; omega))

/-- The last block's keys are seen from it alone. -/
theorem sum_last (j : Fin 512) (f : Fin 4096 → EReal) (hf : ∀ q, ¬band q (at_ 7 j) → f q = 0) :
    ∑ r, f (at_ 7 r) = ∑ q, f q := by
  refine sum_along (at_ 7) (at_inj 7) f fun q hq => hf q fun hbd => ?_
  unfold band at_ at hbd
  simp only [show ((7 : Fin 8) : ℕ) = 7 from rfl] at hbd
  exact hq ⟨q.val - 3584, by omega⟩ (Fin.ext (by simp only [at_, show ((7 : Fin 8) : ℕ) = 7 from rfl]; omega))

/-- The key's gradient in two parts, -/
theorem dK_two (R : Real' Q K B c) (b : Fin 8) (hb : b.val < 7) (h : Fin 16) (j : Fin 512) (d : Fin 128) :
    (∑ r, dS Q K V G B c h (at_ b r) (at_ b j) * Q h (at_ b r) d) * c
      + (∑ r, dS Q K V G B c h (at_ ⟨b.val + 1, by omega⟩ r) (at_ b j) * Q h (at_ ⟨b.val + 1, by omega⟩ r) d) * c
      = dK Q K V G B c h (at_ b j) d := by
  obtain ⟨r, hr, rfl⟩ := R.c
  rw [← EReal.right_distrib_of_nonneg_of_ne_top (by exact_mod_cast hr) (EReal.coe_ne_top r),
    sum_two b hb j (fun q => dS Q K V G B r h q (at_ b j) * Q h q d) fun q hq => by rw [dS_off Q K V G B _ h hq, zero_mul]]
  rfl
/-- or in one, -/
theorem dK_last (h : Fin 16) (j : Fin 512) (d : Fin 128) :
    (∑ r, dS Q K V G B c h (at_ 7 r) (at_ 7 j) * Q h (at_ 7 r) d) * c = dK Q K V G B c h (at_ 7 j) d := by
  rw [sum_last j (fun q => dS Q K V G B c h q (at_ 7 j) * Q h q d) fun q hq => by rw [dS_off Q K V G B _ h hq, zero_mul]]
  rfl
/-- and the value's. -/
theorem dV_two (b : Fin 8) (hb : b.val < 7) (h : Fin 16) (j : Fin 512) (d : Fin 128) :
    (∑ r, P Q K B c h (at_ b r) (at_ b j) * G h (at_ b r) d)
      + (∑ r, P Q K B c h (at_ ⟨b.val + 1, by omega⟩ r) (at_ b j) * G h (at_ ⟨b.val + 1, by omega⟩ r) d)
      = dV Q K G B c h (at_ b j) d :=
  sum_two b hb j (fun q => P Q K B c h q (at_ b j) * G h q d) fun q hq => by rw [P_off Q K B _ h hq, zero_mul]
theorem dV_last (h : Fin 16) (j : Fin 512) (d : Fin 128) :
    (∑ r, P Q K B c h (at_ 7 r) (at_ 7 j) * G h (at_ 7 r) d) = dV Q K G B c h (at_ 7 j) d :=
  sum_last j (fun q => P Q K B c h q (at_ 7 j) * G h q d) fun q hq => by rw [P_off Q K B _ h hq, zero_mul]

end Cert.Banded

end
-- ==== Proof.Block.lean ====
/- The attention backward kernel's pure values read at an index. -/
module

public import proofs.«01_k».proof.Proof.Body
public import proofs.«01_k».proof.Proof.Window
public import Idealize.ShloMosaic.Lib.Pointwise
public import Idealize.ShloMosaic.Lib.ValueIdx
public import Idealize.ShloMosaic.Lib.IdealHost

@[expose] public section

set_option maxRecDepth 16384

noncomputable section

namespace Cert.KernelIdeal.Attn

open Cert.KernelIdeal Cert.KernelIdeal.Gen
open Idealize.ShloMosaic
open Cert.Banded (at_ win_ band rel)

/-! ## The factor and the mask -/

/-- The factor's value. -/
abbrev scale : EReal := Ideal.ofBits .f32 0x3DB504F3#32

theorem scale_real : ∃ r : ℝ, 0 ≤ r ∧ scale = r := by
  refine ⟨((2 ^ 23 + 3474675 : ℕ) : ℝ) * (2 : ℝ) ^ (-27 : ℤ), by positivity, ?_⟩
  simp [Ideal.ofBits, Ideal.ieee, -EReal.coe_mul]

theorem ninf : Ideal.ofBits .f32 0xFF800000#32 = ⊥ := by
  simp [Ideal.ofBits, Ideal.ieee]

theorem mask_bot : Named.named (F := Ideal) κ "mask" (φ := .f32) 0xF149F2CA#32 = (⊥ : EReal) := rfl

/-! ## The band -/

/-- The kernel's floor division by 64. -/
def quot (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

theorem quot_eq : ∀ n : Fin 1024, quot (BitVec.ofNat 32 n.val) = BitVec.ofNat 32 (n.val / 64) := by decide +kernel

/-- The kernel's test of a distance of blocks of 64. -/
def near (w : BitVec 32) : BitVec 1 := IntOp.andi (IntOp.cmpi .sge w 0#32) (IntOp.cmpi .sle w 8#32)

theorem near_eq : ∀ (a : Fin 8) (b : Fin 16), near (IntOp.subi (IntOp.addi 8#32 (BitVec.ofNat 32 a.val)) (BitVec.ofNat 32 b.val))
    = if a.val ≤ b.val ∧ b.val ≤ a.val + 8 then 1#1 else 0#1 := by decide +kernel

theorem select_one {α : Type} (a b : α) : Scalar.select 1#1 a b = a := rfl
theorem select_zero {α : Type} (a b : α) : Scalar.select 0#1 a b = b := rfl

theorem tile_at (b : Vec Ideal S1x1x2048 .f32) (r : Fin 512) (d : Fin 1024) :
    tile b (ix2 r d) = if r.val / 64 ≤ d.val / 64 ∧ d.val / 64 ≤ r.val / 64 + 8
      then b (ix3 0 0 ⟨(d.val + 2048 - r.val) % 2048, Nat.mod_lt _ (by omega)⟩) else ⊥ := by
  unfold tile k0_pay18 k0_pay14 k0_pay15 k0_pay16 k0_pay17
  pointwise
  have e : near (IntOp.subi (IntOp.addi 8#32 (quot (BitVec.ofNat 32 r.val))) (quot (BitVec.ofNat 32 d.val)))
      = if r.val / 64 ≤ d.val / 64 ∧ d.val / 64 ≤ r.val / 64 + 8 then 1#1 else 0#1 := by
    rw [quot_eq d, quot_eq ⟨r.val, by omega⟩]
    exact near_eq ⟨r.val / 64, by omega⟩ ⟨d.val / 64, by omega⟩
  unfold near quot at e
  rw [e, mask_bot]
  split
  · rw [select_one]
    refine congrArg (fun x => b (ix3 0 0 x)) (Fin.ext ?_)
    show (d.val + 2048 - r.val % 2048) % 2048 = _
    rw [Nat.mod_eq_of_lt (a := r.val) (by omega)]
  · rw [select_zero]

/-! ## A later query block -/

theorem pay29_at (kp kc : Vec Ideal S512x128 .bf16) (tl : Vec Ideal S512x1024 .f32) (q : Vec Ideal S512x128 .bf16)
    (r : Fin 512) (j : Fin 1024) :
    k0_pay29 kp kc tl q (ix2 r j) =
      (fun s : Fin 1024 → EReal => Ideal.div (Ideal.exp (s j - Finset.univ.fold max ⊥ s))
        (∑ x, Ideal.exp (s x - Finset.univ.fold max ⊥ s)))
      (fun x => (∑ d, q (ix2 r d) * k0_pay28 kp kc (ix2 x d)) * scale + tl (ix2 r x)) := by
  unfold k0_pay29
  pointwise
  rw [ninf]

/-- The score gradients of a block from its probabilities `p`, the outputs' gradients `g` and the values `w`. -/
def dsOf (p : FVec Ideal S512x1024 .f32) (g : Vec Ideal S512x128 .bf16) (w : FVec Ideal S1024x128 .bf16) : FVec Ideal S512x1024 .f32 :=
  have d : FVec Ideal S512x1024 .f32 :=
    matmul (φ₁ := .bf16) dot_S512x128_S1024x128_S512x1024_1_1_0_0_n_n none g w (constant S512x1024 .f32 0x00000000#32)
  mulf p (subf d (broadcastTo S512x1024 (shapeCast S512x1
    (multiReduction .add [1] S512 (mulf p d) 0x00000000#32 reduces_S512x1024_S512 (.inl rfl) rfl)
    shapeCasts_S512_S512x1) broadcasts_S512x1_S512x1024))

theorem dsOf_at (p : FVec Ideal S512x1024 .f32) (g : Vec Ideal S512x128 .bf16) (w : FVec Ideal S1024x128 .bf16)
    (r : Fin 512) (j : Fin 1024) :
    dsOf p g w (ix2 r j) = p (ix2 r j) * ((∑ d, g (ix2 r d) * w (ix2 j d))
      - ∑ x, p (ix2 r x) * ∑ d, g (ix2 r d) * w (ix2 x d)) := by
  unfold dsOf
  pointwise

theorem pay30_eq (kp kc vp vc : Vec Ideal S512x128 .bf16) (tl : Vec Ideal S512x1024 .f32) (q g : Vec Ideal S512x128 .bf16) :
    k0_pay30 kp kc vp vc tl q g = dsOf (k0_pay29 kp kc tl q) g (k0_pay28 vp vc) := rfl

theorem pay4_at (v13 : FVec Ideal S1024x128 .bf16) (v45 : FVec Ideal S512x1024 .bf16) (r : Fin 512) (d : Fin 128) :
    k0_pay4 v13 v45 (ix2 r d) = (∑ x, v45 (ix2 r x) * v13 (ix2 x d)) * scale := by
  unfold k0_pay4
  pointwise
theorem pay7_at (v18 : Vec Ideal S512x128 .bf16) (v45 : FVec Ideal S512x1024 .bf16) (a : Vec Ideal S512x128 .f32) (r : Fin 512) (d : Fin 128) :
    k0_pay7 v18 v45 a (ix2 r d) = a (ix2 r d) + (∑ x, v45 (ix2 x ⟨r.val, by omega⟩) * v18 (ix2 x d)) * scale := by
  unfold k0_pay7 k0_pay5
  pointwise
theorem pay9_at (v18 : Vec Ideal S512x128 .bf16) (v45 : FVec Ideal S512x1024 .bf16) (r : Fin 512) (d : Fin 128) :
    k0_pay9 v18 v45 (ix2 r d) = (∑ x, v45 (ix2 x ⟨512 + r.val, by omega⟩) * v18 (ix2 x d)) * scale := by
  unfold k0_pay9 k0_pay5
  pointwise
theorem pay8_at (v19 : Vec Ideal S512x128 .bf16) (v32 : FVec Ideal S512x1024 .f32) (a : Vec Ideal S512x128 .f32) (r : Fin 512) (d : Fin 128) :
    k0_pay8 v19 v32 a (ix2 r d) = a (ix2 r d) + ∑ x, v32 (ix2 x ⟨r.val, by omega⟩) * v19 (ix2 x d) := by
  unfold k0_pay8 k0_pay6
  pointwise
theorem pay10_at (v19 : Vec Ideal S512x128 .bf16) (v32 : FVec Ideal S512x1024 .f32) (r : Fin 512) (d : Fin 128) :
    k0_pay10 v19 v32 (ix2 r d) = ∑ x, v32 (ix2 x ⟨512 + r.val, by omega⟩) * v19 (ix2 x d) := by
  unfold k0_pay10 k0_pay6
  pointwise
theorem pay28_at (v18 v19 : Vec Ideal S512x128 .bf16)  (r : Fin 1024) (d : Fin 128) :
    k0_pay28 v18 v19 (ix2 r d) = if h : r.val < 512 then v18 (ix2 ⟨r.val, h⟩ d) else v19 (ix2 ⟨r.val - 512, by omega⟩ d) := by
  unfold k0_pay28
  pointwise

/-! ## A head's first query block -/

theorem pay20_at (k q : Vec Ideal S512x128 .bf16) (r j : Fin 512) :
    k0_pay20 k q (ix2 r j) = ∑ d, q (ix2 r d) * k (ix2 j d) := by
  unfold k0_pay20
  pointwise

theorem pay21_at (t s : FVec Ideal S512x512 .f32) (c : Ideal .f32) (r j : Fin 512) :
    k0_pay21 t s c (ix2 r j) =
      (fun s : Fin 512 → EReal => Ideal.div (Ideal.exp (s j - Finset.univ.fold max ⊥ s))
        (∑ x, Ideal.exp (s x - Finset.univ.fold max ⊥ s)))
      (fun x => s (ix2 r x) * c + t (ix2 r x)) := by
  unfold k0_pay21
  pointwise
  rw [ninf]

theorem pay22_at (v g : Vec Ideal S512x128 .bf16) (t s : FVec Ideal S512x512 .f32) (c : Ideal .f32) (r j : Fin 512) :
    k0_pay22 v t g s c (ix2 r j) = k0_pay21 t s c (ix2 r j) * ((∑ d, g (ix2 r d) * v (ix2 j d))
      - ∑ x, k0_pay21 t s c (ix2 r x) * ∑ d, g (ix2 r d) * v (ix2 x d)) := by
  unfold k0_pay22
  pointwise

theorem pay25_at (k v g : Vec Ideal S512x128 .bf16) (t s : FVec Ideal S512x512 .f32) (r : Fin 512) (d : Fin 128) :
    k0_pay25 k v t g s sc (ix2 r d) = (∑ x, k0_pay22 v t g s sc (ix2 r x) * k (ix2 x d)) * scale := by
  unfold k0_pay25 k0_pay24
  pointwise

theorem pay27_at (v q g : Vec Ideal S512x128 .bf16) (t s : FVec Ideal S512x512 .f32) (r : Fin 512) (d : Fin 128) :
    k0_pay27 v t q g s sc (ix2 r d) = (∑ x, k0_pay22 v t g s sc (ix2 x r) * q (ix2 x d)) * scale := by
  unfold k0_pay27 k0_pay24
  pointwise

theorem pay26_at (g : Vec Ideal S512x128 .bf16) (t s : FVec Ideal S512x512 .f32) (r : Fin 512) (d : Fin 128) :
    k0_pay1 (k0_pay26 t g s sc) (ix2 r d) = ∑ x, k0_pay21 t s sc (ix2 x r) * g (ix2 x d) := by
  unfold k0_pay1 k0_pay26
  pointwise

theorem tileR_at (b : Vec Ideal S1x1x2048 .f32) (r j : Fin 512) :
    tileR b (ix2 r j) = tile b (ix2 r ⟨512 + j.val, by omega⟩) := by
  unfold tileR View.ld
  congr 1
  funext a
  apply Fin.ext
  match a with
  | ⟨0, _⟩ => show 0 + 1 * r.val = r.val; omega
  | ⟨1, _⟩ => show 512 + 1 * j.val = 512 + j.val; omega

end Cert.KernelIdeal.Attn

end
-- ==== Proof.Head.lean ====
/- What the attention backward kernel's blocks hold, in terms of the queries, keys, values, outputs' gradients and biases. -/
module

public import proofs.«01_k».proof.Proof.Block

@[expose] public section

set_option maxRecDepth 16384

noncomputable section

namespace Cert.KernelIdeal.Attn

open Cert.KernelIdeal Cert.KernelIdeal.Gen
open Idealize.ShloMosaic
open Cert.Banded

variable {Q K V G : Fin 16 → Fin 4096 → Fin 128 → EReal} {B : Fin 16 → Fin 257 → EReal}

/-- Block `b` of head `h` of an array. -/
def Holds (x : Vec Ideal S512x128 .bf16) (X : Fin 16 → Fin 4096 → Fin 128 → EReal) (h : Fin 16) (b : Fin 8) : Prop :=
  ∀ r d, x (ix2 r d) = X h (at_ b r) d

/-- A head's row of biases by key minus query modulo 2048, the key counted in the window of two blocks. -/
def Biases (x : Vec Ideal S1x1x2048 .f32) (B : Fin 16 → Fin 257 → EReal) (h : Fin 16) : Prop :=
  ∀ (r : Fin 512) (d : Fin 1024), x (ix3 0 0 ⟨(d.val + 2048 - r.val) % 2048, Nat.mod_lt _ (by omega)⟩)
    = B h ⟨min 256 (r.val + 640 - d.val), by omega⟩

variable {h : Fin 16}

theorem win_lo {a b : Fin 8} (hab : a.val + 1 = b.val) (r : Fin 512) (hr : r.val < 1024) :
    win_ b (by omega) ⟨r.val, hr⟩ = at_ a r := Fin.ext (by simp only [win_, at_]; omega)
theorem win_hi (b : Fin 8) (hb : 1 ≤ b.val) (r : Fin 512) (hr : 512 + r.val < 1024) :
    win_ b hb ⟨512 + r.val, hr⟩ = at_ b r := Fin.ext (by simp only [win_, at_]; omega)

/-- The tile holds the biases of the band, in a later block's window -/
theorem tile_win {bs : Vec Ideal S1x1x2048 .f32} (H : Biases bs B h) (b : Fin 8) (hb : 1 ≤ b.val) (r : Fin 512) (j : Fin 1024) :
    tile bs (ix2 r j) = if band (at_ b r) (win_ b hb j) then B h (rel (at_ b r) (win_ b hb j)) else ⊥ := by
  rw [tile_at, H r j]
  have e : (r.val / 64 ≤ j.val / 64 ∧ j.val / 64 ≤ r.val / 64 + 8) ↔ band (at_ b r) (win_ b hb j) := by
    unfold band at_ win_; simp only; omega
  have e' : (⟨min 256 (r.val + 640 - j.val), by omega⟩ : Fin 257) = rel (at_ b r) (win_ b hb j) := by
    unfold rel at_ win_; simp only; apply Fin.ext; simp only; omega
  rw [e']
  exact if_congr e rfl rfl

/-- and in the first block's. -/
theorem tileR_win {bs : Vec Ideal S1x1x2048 .f32} (H : Biases bs B h) (r j : Fin 512) :
    tileR bs (ix2 r j) = if band (at_ 0 r) (at_ 0 j) then B h (rel (at_ 0 r) (at_ 0 j)) else ⊥ := by
  rw [tileR_at, tile_at, H r ⟨512 + j.val, by omega⟩]
  have e : (r.val / 64 ≤ (512 + j.val) / 64 ∧ (512 + j.val) / 64 ≤ r.val / 64 + 8) ↔ band (at_ 0 r) (at_ 0 j) := by
    unfold band at_; simp only [Fin.val_zero]; omega
  have e' : (⟨min 256 (r.val + 640 - (512 + j.val)), by omega⟩ : Fin 257) = rel (at_ 0 r) (at_ 0 j) := by
    unfold rel at_; simp only [Fin.val_zero]; apply Fin.ext; simp only; omega
  simp only
  rw [e']
  exact if_congr e rfl rfl

/-! ## A later block -/

section
variable {a b : Fin 8} (hab : a.val + 1 = b.val) (R : Real' Q K B scale)
  {q kp kc vp vc g : Vec Ideal S512x128 .bf16} {tl : Vec Ideal S512x1024 .f32}

/-- Two blocks one after the other are the window. -/
theorem cat_win {X : Fin 16 → Fin 4096 → Fin 128 → EReal} {xp xc : Vec Ideal S512x128 .bf16} (hp : Holds xp X h a) (hc : Holds xc X h b)
    (j : Fin 1024) (d : Fin 128) : k0_pay28 xp xc (ix2 j d) = X h (win_ b (by omega) j) d := by
  rw [pay28_at]
  split
  · rename_i hj
    rw [hp]; congr 1; exact Fin.ext (by simp only [win_, at_]; omega)
  · rename_i hj
    rw [hc]; congr 1; exact Fin.ext (by simp only [win_, at_]; omega)

variable (hq : Holds q Q h b) (hkp : Holds kp K h a) (hkc : Holds kc K h b)
  (htl : ∀ r j, tl (ix2 r j) = if band (at_ b r) (win_ b (by omega) j) then B h (rel (at_ b r) (win_ b (by omega) j)) else ⊥)

include R hq hkp hkc htl in
theorem probs_win (r : Fin 512) (j : Fin 1024) :
    k0_pay29 kp kc tl q (ix2 r j) = P Q K B scale h (at_ b r) (win_ b (by omega) j) := by
  rw [pay29_at]
  refine window_P Q K B scale (win_ b (by omega)) (win_inj b _) h (at_ b r) (win_cov b _ r) R _ (fun i => ?_) j
  rw [← window_score Q K B scale (win_ b (by omega)) h (at_ b r) (fun i => tl (ix2 r i)) (htl r) i]
  congr 2
  exact Finset.sum_congr rfl fun d _ => by rw [hq, cat_win hab hkp hkc]

variable (hvp : Holds vp V h a) (hvc : Holds vc V h b) (hg : Holds g G h b)

include R hq hkp hkc htl hvp hvc hg in
theorem grads_win (r : Fin 512) (j : Fin 1024) :
    k0_pay30 kp kc vp vc tl q g (ix2 r j) = dS Q K V G B scale h (at_ b r) (win_ b (by omega) j) := by
  have e : ∀ x : Fin 1024, (∑ d, g (ix2 r d) * k0_pay28 vp vc (ix2 x d)) = dP V G h (at_ b r) (win_ b (by omega) x) :=
    fun x => Finset.sum_congr rfl fun d _ => by rw [hg, cat_win hab hvp hvc]
  rw [pay30_eq, dsOf_at]
  simp only [e, probs_win hab R hq hkp hkc htl]
  exact window_dS Q K V G B scale (win_ b _) (win_inj b _) h (at_ b r) (win_cov b _ r) j

theorem pay32_at (r : Fin 512) (j : Fin 1024) :
    k0_pay32 kp kc vp vc tl q g (ix2 r j) = k0_pay30 kp kc vp vc tl q g (ix2 r j) := rfl

include R hq hkp hkc htl hvp hvc hg in
/-- The block's query gradient. -/
theorem dq1_at (r : Fin 512) (d : Fin 128) : dq1 q kp kc vp vc g tl (ix2 r d) = dQ Q K V G B scale h (at_ b r) d := by
  unfold dq1
  rw [pay4_at]
  simp only [pay32_at, grads_win hab R hq hkp hkc htl hvp hvc hg, cat_win hab hkp hkc]
  exact window_dQ Q K V G B scale (win_ b _) (win_inj b _) h (at_ b r) (win_cov b _ r) d

include R hq hkp hkc htl hvp hvc hg in
/-- Its part of its own keys' gradient. -/
theorem ak1_at (r : Fin 512) (d : Fin 128) : ak1 q kp kc vp vc g tl (ix2 r d)
    = (∑ x, dS Q K V G B scale h (at_ b x) (at_ b r) * Q h (at_ b x) d) * scale := by
  unfold ak1
  rw [pay9_at]
  simp only [pay32_at, grads_win hab R hq hkp hkc htl hvp hvc hg, win_hi, hq _ _]

include R hq hkp hkc htl hvp hvc hg in
/-- The keys' gradient of the block before. -/
theorem dk1_at {ak : Vec Ideal S512x128 .f32}
    (hak : ∀ r d, ak (ix2 r d) = (∑ x, dS Q K V G B scale h (at_ a x) (at_ a r) * Q h (at_ a x) d) * scale)
    (r : Fin 512) (d : Fin 128) : dk1 q kp kc vp vc g tl ak (ix2 r d) = dK Q K V G B scale h (at_ a r) d := by
  unfold dk1
  rw [pay7_at]
  simp only [pay32_at, grads_win hab R hq hkp hkc htl hvp hvc hg, win_lo hab, hq _ _, hak]
  have := dK_two Q K V G B scale R a (by omega) h r d
  rw [show (⟨a.val + 1, by omega⟩ : Fin 8) = b from Fin.ext hab] at this
  exact this

include R hq hkp hkc htl hg in
/-- Its part of its own values' gradient. -/
theorem av1_at (r : Fin 512) (d : Fin 128) : av1 q kp kc g tl (ix2 r d)
    = ∑ x, P Q K B scale h (at_ b x) (at_ b r) * G h (at_ b x) d := by
  unfold av1
  rw [pay10_at]
  simp only [probs_win hab R hq hkp hkc htl, win_hi, hg _ _]

include R hq hkp hkc htl hg in
/-- The values' gradient of the block before. -/
theorem dv1_at {av : Vec Ideal S512x128 .f32}
    (hav : ∀ r d, av (ix2 r d) = ∑ x, P Q K B scale h (at_ a x) (at_ a r) * G h (at_ a x) d)
    (r : Fin 512) (d : Fin 128) : dv1 q kp kc g tl av (ix2 r d) = dV Q K G B scale h (at_ a r) d := by
  unfold dv1
  rw [pay8_at]
  simp only [probs_win hab R hq hkp hkc htl, win_lo hab, hg _ _, hav]
  have := dV_two Q K G B scale a (by omega) h r d
  rw [show (⟨a.val + 1, by omega⟩ : Fin 8) = b from Fin.ext hab] at this
  exact this

end

/-! ## A head's first block -/

section
variable (R : Real' Q K B scale) {q kc vc g : Vec Ideal S512x128 .bf16} {bs : Vec Ideal S1x1x2048 .f32}
  (hq : Holds q Q h 0) (hkc : Holds kc K h 0) (hb : Biases bs B h)

include R hq hkc hb in
theorem probs_first (r j : Fin 512) :
    k0_pay21 (tileR bs) (k0_pay20 kc q) sc (ix2 r j) = P Q K B scale h (at_ 0 r) (at_ 0 j) := by
  rw [pay21_at]
  refine window_P Q K B scale (at_ 0) (at_inj 0) h (at_ 0 r) (at_cov r) R _ (fun i => ?_) j
  rw [← window_score Q K B scale (at_ 0) h (at_ 0 r) (fun i => tileR bs (ix2 r i)) (tileR_win hb r) i]
  congr 2
  rw [pay20_at]
  exact Finset.sum_congr rfl fun d _ => by rw [hq, hkc]

variable (hvc : Holds vc V h 0) (hg : Holds g G h 0)

include R hq hkc hb hvc hg in
theorem grads_first (r j : Fin 512) :
    k0_pay22 vc (tileR bs) g (k0_pay20 kc q) sc (ix2 r j) = dS Q K V G B scale h (at_ 0 r) (at_ 0 j) := by
  have e : ∀ x : Fin 512, (∑ d, g (ix2 r d) * vc (ix2 x d)) = dP V G h (at_ 0 r) (at_ 0 x) :=
    fun x => Finset.sum_congr rfl fun d _ => by rw [hg, hvc]
  rw [pay22_at]
  simp only [e, probs_first R hq hkc hb]
  exact window_dS Q K V G B scale (at_ 0) (at_inj 0) h (at_ 0 r) (at_cov r) j

include R hq hkc hb hvc hg in
theorem dq0_at (r : Fin 512) (d : Fin 128) : dq0 q kc vc g bs (ix2 r d) = dQ Q K V G B scale h (at_ 0 r) d := by
  unfold dq0
  rw [pay25_at]
  simp only [grads_first R hq hkc hb hvc hg, hkc _ _]
  exact window_dQ Q K V G B scale (at_ 0) (at_inj 0) h (at_ 0 r) (at_cov r) d

include R hq hkc hb hvc hg in
theorem ak0_at (r : Fin 512) (d : Fin 128) : ak0 q kc vc g bs (ix2 r d)
    = (∑ x, dS Q K V G B scale h (at_ 0 x) (at_ 0 r) * Q h (at_ 0 x) d) * scale := by
  unfold ak0
  rw [pay27_at]
  simp only [grads_first R hq hkc hb hvc hg, hq _ _]

include R hq hkc hb hg in
theorem av0_at (r : Fin 512) (d : Fin 128) : av0 q kc g bs (ix2 r d)
    = ∑ x, P Q K B scale h (at_ 0 x) (at_ 0 r) * G h (at_ 0 x) d := by
  unfold av0
  rw [pay26_at]
  simp only [probs_first R hq hkc hb, hg _ _]

end

end Cert.KernelIdeal.Attn

end
-- ==== Proof.Row.lean ====
/- The row of biases that the attention backward kernel is given for a head. -/
module

public import proofs.«01_k».proof.Proof.Head
public import Idealize.ShloMosaic.Lib.StableHlo.ReadAt
public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.Banded

variable {F : FTy → Type} [FloatOps F] [Named F]
variable (m : (ℓ : Loc nD τ sig) → Buf (Elt F) ℓ)

/-- Column `j` of the gather is the column that the index names, read signed and clamped. -/
theorem gather_row {α : Type} (x : S16x257.Idx → α) (idx : IVec S2048x1 32) (h : Fin 16) (j : Fin 2048) :
    Host.gather gather_S16x257_S2048x1_S16x2048_0_1_n_n_1_1_161 x idx (ix2 h j)
      = x (ix2 h ⟨min (idx (ix2 j 0)).toInt.toNat 256, by omega⟩) := by
  unfold Host.gather
  congr 1
  funext a
  refine Fin.ext ?_
  let D := gather_S16x257_S2048x1_S16x2048_0_1_n_n_1_1_161
  show D.start (ix2 h j) idx a + D.batchCoord (ix2 h j) a + D.offCoord (ix2 h j) a = _
  rw [GatherDims.batchCoord_eq_zero _ _ _ List.not_mem_nil]
  match a with
  | ⟨0, _⟩ =>
    have e : D.start (ix2 h j) idx 0 = 0 := by
      unfold GatherDims.start
      rw [dif_neg (show (0 : Fin 2) ∉ D.startIndexMap from by decide)]
    show D.start (ix2 h j) idx 0 + 0 + _ = _
    rw [e]
    show 0 + 0 + h.val = h.val
    omega
  | ⟨1, _⟩ =>
    have e : D.offCoord (ix2 h j) 1 = 0 :=
      GatherDims.offCoord_eq_zero _ _ _ fun hm => ((GatherDims.mem_sKept _ _).mp hm).1 (List.mem_singleton.mpr rfl)
    show D.start (ix2 h j) idx 1 + 0 + D.offCoord (ix2 h j) 1 = _
    rw [e]
    unfold GatherDims.start
    rw [dif_pos (show (1 : Fin 2) ∈ D.startIndexMap from List.mem_singleton.mpr rfl)]
    have hs : D.siIdx (ix2 h j) ⟨List.idxOf (1 : Fin 2) D.startIndexMap,
        List.idxOf_lt_length_iff.2 (List.mem_singleton.mpr rfl)⟩ = ix2 j 0 := by
      funext b
      refine Fin.ext ?_
      match b with
      | ⟨0, _⟩ => rfl
      | ⟨1, _⟩ => rfl
    rw [hs]
    rfl

/-- The clipped distance that column `x` of the row stands for, as a word. -/
def dist (x : BitVec 32) : BitVec 32 :=
  IntOp.addi
    (IntOp.minsi 128#32 (IntOp.maxsi 4294967168#32
      (IntOp.subi 512#32 (Scalar.select (IntOp.cmpi .slt x 1024#32) x (IntOp.subi x 2048#32)))))
    128#32

/-- The index that a negative distance would wrap to. -/
def wrapped (x : BitVec 32) : BitVec 32 :=
  Scalar.select (IntOp.cmpi .slt (dist x) 0#32) (IntOp.addi (dist x) 257#32) (dist x)

theorem wrapped_eq : ∀ x : Fin 2048, (wrapped (BitVec.ofNat 32 x.val)).toInt.toNat
    = if x.val < 1024 then min 256 (640 - x.val) else min 256 (2688 - x.val) := by decide +kernel

/-- Element `x` of head `h`'s row is a bias of the head. -/
theorem V_row (c : Dev nD) (h : Fin 16) (x : Fin 2048) :
    (V m c main_v18 : Vec F S16x1x2048 .f32) (ix3 h 0 x) = (m ((c : Thread nD τ).loc main_arg1) : Vec F S16x257 .f32)
      (ix2 h ⟨if x.val < 1024 then min 256 (640 - x.val) else min 256 (2688 - x.val), by split <;> omega⟩) := by
  unfold V
  after_reads_at
  rw [gather_row]
  refine congrArg (fun n => (m ((c : Thread nD τ).loc main_arg1) : Vec F S16x257 .f32) (ix2 h n)) (Fin.ext ?_)
  show min _ 256 = if x.val < 1024 then min 256 (640 - x.val) else min 256 (2688 - x.val)
  rw [← wrapped_eq x]
  have : (if x.val < 1024 then min 256 (640 - x.val) else min 256 (2688 - x.val)) ≤ 256 := by split <;> omega
  rw [← wrapped_eq x] at this
  refine (congrArg (fun w : BitVec 32 => min w.toInt.toNat 256) ?_).trans (Nat.min_eq_left this)
  pointwise
  rfl

/-- So the row is what the kernel's tile wants. -/
theorem biases_of (c : Dev nD) (h : Fin 16) (bs : Vec Ideal S1x1x2048 .f32) (m : (ℓ : Loc nD τ sig) → Buf (Elt Ideal) ℓ)
    (hb : ∀ x : Fin 2048, bs (ix3 0 0 x) = (V m c main_v18 : Vec Ideal S16x1x2048 .f32) (ix3 h 0 x)) :
    Biases bs (fun h n => (m ((c : Thread nD τ).loc main_arg1) : Vec Ideal S16x257 .f32) (ix2 h n)) h := by
  intro r d
  rw [hb, V_row]
  refine congrArg (fun n => (m ((c : Thread nD τ).loc main_arg1) : Vec Ideal S16x257 .f32) (ix2 h n)) (Fin.ext ?_)
  simp only
  have h1 : (d.val + 2048 - r.val) % 2048 = if r.val ≤ d.val then d.val - r.val else d.val + 2048 - r.val := by
    split <;> omega
  rw [h1]
  split <;> split <;> omega

end Cert.KernelIdeal.Attn

end
-- ==== Proof.Arrays.lean ====
/- What the attention backward kernel's input blocks are, of the arrays of the launch. -/
module

public import proofs.«01_k».proof.Proof.Run
public import proofs.«01_k».proof.Proof.Row

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.Banded

variable (m : (ℓ : Loc nD τ sig) → Buf (Elt Ideal) ℓ) (c : Dev nD)

/-- Column `d` of head `h` in the third of the projections that starts at column `o`. -/
def part (o : ℕ) (ho : o ≤ 4096) (h : Fin 16) (q : Fin 4096) (d : Fin 128) : EReal :=
  (m ((c : Thread nD τ).loc main_arg0) : Vec Ideal S4096x20480 .bf16) (ix2 q ⟨o + 128 * h.val + d.val, by omega⟩)
abbrev Qm := part m c 0 (by omega)
abbrev Km := part m c 2048 (by omega)
abbrev Vm := part m c 4096 (by omega)
/-- The gradient of the attention's output, by head. -/
def Gm (h : Fin 16) (q : Fin 4096) (d : Fin 128) : EReal :=
  (m ((c : Thread nD τ).loc main_arg2) : Vec Ideal S4096x2048 .bf16) (ix2 q ⟨128 * h.val + d.val, by omega⟩)
def Bm (h : Fin 16) (n : Fin 257) : EReal := (m ((c : Thread nD τ).loc main_arg1) : Vec Ideal S16x257 .f32) (ix2 h n)

/-- The head of a point, its query block and the block before it. -/
def hd (t : Fin cfg0.N) : Fin 16 := ⟨t.val / 9, by have : t.val < 144 := t.isLt; omega⟩
def qb (t : Fin cfg0.N) : Fin 8 := ⟨min (t.val % 9) 7, by omega⟩
def pb (t : Fin cfg0.N) : Fin 8 := ⟨t.val % 9 - 1, by omega⟩

theorem idx_0 : ∀ t : Fin grid0.N, win0_0.index t 0 = min (t.val % 9) 7 ∧ win0_0.index t 1 = t.val / 9 := by decide +kernel
theorem idx_1 : ∀ t : Fin grid0.N, 1 ≤ t.val % 9 ∧ t.val % 9 ≤ 7 → win0_1.index t 0 = t.val % 9 - 1 ∧ win0_1.index t 1 = 16 + t.val / 9 := by decide +kernel
theorem idx_2 : ∀ t : Fin grid0.N, win0_2.index t 0 = min (t.val % 9) 7 ∧ win0_2.index t 1 = 16 + t.val / 9 := by decide +kernel
theorem idx_3 : ∀ t : Fin grid0.N, 1 ≤ t.val % 9 ∧ t.val % 9 ≤ 7 → win0_3.index t 0 = t.val % 9 - 1 ∧ win0_3.index t 1 = 32 + t.val / 9 := by decide +kernel
theorem idx_4 : ∀ t : Fin grid0.N, win0_4.index t 0 = min (t.val % 9) 7 ∧ win0_4.index t 1 = 32 + t.val / 9 := by decide +kernel
theorem idx_5 : ∀ t : Fin grid0.N, win0_5.index t 0 = min (t.val % 9) 7 ∧ win0_5.index t 1 = t.val / 9 := by decide +kernel
theorem idx_6 : ∀ t : Fin grid0.N, win0_6.index t 0 = t.val / 9 ∧ win0_6.index t 1 = 0 ∧ win0_6.index t 2 = 0 := by decide +kernel
theorem idx_7 : ∀ t : Fin grid0.N, win0_7.index t 0 = min (t.val % 9) 7 ∧ win0_7.index t 1 = t.val / 9 := by decide +kernel
theorem idx_8 : ∀ t : Fin grid0.N, win0_8.index t 0 = t.val % 9 - 1 ∧ win0_8.index t 1 = t.val / 9 := by decide +kernel
theorem idx_9 : ∀ t : Fin grid0.N, win0_9.index t 0 = t.val % 9 - 1 ∧ win0_9.index t 1 = t.val / 9 := by decide +kernel

theorem blk_0 (t : Fin cfg0.N) : Holds (iblk m c 0 t) (Qm m c) (hd t) (qb t) := by
  intro r d
  unfold iblk
  rw [View.read_apply]
  show V m c main_arg0 _ = _
  rw [V_main_arg0]
  unfold Qm part
  refine congrArg (m ((c : Thread nD τ).loc main_arg0)) (funext fun a => Fin.ext ?_)
  match a with
  | ⟨0, _⟩ => show win0_0.index t 0 * 512 + 1 * r.val = 512 * (qb t).val + r.val
              rw [(idx_0 t).1]; unfold qb; simp only; omega
  | ⟨1, _⟩ => show win0_0.index t 1 * 128 + 1 * d.val = 0 + 128 * (hd t).val + d.val
              rw [(idx_0 t).2]; unfold hd; simp only; omega

theorem blk_1 (t : Fin cfg0.N) (ht : 1 ≤ t.val % 9 ∧ t.val % 9 ≤ 7) : Holds (iblk m c 1 t) (Km m c) (hd t) (pb t) := by
  intro r d
  unfold iblk
  rw [View.read_apply]
  show V m c main_arg0 _ = _
  rw [V_main_arg0]
  unfold Km part
  refine congrArg (m ((c : Thread nD τ).loc main_arg0)) (funext fun a => Fin.ext ?_)
  match a with
  | ⟨0, _⟩ => show win0_1.index t 0 * 512 + 1 * r.val = 512 * (pb t).val + r.val
              rw [(idx_1 t ht).1]; unfold pb; simp only; omega
  | ⟨1, _⟩ => show win0_1.index t 1 * 128 + 1 * d.val = 2048 + 128 * (hd t).val + d.val
              rw [(idx_1 t ht).2]; unfold hd; simp only; omega

theorem blk_2 (t : Fin cfg0.N) : Holds (iblk m c 2 t) (Km m c) (hd t) (qb t) := by
  intro r d
  unfold iblk
  rw [View.read_apply]
  show V m c main_arg0 _ = _
  rw [V_main_arg0]
  unfold Km part
  refine congrArg (m ((c : Thread nD τ).loc main_arg0)) (funext fun a => Fin.ext ?_)
  match a with
  | ⟨0, _⟩ => show win0_2.index t 0 * 512 + 1 * r.val = 512 * (qb t).val + r.val
              rw [(idx_2 t).1]; unfold qb; simp only; omega
  | ⟨1, _⟩ => show win0_2.index t 1 * 128 + 1 * d.val = 2048 + 128 * (hd t).val + d.val
              rw [(idx_2 t).2]; unfold hd; simp only; omega

theorem blk_3 (t : Fin cfg0.N) (ht : 1 ≤ t.val % 9 ∧ t.val % 9 ≤ 7) : Holds (iblk m c 3 t) (Vm m c) (hd t) (pb t) := by
  intro r d
  unfold iblk
  rw [View.read_apply]
  show V m c main_arg0 _ = _
  rw [V_main_arg0]
  unfold Vm part
  refine congrArg (m ((c : Thread nD τ).loc main_arg0)) (funext fun a => Fin.ext ?_)
  match a with
  | ⟨0, _⟩ => show win0_3.index t 0 * 512 + 1 * r.val = 512 * (pb t).val + r.val
              rw [(idx_3 t ht).1]; unfold pb; simp only; omega
  | ⟨1, _⟩ => show win0_3.index t 1 * 128 + 1 * d.val = 4096 + 128 * (hd t).val + d.val
              rw [(idx_3 t ht).2]; unfold hd; simp only; omega

theorem blk_4 (t : Fin cfg0.N) : Holds (iblk m c 4 t) (Vm m c) (hd t) (qb t) := by
  intro r d
  unfold iblk
  rw [View.read_apply]
  show V m c main_arg0 _ = _
  rw [V_main_arg0]
  unfold Vm part
  refine congrArg (m ((c : Thread nD τ).loc main_arg0)) (funext fun a => Fin.ext ?_)
  match a with
  | ⟨0, _⟩ => show win0_4.index t 0 * 512 + 1 * r.val = 512 * (qb t).val + r.val
              rw [(idx_4 t).1]; unfold qb; simp only; omega
  | ⟨1, _⟩ => show win0_4.index t 1 * 128 + 1 * d.val = 4096 + 128 * (hd t).val + d.val
              rw [(idx_4 t).2]; unfold hd; simp only; omega

theorem blk_5 (t : Fin cfg0.N) : Holds (iblk m c 5 t) (Gm m c) (hd t) (qb t) := by
  intro r d
  unfold iblk
  rw [View.read_apply]
  show V m c main_arg2 _ = _
  rw [V_main_arg2]
  unfold Gm
  refine congrArg (m ((c : Thread nD τ).loc main_arg2)) (funext fun a => Fin.ext ?_)
  match a with
  | ⟨0, _⟩ => show win0_5.index t 0 * 512 + 1 * r.val = 512 * (qb t).val + r.val
              rw [(idx_5 t).1]; unfold qb; simp only; omega
  | ⟨1, _⟩ => show win0_5.index t 1 * 128 + 1 * d.val = 128 * (hd t).val + d.val
              rw [(idx_5 t).2]; unfold hd; simp only; omega

theorem blk_6 (t : Fin cfg0.N) : Biases (iblk m c 6 t) (Bm m c) (hd t) := by
  refine biases_of c (hd t) (iblk m c 6 t) m fun x => ?_
  unfold iblk
  rw [View.read_apply]
  show V m c main_v18 _ = V m c main_v18 _
  refine congrArg (V m c main_v18) (funext fun a => Fin.ext ?_)
  match a with
  | ⟨0, _⟩ => show win0_6.index t 0 * 1 + 1 * 0 = (hd t).val
              rw [(idx_6 t).1]; unfold hd; simp only; omega
  | ⟨1, _⟩ => show win0_6.index t 1 * 1 + 1 * 0 = 0
              rw [(idx_6 t).2.1]
  | ⟨2, _⟩ => show win0_6.index t 2 * 2048 + 1 * x.val = x.val
              rw [(idx_6 t).2.2]; omega

end Cert.KernelIdeal.Attn

end
-- ==== Proof.Outs.lean ====
/- What the attention backward kernel's scratch and outputs hold at every point, in terms of the launch's arrays. -/
module

public import proofs.«01_k».proof.Proof.Arrays

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.Banded (dQ dK dV dS P Real')

variable (m : (ℓ : Loc nD τ sig) → Buf (Elt Ideal) ℓ) (c : Dev nD)

/-- The scratch after block `a` of head `h`: the head's biases, and the block's own part of its key and value gradients. -/
structure Ready (s : Carry Ideal) (h : Fin 16) (a : Fin 8) : Prop where
  tl : ∃ bs, s.tl = tile bs ∧ Biases bs (Bm m c) h
  ak : ∀ r d, s.ak (ix2 r d) = (∑ x, dS (Qm m c) (Km m c) (Vm m c) (Gm m c) (Bm m c) scale h (Banded.at_ a x) (Banded.at_ a r)
    * Qm m c h (Banded.at_ a x) d) * scale
  av : ∀ r d, s.av (ix2 r d) = ∑ x, P (Qm m c) (Km m c) (Bm m c) scale h (Banded.at_ a x) (Banded.at_ a r) * Gm m c h (Banded.at_ a x) d

variable (R : Real' (Qm m c) (Km m c) (Bm m c) scale)

theorem pb_qb (t : Fin cfg0.N) (h : 1 ≤ t.val % 9 ∧ t.val % 9 ≤ 7) : (pb t).val + 1 = (qb t).val := by
  unfold pb qb; simp only; omega
theorem qb_zero (t : Fin cfg0.N) (h : t.val % 9 = 0) : qb t = 0 := by
  apply Fin.ext; unfold qb; simp only; rw [h]; rfl

/-- A later point's tile holds the biases of its window. -/
theorem tl_of {s : Carry Ideal} {h : Fin 16} {a b : Fin 8} (H : Ready m c s h a) (hb : 1 ≤ b.val) (r : Fin 512) (j : Fin 1024) :
    s.tl (ix2 r j) = if Banded.band (Banded.at_ b r) (Banded.win_ b hb j)
      then Bm m c h (Banded.rel (Banded.at_ b r) (Banded.win_ b hb j)) else ⊥ := by
  obtain ⟨bs, e, H⟩ := H.tl
  rw [e]; exact tile_win H b hb r j

include R in
theorem ready : ∀ (n : ℕ) (hn : n ≤ cfg0.N) (hm : n % 9 ≠ 0) (h16 : n / 9 < 16) (h8 : n % 9 - 1 < 8),
    Ready m c (carry m c n hn) ⟨n / 9, h16⟩ ⟨n % 9 - 1, h8⟩
  | 0, _, hm, _, _ => absurd rfl hm
  | n + 1, hn, hm, h16, h8 => by
    let t : Fin cfg0.N := ⟨n, hn⟩
    have hh : (⟨(n + 1) / 9, h16⟩ : Fin 16) = hd t := Fin.ext (by unfold hd; simp only [t]; omega)
    have hb : (⟨(n + 1) % 9 - 1, h8⟩ : Fin 8) = qb t := Fin.ext (by unfold qb; simp only [t]; omega)
    rw [hh, hb]
    by_cases h0 : n % 9 = 0
    · have e : carry m c (n + 1) hn = _ := carry_succ_A m c t h0
      have b0 := blk_0 m c t; have b2 := blk_2 m c t; have b4 := blk_4 m c t; have b5 := blk_5 m c t
      rw [qb_zero t h0] at b0 b2 b4 b5 ⊢
      rw [e]
      exact ⟨⟨_, rfl, blk_6 m c t⟩, ak0_at R b0 b2 (blk_6 m c t) b4 b5, av0_at R b0 b2 (blk_6 m c t) b5⟩
    · have h1 : 1 ≤ t.val % 9 ∧ t.val % 9 ≤ 7 := by simp only [t]; omega
      have e : carry m c (n + 1) hn = _ := carry_succ_B m c t h1
      have H := ready n (Nat.le_of_lt hn) h0 (by omega) (by omega)
      have hp : (⟨n % 9 - 1, by omega⟩ : Fin 8) = pb t := rfl
      have hh' : (⟨n / 9, by omega⟩ : Fin 16) = hd t := rfl
      rw [hp, hh'] at H
      have hq := pb_qb t h1
      rw [e]
      exact ⟨H.tl, ak1_at hq R (blk_0 m c t) (blk_1 m c t h1) (blk_2 m c t) (tl_of m c H (by omega)) (blk_3 m c t h1) (blk_4 m c t) (blk_5 m c t),
        av1_at hq R (blk_0 m c t) (blk_1 m c t h1) (blk_2 m c t) (tl_of m c H (by omega)) (blk_5 m c t)⟩

include R in
theorem ready_at (t : Fin cfg0.N) (h : t.val % 9 ≠ 0) : Ready m c (at_ m c t) (hd t) (pb t) :=
  ready m c R t.val (Nat.le_of_lt t.isLt) h _ _

include R in
/-- The query gradient's buffer holds the point's query block's, -/
theorem outDq_at (t : Fin cfg0.N) (r : Fin 512) (d : Fin 128) :
    outDq m c t (ix2 r d) = dQ (Qm m c) (Km m c) (Vm m c) (Gm m c) (Bm m c) scale (hd t) (Banded.at_ (qb t) r) d := by
  have main : ∀ t : Fin cfg0.N, t.val % 9 ≠ 8 → outDq m c t (ix2 r d)
      = dQ (Qm m c) (Km m c) (Vm m c) (Gm m c) (Bm m c) scale (hd t) (Banded.at_ (qb t) r) d := by
    intro t h8
    by_cases h0 : t.val % 9 = 0
    · have b0 := blk_0 m c t; have b2 := blk_2 m c t; have b4 := blk_4 m c t; have b5 := blk_5 m c t
      rw [qb_zero t h0] at b0 b2 b4 b5 ⊢
      rw [outDq_A m c t h0]
      exact dq0_at R b0 b2 (blk_6 m c t) b4 b5 r d
    · have h1 : 1 ≤ t.val % 9 ∧ t.val % 9 ≤ 7 := by omega
      have hq := pb_qb t h1
      rw [outDq_B m c t h1]
      exact dq1_at hq R (blk_0 m c t) (blk_1 m c t h1) (blk_2 m c t) (tl_of m c (ready_at m c R t h0) (by omega)) (blk_3 m c t h1) (blk_4 m c t)
        (blk_5 m c t) r d
  by_cases h8 : t.val % 9 = 8
  · have e1 : hd (prev t) = hd t := Fin.ext (by unfold hd prev; simp only; omega)
    have e2 : qb (prev t) = qb t := Fin.ext (by unfold qb prev; simp only; omega)
    rw [outDq_C m c t h8, main (prev t) (by show (t.val - 1) % 9 ≠ 8; omega), e1, e2]
  · exact main t h8

include R in
/-- the key gradient's that of the block before -/
theorem outDk_at (t : Fin cfg0.N) (h0 : t.val % 9 ≠ 0) (r : Fin 512) (d : Fin 128) :
    outDk m c t (ix2 r d) = dK (Qm m c) (Km m c) (Vm m c) (Gm m c) (Bm m c) scale (hd t) (Banded.at_ (pb t) r) d := by
  have H := ready_at m c R t h0
  by_cases h8 : t.val % 9 = 8
  · rw [outDk_C m c t h8]
    show (at_ m c t).ak (ix2 r d) = _
    rw [H.ak]
    have e : pb t = 7 := Fin.ext (by unfold pb; simp only; rw [h8]; rfl)
    rw [e]
    exact Banded.dK_last (Qm m c) (Km m c) (Vm m c) (Gm m c) (Bm m c) scale (hd t) r d
  · have h1 : 1 ≤ t.val % 9 ∧ t.val % 9 ≤ 7 := by omega
    have hq := pb_qb t h1
    rw [outDk_B m c t h1]
    exact dk1_at hq R (blk_0 m c t) (blk_1 m c t h1) (blk_2 m c t) (tl_of m c H (by omega)) (blk_3 m c t h1) (blk_4 m c t)
      (blk_5 m c t) H.ak r d

include R in
/-- and the value gradient's too. -/
theorem outDv_at (t : Fin cfg0.N) (h0 : t.val % 9 ≠ 0) (r : Fin 512) (d : Fin 128) :
    outDv m c t (ix2 r d) = dV (Qm m c) (Km m c) (Gm m c) (Bm m c) scale (hd t) (Banded.at_ (pb t) r) d := by
  have H := ready_at m c R t h0
  by_cases h8 : t.val % 9 = 8
  · rw [outDv_C m c t h8]
    show (at_ m c t).av (ix2 r d) = _
    rw [H.av]
    have e : pb t = 7 := Fin.ext (by unfold pb; simp only; rw [h8]; rfl)
    rw [e]
    exact Banded.dV_last (Qm m c) (Km m c) (Gm m c) (Bm m c) scale (hd t) r d
  · have h1 : 1 ≤ t.val % 9 ∧ t.val % 9 ≤ 7 := by omega
    have hq := pb_qb t h1
    rw [outDv_B m c t h1]
    exact dv1_at hq R (blk_0 m c t) (blk_1 m c t h1) (blk_2 m c t) (tl_of m c H (by omega)) (blk_5 m c t) H.av r d

end Cert.KernelIdeal.Attn

end
-- ==== Proof.Final.lean ====
/- What the attention backward kernel leaves in its result arrays. -/
module

public import proofs.«01_k».proof.Proof.Outs

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.Banded (dQ dK dV dS P Real')

variable (m : (ℓ : Loc nD τ sig) → Buf (Elt Ideal) ℓ) (c : Dev nD)

/-- An array of heads side by side: row `q`, column `128 h + d`. -/
def rows (X : Fin 16 → Fin 4096 → Fin 128 → EReal) (q : Fin 4096) (k : ℕ) (hk : k < 2048) : EReal :=
  X ⟨k / 128, by omega⟩ q ⟨k % 128, by omega⟩

abbrev gK := dK (Qm m c) (Km m c) (Vm m c) (Gm m c) (Bm m c) scale
abbrev gV := dV (Qm m c) (Km m c) (Gm m c) (Bm m c) scale
abbrev gQ := dQ (Qm m c) (Km m c) (Vm m c) (Gm m c) (Bm m c) scale

/-- The key gradient's array, -/
def arrK : Buf (Elt Ideal) ((c : Thread nD τ).loc main_v19_1) :=
  (fun i => rows (gK m c) (i 0) (i 1).val (i 1).isLt : Vec Ideal S4096x2048 .bf16)
/-- the value gradient's, -/
def arrV : Buf (Elt Ideal) ((c : Thread nD τ).loc main_v19_2) :=
  (fun i => rows (gV m c) (i 0) (i 1).val (i 1).isLt : Vec Ideal S4096x2048 .bf16)
/-- and the projections' gradient, of which the queries' columns are written and the rest kept. -/
def arrQ : Buf (Elt Ideal) ((c : Thread nD τ).loc main_v19_0) :=
  (fun i => if h : (i 1).val < 2048 then rows (gQ m c) (i 0) (i 1).val h
    else (m ((c : Thread nD τ).loc main_arg3) : Vec Ideal S4096x20480 .bf16) i : Vec Ideal S4096x20480 .bf16)

/-- The array that the projections' gradient is written into is handed to the region as it came. -/
theorem V_copy (q : Fin 4096) (k : Fin 20480) : (V m c main_v19_0 : Vec Ideal S4096x20480 .bf16) (ix2 q k)
    = (m ((c : Thread nD τ).loc main_arg3) : Vec Ideal S4096x20480 .bf16) (ix2 q k) := by
  unfold V
  after_reads_at
  rfl

theorem rows_eq (X : Fin 16 → Fin 4096 → Fin 128 → EReal) (h : Fin 16) (d : Fin 128) (q q' : Fin 4096) (k : ℕ) (hk : k < 2048)
    (hq : q'.val = q.val) (e : k = 128 * h.val + d.val) : rows X q' k hk = X h q d := by
  obtain rfl : q' = q := Fin.ext hq
  unfold rows
  have h1 : (⟨k / 128, by omega⟩ : Fin 16) = h := Fin.ext (by simp only; omega)
  have h2 : (⟨k % 128, by omega⟩ : Fin 128) = d := Fin.ext (by simp only; omega)
  rw [h1, h2]

theorem arrK_at (j : S4096x2048.Idx) (h : Fin 16) (d : Fin 128) (q : Fin 4096) (hq : (j 0).val = q.val) (e : (j 1).val = 128 * h.val + d.val) :
    (arrK m c : Vec Ideal S4096x2048 .bf16) j = gK m c h q d := rows_eq (gK m c) h d q (j 0) (j 1).val (j 1).isLt hq e
theorem arrV_at (j : S4096x2048.Idx) (h : Fin 16) (d : Fin 128) (q : Fin 4096) (hq : (j 0).val = q.val) (e : (j 1).val = 128 * h.val + d.val) :
    (arrV m c : Vec Ideal S4096x2048 .bf16) j = gV m c h q d := rows_eq (gV m c) h d q (j 0) (j 1).val (j 1).isLt hq e
theorem arrQ_at (j : S4096x20480.Idx) (h : Fin 16) (d : Fin 128) (q : Fin 4096) (hq : (j 0).val = q.val) (e : (j 1).val = 128 * h.val + d.val) :
    (arrQ m c : Vec Ideal S4096x20480 .bf16) j = gQ m c h q d := by
  have hj : (j 1).val < 2048 := by omega
  show (if h : (j 1).val < 2048 then rows (gQ m c) (j 0) (j 1).val h else _) = _
  rw [dif_pos hj]
  exact rows_eq (gQ m c) h d q (j 0) (j 1).val hj hq e
theorem arrQ_rest (j : S4096x20480.Idx) (hj : ¬ (j 1).val < 2048) :
    (arrQ m c : Vec Ideal S4096x20480 .bf16) j = (m ((c : Thread nD τ).loc main_arg3) : Vec Ideal S4096x20480 .bf16) j := dif_neg hj

theorem flush_8 : ∀ t : Fin cfg0.N, (cfg0.win 8).flush t = true ↔ t.val % 9 ≠ 0 :=
  (by decide +kernel : ∀ t : Fin grid0.N, win0_8.flush t = true ↔ t.val % 9 ≠ 0)
theorem flush_9 : ∀ t : Fin cfg0.N, (cfg0.win 9).flush t = true ↔ t.val % 9 ≠ 0 :=
  (by decide +kernel : ∀ t : Fin grid0.N, win0_9.flush t = true ↔ t.val % 9 ≠ 0)

variable (R : Real' (Qm m c) (Km m c) (Bm m c) scale)

include R in
theorem flushed_8 (t : Fin cfg0.N) (hf : (cfg0.win 8).flush t = true) :
    (dats m 0 c).flushed 8 t = ((cfg0.win 8).blk t).view.read (Elt Ideal) (arrK m c) := by
  have h0 : t.val % 9 ≠ 0 := (flush_8 t).mp hf
  show (cfg0.win 8).cut (grid0.coords t) ((dats m 0 c).after 8 t) = _
  rw [after_8]
  funext i
  rw [View.read_apply]
  have e : (cfg0.win 8).cut (grid0.coords t) (outDk m c t) i = outDk m c t (ix2 (i 0) (i 1)) := by
    refine congrArg (outDk m c t) (funext fun a => Fin.ext ?_)
    match a with
    | ⟨0, _⟩ => rfl
    | ⟨1, _⟩ => rfl
  refine e.trans ((outDk_at m c R t h0 (i 0) (i 1)).trans ?_)
  refine (arrK_at m c (((cfg0.win 8).blk t).view.emb i) (hd t) (i 1) (Banded.at_ (pb t) (i 0)) ?_ ?_).symm
  · show win0_8.index t 0 * 512 + 1 * (i 0).val = 512 * (pb t).val + (i 0).val
    rw [(idx_8 t).1]; unfold pb; simp only; omega
  · show win0_8.index t 1 * 128 + 1 * (i 1).val = 128 * (hd t).val + (i 1).val
    rw [(idx_8 t).2]; unfold hd; simp only; omega

include R in
theorem flushed_9 (t : Fin cfg0.N) (hf : (cfg0.win 9).flush t = true) :
    (dats m 0 c).flushed 9 t = ((cfg0.win 9).blk t).view.read (Elt Ideal) (arrV m c) := by
  have h0 : t.val % 9 ≠ 0 := (flush_9 t).mp hf
  show (cfg0.win 9).cut (grid0.coords t) ((dats m 0 c).after 9 t) = _
  rw [after_9]
  funext i
  rw [View.read_apply]
  have e : (cfg0.win 9).cut (grid0.coords t) (outDv m c t) i = outDv m c t (ix2 (i 0) (i 1)) := by
    refine congrArg (outDv m c t) (funext fun a => Fin.ext ?_)
    match a with
    | ⟨0, _⟩ => rfl
    | ⟨1, _⟩ => rfl
  refine e.trans ((outDv_at m c R t h0 (i 0) (i 1)).trans ?_)
  refine (arrV_at m c (((cfg0.win 9).blk t).view.emb i) (hd t) (i 1) (Banded.at_ (pb t) (i 0)) ?_ ?_).symm
  · show win0_9.index t 0 * 512 + 1 * (i 0).val = 512 * (pb t).val + (i 0).val
    rw [(idx_9 t).1]; unfold pb; simp only; omega
  · show win0_9.index t 1 * 128 + 1 * (i 1).val = 128 * (hd t).val + (i 1).val
    rw [(idx_9 t).2]; unfold hd; simp only; omega

include R in
theorem flushed_7 (t : Fin cfg0.N) (hf : (cfg0.win 7).flush t = true) :
    (dats m 0 c).flushed 7 t = ((cfg0.win 7).blk t).view.read (Elt Ideal) (arrQ m c) := by
  show (cfg0.win 7).cut (grid0.coords t) ((dats m 0 c).after 7 t) = _
  rw [after_7]
  funext i
  rw [View.read_apply]
  have e : (cfg0.win 7).cut (grid0.coords t) (outDq m c t) i = outDq m c t (ix2 (i 0) (i 1)) := by
    refine congrArg (outDq m c t) (funext fun a => Fin.ext ?_)
    match a with
    | ⟨0, _⟩ => rfl
    | ⟨1, _⟩ => rfl
  refine e.trans ((outDq_at m c R t (i 0) (i 1)).trans ?_)
  refine (arrQ_at m c (((cfg0.win 7).blk t).view.emb i) (hd t) (i 1) (Banded.at_ (qb t) (i 0)) ?_ ?_).symm
  · show win0_7.index t 0 * 512 + 1 * (i 0).val = 512 * (qb t).val + (i 0).val
    rw [(idx_7 t).1]; unfold qb; simp only; omega
  · show win0_7.index t 1 * 128 + 1 * (i 1).val = 128 * (hd t).val + (i 1).val
    rw [(idx_7 t).2]; unfold hd; simp only; omega

/-- Every key block is written, at the point after its own; -/
theorem final_8 (R : Real' (Qm m c) (Km m c) (Bm m c) scale) : (dats m 0 c).arrAt 8 cfg0.N = arrK m c :=
  (dats m 0 c).arrAt_eq_of_cover 8 (arrK m c) (flushed_8 m c R) fun i => by
    have h0 : (i 0 : Nat) < 4096 := (i 0).isLt
    have h1 : (i 1 : Nat) < 2048 := (i 1).isLt
    let t : Fin cfg0.N := ⟨9 * ((i 1 : Nat) / 128) + (i 0 : Nat) / 512 + 1, by show _ < 144; omega⟩
    have hm : t.val % 9 = (i 0 : Nat) / 512 + 1 := by simp only [t]; omega
    have hv : t.val / 9 = (i 1 : Nat) / 128 := by simp only [t]; omega
    refine ⟨t, (flush_8 t).mpr (by omega), ?_⟩
    show i ∈ ((View.whole main_v19_1).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [(idx_8 t).1]; omega
    | ⟨1, _⟩ => show win0_8.index t 1 * 128 ≤ (i 1 : Nat) ∧ (i 1 : Nat) < win0_8.index t 1 * 128 + 128
                rw [(idx_8 t).2]; omega

/-- so is every value block; -/
theorem final_9 (R : Real' (Qm m c) (Km m c) (Bm m c) scale) : (dats m 0 c).arrAt 9 cfg0.N = arrV m c :=
  (dats m 0 c).arrAt_eq_of_cover 9 (arrV m c) (flushed_9 m c R) fun i => by
    have h0 : (i 0 : Nat) < 4096 := (i 0).isLt
    have h1 : (i 1 : Nat) < 2048 := (i 1).isLt
    let t : Fin cfg0.N := ⟨9 * ((i 1 : Nat) / 128) + (i 0 : Nat) / 512 + 1, by show _ < 144; omega⟩
    have hm : t.val % 9 = (i 0 : Nat) / 512 + 1 := by simp only [t]; omega
    have hv : t.val / 9 = (i 1 : Nat) / 128 := by simp only [t]; omega
    refine ⟨t, (flush_9 t).mpr (by omega), ?_⟩
    show i ∈ ((View.whole main_v19_2).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512
                rw [(idx_9 t).1]; omega
    | ⟨1, _⟩ => show win0_9.index t 1 * 128 ≤ (i 1 : Nat) ∧ (i 1 : Nat) < win0_9.index t 1 * 128 + 128
                rw [(idx_9 t).2]; omega

/-- and of the projections' gradient the queries' columns, at the block's own point or, the last block, at the one after. -/
theorem final_7 (R : Real' (Qm m c) (Km m c) (Bm m c) scale) : (dats m 0 c).arrAt 7 cfg0.N = arrQ m c := by
  funext i
  rw [(dats m 0 c).arrAt_eq_piecewise 7 (arrQ m c) (flushed_7 m c R) i]
  have h0 : (i 0 : Nat) < 4096 := (i 0).isLt
  by_cases hc : (i 1 : Nat) < 2048
  · refine if_pos ?_
    let t : Fin cfg0.N := ⟨9 * ((i 1 : Nat) / 128) + (if (i 0 : Nat) / 512 = 7 then 8 else (i 0 : Nat) / 512), by
      show _ < 144; split <;> omega⟩
    have hm : t.val % 9 = if (i 0 : Nat) / 512 = 7 then 8 else (i 0 : Nat) / 512 := by simp only [t]; split <;> omega
    have hv : t.val / 9 = (i 1 : Nat) / 128 := by simp only [t]; split <;> omega
    refine ⟨t, flush_7 t (by rw [hm]; split <;> omega), ?_⟩
    show i ∈ ((View.whole main_v19_0).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512
                rw [(idx_7 t).1, hm]; split <;> omega
    | ⟨1, _⟩ => show win0_7.index t 1 * 128 ≤ (i 1 : Nat) ∧ (i 1 : Nat) < win0_7.index t 1 * 128 + 128
                rw [(idx_7 t).2]; omega
  · rw [if_neg]
    · rw [A_eq]
      show V m c main_v19_0 i = _
      have e : i = ix2 (i 0) (i 1) := funext fun a => match a with
        | ⟨0, _⟩ => rfl
        | ⟨1, _⟩ => rfl
      refine (congrArg (V m c main_v19_0) e).trans ((V_copy m c (i 0) (i 1)).trans ((congrArg (m ((c : Thread nD τ).loc main_arg3)) e.symm).trans ?_))
      exact (arrQ_rest m c i hc).symm
    · rintro ⟨t, -, hi⟩
      replace hi : i ∈ ((View.whole main_v19_0).slice (win0_7.rect t)).set := hi
      rw [View.set_slice_whole, Rect.mem_set_unit] at hi
      have h1 : win0_7.index t 1 * 128 ≤ (i 1 : Nat) ∧ (i 1 : Nat) < win0_7.index t 1 * 128 + 128 := hi 1
      rw [(idx_7 t).2] at h1
      have : t.val < 144 := t.isLt
      omega

end Cert.KernelIdeal.Attn

end
-- ==== Proof.Finite.lean ====
/- The precondition read back: queries, keys and biases are reals. -/
module

public import proofs.«01_k».proof.Pre_finite
public import proofs.«01_k».proof.Proof.Final
public import Idealize.ShloMosaic.Lib.ReduceAll
public import Idealize.ShloMosaic.PureOps.Ideal

@[expose] public section

set_option maxRecDepth 16384

noncomputable section

namespace Cert.Pre_finite

open Idealize.ShloMosaic Idealize.ShloMosaic.TcCoe
open Cert.Banded (Real')

instance facts : Facts where
  slices_S4096x20480_S4096x4096_0_0 := by decide
  bitsLt_bf16_f32 := by decide
  bcast_S_S4096x4096 := by decide
  reducesTo_S4096x4096_S_d0_1 := by decide
  h_S_ := by decide
  bcast_S_S16x257 := by decide
  reducesTo_S16x257_S_d0_1 := by decide

/-- A value whose magnitude is below infinity is a real. -/
theorem real_of_lt (x : EReal) (h : Ideal.cmp .olt (max x (-x)) (Ideal.ofBits .f32 0x7F800000#32) = 1#1) : ∃ r : ℝ, x = r := by
  rw [show Ideal.ofBits .f32 0x7F800000#32 = ⊤ by simp [Ideal.ofBits, Ideal.ieee]] at h
  have hlt : max x (-x) < ⊤ := by
    by_contra hn
    simp [Ideal.cmp, hn] at h
  rw [max_lt_iff] at hlt
  refine ⟨x.toReal, (EReal.coe_toReal hlt.1.ne ?_).symm⟩
  rintro rfl
  simp at hlt

instance : Subsingleton S_.Idx := ⟨fun a b => funext fun k => k.elim0⟩

variable (x0 : FVec Ideal S4096x20480 .bf16) (x1 : FVec Ideal S16x257 .f32) (x2 : FVec Ideal S4096x2048 .bf16) (x3 : FVec Ideal S4096x20480 .bf16)

theorem finite (h : fn (F := Ideal) x0 x1 x2 x3 = fun _ => 1#1) :
    (∀ q k (hk : k < 4096), ∃ r : ℝ, x0 (ix2 q ⟨k, by omega⟩) = (r : EReal)) ∧ ∀ h n, ∃ r : ℝ, x1 (ix2 h n) = (r : EReal) := by
  have e := congrFun h (Shape.Idx.first Facts.h_S_)
  dsimp only [fn] at e
  obtain ⟨e0, e1⟩ := IntOp.andi_eq_one.1 e
  refine ⟨fun q k hk => ?_, fun h n => ?_⟩
  · refine real_of_lt _ (Eq.trans ?_ (Host.reduce_andi_all _ _ _ _ _ e0 (ix2 q ⟨k, hk⟩)))
    refine congrArg (fun i => Ideal.cmp .olt (max (x0 i : EReal) (-(x0 i : EReal))) (Ideal.ofBits .f32 0x7F800000#32)) (funext fun a => Fin.ext ?_)
    match a with
    | ⟨0, _⟩ => show q.val = 0 + q.val; omega
    | ⟨1, _⟩ => show k = 0 + k; omega
  · exact real_of_lt _ (Host.reduce_andi_all _ _ _ _ _ e1 (ix2 h n))

end Cert.Pre_finite

namespace Cert.KernelIdeal.Attn

open Cert.KernelIdeal Idealize.ShloMosaic Idealize.ShloMosaic.TcCoe
open Cert.Banded (Real')

/-- Under the precondition the gradients have what they need. -/
theorem real_of_pre (m : (ℓ : Loc nD τ sig) → Buf (Elt Ideal) ℓ) (c : Dev nD)
    (h : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    Real' (Qm m c) (Km m c) (Bm m c) scale := by
  obtain ⟨hx, hb⟩ := Cert.Pre_finite.finite _ _ _ _ h
  exact ⟨fun h q d => hx q _ (by omega), fun h q d => hx q _ (by omega), hb, scale_real⟩

end Cert.KernelIdeal.Attn

end
-- ==== Proof.Gate.Silu.lean ====
/- The backward pass of a branch's own gate, at an index: what reaches the branch, and what reaches the gate's argument, in which the derivative
   of `z * gate z` stands as the product and as the sum of two terms. -/
module

public import proofs.«01_k».proof.Proof.Spec
public import proofs.«01_k».proof.Proof.Gate.Spec
public import Idealize.ShloMosaic.Lib.ValueIdx
public import Idealize.ShloMosaic.Lib.Pipeline.Value

@[expose] public section

noncomputable section

namespace Cert.Gates

open Idealize.ShloMosaic Idealize.ShloMosaic.ValueIdx

/-- A row of the gradient times a row of the weights. -/
def rowDots {R C : ℕ} (x : (⟨2, ![R, 4096]⟩ : Shape).Idx → EReal) (w : (⟨2, ![C, 4096]⟩ : Shape).Idx → EReal) (r : Fin R) (k : Fin C) : EReal :=
  ∑ n : Fin 4096, x (ix2 r n) * w (ix2 k n)
def dots (d : Fin 4096 → Fin 4096 → EReal) (w : Fin 2048 → Fin 4096 → EReal) (s : Fin 4096) (a : Fin 2048) : EReal := ∑ n, d s n * w a n

theorem rowDots_eq {R C : ℕ} {x : (⟨2, ![R, 4096]⟩ : Shape).Idx → EReal} {w : (⟨2, ![C, 4096]⟩ : Shape).Idx → EReal} {r : Fin R} {k : Fin C}
    {d : Fin 4096 → Fin 4096 → EReal} {v : Fin 2048 → Fin 4096 → EReal} {s : Fin 4096} {a : Fin 2048}
    (hx : ∀ n, x (ix2 r n) = d s n) (hw : ∀ n, w (ix2 k n) = v a n) : rowDots x w r k = dots d v s a :=
  Finset.sum_congr rfl fun n _ => congrArg₂ (fun x y : EReal => x * y) (hx n) (hw n)

/-- An array read at an index whose two coordinates are known. -/
theorem at_ix2 {α : Type} {R C : ℕ} (x : (⟨2, ![R, C]⟩ : Shape).Idx → α) (j : (⟨2, ![R, C]⟩ : Shape).Idx) (a : Fin R) (b : Fin C)
    (h0 : (j 0).val = a.val) (h1 : (j 1).val = b.val) : x j = x (ix2 a b) :=
  congrArg x (funext fun d => Fin.ext (match d with
    | ⟨0, _⟩ => h0
    | ⟨1, _⟩ => h1))

/-- `f` in the 2048 columns from column `b`, and `rest` in the other columns. -/
def inColumns (b : ℕ) (f : Fin 2048 → EReal) (rest : EReal) (n : ℕ) : EReal := if h : b ≤ n ∧ n < b + 2048 then f ⟨n - b, by omega⟩ else rest

theorem inColumns_in {b n : ℕ} (f : Fin 2048 → EReal) (rest : EReal) (a : Fin 2048) (h : n = b + a.val) : inColumns b f rest n = f a :=
  (dif_pos (show b ≤ n ∧ n < b + 2048 by omega)).trans (congrArg f (Fin.ext (by show n - b = a.val; omega)))

theorem inColumns_out {b n : ℕ} (f : Fin 2048 → EReal) (rest : EReal) (h : ¬(b ≤ n ∧ n < b + 2048)) : inColumns b f rest n = rest := dif_neg h

/-- The middle one of three pieces side by side whose outer two are columns of `r`. -/
theorem concat_columns {b e : ℕ} (x : (⟨2, ![4096, b]⟩ : Shape).Idx → EReal) (y : (⟨2, ![4096, 2048]⟩ : Shape).Idx → EReal) (z : (⟨2, ![4096, e]⟩ : Shape).Idx → EReal)
    (r : (⟨2, ![4096, 20480]⟩ : Shape).Idx → EReal)
    (hc : Shape.Concatenates [⟨2, ![4096, b]⟩, ⟨2, ![4096, 2048]⟩, ⟨2, ![4096, e]⟩] ⟨2, ![4096, 20480]⟩ 1) (he : b + 2048 + e = 20480)
    (hx : ∀ (s : Fin 4096) (a : Fin b), x (ix2 s a) = r (ix2 s ⟨a.val, by omega⟩))
    (hz : ∀ (s : Fin 4096) (a : Fin e), z (ix2 s a) = r (ix2 s ⟨b + 2048 + a.val, by omega⟩)) (s : Fin 4096) (n : Fin 20480) :
    concatenate (⟨2, ![4096, 20480]⟩ : Shape) 1 [⟨⟨2, ![4096, b]⟩, x⟩, ⟨⟨2, ![4096, 2048]⟩, y⟩, ⟨⟨2, ![4096, e]⟩, z⟩] hc (ix2 s n)
      = inColumns b (fun a => y (ix2 s a)) (r (ix2 s n)) n.val := by
  have hn := n.isLt
  have h0 : ∀ {k : ℕ} (a : Fin k) (d : Fin 2), d ≠ 1 → (ix2 s a d).val = (ix2 s n d).val := fun a d hd => match d with
    | ⟨0, _⟩ => rfl
    | ⟨1, _⟩ => absurd rfl hd
  by_cases h1 : n.val < b
  · refine (concatenate_apply_piece (t := ⟨2, ![4096, 20480]⟩) 1 [⟨⟨2, ![4096, b]⟩, x⟩, ⟨⟨2, ![4096, 2048]⟩, y⟩, ⟨⟨2, ![4096, e]⟩, z⟩] hc (ix2 s n) 0 (by show 0 < 3; decide) ⟨2, ![4096, b]⟩ x rfl rfl 0 rfl (ix2 s ⟨n.val, h1⟩) (h0 _)
      (by show 0 + n.val = n.val; omega)).trans ((hx s _).trans ?_)
    rw [inColumns_out _ _ (by omega)]
  · by_cases h2 : n.val < b + 2048
    · refine (concatenate_apply_piece (t := ⟨2, ![4096, 20480]⟩) 1 [⟨⟨2, ![4096, b]⟩, x⟩, ⟨⟨2, ![4096, 2048]⟩, y⟩, ⟨⟨2, ![4096, e]⟩, z⟩] hc (ix2 s n) 1 (by show 1 < 3; decide) ⟨2, ![4096, 2048]⟩ y rfl rfl b rfl (ix2 s ⟨n.val - b, by omega⟩) (h0 _)
        (by show b + (n.val - b) = n.val; omega)).trans ?_
      exact (inColumns_in (fun a => y (ix2 s a)) _ ⟨n.val - b, by omega⟩ (by show n.val = b + (n.val - b); omega)).symm
    · refine (concatenate_apply_piece (t := ⟨2, ![4096, 20480]⟩) 1 [⟨⟨2, ![4096, b]⟩, x⟩, ⟨⟨2, ![4096, 2048]⟩, y⟩, ⟨⟨2, ![4096, e]⟩, z⟩] hc (ix2 s n) 2 (by show 2 < 3; decide) ⟨2, ![4096, e]⟩ z rfl rfl (b + 2048) rfl (ix2 s ⟨n.val - (b + 2048), by omega⟩) (h0 _)
        (by show b + 2048 + (n.val - (b + 2048)) = n.val; omega)).trans ((hz s _).trans ?_)
      rw [inColumns_out _ _ (by omega)]
      exact congrArg (fun n => r (ix2 s n)) (Fin.ext (by show b + 2048 + (n.val - (b + 2048)) = n.val; omega))

/-- The gradient `g` through `z * gate z`: to the other factor, and (with that factor in `g`) to `z`. -/
def toOther (g z : EReal) : EReal := g * (z * gate z)
def toArg (g z : EReal) : EReal := g * (gate z * (1 + z * (1 - gate z)))

theorem gate_bot : gate ⊥ = 0 := by
  have h : (1 : EReal) + ⊤ = ⊤ := EReal.add_top_of_ne_bot (EReal.coe_ne_bot 1)
  simp [gate, Ideal.div, h]
theorem gate_top : gate ⊤ = 1 := by simp [gate, Ideal.div]

theorem gate_coe (r : ℝ) : ∃ s : ℝ, gate (r : EReal) = s := by
  have h : (1 + Real.exp (-r)) ≠ 0 := by positivity
  refine ⟨1 * (1 / (1 + Real.exp (-r))), ?_⟩
  unfold gate
  rw [← EReal.coe_neg, Ideal.exp_coe, ← EReal.coe_one, ← EReal.coe_add, Ideal.div_coe h, ← EReal.coe_mul]

/-- The derivative as the sum of its two terms, for a finite gradient. -/
theorem toArg_eq (g z : EReal) (hg : ∃ r : ℝ, g = r) : g * gate z + z * g * (gate z * (1 - gate z)) = toArg g z := by
  obtain ⟨r, rfl⟩ := hg
  unfold toArg
  induction z with
  | bot => rw [gate_bot]; simp
  | top =>
    rw [gate_top, show (1 : EReal) - 1 = 0 by rw [← EReal.coe_one, ← EReal.coe_sub, sub_self, EReal.coe_zero]]
    simp
  | coe x =>
    obtain ⟨s, hs⟩ := gate_coe x
    rw [hs, ← EReal.coe_one]
    simp only [← EReal.coe_mul, ← EReal.coe_sub, ← EReal.coe_add]
    refine congrArg _ ?_
    ring

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem dots_real (d : Fin 4096 → Fin 4096 → EReal) (w : Fin 2048 → Fin 4096 → EReal) (hd : ∀ s n, ∃ r : ℝ, d s n = r) (hw : ∀ a n, ∃ r : ℝ, w a n = r)
    (s : Fin 4096) (a : Fin 2048) : ∃ r : ℝ, dots d w s a = r :=
  Cert.Banded.real_sum _ fun n => real_mul (hd s n) (hw a n)

end Cert.Gates

end
-- ==== Proof.Gate.KernelAttn.lean ====
/- What the backward kernel of the attention branch's own gate leaves in its two result arrays. -/
module

public import proofs.«01_k».proof.Proof.Gate.Silu
public import proofs.«01_k».proof.Proof.Gen.KernelAttnGateIdeal.Value
public import Idealize.ShloMosaic.Lib.StableHlo.ReadAt
public import Idealize.ShloMosaic.Lib.Pointwise
public import Idealize.ShloMosaic.Lib.ValueIdx
public import Idealize.ShloMosaic.Lib.IdealHost

@[expose] public section

set_option maxRecDepth 16384

noncomputable section

namespace Cert.KernelAttnGateIdeal.Bwd

open Cert.KernelAttnGateIdeal Cert.KernelAttnGateIdeal.Gen Cert.Loads Cert.Gates
open Idealize.ShloMosaic Idealize.ShloMosaic.TcCoe Idealize.ShloMosaic.Tactic

/-- A grid point's blocks. -/
theorem idx_0 : ∀ t : Fin grid0.N, win0_0.index t 0 = t.val / 4 ∧ win0_0.index t 1 = 0 := by decide +kernel
theorem idx_1 : ∀ t : Fin grid0.N, win0_1.index t 0 = t.val % 4 ∧ win0_1.index t 1 = 0 := by decide +kernel
theorem idx_2 : ∀ t : Fin grid0.N, win0_2.index t 0 = t.val / 4 ∧ win0_2.index t 1 = 12 + t.val % 4 := by decide +kernel
theorem idx_3 : ∀ t : Fin grid0.N, win0_3.index t 0 = t.val / 4 ∧ win0_3.index t 1 = t.val % 4 := by decide +kernel
theorem idx_4 : ∀ t : Fin grid0.N, win0_4.index t 0 = t.val / 4 ∧ win0_4.index t 1 = t.val % 4 := by decide +kernel
theorem idx_5 : ∀ t : Fin grid0.N, win0_5.index t 0 = t.val / 4 ∧ win0_5.index t 1 = 12 + t.val % 4 := by decide +kernel

/-- The body's product, its logistic function and its results read at an index. -/
theorem prod_at (x : Vec Ideal S1024x4096 .bf16) (w : Vec Ideal S512x4096 .bf16) (r : Fin 1024) (k : Fin 512) :
    k0_pay1 (F := Ideal) x w (ix2 r k) = rowDots x w r k := by
  unfold rowDots k0_pay1
  pointwise
  rfl

theorem sig_at (z : Vec Ideal S1024x512 .bf16) (i : S1024x512.Idx) : k0_pay3 (F := Ideal) z i = gate (z i) := by
  show Ideal.div (Ideal.ofBits .f32 0x3F800000#32) (Ideal.ofBits .f32 0x3F800000#32 + Ideal.exp (Ideal.ofBits .f32 0x00000000#32 - z i)) = _
  rw [Ideal.ofBits_one_f32, Ideal.ofBits_zero_f32, zero_sub]
  rfl

theorem other_at (x : Vec Ideal S1024x4096 .bf16) (w : Vec Ideal S512x4096 .bf16) (z : Vec Ideal S1024x512 .bf16) (r : Fin 1024) (k : Fin 512) :
    k0_pay4 (F := Ideal) x w z (ix2 r k) = toOther (rowDots x w r k) (z (ix2 r k)) := by
  show k0_pay1 (F := Ideal) x w (ix2 r k) * (z (ix2 r k) * k0_pay3 (F := Ideal) z (ix2 r k)) = _
  rw [prod_at, sig_at]
  rfl

theorem arg_at (x : Vec Ideal S1024x4096 .bf16) (w : Vec Ideal S512x4096 .bf16) (z : Vec Ideal S1024x512 .bf16) (y : Vec Ideal S1024x512 .bf16) (r : Fin 1024) (k : Fin 512) :
    k0_pay5 (F := Ideal) x w z y (ix2 r k) = toArg ((rowDots x w r k) * y (ix2 r k)) (z (ix2 r k)) := by
  show k0_pay1 (F := Ideal) x w (ix2 r k) * y (ix2 r k) * (k0_pay3 (F := Ideal) z (ix2 r k)
    * (Ideal.ofBits .f32 0x3F800000#32 + z (ix2 r k) * (Ideal.ofBits .f32 0x3F800000#32 - k0_pay3 (F := Ideal) z (ix2 r k)))) = _
  rw [prod_at, sig_at, Ideal.ofBits_one_f32]
  rfl

variable (m : (ℓ : Loc nD τ sig) → Buf (Elt Ideal) ℓ) (c : Dev nD)

/-- The arguments as launched: the gradient, the branch's weights, the gate's columns of the projections, the attention's output. -/
def D (s n : Fin 4096) : EReal := (m ((c : Thread nD τ).loc main_arg0) : Vec Ideal S4096x4096 .bf16) (ix2 s n)
def W (a : Fin 2048) (n : Fin 4096) : EReal := (m ((c : Thread nD τ).loc main_arg1) : Vec Ideal S2048x4096 .bf16) (ix2 a n)
def Z (s : Fin 4096) (a : Fin 2048) : EReal := (m ((c : Thread nD τ).loc main_arg2) : Vec Ideal S4096x20480 .bf16) (ix2 s ⟨6144 + a.val, by omega⟩)
def Y (s : Fin 4096) (a : Fin 2048) : EReal := (m ((c : Thread nD τ).loc main_arg3) : Vec Ideal S4096x2048 .bf16) (ix2 s a)

theorem blk_0 (t : Fin cfg0.N) (r : Fin 1024) (n s : Fin 4096) (hs : s.val = 1024 * (t.val / 4) + r.val) :
    (iblk m c 0 t : Vec Ideal S1024x4096 .bf16) (ix2 r n) = D m c s n := by
  unfold iblk
  rw [View.read_apply]
  show V m c main_arg0 _ = _
  rw [V_main_arg0]
  exact at_ix2 (m ((c : Thread nD τ).loc main_arg0) : Vec Ideal S4096x4096 .bf16) _ _ _
    (by show win0_0.index t 0 * 1024 + 1 * r.val = s.val; rw [(idx_0 t).1]; omega)
    (by show win0_0.index t 1 * 4096 + 1 * n.val = n.val; rw [(idx_0 t).2]; omega)

theorem blk_1 (t : Fin cfg0.N) (k : Fin 512) (n : Fin 4096) (a : Fin 2048) (ha : a.val = 512 * (t.val % 4) + k.val) :
    (iblk m c 1 t : Vec Ideal S512x4096 .bf16) (ix2 k n) = W m c a n := by
  unfold iblk
  rw [View.read_apply]
  show V m c main_arg1 _ = _
  rw [V_main_arg1]
  exact at_ix2 (m ((c : Thread nD τ).loc main_arg1) : Vec Ideal S2048x4096 .bf16) _ _ _
    (by show win0_1.index t 0 * 512 + 1 * k.val = a.val; rw [(idx_1 t).1]; omega)
    (by show win0_1.index t 1 * 4096 + 1 * n.val = n.val; rw [(idx_1 t).2]; omega)

theorem blk_2 (t : Fin cfg0.N) (r : Fin 1024) (k : Fin 512) (s : Fin 4096) (a : Fin 2048) (hs : s.val = 1024 * (t.val / 4) + r.val) (ha : a.val = 512 * (t.val % 4) + k.val) :
    (iblk m c 2 t : Vec Ideal S1024x512 .bf16) (ix2 r k) = Z m c s a := by
  unfold iblk
  rw [View.read_apply]
  show V m c main_arg2 _ = _
  rw [V_main_arg2]
  exact at_ix2 (m ((c : Thread nD τ).loc main_arg2) : Vec Ideal S4096x20480 .bf16) _ _ _
    (by show win0_2.index t 0 * 1024 + 1 * r.val = s.val; rw [(idx_2 t).1]; omega)
    (by show win0_2.index t 1 * 512 + 1 * k.val = 6144 + a.val; rw [(idx_2 t).2]; omega)

theorem blk_3 (t : Fin cfg0.N) (r : Fin 1024) (k : Fin 512) (s : Fin 4096) (a : Fin 2048) (hs : s.val = 1024 * (t.val / 4) + r.val) (ha : a.val = 512 * (t.val % 4) + k.val) :
    (iblk m c 3 t : Vec Ideal S1024x512 .bf16) (ix2 r k) = Y m c s a := by
  unfold iblk
  rw [View.read_apply]
  show V m c main_arg3 _ = _
  rw [V_main_arg3]
  exact at_ix2 (m ((c : Thread nD τ).loc main_arg3) : Vec Ideal S4096x2048 .bf16) _ _ _
    (by show win0_3.index t 0 * 1024 + 1 * r.val = s.val; rw [(idx_3 t).1]; omega)
    (by show win0_3.index t 1 * 512 + 1 * k.val = a.val; rw [(idx_3 t).2]; omega)

theorem dots_at (t : Fin cfg0.N) (r : Fin 1024) (k : Fin 512) (s : Fin 4096) (a : Fin 2048) (hs : s.val = 1024 * (t.val / 4) + r.val) (ha : a.val = 512 * (t.val % 4) + k.val) :
    rowDots (R := 1024) (C := 512) (iblk m c 0 t) (iblk m c 1 t) r k = dots (D m c) (W m c) s a :=
  rowDots_eq (fun n => blk_0 m c t r n s hs) (fun n => blk_1 m c t k n a ha)

/-- What reaches the branch and the gate's argument. -/
def dIn (s : Fin 4096) (a : Fin 2048) : EReal := toOther (dots (D m c) (W m c) s a) (Z m c s a)
def dZ (s : Fin 4096) (a : Fin 2048) : EReal := toArg (dots (D m c) (W m c) s a * Y m c s a) (Z m c s a)

theorem out_4 (t : Fin cfg0.N) : (outsAt0 m c t).1 = k0_pay4 (F := Ideal) (iblk m c 0 t) (iblk m c 1 t) (iblk m c 2 t) := by
  unfold outsAt0
  dsimp only
  unfold out0_A_4
  refine (View.read_writes_junk_eq_canon VO0_4 _).trans ?_
  refine (View.canon_unit_zero z2 _ _).trans ?_
  show k0_pay4 _ _ _ = _
  rw [load_whole _ _ z2, load_whole _ _ z2, load_whole _ _ z2]

theorem out_5 (t : Fin cfg0.N) : (outsAt0 m c t).2 = k0_pay5 (F := Ideal) (iblk m c 0 t) (iblk m c 1 t) (iblk m c 2 t) (iblk m c 3 t) := by
  unfold outsAt0
  dsimp only
  unfold out0_A_5
  refine (View.read_writes_junk_eq_canon VO0_5 _).trans ?_
  refine (View.canon_unit_zero z2 _ _).trans ?_
  show k0_pay5 _ _ _ _ = _
  rw [load_whole _ _ z2, load_whole _ _ z2, load_whole _ _ z2, load_whole _ _ z2]

/-- The array of what reaches the branch. -/
def arrO : Buf (Elt Ideal) ((c : Thread nD τ).loc main_v0_0) := (fun i => dIn m c (i 0) (i 1) : Vec Ideal S4096x2048 .bf16)

theorem flushed_4 (t : Fin cfg0.N) (hf : (cfg0.win 4).flush t = true) :
    (dats m 0 c).flushed 4 t = ((cfg0.win 4).blk t).view.read (Elt Ideal) (arrO m c) := by
  show (cfg0.win 4).cut (grid0.coords t) ((dats m 0 c).after 4 t) = _
  rw [after0_4, out_4]
  have ht : t.val < 16 := t.isLt
  funext i
  rw [View.read_apply]
  have h0 : (i 0).val < 1024 := (i 0).isLt
  have h1 : (i 1).val < 512 := (i 1).isLt
  have e : (cfg0.win 4).cut (grid0.coords t) (k0_pay4 (F := Ideal) (iblk m c 0 t) (iblk m c 1 t) (iblk m c 2 t)) i
      = k0_pay4 (F := Ideal) (iblk m c 0 t) (iblk m c 1 t) (iblk m c 2 t) (ix2 ⟨(i 0).val, h0⟩ ⟨(i 1).val, h1⟩) := by
    exact at_ix2 (k0_pay4 (F := Ideal) (iblk m c 0 t) (iblk m c 1 t) (iblk m c 2 t)) _ _ _ rfl rfl
  have hs : (((cfg0.win 4).blk t).view.emb i 0).val = 1024 * (t.val / 4) + (i 0).val := by
    show win0_4.index t 0 * 1024 + 1 * (i 0).val = _
    rw [(idx_4 t).1]; omega
  have ha : (((cfg0.win 4).blk t).view.emb i 1).val = 512 * (t.val % 4) + (i 1).val := by
    show win0_4.index t 1 * 512 + 1 * (i 1).val = _
    rw [(idx_4 t).2]; omega
  refine e.trans ((other_at _ _ _ _ _ ).trans ?_)
  exact congrArg₂ toOther (dots_at m c t _ _ _ _ hs ha) (blk_2 m c t _ _ _ _ hs ha)

theorem final_4 : (dats m 0 c).arrAt 4 cfg0.N = arrO m c := by
  funext i
  rw [(dats m 0 c).arrAt_eq_piecewise 4 (arrO m c) (flushed_4 m c) i]
  have h0 : (i 0 : Nat) < 4096 := (i 0).isLt
  have h1 : (i 1 : Nat) < 2048 := (i 1).isLt
  refine if_pos ?_
  let t : Fin cfg0.N := ⟨4 * ((i 0 : Nat) / 1024) + (i 1 : Nat) / 512, by show _ < 16; omega⟩
  have ht : t.val = 4 * ((i 0 : Nat) / 1024) + (i 1 : Nat) / 512 := rfl
  refine ⟨t, flush0_4 t, ?_⟩
  show i ∈ ((View.whole main_v0_0).slice (win0_4.rect t)).set
  rw [View.set_slice_whole, Rect.mem_set_unit]
  intro b
  match b with
  | ⟨0, _⟩ => show win0_4.index t 0 * 1024 ≤ (i 0 : Nat) ∧ (i 0 : Nat) < win0_4.index t 0 * 1024 + 1024
              rw [(idx_4 t).1]; omega
  | ⟨1, _⟩ => show win0_4.index t 1 * 512 ≤ (i 1 : Nat) ∧ (i 1 : Nat) < win0_4.index t 1 * 512 + 512
              rw [(idx_4 t).2]; omega

/-- The array of the projections' gradients: the gate's columns, and the rest as the array came. -/
def arrD : Buf (Elt Ideal) ((c : Thread nD τ).loc main_v0_1) :=
  (fun i => inColumns 6144 (dZ m c (i 0)) (V m c main_v0_1 i) (i 1).val : Vec Ideal S4096x20480 .bf16)

theorem flushed_5 (t : Fin cfg0.N) (hf : (cfg0.win 5).flush t = true) :
    (dats m 0 c).flushed 5 t = ((cfg0.win 5).blk t).view.read (Elt Ideal) (arrD m c) := by
  show (cfg0.win 5).cut (grid0.coords t) ((dats m 0 c).after 5 t) = _
  rw [after0_5, out_5]
  have ht : t.val < 16 := t.isLt
  funext i
  rw [View.read_apply]
  have h0 : (i 0).val < 1024 := (i 0).isLt
  have h1 : (i 1).val < 512 := (i 1).isLt
  have e : (cfg0.win 5).cut (grid0.coords t) (k0_pay5 (F := Ideal) (iblk m c 0 t) (iblk m c 1 t) (iblk m c 2 t) (iblk m c 3 t)) i
      = k0_pay5 (F := Ideal) (iblk m c 0 t) (iblk m c 1 t) (iblk m c 2 t) (iblk m c 3 t) (ix2 ⟨(i 0).val, h0⟩ ⟨(i 1).val, h1⟩) := by
    exact at_ix2 (k0_pay5 (F := Ideal) (iblk m c 0 t) (iblk m c 1 t) (iblk m c 2 t) (iblk m c 3 t)) _ _ _ rfl rfl
  have hs : (((cfg0.win 5).blk t).view.emb i 0).val = 1024 * (t.val / 4) + (i 0).val := by
    show win0_5.index t 0 * 1024 + 1 * (i 0).val = _
    rw [(idx_5 t).1]; omega
  have ha : (((cfg0.win 5).blk t).view.emb i 1).val = 512 * (12 + t.val % 4) + (i 1).val := by
    show win0_5.index t 1 * 512 + 1 * (i 1).val = _
    rw [(idx_5 t).2]; omega
  refine e.trans ((arg_at _ _ _ _ _ _ ).trans (Eq.trans ?_ (inColumns_in _ _ ⟨512 * (t.val % 4) + (i 1).val, by omega⟩ (by rw [ha]; show _ = 6144 + (512 * (t.val % 4) + (i 1).val); omega)).symm))
  exact congrArg₂ toArg (congrArg₂ (fun x y : EReal => x * y) (dots_at m c t _ _ _ _ hs rfl) (blk_3 m c t _ _ _ _ hs rfl)) (blk_2 m c t _ _ _ _ hs rfl)

theorem final_5 : (dats m 0 c).arrAt 5 cfg0.N = arrD m c := by
  funext i
  rw [(dats m 0 c).arrAt_eq_piecewise 5 (arrD m c) (flushed_5 m c) i]
  have h0 : (i 0 : Nat) < 4096 := (i 0).isLt
  by_cases hc : 6144 ≤ (i 1 : Nat) ∧ (i 1 : Nat) < 6144 + 2048
  · refine if_pos ?_
    let t : Fin cfg0.N := ⟨4 * ((i 0 : Nat) / 1024) + ((i 1 : Nat) / 512 - 12), by show _ < 16; omega⟩
    have ht : t.val = 4 * ((i 0 : Nat) / 1024) + ((i 1 : Nat) / 512 - 12) := rfl
    refine ⟨t, flush0_5 t, ?_⟩
    show i ∈ ((View.whole main_v0_1).slice (win0_5.rect t)).set
    rw [View.set_slice_whole, Rect.mem_set_unit]
    intro b
    match b with
    | ⟨0, _⟩ => show win0_5.index t 0 * 1024 ≤ (i 0 : Nat) ∧ (i 0 : Nat) < win0_5.index t 0 * 1024 + 1024
                rw [(idx_5 t).1]; omega
    | ⟨1, _⟩ => show win0_5.index t 1 * 512 ≤ (i 1 : Nat) ∧ (i 1 : Nat) < win0_5.index t 1 * 512 + 512
                rw [(idx_5 t).2]; omega
  · rw [if_neg]
    · rw [A_eq]
      exact (inColumns_out _ _ hc).symm
    · rintro ⟨t, -, hi⟩
      replace hi : i ∈ ((View.whole main_v0_1).slice (win0_5.rect t)).set := hi
      rw [View.set_slice_whole, Rect.mem_set_unit] at hi
      have h2 : win0_5.index t 1 * 512 ≤ (i 1 : Nat) ∧ (i 1 : Nat) < win0_5.index t 1 * 512 + 512 := hi 1
      rw [(idx_5 t).2] at h2
      have ht : t.val < 16 := t.isLt
      omega

/-- The array is handed to the region as the launch's last argument. -/
theorem V_copy (i : S4096x20480.Idx) : (V m c main_v0_1 : Vec Ideal S4096x20480 .bf16) i = (m ((c : Thread nD τ).loc main_arg4) : Vec Ideal S4096x20480 .bf16) i := by
  unfold V
  after_reads_at
  rfl

end Cert.KernelAttnGateIdeal.Bwd

end
-- ==== Proof.Gate.RefAttn.lean ====
/- What the attention gate's backward reference leaves in its two result arrays. -/
module

public import proofs.«01_k».proof.Proof.Gate.Silu
public import proofs.«01_k».proof.Proof.Gen.ReferenceAttnGateIdeal.Read
public import Idealize.ShloMosaic.Lib.IdealHost

@[expose] public section

set_option maxRecDepth 16384

noncomputable section

namespace Cert.ReferenceAttnGateIdeal.Bwd

open Cert.ReferenceAttnGateIdeal Cert.ReferenceAttnGateIdeal.Gen Cert.ReferenceAttnGateIdeal.Read Cert.Gates
open Idealize.ShloMosaic Idealize.ShloMosaic.TcCoe Idealize.ShloMosaic.ValueIdx

variable (x0 : Vec Ideal S4096x4096 .bf16) (x1 : Vec Ideal S2048x4096 .bf16) (x2 : Vec Ideal S4096x20480 .bf16) (x3 : Vec Ideal S4096x2048 .bf16)
  (x4 : Vec Ideal S4096x20480 .bf16) (s : Fin 4096) (a : Fin 2048)

theorem prod_at : val_main_v8 (F := Ideal) x0 x1 (ix2 s a) = dots (fun s n => x0 (ix2 s n)) (fun a n => x1 (ix2 a n)) s a := by
  rw [val_main_v8_apply]
  refine Finset.sum_congr rfl fun n _ => congrArg₂ (fun x y : EReal => x * y) ?_ ?_
  · exact at_ix2 x0 (lidx_main_v8 (ix2 s a) n) s n rfl rfl
  · exact at_ix2 x1 (ridx_main_v8 (ix2 s a) n) a n rfl rfl

theorem col_at : val_main_v2 (F := Ideal) x2 (ix2 s a) = x2 (ix2 s ⟨6144 + a.val, by omega⟩) := by
  rw [val_main_v2_apply, val_main_v1_apply]
  exact at_ix2 x2 (idx_main_v1 (ix2 s a)) s ⟨6144 + a.val, by omega⟩ rfl rfl

theorem sig_at : val_main_v3_2 (F := Ideal) x2 (ix2 s a) = gate (x2 (ix2 s ⟨6144 + a.val, by omega⟩)) := by
  rw [val_main_v3_2_apply, val_main_call0_v4_apply, val_main_call0_cst_0_apply, val_main_call0_v3_apply, val_main_call0_v2_apply, val_main_call0_cst_apply,
    val_main_call0_v1_apply, val_main_call0_v0_apply, col_at]
  show Ideal.div (Ideal.ofBits .f32 0x3F800000#32) (Ideal.ofBits .f32 0x3F800000#32 + Ideal.exp (-_)) = _
  rw [Ideal.ofBits_one_f32]
  rfl

/-- What reaches the attention. -/
theorem branch_at : val_main_v16 (F := Ideal) x0 x1 x2 (ix2 s a)
    = toOther (dots (fun s n => x0 (ix2 s n)) (fun a n => x1 (ix2 a n)) s a) (x2 (ix2 s ⟨6144 + a.val, by omega⟩)) := by
  rw [val_main_v16_apply, val_main_v10_apply, val_main_v3_0_apply, prod_at, col_at, sig_at]
  rfl

/-- What reaches the gate's argument, where the gradient times the attention's output is a real. -/
theorem grad_at (h : ∃ r : ℝ, x3 (ix2 s a) * dots (fun s n => x0 (ix2 s n)) (fun a n => x1 (ix2 a n)) s a = r) :
    val_main_v13 (F := Ideal) x0 x1 x2 x3 (ix2 s a)
      = toArg (x3 (ix2 s a) * dots (fun s n => x0 (ix2 s n)) (fun a n => x1 (ix2 a n)) s a) (x2 (ix2 s ⟨6144 + a.val, by omega⟩)) := by
  rw [val_main_v13_apply, val_main_v11_apply, val_main_call1_v2_apply, val_main_call1_v1_apply, val_main_call1_v0_apply, val_main_v3_1_apply,
    val_main_call0_v7_apply, val_main_call0_v6_apply, val_main_call0_cst_1_apply, val_main_v9_apply, val_main_v0_apply, prod_at, col_at, sig_at]
  refine Eq.trans ?_ (toArg_eq _ _ h)
  show _ * _ + _ * _ * (_ * (Ideal.ofBits .f32 0x3F800000#32 - _)) = _
  rw [Ideal.ofBits_one_f32]
  rfl

theorem columns_at (n : Fin 20480) : val_main_v15 (F := Ideal) x0 x1 x2 x3 x4 (ix2 s n)
    = inColumns 6144 (fun a => val_main_v13 (F := Ideal) x0 x1 x2 x3 (ix2 s a)) (x4 (ix2 s n)) n.val :=
  concat_columns _ _ _ x4 _ rfl
    (fun s a => (val_main_v12_apply x4 (ix2 s a)).trans (at_ix2 x4 (idx_main_v12 (ix2 s a)) s _ rfl rfl))
    (fun s a => (val_main_v14_apply x4 (ix2 s a)).trans (at_ix2 x4 (idx_main_v14 (ix2 s a)) s _ rfl rfl)) s n

end Cert.ReferenceAttnGateIdeal.Bwd

end
-- ==== Proof.Gate.Attn.lean ====
/- The backward pass of the attention's own gate: its kernel equals its reference. -/
module

public import proofs.«01_k».proof.Defs
public import proofs.«01_k».proof.Pre_finite_attn_gate
public import proofs.«01_k».proof.Proof.Finite
public import proofs.«01_k».proof.Proof.Gate.KernelAttn
public import proofs.«01_k».proof.Proof.Gate.RefAttn
public import proofs.«01_k».proof.Proof.Gen.KernelAttnGate
public import proofs.«01_k».proof.Proof.Gen.KernelAttnGate.Frame
public import proofs.«01_k».proof.Proof.Gen.ReferenceAttnGateIdeal.Run
public import Idealize.ShloMosaic.Lib.QuiescentFlight
public import Idealize.ShloMosaic.Lib.ReduceAll
public import Idealize.ShloMosaic.Init

@[expose] public section

set_option maxRecDepth 16384

noncomputable section

namespace Cert.Pre_finite_attn_gate

open Idealize.ShloMosaic Idealize.ShloMosaic.TcCoe

instance : Subsingleton S_.Idx := ⟨fun a b => funext fun k => k.elim0⟩

instance facts : Facts where
  bitsLt_bf16_f32 := by decide
  bcast_S_S4096x4096 := by decide
  reducesTo_S4096x4096_S_d0_1 := by decide
  h_S_ := by decide
  bcast_S_S2048x4096 := by decide
  reducesTo_S2048x4096_S_d0_1 := by decide
  bcast_S_S4096x2048 := by decide
  reducesTo_S4096x2048_S_d0_1 := by decide

/-- The precondition read back. -/
theorem finite (x0 : FVec Ideal S4096x4096 .bf16) (x1 : FVec Ideal S2048x4096 .bf16) (x2 : FVec Ideal S4096x20480 .bf16) (x3 : FVec Ideal S4096x2048 .bf16)
    (x4 : FVec Ideal S4096x20480 .bf16) (h : fn (F := Ideal) x0 x1 x2 x3 x4 = fun _ => 1#1) :
    (∀ i, ∃ r : ℝ, x0 i = (r : EReal)) ∧ (∀ i, ∃ r : ℝ, x1 i = (r : EReal)) ∧ ∀ i, ∃ r : ℝ, x3 i = (r : EReal) := by
  have e := congrFun h (Shape.Idx.first Facts.h_S_)
  dsimp only [fn] at e
  obtain ⟨e01, e3⟩ := IntOp.andi_eq_one.1 e
  obtain ⟨e0, e1⟩ := IntOp.andi_eq_one.1 e01
  exact ⟨fun i => Cert.Pre_finite.real_of_lt _ (Host.reduce_andi_all _ _ _ _ _ e0 i), fun i => Cert.Pre_finite.real_of_lt _ (Host.reduce_andi_all _ _ _ _ _ e1 i),
    fun i => Cert.Pre_finite.real_of_lt _ (Host.reduce_andi_all _ _ _ _ _ e3 i)⟩

end Cert.Pre_finite_attn_gate

namespace Cert.Proof.AttnGate

open Idealize.ShloMosaic Idealize.ShloMosaic.TcCoe Idealize.SL.Sem
open Cert.Gates

theorem frame_R : Cert.quiescent_ReferenceAttnGateIdeal := fun m g _ =>
  (θ_run Cert.ReferenceAttnGateIdeal.defs _ _).mono (fun r h => ⟨fun c => (h c).2.2, sem_eq_zero_of_no_sems (by decide) r.2⟩)
    (Cert.ReferenceAttnGateIdeal.Value.run (F := Ideal) m g)

theorem algebraic : Cert.algebraic_KernelAttnGateIdeal_ReferenceAttnGateIdeal_pre_finite_attn_gate := by
  intro m g m' g' hpre hagree
  refine ⟨Cert.KernelAttnGateIdeal.Bwd.arrO m, Cert.KernelAttnGateIdeal.Bwd.arrD m, ?_, ?_⟩
  · exact (θ_run _ _ _).mono (fun _ h c => ⟨(h c).1.trans (Cert.KernelAttnGateIdeal.Bwd.final_4 m c), (h c).2.1.trans (Cert.KernelAttnGateIdeal.Bwd.final_5 m c), (h c).2.2⟩)
      (Cert.KernelAttnGateIdeal.Value.run_blocks (F := Ideal) m g)
  · refine (θ_run _ _ _).mono (fun _ h c => ⟨(h c).1.trans ?_, (h c).2.1.trans ?_, (h c).2.2⟩) (Cert.ReferenceAttnGateIdeal.Value.run (F := Ideal) m' g')
    · obtain ⟨a0, a1, a2, a3, a4⟩ := hagree c
      rw [Cert.ReferenceAttnGateIdeal.Read.val_main_v16_eq, a0, a1, a2]
      funext j
      exact (at_ix2 _ j (j 0) (j 1) rfl rfl).trans (Cert.ReferenceAttnGateIdeal.Bwd.branch_at _ _ _ (j 0) (j 1))
    · obtain ⟨a0, a1, a2, a3, a4⟩ := hagree c
      obtain ⟨f0, f1, f3⟩ := Cert.Pre_finite_attn_gate.finite _ _ _ _ _ (hpre c)
      rw [Cert.ReferenceAttnGateIdeal.Read.val_main_v15_eq, a0, a1, a2, a3, a4]
      funext j
      refine (at_ix2 _ j (j 0) (j 1) rfl rfl).trans ((Cert.ReferenceAttnGateIdeal.Bwd.columns_at _ _ _ _ _ (j 0) (j 1)).trans ?_)
      refine congrArg₂ (fun f r => inColumns 6144 f r (j 1).val) (funext fun a => ?_) ?_
      · refine (Cert.ReferenceAttnGateIdeal.Bwd.grad_at _ _ _ _ (j 0) a (real_mul (f3 _) (dots_real _ _ (fun s n => f0 _) (fun a n => f1 _) _ _))).trans ?_
        exact congrArg (fun g : EReal => toArg g _) (mul_comm _ _)
      · exact (at_ix2 _ j (j 0) (j 1) rfl rfl).symm.trans (Cert.KernelAttnGateIdeal.Bwd.V_copy m c j).symm

end Cert.Proof.AttnGate

end
-- ==== Proof.Gate.KernelPool.lean ====
/- What the backward kernel of the pooling branch's own gate leaves in its three result arrays. -/
module

public import proofs.«01_k».proof.Proof.Gate.Silu
public import proofs.«01_k».proof.Proof.Gen.KernelPoolGateIdeal.Value
public import Idealize.ShloMosaic.Lib.StableHlo.ReadAt
public import Idealize.ShloMosaic.Lib.Pointwise
public import Idealize.ShloMosaic.Lib.ValueIdx
public import Idealize.ShloMosaic.Lib.IdealHost

@[expose] public section

set_option maxRecDepth 16384

noncomputable section

namespace Cert.KernelPoolGateIdeal.Bwd

open Cert.KernelPoolGateIdeal Cert.KernelPoolGateIdeal.Gen Cert.Loads Cert.Gates
open Idealize.ShloMosaic Idealize.ShloMosaic.TcCoe Idealize.ShloMosaic.Tactic

/-- A grid point's blocks. -/
theorem idx_0 : ∀ t : Fin grid0.N, win0_0.index t 0 = t.val % 8 ∧ win0_0.index t 1 = 0 := by decide +kernel
theorem idx_1 : ∀ t : Fin grid0.N, win0_1.index t 0 = t.val / 8 ∧ win0_1.index t 1 = 0 := by decide +kernel
theorem idx_2 : ∀ t : Fin grid0.N, win0_2.index t 0 = t.val % 8 ∧ win0_2.index t 1 = 20 + t.val / 8 := by decide +kernel
theorem idx_3 : ∀ t : Fin grid0.N, win0_3.index t 0 = t.val % 8 ∧ win0_3.index t 1 = t.val / 8 := by decide +kernel
theorem idx_4 : ∀ t : Fin grid0.N, win0_4.index t 0 = 0 ∧ win0_4.index t 1 = t.val / 8 := by decide +kernel
theorem idx_6 : ∀ t : Fin grid0.N, win0_6.index t 0 = t.val % 8 ∧ win0_6.index t 1 = t.val / 8 := by decide +kernel
theorem idx_5 : ∀ t : Fin grid0.N, win0_5.index t 0 = t.val % 8 ∧ win0_5.index t 1 = 20 + t.val / 8 := by decide +kernel
theorem idx_7 : ∀ t : Fin grid0.N, win0_7.index t 0 = 0 ∧ win0_7.index t 1 = t.val / 8 := by decide +kernel

/-- The body's product, its logistic function and its results read at an index. -/
theorem prod_at (x : Vec Ideal S512x4096 .bf16) (w : Vec Ideal S512x4096 .bf16) (r : Fin 512) (k : Fin 512) :
    k0_pay3 (F := Ideal) x w (ix2 r k) = rowDots x w r k := by
  unfold rowDots k0_pay3
  pointwise
  rfl

theorem sig_at (z : Vec Ideal S512x512 .bf16) (i : S512x512.Idx) : k0_pay5 (F := Ideal) z i = gate (z i) := by
  show Ideal.div (Ideal.ofBits .f32 0x3F800000#32) (Ideal.ofBits .f32 0x3F800000#32 + Ideal.exp (Ideal.ofBits .f32 0x00000000#32 - z i)) = _
  rw [Ideal.ofBits_one_f32, Ideal.ofBits_zero_f32, zero_sub]
  rfl

theorem inner_at (x : Vec Ideal S512x4096 .bf16) (w : Vec Ideal S512x4096 .bf16) (z : Vec Ideal S512x512 .bf16) (r : Fin 512) (k : Fin 512) :
    k0_pay7 (F := Ideal) x w z (ix2 r k) = toOther (rowDots x w r k) (z (ix2 r k)) := by
  show k0_pay3 (F := Ideal) x w (ix2 r k) * (z (ix2 r k) * k0_pay5 (F := Ideal) z (ix2 r k)) = _
  rw [prod_at, sig_at]
  rfl

theorem row_at (v : Vec Ideal S1x512 .f32) (r k : Fin 512) : broadcastTo S512x512 v broadcasts_S1x512_S512x512 (ix2 r k) = v (ix2 0 k) := by
  pointwise

theorem other_at (x : Vec Ideal S512x4096 .bf16) (w : Vec Ideal S512x4096 .bf16) (z : Vec Ideal S512x512 .bf16) (v : Vec Ideal S1x512 .f32) (r : Fin 512) (k : Fin 512) :
    k0_pay9 (F := Ideal) x w z v (ix2 r k) = toOther (rowDots x w r k) (z (ix2 r k)) * v (ix2 0 k) := by
  show k0_pay7 (F := Ideal) x w z (ix2 r k) * broadcastTo S512x512 v broadcasts_S1x512_S512x512 (ix2 r k) = _
  rw [inner_at, row_at]

theorem arg_at (x : Vec Ideal S512x4096 .bf16) (w : Vec Ideal S512x4096 .bf16) (z : Vec Ideal S512x512 .bf16) (y : Vec Ideal S512x512 .bf16) (v : Vec Ideal S1x512 .f32) (r : Fin 512) (k : Fin 512) :
    k0_pay8 (F := Ideal) x w z y v (ix2 r k) = toArg ((rowDots x w r k) * (y (ix2 r k) * v (ix2 0 k))) (z (ix2 r k)) := by
  show k0_pay3 (F := Ideal) x w (ix2 r k) * (y (ix2 r k) * broadcastTo S512x512 v broadcasts_S1x512_S512x512 (ix2 r k)) * (k0_pay5 (F := Ideal) z (ix2 r k)
    * (Ideal.ofBits .f32 0x3F800000#32 + z (ix2 r k) * (Ideal.ofBits .f32 0x3F800000#32 - k0_pay5 (F := Ideal) z (ix2 r k)))) = _
  rw [prod_at, sig_at, row_at, Ideal.ofBits_one_f32]
  rfl

theorem sums_at (x : Vec Ideal S512x4096 .bf16) (w : Vec Ideal S512x4096 .bf16) (z : Vec Ideal S512x512 .bf16) (y : Vec Ideal S512x512 .bf16) (k : Fin 512) :
    k0_pay1 (F := Ideal) (k0_pay10 (F := Ideal) x w z y) (ix2 0 k) = ∑ r : Fin 512, toOther (rowDots x w r k) (z (ix2 r k)) * y (ix2 r k) := by
  have e : k0_pay1 (F := Ideal) (k0_pay10 (F := Ideal) x w z y) (ix2 0 k) = ∑ r : Fin 512, k0_pay7 (F := Ideal) x w z (ix2 r k) * y (ix2 r k) := by
    unfold k0_pay1 k0_pay10 k0_pay6
    generalize k0_pay7 (F := Ideal) x w z = q
    pointwise
  exact e.trans (Finset.sum_congr rfl fun r _ => congrArg (fun q : EReal => q * y (ix2 r k)) (inner_at x w z r k))

theorem next_at (q : Vec Ideal S512 .f32) (v : Vec Ideal S1x512 .f32) (k : Fin 512) :
    k0_pay2 (F := Ideal) q v (ix2 0 k) = v (ix2 0 k) + k0_pay1 (F := Ideal) q (ix2 0 k) := by
  unfold k0_pay2
  generalize k0_pay1 (F := Ideal) q = q'
  pointwise

variable (m : (ℓ : Loc nD τ sig) → Buf (Elt Ideal) ℓ) (c : Dev nD)

/-- The arguments as launched: the gradient, the branch's weights, the gate's columns of the projections, the pooling's output and its scale. -/
def D (s n : Fin 4096) : EReal := (m ((c : Thread nD τ).loc main_arg0) : Vec Ideal S4096x4096 .bf16) (ix2 s n)
def W (a : Fin 2048) (n : Fin 4096) : EReal := (m ((c : Thread nD τ).loc main_arg1) : Vec Ideal S2048x4096 .bf16) (ix2 a n)
def Z (s : Fin 4096) (a : Fin 2048) : EReal := (m ((c : Thread nD τ).loc main_arg2) : Vec Ideal S4096x20480 .bf16) (ix2 s ⟨10240 + a.val, by omega⟩)
def Y (s : Fin 4096) (a : Fin 2048) : EReal := (m ((c : Thread nD τ).loc main_arg3) : Vec Ideal S4096x2048 .bf16) (ix2 s a)
def Sc (a : Fin 2048) : EReal := (m ((c : Thread nD τ).loc main_arg4) : Vec Ideal S1x2048 .f32) (ix2 0 a)

theorem blk_0 (t : Fin cfg0.N) (r : Fin 512) (n s : Fin 4096) (hs : s.val = 512 * (t.val % 8) + r.val) :
    (iblk m c 0 t : Vec Ideal S512x4096 .bf16) (ix2 r n) = D m c s n := by
  unfold iblk
  rw [View.read_apply]
  show V m c main_arg0 _ = _
  rw [V_main_arg0]
  exact at_ix2 (m ((c : Thread nD τ).loc main_arg0) : Vec Ideal S4096x4096 .bf16) _ _ _
    (by show win0_0.index t 0 * 512 + 1 * r.val = s.val; rw [(idx_0 t).1]; omega)
    (by show win0_0.index t 1 * 4096 + 1 * n.val = n.val; rw [(idx_0 t).2]; omega)

theorem blk_1 (t : Fin cfg0.N) (k : Fin 512) (n : Fin 4096) (a : Fin 2048) (ha : a.val = 512 * (t.val / 8) + k.val) :
    (iblk m c 1 t : Vec Ideal S512x4096 .bf16) (ix2 k n) = W m c a n := by
  unfold iblk
  rw [View.read_apply]
  show V m c main_arg1 _ = _
  rw [V_main_arg1]
  exact at_ix2 (m ((c : Thread nD τ).loc main_arg1) : Vec Ideal S2048x4096 .bf16) _ _ _
    (by show win0_1.index t 0 * 512 + 1 * k.val = a.val; rw [(idx_1 t).1]; omega)
    (by show win0_1.index t 1 * 4096 + 1 * n.val = n.val; rw [(idx_1 t).2]; omega)

theorem blk_2 (t : Fin cfg0.N) (r : Fin 512) (k : Fin 512) (s : Fin 4096) (a : Fin 2048) (hs : s.val = 512 * (t.val % 8) + r.val) (ha : a.val = 512 * (t.val / 8) + k.val) :
    (iblk m c 2 t : Vec Ideal S512x512 .bf16) (ix2 r k) = Z m c s a := by
  unfold iblk
  rw [View.read_apply]
  show V m c main_arg2 _ = _
  rw [V_main_arg2]
  exact at_ix2 (m ((c : Thread nD τ).loc main_arg2) : Vec Ideal S4096x20480 .bf16) _ _ _
    (by show win0_2.index t 0 * 512 + 1 * r.val = s.val; rw [(idx_2 t).1]; omega)
    (by show win0_2.index t 1 * 512 + 1 * k.val = 10240 + a.val; rw [(idx_2 t).2]; omega)

theorem blk_3 (t : Fin cfg0.N) (r : Fin 512) (k : Fin 512) (s : Fin 4096) (a : Fin 2048) (hs : s.val = 512 * (t.val % 8) + r.val) (ha : a.val = 512 * (t.val / 8) + k.val) :
    (iblk m c 3 t : Vec Ideal S512x512 .bf16) (ix2 r k) = Y m c s a := by
  unfold iblk
  rw [View.read_apply]
  show V m c main_arg3 _ = _
  rw [V_main_arg3]
  exact at_ix2 (m ((c : Thread nD τ).loc main_arg3) : Vec Ideal S4096x2048 .bf16) _ _ _
    (by show win0_3.index t 0 * 512 + 1 * r.val = s.val; rw [(idx_3 t).1]; omega)
    (by show win0_3.index t 1 * 512 + 1 * k.val = a.val; rw [(idx_3 t).2]; omega)

theorem blk_4 (t : Fin cfg0.N) (k : Fin 512) (a : Fin 2048) (ha : a.val = 512 * (t.val / 8) + k.val) :
    (iblk m c 4 t : Vec Ideal S1x512 .f32) (ix2 0 k) = Sc m c a := by
  unfold iblk
  rw [View.read_apply]
  show V m c main_arg4 _ = _
  rw [V_main_arg4]
  exact at_ix2 (m ((c : Thread nD τ).loc main_arg4) : Vec Ideal S1x2048 .f32) _ _ _
    (by show win0_4.index t 0 * 1 + 1 * 0 = 0; rw [(idx_4 t).1])
    (by show win0_4.index t 1 * 512 + 1 * k.val = a.val; rw [(idx_4 t).2]; omega)

theorem dots_at (t : Fin cfg0.N) (r : Fin 512) (k : Fin 512) (s : Fin 4096) (a : Fin 2048) (hs : s.val = 512 * (t.val % 8) + r.val) (ha : a.val = 512 * (t.val / 8) + k.val) :
    rowDots (R := 512) (C := 512) (iblk m c 0 t) (iblk m c 1 t) r k = dots (D m c) (W m c) s a :=
  rowDots_eq (fun n => blk_0 m c t r n s hs) (fun n => blk_1 m c t k n a ha)

/-- What reaches the branch and the gate's argument. -/
def dIn (s : Fin 4096) (a : Fin 2048) : EReal := toOther (dots (D m c) (W m c) s a) (Z m c s a)
def dOut (s : Fin 4096) (a : Fin 2048) : EReal := dIn m c s a * Sc m c a
def dZ (s : Fin 4096) (a : Fin 2048) : EReal := toArg (dots (D m c) (W m c) s a * (Y m c s a * Sc m c a)) (Z m c s a)
def dSc (s : Fin 4096) (a : Fin 2048) : EReal := dIn m c s a * Y m c s a

theorem out_6 (t : Fin cfg0.N) : (outsAt0 m c t.val t.isLt).2.1 = k0_pay9 (F := Ideal) (iblk m c 0 t) (iblk m c 1 t) (iblk m c 2 t) (iblk m c 4 t) := by
  by_cases h0 : t.val % 8 = 0
  · rw [outsAt0_A m c t h0 (by omega)]
    dsimp only
    unfold out0_A_6
    refine (View.read_writes_junk_eq_canon VO0_6 _).trans ?_
    refine (View.canon_unit_zero z2 _ _).trans ?_
    show k0_pay9 _ _ _ _ = _
    rw [load_whole _ _ z2, load_whole _ _ z2, load_whole _ _ z2, load_whole _ _ z2]
  · rw [outsAt0_B m c t h0 (by omega)]
    dsimp only
    unfold out0_B_6
    refine (View.read_writes_junk_eq_canon VO0_6 _).trans ?_
    refine (View.canon_unit_zero z2 _ _).trans ?_
    show k0_pay9 _ _ _ _ = _
    rw [load_whole _ _ z2, load_whole _ _ z2, load_whole _ _ z2, load_whole _ _ z2]

theorem out_5 (t : Fin cfg0.N) : (outsAt0 m c t.val t.isLt).1 = k0_pay8 (F := Ideal) (iblk m c 0 t) (iblk m c 1 t) (iblk m c 2 t) (iblk m c 3 t) (iblk m c 4 t) := by
  by_cases h0 : t.val % 8 = 0
  · rw [outsAt0_A m c t h0 (by omega)]
    dsimp only
    unfold out0_A_5
    refine (View.read_writes_junk_eq_canon VO0_5 _).trans ?_
    refine (View.canon_unit_zero z2 _ _).trans ?_
    show k0_pay8 _ _ _ _ _ = _
    rw [load_whole _ _ z2, load_whole _ _ z2, load_whole _ _ z2, load_whole _ _ z2, load_whole _ _ z2]
  · rw [outsAt0_B m c t h0 (by omega)]
    dsimp only
    unfold out0_B_5
    refine (View.read_writes_junk_eq_canon VO0_5 _).trans ?_
    refine (View.canon_unit_zero z2 _ _).trans ?_
    show k0_pay8 _ _ _ _ _ = _
    rw [load_whole _ _ z2, load_whole _ _ z2, load_whole _ _ z2, load_whole _ _ z2, load_whole _ _ z2]

theorem out_7_first (t : Fin cfg0.N) (h0 : t.val % 8 = 0) : (outsAt0 m c t.val t.isLt).2.2
    = k0_pay1 (F := Ideal) (k0_pay10 (F := Ideal) (iblk m c 0 t) (iblk m c 1 t) (iblk m c 2 t) (iblk m c 3 t)) := by
  rw [outsAt0_A m c t h0 (by omega)]
  dsimp only
  unfold out0_A_7
  refine (View.read_writes_junk_eq_canon VO0_7 _).trans ?_
  refine (View.canon_unit_zero z2 _ _).trans ?_
  show k0_pay1 (k0_pay10 _ _ _ _) = _
  rw [load_whole _ _ z2, load_whole _ _ z2, load_whole _ _ z2, load_whole _ _ z2]

theorem out_7_next (t : Fin cfg0.N) (h0 : ¬t.val % 8 = 0) : (outsAt0 m c t.val t.isLt).2.2
    = k0_pay2 (F := Ideal) (k0_pay10 (F := Ideal) (iblk m c 0 t) (iblk m c 1 t) (iblk m c 2 t) (iblk m c 3 t)) (outsAt0 m c (t.val - 1) (Nat.lt_of_le_of_lt (Nat.sub_le _ _) t.isLt)).2.2 := by
  rw [outsAt0_B m c t h0 (by omega)]
  dsimp only
  unfold out0_B_7
  refine (View.read_writes_junk_eq_canon VO0_7 _).trans ?_
  refine (View.canon_unit_zero z2 _ _).trans ?_
  show k0_pay2 (k0_pay10 _ _ _ _) _ = _
  rw [load_whole _ _ z2, load_whole _ _ z2, load_whole _ _ z2, load_whole _ _ z2, load_whole _ _ z2]

/-- After a grid point the sums cover the rows up to that point's. -/
theorem sums_upTo (i : ℕ) : ∀ (t : Fin cfg0.N) (k : Fin 512) (a : Fin 2048) (hi : t.val % 8 = i) (ha : a.val = 512 * (t.val / 8) + k.val),
    (outsAt0 m c t.val t.isLt).2.2 (ix2 0 k) = upTo (fun s => dSc m c s a) (512 * i + 512) := by
  have hsum : ∀ (t : Fin cfg0.N) (k : Fin 512) (a : Fin 2048) (ha : a.val = 512 * (t.val / 8) + k.val),
      upTo (fun s => dSc m c s a) (512 * (t.val % 8) + 512) = upTo (fun s => dSc m c s a) (512 * (t.val % 8))
        + k0_pay1 (F := Ideal) (k0_pay10 (F := Ideal) (iblk m c 0 t) (iblk m c 1 t) (iblk m c 2 t) (iblk m c 3 t)) (ix2 0 k) := by
    intro t k a ha
    rw [sums_at]
    refine upTo_add _ _ _ fun r => ⟨by omega, ?_⟩
    exact congrArg₂ (fun x y : EReal => x * y) (congrArg₂ toOther (dots_at m c t r k ⟨512 * (t.val % 8) + r.val, by omega⟩ a rfl ha) (blk_2 m c t r k ⟨512 * (t.val % 8) + r.val, by omega⟩ a rfl ha)) (blk_3 m c t r k ⟨512 * (t.val % 8) + r.val, by omega⟩ a rfl ha)
  induction i with
  | zero =>
    intro t k a hi ha
    have e := hsum t k a ha
    rw [hi] at e
    rw [out_7_first m c t hi, e, show 512 * 0 = 0 from rfl, upTo_zero, zero_add]
  | succ i ih =>
    intro t k a hi ha
    have ht := t.isLt
    have e := hsum t k a ha
    rw [hi] at e
    rw [out_7_next m c t (by omega), next_at, ih ⟨t.val - 1, by omega⟩ k a (by show (t.val - 1) % 8 = i; omega) (by show _ = 512 * ((t.val - 1) / 8) + _; omega), e]
    rfl

/-- The array of what reaches the branch. -/
def arrO : Buf (Elt Ideal) ((c : Thread nD τ).loc main_v0_1) := (fun i => dOut m c (i 0) (i 1) : Vec Ideal S4096x2048 .bf16)

theorem flushed_6 (t : Fin cfg0.N) (hf : (cfg0.win 6).flush t = true) :
    (dats m 0 c).flushed 6 t = ((cfg0.win 6).blk t).view.read (Elt Ideal) (arrO m c) := by
  show (cfg0.win 6).cut (grid0.coords t) ((dats m 0 c).after 6 t) = _
  rw [after0_6, out_6]
  have ht : t.val < 32 := t.isLt
  funext i
  rw [View.read_apply]
  have h0 : (i 0).val < 512 := (i 0).isLt
  have h1 : (i 1).val < 512 := (i 1).isLt
  have e : (cfg0.win 6).cut (grid0.coords t) (k0_pay9 (F := Ideal) (iblk m c 0 t) (iblk m c 1 t) (iblk m c 2 t) (iblk m c 4 t)) i
      = k0_pay9 (F := Ideal) (iblk m c 0 t) (iblk m c 1 t) (iblk m c 2 t) (iblk m c 4 t) (ix2 ⟨(i 0).val, h0⟩ ⟨(i 1).val, h1⟩) := by
    exact at_ix2 (k0_pay9 (F := Ideal) (iblk m c 0 t) (iblk m c 1 t) (iblk m c 2 t) (iblk m c 4 t)) _ _ _ rfl rfl
  have hs : (((cfg0.win 6).blk t).view.emb i 0).val = 512 * (t.val % 8) + (i 0).val := by
    show win0_6.index t 0 * 512 + 1 * (i 0).val = _
    rw [(idx_6 t).1]; omega
  have ha : (((cfg0.win 6).blk t).view.emb i 1).val = 512 * (t.val / 8) + (i 1).val := by
    show win0_6.index t 1 * 512 + 1 * (i 1).val = _
    rw [(idx_6 t).2]; omega
  refine e.trans ((other_at _ _ _ _ _ _ ).trans ?_)
  exact congrArg₂ (fun x y : EReal => x * y) (congrArg₂ toOther (dots_at m c t _ _ _ _ hs ha) (blk_2 m c t _ _ _ _ hs ha)) (blk_4 m c t _ _ ha)

theorem final_6 : (dats m 0 c).arrAt 6 cfg0.N = arrO m c := by
  funext i
  rw [(dats m 0 c).arrAt_eq_piecewise 6 (arrO m c) (flushed_6 m c) i]
  have h0 : (i 0 : Nat) < 4096 := (i 0).isLt
  have h1 : (i 1 : Nat) < 2048 := (i 1).isLt
  refine if_pos ?_
  let t : Fin cfg0.N := ⟨8 * ((i 1 : Nat) / 512) + (i 0 : Nat) / 512, by show _ < 32; omega⟩
  have ht : t.val = 8 * ((i 1 : Nat) / 512) + (i 0 : Nat) / 512 := rfl
  refine ⟨t, flush0_6 t, ?_⟩
  show i ∈ ((View.whole main_v0_1).slice (win0_6.rect t)).set
  rw [View.set_slice_whole, Rect.mem_set_unit]
  intro b
  match b with
  | ⟨0, _⟩ => show win0_6.index t 0 * 512 ≤ (i 0 : Nat) ∧ (i 0 : Nat) < win0_6.index t 0 * 512 + 512
              rw [(idx_6 t).1]; omega
  | ⟨1, _⟩ => show win0_6.index t 1 * 512 ≤ (i 1 : Nat) ∧ (i 1 : Nat) < win0_6.index t 1 * 512 + 512
              rw [(idx_6 t).2]; omega

/-- The array of the projections' gradients: the gate's columns, and the rest as the array came. -/
def arrD : Buf (Elt Ideal) ((c : Thread nD τ).loc main_v0_0) :=
  (fun i => inColumns 10240 (dZ m c (i 0)) (V m c main_v0_0 i) (i 1).val : Vec Ideal S4096x20480 .bf16)

theorem flushed_5 (t : Fin cfg0.N) (hf : (cfg0.win 5).flush t = true) :
    (dats m 0 c).flushed 5 t = ((cfg0.win 5).blk t).view.read (Elt Ideal) (arrD m c) := by
  show (cfg0.win 5).cut (grid0.coords t) ((dats m 0 c).after 5 t) = _
  rw [after0_5, out_5]
  have ht : t.val < 32 := t.isLt
  funext i
  rw [View.read_apply]
  have h0 : (i 0).val < 512 := (i 0).isLt
  have h1 : (i 1).val < 512 := (i 1).isLt
  have e : (cfg0.win 5).cut (grid0.coords t) (k0_pay8 (F := Ideal) (iblk m c 0 t) (iblk m c 1 t) (iblk m c 2 t) (iblk m c 3 t) (iblk m c 4 t)) i
      = k0_pay8 (F := Ideal) (iblk m c 0 t) (iblk m c 1 t) (iblk m c 2 t) (iblk m c 3 t) (iblk m c 4 t) (ix2 ⟨(i 0).val, h0⟩ ⟨(i 1).val, h1⟩) := by
    exact at_ix2 (k0_pay8 (F := Ideal) (iblk m c 0 t) (iblk m c 1 t) (iblk m c 2 t) (iblk m c 3 t) (iblk m c 4 t)) _ _ _ rfl rfl
  have hs : (((cfg0.win 5).blk t).view.emb i 0).val = 512 * (t.val % 8) + (i 0).val := by
    show win0_5.index t 0 * 512 + 1 * (i 0).val = _
    rw [(idx_5 t).1]; omega
  have ha : (((cfg0.win 5).blk t).view.emb i 1).val = 512 * (20 + t.val / 8) + (i 1).val := by
    show win0_5.index t 1 * 512 + 1 * (i 1).val = _
    rw [(idx_5 t).2]; omega
  refine e.trans ((arg_at _ _ _ _ _ _ _ ).trans (Eq.trans ?_ (inColumns_in _ _ ⟨512 * (t.val / 8) + (i 1).val, by omega⟩ (by rw [ha]; show _ = 10240 + (512 * (t.val / 8) + (i 1).val); omega)).symm))
  exact congrArg₂ toArg (congrArg₂ (fun x y : EReal => x * y) (dots_at m c t _ _ _ _ hs rfl) (congrArg₂ (fun x y : EReal => x * y) (blk_3 m c t _ _ _ _ hs rfl) (blk_4 m c t _ _ rfl))) (blk_2 m c t _ _ _ _ hs rfl)

theorem final_5 : (dats m 0 c).arrAt 5 cfg0.N = arrD m c := by
  funext i
  rw [(dats m 0 c).arrAt_eq_piecewise 5 (arrD m c) (flushed_5 m c) i]
  have h0 : (i 0 : Nat) < 4096 := (i 0).isLt
  by_cases hc : 10240 ≤ (i 1 : Nat) ∧ (i 1 : Nat) < 10240 + 2048
  · refine if_pos ?_
    let t : Fin cfg0.N := ⟨8 * ((i 1 : Nat) / 512 - 20) + (i 0 : Nat) / 512, by show _ < 32; omega⟩
    have ht : t.val = 8 * ((i 1 : Nat) / 512 - 20) + (i 0 : Nat) / 512 := rfl
    refine ⟨t, flush0_5 t, ?_⟩
    show i ∈ ((View.whole main_v0_0).slice (win0_5.rect t)).set
    rw [View.set_slice_whole, Rect.mem_set_unit]
    intro b
    match b with
    | ⟨0, _⟩ => show win0_5.index t 0 * 512 ≤ (i 0 : Nat) ∧ (i 0 : Nat) < win0_5.index t 0 * 512 + 512
                rw [(idx_5 t).1]; omega
    | ⟨1, _⟩ => show win0_5.index t 1 * 512 ≤ (i 1 : Nat) ∧ (i 1 : Nat) < win0_5.index t 1 * 512 + 512
                rw [(idx_5 t).2]; omega
  · rw [if_neg]
    · rw [A_eq]
      exact (inColumns_out _ _ hc).symm
    · rintro ⟨t, -, hi⟩
      replace hi : i ∈ ((View.whole main_v0_0).slice (win0_5.rect t)).set := hi
      rw [View.set_slice_whole, Rect.mem_set_unit] at hi
      have h2 : win0_5.index t 1 * 512 ≤ (i 1 : Nat) ∧ (i 1 : Nat) < win0_5.index t 1 * 512 + 512 := hi 1
      rw [(idx_5 t).2] at h2
      have ht : t.val < 32 := t.isLt
      omega

/-- The array is handed to the region as the launch's last argument. -/
theorem V_copy (i : S4096x20480.Idx) : (V m c main_v0_0 : Vec Ideal S4096x20480 .bf16) i = (m ((c : Thread nD τ).loc main_arg5) : Vec Ideal S4096x20480 .bf16) i := by
  unfold V
  after_reads_at
  rfl

/-- The array of the scale's gradient. -/
def arrS : Buf (Elt Ideal) ((c : Thread nD τ).loc main_v0_2) := (fun i => ∑ s, dSc m c s (i 1) : Vec Ideal S1x2048 .f32)

theorem flushed_7 (t : Fin cfg0.N) (hf : (cfg0.win 7).flush t = true) :
    (dats m 0 c).flushed 7 t = ((cfg0.win 7).blk t).view.read (Elt Ideal) (arrS m c) := by
  show (cfg0.win 7).cut (grid0.coords t) ((dats m 0 c).after 7 t) = _
  rw [after0_7]
  have h7 : t.val % 8 = 7 := (flush0_7 t).mp hf
  funext i
  rw [View.read_apply]
  have h0 : (i 0).val < 1 := (i 0).isLt
  have h1 : (i 1).val < 512 := (i 1).isLt
  have e : (cfg0.win 7).cut (grid0.coords t) (outsAt0 m c t.val t.isLt).2.2 i = (outsAt0 m c t.val t.isLt).2.2 (ix2 0 ⟨(i 1).val, h1⟩) := by
    exact at_ix2 (outsAt0 m c t.val t.isLt).2.2 _ _ _ (by show (i 0).val = 0; omega) rfl
  have ha : (((cfg0.win 7).blk t).view.emb i 1).val = 512 * (t.val / 8) + (i 1).val := by
    show win0_7.index t 1 * 512 + 1 * (i 1).val = _
    rw [(idx_7 t).2]; omega
  refine e.trans ((sums_upTo m c 7 t _ _ h7 ha).trans ?_)
  exact upTo_all _

theorem final_7 : (dats m 0 c).arrAt 7 cfg0.N = arrS m c := by
  funext i
  rw [(dats m 0 c).arrAt_eq_piecewise 7 (arrS m c) (flushed_7 m c) i]
  have h0 : (i 0 : Nat) < 1 := (i 0).isLt
  have h1 : (i 1 : Nat) < 2048 := (i 1).isLt
  refine if_pos ?_
  let t : Fin cfg0.N := ⟨8 * ((i 1 : Nat) / 512) + 7, by show _ < 32; omega⟩
  have ht : t.val = 8 * ((i 1 : Nat) / 512) + 7 := rfl
  refine ⟨t, (flush0_7 t).mpr (by omega), ?_⟩
  show i ∈ ((View.whole main_v0_2).slice (win0_7.rect t)).set
  rw [View.set_slice_whole, Rect.mem_set_unit]
  intro b
  match b with
  | ⟨0, _⟩ => show win0_7.index t 0 * 1 ≤ (i 0 : Nat) ∧ (i 0 : Nat) < win0_7.index t 0 * 1 + 1
              rw [(idx_7 t).1]; omega
  | ⟨1, _⟩ => show win0_7.index t 1 * 512 ≤ (i 1 : Nat) ∧ (i 1 : Nat) < win0_7.index t 1 * 512 + 512
              rw [(idx_7 t).2]; omega

end Cert.KernelPoolGateIdeal.Bwd

end
-- ==== Proof.Gate.RefPool.lean ====
/- What the pooling gate's backward reference leaves in its three result arrays. -/
module

public import proofs.«01_k».proof.Proof.Gate.RefAttn
public import proofs.«01_k».proof.Proof.Gen.ReferencePoolGateIdeal.Read
public import Idealize.ShloMosaic.Lib.IdealHost

@[expose] public section

set_option maxRecDepth 16384

noncomputable section

namespace Cert.ReferencePoolGateIdeal.Bwd

open Cert.ReferencePoolGateIdeal Cert.ReferencePoolGateIdeal.Gen Cert.ReferencePoolGateIdeal.Read Cert.Gates
open Idealize.ShloMosaic Idealize.ShloMosaic.TcCoe Idealize.ShloMosaic.ValueIdx

variable (x0 : Vec Ideal S4096x4096 .bf16) (x1 : Vec Ideal S2048x4096 .bf16) (x2 : Vec Ideal S4096x20480 .bf16) (x3 : Vec Ideal S4096x2048 .bf16)
  (x4 : Vec Ideal S1x2048 .f32) (x5 : Vec Ideal S4096x20480 .bf16) (s : Fin 4096) (a : Fin 2048)

theorem prod_at : val_main_v12 (F := Ideal) x0 x1 (ix2 s a) = dots (fun s n => x0 (ix2 s n)) (fun a n => x1 (ix2 a n)) s a :=
  Cert.ReferenceAttnGateIdeal.Bwd.prod_at x0 x1 s a

theorem col_at : val_main_v2 (F := Ideal) x2 (ix2 s a) = x2 (ix2 s ⟨10240 + a.val, by omega⟩) := by
  rw [val_main_v2_apply, val_main_v1_apply]
  exact at_ix2 x2 (idx_main_v1 (ix2 s a)) s ⟨10240 + a.val, by omega⟩ rfl rfl

theorem sig_at : val_main_v7_2 (F := Ideal) x2 (ix2 s a) = gate (x2 (ix2 s ⟨10240 + a.val, by omega⟩)) := by
  rw [val_main_v7_2_apply, val_main_call0_v4_apply, val_main_call0_cst_0_apply, val_main_call0_v3_apply, val_main_call0_v2_apply, val_main_call0_cst_apply,
    val_main_call0_v1_apply, val_main_call0_v0_apply, col_at]
  show Ideal.div (Ideal.ofBits .f32 0x3F800000#32) (Ideal.ofBits .f32 0x3F800000#32 + Ideal.exp (-_)) = _
  rw [Ideal.ofBits_one_f32]
  rfl

/-- The scale, read through its reshapes. -/
theorem row_at (j : S1x2048.Idx) (h : (j 1).val = a.val) : val_main_v4 (F := Ideal) x4 j = x4 (ix2 0 a) := by
  rw [val_main_v4_apply, val_main_v3_apply]
  refine at_ix2 x4 _ 0 a ?_ ?_
  · rfl
  · show (j 1).val % 2048 = a.val; omega

theorem scaled_at : val_main_v6 (F := Ideal) x3 x4 (ix2 s a) = x3 (ix2 s a) * x4 (ix2 0 a) := by
  rw [val_main_v6_apply, val_main_v5_apply, val_main_v0_apply, row_at x4 a (idx_main_v5 (ix2 s a)) rfl]
  rfl

theorem inner_at : val_main_v14 (F := Ideal) x0 x1 x2 (ix2 s a)
    = toOther (dots (fun s n => x0 (ix2 s n)) (fun a n => x1 (ix2 a n)) s a) (x2 (ix2 s ⟨10240 + a.val, by omega⟩)) := by
  rw [val_main_v14_apply, val_main_v7_0_apply, prod_at, col_at, sig_at]
  rfl

/-- What reaches the pooling's output, -/
theorem branch_at : val_main_v26 (F := Ideal) x0 x1 x2 x4 (ix2 s a)
    = toOther (dots (fun s n => x0 (ix2 s n)) (fun a n => x1 (ix2 a n)) s a) (x2 (ix2 s ⟨10240 + a.val, by omega⟩)) * x4 (ix2 0 a) := by
  rw [val_main_v26_apply, val_main_v20_apply, val_main_v19_apply, inner_at, row_at x4 a (idx_main_v19 (ix2 s a)) rfl]
  rfl

/-- its scale -/
theorem scale_at (z : Fin 1) : val_main_v27 (F := Ideal) x0 x1 x2 x3 (ix2 z a)
    = ∑ s, x3 (ix2 s a) * toOther (dots (fun s n => x0 (ix2 s n)) (fun a n => x1 (ix2 a n)) s a) (x2 (ix2 s ⟨10240 + a.val, by omega⟩)) := by
  rw [val_main_v27_apply, val_main_v21_apply, Fin.sum_univ_one, val_main_v18_apply, val_main_v17_apply]
  show Ideal.ofBits .f32 0x00000000#32 + (Ideal.ofBits .f32 0x00000000#32 + _) = _
  rw [Ideal.ofBits_zero_f32, zero_add, zero_add]
  refine Finset.sum_congr rfl fun s _ => (at_ix2 (val_main_v16 (F := Ideal) x0 x1 x2 x3) _ s a rfl ?_).trans ?_
  · show 0 * 2048 + a.val = a.val; omega
  · rw [val_main_v16_apply, val_main_v0_apply, inner_at]
    rfl

/-- and the gate's argument, where the gradient times the scaled output is a real. -/
theorem grad_at (h : ∃ r : ℝ, x3 (ix2 s a) * x4 (ix2 0 a) * dots (fun s n => x0 (ix2 s n)) (fun a n => x1 (ix2 a n)) s a = r) :
    val_main_v23 (F := Ideal) x0 x1 x2 x3 x4 (ix2 s a)
      = toArg (x3 (ix2 s a) * x4 (ix2 0 a) * dots (fun s n => x0 (ix2 s n)) (fun a n => x1 (ix2 a n)) s a) (x2 (ix2 s ⟨10240 + a.val, by omega⟩)) := by
  rw [val_main_v23_apply, val_main_v15_apply, val_main_call1_v2_apply, val_main_call1_v1_apply, val_main_call1_v0_apply, val_main_v7_1_apply,
    val_main_call0_v7_apply, val_main_call0_v6_apply, val_main_call0_cst_1_apply, val_main_v13_apply, scaled_at, prod_at, col_at, sig_at]
  refine Eq.trans ?_ (toArg_eq _ _ h)
  show _ * _ + _ * _ * (_ * (Ideal.ofBits .f32 0x3F800000#32 - _)) = _
  rw [Ideal.ofBits_one_f32]
  rfl

theorem columns_at (n : Fin 20480) : val_main_v25 (F := Ideal) x0 x1 x2 x3 x4 x5 (ix2 s n)
    = inColumns 10240 (fun a => val_main_v23 (F := Ideal) x0 x1 x2 x3 x4 (ix2 s a)) (x5 (ix2 s n)) n.val :=
  concat_columns _ _ _ x5 _ rfl
    (fun s a => (val_main_v22_apply x5 (ix2 s a)).trans (at_ix2 x5 (idx_main_v22 (ix2 s a)) s _ rfl rfl))
    (fun s a => (val_main_v24_apply x5 (ix2 s a)).trans (at_ix2 x5 (idx_main_v24 (ix2 s a)) s _ rfl rfl)) s n

end Cert.ReferencePoolGateIdeal.Bwd

end
-- ==== Proof.Gate.Pool.lean ====
/- The backward pass of the pooling's own gate: its kernel equals its reference. -/
module

public import proofs.«01_k».proof.Defs
public import proofs.«01_k».proof.Pre_finite_pool_gate
public import proofs.«01_k».proof.Proof.Finite
public import proofs.«01_k».proof.Proof.Gate.KernelPool
public import proofs.«01_k».proof.Proof.Gate.RefPool
public import proofs.«01_k».proof.Proof.Gen.KernelPoolGate
public import proofs.«01_k».proof.Proof.Gen.KernelPoolGate.Frame
public import proofs.«01_k».proof.Proof.Gen.ReferencePoolGateIdeal.Run
public import Idealize.ShloMosaic.Lib.QuiescentFlight
public import Idealize.ShloMosaic.Lib.ReduceAll
public import Idealize.ShloMosaic.Init

@[expose] public section

set_option maxRecDepth 16384

noncomputable section

namespace Cert.Pre_finite_pool_gate

open Idealize.ShloMosaic Idealize.ShloMosaic.TcCoe

instance : Subsingleton S_.Idx := ⟨fun a b => funext fun k => k.elim0⟩

instance facts : Facts where
  bitsLt_bf16_f32 := by decide
  bcast_S_S4096x4096 := by decide
  reducesTo_S4096x4096_S_d0_1 := by decide
  h_S_ := by decide
  bcast_S_S2048x4096 := by decide
  reducesTo_S2048x4096_S_d0_1 := by decide
  bcast_S_S4096x2048 := by decide
  reducesTo_S4096x2048_S_d0_1 := by decide
  bcast_S_S1x2048 := by decide
  reducesTo_S1x2048_S_d0_1 := by decide

/-- The precondition read back. -/
theorem finite (x0 : FVec Ideal S4096x4096 .bf16) (x1 : FVec Ideal S2048x4096 .bf16) (x2 : FVec Ideal S4096x20480 .bf16) (x3 : FVec Ideal S4096x2048 .bf16)
    (x4 : FVec Ideal S1x2048 .f32) (x5 : FVec Ideal S4096x20480 .bf16) (h : fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x3 i = (r : EReal)) ∧ ∀ i, ∃ r : ℝ, x4 i = (r : EReal) := by
  have e := congrFun h (Shape.Idx.first Facts.h_S_)
  dsimp only [fn, fn_part1] at e
  obtain ⟨e013, e4⟩ := IntOp.andi_eq_one.1 e
  obtain ⟨e01, e3⟩ := IntOp.andi_eq_one.1 e013
  obtain ⟨e0, e1⟩ := IntOp.andi_eq_one.1 e01
  exact ⟨fun i => Cert.Pre_finite.real_of_lt _ (Host.reduce_andi_all _ _ _ _ _ e0 i), fun i => Cert.Pre_finite.real_of_lt _ (Host.reduce_andi_all _ _ _ _ _ e1 i),
    fun i => Cert.Pre_finite.real_of_lt _ (Host.reduce_andi_all _ _ _ _ _ e3 i),
    fun i => Cert.Pre_finite.real_of_lt _ (Host.reduce_andi_all _ _ _ _ _ e4 i)⟩

end Cert.Pre_finite_pool_gate

namespace Cert.Proof.PoolGate

open Idealize.ShloMosaic Idealize.ShloMosaic.TcCoe Idealize.SL.Sem
open Cert.Gates

theorem frame_R : Cert.quiescent_ReferencePoolGateIdeal := fun m g _ =>
  (θ_run Cert.ReferencePoolGateIdeal.defs _ _).mono (fun r h => ⟨fun c => (h c).2.2.2, sem_eq_zero_of_no_sems (by decide) r.2⟩)
    (Cert.ReferencePoolGateIdeal.Value.run (F := Ideal) m g)

theorem algebraic : Cert.algebraic_KernelPoolGateIdeal_ReferencePoolGateIdeal_pre_finite_pool_gate := by
  intro m g m' g' hpre hagree
  refine ⟨Cert.KernelPoolGateIdeal.Bwd.arrD m, Cert.KernelPoolGateIdeal.Bwd.arrO m, Cert.KernelPoolGateIdeal.Bwd.arrS m, ?_, ?_⟩
  · exact (θ_run _ _ _).mono (fun _ h c => ⟨(h c).1.trans (Cert.KernelPoolGateIdeal.Bwd.final_5 m c), (h c).2.1.trans (Cert.KernelPoolGateIdeal.Bwd.final_6 m c),
        (h c).2.2.1.trans (Cert.KernelPoolGateIdeal.Bwd.final_7 m c), (h c).2.2.2⟩)
      (Cert.KernelPoolGateIdeal.Value.run_blocks (F := Ideal) m g)
  · refine (θ_run _ _ _).mono (fun _ h c => ⟨(h c).1.trans ?_, (h c).2.1.trans ?_, (h c).2.2.1.trans ?_, (h c).2.2.2⟩)
      (Cert.ReferencePoolGateIdeal.Value.run (F := Ideal) m' g')
    · obtain ⟨a0, a1, a2, a3, a4, a5⟩ := hagree c
      obtain ⟨f0, f1, f3, f4⟩ := Cert.Pre_finite_pool_gate.finite _ _ _ _ _ _ (hpre c)
      rw [Cert.ReferencePoolGateIdeal.Read.val_main_v25_eq, a0, a1, a2, a3, a4, a5]
      funext j
      refine (at_ix2 _ j (j 0) (j 1) rfl rfl).trans ((Cert.ReferencePoolGateIdeal.Bwd.columns_at _ _ _ _ _ _ (j 0) (j 1)).trans ?_)
      refine congrArg₂ (fun f r => inColumns 10240 f r (j 1).val) (funext fun a => ?_) ?_
      · refine (Cert.ReferencePoolGateIdeal.Bwd.grad_at _ _ _ _ _ (j 0) a (real_mul (real_mul (f3 _) (f4 _)) (dots_real _ _ (fun s n => f0 _) (fun a n => f1 _) _ _))).trans ?_
        exact congrArg (fun g : EReal => toArg g _) (mul_comm _ _)
      · exact (at_ix2 _ j (j 0) (j 1) rfl rfl).symm.trans (Cert.KernelPoolGateIdeal.Bwd.V_copy m c j).symm
    · obtain ⟨a0, a1, a2, a3, a4, a5⟩ := hagree c
      rw [Cert.ReferencePoolGateIdeal.Read.val_main_v26_eq, a0, a1, a2, a4]
      funext j
      exact (at_ix2 _ j (j 0) (j 1) rfl rfl).trans (Cert.ReferencePoolGateIdeal.Bwd.branch_at _ _ _ _ (j 0) (j 1))
    · obtain ⟨a0, a1, a2, a3, a4, a5⟩ := hagree c
      rw [Cert.ReferencePoolGateIdeal.Read.val_main_v27_eq, a0, a1, a2, a3]
      funext j
      refine (at_ix2 _ j (j 0) (j 1) rfl rfl).trans ((Cert.ReferencePoolGateIdeal.Bwd.scale_at _ _ _ _ (j 1) (j 0)).trans ?_)
      exact Finset.sum_congr rfl fun s _ => mul_comm _ _

end Cert.Proof.PoolGate

end
-- ==== Proof.Fwd.RmsFwd.lean ====
/- The norm before the projections, and the cast of w_in: the kernel's two results are the reference's. -/
module

public import proofs.«01_k».proof.Defs
public import proofs.«01_k».proof.Proof.Gen.KernelRmsFwd
public import proofs.«01_k».proof.Proof.Gen.KernelRmsFwd.Frame
public import proofs.«01_k».proof.Proof.Gen.KernelRmsFwdIdeal.Value
public import proofs.«01_k».proof.Proof.Gen.ReferenceRmsFwdIdeal.Read
public import proofs.«01_k».proof.Proof.Gen.ReferenceRmsFwdIdeal.Run
public import Idealize.ShloMosaic.Lib.Pipeline.ValueKit
public import Idealize.ShloMosaic.Lib.QuiescentFlight
public import Idealize.ShloMosaic.Init

@[expose] public section

set_option maxRecDepth 16384

noncomputable section

namespace Cert.KernelRmsFwdIdeal.Rms

open Cert.KernelRmsFwdIdeal Cert.KernelRmsFwdIdeal.Gen Cert.ReferenceRmsFwdIdeal.Read
open Idealize.ShloMosaic Idealize.ShloMosaic.TcCoe Idealize.SL.Sem
open Idealize.ShloMosaic.Pipeline (Dat)

/-- A grid point's blocks: 256 rows of the input, of the weights to cast and of both results; the scale's one row. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] :=
  (by decide +kernel : ∀ t : Fin grid0.N, _)

variable (m : (ℓ : Loc nD τ sig) → Buf (Elt Ideal) ℓ) (c : Dev nD)

/-- The rows over their root mean squares, times the scale. -/
theorem final_3 : (dats m 0 c).arrAt 3 cfg0.N = val_main_v14 (F := Ideal) (m ((c : Thread nD τ).loc main_arg0)) (m ((c : Thread nD τ).loc main_arg1)) := by
  refine (dats m 0 c).arrAt_eq_of_covers 3 _ (by decide +kernel) fun t hf y => ?_
  blk_simp
  rw [after0_3]; frame_out
  pointwise [k0_pay1, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  blk_point [iblk, V, idx t]

/-- The weights as they are. -/
theorem final_4 : (dats m 0 c).arrAt 4 cfg0.N = val_main_v15 (F := Ideal) (m ((c : Thread nD τ).loc main_arg2)) := by
  refine (dats m 0 c).arrAt_eq_of_covers 4 _ (by decide +kernel) fun t hf y => ?_
  blk_simp
  rw [after0_4]; frame_out
  pointwise [k0_pay2, val_main_v15]
  blk_point [iblk, V, idx t]

end Cert.KernelRmsFwdIdeal.Rms

namespace Cert.Proof.RmsFwd

open Idealize.ShloMosaic Idealize.ShloMosaic.TcCoe Idealize.SL.Sem

theorem frame_R : Cert.quiescent_ReferenceRmsFwdIdeal := fun m g _ =>
  (θ_run Cert.ReferenceRmsFwdIdeal.defs _ _).mono (fun r h => ⟨fun c => (h c).2.2, sem_eq_zero_of_no_sems (by decide) r.2⟩)
    (Cert.ReferenceRmsFwdIdeal.Value.run (F := Ideal) m g)

open Cert.KernelRmsFwdIdeal.Rms Cert.ReferenceRmsFwdIdeal.Read in
theorem algebraic : Cert.algebraic_KernelRmsFwdIdeal_ReferenceRmsFwdIdeal := by
  intro m g m' g' _ hagree
  refine ⟨_, _, (θ_run _ _ _).mono (fun _ h c => ⟨(h c).1.trans (final_3 m c), (h c).2.1.trans (final_4 m c), (h c).2.2⟩)
    (Cert.KernelRmsFwdIdeal.Value.run_blocks (F := Ideal) m g), (θ_run _ _ _).mono (fun _ h c => ?_) (Cert.ReferenceRmsFwdIdeal.Value.run (F := Ideal) m' g')⟩
  obtain ⟨a0, a1, a2⟩ := hagree c
  rw [← a0, ← a1, ← a2]
  exact h c

end Cert.Proof.RmsFwd

end
-- ==== Proof.Adam.Step.lean ====
/- One step of AdamW on one weight, as every call of the optimiser computes it and as the reference does. -/
module

public import Idealize.ShloMosaic.Lib.Pipeline.ValueKit

@[expose] public section

noncomputable section

namespace Cert.Adam

open Idealize.ShloMosaic

/-- A constant of the step. -/
abbrev lit (b : BitVec 32) : EReal := Ideal.ofBits .f32 b

/-- The two moments after the step, of the gradient and of its square. -/
def mom (g m : EReal) : EReal := lit 0x3F666666#32 * m + lit 0x3DCCCCCD#32 * g
def var (g v : EReal) : EReal := lit 0x3F7FBE77#32 * v + lit 0x3A83126F#32 * (g * g)

/-- What is added to the weight: minus the rate times the corrected first moment over the root of the second, with the decay. -/
def delta (g w m v : EReal) : EReal :=
  lit 0xBA83126F#32 * (Ideal.div (Ideal.div (mom g m) (lit 0x3F26BD02#32)) (Ideal.sqrt (Ideal.div (var g v) (lit 0x3C231ACC#32)) + lit 0x322BCC77#32)
    + lit 0x3C23D70A#32 * w)

theorem delta_congr {g g' w w' m m' v v' : EReal} (eg : g = g') (ew : w = w') (em : m = m') (ev : v = v') : delta g w m v = delta g' w' m' v' := by
  rw [eg, ew, em, ev]

end Cert.Adam

end
-- ==== Proof.Adam.Out.lean ====
/- AdamW on w_out: the kernel's four results are the reference's. -/
module

public import proofs.«01_k».proof.Defs
public import proofs.«01_k».proof.Proof.Gen.KernelAdamOut
public import proofs.«01_k».proof.Proof.Gen.KernelAdamOut.Frame
public import proofs.«01_k».proof.Proof.Gen.KernelAdamOutIdeal.Value
public import proofs.«01_k».proof.Proof.Gen.ReferenceAdamOutIdeal.Read
public import proofs.«01_k».proof.Proof.Gen.ReferenceAdamOutIdeal.Run
public import proofs.«01_k».proof.Proof.Adam.Step
public import Idealize.ShloMosaic.Lib.QuiescentFlight
public import Idealize.ShloMosaic.Init

@[expose] public section

set_option maxRecDepth 16384

noncomputable section

namespace Cert.KernelAdamOutIdeal.Adam

open Cert.KernelAdamOutIdeal Cert.KernelAdamOutIdeal.Gen Cert.ReferenceAdamOutIdeal.Read
open Idealize.ShloMosaic Idealize.ShloMosaic.TcCoe Idealize.SL.Sem
open Idealize.ShloMosaic.Pipeline (Dat)

/-- A grid point's blocks: its 512 rows of the four parts, below the 4096 rows of the branches' weights, and of every other array. -/
theorem idx : ∀ t : Fin cfg0.N, win0_0.index t = ![0, 8 + t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The gradient's block, the sum of the four parts' blocks, is the reference's sum over the parts. -/
theorem grad (t : Fin cfg0.N) (y : S512x512.Idx) (j : S4096x512.Idx) (h0 : (j 0 : ℕ) = t.val * 512 + y 0) (h1 : (j 1 : ℕ) = y 1) :
    k0_pay2 (F := Ideal) (iblk m c 0 t) y = val_main_v2 (F := Ideal) (m ((c : Thread nD τ).loc main_arg0)) j := by
  pointwise [k0_pay2, val_main_v2, val_main_v1, val_main_v0, val_main_cst]
  simp only [Fin.sum_univ_four, zero_add]
  blk_point [iblk, V, idx t]

theorem final_4 : (dats m 0 c).arrAt 4 cfg0.N = val_main_v2 (F := Ideal) (m ((c : Thread nD τ).loc main_arg0)) := by
  refine (dats m 0 c).arrAt_eq_of_covers 4 _ (by decide +kernel) fun t hf y => ?_
  blk_simp
  rw [after0_4]; frame_out
  refine grad m c t y _ ?_ ?_ <;> (blk_simp [idx t] <;> try omega)

/-- The weights' change and the two moments, each the step of the gradient and of what is read beside it. -/
theorem final_5 : (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  refine Cert.Adam.delta_congr (grad m c t y _ ?_ ?_) ?_ ?_ ?_
  iterate 2 · blk_simp [idx t] <;> try omega
  all_goals blk_point [iblk, V, idx t]

theorem final_6 : (dats m 0 c).arrAt 6 cfg0.N = val_main_v7 (F := Ideal) (m ((c : Thread nD τ).loc main_arg0)) (m ((c : Thread nD τ).loc main_arg2)) := by
  refine (dats m 0 c).arrAt_eq_of_covers 6 _ (by decide +kernel) fun t hf y => ?_
  blk_simp
  rw [after0_6]; frame_out
  refine congrArg₂ Cert.Adam.mom (grad m c t y _ ?_ ?_) ?_
  iterate 2 · blk_simp [idx t] <;> try omega
  all_goals blk_point [iblk, V, idx t]

theorem final_7 : (dats m 0 c).arrAt 7 cfg0.N = val_main_v13 (F := Ideal) (m ((c : Thread nD τ).loc main_arg0)) (m ((c : Thread nD τ).loc main_arg3)) := by
  refine (dats m 0 c).arrAt_eq_of_covers 7 _ (by decide +kernel) fun t hf y => ?_
  blk_simp
  rw [after0_7]; frame_out
  refine congrArg₂ Cert.Adam.var (grad m c t y _ ?_ ?_) ?_
  iterate 2 · blk_simp [idx t] <;> try omega
  all_goals blk_point [iblk, V, idx t]

end Cert.KernelAdamOutIdeal.Adam

namespace Cert.Proof.AdamOut

open Idealize.ShloMosaic Idealize.ShloMosaic.TcCoe Idealize.SL.Sem

theorem frame_R : Cert.quiescent_ReferenceAdamOutIdeal := fun m g _ =>
  (θ_run Cert.ReferenceAdamOutIdeal.defs _ _).mono (fun r h => ⟨fun c => (h c).2.2.2.2, sem_eq_zero_of_no_sems (by decide) r.2⟩)
    (Cert.ReferenceAdamOutIdeal.Value.run (F := Ideal) m g)

open Cert.KernelAdamOutIdeal.Adam Cert.ReferenceAdamOutIdeal.Read in
theorem algebraic : Cert.algebraic_KernelAdamOutIdeal_ReferenceAdamOutIdeal := by
  intro m g m' g' _ hagree
  refine ⟨_, _, _, _, (θ_run _ _ _).mono (fun _ h c => ⟨(h c).1.trans (final_4 m c), (h c).2.1.trans (final_5 m c), (h c).2.2.1.trans (final_6 m c),
    (h c).2.2.2.1.trans (final_7 m c), (h c).2.2.2.2⟩) (Cert.KernelAdamOutIdeal.Value.run_blocks (F := Ideal) m g),
    (θ_run _ _ _).mono (fun _ h c => ?_) (Cert.ReferenceAdamOutIdeal.Value.run (F := Ideal) m' g')⟩
  obtain ⟨a0, a1, a2, a3⟩ := hagree c
  rw [← a0, ← a1, ← a2, ← a3]
  exact h c

end Cert.Proof.AdamOut

end
-- ==== Proof.Adam.Attn.lean ====
/- AdamW on the attention branch's output weights: the kernel's four results are the reference's. -/
module

public import proofs.«01_k».proof.Defs
public import proofs.«01_k».proof.Proof.Gen.KernelAdamOutAttn
public import proofs.«01_k».proof.Proof.Gen.KernelAdamOutAttn.Frame
public import proofs.«01_k».proof.Proof.Gen.KernelAdamOutAttnIdeal.Value
public import proofs.«01_k».proof.Proof.Gen.ReferenceAdamOutAttnIdeal.Read
public import proofs.«01_k».proof.Proof.Gen.ReferenceAdamOutAttnIdeal.Run
public import proofs.«01_k».proof.Proof.Adam.Step
public import Idealize.ShloMosaic.Lib.QuiescentFlight
public import Idealize.ShloMosaic.Init

@[expose] public section

set_option maxRecDepth 16384

noncomputable section

namespace Cert.KernelAdamOutAttnIdeal.Adam

open Cert.KernelAdamOutAttnIdeal Cert.KernelAdamOutAttnIdeal.Gen Cert.ReferenceAdamOutAttnIdeal.Read
open Idealize.ShloMosaic Idealize.ShloMosaic.TcCoe Idealize.SL.Sem
open Idealize.ShloMosaic.Pipeline (Dat)

/-- A grid point's blocks: its 512 rows of the four parts, which begin with these weights, and of every other array. -/
theorem idx : ∀ t : Fin cfg0.N, win0_0.index t = ![0, 0 + t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The gradient's block, the sum of the four parts' blocks, is the reference's sum over the parts. -/
theorem grad (t : Fin cfg0.N) (y : S512x512.Idx) (j : S2048x512.Idx) (h0 : (j 0 : ℕ) = t.val * 512 + y 0) (h1 : (j 1 : ℕ) = y 1) :
    k0_pay2 (F := Ideal) (iblk m c 0 t) y = val_main_v2 (F := Ideal) (m ((c : Thread nD τ).loc main_arg0)) j := by
  pointwise [k0_pay2, val_main_v2, val_main_v1, val_main_v0, val_main_cst]
  simp only [Fin.sum_univ_four, zero_add]
  blk_point [iblk, V, idx t]

theorem final_4 : (dats m 0 c).arrAt 4 cfg0.N = val_main_v2 (F := Ideal) (m ((c : Thread nD τ).loc main_arg0)) := by
  refine (dats m 0 c).arrAt_eq_of_covers 4 _ (by decide +kernel) fun t hf y => ?_
  blk_simp
  rw [after0_4]; frame_out
  refine grad m c t y _ ?_ ?_ <;> (blk_simp [idx t] <;> try omega)

/-- The weights' change and the two moments, each the step of the gradient and of what is read beside it. -/
theorem final_5 : (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  refine Cert.Adam.delta_congr (grad m c t y _ ?_ ?_) ?_ ?_ ?_
  iterate 2 · blk_simp [idx t] <;> try omega
  all_goals blk_point [iblk, V, idx t]

theorem final_6 : (dats m 0 c).arrAt 6 cfg0.N = val_main_v7 (F := Ideal) (m ((c : Thread nD τ).loc main_arg0)) (m ((c : Thread nD τ).loc main_arg2)) := by
  refine (dats m 0 c).arrAt_eq_of_covers 6 _ (by decide +kernel) fun t hf y => ?_
  blk_simp
  rw [after0_6]; frame_out
  refine congrArg₂ Cert.Adam.mom (grad m c t y _ ?_ ?_) ?_
  iterate 2 · blk_simp [idx t] <;> try omega
  all_goals blk_point [iblk, V, idx t]

theorem final_7 : (dats m 0 c).arrAt 7 cfg0.N = val_main_v13 (F := Ideal) (m ((c : Thread nD τ).loc main_arg0)) (m ((c : Thread nD τ).loc main_arg3)) := by
  refine (dats m 0 c).arrAt_eq_of_covers 7 _ (by decide +kernel) fun t hf y => ?_
  blk_simp
  rw [after0_7]; frame_out
  refine congrArg₂ Cert.Adam.var (grad m c t y _ ?_ ?_) ?_
  iterate 2 · blk_simp [idx t] <;> try omega
  all_goals blk_point [iblk, V, idx t]

end Cert.KernelAdamOutAttnIdeal.Adam

namespace Cert.Proof.AdamOutAttn

open Idealize.ShloMosaic Idealize.ShloMosaic.TcCoe Idealize.SL.Sem

theorem frame_R : Cert.quiescent_ReferenceAdamOutAttnIdeal := fun m g _ =>
  (θ_run Cert.ReferenceAdamOutAttnIdeal.defs _ _).mono (fun r h => ⟨fun c => (h c).2.2.2.2, sem_eq_zero_of_no_sems (by decide) r.2⟩)
    (Cert.ReferenceAdamOutAttnIdeal.Value.run (F := Ideal) m g)

open Cert.KernelAdamOutAttnIdeal.Adam Cert.ReferenceAdamOutAttnIdeal.Read in
theorem algebraic : Cert.algebraic_KernelAdamOutAttnIdeal_ReferenceAdamOutAttnIdeal := by
  intro m g m' g' _ hagree
  refine ⟨_, _, _, _, (θ_run _ _ _).mono (fun _ h c => ⟨(h c).1.trans (final_4 m c), (h c).2.1.trans (final_5 m c), (h c).2.2.1.trans (final_6 m c),
    (h c).2.2.2.1.trans (final_7 m c), (h c).2.2.2.2⟩) (Cert.KernelAdamOutAttnIdeal.Value.run_blocks (F := Ideal) m g),
    (θ_run _ _ _).mono (fun _ h c => ?_) (Cert.ReferenceAdamOutAttnIdeal.Value.run (F := Ideal) m' g')⟩
  obtain ⟨a0, a1, a2, a3⟩ := hagree c
  rw [← a0, ← a1, ← a2, ← a3]
  exact h c

end Cert.Proof.AdamOutAttn

end
-- ==== Proof.Adam.Pool.lean ====
/- AdamW on the pooling branch's output weights: the kernel's four results are the reference's. -/
module

public import proofs.«01_k».proof.Defs
public import proofs.«01_k».proof.Proof.Gen.KernelAdamOutPool
public import proofs.«01_k».proof.Proof.Gen.KernelAdamOutPool.Frame
public import proofs.«01_k».proof.Proof.Gen.KernelAdamOutPoolIdeal.Value
public import proofs.«01_k».proof.Proof.Gen.ReferenceAdamOutPoolIdeal.Read
public import proofs.«01_k».proof.Proof.Gen.ReferenceAdamOutPoolIdeal.Run
public import proofs.«01_k».proof.Proof.Adam.Step
public import Idealize.ShloMosaic.Lib.QuiescentFlight
public import Idealize.ShloMosaic.Init

@[expose] public section

set_option maxRecDepth 16384

noncomputable section

namespace Cert.KernelAdamOutPoolIdeal.Adam

open Cert.KernelAdamOutPoolIdeal Cert.KernelAdamOutPoolIdeal.Gen Cert.ReferenceAdamOutPoolIdeal.Read
open Idealize.ShloMosaic Idealize.ShloMosaic.TcCoe Idealize.SL.Sem
open Idealize.ShloMosaic.Pipeline (Dat)

/-- A grid point's blocks: its 512 rows of the four parts, below the 2048 rows of the attention branch's weights, and of every other array. -/
theorem idx : ∀ t : Fin cfg0.N, win0_0.index t = ![0, 4 + t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The gradient's block, the sum of the four parts' blocks, is the reference's sum over the parts. -/
theorem grad (t : Fin cfg0.N) (y : S512x512.Idx) (j : S2048x512.Idx) (h0 : (j 0 : ℕ) = t.val * 512 + y 0) (h1 : (j 1 : ℕ) = y 1) :
    k0_pay2 (F := Ideal) (iblk m c 0 t) y = val_main_v2 (F := Ideal) (m ((c : Thread nD τ).loc main_arg0)) j := by
  pointwise [k0_pay2, val_main_v2, val_main_v1, val_main_v0, val_main_cst]
  simp only [Fin.sum_univ_four, zero_add]
  blk_point [iblk, V, idx t]

theorem final_4 : (dats m 0 c).arrAt 4 cfg0.N = val_main_v2 (F := Ideal) (m ((c : Thread nD τ).loc main_arg0)) := by
  refine (dats m 0 c).arrAt_eq_of_covers 4 _ (by decide +kernel) fun t hf y => ?_
  blk_simp
  rw [after0_4]; frame_out
  refine grad m c t y _ ?_ ?_ <;> (blk_simp [idx t] <;> try omega)

/-- The weights' change and the two moments, each the step of the gradient and of what is read beside it. -/
theorem final_5 : (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  refine Cert.Adam.delta_congr (grad m c t y _ ?_ ?_) ?_ ?_ ?_
  iterate 2 · blk_simp [idx t] <;> try omega
  all_goals blk_point [iblk, V, idx t]

theorem final_6 : (dats m 0 c).arrAt 6 cfg0.N = val_main_v7 (F := Ideal) (m ((c : Thread nD τ).loc main_arg0)) (m ((c : Thread nD τ).loc main_arg2)) := by
  refine (dats m 0 c).arrAt_eq_of_covers 6 _ (by decide +kernel) fun t hf y => ?_
  blk_simp
  rw [after0_6]; frame_out
  refine congrArg₂ Cert.Adam.mom (grad m c t y _ ?_ ?_) ?_
  iterate 2 · blk_simp [idx t] <;> try omega
  all_goals blk_point [iblk, V, idx t]

theorem final_7 : (dats m 0 c).arrAt 7 cfg0.N = val_main_v13 (F := Ideal) (m ((c : Thread nD τ).loc main_arg0)) (m ((c : Thread nD τ).loc main_arg3)) := by
  refine (dats m 0 c).arrAt_eq_of_covers 7 _ (by decide +kernel) fun t hf y => ?_
  blk_simp
  rw [after0_7]; frame_out
  refine congrArg₂ Cert.Adam.var (grad m c t y _ ?_ ?_) ?_
  iterate 2 · blk_simp [idx t] <;> try omega
  all_goals blk_point [iblk, V, idx t]

end Cert.KernelAdamOutPoolIdeal.Adam

namespace Cert.Proof.AdamOutPool

open Idealize.ShloMosaic Idealize.ShloMosaic.TcCoe Idealize.SL.Sem

theorem frame_R : Cert.quiescent_ReferenceAdamOutPoolIdeal := fun m g _ =>
  (θ_run Cert.ReferenceAdamOutPoolIdeal.defs _ _).mono (fun r h => ⟨fun c => (h c).2.2.2.2, sem_eq_zero_of_no_sems (by decide) r.2⟩)
    (Cert.ReferenceAdamOutPoolIdeal.Value.run (F := Ideal) m g)

open Cert.KernelAdamOutPoolIdeal.Adam Cert.ReferenceAdamOutPoolIdeal.Read in
theorem algebraic : Cert.algebraic_KernelAdamOutPoolIdeal_ReferenceAdamOutPoolIdeal := by
  intro m g m' g' _ hagree
  refine ⟨_, _, _, _, (θ_run _ _ _).mono (fun _ h c => ⟨(h c).1.trans (final_4 m c), (h c).2.1.trans (final_5 m c), (h c).2.2.1.trans (final_6 m c),
    (h c).2.2.2.1.trans (final_7 m c), (h c).2.2.2.2⟩) (Cert.KernelAdamOutPoolIdeal.Value.run_blocks (F := Ideal) m g),
    (θ_run _ _ _).mono (fun _ h c => ?_) (Cert.ReferenceAdamOutPoolIdeal.Value.run (F := Ideal) m' g')⟩
  obtain ⟨a0, a1, a2, a3⟩ := hagree c
  rw [← a0, ← a1, ← a2, ← a3]
  exact h c

end Cert.Proof.AdamOutPool

end
-- ==== Proof.Adam.PoolW.lean ====
/- AdamW on the pooling's weights: the kernel's four results are the reference's. -/
module

public import proofs.«01_k».proof.Defs
public import proofs.«01_k».proof.Proof.Gen.KernelAdamPoolW
public import proofs.«01_k».proof.Proof.Gen.KernelAdamPoolW.Frame
public import proofs.«01_k».proof.Proof.Gen.KernelAdamPoolWIdeal.Value
public import proofs.«01_k».proof.Proof.Gen.ReferenceAdamPoolWIdeal.Read
public import proofs.«01_k».proof.Proof.Gen.ReferenceAdamPoolWIdeal.Run
public import proofs.«01_k».proof.Proof.Adam.Step
public import Idealize.ShloMosaic.Lib.QuiescentFlight
public import Idealize.ShloMosaic.Init

@[expose] public section

set_option maxRecDepth 16384

noncomputable section

namespace Cert.KernelAdamPoolWIdeal.Adam

open Cert.KernelAdamPoolWIdeal Cert.KernelAdamPoolWIdeal.Gen Cert.ReferenceAdamPoolWIdeal.Read
open Idealize.ShloMosaic Idealize.ShloMosaic.TcCoe Idealize.SL.Sem
open Idealize.ShloMosaic.Pipeline (Dat)

/-- A grid point's blocks: the 256 rows of the four parts from row 8192, and of every other array. -/
theorem idx : ∀ t : Fin cfg0.N, win0_0.index t = ![0, 32 + t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The gradient's block, the sum of the four parts' blocks, is the reference's sum over the parts. -/
theorem grad (t : Fin cfg0.N) (y : S256x512.Idx) (j : S256x512.Idx) (h0 : (j 0 : ℕ) = t.val * 256 + y 0) (h1 : (j 1 : ℕ) = y 1) :
    k0_pay2 (F := Ideal) (iblk m c 0 t) y = val_main_v2 (F := Ideal) (m ((c : Thread nD τ).loc main_arg0)) j := by
  pointwise [k0_pay2, val_main_v2, val_main_v1, val_main_v0, val_main_cst]
  simp only [Fin.sum_univ_four, zero_add]
  blk_point [iblk, V, idx t]

theorem final_4 : (dats m 0 c).arrAt 4 cfg0.N = val_main_v2 (F := Ideal) (m ((c : Thread nD τ).loc main_arg0)) := by
  refine (dats m 0 c).arrAt_eq_of_covers 4 _ (by decide +kernel) fun t hf y => ?_
  blk_simp
  rw [after0_4]; frame_out
  refine grad m c t y _ ?_ ?_ <;> (blk_simp [idx t] <;> try omega)

/-- The weights' change and the two moments, each the step of the gradient and of what is read beside it. -/
theorem final_5 : (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  refine Cert.Adam.delta_congr (grad m c t y _ ?_ ?_) ?_ ?_ ?_
  iterate 2 · blk_simp [idx t] <;> try omega
  all_goals blk_point [iblk, V, idx t]

theorem final_6 : (dats m 0 c).arrAt 6 cfg0.N = val_main_v7 (F := Ideal) (m ((c : Thread nD τ).loc main_arg0)) (m ((c : Thread nD τ).loc main_arg2)) := by
  refine (dats m 0 c).arrAt_eq_of_covers 6 _ (by decide +kernel) fun t hf y => ?_
  blk_simp
  rw [after0_6]; frame_out
  refine congrArg₂ Cert.Adam.mom (grad m c t y _ ?_ ?_) ?_
  iterate 2 · blk_simp [idx t] <;> try omega
  all_goals blk_point [iblk, V, idx t]

theorem final_7 : (dats m 0 c).arrAt 7 cfg0.N = val_main_v13 (F := Ideal) (m ((c : Thread nD τ).loc main_arg0)) (m ((c : Thread nD τ).loc main_arg3)) := by
  refine (dats m 0 c).arrAt_eq_of_covers 7 _ (by decide +kernel) fun t hf y => ?_
  blk_simp
  rw [after0_7]; frame_out
  refine congrArg₂ Cert.Adam.var (grad m c t y _ ?_ ?_) ?_
  iterate 2 · blk_simp [idx t] <;> try omega
  all_goals blk_point [iblk, V, idx t]

end Cert.KernelAdamPoolWIdeal.Adam

namespace Cert.Proof.AdamPoolW

open Idealize.ShloMosaic Idealize.ShloMosaic.TcCoe Idealize.SL.Sem

theorem frame_R : Cert.quiescent_ReferenceAdamPoolWIdeal := fun m g _ =>
  (θ_run Cert.ReferenceAdamPoolWIdeal.defs _ _).mono (fun r h => ⟨fun c => (h c).2.2.2.2, sem_eq_zero_of_no_sems (by decide) r.2⟩)
    (Cert.ReferenceAdamPoolWIdeal.Value.run (F := Ideal) m g)

open Cert.KernelAdamPoolWIdeal.Adam Cert.ReferenceAdamPoolWIdeal.Read in
theorem algebraic : Cert.algebraic_KernelAdamPoolWIdeal_ReferenceAdamPoolWIdeal := by
  intro m g m' g' _ hagree
  refine ⟨_, _, _, _, (θ_run _ _ _).mono (fun _ h c => ⟨(h c).1.trans (final_4 m c), (h c).2.1.trans (final_5 m c), (h c).2.2.1.trans (final_6 m c),
    (h c).2.2.2.1.trans (final_7 m c), (h c).2.2.2.2⟩) (Cert.KernelAdamPoolWIdeal.Value.run_blocks (F := Ideal) m g),
    (θ_run _ _ _).mono (fun _ h c => ?_) (Cert.ReferenceAdamPoolWIdeal.Value.run (F := Ideal) m' g')⟩
  obtain ⟨a0, a1, a2, a3⟩ := hagree c
  rw [← a0, ← a1, ← a2, ← a3]
  exact h c

end Cert.Proof.AdamPoolW

end
-- ==== Proof.Adam.GateBias.lean ====
/- AdamW on the gates' biases: the kernel's four results are the reference's. -/
module

public import proofs.«01_k».proof.Defs
public import proofs.«01_k».proof.Proof.Gen.KernelAdamGateBias
public import proofs.«01_k».proof.Proof.Gen.KernelAdamGateBias.Frame
public import proofs.«01_k».proof.Proof.Gen.KernelAdamGateBiasIdeal.Value
public import proofs.«01_k».proof.Proof.Gen.ReferenceAdamGateBiasIdeal.Read
public import proofs.«01_k».proof.Proof.Gen.ReferenceAdamGateBiasIdeal.Run
public import proofs.«01_k».proof.Proof.Adam.Step
public import Idealize.ShloMosaic.Lib.QuiescentFlight
public import Idealize.ShloMosaic.Init

@[expose] public section

set_option maxRecDepth 16384

noncomputable section

namespace Cert.KernelAdamGateBiasIdeal.Adam

open Cert.KernelAdamGateBiasIdeal Cert.KernelAdamGateBiasIdeal.Gen Cert.ReferenceAdamGateBiasIdeal.Read
open Idealize.ShloMosaic Idealize.ShloMosaic.TcCoe Idealize.SL.Sem
open Idealize.ShloMosaic.Pipeline (Dat)

/-- A grid point's blocks: the 16 rows of the four parts from row 8448, and of every other array. -/
theorem idx : ∀ t : Fin cfg0.N, win0_0.index t = ![0, 528 + t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The gradient's block, the sum of the four parts' blocks, is the reference's sum over the parts. -/
theorem grad (t : Fin cfg0.N) (y : S16x512.Idx) (j : S16x512.Idx) (h0 : (j 0 : ℕ) = t.val * 16 + y 0) (h1 : (j 1 : ℕ) = y 1) :
    k0_pay2 (F := Ideal) (iblk m c 0 t) y = val_main_v2 (F := Ideal) (m ((c : Thread nD τ).loc main_arg0)) j := by
  pointwise [k0_pay2, val_main_v2, val_main_v1, val_main_v0, val_main_cst]
  simp only [Fin.sum_univ_four, zero_add]
  blk_point [iblk, V, idx t]

theorem final_4 : (dats m 0 c).arrAt 4 cfg0.N = val_main_v2 (F := Ideal) (m ((c : Thread nD τ).loc main_arg0)) := by
  refine (dats m 0 c).arrAt_eq_of_covers 4 _ (by decide +kernel) fun t hf y => ?_
  blk_simp
  rw [after0_4]; frame_out
  refine grad m c t y _ ?_ ?_ <;> (blk_simp [idx t] <;> try omega)

/-- The weights' change and the two moments, each the step of the gradient and of what is read beside it. -/
theorem final_5 : (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  refine Cert.Adam.delta_congr (grad m c t y _ ?_ ?_) ?_ ?_ ?_
  iterate 2 · blk_simp [idx t] <;> try omega
  all_goals blk_point [iblk, V, idx t]

theorem final_6 : (dats m 0 c).arrAt 6 cfg0.N = val_main_v7 (F := Ideal) (m ((c : Thread nD τ).loc main_arg0)) (m ((c : Thread nD τ).loc main_arg2)) := by
  refine (dats m 0 c).arrAt_eq_of_covers 6 _ (by decide +kernel) fun t hf y => ?_
  blk_simp
  rw [after0_6]; frame_out
  refine congrArg₂ Cert.Adam.mom (grad m c t y _ ?_ ?_) ?_
  iterate 2 · blk_simp [idx t] <;> try omega
  all_goals blk_point [iblk, V, idx t]

theorem final_7 : (dats m 0 c).arrAt 7 cfg0.N = val_main_v13 (F := Ideal) (m ((c : Thread nD τ).loc main_arg0)) (m ((c : Thread nD τ).loc main_arg3)) := by
  refine (dats m 0 c).arrAt_eq_of_covers 7 _ (by decide +kernel) fun t hf y => ?_
  blk_simp
  rw [after0_7]; frame_out
  refine congrArg₂ Cert.Adam.var (grad m c t y _ ?_ ?_) ?_
  iterate 2 · blk_simp [idx t] <;> try omega
  all_goals blk_point [iblk, V, idx t]

end Cert.KernelAdamGateBiasIdeal.Adam

namespace Cert.Proof.AdamGateBias

open Idealize.ShloMosaic Idealize.ShloMosaic.TcCoe Idealize.SL.Sem

theorem frame_R : Cert.quiescent_ReferenceAdamGateBiasIdeal := fun m g _ =>
  (θ_run Cert.ReferenceAdamGateBiasIdeal.defs _ _).mono (fun r h => ⟨fun c => (h c).2.2.2.2, sem_eq_zero_of_no_sems (by decide) r.2⟩)
    (Cert.ReferenceAdamGateBiasIdeal.Value.run (F := Ideal) m g)

open Cert.KernelAdamGateBiasIdeal.Adam Cert.ReferenceAdamGateBiasIdeal.Read in
theorem algebraic : Cert.algebraic_KernelAdamGateBiasIdeal_ReferenceAdamGateBiasIdeal := by
  intro m g m' g' _ hagree
  refine ⟨_, _, _, _, (θ_run _ _ _).mono (fun _ h c => ⟨(h c).1.trans (final_4 m c), (h c).2.1.trans (final_5 m c), (h c).2.2.1.trans (final_6 m c),
    (h c).2.2.2.1.trans (final_7 m c), (h c).2.2.2.2⟩) (Cert.KernelAdamGateBiasIdeal.Value.run_blocks (F := Ideal) m g),
    (θ_run _ _ _).mono (fun _ h c => ?_) (Cert.ReferenceAdamGateBiasIdeal.Value.run (F := Ideal) m' g')⟩
  obtain ⟨a0, a1, a2, a3⟩ := hagree c
  rw [← a0, ← a1, ← a2, ← a3]
  exact h c

end Cert.Proof.AdamGateBias

end
-- ==== Proof.Adam.In.lean ====
/- AdamW on w_in: the kernel's four results are the reference's. -/
module

public import proofs.«01_k».proof.Defs
public import proofs.«01_k».proof.Proof.Gen.KernelAdamIn
public import proofs.«01_k».proof.Proof.Gen.KernelAdamIn.Frame
public import proofs.«01_k».proof.Proof.Gen.KernelAdamInIdeal.Value
public import proofs.«01_k».proof.Proof.Gen.ReferenceAdamInIdeal.Read
public import proofs.«01_k».proof.Proof.Gen.ReferenceAdamInIdeal.Run
public import proofs.«01_k».proof.Proof.Adam.Step
public import Idealize.ShloMosaic.Lib.QuiescentFlight
public import Idealize.ShloMosaic.Init

@[expose] public section

set_option maxRecDepth 16384

noncomputable section

namespace Cert.KernelAdamInIdeal.Adam

open Cert.KernelAdamInIdeal Cert.KernelAdamInIdeal.Gen Cert.ReferenceAdamInIdeal.Read
open Idealize.ShloMosaic Idealize.ShloMosaic.TcCoe Idealize.SL.Sem
open Idealize.ShloMosaic.Pipeline (Dat)

/-- A grid point's blocks: the first four of eight row blocks read the first array's parts, the others the second's, in both at the tile's 2048 rows; every other
array is read and written at the row block and the tile. -/
theorem idx : ∀ t : Fin cfg0.N, win0_0.index t = ![0, t.val / 8 * 4 + min (t.val % 8) 3, 0] ∧ win0_1.index t = ![0, t.val / 8 * 4 + (t.val % 8 - 4), 0]
    ∧ win0_2.index t = ![t.val % 8, t.val / 8] ∧ win0_3.index t = ![t.val % 8, t.val / 8] ∧ win0_4.index t = ![t.val % 8, t.val / 8]
    ∧ win0_5.index t = ![t.val % 8, t.val / 8] ∧ win0_6.index t = ![t.val % 8, t.val / 8] ∧ win0_7.index t = ![t.val % 8, t.val / 8]
    ∧ win0_8.index t = ![t.val % 8, t.val / 8] :=
  (by decide +kernel : ∀ t : Fin grid0.N, _)

variable (m : (ℓ : Loc nD τ sig) → Buf (Elt Ideal) ℓ) (c : Dev nD)

/-- The gradient's block, the sum of the four parts' blocks, is the reference's sum over the parts. -/
theorem gradA (t : Fin cfg0.N) (h : t.val % 8 < 4) (y : S512x512.Idx) (j : S4096x2560.Idx) (h0 : (j 0 : ℕ) = t.val % 8 * 512 + y 0)
    (h1 : (j 1 : ℕ) = t.val / 8 * 512 + y 1) : k0_pay3 (F := Ideal) (iblk m c 0 t) y = val_main_v14 (F := Ideal) (m ((c : Thread nD τ).loc main_arg0)) (m ((c : Thread nD τ).loc main_arg1)) j := by
  pointwise [k0_pay3, val_main_v14, val_main_v13, val_main_v12, val_main_v11, val_main_v10, val_main_v9, val_main_v8, val_main_v7, val_main_v6, val_main_v5,
    val_main_v4, val_main_v3, val_main_v2, val_main_v1, val_main_v0, val_main_cst]
  simp only [Fin.sum_univ_four, zero_add]
  blk_point [iblk, V, idx t]
  all_goals (exfalso; omega)

theorem gradB (t : Fin cfg0.N) (h : 4 ≤ t.val % 8) (y : S512x512.Idx) (j : S4096x2560.Idx) (h0 : (j 0 : ℕ) = t.val % 8 * 512 + y 0)
    (h1 : (j 1 : ℕ) = t.val / 8 * 512 + y 1) : k0_pay7 (F := Ideal) (iblk m c 1 t) y = val_main_v14 (F := Ideal) (m ((c : Thread nD τ).loc main_arg0)) (m ((c : Thread nD τ).loc main_arg1)) j := by
  pointwise [k0_pay7, val_main_v14, val_main_v13, val_main_v12, val_main_v11, val_main_v10, val_main_v9, val_main_v8, val_main_v7, val_main_v6, val_main_v5,
    val_main_v4, val_main_v3, val_main_v2, val_main_v1, val_main_v0, val_main_cst]
  simp only [Fin.sum_univ_four, zero_add]
  blk_point [iblk, V, idx t]
  all_goals (exfalso; omega)

theorem final_5 : (dats m 0 c).arrAt 5 cfg0.N = val_main_v14 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  rcases Nat.lt_or_ge (t.val % 8) 4 with h | h
  · rw [outsAt0_A m c t (by omega) (by omega)]; frame_out
    refine gradA m c t h y _ ?_ ?_ <;> (blk_simp [idx t] <;> try omega)
  · rw [outsAt0_B m c t (by omega) h]; frame_out
    refine gradB m c t h y _ ?_ ?_ <;> (blk_simp [idx t] <;> try omega)

/-- The weights' change and the two moments, each the step of the gradient and of what is read beside it. -/
theorem final_6 : (dats m 0 c).arrAt 6 cfg0.N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  rcases Nat.lt_or_ge (t.val % 8) 4 with h | h
  · rw [outsAt0_A m c t (by omega) (by omega)]; frame_out
    refine Cert.Adam.delta_congr (gradA m c t h y _ ?_ ?_) ?_ ?_ ?_
    iterate 2 · blk_simp [idx t] <;> try omega
    all_goals blk_point [iblk, V, idx t]
  · rw [outsAt0_B m c t (by omega) h]; frame_out
    refine Cert.Adam.delta_congr (gradB m c t h y _ ?_ ?_) ?_ ?_ ?_
    iterate 2 · blk_simp [idx t] <;> try omega
    all_goals blk_point [iblk, V, idx t]

theorem final_7 : (dats m 0 c).arrAt 7 cfg0.N = val_main_v19 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  rcases Nat.lt_or_ge (t.val % 8) 4 with h | h
  · rw [outsAt0_A m c t (by omega) (by omega)]; frame_out
    refine congrArg₂ Cert.Adam.mom (gradA m c t h y _ ?_ ?_) ?_
    iterate 2 · blk_simp [idx t] <;> try omega
    all_goals blk_point [iblk, V, idx t]
  · rw [outsAt0_B m c t (by omega) h]; frame_out
    refine congrArg₂ Cert.Adam.mom (gradB m c t h y _ ?_ ?_) ?_
    iterate 2 · blk_simp [idx t] <;> try omega
    all_goals blk_point [iblk, V, idx t]

theorem final_8 : (dats m 0 c).arrAt 8 cfg0.N = val_main_v25 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  rcases Nat.lt_or_ge (t.val % 8) 4 with h | h
  · rw [outsAt0_A m c t (by omega) (by omega)]; frame_out
    refine congrArg₂ Cert.Adam.var (gradA m c t h y _ ?_ ?_) ?_
    iterate 2 · blk_simp [idx t] <;> try omega
    all_goals blk_point [iblk, V, idx t]
  · rw [outsAt0_B m c t (by omega) h]; frame_out
    refine congrArg₂ Cert.Adam.var (gradB m c t h y _ ?_ ?_) ?_
    iterate 2 · blk_simp [idx t] <;> try omega
    all_goals blk_point [iblk, V, idx t]

end Cert.KernelAdamInIdeal.Adam

namespace Cert.Proof.AdamIn

open Idealize.ShloMosaic Idealize.ShloMosaic.TcCoe Idealize.SL.Sem

theorem frame_R : Cert.quiescent_ReferenceAdamInIdeal := fun m g _ =>
  (θ_run Cert.ReferenceAdamInIdeal.defs _ _).mono (fun r h => ⟨fun c => (h c).2.2.2.2, sem_eq_zero_of_no_sems (by decide) r.2⟩)
    (Cert.ReferenceAdamInIdeal.Value.run (F := Ideal) m g)

open Cert.KernelAdamInIdeal.Adam Cert.ReferenceAdamInIdeal.Read in
theorem algebraic : Cert.algebraic_KernelAdamInIdeal_ReferenceAdamInIdeal := by
  intro m g m' g' _ hagree
  refine ⟨_, _, _, _, (θ_run _ _ _).mono (fun _ h c => ⟨(h c).1.trans (final_5 m c), (h c).2.1.trans (final_6 m c), (h c).2.2.1.trans (final_7 m c),
    (h c).2.2.2.1.trans (final_8 m c), (h c).2.2.2.2⟩) (Cert.KernelAdamInIdeal.Value.run_blocks (F := Ideal) m g),
    (θ_run _ _ _).mono (fun _ h c => ?_) (Cert.ReferenceAdamInIdeal.Value.run (F := Ideal) m' g')⟩
  obtain ⟨a0, a1, a2, a3, a4⟩ := hagree c
  rw [← a0, ← a1, ← a2, ← a3, ← a4]
  exact h c

end Cert.Proof.AdamIn

end
-- ==== Proof.Fwd.Bias.lean ====
/- The biases by distance: the table's product with a one-hot matrix is the table read at the clipped distances. -/
module

public import proofs.«01_k».proof.Defs
public import proofs.«01_k».proof.Proof.Gen.KernelBiasRows
public import proofs.«01_k».proof.Proof.Gen.KernelBiasRows.Frame
public import proofs.«01_k».proof.Proof.Gen.KernelBiasRowsIdeal.Value
public import proofs.«01_k».proof.Proof.Gen.ReferenceBiasRowsIdeal.Read
public import proofs.«01_k».proof.Proof.Gen.ReferenceBiasRowsIdeal.Run
public import Idealize.ShloMosaic.Lib.Pipeline.ValueKit
public import Idealize.ShloMosaic.Lib.QuiescentFlight
public import Idealize.ShloMosaic.Init

@[expose] public section

set_option maxRecDepth 16384

noncomputable section

namespace Cert.KernelBiasRowsIdeal.Bias

open Cert.KernelBiasRowsIdeal Cert.KernelBiasRowsIdeal.Gen Cert.ReferenceBiasRowsIdeal.Read
open Idealize.ShloMosaic Idealize.ShloMosaic.TcCoe Idealize.SL.Sem
open Idealize.ShloMosaic.Pipeline (Dat)

/-- Where distance `j` is read in the table, as a word: the clipped difference, in the order in which it is computed. -/
def word (x : BitVec 32) : BitVec 32 :=
  IntOp.addi (IntOp.minsi 128#32 (IntOp.maxsi 4294967168#32 (IntOp.subi 512#32 (Scalar.select (IntOp.cmpi .slt x 1024#32) x (IntOp.subi x 2048#32))))) 128#32

theorem word_lt : ∀ j : Fin 2048, (word (BitVec.ofNat 32 j.val)).toNat < 384 := by decide +kernel

def col (j : Fin 2048) : Fin 384 := ⟨(word (BitVec.ofNat 32 j.val)).toNat, word_lt j⟩

/-- A column of the product's second operand is one at that entry and zero at the others. -/
theorem hot (j : Fin 2048) (a : Fin 384) :
    FloatOps.sitofp (F := Ideal) .f32 (BitVec.setWidth 32 (IntOp.cmpi .eq (word (BitVec.ofNat 32 j.val)) (BitVec.ofNat 32 a.val))) = if a = col j then (1 : EReal) else 0 := by
  by_cases h : a = col j
  · have e : BitVec.ofNat 32 a.val = word (BitVec.ofNat 32 j.val) := by
      rw [h]
      refine BitVec.eq_of_toNat_eq ?_
      rw [BitVec.toNat_ofNat]
      show (word (BitVec.ofNat 32 j.val)).toNat % 2 ^ 32 = _
      have := word_lt j
      omega
    rw [if_pos h, e, show IntOp.cmpi .eq (word (BitVec.ofNat 32 j.val)) (word (BitVec.ofNat 32 j.val)) = 1#1 by simp [IntOp.cmpi]]
    show (((BitVec.setWidth 32 1#1).toInt : ℝ) : EReal) = 1
    rw [show (BitVec.setWidth 32 1#1).toInt = 1 by decide]
    simp
  · have e : ¬ word (BitVec.ofNat 32 j.val) = BitVec.ofNat 32 a.val := by
      intro e
      refine h (Fin.ext ?_)
      show a.val = (word (BitVec.ofNat 32 j.val)).toNat
      rw [e, BitVec.toNat_ofNat]
      have := a.isLt
      omega
    rw [if_neg h, show IntOp.cmpi .eq (word (BitVec.ofNat 32 j.val)) (BitVec.ofNat 32 a.val) = 0#1 by
      show BitVec.ofBool (_ == _) = 0#1
      rw [beq_eq_false_iff_ne.mpr e]
      rfl]
    show (((BitVec.setWidth 32 0#1).toInt : ℝ) : EReal) = 0
    rw [show (BitVec.setWidth 32 0#1).toInt = 0 by decide]
    simp

theorem pay1_at (x : Vec Ideal S16x384 .f32) (h : Fin 16) (j : Fin 2048) : k0_pay1 (F := Ideal) x (ix2 h j) = x (ix2 h (col j)) := by
  pointwise [k0_pay1]
  refine (Finset.sum_congr rfl fun a _ => congrArg (fun z : EReal => x (ix2 h a) * z) (hot j a)).trans ?_
  simp only [mul_ite, mul_one, mul_zero, Finset.sum_ite_eq', Finset.mem_univ, if_true]

/-- An element of the gather is the row's entry at the index, read signed and clamped. -/
theorem gather_at {α : Type} (x : S16x384.Idx → α) (idx : IVec Cert.ReferenceBiasRowsIdeal.S2048x1 32) (h : Fin 16) (j : Fin 2048) :
    Host.gather Cert.ReferenceBiasRowsIdeal.gather_S16x384_S2048x1_S16x2048_0_1_n_n_1_1_161 x idx (ix2 h j)
      = x (ix2 h ⟨min (idx (ix2 j 0)).toInt.toNat 383, by omega⟩) := by
  unfold Host.gather
  refine congrArg x (funext fun a => Fin.ext ?_)
  let D := Cert.ReferenceBiasRowsIdeal.gather_S16x384_S2048x1_S16x2048_0_1_n_n_1_1_161
  show D.start (ix2 h j) idx a + D.batchCoord (ix2 h j) a + D.offCoord (ix2 h j) a = _
  rw [GatherDims.batchCoord_eq_zero _ _ _ List.not_mem_nil]
  match a with
  | ⟨0, _⟩ =>
    have e : D.start (ix2 h j) idx 0 = 0 := by
      unfold GatherDims.start
      rw [dif_neg (show (0 : Fin 2) ∉ D.startIndexMap from by decide)]
    show D.start (ix2 h j) idx 0 + 0 + _ = _
    rw [e]
    show 0 + 0 + h.val = h.val
    omega
  | ⟨1, _⟩ =>
    have e : D.offCoord (ix2 h j) 1 = 0 :=
      GatherDims.offCoord_eq_zero _ _ _ fun hm => ((GatherDims.mem_sKept _ _).mp hm).1 (List.mem_singleton.mpr rfl)
    show D.start (ix2 h j) idx 1 + 0 + D.offCoord (ix2 h j) 1 = _
    rw [e]
    unfold GatherDims.start
    rw [dif_pos (show (1 : Fin 2) ∈ D.startIndexMap from List.mem_singleton.mpr rfl)]
    have hs : D.siIdx (ix2 h j) ⟨List.idxOf (1 : Fin 2) D.startIndexMap, List.idxOf_lt_length_iff.2 (List.mem_singleton.mpr rfl)⟩ = ix2 j 0 := by
      funext b
      refine Fin.ext ?_
      match b with
      | ⟨0, _⟩ => rfl
      | ⟨1, _⟩ => rfl
    rw [hs]
    rfl

/-- No index is negative, so none is moved by the table's width. -/
theorem word_eq : ∀ j : Fin 2048, min (Scalar.select (IntOp.cmpi .slt (word (BitVec.ofNat 32 j.val)) 0#32) (IntOp.addi (word (BitVec.ofNat 32 j.val)) 384#32)
    (word (BitVec.ofNat 32 j.val))).toInt.toNat 383 = (word (BitVec.ofNat 32 j.val)).toNat := by decide +kernel

theorem result_at (x : Vec Ideal S16x384 .f32) (h : Fin 16) (j : Fin 2048) : val_main_v17 (F := Ideal) x (ix2 h j) = x (ix2 h (col j)) := by
  unfold val_main_v17
  rw [gather_at]
  refine congrArg (fun n => x (ix2 h n)) (Fin.ext ?_)
  refine Eq.trans ?_ (word_eq j)
  refine congrArg (fun z : BitVec 32 => min z.toInt.toNat 383) ?_
  pointwise [val_main_v16, val_main_v15, val_main_v14, val_main_v13, val_main_v12, val_main_v11, val_main_v10, val_main_v9, val_main_v8, val_main_v7, val_main_v6,
    val_main_v5, val_main_v4, val_main_v3, val_main_v2, val_main_v1, val_main_v0, val_main_call1_v0, val_main_call1_v1, val_main_call1_v2, val_main_call1_v3,
    val_main_call1_v4, val_main_c, val_main_c_0, val_main_c_1, val_main_c_2, val_main_c_3, val_main_c_4, val_main_c_5, val_main_c_6]
  rfl

variable (m : (ℓ : Loc nD τ sig) → Buf (Elt Ideal) ℓ) (c : Dev nD)

theorem idx : ∀ t : Fin cfg0.N, win0_0.index t = ![0, 0] := (by decide +kernel : ∀ t : Fin grid0.N, _)

/-- The one point reads the whole table and writes the whole result. -/
theorem final_1 : (dats m 0 c).arrAt 1 cfg0.N = val_main_v17 (F := Ideal) (m ((c : Thread nD τ).loc main_arg0)) := by
  refine (dats m 0 c).arrAt_eq_of_after_last 1 t0_0 (by decide +kernel) _ fun j => ?_
  blk_simp
  rw [after0_1]; frame_out
  have ej : j = ix2 (j 0) (j 1) := funext fun a => match a with
    | ⟨0, _⟩ => rfl
    | ⟨1, _⟩ => rfl
  refine (congrArg (k0_pay1 (F := Ideal) (iblk m c 0 t0_0)) ej).trans ((pay1_at _ (j 0) (j 1)).trans
    (Eq.trans ?_ ((congrArg (val_main_v17 (F := Ideal) (m ((c : Thread nD τ).loc main_arg0))) ej).trans (result_at _ (j 0) (j 1))).symm))
  blk_point [iblk, V, idx t0_0]

end Cert.KernelBiasRowsIdeal.Bias

namespace Cert.Proof.BiasRows

open Idealize.ShloMosaic Idealize.ShloMosaic.TcCoe Idealize.SL.Sem

theorem frame_R : Cert.quiescent_ReferenceBiasRowsIdeal := fun m g _ =>
  (θ_run Cert.ReferenceBiasRowsIdeal.defs _ _).mono (fun r h => ⟨fun c => (h c).2, sem_eq_zero_of_no_sems (by decide) r.2⟩)
    (Cert.ReferenceBiasRowsIdeal.Value.run (F := Ideal) m g)

open Cert.KernelBiasRowsIdeal.Bias Cert.ReferenceBiasRowsIdeal.Read in
theorem algebraic : Cert.algebraic_KernelBiasRowsIdeal_ReferenceBiasRowsIdeal := by
  intro m g m' g' _ hagree
  refine ⟨_, (θ_run _ _ _).mono (fun _ h c => ⟨(h c).1.trans (final_1 m c), (h c).2⟩)
    (Cert.KernelBiasRowsIdeal.Value.run_blocks (F := Ideal) m g), (θ_run _ _ _).mono (fun _ h c => ?_) (Cert.ReferenceBiasRowsIdeal.Value.run (F := Ideal) m' g')⟩
  rw [← hagree c]
  exact h c

end Cert.Proof.BiasRows

end
-- ==== Proof.Printed.lean ====
/- The frame of the attention's backward kernel as printed. Its text is the ideal program's but for the mask's constant, which is
   printed there by name; so it is the program whose run Run.lean states over any float values, at the bits, with the name read
   as the constant that is printed. -/
module

public import proofs.«01_k».proof.Defs
public import proofs.«01_k».proof.Proof.Run
public import proofs.«01_k».proof.Proof.Gen.Kernel

@[expose] public section

set_option maxRecDepth 16384
set_option maxHeartbeats 4000000

noncomputable section

namespace Cert.Kernel.Attn

open Idealize.ShloMosaic

/-- A named constant read as the bits printed with its name. -/
abbrev literal : Named Bits := ⟨fun _ _ {φ} bits => FloatOps.ofBits φ bits⟩

attribute [local instance] literal

theorem body_eq : Cert.Kernel.cc0_attn_bwd (F := Bits) = Cert.KernelIdeal.cc0_attn_bwd (F := Bits) := rfl

theorem main_eq : Cert.Kernel.main (F := Bits) = Cert.KernelIdeal.main (F := Bits) := rfl

/-- The two programs' body tables are one. -/
theorem defs₀_eq : Cert.Kernel.defs₀ (F := Bits) = Cert.KernelIdeal.defs₀ (F := Bits) := by
  unfold Cert.Kernel.defs₀ Cert.KernelIdeal.defs₀
  congr 1
  funext l a
  match l, a with
  | 0, (t, s) => dsimp only; rw [body_eq]; rfl

theorem defs_eq : Cert.Kernel.defs (F := Bits) = Cert.KernelIdeal.defs (F := Bits) :=
  congrArg (Pipeline.defs Cert.Kernel.pcfgs) defs₀_eq

/-- The printed kernel ends with its arguments as they began and no signal pending. -/
theorem frame : Cert.quiescent_Kernel := by
  intro m g _
  have h := Cert.KernelIdeal.Attn.frame (F := Bits) m g
  rw [← defs_eq, ← main_eq] at h
  exact h

end Cert.Kernel.Attn

end
-- ==== Proof.RefScore.lean ====
/- The reference's scores: which key a query sees, by how far, and what the softmax is taken of. -/
module

public import proofs.«01_k».proof.Proof.Window
public import proofs.«01_k».proof.Proof.Gen.ReferenceIdeal.Read
public import Idealize.ShloMosaic.Lib.Pointwise
public import Idealize.ShloMosaic.Lib.ValueIdx
public import Idealize.ShloMosaic.Lib.IdealHost

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe Idealize.ShloMosaic.Tactic
open Cert.Banded

variable (x0 : Vec Ideal S4096x20480 .bf16) (x1 : Vec Ideal S16x257 .f32)

/-- Column `d` of head `h` in the third of the projections that starts at column `o`. -/
def part (o : ℕ) (ho : o ≤ 4096) (h : Fin 16) (q : Fin 4096) (d : Fin 128) : EReal := x0 (ix2 q ⟨o + 128 * h.val + d.val, by omega⟩)
abbrev Qr := part x0 0 (by omega)
abbrev Kr := part x0 2048 (by omega)
abbrev Vr := part x0 4096 (by omega)
def Br (h : Fin 16) (n : Fin 257) : EReal := x1 (ix2 h n)

theorem q_at (q : Fin 4096) (h : Fin 16) (d : Fin 128) : val_main_v22 (F := Ideal) x0 (ix3 q h d) = Qr x0 h q d := by
  rw [val_main_v22_apply, val_main_v1_apply, val_main_v0_apply]
  refine congrArg x0 (funext fun a => Fin.ext ?_)
  match a with
  | ⟨0, _⟩ => show ((q.val * 16 + h.val) * 128 + d.val) / 2048 = q.val; omega
  | ⟨1, _⟩ => show ((q.val * 16 + h.val) * 128 + d.val) % 2048 = 0 + 128 * h.val + d.val; omega
theorem k_at (q : Fin 4096) (h : Fin 16) (d : Fin 128) : val_main_v23 (F := Ideal) x0 (ix3 q h d) = Kr x0 h q d := by
  rw [val_main_v23_apply, val_main_v3_apply, val_main_v2_apply]
  refine congrArg x0 (funext fun a => Fin.ext ?_)
  match a with
  | ⟨0, _⟩ => show ((q.val * 16 + h.val) * 128 + d.val) / 2048 = q.val; omega
  | ⟨1, _⟩ => show 2048 + ((q.val * 16 + h.val) * 128 + d.val) % 2048 = 2048 + 128 * h.val + d.val; omega
theorem v_at (q : Fin 4096) (h : Fin 16) (d : Fin 128) : val_main_v69 (F := Ideal) x0 (ix3 q h d) = Vr x0 h q d := by
  rw [val_main_v69_apply, val_main_v5_apply, val_main_v4_apply]
  refine congrArg x0 (funext fun a => Fin.ext ?_)
  match a with
  | ⟨0, _⟩ => show ((q.val * 16 + h.val) * 128 + d.val) / 2048 = q.val; omega
  | ⟨1, _⟩ => show 4096 + ((q.val * 16 + h.val) * 128 + d.val) % 2048 = 4096 + 128 * h.val + d.val; omega

/-! ## Positions -/

/-- The index that a distance is looked up at, as a word. -/
def dist (x : BitVec 32) : BitVec 32 := IntOp.addi (IntOp.minsi 128#32 (IntOp.maxsi 4294967168#32 x)) 128#32
def wrapped (x : BitVec 32) : BitVec 32 :=
  Scalar.select (IntOp.cmpi .slt (dist x) 0#32) (IntOp.addi (dist x) 257#32) (dist x)

theorem wrapped_eq : ∀ x : Fin 8192, (wrapped (BitVec.ofNat 32 x.val - 4095#32)).toInt.toNat = min 256 (x.val + 128 - 4095) := by
  decide +kernel

theorem sub_word (q k : Fin 4096) : IntOp.subi (BitVec.ofNat 32 q.val) (BitVec.ofNat 32 k.val)
    = BitVec.ofNat 32 (q.val + 4095 - k.val) - 4095#32 := by
  apply BitVec.eq_of_toNat_eq
  simp only [IntOp.subi, BitVec.toNat_sub, BitVec.toNat_ofNat]
  omega

theorem diff_at (q k : Fin 4096) : val_main_v11 (F := Ideal) (ix2 q k) = BitVec.ofNat 32 (q.val + 4095 - k.val) - 4095#32 := by
  rw [← sub_word]
  rw [val_main_v11_apply, val_main_v9_apply, val_main_v7_apply, val_main_v10_apply, val_main_v8_apply]
  rfl

theorem index_at (q k : Fin 4096) : (val_main_v20 (F := Ideal) (ix3 q k 0)).toInt.toNat = (rel q k).val := by
  have e : val_main_v20 (F := Ideal) (ix3 q k 0) = wrapped (val_main_v11 (F := Ideal) (ix2 q k)) := by
    rw [val_main_v20_apply]
    have : idx_main_v20 (ix3 q k 0) = ix2 q k := funext fun a => match a with
      | ⟨0, _⟩ => rfl
      | ⟨1, _⟩ => rfl
    rw [this]
    rfl
  rw [e, diff_at, wrapped_eq ⟨q.val + 4095 - k.val, by omega⟩]
  unfold rel
  simp only
  omega

/-- An element of the gather is the head's bias at the index, read signed and clamped. -/
theorem gather_at {α : Type} (x : S16x257.Idx → α) (idx : IVec S4096x4096x1 32) (h : Fin 16) (q k : Fin 4096) :
    Host.gather gather_S16x257_S4096x4096x1_S16x4096x4096_0_1_n_n_1_2_161 x idx (ix3 h q k)
      = x (ix2 h ⟨min (idx (ix3 q k 0)).toInt.toNat 256, by omega⟩) := by
  unfold Host.gather
  congr 1
  funext a
  refine Fin.ext ?_
  let D := gather_S16x257_S4096x4096x1_S16x4096x4096_0_1_n_n_1_2_161
  show D.start (ix3 h q k) idx a + D.batchCoord (ix3 h q k) a + D.offCoord (ix3 h q k) a = _
  rw [GatherDims.batchCoord_eq_zero _ _ _ List.not_mem_nil]
  match a with
  | ⟨0, _⟩ =>
    have e : D.start (ix3 h q k) idx 0 = 0 := by
      unfold GatherDims.start
      rw [dif_neg (show (0 : Fin 2) ∉ D.startIndexMap from by decide)]
    show D.start (ix3 h q k) idx 0 + 0 + _ = _
    rw [e]
    show 0 + 0 + h.val = h.val
    omega
  | ⟨1, _⟩ =>
    have e : D.offCoord (ix3 h q k) 1 = 0 :=
      GatherDims.offCoord_eq_zero _ _ _ fun hm => ((GatherDims.mem_sKept _ _).mp hm).1 (List.mem_singleton.mpr rfl)
    show D.start (ix3 h q k) idx 1 + 0 + D.offCoord (ix3 h q k) 1 = _
    rw [e]
    unfold GatherDims.start
    rw [dif_pos (show (1 : Fin 2) ∈ D.startIndexMap from List.mem_singleton.mpr rfl)]
    have hs : D.siIdx (ix3 h q k) ⟨List.idxOf (1 : Fin 2) D.startIndexMap,
        List.idxOf_lt_length_iff.2 (List.mem_singleton.mpr rfl)⟩ = ix3 q k 0 := by
      funext b
      refine Fin.ext ?_
      match b with
      | ⟨0, _⟩ => rfl
      | ⟨1, _⟩ => rfl
      | ⟨2, _⟩ => rfl
    rw [hs]
    rfl

theorem bias_at (h : Fin 16) (q k : Fin 4096) : val_main_v21 (F := Ideal) x1 (ix3 h q k) = Br x1 h (rel q k) := by
  unfold val_main_v21 Br
  rw [gather_at]
  refine congrArg (fun n => x1 (ix2 h n)) (Fin.ext ?_)
  show min _ 256 = (rel q k).val
  rw [index_at]
  exact Nat.min_eq_left (by have := (rel q k).isLt; omega)

/-- A word's sign. -/
def sgn (x : BitVec 32) : BitVec 32 := if x = 0 then 0 else if x.msb then -1 else 1
/-- A position's chunk: the quotient by sixty-four rounded down, as a word. -/
def chunk (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

theorem chunk_eq : ∀ x : Fin 4096, chunk (BitVec.ofNat 32 x.val) = BitVec.ofNat 32 (x.val / 64) := by decide +kernel

theorem in_band : ∀ a b : Fin 64, IntOp.andi (IntOp.cmpi .sge (IntOp.subi (BitVec.ofNat 32 a.val) (BitVec.ofNat 32 b.val)) 0#32)
    (IntOp.cmpi .sle (IntOp.subi (BitVec.ofNat 32 a.val) (BitVec.ofNat 32 b.val)) 8#32) = if b.val ≤ a.val ∧ a.val ≤ b.val + 8 then 1#1 else 0#1 := by
  decide +kernel

theorem row_chunk (q : Fin 4096) : val_main_v29 (F := Ideal) (ix2 q 0) = chunk (BitVec.ofNat 32 q.val) := by
  have e : val_main_v28 (F := Ideal) (ix2 q 0) = BitVec.ofNat 32 q.val := by rw [val_main_v28_apply]; rfl
  unfold chunk
  rw [← e]
  rfl
theorem col_chunk (k : Fin 4096) : val_main_v31 (F := Ideal) (ix2 0 k) = chunk (BitVec.ofNat 32 k.val) := by
  have e : val_main_v30 (F := Ideal) (ix2 0 k) = BitVec.ofNat 32 k.val := by rw [val_main_v30_apply]; rfl
  unfold chunk
  rw [← e]
  rfl

theorem mask_at (h : Fin 16) (q k : Fin 4096) : val_main_v40_1 (F := Ideal) (ix3 h q k) = if band q k then 1#1 else 0#1 := by
  have e1 : val_main_v32 (F := Ideal) (ix2 q k) = BitVec.ofNat 32 (q.val / 64) := by
    rw [val_main_v32_apply, ← chunk_eq, ← row_chunk]
    refine congrArg _ (funext fun a => match a with
      | ⟨0, _⟩ => rfl
      | ⟨1, _⟩ => rfl)
  have e2 : val_main_v33 (F := Ideal) (ix2 q k) = BitVec.ofNat 32 (k.val / 64) := by
    rw [val_main_v33_apply, ← chunk_eq, ← col_chunk]
    refine congrArg _ (funext fun a => match a with
      | ⟨0, _⟩ => rfl
      | ⟨1, _⟩ => rfl)
  have e : val_main_v40_1 (F := Ideal) (ix3 h q k) = val_main_v39 (F := Ideal) (ix2 q k) := by
    rw [val_main_v40_1_apply]
    refine congrArg _ (funext fun a => match a with
      | ⟨0, _⟩ => rfl
      | ⟨1, _⟩ => rfl)
  rw [e, val_main_v39_apply, val_main_v36_apply, val_main_v38_apply, val_main_v34_apply, e1, e2]
  exact in_band ⟨q.val / 64, by omega⟩ ⟨k.val / 64, by omega⟩

/-! ## The softmax's parts -/

theorem dot_at (h : Fin 16) (q k : Fin 4096) : val_main_v24 (F := Ideal) x0 (ix3 h q k) = ∑ d, Qr x0 h q d * Kr x0 h k d := by
  rw [val_main_v24_apply]
  refine Finset.sum_congr rfl fun d _ => ?_
  rw [← q_at, ← k_at]
  refine congr (congrArg _ (congrArg _ (funext fun a => ?_))) (congrArg _ (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The factor's value. -/
abbrev scale : EReal := Ideal.ofBits .f32 0x3DB504F3#32

theorem ninf : Ideal.ofBits .f32 0xFF800000#32 = ⊥ := by simp [Ideal.ofBits, Ideal.ieee]

abbrev sc := score (Qr x0) (Kr x0) (Br x1) scale

theorem score_at (h : Fin 16) (q k : Fin 4096) : val_main_v40_0 (F := Ideal) x0 x1 (ix3 h q k) = sc x0 x1 h q k := by
  rw [val_main_v40_0_apply, mask_at, val_main_v27_apply, val_main_v26_apply, dot_at, bias_at]
  unfold sc score
  split
  · rfl
  · exact ninf

/-- A row's maximum. -/
def top (h : Fin 16) (q : Fin 4096) : EReal := Finset.univ.fold max ⊥ (sc x0 x1 h q)

theorem max_at (h : Fin 16) (q : Fin 4096) : val_main_v41 (F := Ideal) x0 x1 (ix2 h q) = top x0 x1 h q := by
  unfold val_main_v41
  simp only [pointwise]
  unfold top
  rw [show (sc x0 x1 h q) = fun k => val_main_v40_0 (F := Ideal) x0 x1 (ix3 h q k) from funext fun k => (score_at x0 x1 h q k).symm]
  rw [show val_main_cst_9 (F := Ideal) (Shape.Idx.first h_S_) = ⊥ from ninf]

end Cert.ReferenceIdeal.Attn

end
-- ==== Proof.RefGrad.lean ====
/- The reference's results: the softmax's gradient as its derivative rule writes it, and the three gradients. -/
module

public import proofs.«01_k».proof.Proof.RefScore

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe Idealize.ShloMosaic.Tactic
open Cert.Banded

variable (x0 : Vec Ideal S4096x20480 .bf16) (x1 : Vec Ideal S16x257 .f32) (x2 : Vec Ideal S4096x2048 .bf16) (x3 : Vec Ideal S4096x20480 .bf16)

/-- The gradient of the attention's output, by head. -/
def Gr (h : Fin 16) (q : Fin 4096) (d : Fin 128) : EReal := x2 (ix2 q ⟨128 * h.val + d.val, by omega⟩)

/-- Two indices of rank three with the same coordinates. -/
theorem ext3 {s : Shape} {n₀ n₁ n₂ : ℕ} (i j : (⟨3, ![n₀, n₁, n₂]⟩ : Shape).Idx) (h0 : (i 0).val = (j 0).val) (h1 : (i 1).val = (j 1).val)
    (h2 : (i 2).val = (j 2).val) : i = j := funext fun a => Fin.ext (match a with
      | ⟨0, _⟩ => h0
      | ⟨1, _⟩ => h1
      | ⟨2, _⟩ => h2)

theorem exp_at (h : Fin 16) (q k : Fin 4096) : val_main_v61 (F := Ideal) x0 x1 (ix3 h q k) = Ideal.exp (sc x0 x1 h q k - top x0 x1 h q) := by
  rw [val_main_v61_apply, val_main_v60_apply, score_at]
  have e : val_main_v59 (F := Ideal) x0 x1 (ix3 h q k) = top x0 x1 h q := by
    rw [val_main_v59_apply, val_main_v58_apply, val_main_v48_apply]
    have : idx_main_v58 (idx_main_v59 (ix3 h q k)) = ix2 h q := funext fun a => match a with
      | ⟨0, _⟩ => rfl
      | ⟨1, _⟩ => rfl
    rw [this, max_at, val_main_v47_apply, val_main_cst_11_apply]
    show max (Ideal.ofBits .f32 0xFF800000#32) (top x0 x1 h q) = _
    rw [ninf]
    exact max_eq_right bot_le
  rw [e]
  rfl

/-- A row's denominator. -/
abbrev den (h : Fin 16) (q : Fin 4096) : EReal := ∑ k, Ideal.exp (sc x0 x1 h q k - top x0 x1 h q)

theorem den_at (h : Fin 16) (q : Fin 4096) : val_main_v63 (F := Ideal) x0 x1 (ix3 h q 0) = den x0 x1 h q := by
  rw [val_main_v63_apply]
  have : idx_main_v63 (ix3 h q 0) = ix2 h q := funext fun a => match a with
    | ⟨0, _⟩ => rfl
    | ⟨1, _⟩ => rfl
  rw [this, val_main_v62_apply, val_main_cst_17_apply]
  show Ideal.ofBits .f32 0x00000000#32 + _ = _
  rw [Ideal.ofBits_zero_f32, zero_add]
  refine Finset.sum_congr rfl fun k _ => ?_
  rw [← exp_at]
  refine congrArg _ (funext fun a => match a with
    | ⟨0, _⟩ => rfl
    | ⟨1, _⟩ => rfl
    | ⟨2, _⟩ => rfl)

theorem prob_at (h : Fin 16) (q k : Fin 4096) : val_main_v65 (F := Ideal) x0 x1 (ix3 h q k)
    = Ideal.div (Ideal.exp (sc x0 x1 h q k - top x0 x1 h q)) (den x0 x1 h q) := by
  rw [val_main_v65_apply, exp_at, val_main_v64_apply]
  have : idx_main_v64 (ix3 h q k) = ix3 h q 0 := funext fun a => match a with
    | ⟨0, _⟩ => rfl
    | ⟨1, _⟩ => rfl
    | ⟨2, _⟩ => rfl
  rw [this, den_at]
  rfl

theorem g_at (h : Fin 16) (d : Fin 128) (q : Fin 4096) : val_main_v75 (F := Ideal) x2 (ix3 h d q) = Gr x2 h q d := by
  rw [val_main_v75_apply, val_main_v74_apply, val_main_v73_apply]
  refine congrArg x2 (funext fun a => Fin.ext ?_)
  match a with
  | ⟨0, _⟩ => show ((q.val * 16 + h.val) * 128 + d.val) / 2048 = q.val; omega
  | ⟨1, _⟩ => show ((q.val * 16 + h.val) * 128 + d.val) % 2048 = 128 * h.val + d.val; omega

theorem dp_at (h : Fin 16) (q k : Fin 4096) : val_main_v76 (F := Ideal) x0 x2 (ix3 h q k) = dP (Vr x0) (Gr x2) h q k := by
  rw [val_main_v76_apply]
  unfold dP
  refine Finset.sum_congr rfl fun d _ => ?_
  rw [← g_at, ← v_at]
  refine congr (congrArg _ (congrArg _ (funext fun a => ?_))) (congrArg _ (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The softmax's gradient before the mask, as the derivative of the quotient by parts. -/
theorem raw_at (h : Fin 16) (q k : Fin 4096) : val_main_v91 (F := Ideal) x0 x1 x2 (ix3 h q k)
    = (Ideal.div (dP (Vr x0) (Gr x2) h q k) (den x0 x1 h q)
      + -(∑ k', dP (Vr x0) (Gr x2) h q k' * Ideal.div 1 (den x0 x1 h q * den x0 x1 h q) * Ideal.exp (sc x0 x1 h q k' - top x0 x1 h q)))
      * Ideal.exp (sc x0 x1 h q k - top x0 x1 h q) := by
  rw [val_main_v91_apply, val_main_v90_apply, val_main_v87_apply, exp_at, dp_at]
  have e1 : val_main_v86 (F := Ideal) x0 x1 (ix3 h q k) = den x0 x1 h q := by
    rw [val_main_v86_apply, ← den_at]
    refine congrArg _ (funext fun a => match a with
      | ⟨0, _⟩ => rfl
      | ⟨1, _⟩ => rfl
      | ⟨2, _⟩ => rfl)
  have e2 : ∀ k' : Fin 4096, val_main_v82 (F := Ideal) x0 x1 x2 (ix3 h q k') = dP (Vr x0) (Gr x2) h q k'
      * Ideal.div 1 (den x0 x1 h q * den x0 x1 h q) * Ideal.exp (sc x0 x1 h q k' - top x0 x1 h q) := by
    intro k'
    rw [val_main_v82_apply, val_main_v81_apply, exp_at, dp_at, val_main_v80_apply]
    have : idx_main_v80 (ix3 h q k') = ix3 h q 0 := funext fun a => match a with
      | ⟨0, _⟩ => rfl
      | ⟨1, _⟩ => rfl
      | ⟨2, _⟩ => rfl
    rw [this, val_main_v68_apply, val_main_v66_apply, den_at, val_main_v67_apply, val_main_cst_18_apply]
    show dP (Vr x0) (Gr x2) h q k' * Ideal.div (Ideal.ofBits .f32 0x3F800000#32) (den x0 x1 h q * den x0 x1 h q) * _ = _
    rw [Ideal.ofBits_one_f32]
  have e3 : val_main_v83 (F := Ideal) x0 x1 x2 (ix2 h q) = ∑ k', dP (Vr x0) (Gr x2) h q k'
      * Ideal.div 1 (den x0 x1 h q * den x0 x1 h q) * Ideal.exp (sc x0 x1 h q k' - top x0 x1 h q) := by
    rw [val_main_v83_apply, val_main_cst_19_apply]
    show Ideal.ofBits .f32 0x00000000#32 + _ = _
    rw [Ideal.ofBits_zero_f32, zero_add]
    refine Finset.sum_congr rfl fun k' _ => ?_
    rw [← e2]
    refine congrArg _ (funext fun a => match a with
      | ⟨0, _⟩ => rfl
      | ⟨1, _⟩ => rfl
      | ⟨2, _⟩ => rfl)
  have e4 : val_main_v89 (F := Ideal) x0 x1 x2 (ix3 h q k) = -val_main_v83 (F := Ideal) x0 x1 x2 (ix2 h q) := by
    rw [val_main_v89_apply, val_main_v88_apply, val_main_cst_20_apply]
    show Ideal.ofBits .f32 0x00000000#32 + _ = _
    rw [Ideal.ofBits_zero_f32, zero_add, Fin.sum_univ_one, val_main_v85_apply, val_main_v84_apply]
    show -val_main_v83 (F := Ideal) x0 x1 x2 _ = _
    refine congrArg (fun i => -val_main_v83 (F := Ideal) x0 x1 x2 i) (funext fun a => Fin.ext ?_)
    match a with
    | ⟨0, _⟩ => show ((h.val * 4096 + q.val) * 1 + 0) / 4096 = h.val; omega
    | ⟨1, _⟩ => show ((h.val * 4096 + q.val) * 1 + 0) % 4096 = q.val; omega
  rw [e1, e4, e3]
  rfl

variable (R : Real' (Qr x0) (Kr x0) (Br x1) scale)

include R in
theorem top_real (h : Fin 16) (q : Fin 4096) : ∃ M : ℝ, top x0 x1 h q = M :=
  max_real _ (fun k => R.score_ne_top h q k) ⟨q, by
    obtain ⟨r, hr⟩ := R.score h (band_self q)
    show score (Qr x0) (Kr x0) (Br x1) scale h q q ≠ ⊥
    rw [hr]; exact EReal.coe_ne_bot r⟩

include R in
theorem some_score (h : Fin 16) (q : Fin 4096) : ∃ k, sc x0 x1 h q k ≠ ⊥ := ⟨q, by
  obtain ⟨r, hr⟩ := R.score h (band_self q)
  show score (Qr x0) (Kr x0) (Br x1) scale h q q ≠ ⊥
  rw [hr]; exact EReal.coe_ne_bot r⟩

include R in
theorem P_at (h : Fin 16) (q k : Fin 4096) : val_main_v65 (F := Ideal) x0 x1 (ix3 h q k) = P (Qr x0) (Kr x0) (Br x1) scale h q k := by
  rw [prob_at]
  obtain ⟨M, hM⟩ := top_real x0 x1 R h q
  unfold den
  rw [hM]
  exact soft (sc x0 x1 h q) (fun k => R.score_ne_top h q k) (some_score x0 x1 R h q) M k

abbrev dSr := dS (Qr x0) (Kr x0) (Vr x0) (Gr x2) (Br x1) scale

include R in
theorem ds_at (h : Fin 16) (q k : Fin 4096) : val_main_v92 (F := Ideal) x0 x1 x2 (ix3 h q k) = dSr x0 x1 x2 h q k := by
  rw [val_main_v92_apply, mask_at]
  by_cases hb : band q k
  · rw [if_pos hb]
    show val_main_v91 (F := Ideal) x0 x1 x2 (ix3 h q k) = _
    rw [raw_at]
    obtain ⟨M, hM⟩ := top_real x0 x1 R h q
    unfold den
    rw [hM]
    exact grad (sc x0 x1 h q) (fun k => R.score_ne_top h q k) (some_score x0 x1 R h q) M (dP (Vr x0) (Gr x2) h q) k
  · rw [if_neg hb]
    show val_main_call4_v0 (F := Ideal) (ix3 h q k) = _
    rw [val_main_call4_v0_apply, val_main_call4_cst_apply]
    show Ideal.ofBits .f32 0x00000000#32 = _
    rw [Ideal.ofBits_zero_f32]
    exact (dS_off (Qr x0) (Kr x0) (Vr x0) (Gr x2) (Br x1) scale h hb).symm

include R in
theorem dss_at (h : Fin 16) (q k : Fin 4096) : val_main_v94 (F := Ideal) x0 x1 x2 (ix3 h q k) = dSr x0 x1 x2 h q k * scale := by
  rw [val_main_v94_apply, ds_at x0 x1 x2 R]
  rfl

include R in
/-- The factor goes out of a sum. -/
theorem out_of_sum {n : ℕ} (f g : Fin n → EReal) : ∑ i, f i * scale * g i = (∑ i, f i * g i) * scale := by
  obtain ⟨r, hr, e⟩ := R.c
  rw [e, sum_mul_coe _ _ hr]
  exact Finset.sum_congr rfl fun i _ => mul_right_comm _ _ _

include R in
/-- The keys' gradient, -/
theorem dK_at (j : S4096x2048.Idx) (h : Fin 16) (k : Fin 4096) (d : Fin 128) (h0 : (j 0).val = k.val) (h1 : (j 1).val = 128 * h.val + d.val) :
    val_main_v103 (F := Ideal) x0 x1 x2 j = dK (Qr x0) (Kr x0) (Vr x0) (Gr x2) (Br x1) scale h k d := by
  rw [val_main_v103_apply]
  show val_main_v99 (F := Ideal) x0 x1 x2 j = _
  rw [val_main_v99_apply, val_main_v96_apply]
  have e : idx_main_v96 (idx_main_v99 j) = ix3 h k d := funext fun a => Fin.ext (match a with
    | ⟨0, _⟩ => by show ((j 0).val * 2048 + (j 1).val) / 128 % 16 = h.val; omega
    | ⟨1, _⟩ => by show ((j 0).val * 2048 + (j 1).val) / 2048 = k.val; omega
    | ⟨2, _⟩ => by show ((j 0).val * 2048 + (j 1).val) % 128 = d.val; omega)
  rw [e, val_main_v95_apply]
  unfold dK
  rw [← out_of_sum x0 x1 R]
  refine Finset.sum_congr rfl fun q _ => ?_
  rw [← q_at, ← dss_at x0 x1 x2 R]
  refine congr (congrArg _ (congrArg _ (funext fun a => ?_))) (congrArg _ (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

include R in
/-- the values' -/
theorem dV_at (j : S4096x2048.Idx) (h : Fin 16) (k : Fin 4096) (d : Fin 128) (h0 : (j 0).val = k.val) (h1 : (j 1).val = 128 * h.val + d.val) :
    val_main_v104 (F := Ideal) x0 x1 x2 j = dV (Qr x0) (Kr x0) (Gr x2) (Br x1) scale h k d := by
  rw [val_main_v104_apply]
  show val_main_v79 (F := Ideal) x0 x1 x2 j = _
  rw [val_main_v79_apply, val_main_v78_apply]
  have e : idx_main_v78 (idx_main_v79 j) = ix3 h d k := funext fun a => Fin.ext (match a with
    | ⟨0, _⟩ => by show ((j 0).val * 2048 + (j 1).val) / 128 % 16 = h.val; omega
    | ⟨1, _⟩ => by show ((j 0).val * 2048 + (j 1).val) % 128 = d.val; omega
    | ⟨2, _⟩ => by show ((j 0).val * 2048 + (j 1).val) / 2048 = k.val; omega)
  rw [e, val_main_v77_apply]
  unfold dV
  refine Finset.sum_congr rfl fun q _ => ?_
  rw [← g_at, ← P_at x0 x1 R, mul_comm]
  refine congr (congrArg _ (congrArg _ (funext fun a => ?_))) (congrArg _ (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

include R in
/-- and the queries', -/
theorem dQ_at (j : S4096x2048.Idx) (h : Fin 16) (q : Fin 4096) (d : Fin 128) (h0 : (j 0).val = q.val) (h1 : (j 1).val = 128 * h.val + d.val) :
    val_main_v101 (F := Ideal) x0 x1 x2 j = dQ (Qr x0) (Kr x0) (Vr x0) (Gr x2) (Br x1) scale h q d := by
  rw [val_main_v101_apply]
  show val_main_v100 (F := Ideal) x0 x1 x2 j = _
  rw [val_main_v100_apply, val_main_v98_apply]
  have e : idx_main_v98 (idx_main_v100 j) = ix3 h q d := funext fun a => Fin.ext (match a with
    | ⟨0, _⟩ => by show ((j 0).val * 2048 + (j 1).val) / 128 % 16 = h.val; omega
    | ⟨1, _⟩ => by show ((j 0).val * 2048 + (j 1).val) / 2048 = q.val; omega
    | ⟨2, _⟩ => by show ((j 0).val * 2048 + (j 1).val) % 128 = d.val; omega)
  rw [e, val_main_v97_apply]
  unfold dQ
  rw [← out_of_sum x0 x1 R]
  refine Finset.sum_congr rfl fun k _ => ?_
  rw [← k_at, ← dss_at x0 x1 x2 R]
  refine congr (congrArg _ (congrArg _ (funext fun a => ?_))) (congrArg _ (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

include R in
/-- which is put over the first columns of the array given. -/
theorem dproj_at (j : S4096x20480.Idx) (h : Fin 16) (q : Fin 4096) (d : Fin 128) (h0 : (j 0).val = q.val) (h1 : (j 1).val = 128 * h.val + d.val) :
    val_main_v102 (F := Ideal) x0 x1 x2 x3 j = dQ (Qr x0) (Kr x0) (Vr x0) (Gr x2) (Br x1) scale h q d := by
  unfold val_main_v102
  rw [Host.dynamicUpdateSlice_apply, dif_pos]
  · exact dQ_at x0 x1 x2 R _ h q d h0 h1
  · intro a
    match a with
    | ⟨0, _⟩ => exact ⟨Nat.zero_le _, by show (j 0).val < 0 + 4096; omega⟩
    | ⟨1, _⟩ => exact ⟨Nat.zero_le _, by show (j 1).val < 0 + 2048; omega⟩

theorem dproj_rest (j : S4096x20480.Idx) (hj : ¬ (j 1).val < 2048) : val_main_v102 (F := Ideal) x0 x1 x2 x3 j = x3 j := by
  unfold val_main_v102
  rw [Host.dynamicUpdateSlice_apply, dif_neg]
  intro hin
  have : (j 1).val < 0 + 2048 := (hin 1).2
  omega

end Cert.ReferenceIdeal.Attn

end
-- ==== Proof.lean ====
module

public import proofs.«01_k».proof.Proof.Dw.Lo
public import proofs.«01_k».proof.Proof.Dw.Hi
public import proofs.«01_k».proof.Proof.Dh.Rest
public import proofs.«01_k».proof.Proof.Dh.Head
public import proofs.«01_k».proof.Proof.DwOut.Merged
public import proofs.«01_k».proof.Proof.DwOut.Attn
public import proofs.«01_k».proof.Proof.DwOut.Pool
public import proofs.«01_k».proof.Proof.Proj.Round0
public import proofs.«01_k».proof.Proof.Proj.Round1
public import proofs.«01_k».proof.Proof.Proj.Round2
public import proofs.«01_k».proof.Proof.Proj.Round3
public import proofs.«01_k».proof.Proof.Proj.Round4
public import proofs.«01_k».proof.Proof.Fwd.OutProj
public import proofs.«01_k».proof.Proof.Fwd.Merge
public import proofs.«01_k».proof.Proof.Gate.Gate
public import proofs.«01_k».proof.Proof.Gate.Attn
public import proofs.«01_k».proof.Proof.Gate.Pool
public import proofs.«01_k».proof.Proof.Fwd.RmsFwd
public import proofs.«01_k».proof.Proof.Adam.Out
public import proofs.«01_k».proof.Proof.Adam.Attn
public import proofs.«01_k».proof.Proof.Adam.Pool
public import proofs.«01_k».proof.Proof.Adam.PoolW
public import proofs.«01_k».proof.Proof.Adam.GateBias
public import proofs.«01_k».proof.Proof.Adam.In
public import proofs.«01_k».proof.Proof.Fwd.Bias
public import proofs.«01_k».proof.Defs
public import proofs.«01_k».proof.Proof.Printed
public import proofs.«01_k».proof.Proof.Finite
public import proofs.«01_k».proof.Proof.RefGrad
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.QuiescentFlight
public import Idealize.ShloMosaic.Init

@[expose] public section

set_option maxRecDepth 16384

noncomputable section

namespace Cert.Proof

open Idealize.ShloMosaic Idealize.ShloMosaic.TcCoe Idealize.SL.Sem

/-- The kernel's run with its results named. -/
theorem kernel_run (m : (ℓ : Loc Cert.KernelIdeal.nD Cert.KernelIdeal.τ Cert.KernelIdeal.sig) → Buf (Elt Ideal) ℓ)
    (g : Dev Cert.KernelIdeal.nD → PrngReg) (hpre : Cert.Pre_KernelIdeal_finite m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v19_0) = Cert.KernelIdeal.Attn.arrQ m c
        ∧ r.2.mem ((c.tc : Thread Cert.KernelIdeal.nD Cert.KernelIdeal.τ).loc Cert.KernelIdeal.main_v19_1) = Cert.KernelIdeal.Attn.arrK m c
        ∧ r.2.mem ((c.tc : Thread Cert.KernelIdeal.nD Cert.KernelIdeal.τ).loc Cert.KernelIdeal.main_v19_2) = Cert.KernelIdeal.Attn.arrV m c) :=
  (θ_run _ _ _).mono (fun _ h c =>
    have R := Cert.KernelIdeal.Attn.real_of_pre m c (hpre c)
    ⟨((h c).1 7).trans (Cert.KernelIdeal.Attn.final_7 m c R), ((h c).1 8).trans (Cert.KernelIdeal.Attn.final_8 m c R),
      ((h c).1 9).trans (Cert.KernelIdeal.Attn.final_9 m c R)⟩) (Cert.KernelIdeal.Attn.run_main m g)

theorem frame_RI (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m g)

/-- A column's head and its place in the head. -/
def hd' (j : Cert.KernelIdeal.S4096x2048.Idx) : Fin 16 := ⟨(j 1).val / 128, by have : (j 1).val < 2048 := (j 1).isLt; omega⟩
def ln (j : Cert.KernelIdeal.S4096x2048.Idx) : Fin 128 := ⟨(j 1).val % 128, by omega⟩
theorem col (j : Cert.KernelIdeal.S4096x2048.Idx) : (j 1).val = 128 * (hd' j).val + (ln j).val := by
  show (j 1).val = 128 * ((j 1).val / 128) + (j 1).val % 128
  omega

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hpre : Cert.Pre_KernelIdeal_finite m)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
include hpre h0 h1 h2

theorem dk_eq : Cert.ReferenceIdeal.Value.res_main_v103 (F := Ideal) m' c = Cert.KernelIdeal.Attn.arrK m c := by
  rw [Cert.ReferenceIdeal.Read.val_main_v103_eq, h0, h1, h2]
  funext j
  exact (Cert.ReferenceIdeal.Attn.dK_at _ _ _ (Cert.KernelIdeal.Attn.real_of_pre m c (hpre c)) j (hd' j) (j 0) (ln j) rfl (col j)).trans
    (Cert.KernelIdeal.Attn.arrK_at m c j (hd' j) (ln j) (j 0) rfl (col j)).symm

theorem dv_eq : Cert.ReferenceIdeal.Value.res_main_v104 (F := Ideal) m' c = Cert.KernelIdeal.Attn.arrV m c := by
  rw [Cert.ReferenceIdeal.Read.val_main_v104_eq, h0, h1, h2]
  funext j
  exact (Cert.ReferenceIdeal.Attn.dV_at _ _ _ (Cert.KernelIdeal.Attn.real_of_pre m c (hpre c)) j (hd' j) (j 0) (ln j) rfl (col j)).trans
    (Cert.KernelIdeal.Attn.arrV_at m c j (hd' j) (ln j) (j 0) rfl (col j)).symm

include h3 in
theorem dproj_eq : Cert.ReferenceIdeal.Value.res_main_v102 (F := Ideal) m' c = Cert.KernelIdeal.Attn.arrQ m c := by
  rw [Cert.ReferenceIdeal.Read.val_main_v102_eq, h0, h1, h2, h3]
  funext j
  by_cases hj : (j 1).val < 2048
  · have e : (j 1).val = 128 * ((j 1).val / 128) + (j 1).val % 128 := by omega
    exact (Cert.ReferenceIdeal.Attn.dproj_at _ _ _ _ (Cert.KernelIdeal.Attn.real_of_pre m c (hpre c)) j
        ⟨(j 1).val / 128, by omega⟩ (j 0) ⟨(j 1).val % 128, by omega⟩ rfl e).trans
      (Cert.KernelIdeal.Attn.arrQ_at m c j ⟨(j 1).val / 128, by omega⟩ ⟨(j 1).val % 128, by omega⟩ (j 0) rfl e).symm
  · exact (Cert.ReferenceIdeal.Attn.dproj_rest _ _ _ _ j hj).trans (Cert.KernelIdeal.Attn.arrQ_rest m c j hj).symm
end

theorem algebraic : Cert.algebraic_KernelIdeal_ReferenceIdeal_pre_finite := by
  intro m g m' g' hpre hagree
  refine ⟨Cert.KernelIdeal.Attn.arrQ m, Cert.KernelIdeal.Attn.arrK m, Cert.KernelIdeal.Attn.arrV m, ?_, ?_⟩
  · exact (θ_run _ _ _).mono (fun _ h c => ⟨(h.1 c).1, (h.1 c).2.1, (h.1 c).2.2, h.2.1 c⟩)
      (θ_run_and (kernel_run m g hpre) (Cert.KernelIdeal.Attn.frame (F := Ideal) m g))
  · refine (θ_run _ _ _).mono (fun _ h c => ?_) (Cert.ReferenceIdeal.Value.run (F := Ideal) m' g')
    obtain ⟨a0, a1, a2, a3⟩ := hagree c
    exact ⟨(h c).1.trans (dproj_eq m m' c hpre a0 a1 a2 a3), (h c).2.1.trans (dk_eq m m' c hpre a0 a1 a2),
      (h c).2.2.1.trans (dv_eq m m' c hpre a0 a1 a2), (h c).2.2.2⟩

theorem claim : Cert.Claim :=
  ⟨Cert.Kernel.Gen.facts, Cert.KernelIdeal.Gen.facts, Cert.ReferenceIdeal.Gen.facts,
    Cert.KernelDwLo.Gen.facts, Cert.KernelDwLoIdeal.Gen.facts, Cert.ReferenceDwLoIdeal.Gen.facts,
    Cert.KernelDwHi.Gen.facts, Cert.KernelDwHiIdeal.Gen.facts, Cert.ReferenceDwHiIdeal.Gen.facts,
    Cert.KernelDhRest.Gen.facts, Cert.KernelDhRestIdeal.Gen.facts, Cert.ReferenceDhRestIdeal.Gen.facts,
    Cert.KernelDhHead.Gen.facts, Cert.KernelDhHeadIdeal.Gen.facts, Cert.ReferenceDhHeadIdeal.Gen.facts,
    Cert.KernelDwOut.Gen.facts, Cert.KernelDwOutIdeal.Gen.facts, Cert.ReferenceDwOutIdeal.Gen.facts,
    Cert.KernelDwOutAttn.Gen.facts, Cert.KernelDwOutAttnIdeal.Gen.facts, Cert.ReferenceDwOutAttnIdeal.Gen.facts,
    Cert.KernelDwOutPool.Gen.facts, Cert.KernelDwOutPoolIdeal.Gen.facts, Cert.ReferenceDwOutPoolIdeal.Gen.facts,
    Cert.KernelProj0.Gen.facts, Cert.KernelProj0Ideal.Gen.facts, Cert.ReferenceProj0Ideal.Gen.facts,
    Cert.KernelProj1.Gen.facts, Cert.KernelProj1Ideal.Gen.facts, Cert.ReferenceProj1Ideal.Gen.facts,
    Cert.KernelProj2.Gen.facts, Cert.KernelProj2Ideal.Gen.facts, Cert.ReferenceProj2Ideal.Gen.facts,
    Cert.KernelProj3.Gen.facts, Cert.KernelProj3Ideal.Gen.facts, Cert.ReferenceProj3Ideal.Gen.facts,
    Cert.KernelProj4.Gen.facts, Cert.KernelProj4Ideal.Gen.facts, Cert.ReferenceProj4Ideal.Gen.facts,
    Cert.KernelOutProj.Gen.facts, Cert.KernelOutProjIdeal.Gen.facts, Cert.ReferenceOutProjIdeal.Gen.facts,
    Cert.KernelMerge.Gen.facts, Cert.KernelMergeIdeal.Gen.facts, Cert.ReferenceMergeIdeal.Gen.facts,
    Cert.KernelGate.Gen.facts, Cert.KernelGateIdeal.Gen.facts, Cert.ReferenceGateIdeal.Gen.facts,
    Cert.KernelAttnGate.Gen.facts, Cert.KernelAttnGateIdeal.Gen.facts, Cert.ReferenceAttnGateIdeal.Gen.facts,
    Cert.KernelPoolGate.Gen.facts, Cert.KernelPoolGateIdeal.Gen.facts, Cert.ReferencePoolGateIdeal.Gen.facts,
    Cert.KernelRmsFwd.Gen.facts, Cert.KernelRmsFwdIdeal.Gen.facts, Cert.ReferenceRmsFwdIdeal.Gen.facts,
    Cert.KernelAdamOut.Gen.facts, Cert.KernelAdamOutIdeal.Gen.facts, Cert.ReferenceAdamOutIdeal.Gen.facts,
    Cert.KernelAdamOutAttn.Gen.facts, Cert.KernelAdamOutAttnIdeal.Gen.facts, Cert.ReferenceAdamOutAttnIdeal.Gen.facts,
    Cert.KernelAdamOutPool.Gen.facts, Cert.KernelAdamOutPoolIdeal.Gen.facts, Cert.ReferenceAdamOutPoolIdeal.Gen.facts,
    Cert.KernelAdamPoolW.Gen.facts, Cert.KernelAdamPoolWIdeal.Gen.facts, Cert.ReferenceAdamPoolWIdeal.Gen.facts,
    Cert.KernelAdamGateBias.Gen.facts, Cert.KernelAdamGateBiasIdeal.Gen.facts, Cert.ReferenceAdamGateBiasIdeal.Gen.facts,
    Cert.KernelAdamIn.Gen.facts, Cert.KernelAdamInIdeal.Gen.facts, Cert.ReferenceAdamInIdeal.Gen.facts,
    Cert.KernelBiasRows.Gen.facts, Cert.KernelBiasRowsIdeal.Gen.facts, Cert.ReferenceBiasRowsIdeal.Gen.facts, Cert.Pre_finite.facts, Cert.Pre_finite_attn_gate.facts, Cert.Pre_finite_pool_gate.facts,
    Cert.Kernel.Attn.frame,
    fun m g _ => Cert.KernelIdeal.Attn.frame (F := Ideal) m g, fun m g _ => Cert.KernelIdeal.Attn.frame (F := Ideal) m g,
    fun m g _ => frame_RI m g, fun m g _ => frame_RI m g,
    fun m g _ => Cert.KernelDwLo.Gen.frame (F := Bits) m g, fun m g _ => Cert.KernelDwLoIdeal.Gen.frame (F := Ideal) m g, Cert.Proof.DwLo.frame_R,
    fun m g _ => Cert.KernelDwHi.Gen.frame (F := Bits) m g, fun m g _ => Cert.KernelDwHiIdeal.Gen.frame (F := Ideal) m g, Cert.Proof.DwHi.frame_R,
    fun m g _ => Cert.KernelDhRest.Gen.frame (F := Bits) m g, fun m g _ => Cert.KernelDhRestIdeal.Gen.frame (F := Ideal) m g, Cert.Proof.DhRest.frame_R,
    fun m g _ => Cert.KernelDhHead.Gen.frame (F := Bits) m g, fun m g _ => Cert.KernelDhHeadIdeal.Gen.frame (F := Ideal) m g, Cert.Proof.DhHead.frame_R,
    fun m g _ => Cert.KernelDwOut.Gen.frame (F := Bits) m g, fun m g _ => Cert.KernelDwOutIdeal.Gen.frame (F := Ideal) m g, Cert.Proof.DwOut.frame_R,
    fun m g _ => Cert.KernelDwOutAttn.Gen.frame (F := Bits) m g, fun m g _ => Cert.KernelDwOutAttnIdeal.Gen.frame (F := Ideal) m g, Cert.Proof.DwOutAttn.frame_R,
    fun m g _ => Cert.KernelDwOutPool.Gen.frame (F := Bits) m g, fun m g _ => Cert.KernelDwOutPoolIdeal.Gen.frame (F := Ideal) m g, Cert.Proof.DwOutPool.frame_R,
    fun m g _ => Cert.KernelProj0.Gen.frame (F := Bits) m g, fun m g _ => Cert.KernelProj0Ideal.Gen.frame (F := Ideal) m g, Cert.Proof.Proj0.frame_R,
    fun m g _ => Cert.KernelProj1.Gen.frame (F := Bits) m g, fun m g _ => Cert.KernelProj1Ideal.Gen.frame (F := Ideal) m g, Cert.Proof.Proj1.frame_R,
    fun m g _ => Cert.KernelProj2.Gen.frame (F := Bits) m g, fun m g _ => Cert.KernelProj2Ideal.Gen.frame (F := Ideal) m g, Cert.Proof.Proj2.frame_R,
    fun m g _ => Cert.KernelProj3.Gen.frame (F := Bits) m g, fun m g _ => Cert.KernelProj3Ideal.Gen.frame (F := Ideal) m g, Cert.Proof.Proj3.frame_R,
    fun m g _ => Cert.KernelProj4.Gen.frame (F := Bits) m g, fun m g _ => Cert.KernelProj4Ideal.Gen.frame (F := Ideal) m g, Cert.Proof.Proj4.frame_R,
    fun m g _ => Cert.KernelOutProj.Gen.frame (F := Bits) m g, fun m g _ => Cert.KernelOutProjIdeal.Gen.frame (F := Ideal) m g, Cert.Proof.OutProj.frame_R,
    fun m g _ => Cert.KernelMerge.Gen.frame (F := Bits) m g, fun m g _ => Cert.KernelMergeIdeal.Gen.frame (F := Ideal) m g, Cert.Proof.Merge.frame_R,
    fun m g _ => Cert.KernelGate.Gen.frame (F := Bits) m g, fun m g _ => Cert.KernelGateIdeal.Gen.frame (F := Ideal) m g, Cert.Proof.Gate.frame_R,
    fun m g _ => Cert.KernelAttnGate.Gen.frame (F := Bits) m g, fun m g _ => Cert.KernelAttnGateIdeal.Gen.frame (F := Ideal) m g,
    fun m g _ => Cert.KernelAttnGateIdeal.Gen.frame (F := Ideal) m g,
    Cert.Proof.AttnGate.frame_R, fun m g _ => Cert.Proof.AttnGate.frame_R m g trivial,
    fun m g _ => Cert.KernelPoolGate.Gen.frame (F := Bits) m g, fun m g _ => Cert.KernelPoolGateIdeal.Gen.frame (F := Ideal) m g,
    fun m g _ => Cert.KernelPoolGateIdeal.Gen.frame (F := Ideal) m g,
    Cert.Proof.PoolGate.frame_R, fun m g _ => Cert.Proof.PoolGate.frame_R m g trivial,
    fun m g _ => Cert.KernelRmsFwd.Gen.frame (F := Bits) m g, fun m g _ => Cert.KernelRmsFwdIdeal.Gen.frame (F := Ideal) m g, Cert.Proof.RmsFwd.frame_R,
    fun m g _ => Cert.KernelAdamOut.Gen.frame (F := Bits) m g, fun m g _ => Cert.KernelAdamOutIdeal.Gen.frame (F := Ideal) m g, Cert.Proof.AdamOut.frame_R,
    fun m g _ => Cert.KernelAdamOutAttn.Gen.frame (F := Bits) m g, fun m g _ => Cert.KernelAdamOutAttnIdeal.Gen.frame (F := Ideal) m g, Cert.Proof.AdamOutAttn.frame_R,
    fun m g _ => Cert.KernelAdamOutPool.Gen.frame (F := Bits) m g, fun m g _ => Cert.KernelAdamOutPoolIdeal.Gen.frame (F := Ideal) m g, Cert.Proof.AdamOutPool.frame_R,
    fun m g _ => Cert.KernelAdamPoolW.Gen.frame (F := Bits) m g, fun m g _ => Cert.KernelAdamPoolWIdeal.Gen.frame (F := Ideal) m g, Cert.Proof.AdamPoolW.frame_R,
    fun m g _ => Cert.KernelAdamGateBias.Gen.frame (F := Bits) m g, fun m g _ => Cert.KernelAdamGateBiasIdeal.Gen.frame (F := Ideal) m g, Cert.Proof.AdamGateBias.frame_R,
    fun m g _ => Cert.KernelAdamIn.Gen.frame (F := Bits) m g, fun m g _ => Cert.KernelAdamInIdeal.Gen.frame (F := Ideal) m g, Cert.Proof.AdamIn.frame_R,
    fun m g _ => Cert.KernelBiasRows.Gen.frame (F := Bits) m g, fun m g _ => Cert.KernelBiasRowsIdeal.Gen.frame (F := Ideal) m g, Cert.Proof.BiasRows.frame_R,
    IdealRules.named_const.statement Cert.KernelIdeal.κ "mask" .f32 0xF149F2CA#32 ⊥ rfl,
    algebraic,
    trivial, Cert.Proof.DwLo.algebraic,
    trivial, Cert.Proof.DwHi.algebraic,
    trivial, Cert.Proof.DhRest.algebraic,
    trivial, Cert.Proof.DhHead.algebraic,
    trivial, Cert.Proof.DwOut.algebraic,
    trivial, Cert.Proof.DwOutAttn.algebraic,
    trivial, Cert.Proof.DwOutPool.algebraic,
    trivial, Cert.Proof.Proj0.algebraic,
    trivial, Cert.Proof.Proj1.algebraic,
    trivial, Cert.Proof.Proj2.algebraic,
    trivial, Cert.Proof.Proj3.algebraic,
    trivial, Cert.Proof.Proj4.algebraic,
    trivial, Cert.Proof.OutProj.algebraic,
    trivial, Cert.Proof.Merge.algebraic,
    trivial, Cert.Proof.Gate.algebraic,
    trivial, Cert.Proof.AttnGate.algebraic,
    trivial, Cert.Proof.PoolGate.algebraic,
    trivial, Cert.Proof.RmsFwd.algebraic,
    trivial, Cert.Proof.AdamOut.algebraic,
    trivial, Cert.Proof.AdamOutAttn.algebraic,
    trivial, Cert.Proof.AdamOutPool.algebraic,
    trivial, Cert.Proof.AdamPoolW.algebraic,
    trivial, Cert.Proof.AdamGateBias.algebraic,
    trivial, Cert.Proof.AdamIn.algebraic,
    trivial, Cert.Proof.BiasRows.algebraic⟩

end Cert.Proof

end
